-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_bounds [hPre_finite_bounds : Cert.Pre_finite_bounds.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_bounds.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7)) (m ((c.tc : Thread Cert.Kernel27Ideal.nD Cert.Kernel27Ideal.τ).loc Cert.Kernel27Ideal.main_arg8)) (m ((c.tc : Thread Cert.Kernel27Ideal.nD Cert.Kernel27Ideal.τ).loc Cert.Kernel27Ideal.main_arg9)) (m ((c.tc : Thread Cert.Kernel27Ideal.nD Cert.Kernel27Ideal.τ).loc Cert.Kernel27Ideal.main_arg10)) (m ((c.tc : Thread Cert.Kernel27Ideal.nD Cert.Kernel27Ideal.τ).loc Cert.Kernel27Ideal.main_arg11)) (m ((c.tc : Thread Cert.Kernel27Ideal.nD Cert.Kernel27Ideal.τ).loc Cert.Kernel27Ideal.main_arg12)) (m ((c.tc : Thread Cert.Kernel27Ideal.nD Cert.Kernel27Ideal.τ).loc Cert.Kernel27Ideal.main_arg13)) (m ((c.tc : Thread Cert.Kernel27Ideal.nD Cert.Kernel27Ideal.τ).loc Cert.Kernel27Ideal.main_arg14)) (m ((c.tc : Thread Cert.Kernel27Ideal.nD Cert.Kernel27Ideal.τ).loc Cert.Kernel27Ideal.main_arg15)) (m ((c.tc : Thread Cert.Kernel27Ideal.nD Cert.Kernel27Ideal.τ).loc Cert.Kernel27Ideal.main_arg16)) (m ((c.tc : Thread Cert.Kernel27Ideal.nD Cert.Kernel27Ideal.τ).loc Cert.Kernel27Ideal.main_arg17)) (m ((c.tc : Thread Cert.Kernel27Ideal.nD Cert.Kernel27Ideal.τ).loc Cert.Kernel27Ideal.main_arg18)) (m ((c.tc : Thread Cert.Kernel27Ideal.nD Cert.Kernel27Ideal.τ).loc Cert.Kernel27Ideal.main_arg19)) (m ((c.tc : Thread Cert.Kernel27Ideal.nD Cert.Kernel27Ideal.τ).loc Cert.Kernel27Ideal.main_arg20)) (m ((c.tc : Thread Cert.Kernel27Ideal.nD Cert.Kernel27Ideal.τ).loc Cert.Kernel27Ideal.main_arg21)) (m ((c.tc : Thread Cert.Kernel27Ideal.nD Cert.Kernel27Ideal.τ).loc Cert.Kernel27Ideal.main_arg22)) (m ((c.tc : Thread Cert.Kernel27Ideal.nD Cert.Kernel27Ideal.τ).loc Cert.Kernel27Ideal.main_arg23)) (m ((c.tc : Thread Cert.Kernel27Ideal.nD Cert.Kernel27Ideal.τ).loc Cert.Kernel27Ideal.main_arg24)) (m ((c.tc : Thread Cert.Kernel27Ideal.nD Cert.Kernel27Ideal.τ).loc Cert.Kernel27Ideal.main_arg25)) (m ((c.tc : Thread Cert.Kernel27Ideal.nD Cert.Kernel27Ideal.τ).loc Cert.Kernel27Ideal.main_arg26)) (m ((c.tc : Thread Cert.Kernel27Ideal.nD Cert.Kernel27Ideal.τ).loc Cert.Kernel27Ideal.main_arg27)) (m ((c.tc : Thread Cert.Kernel27Ideal.nD Cert.Kernel27Ideal.τ).loc Cert.Kernel27Ideal.main_arg28)) (m ((c.tc : Thread Cert.Kernel27Ideal.nD Cert.Kernel27Ideal.τ).loc Cert.Kernel27Ideal.main_arg29)) (m ((c.tc : Thread Cert.Kernel27Ideal.nD Cert.Kernel27Ideal.τ).loc Cert.Kernel27Ideal.main_arg30)) (m ((c.tc : Thread Cert.Kernel27Ideal.nD Cert.Kernel27Ideal.τ).loc Cert.Kernel27Ideal.main_arg31)) (m ((c.tc : Thread Cert.Kernel27Ideal.nD Cert.Kernel27Ideal.τ).loc Cert.Kernel27Ideal.main_arg32)) (m ((c.tc : Thread Cert.Kernel27Ideal.nD Cert.Kernel27Ideal.τ).loc Cert.Kernel27Ideal.main_arg33)) (m ((c.tc : Thread Cert.Kernel27Ideal.nD Cert.Kernel27Ideal.τ).loc Cert.Kernel27Ideal.main_arg34)) (m ((c.tc : Thread Cert.Kernel27Ideal.nD Cert.Kernel27Ideal.τ).loc Cert.Kernel27Ideal.main_arg35))).1 = (fun _ => 1#1)
    ∧ (Cert.Pre_finite_bounds.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7)) (m ((c.tc : Thread Cert.Kernel27Ideal.nD Cert.Kernel27Ideal.τ).loc Cert.Kernel27Ideal.main_arg8)) (m ((c.tc : Thread Cert.Kernel27Ideal.nD Cert.Kernel27Ideal.τ).loc Cert.Kernel27Ideal.main_arg9)) (m ((c.tc : Thread Cert.Kernel27Ideal.nD Cert.Kernel27Ideal.τ).loc Cert.Kernel27Ideal.main_arg10)) (m ((c.tc : Thread Cert.Kernel27Ideal.nD Cert.Kernel27Ideal.τ).loc Cert.Kernel27Ideal.main_arg11)) (m ((c.tc : Thread Cert.Kernel27Ideal.nD Cert.Kernel27Ideal.τ).loc Cert.Kernel27Ideal.main_arg12)) (m ((c.tc : Thread Cert.Kernel27Ideal.nD Cert.Kernel27Ideal.τ).loc Cert.Kernel27Ideal.main_arg13)) (m ((c.tc : Thread Cert.Kernel27Ideal.nD Cert.Kernel27Ideal.τ).loc Cert.Kernel27Ideal.main_arg14)) (m ((c.tc : Thread Cert.Kernel27Ideal.nD Cert.Kernel27Ideal.τ).loc Cert.Kernel27Ideal.main_arg15)) (m ((c.tc : Thread Cert.Kernel27Ideal.nD Cert.Kernel27Ideal.τ).loc Cert.Kernel27Ideal.main_arg16)) (m ((c.tc : Thread Cert.Kernel27Ideal.nD Cert.Kernel27Ideal.τ).loc Cert.Kernel27Ideal.main_arg17)) (m ((c.tc : Thread Cert.Kernel27Ideal.nD Cert.Kernel27Ideal.τ).loc Cert.Kernel27Ideal.main_arg18)) (m ((c.tc : Thread Cert.Kernel27Ideal.nD Cert.Kernel27Ideal.τ).loc Cert.Kernel27Ideal.main_arg19)) (m ((c.tc : Thread Cert.Kernel27Ideal.nD Cert.Kernel27Ideal.τ).loc Cert.Kernel27Ideal.main_arg20)) (m ((c.tc : Thread Cert.Kernel27Ideal.nD Cert.Kernel27Ideal.τ).loc Cert.Kernel27Ideal.main_arg21)) (m ((c.tc : Thread Cert.Kernel27Ideal.nD Cert.Kernel27Ideal.τ).loc Cert.Kernel27Ideal.main_arg22)) (m ((c.tc : Thread Cert.Kernel27Ideal.nD Cert.Kernel27Ideal.τ).loc Cert.Kernel27Ideal.main_arg23)) (m ((c.tc : Thread Cert.Kernel27Ideal.nD Cert.Kernel27Ideal.τ).loc Cert.Kernel27Ideal.main_arg24)) (m ((c.tc : Thread Cert.Kernel27Ideal.nD Cert.Kernel27Ideal.τ).loc Cert.Kernel27Ideal.main_arg25)) (m ((c.tc : Thread Cert.Kernel27Ideal.nD Cert.Kernel27Ideal.τ).loc Cert.Kernel27Ideal.main_arg26)) (m ((c.tc : Thread Cert.Kernel27Ideal.nD Cert.Kernel27Ideal.τ).loc Cert.Kernel27Ideal.main_arg27)) (m ((c.tc : Thread Cert.Kernel27Ideal.nD Cert.Kernel27Ideal.τ).loc Cert.Kernel27Ideal.main_arg28)) (m ((c.tc : Thread Cert.Kernel27Ideal.nD Cert.Kernel27Ideal.τ).loc Cert.Kernel27Ideal.main_arg29)) (m ((c.tc : Thread Cert.Kernel27Ideal.nD Cert.Kernel27Ideal.τ).loc Cert.Kernel27Ideal.main_arg30)) (m ((c.tc : Thread Cert.Kernel27Ideal.nD Cert.Kernel27Ideal.τ).loc Cert.Kernel27Ideal.main_arg31)) (m ((c.tc : Thread Cert.Kernel27Ideal.nD Cert.Kernel27Ideal.τ).loc Cert.Kernel27Ideal.main_arg32)) (m ((c.tc : Thread Cert.Kernel27Ideal.nD Cert.Kernel27Ideal.τ).loc Cert.Kernel27Ideal.main_arg33)) (m ((c.tc : Thread Cert.Kernel27Ideal.nD Cert.Kernel27Ideal.τ).loc Cert.Kernel27Ideal.main_arg34)) (m ((c.tc : Thread Cert.Kernel27Ideal.nD Cert.Kernel27Ideal.τ).loc Cert.Kernel27Ideal.main_arg35))).2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_bounds [hPre_finite_bounds : Cert.Pre_finite_bounds.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_bounds.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7)) (m ((c.tc : Thread Cert.Reference27Ideal.nD Cert.Reference27Ideal.τ).loc Cert.Reference27Ideal.main_arg8)) (m ((c.tc : Thread Cert.Reference27Ideal.nD Cert.Reference27Ideal.τ).loc Cert.Reference27Ideal.main_arg9)) (m ((c.tc : Thread Cert.Reference27Ideal.nD Cert.Reference27Ideal.τ).loc Cert.Reference27Ideal.main_arg10)) (m ((c.tc : Thread Cert.Reference27Ideal.nD Cert.Reference27Ideal.τ).loc Cert.Reference27Ideal.main_arg11)) (m ((c.tc : Thread Cert.Reference27Ideal.nD Cert.Reference27Ideal.τ).loc Cert.Reference27Ideal.main_arg12)) (m ((c.tc : Thread Cert.Reference27Ideal.nD Cert.Reference27Ideal.τ).loc Cert.Reference27Ideal.main_arg13)) (m ((c.tc : Thread Cert.Reference27Ideal.nD Cert.Reference27Ideal.τ).loc Cert.Reference27Ideal.main_arg14)) (m ((c.tc : Thread Cert.Reference27Ideal.nD Cert.Reference27Ideal.τ).loc Cert.Reference27Ideal.main_arg15)) (m ((c.tc : Thread Cert.Reference27Ideal.nD Cert.Reference27Ideal.τ).loc Cert.Reference27Ideal.main_arg16)) (m ((c.tc : Thread Cert.Reference27Ideal.nD Cert.Reference27Ideal.τ).loc Cert.Reference27Ideal.main_arg17)) (m ((c.tc : Thread Cert.Reference27Ideal.nD Cert.Reference27Ideal.τ).loc Cert.Reference27Ideal.main_arg18)) (m ((c.tc : Thread Cert.Reference27Ideal.nD Cert.Reference27Ideal.τ).loc Cert.Reference27Ideal.main_arg19)) (m ((c.tc : Thread Cert.Reference27Ideal.nD Cert.Reference27Ideal.τ).loc Cert.Reference27Ideal.main_arg20)) (m ((c.tc : Thread Cert.Reference27Ideal.nD Cert.Reference27Ideal.τ).loc Cert.Reference27Ideal.main_arg21)) (m ((c.tc : Thread Cert.Reference27Ideal.nD Cert.Reference27Ideal.τ).loc Cert.Reference27Ideal.main_arg22)) (m ((c.tc : Thread Cert.Reference27Ideal.nD Cert.Reference27Ideal.τ).loc Cert.Reference27Ideal.main_arg23)) (m ((c.tc : Thread Cert.Reference27Ideal.nD Cert.Reference27Ideal.τ).loc Cert.Reference27Ideal.main_arg24)) (m ((c.tc : Thread Cert.Reference27Ideal.nD Cert.Reference27Ideal.τ).loc Cert.Reference27Ideal.main_arg25)) (m ((c.tc : Thread Cert.Reference27Ideal.nD Cert.Reference27Ideal.τ).loc Cert.Reference27Ideal.main_arg26)) (m ((c.tc : Thread Cert.Reference27Ideal.nD Cert.Reference27Ideal.τ).loc Cert.Reference27Ideal.main_arg27)) (m ((c.tc : Thread Cert.Reference27Ideal.nD Cert.Reference27Ideal.τ).loc Cert.Reference27Ideal.main_arg28)) (m ((c.tc : Thread Cert.Reference27Ideal.nD Cert.Reference27Ideal.τ).loc Cert.Reference27Ideal.main_arg29)) (m ((c.tc : Thread Cert.Reference27Ideal.nD Cert.Reference27Ideal.τ).loc Cert.Reference27Ideal.main_arg30)) (m ((c.tc : Thread Cert.Reference27Ideal.nD Cert.Reference27Ideal.τ).loc Cert.Reference27Ideal.main_arg31)) (m ((c.tc : Thread Cert.Reference27Ideal.nD Cert.Reference27Ideal.τ).loc Cert.Reference27Ideal.main_arg32)) (m ((c.tc : Thread Cert.Reference27Ideal.nD Cert.Reference27Ideal.τ).loc Cert.Reference27Ideal.main_arg33)) (m ((c.tc : Thread Cert.Reference27Ideal.nD Cert.Reference27Ideal.τ).loc Cert.Reference27Ideal.main_arg34)) (m ((c.tc : Thread Cert.Reference27Ideal.nD Cert.Reference27Ideal.τ).loc Cert.Reference27Ideal.main_arg35))).1 = (fun _ => 1#1)
    ∧ (Cert.Pre_finite_bounds.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7)) (m ((c.tc : Thread Cert.Reference27Ideal.nD Cert.Reference27Ideal.τ).loc Cert.Reference27Ideal.main_arg8)) (m ((c.tc : Thread Cert.Reference27Ideal.nD Cert.Reference27Ideal.τ).loc Cert.Reference27Ideal.main_arg9)) (m ((c.tc : Thread Cert.Reference27Ideal.nD Cert.Reference27Ideal.τ).loc Cert.Reference27Ideal.main_arg10)) (m ((c.tc : Thread Cert.Reference27Ideal.nD Cert.Reference27Ideal.τ).loc Cert.Reference27Ideal.main_arg11)) (m ((c.tc : Thread Cert.Reference27Ideal.nD Cert.Reference27Ideal.τ).loc Cert.Reference27Ideal.main_arg12)) (m ((c.tc : Thread Cert.Reference27Ideal.nD Cert.Reference27Ideal.τ).loc Cert.Reference27Ideal.main_arg13)) (m ((c.tc : Thread Cert.Reference27Ideal.nD Cert.Reference27Ideal.τ).loc Cert.Reference27Ideal.main_arg14)) (m ((c.tc : Thread Cert.Reference27Ideal.nD Cert.Reference27Ideal.τ).loc Cert.Reference27Ideal.main_arg15)) (m ((c.tc : Thread Cert.Reference27Ideal.nD Cert.Reference27Ideal.τ).loc Cert.Reference27Ideal.main_arg16)) (m ((c.tc : Thread Cert.Reference27Ideal.nD Cert.Reference27Ideal.τ).loc Cert.Reference27Ideal.main_arg17)) (m ((c.tc : Thread Cert.Reference27Ideal.nD Cert.Reference27Ideal.τ).loc Cert.Reference27Ideal.main_arg18)) (m ((c.tc : Thread Cert.Reference27Ideal.nD Cert.Reference27Ideal.τ).loc Cert.Reference27Ideal.main_arg19)) (m ((c.tc : Thread Cert.Reference27Ideal.nD Cert.Reference27Ideal.τ).loc Cert.Reference27Ideal.main_arg20)) (m ((c.tc : Thread Cert.Reference27Ideal.nD Cert.Reference27Ideal.τ).loc Cert.Reference27Ideal.main_arg21)) (m ((c.tc : Thread Cert.Reference27Ideal.nD Cert.Reference27Ideal.τ).loc Cert.Reference27Ideal.main_arg22)) (m ((c.tc : Thread Cert.Reference27Ideal.nD Cert.Reference27Ideal.τ).loc Cert.Reference27Ideal.main_arg23)) (m ((c.tc : Thread Cert.Reference27Ideal.nD Cert.Reference27Ideal.τ).loc Cert.Reference27Ideal.main_arg24)) (m ((c.tc : Thread Cert.Reference27Ideal.nD Cert.Reference27Ideal.τ).loc Cert.Reference27Ideal.main_arg25)) (m ((c.tc : Thread Cert.Reference27Ideal.nD Cert.Reference27Ideal.τ).loc Cert.Reference27Ideal.main_arg26)) (m ((c.tc : Thread Cert.Reference27Ideal.nD Cert.Reference27Ideal.τ).loc Cert.Reference27Ideal.main_arg27)) (m ((c.tc : Thread Cert.Reference27Ideal.nD Cert.Reference27Ideal.τ).loc Cert.Reference27Ideal.main_arg28)) (m ((c.tc : Thread Cert.Reference27Ideal.nD Cert.Reference27Ideal.τ).loc Cert.Reference27Ideal.main_arg29)) (m ((c.tc : Thread Cert.Reference27Ideal.nD Cert.Reference27Ideal.τ).loc Cert.Reference27Ideal.main_arg30)) (m ((c.tc : Thread Cert.Reference27Ideal.nD Cert.Reference27Ideal.τ).loc Cert.Reference27Ideal.main_arg31)) (m ((c.tc : Thread Cert.Reference27Ideal.nD Cert.Reference27Ideal.τ).loc Cert.Reference27Ideal.main_arg32)) (m ((c.tc : Thread Cert.Reference27Ideal.nD Cert.Reference27Ideal.τ).loc Cert.Reference27Ideal.main_arg33)) (m ((c.tc : Thread Cert.Reference27Ideal.nD Cert.Reference27Ideal.τ).loc Cert.Reference27Ideal.main_arg34)) (m ((c.tc : Thread Cert.Reference27Ideal.nD Cert.Reference27Ideal.τ).loc Cert.Reference27Ideal.main_arg35))).2 = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9)
      ∧ r.2.mem ((c.tc : Thread Cert.Kernel27.nD Cert.Kernel27.τ).loc Cert.Kernel27.main_arg10) = m ((c.tc : Thread Cert.Kernel27.nD Cert.Kernel27.τ).loc Cert.Kernel27.main_arg10)
      ∧ r.2.mem ((c.tc : Thread Cert.Kernel27.nD Cert.Kernel27.τ).loc Cert.Kernel27.main_arg11) = m ((c.tc : Thread Cert.Kernel27.nD Cert.Kernel27.τ).loc Cert.Kernel27.main_arg11)
      ∧ r.2.mem ((c.tc : Thread Cert.Kernel27.nD Cert.Kernel27.τ).loc Cert.Kernel27.main_arg12) = m ((c.tc : Thread Cert.Kernel27.nD Cert.Kernel27.τ).loc Cert.Kernel27.main_arg12)
      ∧ r.2.mem ((c.tc : Thread Cert.Kernel27.nD Cert.Kernel27.τ).loc Cert.Kernel27.main_arg13) = m ((c.tc : Thread Cert.Kernel27.nD Cert.Kernel27.τ).loc Cert.Kernel27.main_arg13)
      ∧ r.2.mem ((c.tc : Thread Cert.Kernel27.nD Cert.Kernel27.τ).loc Cert.Kernel27.main_arg14) = m ((c.tc : Thread Cert.Kernel27.nD Cert.Kernel27.τ).loc Cert.Kernel27.main_arg14)
      ∧ r.2.mem ((c.tc : Thread Cert.Kernel27.nD Cert.Kernel27.τ).loc Cert.Kernel27.main_arg15) = m ((c.tc : Thread Cert.Kernel27.nD Cert.Kernel27.τ).loc Cert.Kernel27.main_arg15)
      ∧ r.2.mem ((c.tc : Thread Cert.Kernel27.nD Cert.Kernel27.τ).loc Cert.Kernel27.main_arg16) = m ((c.tc : Thread Cert.Kernel27.nD Cert.Kernel27.τ).loc Cert.Kernel27.main_arg16)
      ∧ r.2.mem ((c.tc : Thread Cert.Kernel27.nD Cert.Kernel27.τ).loc Cert.Kernel27.main_arg17) = m ((c.tc : Thread Cert.Kernel27.nD Cert.Kernel27.τ).loc Cert.Kernel27.main_arg17)
      ∧ r.2.mem ((c.tc : Thread Cert.Kernel27.nD Cert.Kernel27.τ).loc Cert.Kernel27.main_arg18) = m ((c.tc : Thread Cert.Kernel27.nD Cert.Kernel27.τ).loc Cert.Kernel27.main_arg18)
      ∧ r.2.mem ((c.tc : Thread Cert.Kernel27.nD Cert.Kernel27.τ).loc Cert.Kernel27.main_arg19) = m ((c.tc : Thread Cert.Kernel27.nD Cert.Kernel27.τ).loc Cert.Kernel27.main_arg19)
      ∧ r.2.mem ((c.tc : Thread Cert.Kernel27.nD Cert.Kernel27.τ).loc Cert.Kernel27.main_arg20) = m ((c.tc : Thread Cert.Kernel27.nD Cert.Kernel27.τ).loc Cert.Kernel27.main_arg20)
      ∧ r.2.mem ((c.tc : Thread Cert.Kernel27.nD Cert.Kernel27.τ).loc Cert.Kernel27.main_arg21) = m ((c.tc : Thread Cert.Kernel27.nD Cert.Kernel27.τ).loc Cert.Kernel27.main_arg21)
      ∧ r.2.mem ((c.tc : Thread Cert.Kernel27.nD Cert.Kernel27.τ).loc Cert.Kernel27.main_arg22) = m ((c.tc : Thread Cert.Kernel27.nD Cert.Kernel27.τ).loc Cert.Kernel27.main_arg22)
      ∧ r.2.mem ((c.tc : Thread Cert.Kernel27.nD Cert.Kernel27.τ).loc Cert.Kernel27.main_arg23) = m ((c.tc : Thread Cert.Kernel27.nD Cert.Kernel27.τ).loc Cert.Kernel27.main_arg23)
      ∧ r.2.mem ((c.tc : Thread Cert.Kernel27.nD Cert.Kernel27.τ).loc Cert.Kernel27.main_arg24) = m ((c.tc : Thread Cert.Kernel27.nD Cert.Kernel27.τ).loc Cert.Kernel27.main_arg24)
      ∧ r.2.mem ((c.tc : Thread Cert.Kernel27.nD Cert.Kernel27.τ).loc Cert.Kernel27.main_arg25) = m ((c.tc : Thread Cert.Kernel27.nD Cert.Kernel27.τ).loc Cert.Kernel27.main_arg25)
      ∧ r.2.mem ((c.tc : Thread Cert.Kernel27.nD Cert.Kernel27.τ).loc Cert.Kernel27.main_arg26) = m ((c.tc : Thread Cert.Kernel27.nD Cert.Kernel27.τ).loc Cert.Kernel27.main_arg26)
      ∧ r.2.mem ((c.tc : Thread Cert.Kernel27.nD Cert.Kernel27.τ).loc Cert.Kernel27.main_arg27) = m ((c.tc : Thread Cert.Kernel27.nD Cert.Kernel27.τ).loc Cert.Kernel27.main_arg27)
      ∧ r.2.mem ((c.tc : Thread Cert.Kernel27.nD Cert.Kernel27.τ).loc Cert.Kernel27.main_arg28) = m ((c.tc : Thread Cert.Kernel27.nD Cert.Kernel27.τ).loc Cert.Kernel27.main_arg28)
      ∧ r.2.mem ((c.tc : Thread Cert.Kernel27.nD Cert.Kernel27.τ).loc Cert.Kernel27.main_arg29) = m ((c.tc : Thread Cert.Kernel27.nD Cert.Kernel27.τ).loc Cert.Kernel27.main_arg29)
      ∧ r.2.mem ((c.tc : Thread Cert.Kernel27.nD Cert.Kernel27.τ).loc Cert.Kernel27.main_arg30) = m ((c.tc : Thread Cert.Kernel27.nD Cert.Kernel27.τ).loc Cert.Kernel27.main_arg30)
      ∧ r.2.mem ((c.tc : Thread Cert.Kernel27.nD Cert.Kernel27.τ).loc Cert.Kernel27.main_arg31) = m ((c.tc : Thread Cert.Kernel27.nD Cert.Kernel27.τ).loc Cert.Kernel27.main_arg31)
      ∧ r.2.mem ((c.tc : Thread Cert.Kernel27.nD Cert.Kernel27.τ).loc Cert.Kernel27.main_arg32) = m ((c.tc : Thread Cert.Kernel27.nD Cert.Kernel27.τ).loc Cert.Kernel27.main_arg32)
      ∧ r.2.mem ((c.tc : Thread Cert.Kernel27.nD Cert.Kernel27.τ).loc Cert.Kernel27.main_arg33) = m ((c.tc : Thread Cert.Kernel27.nD Cert.Kernel27.τ).loc Cert.Kernel27.main_arg33)
      ∧ r.2.mem ((c.tc : Thread Cert.Kernel27.nD Cert.Kernel27.τ).loc Cert.Kernel27.main_arg34) = m ((c.tc : Thread Cert.Kernel27.nD Cert.Kernel27.τ).loc Cert.Kernel27.main_arg34)
      ∧ r.2.mem ((c.tc : Thread Cert.Kernel27.nD Cert.Kernel27.τ).loc Cert.Kernel27.main_arg35) = m ((c.tc : Thread Cert.Kernel27.nD Cert.Kernel27.τ).loc Cert.Kernel27.main_arg35))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
      ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
      ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
      ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
      ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
      ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
      ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
      ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
      ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
      ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
      ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
      ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
      ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
      ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
      ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
      ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
      ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27)
      ∧ r.2.mem ((c.tc : Thread Cert.Kernel27Ideal.nD Cert.Kernel27Ideal.τ).loc Cert.Kernel27Ideal.main_arg28) = m ((c.tc : Thread Cert.Kernel27Ideal.nD Cert.Kernel27Ideal.τ).loc Cert.Kernel27Ideal.main_arg28)
      ∧ r.2.mem ((c.tc : Thread Cert.Kernel27Ideal.nD Cert.Kernel27Ideal.τ).loc Cert.Kernel27Ideal.main_arg29) = m ((c.tc : Thread Cert.Kernel27Ideal.nD Cert.Kernel27Ideal.τ).loc Cert.Kernel27Ideal.main_arg29)
      ∧ r.2.mem ((c.tc : Thread Cert.Kernel27Ideal.nD Cert.Kernel27Ideal.τ).loc Cert.Kernel27Ideal.main_arg30) = m ((c.tc : Thread Cert.Kernel27Ideal.nD Cert.Kernel27Ideal.τ).loc Cert.Kernel27Ideal.main_arg30)
      ∧ r.2.mem ((c.tc : Thread Cert.Kernel27Ideal.nD Cert.Kernel27Ideal.τ).loc Cert.Kernel27Ideal.main_arg31) = m ((c.tc : Thread Cert.Kernel27Ideal.nD Cert.Kernel27Ideal.τ).loc Cert.Kernel27Ideal.main_arg31)
      ∧ r.2.mem ((c.tc : Thread Cert.Kernel27Ideal.nD Cert.Kernel27Ideal.τ).loc Cert.Kernel27Ideal.main_arg32) = m ((c.tc : Thread Cert.Kernel27Ideal.nD Cert.Kernel27Ideal.τ).loc Cert.Kernel27Ideal.main_arg32)
      ∧ r.2.mem ((c.tc : Thread Cert.Kernel27Ideal.nD Cert.Kernel27Ideal.τ).loc Cert.Kernel27Ideal.main_arg33) = m ((c.tc : Thread Cert.Kernel27Ideal.nD Cert.Kernel27Ideal.τ).loc Cert.Kernel27Ideal.main_arg33)
      ∧ r.2.mem ((c.tc : Thread Cert.Kernel27Ideal.nD Cert.Kernel27Ideal.τ).loc Cert.Kernel27Ideal.main_arg34) = m ((c.tc : Thread Cert.Kernel27Ideal.nD Cert.Kernel27Ideal.τ).loc Cert.Kernel27Ideal.main_arg34)
      ∧ r.2.mem ((c.tc : Thread Cert.Kernel27Ideal.nD Cert.Kernel27Ideal.τ).loc Cert.Kernel27Ideal.main_arg35) = m ((c.tc : Thread Cert.Kernel27Ideal.nD Cert.Kernel27Ideal.τ).loc Cert.Kernel27Ideal.main_arg35))
      ∧ r.2.sem = fun _ => 0)

def quiescent_Kernel27Ideal_pre_finite_bounds [hKernel27Ideal : Cert.Kernel27Ideal.Facts] [hPre_finite_bounds : Cert.Pre_finite_bounds.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_bounds m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
      ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
      ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
      ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
      ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
      ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
      ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
      ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
      ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
      ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
      ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
      ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
      ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
      ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
      ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
      ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
      ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27)
      ∧ r.2.mem ((c.tc : Thread Cert.Kernel27Ideal.nD Cert.Kernel27Ideal.τ).loc Cert.Kernel27Ideal.main_arg28) = m ((c.tc : Thread Cert.Kernel27Ideal.nD Cert.Kernel27Ideal.τ).loc Cert.Kernel27Ideal.main_arg28)
      ∧ r.2.mem ((c.tc : Thread Cert.Kernel27Ideal.nD Cert.Kernel27Ideal.τ).loc Cert.Kernel27Ideal.main_arg29) = m ((c.tc : Thread Cert.Kernel27Ideal.nD Cert.Kernel27Ideal.τ).loc Cert.Kernel27Ideal.main_arg29)
      ∧ r.2.mem ((c.tc : Thread Cert.Kernel27Ideal.nD Cert.Kernel27Ideal.τ).loc Cert.Kernel27Ideal.main_arg30) = m ((c.tc : Thread Cert.Kernel27Ideal.nD Cert.Kernel27Ideal.τ).loc Cert.Kernel27Ideal.main_arg30)
      ∧ r.2.mem ((c.tc : Thread Cert.Kernel27Ideal.nD Cert.Kernel27Ideal.τ).loc Cert.Kernel27Ideal.main_arg31) = m ((c.tc : Thread Cert.Kernel27Ideal.nD Cert.Kernel27Ideal.τ).loc Cert.Kernel27Ideal.main_arg31)
      ∧ r.2.mem ((c.tc : Thread Cert.Kernel27Ideal.nD Cert.Kernel27Ideal.τ).loc Cert.Kernel27Ideal.main_arg32) = m ((c.tc : Thread Cert.Kernel27Ideal.nD Cert.Kernel27Ideal.τ).loc Cert.Kernel27Ideal.main_arg32)
      ∧ r.2.mem ((c.tc : Thread Cert.Kernel27Ideal.nD Cert.Kernel27Ideal.τ).loc Cert.Kernel27Ideal.main_arg33) = m ((c.tc : Thread Cert.Kernel27Ideal.nD Cert.Kernel27Ideal.τ).loc Cert.Kernel27Ideal.main_arg33)
      ∧ r.2.mem ((c.tc : Thread Cert.Kernel27Ideal.nD Cert.Kernel27Ideal.τ).loc Cert.Kernel27Ideal.main_arg34) = m ((c.tc : Thread Cert.Kernel27Ideal.nD Cert.Kernel27Ideal.τ).loc Cert.Kernel27Ideal.main_arg34)
      ∧ r.2.mem ((c.tc : Thread Cert.Kernel27Ideal.nD Cert.Kernel27Ideal.τ).loc Cert.Kernel27Ideal.main_arg35) = m ((c.tc : Thread Cert.Kernel27Ideal.nD Cert.Kernel27Ideal.τ).loc Cert.Kernel27Ideal.main_arg35))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11)
      ∧ r.2.mem ((c.tc : Thread Cert.Reference27Ideal.nD Cert.Reference27Ideal.τ).loc Cert.Reference27Ideal.main_arg12) = m ((c.tc : Thread Cert.Reference27Ideal.nD Cert.Reference27Ideal.τ).loc Cert.Reference27Ideal.main_arg12)
      ∧ r.2.mem ((c.tc : Thread Cert.Reference27Ideal.nD Cert.Reference27Ideal.τ).loc Cert.Reference27Ideal.main_arg13) = m ((c.tc : Thread Cert.Reference27Ideal.nD Cert.Reference27Ideal.τ).loc Cert.Reference27Ideal.main_arg13)
      ∧ r.2.mem ((c.tc : Thread Cert.Reference27Ideal.nD Cert.Reference27Ideal.τ).loc Cert.Reference27Ideal.main_arg14) = m ((c.tc : Thread Cert.Reference27Ideal.nD Cert.Reference27Ideal.τ).loc Cert.Reference27Ideal.main_arg14)
      ∧ r.2.mem ((c.tc : Thread Cert.Reference27Ideal.nD Cert.Reference27Ideal.τ).loc Cert.Reference27Ideal.main_arg15) = m ((c.tc : Thread Cert.Reference27Ideal.nD Cert.Reference27Ideal.τ).loc Cert.Reference27Ideal.main_arg15)
      ∧ r.2.mem ((c.tc : Thread Cert.Reference27Ideal.nD Cert.Reference27Ideal.τ).loc Cert.Reference27Ideal.main_arg16) = m ((c.tc : Thread Cert.Reference27Ideal.nD Cert.Reference27Ideal.τ).loc Cert.Reference27Ideal.main_arg16)
      ∧ r.2.mem ((c.tc : Thread Cert.Reference27Ideal.nD Cert.Reference27Ideal.τ).loc Cert.Reference27Ideal.main_arg17) = m ((c.tc : Thread Cert.Reference27Ideal.nD Cert.Reference27Ideal.τ).loc Cert.Reference27Ideal.main_arg17)
      ∧ r.2.mem ((c.tc : Thread Cert.Reference27Ideal.nD Cert.Reference27Ideal.τ).loc Cert.Reference27Ideal.main_arg18) = m ((c.tc : Thread Cert.Reference27Ideal.nD Cert.Reference27Ideal.τ).loc Cert.Reference27Ideal.main_arg18)
      ∧ r.2.mem ((c.tc : Thread Cert.Reference27Ideal.nD Cert.Reference27Ideal.τ).loc Cert.Reference27Ideal.main_arg19) = m ((c.tc : Thread Cert.Reference27Ideal.nD Cert.Reference27Ideal.τ).loc Cert.Reference27Ideal.main_arg19)
      ∧ r.2.mem ((c.tc : Thread Cert.Reference27Ideal.nD Cert.Reference27Ideal.τ).loc Cert.Reference27Ideal.main_arg20) = m ((c.tc : Thread Cert.Reference27Ideal.nD Cert.Reference27Ideal.τ).loc Cert.Reference27Ideal.main_arg20)
      ∧ r.2.mem ((c.tc : Thread Cert.Reference27Ideal.nD Cert.Reference27Ideal.τ).loc Cert.Reference27Ideal.main_arg21) = m ((c.tc : Thread Cert.Reference27Ideal.nD Cert.Reference27Ideal.τ).loc Cert.Reference27Ideal.main_arg21)
      ∧ r.2.mem ((c.tc : Thread Cert.Reference27Ideal.nD Cert.Reference27Ideal.τ).loc Cert.Reference27Ideal.main_arg22) = m ((c.tc : Thread Cert.Reference27Ideal.nD Cert.Reference27Ideal.τ).loc Cert.Reference27Ideal.main_arg22)
      ∧ r.2.mem ((c.tc : Thread Cert.Reference27Ideal.nD Cert.Reference27Ideal.τ).loc Cert.Reference27Ideal.main_arg23) = m ((c.tc : Thread Cert.Reference27Ideal.nD Cert.Reference27Ideal.τ).loc Cert.Reference27Ideal.main_arg23)
      ∧ r.2.mem ((c.tc : Thread Cert.Reference27Ideal.nD Cert.Reference27Ideal.τ).loc Cert.Reference27Ideal.main_arg24) = m ((c.tc : Thread Cert.Reference27Ideal.nD Cert.Reference27Ideal.τ).loc Cert.Reference27Ideal.main_arg24)
      ∧ r.2.mem ((c.tc : Thread Cert.Reference27Ideal.nD Cert.Reference27Ideal.τ).loc Cert.Reference27Ideal.main_arg25) = m ((c.tc : Thread Cert.Reference27Ideal.nD Cert.Reference27Ideal.τ).loc Cert.Reference27Ideal.main_arg25)
      ∧ r.2.mem ((c.tc : Thread Cert.Reference27Ideal.nD Cert.Reference27Ideal.τ).loc Cert.Reference27Ideal.main_arg26) = m ((c.tc : Thread Cert.Reference27Ideal.nD Cert.Reference27Ideal.τ).loc Cert.Reference27Ideal.main_arg26)
      ∧ r.2.mem ((c.tc : Thread Cert.Reference27Ideal.nD Cert.Reference27Ideal.τ).loc Cert.Reference27Ideal.main_arg27) = m ((c.tc : Thread Cert.Reference27Ideal.nD Cert.Reference27Ideal.τ).loc Cert.Reference27Ideal.main_arg27)
      ∧ r.2.mem ((c.tc : Thread Cert.Reference27Ideal.nD Cert.Reference27Ideal.τ).loc Cert.Reference27Ideal.main_arg28) = m ((c.tc : Thread Cert.Reference27Ideal.nD Cert.Reference27Ideal.τ).loc Cert.Reference27Ideal.main_arg28)
      ∧ r.2.mem ((c.tc : Thread Cert.Reference27Ideal.nD Cert.Reference27Ideal.τ).loc Cert.Reference27Ideal.main_arg29) = m ((c.tc : Thread Cert.Reference27Ideal.nD Cert.Reference27Ideal.τ).loc Cert.Reference27Ideal.main_arg29)
      ∧ r.2.mem ((c.tc : Thread Cert.Reference27Ideal.nD Cert.Reference27Ideal.τ).loc Cert.Reference27Ideal.main_arg30) = m ((c.tc : Thread Cert.Reference27Ideal.nD Cert.Reference27Ideal.τ).loc Cert.Reference27Ideal.main_arg30)
      ∧ r.2.mem ((c.tc : Thread Cert.Reference27Ideal.nD Cert.Reference27Ideal.τ).loc Cert.Reference27Ideal.main_arg31) = m ((c.tc : Thread Cert.Reference27Ideal.nD Cert.Reference27Ideal.τ).loc Cert.Reference27Ideal.main_arg31)
      ∧ r.2.mem ((c.tc : Thread Cert.Reference27Ideal.nD Cert.Reference27Ideal.τ).loc Cert.Reference27Ideal.main_arg32) = m ((c.tc : Thread Cert.Reference27Ideal.nD Cert.Reference27Ideal.τ).loc Cert.Reference27Ideal.main_arg32)
      ∧ r.2.mem ((c.tc : Thread Cert.Reference27Ideal.nD Cert.Reference27Ideal.τ).loc Cert.Reference27Ideal.main_arg33) = m ((c.tc : Thread Cert.Reference27Ideal.nD Cert.Reference27Ideal.τ).loc Cert.Reference27Ideal.main_arg33)
      ∧ r.2.mem ((c.tc : Thread Cert.Reference27Ideal.nD Cert.Reference27Ideal.τ).loc Cert.Reference27Ideal.main_arg34) = m ((c.tc : Thread Cert.Reference27Ideal.nD Cert.Reference27Ideal.τ).loc Cert.Reference27Ideal.main_arg34)
      ∧ r.2.mem ((c.tc : Thread Cert.Reference27Ideal.nD Cert.Reference27Ideal.τ).loc Cert.Reference27Ideal.main_arg35) = m ((c.tc : Thread Cert.Reference27Ideal.nD Cert.Reference27Ideal.τ).loc Cert.Reference27Ideal.main_arg35))
      ∧ r.2.sem = fun _ => 0)

def quiescent_Reference27Ideal_pre_finite_bounds [hReference27Ideal : Cert.Reference27Ideal.Facts] [hPre_finite_bounds : Cert.Pre_finite_bounds.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_bounds m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11)
      ∧ r.2.mem ((c.tc : Thread Cert.Reference27Ideal.nD Cert.Reference27Ideal.τ).loc Cert.Reference27Ideal.main_arg12) = m ((c.tc : Thread Cert.Reference27Ideal.nD Cert.Reference27Ideal.τ).loc Cert.Reference27Ideal.main_arg12)
      ∧ r.2.mem ((c.tc : Thread Cert.Reference27Ideal.nD Cert.Reference27Ideal.τ).loc Cert.Reference27Ideal.main_arg13) = m ((c.tc : Thread Cert.Reference27Ideal.nD Cert.Reference27Ideal.τ).loc Cert.Reference27Ideal.main_arg13)
      ∧ r.2.mem ((c.tc : Thread Cert.Reference27Ideal.nD Cert.Reference27Ideal.τ).loc Cert.Reference27Ideal.main_arg14) = m ((c.tc : Thread Cert.Reference27Ideal.nD Cert.Reference27Ideal.τ).loc Cert.Reference27Ideal.main_arg14)
      ∧ r.2.mem ((c.tc : Thread Cert.Reference27Ideal.nD Cert.Reference27Ideal.τ).loc Cert.Reference27Ideal.main_arg15) = m ((c.tc : Thread Cert.Reference27Ideal.nD Cert.Reference27Ideal.τ).loc Cert.Reference27Ideal.main_arg15)
      ∧ r.2.mem ((c.tc : Thread Cert.Reference27Ideal.nD Cert.Reference27Ideal.τ).loc Cert.Reference27Ideal.main_arg16) = m ((c.tc : Thread Cert.Reference27Ideal.nD Cert.Reference27Ideal.τ).loc Cert.Reference27Ideal.main_arg16)
      ∧ r.2.mem ((c.tc : Thread Cert.Reference27Ideal.nD Cert.Reference27Ideal.τ).loc Cert.Reference27Ideal.main_arg17) = m ((c.tc : Thread Cert.Reference27Ideal.nD Cert.Reference27Ideal.τ).loc Cert.Reference27Ideal.main_arg17)
      ∧ r.2.mem ((c.tc : Thread Cert.Reference27Ideal.nD Cert.Reference27Ideal.τ).loc Cert.Reference27Ideal.main_arg18) = m ((c.tc : Thread Cert.Reference27Ideal.nD Cert.Reference27Ideal.τ).loc Cert.Reference27Ideal.main_arg18)
      ∧ r.2.mem ((c.tc : Thread Cert.Reference27Ideal.nD Cert.Reference27Ideal.τ).loc Cert.Reference27Ideal.main_arg19) = m ((c.tc : Thread Cert.Reference27Ideal.nD Cert.Reference27Ideal.τ).loc Cert.Reference27Ideal.main_arg19)
      ∧ r.2.mem ((c.tc : Thread Cert.Reference27Ideal.nD Cert.Reference27Ideal.τ).loc Cert.Reference27Ideal.main_arg20) = m ((c.tc : Thread Cert.Reference27Ideal.nD Cert.Reference27Ideal.τ).loc Cert.Reference27Ideal.main_arg20)
      ∧ r.2.mem ((c.tc : Thread Cert.Reference27Ideal.nD Cert.Reference27Ideal.τ).loc Cert.Reference27Ideal.main_arg21) = m ((c.tc : Thread Cert.Reference27Ideal.nD Cert.Reference27Ideal.τ).loc Cert.Reference27Ideal.main_arg21)
      ∧ r.2.mem ((c.tc : Thread Cert.Reference27Ideal.nD Cert.Reference27Ideal.τ).loc Cert.Reference27Ideal.main_arg22) = m ((c.tc : Thread Cert.Reference27Ideal.nD Cert.Reference27Ideal.τ).loc Cert.Reference27Ideal.main_arg22)
      ∧ r.2.mem ((c.tc : Thread Cert.Reference27Ideal.nD Cert.Reference27Ideal.τ).loc Cert.Reference27Ideal.main_arg23) = m ((c.tc : Thread Cert.Reference27Ideal.nD Cert.Reference27Ideal.τ).loc Cert.Reference27Ideal.main_arg23)
      ∧ r.2.mem ((c.tc : Thread Cert.Reference27Ideal.nD Cert.Reference27Ideal.τ).loc Cert.Reference27Ideal.main_arg24) = m ((c.tc : Thread Cert.Reference27Ideal.nD Cert.Reference27Ideal.τ).loc Cert.Reference27Ideal.main_arg24)
      ∧ r.2.mem ((c.tc : Thread Cert.Reference27Ideal.nD Cert.Reference27Ideal.τ).loc Cert.Reference27Ideal.main_arg25) = m ((c.tc : Thread Cert.Reference27Ideal.nD Cert.Reference27Ideal.τ).loc Cert.Reference27Ideal.main_arg25)
      ∧ r.2.mem ((c.tc : Thread Cert.Reference27Ideal.nD Cert.Reference27Ideal.τ).loc Cert.Reference27Ideal.main_arg26) = m ((c.tc : Thread Cert.Reference27Ideal.nD Cert.Reference27Ideal.τ).loc Cert.Reference27Ideal.main_arg26)
      ∧ r.2.mem ((c.tc : Thread Cert.Reference27Ideal.nD Cert.Reference27Ideal.τ).loc Cert.Reference27Ideal.main_arg27) = m ((c.tc : Thread Cert.Reference27Ideal.nD Cert.Reference27Ideal.τ).loc Cert.Reference27Ideal.main_arg27)
      ∧ r.2.mem ((c.tc : Thread Cert.Reference27Ideal.nD Cert.Reference27Ideal.τ).loc Cert.Reference27Ideal.main_arg28) = m ((c.tc : Thread Cert.Reference27Ideal.nD Cert.Reference27Ideal.τ).loc Cert.Reference27Ideal.main_arg28)
      ∧ r.2.mem ((c.tc : Thread Cert.Reference27Ideal.nD Cert.Reference27Ideal.τ).loc Cert.Reference27Ideal.main_arg29) = m ((c.tc : Thread Cert.Reference27Ideal.nD Cert.Reference27Ideal.τ).loc Cert.Reference27Ideal.main_arg29)
      ∧ r.2.mem ((c.tc : Thread Cert.Reference27Ideal.nD Cert.Reference27Ideal.τ).loc Cert.Reference27Ideal.main_arg30) = m ((c.tc : Thread Cert.Reference27Ideal.nD Cert.Reference27Ideal.τ).loc Cert.Reference27Ideal.main_arg30)
      ∧ r.2.mem ((c.tc : Thread Cert.Reference27Ideal.nD Cert.Reference27Ideal.τ).loc Cert.Reference27Ideal.main_arg31) = m ((c.tc : Thread Cert.Reference27Ideal.nD Cert.Reference27Ideal.τ).loc Cert.Reference27Ideal.main_arg31)
      ∧ r.2.mem ((c.tc : Thread Cert.Reference27Ideal.nD Cert.Reference27Ideal.τ).loc Cert.Reference27Ideal.main_arg32) = m ((c.tc : Thread Cert.Reference27Ideal.nD Cert.Reference27Ideal.τ).loc Cert.Reference27Ideal.main_arg32)
      ∧ r.2.mem ((c.tc : Thread Cert.Reference27Ideal.nD Cert.Reference27Ideal.τ).loc Cert.Reference27Ideal.main_arg33) = m ((c.tc : Thread Cert.Reference27Ideal.nD Cert.Reference27Ideal.τ).loc Cert.Reference27Ideal.main_arg33)
      ∧ r.2.mem ((c.tc : Thread Cert.Reference27Ideal.nD Cert.Reference27Ideal.τ).loc Cert.Reference27Ideal.main_arg34) = m ((c.tc : Thread Cert.Reference27Ideal.nD Cert.Reference27Ideal.τ).loc Cert.Reference27Ideal.main_arg34)
      ∧ r.2.mem ((c.tc : Thread Cert.Reference27Ideal.nD Cert.Reference27Ideal.τ).loc Cert.Reference27Ideal.main_arg35) = m ((c.tc : Thread Cert.Reference27Ideal.nD Cert.Reference27Ideal.τ).loc Cert.Reference27Ideal.main_arg35))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_v162) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v77) = v1 c
          ∧ r.2.mem ((c.tc : Thread Cert.Reference13Ideal.nD Cert.Reference13Ideal.τ).loc Cert.Reference13Ideal.main_v78) = v2 c
          ∧ r.2.mem ((c.tc : Thread Cert.Reference13Ideal.nD Cert.Reference13Ideal.τ).loc Cert.Reference13Ideal.main_v79) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)) (v3 : (c : Dev Cert.Kernel16Ideal.nD) → Buf (Elt Ideal) ((c.tc : Thread Cert.Kernel16Ideal.nD Cert.Kernel16Ideal.τ).loc Cert.Kernel16Ideal.main_v6_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_v6_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)) (v2 : (c : Dev Cert.Kernel17Ideal.nD) → Buf (Elt Ideal) ((c.tc : Thread Cert.Kernel17Ideal.nD Cert.Kernel17Ideal.τ).loc Cert.Kernel17Ideal.main_v8_2)) (v3 : (c : Dev Cert.Kernel17Ideal.nD) → Buf (Elt Ideal) ((c.tc : Thread Cert.Kernel17Ideal.nD Cert.Kernel17Ideal.τ).loc Cert.Kernel17Ideal.main_v8_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_v8_2) = v2 c
          ∧ r.2.mem ((c.tc : Thread Cert.Kernel17Ideal.nD Cert.Kernel17Ideal.τ).loc Cert.Kernel17Ideal.main_v8_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v6_0)) (v1 : (c : Dev Cert.Kernel19Ideal.nD) → Buf (Elt Ideal) ((c.tc : Thread Cert.Kernel19Ideal.nD Cert.Kernel19Ideal.τ).loc Cert.Kernel19Ideal.main_v6_1)) (v2 : (c : Dev Cert.Kernel19Ideal.nD) → Buf (Elt Ideal) ((c.tc : Thread Cert.Kernel19Ideal.nD Cert.Kernel19Ideal.τ).loc Cert.Kernel19Ideal.main_v6_2)) (v3 : (c : Dev Cert.Kernel19Ideal.nD) → Buf (Elt Ideal) ((c.tc : Thread Cert.Kernel19Ideal.nD Cert.Kernel19Ideal.τ).loc Cert.Kernel19Ideal.main_v6_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6_0) = v0 c
          ∧ r.2.mem ((c.tc : Thread Cert.Kernel19Ideal.nD Cert.Kernel19Ideal.τ).loc Cert.Kernel19Ideal.main_v6_1) = v1 c
          ∧ r.2.mem ((c.tc : Thread Cert.Kernel19Ideal.nD Cert.Kernel19Ideal.τ).loc Cert.Kernel19Ideal.main_v6_2) = v2 c
          ∧ r.2.mem ((c.tc : Thread Cert.Kernel19Ideal.nD Cert.Kernel19Ideal.τ).loc Cert.Kernel19Ideal.main_v6_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v15) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v7_0)) (v1 : (c : Dev Cert.Kernel22Ideal.nD) → Buf (Elt Ideal) ((c.tc : Thread Cert.Kernel22Ideal.nD Cert.Kernel22Ideal.τ).loc Cert.Kernel22Ideal.main_v7_1)) (v2 : (c : Dev Cert.Kernel22Ideal.nD) → Buf (Elt Ideal) ((c.tc : Thread Cert.Kernel22Ideal.nD Cert.Kernel22Ideal.τ).loc Cert.Kernel22Ideal.main_v7_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v7_0) = v0 c
          ∧ r.2.mem ((c.tc : Thread Cert.Kernel22Ideal.nD Cert.Kernel22Ideal.τ).loc Cert.Kernel22Ideal.main_v7_1) = v1 c
          ∧ r.2.mem ((c.tc : Thread Cert.Kernel22Ideal.nD Cert.Kernel22Ideal.τ).loc Cert.Kernel22Ideal.main_v7_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v16) = v1 c
          ∧ r.2.mem ((c.tc : Thread Cert.Reference22Ideal.nD Cert.Reference22Ideal.τ).loc Cert.Reference22Ideal.main_v30) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v10_0)) (v1 : (c : Dev Cert.Kernel23Ideal.nD) → Buf (Elt Ideal) ((c.tc : Thread Cert.Kernel23Ideal.nD Cert.Kernel23Ideal.τ).loc Cert.Kernel23Ideal.main_v10_1)) (v2 : (c : Dev Cert.Kernel23Ideal.nD) → Buf (Elt Ideal) ((c.tc : Thread Cert.Kernel23Ideal.nD Cert.Kernel23Ideal.τ).loc Cert.Kernel23Ideal.main_v10_2)) (v3 : (c : Dev Cert.Kernel23Ideal.nD) → Buf (Elt Ideal) ((c.tc : Thread Cert.Kernel23Ideal.nD Cert.Kernel23Ideal.τ).loc Cert.Kernel23Ideal.main_v10_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v10_0) = v0 c
          ∧ r.2.mem ((c.tc : Thread Cert.Kernel23Ideal.nD Cert.Kernel23Ideal.τ).loc Cert.Kernel23Ideal.main_v10_1) = v1 c
          ∧ r.2.mem ((c.tc : Thread Cert.Kernel23Ideal.nD Cert.Kernel23Ideal.τ).loc Cert.Kernel23Ideal.main_v10_2) = v2 c
          ∧ r.2.mem ((c.tc : Thread Cert.Kernel23Ideal.nD Cert.Kernel23Ideal.τ).loc Cert.Kernel23Ideal.main_v10_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v36) = v2 c
          ∧ r.2.mem ((c.tc : Thread Cert.Reference23Ideal.nD Cert.Reference23Ideal.τ).loc Cert.Reference23Ideal.main_v37) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v10_0)) (v1 : (c : Dev Cert.Kernel24Ideal.nD) → Buf (Elt Ideal) ((c.tc : Thread Cert.Kernel24Ideal.nD Cert.Kernel24Ideal.τ).loc Cert.Kernel24Ideal.main_v10_1)) (v2 : (c : Dev Cert.Kernel24Ideal.nD) → Buf (Elt Ideal) ((c.tc : Thread Cert.Kernel24Ideal.nD Cert.Kernel24Ideal.τ).loc Cert.Kernel24Ideal.main_v10_2)) (v3 : (c : Dev Cert.Kernel24Ideal.nD) → Buf (Elt Ideal) ((c.tc : Thread Cert.Kernel24Ideal.nD Cert.Kernel24Ideal.τ).loc Cert.Kernel24Ideal.main_v10_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v10_0) = v0 c
          ∧ r.2.mem ((c.tc : Thread Cert.Kernel24Ideal.nD Cert.Kernel24Ideal.τ).loc Cert.Kernel24Ideal.main_v10_1) = v1 c
          ∧ r.2.mem ((c.tc : Thread Cert.Kernel24Ideal.nD Cert.Kernel24Ideal.τ).loc Cert.Kernel24Ideal.main_v10_2) = v2 c
          ∧ r.2.mem ((c.tc : Thread Cert.Kernel24Ideal.nD Cert.Kernel24Ideal.τ).loc Cert.Kernel24Ideal.main_v10_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v3) = v1 c
          ∧ r.2.mem ((c.tc : Thread Cert.Reference24Ideal.nD Cert.Reference24Ideal.τ).loc Cert.Reference24Ideal.main_v12) = v2 c
          ∧ r.2.mem ((c.tc : Thread Cert.Reference24Ideal.nD Cert.Reference24Ideal.τ).loc Cert.Reference24Ideal.main_v26) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal_pre_finite_bounds [hKernel27Ideal : Cert.Kernel27Ideal.Facts] [hReference27Ideal : Cert.Reference27Ideal.Facts] [hPre_finite_bounds : Cert.Pre_finite_bounds.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_bounds m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)
      ∧ m' ((c.tc : Thread Cert.Reference27Ideal.nD Cert.Reference27Ideal.τ).loc Cert.Reference27Ideal.main_arg10) = m ((c.tc : Thread Cert.Kernel27Ideal.nD Cert.Kernel27Ideal.τ).loc Cert.Kernel27Ideal.main_arg10)
      ∧ m' ((c.tc : Thread Cert.Reference27Ideal.nD Cert.Reference27Ideal.τ).loc Cert.Reference27Ideal.main_arg11) = m ((c.tc : Thread Cert.Kernel27Ideal.nD Cert.Kernel27Ideal.τ).loc Cert.Kernel27Ideal.main_arg11)
      ∧ m' ((c.tc : Thread Cert.Reference27Ideal.nD Cert.Reference27Ideal.τ).loc Cert.Reference27Ideal.main_arg12) = m ((c.tc : Thread Cert.Kernel27Ideal.nD Cert.Kernel27Ideal.τ).loc Cert.Kernel27Ideal.main_arg12)
      ∧ m' ((c.tc : Thread Cert.Reference27Ideal.nD Cert.Reference27Ideal.τ).loc Cert.Reference27Ideal.main_arg13) = m ((c.tc : Thread Cert.Kernel27Ideal.nD Cert.Kernel27Ideal.τ).loc Cert.Kernel27Ideal.main_arg13)
      ∧ m' ((c.tc : Thread Cert.Reference27Ideal.nD Cert.Reference27Ideal.τ).loc Cert.Reference27Ideal.main_arg14) = m ((c.tc : Thread Cert.Kernel27Ideal.nD Cert.Kernel27Ideal.τ).loc Cert.Kernel27Ideal.main_arg14)
      ∧ m' ((c.tc : Thread Cert.Reference27Ideal.nD Cert.Reference27Ideal.τ).loc Cert.Reference27Ideal.main_arg15) = m ((c.tc : Thread Cert.Kernel27Ideal.nD Cert.Kernel27Ideal.τ).loc Cert.Kernel27Ideal.main_arg15)
      ∧ m' ((c.tc : Thread Cert.Reference27Ideal.nD Cert.Reference27Ideal.τ).loc Cert.Reference27Ideal.main_arg16) = m ((c.tc : Thread Cert.Kernel27Ideal.nD Cert.Kernel27Ideal.τ).loc Cert.Kernel27Ideal.main_arg16)
      ∧ m' ((c.tc : Thread Cert.Reference27Ideal.nD Cert.Reference27Ideal.τ).loc Cert.Reference27Ideal.main_arg17) = m ((c.tc : Thread Cert.Kernel27Ideal.nD Cert.Kernel27Ideal.τ).loc Cert.Kernel27Ideal.main_arg17)
      ∧ m' ((c.tc : Thread Cert.Reference27Ideal.nD Cert.Reference27Ideal.τ).loc Cert.Reference27Ideal.main_arg18) = m ((c.tc : Thread Cert.Kernel27Ideal.nD Cert.Kernel27Ideal.τ).loc Cert.Kernel27Ideal.main_arg18)
      ∧ m' ((c.tc : Thread Cert.Reference27Ideal.nD Cert.Reference27Ideal.τ).loc Cert.Reference27Ideal.main_arg19) = m ((c.tc : Thread Cert.Kernel27Ideal.nD Cert.Kernel27Ideal.τ).loc Cert.Kernel27Ideal.main_arg19)
      ∧ m' ((c.tc : Thread Cert.Reference27Ideal.nD Cert.Reference27Ideal.τ).loc Cert.Reference27Ideal.main_arg20) = m ((c.tc : Thread Cert.Kernel27Ideal.nD Cert.Kernel27Ideal.τ).loc Cert.Kernel27Ideal.main_arg20)
      ∧ m' ((c.tc : Thread Cert.Reference27Ideal.nD Cert.Reference27Ideal.τ).loc Cert.Reference27Ideal.main_arg21) = m ((c.tc : Thread Cert.Kernel27Ideal.nD Cert.Kernel27Ideal.τ).loc Cert.Kernel27Ideal.main_arg21)
      ∧ m' ((c.tc : Thread Cert.Reference27Ideal.nD Cert.Reference27Ideal.τ).loc Cert.Reference27Ideal.main_arg22) = m ((c.tc : Thread Cert.Kernel27Ideal.nD Cert.Kernel27Ideal.τ).loc Cert.Kernel27Ideal.main_arg22)
      ∧ m' ((c.tc : Thread Cert.Reference27Ideal.nD Cert.Reference27Ideal.τ).loc Cert.Reference27Ideal.main_arg23) = m ((c.tc : Thread Cert.Kernel27Ideal.nD Cert.Kernel27Ideal.τ).loc Cert.Kernel27Ideal.main_arg23)
      ∧ m' ((c.tc : Thread Cert.Reference27Ideal.nD Cert.Reference27Ideal.τ).loc Cert.Reference27Ideal.main_arg24) = m ((c.tc : Thread Cert.Kernel27Ideal.nD Cert.Kernel27Ideal.τ).loc Cert.Kernel27Ideal.main_arg24)
      ∧ m' ((c.tc : Thread Cert.Reference27Ideal.nD Cert.Reference27Ideal.τ).loc Cert.Reference27Ideal.main_arg25) = m ((c.tc : Thread Cert.Kernel27Ideal.nD Cert.Kernel27Ideal.τ).loc Cert.Kernel27Ideal.main_arg25)
      ∧ m' ((c.tc : Thread Cert.Reference27Ideal.nD Cert.Reference27Ideal.τ).loc Cert.Reference27Ideal.main_arg26) = m ((c.tc : Thread Cert.Kernel27Ideal.nD Cert.Kernel27Ideal.τ).loc Cert.Kernel27Ideal.main_arg26)
      ∧ m' ((c.tc : Thread Cert.Reference27Ideal.nD Cert.Reference27Ideal.τ).loc Cert.Reference27Ideal.main_arg27) = m ((c.tc : Thread Cert.Kernel27Ideal.nD Cert.Kernel27Ideal.τ).loc Cert.Kernel27Ideal.main_arg27)
      ∧ m' ((c.tc : Thread Cert.Reference27Ideal.nD Cert.Reference27Ideal.τ).loc Cert.Reference27Ideal.main_arg28) = m ((c.tc : Thread Cert.Kernel27Ideal.nD Cert.Kernel27Ideal.τ).loc Cert.Kernel27Ideal.main_arg28)
      ∧ m' ((c.tc : Thread Cert.Reference27Ideal.nD Cert.Reference27Ideal.τ).loc Cert.Reference27Ideal.main_arg29) = m ((c.tc : Thread Cert.Kernel27Ideal.nD Cert.Kernel27Ideal.τ).loc Cert.Kernel27Ideal.main_arg29)
      ∧ m' ((c.tc : Thread Cert.Reference27Ideal.nD Cert.Reference27Ideal.τ).loc Cert.Reference27Ideal.main_arg30) = m ((c.tc : Thread Cert.Kernel27Ideal.nD Cert.Kernel27Ideal.τ).loc Cert.Kernel27Ideal.main_arg30)
      ∧ m' ((c.tc : Thread Cert.Reference27Ideal.nD Cert.Reference27Ideal.τ).loc Cert.Reference27Ideal.main_arg31) = m ((c.tc : Thread Cert.Kernel27Ideal.nD Cert.Kernel27Ideal.τ).loc Cert.Kernel27Ideal.main_arg31)
      ∧ m' ((c.tc : Thread Cert.Reference27Ideal.nD Cert.Reference27Ideal.τ).loc Cert.Reference27Ideal.main_arg32) = m ((c.tc : Thread Cert.Kernel27Ideal.nD Cert.Kernel27Ideal.τ).loc Cert.Kernel27Ideal.main_arg32)
      ∧ m' ((c.tc : Thread Cert.Reference27Ideal.nD Cert.Reference27Ideal.τ).loc Cert.Reference27Ideal.main_arg33) = m ((c.tc : Thread Cert.Kernel27Ideal.nD Cert.Kernel27Ideal.τ).loc Cert.Kernel27Ideal.main_arg33)
      ∧ m' ((c.tc : Thread Cert.Reference27Ideal.nD Cert.Reference27Ideal.τ).loc Cert.Reference27Ideal.main_arg34) = m ((c.tc : Thread Cert.Kernel27Ideal.nD Cert.Kernel27Ideal.τ).loc Cert.Kernel27Ideal.main_arg34)
      ∧ m' ((c.tc : Thread Cert.Reference27Ideal.nD Cert.Reference27Ideal.τ).loc Cert.Reference27Ideal.main_arg35) = m ((c.tc : Thread Cert.Kernel27Ideal.nD Cert.Kernel27Ideal.τ).loc Cert.Kernel27Ideal.main_arg35)) →
    ∃ (v0 : (c : Dev Cert.Kernel27Ideal.nD) → Buf (Elt Ideal) ((c.tc : Thread Cert.Kernel27Ideal.nD Cert.Kernel27Ideal.τ).loc Cert.Kernel27Ideal.main_v44_0)) (v1 : (c : Dev Cert.Kernel27Ideal.nD) → Buf (Elt Ideal) ((c.tc : Thread Cert.Kernel27Ideal.nD Cert.Kernel27Ideal.τ).loc Cert.Kernel27Ideal.main_v44_1)) (v2 : (c : Dev Cert.Kernel27Ideal.nD) → Buf (Elt Ideal) ((c.tc : Thread Cert.Kernel27Ideal.nD Cert.Kernel27Ideal.τ).loc Cert.Kernel27Ideal.main_v44_2)) (v3 : (c : Dev Cert.Kernel27Ideal.nD) → Buf (Elt Ideal) ((c.tc : Thread Cert.Kernel27Ideal.nD Cert.Kernel27Ideal.τ).loc Cert.Kernel27Ideal.main_v44_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v44_0) = v0 c
          ∧ r.2.mem ((c.tc : Thread Cert.Kernel27Ideal.nD Cert.Kernel27Ideal.τ).loc Cert.Kernel27Ideal.main_v44_1) = v1 c
          ∧ r.2.mem ((c.tc : Thread Cert.Kernel27Ideal.nD Cert.Kernel27Ideal.τ).loc Cert.Kernel27Ideal.main_v44_2) = v2 c
          ∧ r.2.mem ((c.tc : Thread Cert.Kernel27Ideal.nD Cert.Kernel27Ideal.τ).loc Cert.Kernel27Ideal.main_v44_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
          ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
          ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
          ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
          ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
          ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
          ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
          ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
          ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
          ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
          ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
          ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
          ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
          ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
          ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
          ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
          ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
          ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
          ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27)
          ∧ r.2.mem ((c.tc : Thread Cert.Kernel27Ideal.nD Cert.Kernel27Ideal.τ).loc Cert.Kernel27Ideal.main_arg28) = m ((c.tc : Thread Cert.Kernel27Ideal.nD Cert.Kernel27Ideal.τ).loc Cert.Kernel27Ideal.main_arg28)
          ∧ r.2.mem ((c.tc : Thread Cert.Kernel27Ideal.nD Cert.Kernel27Ideal.τ).loc Cert.Kernel27Ideal.main_arg29) = m ((c.tc : Thread Cert.Kernel27Ideal.nD Cert.Kernel27Ideal.τ).loc Cert.Kernel27Ideal.main_arg29)
          ∧ r.2.mem ((c.tc : Thread Cert.Kernel27Ideal.nD Cert.Kernel27Ideal.τ).loc Cert.Kernel27Ideal.main_arg30) = m ((c.tc : Thread Cert.Kernel27Ideal.nD Cert.Kernel27Ideal.τ).loc Cert.Kernel27Ideal.main_arg30)
          ∧ r.2.mem ((c.tc : Thread Cert.Kernel27Ideal.nD Cert.Kernel27Ideal.τ).loc Cert.Kernel27Ideal.main_arg31) = m ((c.tc : Thread Cert.Kernel27Ideal.nD Cert.Kernel27Ideal.τ).loc Cert.Kernel27Ideal.main_arg31)
          ∧ r.2.mem ((c.tc : Thread Cert.Kernel27Ideal.nD Cert.Kernel27Ideal.τ).loc Cert.Kernel27Ideal.main_arg32) = m ((c.tc : Thread Cert.Kernel27Ideal.nD Cert.Kernel27Ideal.τ).loc Cert.Kernel27Ideal.main_arg32)
          ∧ r.2.mem ((c.tc : Thread Cert.Kernel27Ideal.nD Cert.Kernel27Ideal.τ).loc Cert.Kernel27Ideal.main_arg33) = m ((c.tc : Thread Cert.Kernel27Ideal.nD Cert.Kernel27Ideal.τ).loc Cert.Kernel27Ideal.main_arg33)
          ∧ r.2.mem ((c.tc : Thread Cert.Kernel27Ideal.nD Cert.Kernel27Ideal.τ).loc Cert.Kernel27Ideal.main_arg34) = m ((c.tc : Thread Cert.Kernel27Ideal.nD Cert.Kernel27Ideal.τ).loc Cert.Kernel27Ideal.main_arg34)
          ∧ r.2.mem ((c.tc : Thread Cert.Kernel27Ideal.nD Cert.Kernel27Ideal.τ).loc Cert.Kernel27Ideal.main_arg35) = m ((c.tc : Thread Cert.Kernel27Ideal.nD Cert.Kernel27Ideal.τ).loc Cert.Kernel27Ideal.main_arg35))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v277) = v0 c
          ∧ r.2.mem ((c.tc : Thread Cert.Reference27Ideal.nD Cert.Reference27Ideal.τ).loc Cert.Reference27Ideal.main_v288) = v1 c
          ∧ r.2.mem ((c.tc : Thread Cert.Reference27Ideal.nD Cert.Reference27Ideal.τ).loc Cert.Reference27Ideal.main_v299) = v2 c
          ∧ r.2.mem ((c.tc : Thread Cert.Reference27Ideal.nD Cert.Reference27Ideal.τ).loc Cert.Reference27Ideal.main_v310) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9)
          ∧ r.2.mem ((c.tc : Thread Cert.Reference27Ideal.nD Cert.Reference27Ideal.τ).loc Cert.Reference27Ideal.main_arg10) = m' ((c.tc : Thread Cert.Reference27Ideal.nD Cert.Reference27Ideal.τ).loc Cert.Reference27Ideal.main_arg10)
          ∧ r.2.mem ((c.tc : Thread Cert.Reference27Ideal.nD Cert.Reference27Ideal.τ).loc Cert.Reference27Ideal.main_arg11) = m' ((c.tc : Thread Cert.Reference27Ideal.nD Cert.Reference27Ideal.τ).loc Cert.Reference27Ideal.main_arg11)
          ∧ r.2.mem ((c.tc : Thread Cert.Reference27Ideal.nD Cert.Reference27Ideal.τ).loc Cert.Reference27Ideal.main_arg12) = m' ((c.tc : Thread Cert.Reference27Ideal.nD Cert.Reference27Ideal.τ).loc Cert.Reference27Ideal.main_arg12)
          ∧ r.2.mem ((c.tc : Thread Cert.Reference27Ideal.nD Cert.Reference27Ideal.τ).loc Cert.Reference27Ideal.main_arg13) = m' ((c.tc : Thread Cert.Reference27Ideal.nD Cert.Reference27Ideal.τ).loc Cert.Reference27Ideal.main_arg13)
          ∧ r.2.mem ((c.tc : Thread Cert.Reference27Ideal.nD Cert.Reference27Ideal.τ).loc Cert.Reference27Ideal.main_arg14) = m' ((c.tc : Thread Cert.Reference27Ideal.nD Cert.Reference27Ideal.τ).loc Cert.Reference27Ideal.main_arg14)
          ∧ r.2.mem ((c.tc : Thread Cert.Reference27Ideal.nD Cert.Reference27Ideal.τ).loc Cert.Reference27Ideal.main_arg15) = m' ((c.tc : Thread Cert.Reference27Ideal.nD Cert.Reference27Ideal.τ).loc Cert.Reference27Ideal.main_arg15)
          ∧ r.2.mem ((c.tc : Thread Cert.Reference27Ideal.nD Cert.Reference27Ideal.τ).loc Cert.Reference27Ideal.main_arg16) = m' ((c.tc : Thread Cert.Reference27Ideal.nD Cert.Reference27Ideal.τ).loc Cert.Reference27Ideal.main_arg16)
          ∧ r.2.mem ((c.tc : Thread Cert.Reference27Ideal.nD Cert.Reference27Ideal.τ).loc Cert.Reference27Ideal.main_arg17) = m' ((c.tc : Thread Cert.Reference27Ideal.nD Cert.Reference27Ideal.τ).loc Cert.Reference27Ideal.main_arg17)
          ∧ r.2.mem ((c.tc : Thread Cert.Reference27Ideal.nD Cert.Reference27Ideal.τ).loc Cert.Reference27Ideal.main_arg18) = m' ((c.tc : Thread Cert.Reference27Ideal.nD Cert.Reference27Ideal.τ).loc Cert.Reference27Ideal.main_arg18)
          ∧ r.2.mem ((c.tc : Thread Cert.Reference27Ideal.nD Cert.Reference27Ideal.τ).loc Cert.Reference27Ideal.main_arg19) = m' ((c.tc : Thread Cert.Reference27Ideal.nD Cert.Reference27Ideal.τ).loc Cert.Reference27Ideal.main_arg19)
          ∧ r.2.mem ((c.tc : Thread Cert.Reference27Ideal.nD Cert.Reference27Ideal.τ).loc Cert.Reference27Ideal.main_arg20) = m' ((c.tc : Thread Cert.Reference27Ideal.nD Cert.Reference27Ideal.τ).loc Cert.Reference27Ideal.main_arg20)
          ∧ r.2.mem ((c.tc : Thread Cert.Reference27Ideal.nD Cert.Reference27Ideal.τ).loc Cert.Reference27Ideal.main_arg21) = m' ((c.tc : Thread Cert.Reference27Ideal.nD Cert.Reference27Ideal.τ).loc Cert.Reference27Ideal.main_arg21)
          ∧ r.2.mem ((c.tc : Thread Cert.Reference27Ideal.nD Cert.Reference27Ideal.τ).loc Cert.Reference27Ideal.main_arg22) = m' ((c.tc : Thread Cert.Reference27Ideal.nD Cert.Reference27Ideal.τ).loc Cert.Reference27Ideal.main_arg22)
          ∧ r.2.mem ((c.tc : Thread Cert.Reference27Ideal.nD Cert.Reference27Ideal.τ).loc Cert.Reference27Ideal.main_arg23) = m' ((c.tc : Thread Cert.Reference27Ideal.nD Cert.Reference27Ideal.τ).loc Cert.Reference27Ideal.main_arg23)
          ∧ r.2.mem ((c.tc : Thread Cert.Reference27Ideal.nD Cert.Reference27Ideal.τ).loc Cert.Reference27Ideal.main_arg24) = m' ((c.tc : Thread Cert.Reference27Ideal.nD Cert.Reference27Ideal.τ).loc Cert.Reference27Ideal.main_arg24)
          ∧ r.2.mem ((c.tc : Thread Cert.Reference27Ideal.nD Cert.Reference27Ideal.τ).loc Cert.Reference27Ideal.main_arg25) = m' ((c.tc : Thread Cert.Reference27Ideal.nD Cert.Reference27Ideal.τ).loc Cert.Reference27Ideal.main_arg25)
          ∧ r.2.mem ((c.tc : Thread Cert.Reference27Ideal.nD Cert.Reference27Ideal.τ).loc Cert.Reference27Ideal.main_arg26) = m' ((c.tc : Thread Cert.Reference27Ideal.nD Cert.Reference27Ideal.τ).loc Cert.Reference27Ideal.main_arg26)
          ∧ r.2.mem ((c.tc : Thread Cert.Reference27Ideal.nD Cert.Reference27Ideal.τ).loc Cert.Reference27Ideal.main_arg27) = m' ((c.tc : Thread Cert.Reference27Ideal.nD Cert.Reference27Ideal.τ).loc Cert.Reference27Ideal.main_arg27)
          ∧ r.2.mem ((c.tc : Thread Cert.Reference27Ideal.nD Cert.Reference27Ideal.τ).loc Cert.Reference27Ideal.main_arg28) = m' ((c.tc : Thread Cert.Reference27Ideal.nD Cert.Reference27Ideal.τ).loc Cert.Reference27Ideal.main_arg28)
          ∧ r.2.mem ((c.tc : Thread Cert.Reference27Ideal.nD Cert.Reference27Ideal.τ).loc Cert.Reference27Ideal.main_arg29) = m' ((c.tc : Thread Cert.Reference27Ideal.nD Cert.Reference27Ideal.τ).loc Cert.Reference27Ideal.main_arg29)
          ∧ r.2.mem ((c.tc : Thread Cert.Reference27Ideal.nD Cert.Reference27Ideal.τ).loc Cert.Reference27Ideal.main_arg30) = m' ((c.tc : Thread Cert.Reference27Ideal.nD Cert.Reference27Ideal.τ).loc Cert.Reference27Ideal.main_arg30)
          ∧ r.2.mem ((c.tc : Thread Cert.Reference27Ideal.nD Cert.Reference27Ideal.τ).loc Cert.Reference27Ideal.main_arg31) = m' ((c.tc : Thread Cert.Reference27Ideal.nD Cert.Reference27Ideal.τ).loc Cert.Reference27Ideal.main_arg31)
          ∧ r.2.mem ((c.tc : Thread Cert.Reference27Ideal.nD Cert.Reference27Ideal.τ).loc Cert.Reference27Ideal.main_arg32) = m' ((c.tc : Thread Cert.Reference27Ideal.nD Cert.Reference27Ideal.τ).loc Cert.Reference27Ideal.main_arg32)
          ∧ r.2.mem ((c.tc : Thread Cert.Reference27Ideal.nD Cert.Reference27Ideal.τ).loc Cert.Reference27Ideal.main_arg33) = m' ((c.tc : Thread Cert.Reference27Ideal.nD Cert.Reference27Ideal.τ).loc Cert.Reference27Ideal.main_arg33)
          ∧ r.2.mem ((c.tc : Thread Cert.Reference27Ideal.nD Cert.Reference27Ideal.τ).loc Cert.Reference27Ideal.main_arg34) = m' ((c.tc : Thread Cert.Reference27Ideal.nD Cert.Reference27Ideal.τ).loc Cert.Reference27Ideal.main_arg34)
          ∧ r.2.mem ((c.tc : Thread Cert.Reference27Ideal.nD Cert.Reference27Ideal.τ).loc Cert.Reference27Ideal.main_arg35) = m' ((c.tc : Thread Cert.Reference27Ideal.nD Cert.Reference27Ideal.τ).loc Cert.Reference27Ideal.main_arg35))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v11_0)) (v1 : (c : Dev Cert.Kernel28Ideal.nD) → Buf (Elt Ideal) ((c.tc : Thread Cert.Kernel28Ideal.nD Cert.Kernel28Ideal.τ).loc Cert.Kernel28Ideal.main_v11_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v11_0) = v0 c
          ∧ r.2.mem ((c.tc : Thread Cert.Kernel28Ideal.nD Cert.Kernel28Ideal.τ).loc Cert.Kernel28Ideal.main_v11_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v15) = v0 c
          ∧ r.2.mem ((c.tc : Thread Cert.Reference28Ideal.nD Cert.Reference28Ideal.τ).loc Cert.Reference28Ideal.main_v18) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v6)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v6) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v35) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v5_0)) (v1 : (c : Dev Cert.Kernel30Ideal.nD) → Buf (Elt Ideal) ((c.tc : Thread Cert.Kernel30Ideal.nD Cert.Kernel30Ideal.τ).loc Cert.Kernel30Ideal.main_v5_1)) (v2 : (c : Dev Cert.Kernel30Ideal.nD) → Buf (Elt Ideal) ((c.tc : Thread Cert.Kernel30Ideal.nD Cert.Kernel30Ideal.τ).loc Cert.Kernel30Ideal.main_v5_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v5_0) = v0 c
          ∧ r.2.mem ((c.tc : Thread Cert.Kernel30Ideal.nD Cert.Kernel30Ideal.τ).loc Cert.Kernel30Ideal.main_v5_1) = v1 c
          ∧ r.2.mem ((c.tc : Thread Cert.Kernel30Ideal.nD Cert.Kernel30Ideal.τ).loc Cert.Kernel30Ideal.main_v5_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v41) = v0 c
          ∧ r.2.mem ((c.tc : Thread Cert.Reference30Ideal.nD Cert.Reference30Ideal.τ).loc Cert.Reference30Ideal.main_v44) = v1 c
          ∧ r.2.mem ((c.tc : Thread Cert.Reference30Ideal.nD Cert.Reference30Ideal.τ).loc Cert.Reference30Ideal.main_v47) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v19)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v19) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v102) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel6 : Cert.Kernel6.Facts) (hKernel6Ideal : Cert.Kernel6Ideal.Facts) (hReference6Ideal : Cert.Reference6Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite_ffn : Cert.Pre_finite_ffn.Facts) (hPre_finite_bounds : Cert.Pre_finite_bounds.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_bounds (hKernel27Ideal := hKernel27Ideal) (hPre_finite_bounds := hPre_finite_bounds)
    ∧ quiescent_Reference27Ideal (hReference27Ideal := hReference27Ideal)
    ∧ quiescent_Reference27Ideal_pre_finite_bounds (hReference27Ideal := hReference27Ideal) (hPre_finite_bounds := hPre_finite_bounds)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel6_Kernel6Ideal
    ∧ algebraic_Kernel6Ideal_Reference6Ideal (hKernel6Ideal := hKernel6Ideal) (hReference6Ideal := hReference6Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite_bounds (hKernel27Ideal := hKernel27Ideal) (hReference27Ideal := hReference27Ideal) (hPre_finite_bounds := hPre_finite_bounds)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S1x4096x16x64 : Shape := ⟨4, ![1, 4096, 16, 64]⟩
abbrev S1x4096x4x64 : Shape := ⟨4, ![1, 4096, 4, 64]⟩
abbrev S16 : Shape := ⟨1, ![16]⟩
abbrev S1x4096x1024 : Shape := ⟨3, ![1, 4096, 1024]⟩
abbrev S_ : Shape := ⟨0, ![]⟩

class Facts : Prop where
  bcast_S_S1x4096x16x64 : S_.BroadcastsInDim S1x4096x16x64 (![] : Fin 0 → Fin S1x4096x16x64.rank)
  bcast_S_S1x4096x4x64 : S_.BroadcastsInDim S1x4096x4x64 (![] : Fin 0 → Fin S1x4096x4x64.rank)
  bcast_S_S16 : S_.BroadcastsInDim S16 (![] : Fin 0 → Fin S16.rank)
  bcast_S_S1x4096x1024 : S_.BroadcastsInDim S1x4096x1024 (![] : Fin 0 → Fin S1x4096x1024.rank)

variable [Facts]

def fn_part1 {F : FTy → Type} [FloatOps F] (main_arg3 : FVec F S16 .f32) (main_arg4 : FVec F S1x4096x1024 .f32) (main_v4 : IVec S1x4096x16x64 1) (main_v9 : IVec S1x4096x4x64 1) (main_v14 : IVec S1x4096x4x64 1) (main_v16 : IVec S16 1) : IVec S1x4096x16x64 1 × IVec S1x4096x4x64 1 × IVec S1x4096x4x64 1 × IVec S16 1 × IVec S1x4096x1024 1 :=
  let main_cst_6 : FVec F S_ .f32 := constant S_ .f32 0x7F800000#32
  let main_v17 : FVec F S16 .f32 := broadcastInDim S16 ![] bcast_S_S16 main_cst_6
  let main_v18 : IVec S16 1 := cmpf .olt main_arg3 main_v17
  let main_v19 : IVec S16 1 := andi main_v16 main_v18
  let main_cst_7 : FVec F S_ .f32 := constant S_ .f32 0xFF800000#32
  let main_v20 : FVec F S1x4096x1024 .f32 := broadcastInDim S1x4096x1024 ![] bcast_S_S1x4096x1024 main_cst_7
  let main_v21 : IVec S1x4096x1024 1 := cmpf .ogt main_arg4 main_v20
  let main_cst_8 : FVec F S_ .f32 := constant S_ .f32 0x7F800000#32
  let main_v22 : FVec F S1x4096x1024 .f32 := broadcastInDim S1x4096x1024 ![] bcast_S_S1x4096x1024 main_cst_8
  let main_v23 : IVec S1x4096x1024 1 := cmpf .olt main_arg4 main_v22
  let main_v24 : IVec S1x4096x1024 1 := andi main_v21 main_v23
  (main_v4, main_v9, main_v14, main_v19, main_v24)

def fn {F : FTy → Type} [FloatOps F] (main_arg0 : FVec F S1x4096x16x64 .f32) (main_arg1 : FVec F S1x4096x4x64 .f32) (main_arg2 : FVec F S1x4096x4x64 .f32) (main_arg3 : FVec F S16 .f32) (main_arg4 : FVec F S1x4096x1024 .f32) : IVec S1x4096x16x64 1 × IVec S1x4096x4x64 1 × IVec S1x4096x4x64 1 × IVec S16 1 × IVec S1x4096x1024 1 :=
  let main_cst : FVec F S_ .f32 := constant S_ .f32 0xFF800000#32
  let main_v0 : FVec F S1x4096x16x64 .f32 := broadcastInDim S1x4096x16x64 ![] bcast_S_S1x4096x16x64 main_cst
  let main_v1 : IVec S1x4096x16x64 1 := cmpf .ogt main_arg0 main_v0
  let main_cst_0 : FVec F S_ .f32 := constant S_ .f32 0x7F800000#32
  let main_v2 : FVec F S1x4096x16x64 .f32 := broadcastInDim S1x4096x16x64 ![] bcast_S_S1x4096x16x64 main_cst_0
  let main_v3 : IVec S1x4096x16x64 1 := cmpf .olt main_arg0 main_v2
  let main_v4 : IVec S1x4096x16x64 1 := andi main_v1 main_v3
  let main_cst_1 : FVec F S_ .f32 := constant S_ .f32 0xFF800000#32
  let main_v5 : FVec F S1x4096x4x64 .f32 := broadcastInDim S1x4096x4x64 ![] bcast_S_S1x4096x4x64 main_cst_1
  let main_v6 : IVec S1x4096x4x64 1 := cmpf .ogt main_arg1 main_v5
  let main_cst_2 : FVec F S_ .f32 := constant S_ .f32 0x7F800000#32
  let main_v7 : FVec F S1x4096x4x64 .f32 := broadcastInDim S1x4096x4x64 ![] bcast_S_S1x4096x4x64 main_cst_2
  let main_v8 : IVec S1x4096x4x64 1 := cmpf .olt main_arg1 main_v7
  let main_v9 : IVec S1x4096x4x64 1 := andi main_v6 main_v8
  let main_cst_3 : FVec F S_ .f32 := constant S_ .f32 0xFF800000#32
  let main_v10 : FVec F S1x4096x4x64 .f32 := broadcastInDim S1x4096x4x64 ![] bcast_S_S1x4096x4x64 main_cst_3
  let main_v11 : IVec S1x4096x4x64 1 := cmpf .ogt main_arg2 main_v10
  let main_cst_4 : FVec F S_ .f32 := constant S_ .f32 0x7F800000#32
  let main_v12 : FVec F S1x4096x4x64 .f32 := broadcastInDim S1x4096x4x64 ![] bcast_S_S1x4096x4x64 main_cst_4
  let main_v13 : IVec S1x4096x4x64 1 := cmpf .olt main_arg2 main_v12
  let main_v14 : IVec S1x4096x4x64 1 := andi main_v11 main_v13
  let main_cst_5 : FVec F S_ .f32 := constant S_ .f32 0xFF800000#32
  let main_v15 : FVec F S16 .f32 := broadcastInDim S16 ![] bcast_S_S16 main_cst_5
  let main_v16 : IVec S16 1 := cmpf .ogt main_arg3 main_v15
  fn_part1 (F := F) main_arg3 main_arg4 main_v4 main_v9 main_v14 main_v16
-- ==== Pre_finite_bounds.lean ====
abbrev S2x2048 : Shape := ⟨2, ![2, 2048]⟩
abbrev S2x1024 : Shape := ⟨2, ![2, 1024]⟩
abbrev S2x16 : Shape := ⟨2, ![2, 16]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S2x2048 .f32) (main_arg1 : FVec F S2x2048 .f32) (main_arg2 : FVec F S2x2048 .f32) (main_arg3 : FVec F S2x2048 .f32) (main_arg4 : FVec F S2x2048 .f32) (main_arg5 : FVec F S2x1024 .f32) (main_arg6 : FVec F S2x1024 .f32) (main_arg7 : FVec F S2x1024 .f32) (main_arg8 : FVec F S2x16 .f32) (main_arg9 : FVec F S2x2048 .f32) (main_arg10 : FVec F S2x2048 .f32) (main_arg11 : FVec F S2x2048 .f32) (main_arg12 : FVec F S2x2048 .f32) (main_arg13 : FVec F S2x2048 .f32) (main_arg14 : FVec F S2x1024 .f32) (main_arg15 : FVec F S2x1024 .f32) (main_arg16 : FVec F S2x1024 .f32) (main_arg17 : FVec F S2x16 .f32) (main_arg18 : FVec F S2x2048 .f32) (main_arg19 : FVec F S2x2048 .f32) (main_arg20 : FVec F S2x2048 .f32) (main_arg21 : FVec F S2x2048 .f32) (main_arg22 : FVec F S2x2048 .f32) (main_arg23 : FVec F S2x1024 .f32) (main_arg24 : FVec F S2x1024 .f32) (main_arg25 : FVec F S2x1024 .f32) (main_arg26 : FVec F S2x16 .f32) (main_arg27 : FVec F S2x2048 .f32) (main_arg28 : FVec F S2x2048 .f32) (main_arg29 : FVec F S2x2048 .f32) (main_arg30 : FVec F S2x2048 .f32) (main_arg31 : FVec F S2x2048 .f32) (main_arg32 : FVec F S2x1024 .f32) (main_arg33 : FVec F S2x1024 .f32) (main_arg34 : FVec F S2x1024 .f32) (main_arg35 : FVec F S2x16 .f32) : IVec S2x1024 1 × IVec S2x1024 1 :=
  let main_cst : FVec F S_ .f32 := constant S_ .f32 0xFF800000#32
  let main_v0 : FVec F S2x1024 .f32 := broadcastInDim S2x1024 ![] bcast_S_S2x1024 main_cst
  let main_v1 : IVec S2x1024 1 := cmpf .ogt main_arg7 main_v0
  let main_cst_0 : FVec F S_ .f32 := constant S_ .f32 0x7F800000#32
  let main_v2 : FVec F S2x1024 .f32 := broadcastInDim S2x1024 ![] bcast_S_S2x1024 main_cst_0
  let main_v3 : IVec S2x1024 1 := cmpf .olt main_arg7 main_v2
  let main_v4 : IVec S2x1024 1 := andi main_v1 main_v3
  let main_cst_1 : FVec F S_ .f32 := constant S_ .f32 0xFF800000#32
  let main_v5 : FVec F S2x1024 .f32 := broadcastInDim S2x1024 ![] bcast_S_S2x1024 main_cst_1
  let main_v6 : IVec S2x1024 1 := cmpf .ogt main_arg16 main_v5
  let main_cst_2 : FVec F S_ .f32 := constant S_ .f32 0x7F800000#32
  let main_v7 : FVec F S2x1024 .f32 := broadcastInDim S2x1024 ![] bcast_S_S2x1024 main_cst_2
  let main_v8 : IVec S2x1024 1 := cmpf .olt main_arg16 main_v7
  let main_v9 : IVec S2x1024 1 := andi main_v6 main_v8
  (main_v4, main_v9)
-- ==== Pre_finite_ffn.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S_ : Shape := ⟨0, ![]⟩

class Facts : Prop where
  bcast_S_S1x4096x5632 : S_.BroadcastsInDim S1x4096x5632 (![] : Fin 0 → Fin S1x4096x5632.rank)
  bcast_S_S5632x2048 : S_.BroadcastsInDim S5632x2048 (![] : Fin 0 → Fin S5632x2048.rank)
  bcast_S_S1x4096x2048 : S_.BroadcastsInDim S1x4096x2048 (![] : Fin 0 → Fin S1x4096x2048.rank)

variable [Facts]

def fn_part1 {F : FTy → Type} [FloatOps F] (main_arg3 : FVec F S1x4096x2048 .f32) (main_v4 : IVec S1x4096x5632 1) (main_v9 : IVec S1x4096x5632 1) (main_v14 : IVec S5632x2048 1) (main_v16 : IVec S1x4096x2048 1) : IVec S1x4096x5632 1 × IVec S1x4096x5632 1 × IVec S5632x2048 1 × IVec S1x4096x2048 1 :=
  let main_cst_6 : FVec F S_ .f32 := constant S_ .f32 0x7F800000#32
  let main_v17 : FVec F S1x4096x2048 .f32 := broadcastInDim S1x4096x2048 ![] bcast_S_S1x4096x2048 main_cst_6
  let main_v18 : IVec S1x4096x2048 1 := cmpf .olt main_arg3 main_v17
  let main_v19 : IVec S1x4096x2048 1 := andi main_v16 main_v18
  (main_v4, main_v9, main_v14, main_v19)

def fn {F : FTy → Type} [FloatOps F] (main_arg0 : FVec F S1x4096x5632 .f32) (main_arg1 : FVec F S1x4096x5632 .f32) (main_arg2 : FVec F S5632x2048 .f32) (main_arg3 : FVec F S1x4096x2048 .f32) : IVec S1x4096x5632 1 × IVec S1x4096x5632 1 × IVec S5632x2048 1 × IVec S1x4096x2048 1 :=
  let main_cst : FVec F S_ .f32 := constant S_ .f32 0xFF800000#32
  let main_v0 : FVec F S1x4096x5632 .f32 := broadcastInDim S1x4096x5632 ![] bcast_S_S1x4096x5632 main_cst
  let main_v1 : IVec S1x4096x5632 1 := cmpf .ogt main_arg0 main_v0
  let main_cst_0 : FVec F S_ .f32 := constant S_ .f32 0x7F800000#32
  let main_v2 : FVec F S1x4096x5632 .f32 := broadcastInDim S1x4096x5632 ![] bcast_S_S1x4096x5632 main_cst_0
  let main_v3 : IVec S1x4096x5632 1 := cmpf .olt main_arg0 main_v2
  let main_v4 : IVec S1x4096x5632 1 := andi main_v1 main_v3
  let main_cst_1 : FVec F S_ .f32 := constant S_ .f32 0xFF800000#32
  let main_v5 : FVec F S1x4096x5632 .f32 := broadcastInDim S1x4096x5632 ![] bcast_S_S1x4096x5632 main_cst_1
  let main_v6 : IVec S1x4096x5632 1 := cmpf .ogt main_arg1 main_v5
  let main_cst_2 : FVec F S_ .f32 := constant S_ .f32 0x7F800000#32
  let main_v7 : FVec F S1x4096x5632 .f32 := broadcastInDim S1x4096x5632 ![] bcast_S_S1x4096x5632 main_cst_2
  let main_v8 : IVec S1x4096x5632 1 := cmpf .olt main_arg1 main_v7
  let main_v9 : IVec S1x4096x5632 1 := andi main_v6 main_v8
  let main_cst_3 : FVec F S_ .f32 := constant S_ .f32 0xFF800000#32
  let main_v10 : FVec F S5632x2048 .f32 := broadcastInDim S5632x2048 ![] bcast_S_S5632x2048 main_cst_3
  let main_v11 : IVec S5632x2048 1 := cmpf .ogt main_arg2 main_v10
  let main_cst_4 : FVec F S_ .f32 := constant S_ .f32 0x7F800000#32
  let main_v12 : FVec F S5632x2048 .f32 := broadcastInDim S5632x2048 ![] bcast_S_S5632x2048 main_cst_4
  let main_v13 : IVec S5632x2048 1 := cmpf .olt main_arg2 main_v12
  let main_v14 : IVec S5632x2048 1 := andi main_v11 main_v13
  let main_cst_5 : FVec F S_ .f32 := constant S_ .f32 0xFF800000#32
  let main_v15 : FVec F S1x4096x2048 .f32 := broadcastInDim S1x4096x2048 ![] bcast_S_S1x4096x2048 main_cst_5
  let main_v16 : IVec S1x4096x2048 1 := cmpf .ogt main_arg3 main_v15
  fn_part1 (F := F) main_arg3 main_v4 main_v9 main_v14 main_v16
-- ==== Kernel.lean ====
abbrev S1x4096x16x64 : Shape := ⟨4, ![1, 4096, 16, 64]⟩
abbrev S1x4096x4x64 : Shape := ⟨4, ![1, 4096, 4, 64]⟩
abbrev S16 : Shape := ⟨1, ![16]⟩
abbrev S1x4096x1024 : Shape := ⟨3, ![1, 4096, 1024]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S4096x4x64 : Shape := ⟨3, ![4096, 4, 64]⟩
abbrev S4096x4x128 : Shape := ⟨3, ![4096, 4, 128]⟩
abbrev S4096x512 : Shape := ⟨2, ![4096, 512]⟩
abbrev S4096x1024 : Shape := ⟨2, ![4096, 1024]⟩
abbrev S1x128 : Shape := ⟨2, ![1, 128]⟩
abbrev S128x2048 : Shape := ⟨2, ![128, 2048]⟩
abbrev S128x512 : Shape := ⟨2, ![128, 512]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S1 : Shape := ⟨1, ![1]⟩
abbrev S128 : Shape := ⟨1, ![128]⟩
abbrev S128x1 : Shape := ⟨2, ![128, 1]⟩
abbrev S1x1 : Shape := ⟨2, ![1, 1]⟩

abbrev nBuf : Space → Nat
  | .hbm => 30
  | .vmem => 23
  | .smem => 1
  | _ => 0

abbrev bufTy : (tb : Table) → Fin (tcTables nBuf tb) → BufTy
  | .hbm, ⟨0, _⟩ => ⟨S1x4096x16x64, .f32⟩
  | .hbm, ⟨1, _⟩ => ⟨S1x4096x4x64, .f32⟩
  | .hbm, ⟨2, _⟩ => ⟨S1x4096x4x64, .f32⟩
  | .hbm, ⟨3, _⟩ => ⟨S16, .f32⟩
  | .hbm, ⟨4, _⟩ => ⟨S1x4096x1024, .f32⟩
  | .hbm, ⟨5, _⟩ => ⟨S4096x16x64, .f32⟩
  | .hbm, ⟨6, _⟩ => ⟨S_, .i32⟩
  | .hbm, ⟨7, _⟩ => ⟨S_, .f32⟩
  | .hbm, ⟨8, _⟩ => ⟨S4096x16x128, .f32⟩
  | .hbm, ⟨9, _⟩ => ⟨S4096x2048, .f32⟩
  | .hbm, ⟨10, _⟩ => ⟨S4096x2048, .bf16⟩
  | .hbm, ⟨11, _⟩ => ⟨S4096x4x64, .f32⟩
  | .hbm, ⟨12, _⟩ => ⟨S_, .i32⟩
  | .hbm, ⟨13, _⟩ => ⟨S_, .f32⟩
  | .hbm, ⟨14, _⟩ => ⟨S4096x4x128, .f32⟩
  | .hbm, ⟨15, _⟩ => ⟨S4096x512, .f32⟩
  | .hbm, ⟨16, _⟩ => ⟨S4096x512, .bf16⟩
  | .hbm, ⟨17, _⟩ => ⟨S4096x4x64, .f32⟩
  | .hbm, ⟨18, _⟩ => ⟨S_, .i32⟩
  | .hbm, ⟨19, _⟩ => ⟨S_, .f32⟩
  | .hbm, ⟨20, _⟩ => ⟨S4096x4x128, .f32⟩
  | .hbm, ⟨21, _⟩ => ⟨S4096x512, .f32⟩
  | .hbm, ⟨22, _⟩ => ⟨S4096x512, .bf16⟩
  | .hbm, ⟨23, _⟩ => ⟨S4096x1024, .f32⟩
  | .hbm, ⟨24, _⟩ => ⟨S4096x2048, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x128, .f32⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .f32⟩
  | .local _ .vmem, ⟨11, _⟩ => ⟨S128x1024, .f32⟩
  | .local _ .vmem, ⟨12, _⟩ => ⟨S128x2048, .f32⟩
  | .local _ .vmem, ⟨13, _⟩ => ⟨S128x2048, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S1x128, .f32⟩
  | .local _ .smem, ⟨0, _⟩ => ⟨S16, .f32⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_405 : BitVec 32 := 0#32
  let v1037 : BitVec 1 := Scalar.cmpi .eq arg0 c0_i32_405
  let v1038 : BitVec 32 := Scalar.extui v1037
  let c0_i32_406 : BitVec 32 := 0#32
  let v1039 : BitVec 1 := Scalar.cmpi .ne v1038 c0_i32_406
  v1039

def k0_cond2 (i : grid0.Coords) : BitVec 1 :=
  let arg0 : BitVec 32 := BitVec.ofNat 32 (i 0).val
  let c0_i32_407 : BitVec 32 := 0#32
  let v1040 : BitVec 1 := Scalar.cmpi .sgt arg0 c0_i32_407
  let v1041 : BitVec 32 := Scalar.extui v1040
  let c0_i32_408 : BitVec 32 := 0#32
  let v1042 : BitVec 1 := Scalar.cmpi .ne v1041 c0_i32_408
  v1042

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x4096x16x64 : Shape := ⟨4, ![1, 4096, 16, 64]⟩
abbrev S1x4096x4x64 : Shape := ⟨4, ![1, 4096, 4, 64]⟩
abbrev S16 : Shape := ⟨1, ![16]⟩
abbrev S1x4096x1024 : Shape := ⟨3, ![1, 4096, 1024]⟩
abbrev S4096x4x64 : Shape := ⟨3, ![4096, 4, 64]⟩
abbrev S32x128x4x64 : Shape := ⟨4, ![32, 128, 4, 64]⟩
abbrev S4096x16x64 : Shape := ⟨3, ![4096, 16, 64]⟩
abbrev S1x128x4x64 : Shape := ⟨4, ![1, 128, 4, 64]⟩
abbrev S_ : Shape := ⟨0, ![]⟩
abbrev S31x128x4x64 : Shape := ⟨4, ![31, 128, 4, 64]⟩
abbrev S32x128x4x4x64 : Shape := ⟨5, ![32, 128, 4, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S4096x1024 : Shape := ⟨2, ![4096, 1024]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S4096x16x128 : Shape := ⟨3, ![4096, 16, 128]⟩
abbrev S4096x2048 : Shape := ⟨2, ![4096, 2048]⟩
abbrev S4096x4x128 : Shape := ⟨3, ![4096, 4, 128]⟩
abbrev S4096x512 : Shape := ⟨2, ![4096, 512]⟩
abbrev S1x16 : Shape := ⟨2, ![1, 16]⟩
abbrev S1x128 : Shape := ⟨2, ![1, 128]⟩

abbrev nBuf : Space → Nat
  | .hbm => 214
  | .vmem => 0
  | .smem => 0
  | _ => 0

abbrev hbmTy0_0 (i : Nat) : BufTy := match i % 128 with
  | 0 => ⟨S1x4096x16x64, .f32⟩
  | 1 => ⟨S1x4096x4x64, .f32⟩
  | 2 => ⟨S1x4096x4x64, .f32⟩
  | 3 => ⟨S16, .f32⟩
  | 4 => ⟨S1x4096x1024, .f32⟩
  | 5 => ⟨S4096x4x64, .f32⟩
  | 6 => ⟨S32x128x4x64, .f32⟩
  | 7 => ⟨S4096x4x64, .f32⟩
  | 8 => ⟨S32x128x4x64, .f32⟩
  | 9 => ⟨S4096x16x64, .f32⟩
  | 10 => ⟨S1x128x4x64, .f32⟩
  | 11 => ⟨S_, .f32⟩
  | 12 => ⟨S1x128x4x64, .f32⟩
  | 13 => ⟨S31x128x4x64, .f32⟩
  | 14 => ⟨S32x128x4x64, .f32⟩
  | 15 => ⟨S1x128x4x64, .f32⟩
  | 16 => ⟨S_, .f32⟩
  | 17 => ⟨S1x128x4x64, .f32⟩
  | 18 => ⟨S31x128x4x64, .f32⟩
  | 19 => ⟨S32x128x4x64, .f32⟩
  | 20 => ⟨S32x128x4x4x64, .f32⟩
  | 21 => ⟨S32x256x4x64, .f32⟩
  | 22 => ⟨S32x256x4x64, .f32⟩
  | 23 => ⟨S32x4x256x128x4, .f32⟩
  | 24 => ⟨S32x4x4x128x256, .f32⟩
  | 25 => ⟨S_, .f32⟩
  | 26 => ⟨S32x4x4x128x256, .f32⟩
  | 27 => ⟨S32x4x4x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S1x128x256, .i1⟩
  | 46 => ⟨S32, .i32⟩
  | 47 => ⟨S32x1x1, .i32⟩
  | 48 => ⟨S_, .i32⟩
  | 49 => ⟨S32x1x1, .i32⟩
  | 50 => ⟨S32x1x1, .i1⟩
  | 51 => ⟨S_, .i32⟩
  | 52 => ⟨S1x256, .i32⟩
  | 53 => ⟨S1x256, .i1⟩
  | 54 => ⟨S1x1x256, .i1⟩
  | 55 => ⟨S32x1x256, .i1⟩
  | 56 => ⟨S32x1x256, .i1⟩
  | 57 => ⟨S32x1x256, .i1⟩
  | 58 => ⟨S32x128x256, .i1⟩
  | 59 => ⟨S32x128x256, .i1⟩
  | 60 => ⟨S32x128x256, .i1⟩
  | 61 => ⟨S32x1x1x128x256, .i1⟩
  | 62 => ⟨S_, .f32⟩
  | 63 => ⟨S_, .f32⟩
  | 64 => ⟨S32x4x4x128x256, .i1⟩
  | 65 => ⟨S32x4x4x128x256, .f32⟩
  | 66 => ⟨S32x4x4x128x256, .f32⟩
  | 67 => ⟨S_, .f32⟩
  | 68 => ⟨S32x4x4x128x256, .f32⟩
  | 69 => ⟨S4x4, .f32⟩
  | 70 => ⟨S1x4x4x1x1, .f32⟩
  | 71 => ⟨S_, .f32⟩
  | 72 => ⟨S32x4x4x128, .f32⟩
  | 73 => ⟨S32x4x4x128x1, .f32⟩
  | 74 => ⟨S32x4x4x128x256, .f32⟩
  | 75 => ⟨S32x4x4x128x256, .i1⟩
  | 76 => ⟨S32x4x4x128x256, .f32⟩
  | 77 => ⟨S_, .f32⟩
  | 78 => ⟨S32x4x4x128, .f32⟩
  | 79 => ⟨S32x4x4x128x1, .f32⟩
  | 80 => ⟨S32x4x4x128x1, .f32⟩
  | 81 => ⟨S32x4x4x128x1, .f32⟩
  | 82 => ⟨S32x4x4x128x1, .f32⟩
  | 83 => ⟨S32x4x4x128x1, .i1⟩
  | 84 => ⟨S32x4x4x128x1, .f32⟩
  | 85 => ⟨S32x4x4x128x1, .i1⟩
  | 86 => ⟨S_, .f32⟩
  | 87 => ⟨S32x4x4x128x1, .f32⟩
  | 88 => ⟨S_, .f32⟩
  | 89 => ⟨S32x4x4x128x1, .f32⟩
  | 90 => ⟨S_, .f32⟩
  | 91 => ⟨S32x4x4x128x1, .f32⟩
  | 92 => ⟨S32x4x4x128x1, .f32⟩
  | 93 => ⟨S32x4x4x128x1, .f32⟩
  | 94 => ⟨S32x4x4x128x1, .f32⟩
  | 95 => ⟨S32x4x4x128x1, .i1⟩
  | 96 => ⟨S32x4x4x128x1, .f32⟩
  | 97 => ⟨S32x4x4x128x1, .i1⟩
  | 98 => ⟨S_, .f32⟩
  | 99 => ⟨S32x4x4x128x1, .f32⟩
  | 100 => ⟨S_, .f32⟩
  | 101 => ⟨S32x4x4x128x1, .f32⟩
  | 102 => ⟨S_, .f32⟩
  | 103 => ⟨S32x4x4x128x1, .f32⟩
  | 104 => ⟨S32x4x4x128x1, .f32⟩
  | 105 => ⟨S32x4x4x128x1, .f32⟩
  | 106 => ⟨S32x4x4x128x256, .f32⟩
  | 107 => ⟨S32x4x4x128x256, .f32⟩
  | 108 => ⟨S32x4x4x128x256, .f32⟩
  | 109 => ⟨S_, .f32⟩
  | 110 => ⟨S32x4x4x128, .f32⟩
  | 111 => ⟨S32x4x4x128x1, .f32⟩
  | 112 => ⟨S32x4x4x128x1, .f32⟩
  | 113 => ⟨S32x4x4x128x1, .f32⟩
  | 114 => ⟨S32x4x4x128x1, .f32⟩
  | 115 => ⟨S32x4x4x128x1, .f32⟩
  | 116 => ⟨S32x4x4x128x256, .f32⟩
  | 117 => ⟨S32x4x4x128x256, .f32⟩
  | 118 => ⟨S32x4x4x128x1, .f32⟩
  | 119 => ⟨S_, .f32⟩
  | 120 => ⟨S32x4x4x128x1, .f32⟩
  | 121 => ⟨S32x4x4x128x1, .f32⟩
  | 122 => ⟨S32x4x64x4x128, .f32⟩
  | 123 => ⟨S32x128x4x4x64, .f32⟩
  | 124 => ⟨S4096x1024, .f32⟩
  | 125 => ⟨S4096x1024, .f32⟩
  | 126 => ⟨S32x128x4x4x64, .f32⟩
  | 127 => ⟨S32x4x64x4x128, .f32⟩
  | _ => ⟨S1x4096x16x64, .f32⟩

abbrev hbmTy0_1 (i : Nat) : BufTy := match i % 128 with
  | 0 => ⟨S32x4x4x128x256, .f32⟩
  | 1 => ⟨S32x4x64x256, .f32⟩
  | 2 => ⟨S32x256x4x64, .f32⟩
  | 3 => ⟨S32x4x4x128x256, .f32⟩
  | 4 => ⟨S32x4x4x128x256, .f32⟩
  | 5 => ⟨S32x4x4x128x256, .f32⟩
  | 6 => ⟨S_, .f32⟩
  | 7 => ⟨S32x4x4x128, .f32⟩
  | 8 => ⟨S32x4x4x128x1, .f32⟩
  | 9 => ⟨S32x4x4x128x1, .f32⟩
  | 10 => ⟨S32x4x4x128x256, .f32⟩
  | 11 => ⟨S32x4x4x128x256, .f32⟩
  | 12 => ⟨S32x4x4x128x1, .f32⟩
  | 13 => ⟨S_, .f32⟩
  | 14 => ⟨S4x4x1, .f32⟩
  | 15 => ⟨S1x4x4x1x1, .f32⟩
  | 16 => ⟨S32x4x4x128x1, .f32⟩
  | 17 => ⟨S_, .f32⟩
  | 18 => ⟨S32x4x4x128, .f32⟩
  | 19 => ⟨S32x4x4x128x256, .f32⟩
  | 20 => ⟨S32x4x4x128x256, .f32⟩
  | 21 => ⟨S32x4x4x128x256, .f32⟩
  | 22 => ⟨S32x4x4x128x256, .f32⟩
  | 23 => ⟨S_, .f32⟩
  | 24 => ⟨S32x4x4x128, .f32⟩
  | 25 => ⟨S32x4x4x128x1, .f32⟩
  | 26 => ⟨S32x4x4x128x1, .f32⟩
  | 27 => ⟨S32x4x4x128x1, .f32⟩
  | 28 => ⟨S_, .f32⟩
  | 29 => ⟨S4x4x1, .f32⟩
  | 30 => ⟨S1x4x4x1x1, .f32⟩
  | 31 => ⟨S1x4x4x1x1, .f32⟩
  | 32 => ⟨S32x4x4x128x1, .f32⟩
  | 33 => ⟨S_, .f32⟩
  | 34 => ⟨S32x4x4x128, .f32⟩
  | 35 => ⟨S32x4x4x128, .f32⟩
  | 36 => ⟨S32x4x4x128x256, .f32⟩
  | 37 => ⟨S32x4x4x128x256, .f32⟩
  | 38 => ⟨S32x4x4x128x256, .f32⟩
  | 39 => ⟨S_, .f32⟩
  | 40 => ⟨S4x4, .f32⟩
  | 41 => ⟨S16, .f32⟩
  | 42 => ⟨S_, .f32⟩
  | 43 => ⟨S32x4x4x128x256, .f32⟩
  | 44 => ⟨S32x4x4x128x256, .f32⟩
  | 45 => ⟨S_, .f32⟩
  | 46 => ⟨S32x4x4x128x256, .f32⟩
  | 47 => ⟨S32x4x4x128x256, .f32⟩
  | 48 => ⟨S32x4x256x128x4, .f32⟩
  | 49 => ⟨S32x4x128x4x64, .f32⟩
  | 50 => ⟨S32x128x4x4x64, .f32⟩
  | 51 => ⟨S32x4x256x64, .f32⟩
  | 52 => ⟨S32x256x4x64, .f32⟩
  | 53 => ⟨S32x128x4x64, .f32⟩
  | 54 => ⟨S32x128x4x64, .f32⟩
  | 55 => ⟨S32x128x4x64, .f32⟩
  | 56 => ⟨S32x128x4x64, .f32⟩
  | 57 => ⟨S4096x16x64, .f32⟩
  | 58 => ⟨S_, .i32⟩
  | 59 => ⟨S_, .f32⟩
  | 60 => ⟨S4096x16x128, .f32⟩
  | 61 => ⟨S4096x2048, .f32⟩
  | 62 => ⟨S4096x4x64, .f32⟩
  | 63 => ⟨S_, .i32⟩
  | 64 => ⟨S_, .f32⟩
  | 65 => ⟨S4096x4x128, .f32⟩
  | 66 => ⟨S4096x512, .f32⟩
  | 67 => ⟨S4096x4x64, .f32⟩
  | 68 => ⟨S_, .i32⟩
  | 69 => ⟨S_, .f32⟩
  | 70 => ⟨S4096x4x128, .f32⟩
  | 71 => ⟨S4096x512, .f32⟩
  | 72 => ⟨S4096x4x64, .f32⟩
  | 73 => ⟨S_, .i32⟩
  | 74 => ⟨S_, .f32⟩
  | 75 => ⟨S4096x4x128, .f32⟩
  | 76 => ⟨S4096x512, .f32⟩
  | 77 => ⟨S4096x4x64, .f32⟩
  | 78 => ⟨S_, .i32⟩
  | 79 => ⟨S_, .f32⟩
  | 80 => ⟨S4096x4x128, .f32⟩
  | 81 => ⟨S4096x512, .f32⟩
  | 82 => ⟨S1x16, .f32⟩
  | 83 => ⟨S_, .i32⟩
  | 84 => ⟨S_, .f32⟩
  | 85 => ⟨S1x128, .f32⟩
  | _ => ⟨S1x4096x16x64, .f32⟩

abbrev hbmTy (i : Nat) : BufTy := match i / 128 with
  | 0 => hbmTy0_0 i
  | 1 => hbmTy0_1 i
  | _ => ⟨S1x4096x16x64, .f32⟩

abbrev bufTy : (tb : Table) → Fin (tcTables nBuf tb) → BufTy
  | .hbm, ⟨i, _⟩ => hbmTy i
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call0_v0 : Ref sig .tc := ⟨.hbm, 63, rfl⟩
abbrev main_v49_1 : Ref sig .tc := ⟨.hbm, 64, rfl⟩
abbrev main_call0_v2 : Ref sig .tc := ⟨.hbm, 65, rfl⟩
abbrev main_v49_0 : Ref sig .tc := ⟨.hbm, 66, rfl⟩
abbrev main_call0_cst : Ref sig .tc := ⟨.hbm, 67, rfl⟩
abbrev main_v49_2 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_17 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_18 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_19 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_21 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_22 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_23 : Ref sig .tc := ⟨.hbm, 167, rfl⟩
abbrev main_v132 : Ref sig .tc := ⟨.hbm, 168, rfl⟩
abbrev main_v133 : Ref sig .tc := ⟨.hbm, 169, rfl⟩
abbrev main_call1_cst : Ref sig .tc := ⟨.hbm, 170, rfl⟩
abbrev main_call1_v0 : Ref sig .tc := ⟨.hbm, 171, rfl⟩
abbrev main_v134 : Ref sig .tc := ⟨.hbm, 172, rfl⟩
abbrev main_cst_24 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_c_25 : Ref sig .tc := ⟨.hbm, 186, rfl⟩
abbrev main_call2_v0 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_c_26 : Ref sig .tc := ⟨.hbm, 191, rfl⟩
abbrev main_call3_v0 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_27 : Ref sig .tc := ⟨.hbm, 196, rfl⟩
abbrev main_call4_v0 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_c_28 : Ref sig .tc := ⟨.hbm, 201, rfl⟩
abbrev main_call5_v0 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_c_29 : Ref sig .tc := ⟨.hbm, 206, rfl⟩
abbrev main_call6_v0 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_30 : Ref sig .tc := ⟨.hbm, 211, rfl⟩
abbrev main_call7_v0 : Ref sig .tc := ⟨.hbm, 212, rfl⟩
abbrev main_v162 : Ref sig .tc := ⟨.hbm, 213, rfl⟩

abbrev nD : Nat := 1
abbrev τ : Topo := Topo.v7x

variable {F : FTy → Type} [FloatOps F]
-- ==== Kernel2.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x2048 : Shape := ⟨2, ![4096, 2048]⟩
abbrev S4x1408x2048 : Shape := ⟨3, ![4, 1408, 2048]⟩
abbrev S4096x5632 : Shape := ⟨2, ![4096, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x5632, .f32⟩
  | .hbm, ⟨1, _⟩ => ⟨S1x4096x5632, .f32⟩
  | .hbm, ⟨2, _⟩ => ⟨S5632x2048, .f32⟩
  | .hbm, ⟨3, _⟩ => ⟨S1x4096x2048, .f32⟩
  | .hbm, ⟨4, _⟩ => ⟨S4096x2048, .f32⟩
  | .hbm, ⟨5, _⟩ => ⟨S4096x2048, .bf16⟩
  | .hbm, ⟨6, _⟩ => ⟨S4x1408x2048, .f32⟩
  | .hbm, ⟨7, _⟩ => ⟨S4x1408x2048, .bf16⟩
  | .hbm, ⟨8, _⟩ => ⟨S4096x5632, .f32⟩
  | .hbm, ⟨9, _⟩ => ⟨S4096x5632, .f32⟩
  | .hbm, ⟨10, _⟩ => ⟨S4096x5632, .bf16⟩
  | .hbm, ⟨11, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x5632 : Shape := ⟨2, ![4096, 5632]⟩
abbrev S_ : Shape := ⟨0, ![]⟩
abbrev S4096x2048 : Shape := ⟨2, ![4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S1x4096x5632, .f32⟩
  | .hbm, ⟨2, _⟩ => ⟨S5632x2048, .f32⟩
  | .hbm, ⟨3, _⟩ => ⟨S1x4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x2048 : Shape := ⟨2, ![4096, 2048]⟩
abbrev S4096x5632 : Shape := ⟨2, ![4096, 5632]⟩
abbrev S2x4x1024x1408 : Shape := ⟨4, ![2, 4, 1024, 1408]⟩
abbrev S4096x1024 : Shape := ⟨2, ![4096, 1024]⟩
abbrev S4096x1408 : Shape := ⟨2, ![4096, 1408]⟩
abbrev S1x1x1024x1408 : Shape := ⟨4, ![1, 1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S4096x2048, .f32⟩
  | .hbm, ⟨4, _⟩ => ⟨S4096x2048, .bf16⟩
  | .hbm, ⟨5, _⟩ => ⟨S4096x5632, .f32⟩
  | .hbm, ⟨6, _⟩ => ⟨S4096x5632, .bf16⟩
  | .hbm, ⟨7, _⟩ => ⟨S2x4x1024x1408, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1408, .bf16⟩
  | .local _ .vmem, ⟨3, _⟩ => ⟨S4096x1408, .bf16⟩
  | .local _ .vmem, ⟨4, _⟩ => ⟨S1x1x1024x1408, .bf16⟩
  | .local _ .vmem, ⟨5, _⟩ => ⟨S1x1x1024x1408, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, v26.toNat, c0_i32_11.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x2048 : Shape := ⟨2, ![4096, 2048]⟩
abbrev S4096x5632 : Shape := ⟨2, ![4096, 5632]⟩
abbrev S5632x2048 : Shape := ⟨2, ![5632, 2048]⟩
abbrev S2x1024x4x1408 : Shape := ⟨4, ![2, 1024, 4, 1408]⟩
abbrev S2x4x1024x1408 : Shape := ⟨4, ![2, 4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S2048x5632, .f32⟩
  | .hbm, ⟨8, _⟩ => ⟨S2x1024x4x1408, .f32⟩
  | .hbm, ⟨9, _⟩ => ⟨S2x4x1024x1408, .f32⟩
  | .hbm, ⟨10, _⟩ => ⟨S2x4x1024x1408, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x5632 : Shape := ⟨2, ![4096, 5632]⟩
abbrev S2048x4x1408 : Shape := ⟨3, ![2048, 4, 1408]⟩
abbrev S4x2048x1408 : Shape := ⟨3, ![4, 2048, 1408]⟩
abbrev S4096x2048 : Shape := ⟨2, ![4096, 2048]⟩
abbrev S512x5632 : Shape := ⟨2, ![512, 5632]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S4096x5632, .f32⟩
  | .hbm, ⟨4, _⟩ => ⟨S4096x5632, .bf16⟩
  | .hbm, ⟨5, _⟩ => ⟨S2048x4x1408, .f32⟩
  | .hbm, ⟨6, _⟩ => ⟨S4x2048x1408, .f32⟩
  | .hbm, ⟨7, _⟩ => ⟨S4x2048x1408, .bf16⟩
  | .hbm, ⟨8, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .f32⟩
  | .local _ .vmem, ⟨5, _⟩ => ⟨S512x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x2048 : Shape := ⟨2, ![4096, 2048]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x5632 : Shape := ⟨2, ![4096, 5632]⟩
abbrev S2048x4x1408 : Shape := ⟨3, ![2048, 4, 1408]⟩
abbrev S4x2048x1408 : Shape := ⟨3, ![4, 2048, 1408]⟩
abbrev S4096x2048 : Shape := ⟨2, ![4096, 2048]⟩
abbrev S512x5632 : Shape := ⟨2, ![512, 5632]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 11
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S1x4096x2048, .f32⟩
  | .hbm, ⟨4, _⟩ => ⟨S4096x5632, .f32⟩
  | .hbm, ⟨5, _⟩ => ⟨S4096x5632, .bf16⟩
  | .hbm, ⟨6, _⟩ => ⟨S2048x4x1408, .f32⟩
  | .hbm, ⟨7, _⟩ => ⟨S4x2048x1408, .f32⟩
  | .hbm, ⟨8, _⟩ => ⟨S4x2048x1408, .bf16⟩
  | .hbm, ⟨9, _⟩ => ⟨S4096x2048, .f32⟩
  | .hbm, ⟨10, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x4096x2048 : Shape := ⟨3, ![1, 4096, 2048]⟩
abbrev S2048x5632 : Shape := ⟨2, ![2048, 5632]⟩
abbrev S1x4096x5632 : Shape := ⟨3, ![1, 4096, 5632]⟩
abbrev S4096x2048 : Shape := ⟨2, ![4096, 2048]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S1x4096x5632, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x5632 : Shape := ⟨2, ![4096, 5632]⟩
abbrev S4096x2048 : Shape := ⟨2, ![4096, 2048]⟩
abbrev S2x4x1408x1024 : Shape := ⟨4, ![2, 4, 1408, 1024]⟩
abbrev S4096x1408 : Shape := ⟨2, ![4096, 1408]⟩
abbrev S4096x512 : Shape := ⟨2, ![4096, 512]⟩
abbrev S1x1x1408x512 : Shape := ⟨4, ![1, 1, 1408, 512]⟩
abbrev S1408x512 : Shape := ⟨2, ![1408, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x5632, .f32⟩
  | .hbm, ⟨1, _⟩ => ⟨S5632x2048, .f32⟩
  | .hbm, ⟨2, _⟩ => ⟨S1x4096x2048, .f32⟩
  | .hbm, ⟨3, _⟩ => ⟨S4096x5632, .f32⟩
  | .hbm, ⟨4, _⟩ => ⟨S4096x5632, .bf16⟩
  | .hbm, ⟨5, _⟩ => ⟨S4096x2048, .f32⟩
  | .hbm, ⟨6, _⟩ => ⟨S4096x2048, .bf16⟩
  | .hbm, ⟨7, _⟩ => ⟨S2x4x1408x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1x1408x512, .bf16⟩
  | .local _ .vmem, ⟨5, _⟩ => ⟨S1x1x1408x512, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel7Ideal.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x5632 : Shape := ⟨2, ![4096, 5632]⟩
abbrev S4096x2048 : Shape := ⟨2, ![4096, 2048]⟩
abbrev S2x4x1408x1024 : Shape := ⟨4, ![2, 4, 1408, 1024]⟩
abbrev S4096x1408 : Shape := ⟨2, ![4096, 1408]⟩
abbrev S4096x512 : Shape := ⟨2, ![4096, 512]⟩
abbrev S1x1x1408x512 : Shape := ⟨4, ![1, 1, 1408, 512]⟩
abbrev S1408x512 : Shape := ⟨2, ![1408, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x5632, .f32⟩
  | .hbm, ⟨1, _⟩ => ⟨S5632x2048, .f32⟩
  | .hbm, ⟨2, _⟩ => ⟨S1x4096x2048, .f32⟩
  | .hbm, ⟨3, _⟩ => ⟨S4096x5632, .f32⟩
  | .hbm, ⟨4, _⟩ => ⟨S4096x5632, .bf16⟩
  | .hbm, ⟨5, _⟩ => ⟨S4096x2048, .f32⟩
  | .hbm, ⟨6, _⟩ => ⟨S4096x2048, .bf16⟩
  | .hbm, ⟨7, _⟩ => ⟨S2x4x1408x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1x1408x512, .bf16⟩
  | .local _ .vmem, ⟨5, _⟩ => ⟨S1x1x1408x512, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1x4096x5632 : Shape := ⟨3, ![1, 4096, 5632]⟩
abbrev S5632x2048 : Shape := ⟨2, ![5632, 2048]⟩
abbrev S1x4096x2048 : Shape := ⟨3, ![1, 4096, 2048]⟩
abbrev S4096x5632 : Shape := ⟨2, ![4096, 5632]⟩
abbrev S4096x2048 : Shape := ⟨2, ![4096, 2048]⟩
abbrev S2048x5632 : Shape := ⟨2, ![2048, 5632]⟩
abbrev S4x1408x2x1024 : Shape := ⟨4, ![4, 1408, 2, 1024]⟩
abbrev S2x4x1408x1024 : Shape := ⟨4, ![2, 4, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S5632x2048, .f32⟩
  | .hbm, ⟨2, _⟩ => ⟨S1x4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S4x1408x2x1024, .f32⟩
  | .hbm, ⟨9, _⟩ => ⟨S2x4x1408x1024, .f32⟩
  | .hbm, ⟨10, _⟩ => ⟨S2x4x1408x1024, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S1x4096x2048 : Shape := ⟨3, ![1, 4096, 2048]⟩
abbrev S2048x2048 : Shape := ⟨2, ![2048, 2048]⟩
abbrev S4096x2048 : Shape := ⟨2, ![4096, 2048]⟩
abbrev S2x4x512x1024 : Shape := ⟨4, ![2, 4, 512, 1024]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S4096x2048, .bf16⟩
  | .hbm, ⟨7, _⟩ => ⟨S2x4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x1x512x512, .bf16⟩
  | .local _ .vmem, ⟨5, _⟩ => ⟨S1x1x512x512, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S1x4096x2048 : Shape := ⟨3, ![1, 4096, 2048]⟩
abbrev S2048x2048 : Shape := ⟨2, ![2048, 2048]⟩
abbrev S4096x2048 : Shape := ⟨2, ![4096, 2048]⟩
abbrev S4x512x2x1024 : Shape := ⟨4, ![4, 512, 2, 1024]⟩
abbrev S2x4x512x1024 : Shape := ⟨4, ![2, 4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4x512x2x1024, .f32⟩
  | .hbm, ⟨9, _⟩ => ⟨S2x4x512x1024, .f32⟩
  | .hbm, ⟨10, _⟩ => ⟨S2x4x512x1024, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S1x4096x2048 : Shape := ⟨3, ![1, 4096, 2048]⟩
abbrev S2048x2048 : Shape := ⟨2, ![2048, 2048]⟩
abbrev S4096x2048 : Shape := ⟨2, ![4096, 2048]⟩
abbrev S4x512x2048 : Shape := ⟨3, ![4, 512, 2048]⟩
abbrev S512x2048 : Shape := ⟨2, ![512, 2048]⟩
abbrev S1x512x2048 : Shape := ⟨3, ![1, 512, 2048]⟩
abbrev S512x512 : Shape := ⟨2, ![512, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x2048, .f32⟩
  | .hbm, ⟨3, _⟩ => ⟨S4096x2048, .f32⟩
  | .hbm, ⟨4, _⟩ => ⟨S4096x2048, .bf16⟩
  | .hbm, ⟨5, _⟩ => ⟨S4x512x2048, .f32⟩
  | .hbm, ⟨6, _⟩ => ⟨S4x512x2048, .bf16⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1x4096x2048 : Shape := ⟨3, ![1, 4096, 2048]⟩
abbrev S2048x2048 : Shape := ⟨2, ![2048, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S1x4096x2048 : Shape := ⟨3, ![1, 4096, 2048]⟩
abbrev S2048x5632 : Shape := ⟨2, ![2048, 5632]⟩
abbrev S4096x2048 : Shape := ⟨2, ![4096, 2048]⟩
abbrev S2048x4x1408 : Shape := ⟨3, ![2048, 4, 1408]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 14
  | .vmem => 12
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x2048, .bf16⟩
  | .hbm, ⟨5, _⟩ => ⟨S2048x4x1408, .f32⟩
  | .hbm, ⟨6, _⟩ => ⟨S4x2048x1408, .f32⟩
  | .hbm, ⟨7, _⟩ => ⟨S4x2048x1408, .bf16⟩
  | .hbm, ⟨8, _⟩ => ⟨S2048x4x1408, .f32⟩
  | .hbm, ⟨9, _⟩ => ⟨S4x2048x1408, .f32⟩
  | .hbm, ⟨10, _⟩ => ⟨S4x2048x1408, .bf16⟩
  | .hbm, ⟨11, _⟩ => ⟨S4096x5632, .f32⟩
  | .hbm, ⟨12, _⟩ => ⟨S4096x5632, .f32⟩
  | .hbm, ⟨13, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S1x4096x2048 : Shape := ⟨3, ![1, 4096, 2048]⟩
abbrev S2048x5632 : Shape := ⟨2, ![2048, 5632]⟩
abbrev S4096x2048 : Shape := ⟨2, ![4096, 2048]⟩
abbrev S4096x5632 : Shape := ⟨2, ![4096, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel11.lean ====
abbrev S1x4096x5632 : Shape := ⟨3, ![1, 4096, 5632]⟩
abbrev S5632x2048 : Shape := ⟨2, ![5632, 2048]⟩
abbrev S4096x5632 : Shape := ⟨2, ![4096, 5632]⟩
abbrev S4x1408x2048 : Shape := ⟨3, ![4, 1408, 2048]⟩
abbrev S4096x2048 : Shape := ⟨2, ![4096, 2048]⟩
abbrev S512x5632 : Shape := ⟨2, ![512, 5632]⟩
abbrev S4x1408x1024 : Shape := ⟨3, ![4, 1408, 1024]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x4096x5632, .f32⟩
  | .hbm, ⟨1, _⟩ => ⟨S5632x2048, .f32⟩
  | .hbm, ⟨2, _⟩ => ⟨S4096x5632, .f32⟩
  | .hbm, ⟨3, _⟩ => ⟨S4096x5632, .bf16⟩
  | .hbm, ⟨4, _⟩ => ⟨S4x1408x2048, .f32⟩
  | .hbm, ⟨5, _⟩ => ⟨S4x1408x2048, .bf16⟩
  | .hbm, ⟨6, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S4x1408x1024, .bf16⟩
  | .local _ .vmem, ⟨3, _⟩ => ⟨S4x1408x1024, .bf16⟩
  | .local _ .vmem, ⟨4, _⟩ => ⟨S512x1024, .f32⟩
  | .local _ .vmem, ⟨5, _⟩ => ⟨S512x1024, .f32⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1x4096x5632 : Shape := ⟨3, ![1, 4096, 5632]⟩
abbrev S5632x2048 : Shape := ⟨2, ![5632, 2048]⟩
abbrev S4096x5632 : Shape := ⟨2, ![4096, 5632]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S5632x2048, .f32⟩
  | .hbm, ⟨2, _⟩ => ⟨S4096x5632, .f32⟩
  | .hbm, ⟨3, _⟩ => ⟨S4096x2048, .f32⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S1x4096x2048 : Shape := ⟨3, ![1, 4096, 2048]⟩
abbrev S2048x5632 : Shape := ⟨2, ![2048, 5632]⟩
abbrev S4096x2048 : Shape := ⟨2, ![4096, 2048]⟩
abbrev S2048x4x1408 : Shape := ⟨3, ![2048, 4, 1408]⟩
abbrev S4x2048x1408 : Shape := ⟨3, ![4, 2048, 1408]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S4096x2048, .f32⟩
  | .hbm, ⟨3, _⟩ => ⟨S4096x2048, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1x4096x2048 : Shape := ⟨3, ![1, 4096, 2048]⟩
abbrev S2048x5632 : Shape := ⟨2, ![2048, 5632]⟩
abbrev S4096x2048 : Shape := ⟨2, ![4096, 2048]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S4096x2048, .f32⟩
  | .hbm, ⟨3, _⟩ => ⟨S4096x5632, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S1x4096x2048 : Shape := ⟨3, ![1, 4096, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel13.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S1x4096x2048, .f32⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_26 : BitVec 32 := 0#32
  let v68 : BitVec 1 := Scalar.cmpi .ne v67 c0_i32_26
  v68

def k0_cond2 (i : grid0.Coords) : BitVec 1 :=
  let arg0 : BitVec 32 := BitVec.ofNat 32 (i 0).val
  let c0_i32_27 : BitVec 32 := 0#32
  let v69 : BitVec 1 := Scalar.cmpi .sgt arg0 c0_i32_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S1x4096x2048 : Shape := ⟨3, ![1, 4096, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S1x4096x2048, .f32⟩
  | .hbm, ⟨4, _⟩ => ⟨S1x4096x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x2048, .f32⟩
  | .hbm, ⟨72, _⟩ => ⟨S4096x2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S4096x2048, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x2048, .f32⟩
  | .hbm, ⟨89, _⟩ => ⟨S4096x2048, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .f32⟩
  | .hbm, ⟨100, _⟩ => ⟨S4096x2048, .f32⟩
  | .hbm, ⟨101, _⟩ => ⟨S4096x2048, .bf16⟩
  | .hbm, ⟨102, _⟩ => ⟨S1x2048, .f32⟩
  | .hbm, ⟨103, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel15.lean ====
abbrev S1x4096x2048 : Shape := ⟨3, ![1, 4096, 2048]⟩
abbrev S4096x2048 : Shape := ⟨2, ![4096, 2048]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S1x4096x2048 : Shape := ⟨3, ![1, 4096, 2048]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel16.lean ====
abbrev S2x2048x1408 : Shape := ⟨3, ![2, 2048, 1408]⟩
abbrev S1x2048x1408 : Shape := ⟨3, ![1, 2048, 1408]⟩
abbrev S2048x1408 : Shape := ⟨2, ![2048, 1408]⟩
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 14
  | .vmem => 18
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S1x2048x1408, .f32⟩
  | .hbm, ⟨5, _⟩ => ⟨S2048x1408, .f32⟩
  | .hbm, ⟨6, _⟩ => ⟨S2x1024x1408, .f32⟩
  | .hbm, ⟨7, _⟩ => ⟨S1x2048x1408, .f32⟩
  | .hbm, ⟨8, _⟩ => ⟨S2048x1408, .f32⟩
  | .hbm, ⟨9, _⟩ => ⟨S2x1024x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel16Ideal.lean ====
abbrev S2x2048x1408 : Shape := ⟨3, ![2, 2048, 1408]⟩
abbrev S1x2048x1408 : Shape := ⟨3, ![1, 2048, 1408]⟩
abbrev S2048x1408 : Shape := ⟨2, ![2048, 1408]⟩
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 14
  | .vmem => 18
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S1x2048x1408, .f32⟩
  | .hbm, ⟨5, _⟩ => ⟨S2048x1408, .f32⟩
  | .hbm, ⟨6, _⟩ => ⟨S2x1024x1408, .f32⟩
  | .hbm, ⟨7, _⟩ => ⟨S1x2048x1408, .f32⟩
  | .hbm, ⟨8, _⟩ => ⟨S2048x1408, .f32⟩
  | .hbm, ⟨9, _⟩ => ⟨S2x1024x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference16Ideal.lean ====
abbrev S2x2048x1408 : Shape := ⟨3, ![2, 2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x512x2048 : Shape := ⟨3, ![2, 512, 2048]⟩
abbrev S1x512x2048 : Shape := ⟨3, ![1, 512, 2048]⟩
abbrev S512x2048 : Shape := ⟨2, ![512, 2048]⟩
abbrev S512x2x1024 : Shape := ⟨3, ![512, 2, 1024]⟩
abbrev S2x512x1024 : Shape := ⟨3, ![2, 512, 1024]⟩
abbrev S1x256x1024 : Shape := ⟨3, ![1, 256, 1024]⟩
abbrev S256x1024 : Shape := ⟨2, ![256, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1x512x2048, .f32⟩
  | .hbm, ⟨5, _⟩ => ⟨S512x2048, .f32⟩
  | .hbm, ⟨6, _⟩ => ⟨S512x2x1024, .f32⟩
  | .hbm, ⟨7, _⟩ => ⟨S2x512x1024, .f32⟩
  | .hbm, ⟨8, _⟩ => ⟨S1x512x2048, .f32⟩
  | .hbm, ⟨9, _⟩ => ⟨S512x2048, .f32⟩
  | .hbm, ⟨10, _⟩ => ⟨S512x2x1024, .f32⟩
  | .hbm, ⟨11, _⟩ => ⟨S2x512x1024, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S2x512x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel17Ideal.lean ====
abbrev S2x512x2048 : Shape := ⟨3, ![2, 512, 2048]⟩
abbrev S1x512x2048 : Shape := ⟨3, ![1, 512, 2048]⟩
abbrev S512x2048 : Shape := ⟨2, ![512, 2048]⟩
abbrev S512x2x1024 : Shape := ⟨3, ![512, 2, 1024]⟩
abbrev S2x512x1024 : Shape := ⟨3, ![2, 512, 1024]⟩
abbrev S1x256x1024 : Shape := ⟨3, ![1, 256, 1024]⟩
abbrev S256x1024 : Shape := ⟨2, ![256, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1x512x2048, .f32⟩
  | .hbm, ⟨5, _⟩ => ⟨S512x2048, .f32⟩
  | .hbm, ⟨6, _⟩ => ⟨S512x2x1024, .f32⟩
  | .hbm, ⟨7, _⟩ => ⟨S2x512x1024, .f32⟩
  | .hbm, ⟨8, _⟩ => ⟨S1x512x2048, .f32⟩
  | .hbm, ⟨9, _⟩ => ⟨S512x2048, .f32⟩
  | .hbm, ⟨10, _⟩ => ⟨S512x2x1024, .f32⟩
  | .hbm, ⟨11, _⟩ => ⟨S2x512x1024, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S2x512x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference17Ideal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x1408x2048 : Shape := ⟨3, ![2, 1408, 2048]⟩
abbrev S1x1408x2048 : Shape := ⟨3, ![1, 1408, 2048]⟩
abbrev S1408x2048 : Shape := ⟨2, ![1408, 2048]⟩
abbrev S1408x2x1024 : Shape := ⟨3, ![1408, 2, 1024]⟩
abbrev S2x1408x1024 : Shape := ⟨3, ![2, 1408, 1024]⟩
abbrev S1x128x1024 : Shape := ⟨3, ![1, 128, 1024]⟩
abbrev S128x1024 : Shape := ⟨2, ![128, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S1x1408x2048, .f32⟩
  | .hbm, ⟨5, _⟩ => ⟨S1408x2048, .f32⟩
  | .hbm, ⟨6, _⟩ => ⟨S1408x2x1024, .f32⟩
  | .hbm, ⟨7, _⟩ => ⟨S2x1408x1024, .f32⟩
  | .hbm, ⟨8, _⟩ => ⟨S1x1408x2048, .f32⟩
  | .hbm, ⟨9, _⟩ => ⟨S1408x2048, .f32⟩
  | .hbm, ⟨10, _⟩ => ⟨S1408x2x1024, .f32⟩
  | .hbm, ⟨11, _⟩ => ⟨S2x1408x1024, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S2x1408x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 11], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference18Ideal.lean ====
abbrev S2x1408x2048 : Shape := ⟨3, ![2, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x256x512 : Shape := ⟨3, ![2, 256, 512]⟩
abbrev S1x256x512 : Shape := ⟨3, ![1, 256, 512]⟩
abbrev S256x512 : Shape := ⟨2, ![256, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 14
  | .vmem => 18
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S1x256x512, .f32⟩
  | .hbm, ⟨5, _⟩ => ⟨S256x512, .f32⟩
  | .hbm, ⟨6, _⟩ => ⟨S2x128x512, .f32⟩
  | .hbm, ⟨7, _⟩ => ⟨S1x256x512, .f32⟩
  | .hbm, ⟨8, _⟩ => ⟨S256x512, .f32⟩
  | .hbm, ⟨9, _⟩ => ⟨S2x128x512, .f32⟩
  | .hbm, ⟨10, _⟩ => ⟨S2x256x512, .f32⟩
  | .hbm, ⟨11, _⟩ => ⟨S2x256x512, .f32⟩
  | .hbm, ⟨12, _⟩ => ⟨S2x256x512, .f32⟩
  | .hbm, ⟨13, _⟩ => ⟨S2x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.subi c1_i32_0 arg0
  let v3 : BitVec 32 := Scalar.muli arg2 v2
  let c0_i32 : BitVec 32 := 0#32
  let c0_i32_1 : BitVec 32 := 0#32
  ![v1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference19Ideal.lean ====
abbrev S2x256x512 : Shape := ⟨3, ![2, 256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S_, .f32⟩
  | .hbm, ⟨5, _⟩ => ⟨S2x256x512, .f32⟩
  | .hbm, ⟨6, _⟩ => ⟨S2x256x512, .f32⟩
  | .hbm, ⟨7, _⟩ => ⟨S_, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S_, .f32⟩
  | .hbm, ⟨23, _⟩ => ⟨S2x256x512, .f32⟩
  | .hbm, ⟨24, _⟩ => ⟨S2x256x512, .f32⟩
  | .hbm, ⟨25, _⟩ => ⟨S2x256x512, .f32⟩
  | .hbm, ⟨26, _⟩ => ⟨S_, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S1x4096x2048 : Shape := ⟨3, ![1, 4096, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel22.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S4x512x2048 : Shape := ⟨3, ![4, 512, 2048]⟩
abbrev S1x2048 : Shape := ⟨2, ![1, 2048]⟩
abbrev S256x2048 : Shape := ⟨2, ![256, 2048]⟩
abbrev S256x512 : Shape := ⟨2, ![256, 512]⟩
abbrev S1x512x2048 : Shape := ⟨3, ![1, 512, 2048]⟩
abbrev S512x2048 : Shape := ⟨2, ![512, 2048]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S1x4096x2048, .f32⟩
  | .hbm, ⟨4, _⟩ => ⟨S2048, .f32⟩
  | .hbm, ⟨5, _⟩ => ⟨S4096x2048, .f32⟩
  | .hbm, ⟨6, _⟩ => ⟨S4096x2048, .bf16⟩
  | .hbm, ⟨7, _⟩ => ⟨S4x512x2048, .f32⟩
  | .hbm, ⟨8, _⟩ => ⟨S4x512x2048, .bf16⟩
  | .hbm, ⟨9, _⟩ => ⟨S1x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S4x512x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S1x4096x2048, .f32⟩
  | .hbm, ⟨4, _⟩ => ⟨S2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel23.lean ====
abbrev S1x4096x2048 : Shape := ⟨3, ![1, 4096, 2048]⟩
abbrev S2048x2048 : Shape := ⟨2, ![2048, 2048]⟩
abbrev S1x4096x256 : Shape := ⟨3, ![1, 4096, 256]⟩
abbrev S256x2048 : Shape := ⟨2, ![256, 2048]⟩
abbrev S4096x2048 : Shape := ⟨2, ![4096, 2048]⟩
abbrev S4x512x2048 : Shape := ⟨3, ![4, 512, 2048]⟩
abbrev S4096x256 : Shape := ⟨2, ![4096, 256]⟩
abbrev S256x4x512 : Shape := ⟨3, ![256, 4, 512]⟩
abbrev S4x256x512 : Shape := ⟨3, ![4, 256, 512]⟩
abbrev S1x1 : Shape := ⟨2, ![1, 1]⟩
abbrev S256x256 : Shape := ⟨2, ![256, 256]⟩
abbrev S256x512 : Shape := ⟨2, ![256, 512]⟩
abbrev S1x512x2048 : Shape := ⟨3, ![1, 512, 2048]⟩
abbrev S512x2048 : Shape := ⟨2, ![512, 2048]⟩
abbrev S1x256x512 : Shape := ⟨3, ![1, 256, 512]⟩
abbrev S256 : Shape := ⟨1, ![256]⟩
abbrev S256x1 : Shape := ⟨2, ![256, 1]⟩
abbrev S1 : Shape := ⟨1, ![1]⟩

abbrev nBuf : Space → Nat
  | .hbm => 20
  | .vmem => 17
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x256, .f32⟩
  | .hbm, ⟨3, _⟩ => ⟨S256x2048, .f32⟩
  | .hbm, ⟨4, _⟩ => ⟨S1x4096x2048, .f32⟩
  | .hbm, ⟨5, _⟩ => ⟨S1x4096x2048, .f32⟩
  | .hbm, ⟨6, _⟩ => ⟨S4096x2048, .f32⟩
  | .hbm, ⟨7, _⟩ => ⟨S4096x2048, .bf16⟩
  | .hbm, ⟨8, _⟩ => ⟨S4x512x2048, .f32⟩
  | .hbm, ⟨9, _⟩ => ⟨S4x512x2048, .bf16⟩
  | .hbm, ⟨10, _⟩ => ⟨S4096x256, .f32⟩
  | .hbm, ⟨11, _⟩ => ⟨S256x4x512, .f32⟩
  | .hbm, ⟨12, _⟩ => ⟨S4x256x512, .f32⟩
  | .hbm, ⟨13, _⟩ => ⟨S4x256x512, .bf16⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S4096x2048, .bf16⟩
  | .hbm, ⟨19, _⟩ => ⟨S1x1, .f32⟩
  | .local _ .vmem, ⟨0, _⟩ => ⟨S256x2048, .bf16⟩
  | .local _ .vmem, ⟨1, _⟩ => ⟨S256x2048, .bf16⟩
  | .local _ .vmem, ⟨2, _⟩ => ⟨S4x512x2048, .bf16⟩
  | .local _ .vmem, ⟨3, _⟩ => ⟨S256x256, .f32⟩
  | .local _ .vmem, ⟨4, _⟩ => ⟨S256x256, .f32⟩
  | .local _ .vmem, ⟨5, _⟩ => ⟨S4x256x512, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x1, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_52 : BitVec 32 := 0#32
  let v75 : BitVec 1 := Scalar.cmpi .ne v74 c0_i32_52
  v75

def k0_cond2 (i : grid0.Coords) : BitVec 1 :=
  let arg0 : BitVec 32 := BitVec.ofNat 32 (i 0).val
  let c0_i32_53 : BitVec 32 := 0#32
  let v76 : BitVec 1 := Scalar.cmpi .sgt arg0 c0_i32_53
  let v77 : BitVec 32 := Scalar.extui v76
  let c0_i32_54 : BitVec 32 := 0#32
  let v78 : BitVec 1 := Scalar.cmpi .ne v77 c0_i32_54
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference23Ideal.lean ====
abbrev S1x4096x2048 : Shape := ⟨3, ![1, 4096, 2048]⟩
abbrev S2048x2048 : Shape := ⟨2, ![2048, 2048]⟩
abbrev S1x4096x256 : Shape := ⟨3, ![1, 4096, 256]⟩
abbrev S256x2048 : Shape := ⟨2, ![256, 2048]⟩
abbrev S4096x2048 : Shape := ⟨2, ![4096, 2048]⟩
abbrev S4096x256 : Shape := ⟨2, ![4096, 256]⟩
abbrev S_ : Shape := ⟨0, ![]⟩
abbrev S4096 : Shape := ⟨1, ![4096]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x256, .f32⟩
  | .hbm, ⟨3, _⟩ => ⟨S256x2048, .f32⟩
  | .hbm, ⟨4, _⟩ => ⟨S1x4096x2048, .f32⟩
  | .hbm, ⟨5, _⟩ => ⟨S1x4096x2048, .f32⟩
  | .hbm, ⟨6, _⟩ => ⟨S4096x2048, .f32⟩
  | .hbm, ⟨7, _⟩ => ⟨S4096x2048, .f32⟩
  | .hbm, ⟨8, _⟩ => ⟨S4096x256, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S4096x2048, .bf16⟩
  | .hbm, ⟨54, _⟩ => ⟨S1x1, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel24.lean ====
abbrev S1x4096x2048 : Shape := ⟨3, ![1, 4096, 2048]⟩
abbrev S2048x2048 : Shape := ⟨2, ![2048, 2048]⟩
abbrev S1x4096x256 : Shape := ⟨3, ![1, 4096, 256]⟩
abbrev S256x2048 : Shape := ⟨2, ![256, 2048]⟩
abbrev S2048 : Shape := ⟨1, ![2048]⟩
abbrev S4096x2048 : Shape := ⟨2, ![4096, 2048]⟩
abbrev S4x512x2048 : Shape := ⟨3, ![4, 512, 2048]⟩
abbrev S4096x256 : Shape := ⟨2, ![4096, 256]⟩
abbrev S256x4x512 : Shape := ⟨3, ![256, 4, 512]⟩
abbrev S4x256x512 : Shape := ⟨3, ![4, 256, 512]⟩
abbrev S1x2048 : Shape := ⟨2, ![1, 2048]⟩
abbrev S256x256 : Shape := ⟨2, ![256, 256]⟩
abbrev S256x512 : Shape := ⟨2, ![256, 512]⟩
abbrev S1x512x2048 : Shape := ⟨3, ![1, 512, 2048]⟩
abbrev S512x2048 : Shape := ⟨2, ![512, 2048]⟩
abbrev S1x256x512 : Shape := ⟨3, ![1, 256, 512]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x256, .f32⟩
  | .hbm, ⟨3, _⟩ => ⟨S256x2048, .f32⟩
  | .hbm, ⟨4, _⟩ => ⟨S1x4096x2048, .f32⟩
  | .hbm, ⟨5, _⟩ => ⟨S2048, .f32⟩
  | .hbm, ⟨6, _⟩ => ⟨S4096x2048, .f32⟩
  | .hbm, ⟨7, _⟩ => ⟨S4096x2048, .bf16⟩
  | .hbm, ⟨8, _⟩ => ⟨S4x512x2048, .f32⟩
  | .hbm, ⟨9, _⟩ => ⟨S4x512x2048, .bf16⟩
  | .hbm, ⟨10, _⟩ => ⟨S4096x256, .f32⟩
  | .hbm, ⟨11, _⟩ => ⟨S256x4x512, .f32⟩
  | .hbm, ⟨12, _⟩ => ⟨S4x256x512, .f32⟩
  | .hbm, ⟨13, _⟩ => ⟨S4x256x512, .bf16⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S4x512x2048, .bf16⟩
  | .local _ .vmem, ⟨3, _⟩ => ⟨S256x256, .f32⟩
  | .local _ .vmem, ⟨4, _⟩ => ⟨S256x256, .f32⟩
  | .local _ .vmem, ⟨5, _⟩ => ⟨S4x256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference24Ideal.lean ====
abbrev S1x4096x2048 : Shape := ⟨3, ![1, 4096, 2048]⟩
abbrev S2048x2048 : Shape := ⟨2, ![2048, 2048]⟩
abbrev S1x4096x256 : Shape := ⟨3, ![1, 4096, 256]⟩
abbrev S256x2048 : Shape := ⟨2, ![256, 2048]⟩
abbrev S2048 : Shape := ⟨1, ![2048]⟩
abbrev S4096x2048 : Shape := ⟨2, ![4096, 2048]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S1x4096x256, .f32⟩
  | .hbm, ⟨3, _⟩ => ⟨S256x2048, .f32⟩
  | .hbm, ⟨4, _⟩ => ⟨S1x4096x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S4096x256, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel25.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S1x4096x2048 : Shape := ⟨3, ![1, 4096, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel26.lean ====
abbrev S1x4096x256 : Shape := ⟨3, ![1, 4096, 256]⟩
abbrev S256x2048 : Shape := ⟨2, ![256, 2048]⟩
abbrev S1x4096x2048 : Shape := ⟨3, ![1, 4096, 2048]⟩
abbrev S4096x256 : Shape := ⟨2, ![4096, 256]⟩
abbrev S4096x2048 : Shape := ⟨2, ![4096, 2048]⟩
abbrev S2x4x128x512 : Shape := ⟨4, ![2, 4, 128, 512]⟩
abbrev S4096x128 : Shape := ⟨2, ![4096, 128]⟩
abbrev S4096x512 : Shape := ⟨2, ![4096, 512]⟩
abbrev S1x1x128x512 : Shape := ⟨4, ![1, 1, 128, 512]⟩
abbrev S128x512 : Shape := ⟨2, ![128, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x4096x256, .f32⟩
  | .hbm, ⟨1, _⟩ => ⟨S256x2048, .f32⟩
  | .hbm, ⟨2, _⟩ => ⟨S1x4096x2048, .f32⟩
  | .hbm, ⟨3, _⟩ => ⟨S4096x256, .f32⟩
  | .hbm, ⟨4, _⟩ => ⟨S4096x2048, .f32⟩
  | .hbm, ⟨5, _⟩ => ⟨S4096x2048, .bf16⟩
  | .hbm, ⟨6, _⟩ => ⟨S2x4x128x512, .bf16⟩
  | .local _ .vmem, ⟨0, _⟩ => ⟨S4096x128, .f32⟩
  | .local _ .vmem, ⟨1, _⟩ => ⟨S4096x128, .f32⟩
  | .local _ .vmem, ⟨2, _⟩ => ⟨S4096x512, .bf16⟩
  | .local _ .vmem, ⟨3, _⟩ => ⟨S4096x512, .bf16⟩
  | .local _ .vmem, ⟨4, _⟩ => ⟨S1x1x128x512, .bf16⟩
  | .local _ .vmem, ⟨5, _⟩ => ⟨S1x1x128x512, .bf16⟩
  | _, _ => ⟨S1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, v26.toNat, c0_i32_11.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S1x4096x256 : Shape := ⟨3, ![1, 4096, 256]⟩
abbrev S256x2048 : Shape := ⟨2, ![256, 2048]⟩
abbrev S1x4096x2048 : Shape := ⟨3, ![1, 4096, 2048]⟩
abbrev S4096x256 : Shape := ⟨2, ![4096, 256]⟩
abbrev S4096x2048 : Shape := ⟨2, ![4096, 2048]⟩
abbrev S2048x256 : Shape := ⟨2, ![2048, 256]⟩
abbrev S2x128x4x512 : Shape := ⟨4, ![2, 128, 4, 512]⟩
abbrev S2x4x128x512 : Shape := ⟨4, ![2, 4, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x256, .f32⟩
  | .hbm, ⟨1, _⟩ => ⟨S256x2048, .f32⟩
  | .hbm, ⟨2, _⟩ => ⟨S1x4096x2048, .f32⟩
  | .hbm, ⟨3, _⟩ => ⟨S4096x256, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S2x128x4x512, .f32⟩
  | .hbm, ⟨9, _⟩ => ⟨S2x4x128x512, .f32⟩
  | .hbm, ⟨10, _⟩ => ⟨S2x4x128x512, .bf16⟩
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel27.lean ====
abbrev S2x2048 : Shape := ⟨2, ![2, 2048]⟩
abbrev S2x1024 : Shape := ⟨2, ![2, 1024]⟩
abbrev S2x16 : Shape := ⟨2, ![2, 16]⟩
abbrev S32x128 : Shape := ⟨2, ![32, 128]⟩
abbrev S16x128 : Shape := ⟨2, ![16, 128]⟩
abbrev S_ : Shape := ⟨0, ![]⟩
abbrev S2x128 : Shape := ⟨2, ![2, 128]⟩
abbrev S6x128 : Shape := ⟨2, ![6, 128]⟩
abbrev S216x128 : Shape := ⟨2, ![216, 128]⟩
abbrev S8x128 : Shape := ⟨2, ![8, 128]⟩

abbrev nBuf : Space → Nat
  | .hbm => 96
  | .vmem => 8
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x16, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x16, .f32⟩
  | .hbm, ⟨18, _⟩ => ⟨S2x2048, .f32⟩
  | .hbm, ⟨19, _⟩ => ⟨S2x2048, .f32⟩
  | .hbm, ⟨20, _⟩ => ⟨S2x2048, .f32⟩
  | .hbm, ⟨21, _⟩ => ⟨S2x2048, .f32⟩
  | .hbm, ⟨22, _⟩ => ⟨S2x2048, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S2x16, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S2x2048, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S2x16, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S_, .i32⟩
  | .hbm, ⟨45, _⟩ => ⟨S_, .f32⟩
  | .hbm, ⟨46, _⟩ => ⟨S2x128, .f32⟩
  | .hbm, ⟨47, _⟩ => ⟨S_, .f32⟩
  | .hbm, ⟨48, _⟩ => ⟨S6x128, .f32⟩
  | .hbm, ⟨49, _⟩ => ⟨S216x128, .f32⟩
  | .hbm, ⟨50, _⟩ => ⟨S32x128, .f32⟩
  | .hbm, ⟨51, _⟩ => ⟨S32x128, .f32⟩
  | .hbm, ⟨52, _⟩ => ⟨S32x128, .f32⟩
  | .hbm, ⟨53, _⟩ => ⟨S32x128, .f32⟩
  | .hbm, ⟨54, _⟩ => ⟨S32x128, .f32⟩
  | .hbm, ⟨55, _⟩ => ⟨S16x128, .f32⟩
  | .hbm, ⟨56, _⟩ => ⟨S16x128, .f32⟩
  | .hbm, ⟨57, _⟩ => ⟨S16x128, .f32⟩
  | .hbm, ⟨58, _⟩ => ⟨S_, .i32⟩
  | .hbm, ⟨59, _⟩ => ⟨S_, .f32⟩
  | .hbm, ⟨60, _⟩ => ⟨S2x128, .f32⟩
  | .hbm, ⟨61, _⟩ => ⟨S_, .f32⟩
  | .hbm, ⟨62, _⟩ => ⟨S6x128, .f32⟩
  | .hbm, ⟨63, _⟩ => ⟨S216x128, .f32⟩
  | .hbm, ⟨64, _⟩ => ⟨S32x128, .f32⟩
  | .hbm, ⟨65, _⟩ => ⟨S32x128, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S16x128, .f32⟩
  | .hbm, ⟨70, _⟩ => ⟨S16x128, .f32⟩
  | .hbm, ⟨71, _⟩ => ⟨S16x128, .f32⟩
  | .hbm, ⟨72, _⟩ => ⟨S_, .i32⟩
  | .hbm, ⟨73, _⟩ => ⟨S_, .f32⟩
  | .hbm, ⟨74, _⟩ => ⟨S2x128, .f32⟩
  | .hbm, ⟨75, _⟩ => ⟨S_, .f32⟩
  | .hbm, ⟨76, _⟩ => ⟨S6x128, .f32⟩
  | .hbm, ⟨77, _⟩ => ⟨S216x128, .f32⟩
  | .hbm, ⟨78, _⟩ => ⟨S32x128, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S32x128, .f32⟩
  | .hbm, ⟨83, _⟩ => ⟨S16x128, .f32⟩
  | .hbm, ⟨84, _⟩ => ⟨S16x128, .f32⟩
  | .hbm, ⟨85, _⟩ => ⟨S16x128, .f32⟩
  | .hbm, ⟨86, _⟩ => ⟨S_, .i32⟩
  | .hbm, ⟨87, _⟩ => ⟨S_, .f32⟩
  | .hbm, ⟨88, _⟩ => ⟨S2x128, .f32⟩
  | .hbm, ⟨89, _⟩ => ⟨S_, .f32⟩
  | .hbm, ⟨90, _⟩ => ⟨S6x128, .f32⟩
  | .hbm, ⟨91, _⟩ => ⟨S216x128, .f32⟩
  | .hbm, ⟨92, _⟩ => ⟨S216x128, .f32⟩
  | .hbm, ⟨93, _⟩ => ⟨S216x128, .f32⟩
  | .hbm, ⟨94, _⟩ => ⟨S216x128, .f32⟩
  | .hbm, ⟨95, _⟩ => ⟨S216x128, .f32⟩
  | .local _ .vmem, ⟨0, _⟩ => ⟨S216x128, .f32⟩
  | .local _ .vmem, ⟨1, _⟩ => ⟨S216x128, .f32⟩
  | .local _ .vmem, ⟨2, _⟩ => ⟨S216x128, .f32⟩
  | .local _ .vmem, ⟨3, _⟩ => ⟨S216x128, .f32⟩
  | .local _ .vmem, ⟨4, _⟩ => ⟨S216x128, .f32⟩
  | .local _ .vmem, ⟨5, _⟩ => ⟨S216x128, .f32⟩
  | .local _ .vmem, ⟨6, _⟩ => ⟨S216x128, .f32⟩
  | .local _ .vmem, ⟨7, _⟩ => ⟨S216x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_c : Ref sig .tc := ⟨.hbm, 44, rfl⟩
abbrev main_call0_v0 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_0 : Ref sig .tc := ⟨.hbm, 58, rfl⟩
abbrev main_call1_v0 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_2 : Ref sig .tc := ⟨.hbm, 72, rfl⟩
abbrev main_call2_v0 : Ref sig .tc := ⟨.hbm, 73, rfl⟩
abbrev main_v30 : Ref sig .tc := ⟨.hbm, 74, rfl⟩
abbrev main_cst_3 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_4 : Ref sig .tc := ⟨.hbm, 86, rfl⟩
abbrev main_call3_v0 : Ref sig .tc := ⟨.hbm, 87, rfl⟩
abbrev main_v41 : Ref sig .tc := ⟨.hbm, 88, rfl⟩
abbrev main_cst_5 : Ref sig .tc := ⟨.hbm, 89, rfl⟩
abbrev main_v42 : Ref sig .tc := ⟨.hbm, 90, rfl⟩
abbrev main_v43 : Ref sig .tc := ⟨.hbm, 91, rfl⟩
abbrev main_v44_0 : Ref sig .tc := ⟨.hbm, 92, rfl⟩
abbrev main_v44_1 : Ref sig .tc := ⟨.hbm, 93, rfl⟩
abbrev main_v44_2 : Ref sig .tc := ⟨.hbm, 94, rfl⟩
abbrev main_v44_3 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference27Ideal.lean ====
abbrev S2x2048 : Shape := ⟨2, ![2, 2048]⟩
abbrev S2x1024 : Shape := ⟨2, ![2, 1024]⟩
abbrev S2x16 : Shape := ⟨2, ![2, 16]⟩
abbrev S_ : Shape := ⟨0, ![]⟩
abbrev S1024 : Shape := ⟨1, ![1024]⟩
abbrev S1x1024 : Shape := ⟨2, ![1, 1024]⟩
abbrev S32x128 : Shape := ⟨2, ![32, 128]⟩
abbrev S16x128 : Shape := ⟨2, ![16, 128]⟩
abbrev S2x128 : Shape := ⟨2, ![2, 128]⟩
abbrev S6x128 : Shape := ⟨2, ![6, 128]⟩
abbrev S216x128 : Shape := ⟨2, ![216, 128]⟩

abbrev nBuf : Space → Nat
  | .hbm => 458
  | .vmem => 0
  | .smem => 0
  | _ => 0

abbrev hbmTy0_0 (i : Nat) : BufTy := match i % 128 with
  | 0 => ⟨S2x2048, .f32⟩
  | 1 => ⟨S2x2048, .f32⟩
  | 2 => ⟨S2x2048, .f32⟩
  | 3 => ⟨S2x2048, .f32⟩
  | 4 => ⟨S2x2048, .f32⟩
  | 5 => ⟨S2x1024, .f32⟩
  | 6 => ⟨S2x1024, .f32⟩
  | 7 => ⟨S2x1024, .f32⟩
  | 8 => ⟨S2x16, .f32⟩
  | 9 => ⟨S2x2048, .f32⟩
  | 10 => ⟨S2x2048, .f32⟩
  | 11 => ⟨S2x2048, .f32⟩
  | 12 => ⟨S2x2048, .f32⟩
  | 13 => ⟨S2x2048, .f32⟩
  | 14 => ⟨S2x1024, .f32⟩
  | 15 => ⟨S2x1024, .f32⟩
  | 16 => ⟨S2x1024, .f32⟩
  | 17 => ⟨S2x16, .f32⟩
  | 18 => ⟨S2x2048, .f32⟩
  | 19 => ⟨S2x2048, .f32⟩
  | 20 => ⟨S2x2048, .f32⟩
  | 21 => ⟨S2x2048, .f32⟩
  | 22 => ⟨S2x2048, .f32⟩
  | 23 => ⟨S2x1024, .f32⟩
  | 24 => ⟨S2x1024, .f32⟩
  | 25 => ⟨S2x1024, .f32⟩
  | 26 => ⟨S2x16, .f32⟩
  | 27 => ⟨S2x2048, .f32⟩
  | 28 => ⟨S2x2048, .f32⟩
  | 29 => ⟨S2x2048, .f32⟩
  | 30 => ⟨S2x2048, .f32⟩
  | 31 => ⟨S2x2048, .f32⟩
  | 32 => ⟨S2x1024, .f32⟩
  | 33 => ⟨S2x1024, .f32⟩
  | 34 => ⟨S2x1024, .f32⟩
  | 35 => ⟨S2x16, .f32⟩
  | 36 => ⟨S_, .f32⟩
  | 37 => ⟨S1024, .f32⟩
  | 38 => ⟨S1x1024, .f32⟩
  | 39 => ⟨S2x1024, .f32⟩
  | 40 => ⟨S2x1024, .i1⟩
  | 41 => ⟨S2x1024, .f32⟩
  | 42 => ⟨S_, .f32⟩
  | 43 => ⟨S1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .i1⟩
  | 50 => ⟨S_, .f32⟩
  | 51 => ⟨S1024, .f32⟩
  | 52 => ⟨S1024, .i1⟩
  | 53 => ⟨S_, .f32⟩
  | 54 => ⟨S1024, .f32⟩
  | 55 => ⟨S_, .f32⟩
  | 56 => ⟨S1024, .f32⟩
  | 57 => ⟨S_, .f32⟩
  | 58 => ⟨S1024, .f32⟩
  | 59 => ⟨S1024, .f32⟩
  | 60 => ⟨S1024, .f32⟩
  | 61 => ⟨S1x1024, .f32⟩
  | 62 => ⟨S2x1024, .f32⟩
  | 63 => ⟨S2x1024, .f32⟩
  | 64 => ⟨S2x1024, .f32⟩
  | 65 => ⟨S_, .f32⟩
  | 66 => ⟨S1024, .f32⟩
  | 67 => ⟨S1x1024, .f32⟩
  | 68 => ⟨S2x1024, .f32⟩
  | 69 => ⟨S2x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S_, .f32⟩
  | 76 => ⟨S2x1024, .f32⟩
  | 77 => ⟨S1x1024, .f32⟩
  | 78 => ⟨S2x1024, .f32⟩
  | 79 => ⟨S2x1024, .f32⟩
  | 80 => ⟨S2x1024, .f32⟩
  | 81 => ⟨S2x1024, .f32⟩
  | 82 => ⟨S_, .f32⟩
  | 83 => ⟨S1024, .f32⟩
  | 84 => ⟨S1x1024, .f32⟩
  | 85 => ⟨S_, .f32⟩
  | 86 => ⟨S2x1024, .f32⟩
  | 87 => ⟨S_, .f32⟩
  | 88 => ⟨S_, .f32⟩
  | 89 => ⟨S2x1024, .f32⟩
  | 90 => ⟨S2x1024, .f32⟩
  | 91 => ⟨S2x1024, .f32⟩
  | 92 => ⟨S2x1024, .f32⟩
  | 93 => ⟨S2x1024, .f32⟩
  | 94 => ⟨S_, .f32⟩
  | 95 => ⟨S1024, .f32⟩
  | 96 => ⟨S1x1024, .f32⟩
  | 97 => ⟨S1x1024, .f32⟩
  | 98 => ⟨S2x1024, .f32⟩
  | 99 => ⟨S2x1024, .f32⟩
  | 100 => ⟨S_, .f32⟩
  | 101 => ⟨S1024, .f32⟩
  | 102 => ⟨S2x1024, .f32⟩
  | 103 => ⟨S2x1024, .f32⟩
  | 104 => ⟨S2x1024, .f32⟩
  | 105 => ⟨S_, .f32⟩
  | 106 => ⟨S2x2048, .f32⟩
  | 107 => ⟨S2x2048, .f32⟩
  | 108 => ⟨S_, .f32⟩
  | 109 => ⟨S2x2048, .f32⟩
  | 110 => ⟨S2x2048, .f32⟩
  | 111 => ⟨S2x2048, .f32⟩
  | 112 => ⟨S_, .f32⟩
  | 113 => ⟨S2x2048, .f32⟩
  | 114 => ⟨S2x2048, .f32⟩
  | 115 => ⟨S2x2048, .f32⟩
  | 116 => ⟨S_, .f32⟩
  | 117 => ⟨S2x2048, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S_, .f32⟩
  | 124 => ⟨S2x2048, .f32⟩
  | 125 => ⟨S2x2048, .f32⟩
  | 126 => ⟨S2x2048, .f32⟩
  | 127 => ⟨S_, .f32⟩
  | _ => ⟨S2x2048, .f32⟩

abbrev hbmTy0_1 (i : Nat) : BufTy := match i % 128 with
  | 0 => ⟨S2x2048, .f32⟩
  | 1 => ⟨S2x2048, .f32⟩
  | 2 => ⟨S2x2048, .f32⟩
  | 3 => ⟨S_, .f32⟩
  | 4 => ⟨S2x2048, .f32⟩
  | 5 => ⟨S2x2048, .f32⟩
  | 6 => ⟨S2x2048, .f32⟩
  | 7 => ⟨S_, .f32⟩
  | 8 => ⟨S2x2048, .f32⟩
  | 9 => ⟨S2x2048, .f32⟩
  | 10 => ⟨S_, .f32⟩
  | 11 => ⟨S2x2048, .f32⟩
  | 12 => ⟨S2x2048, .f32⟩
  | 13 => ⟨S_, .f32⟩
  | 14 => ⟨S2x2048, .f32⟩
  | 15 => ⟨S2x2048, .f32⟩
  | 16 => ⟨S2x2048, .f32⟩
  | 17 => ⟨S_, .f32⟩
  | 18 => ⟨S2x2048, .f32⟩
  | 19 => ⟨S2x2048, .f32⟩
  | 20 => ⟨S2x2048, .f32⟩
  | 21 => ⟨S_, .f32⟩
  | 22 => ⟨S2x2048, .f32⟩
  | 23 => ⟨S2x2048, .f32⟩
  | 24 => ⟨S2x2048, .f32⟩
  | 25 => ⟨S_, .f32⟩
  | 26 => ⟨S2x2048, .f32⟩
  | 27 => ⟨S2x2048, .f32⟩
  | 28 => ⟨S_, .f32⟩
  | 29 => ⟨S2x2048, .f32⟩
  | 30 => ⟨S2x2048, .f32⟩
  | 31 => ⟨S2x2048, .f32⟩
  | 32 => ⟨S_, .f32⟩
  | 33 => ⟨S2x2048, .f32⟩
  | 34 => ⟨S2x2048, .f32⟩
  | 35 => ⟨S2x2048, .f32⟩
  | 36 => ⟨S_, .f32⟩
  | 37 => ⟨S2x2048, .f32⟩
  | 38 => ⟨S2x2048, .f32⟩
  | 39 => ⟨S2x2048, .f32⟩
  | 40 => ⟨S_, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S2x2048, .f32⟩
  | 50 => ⟨S_, .f32⟩
  | 51 => ⟨S2x2048, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S_, .f32⟩
  | 62 => ⟨S2x2048, .f32⟩
  | 63 => ⟨S2x2048, .f32⟩
  | 64 => ⟨S2x2048, .f32⟩
  | 65 => ⟨S_, .f32⟩
  | 66 => ⟨S2x2048, .f32⟩
  | 67 => ⟨S2x2048, .f32⟩
  | 68 => ⟨S2x2048, .f32⟩
  | 69 => ⟨S_, .f32⟩
  | 70 => ⟨S2x2048, .f32⟩
  | 71 => ⟨S2x2048, .f32⟩
  | 72 => ⟨S2x2048, .f32⟩
  | 73 => ⟨S_, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S_, .f32⟩
  | 95 => ⟨S2x2048, .f32⟩
  | 96 => ⟨S2x2048, .f32⟩
  | 97 => ⟨S2x2048, .f32⟩
  | 98 => ⟨S_, .f32⟩
  | 99 => ⟨S2x2048, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S2x2048, .f32⟩
  | 106 => ⟨S_, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S_, .f32⟩
  | 113 => ⟨S2x2048, .f32⟩
  | 114 => ⟨S2x2048, .f32⟩
  | 115 => ⟨S2x2048, .f32⟩
  | 116 => ⟨S_, .f32⟩
  | 117 => ⟨S2x2048, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S_, .f32⟩
  | _ => ⟨S2x2048, .f32⟩

abbrev hbmTy0_2 (i : Nat) : BufTy := match i % 128 with
  | 0 => ⟨S2x2048, .f32⟩
  | 1 => ⟨S2x2048, .f32⟩
  | 2 => ⟨S2x2048, .f32⟩
  | 3 => ⟨S_, .f32⟩
  | 4 => ⟨S2x2048, .f32⟩
  | 5 => ⟨S2x2048, .f32⟩
  | 6 => ⟨S2x2048, .f32⟩
  | 7 => ⟨S_, .f32⟩
  | 8 => ⟨S2x2048, .f32⟩
  | 9 => ⟨S2x2048, .f32⟩
  | 10 => ⟨S2x2048, .f32⟩
  | 11 => ⟨S_, .f32⟩
  | 12 => ⟨S2x2048, .f32⟩
  | 13 => ⟨S2x2048, .f32⟩
  | 14 => ⟨S_, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S2x1024, .f32⟩
  | 21 => ⟨S_, .f32⟩
  | 22 => ⟨S2x1024, .f32⟩
  | 23 => ⟨S2x1024, .f32⟩
  | 24 => ⟨S2x1024, .f32⟩
  | 25 => ⟨S_, .f32⟩
  | 26 => ⟨S2x1024, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S2x1024, .f32⟩
  | 36 => ⟨S_, .f32⟩
  | 37 => ⟨S2x1024, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S2x1024, .f32⟩
  | 77 => ⟨S_, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S_, .f32⟩
  | 99 => ⟨S2x1024, .f32⟩
  | 100 => ⟨S2x1024, .f32⟩
  | 101 => ⟨S2x1024, .f32⟩
  | 102 => ⟨S_, .f32⟩
  | 103 => ⟨S2x1024, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S2x1024, .f32⟩
  | 110 => ⟨S_, .f32⟩
  | 111 => ⟨S2x1024, .f32⟩
  | 112 => ⟨S2x1024, .f32⟩
  | 113 => ⟨S_, .f32⟩
  | 114 => ⟨S2x16, .f32⟩
  | 115 => ⟨S2x16, .f32⟩
  | 116 => ⟨S_, .f32⟩
  | 117 => ⟨S2x16, .f32⟩
  | 118 => ⟨S2x16, .f32⟩
  | 119 => ⟨S2x16, .f32⟩
  | 120 => ⟨S_, .f32⟩
  | 121 => ⟨S2x16, .f32⟩
  | 122 => ⟨S2x16, .f32⟩
  | 123 => ⟨S2x16, .f32⟩
  | 124 => ⟨S_, .f32⟩
  | 125 => ⟨S2x16, .f32⟩
  | 126 => ⟨S2x16, .f32⟩
  | 127 => ⟨S2x16, .f32⟩
  | _ => ⟨S2x2048, .f32⟩

abbrev hbmTy0_3 (i : Nat) : BufTy := match i % 128 with
  | 0 => ⟨S_, .f32⟩
  | 1 => ⟨S2x16, .f32⟩
  | 2 => ⟨S2x16, .f32⟩
  | 3 => ⟨S_, .f32⟩
  | 4 => ⟨S2x16, .f32⟩
  | 5 => ⟨S2x16, .f32⟩
  | 6 => ⟨S2x16, .f32⟩
  | 7 => ⟨S_, .f32⟩
  | 8 => ⟨S2x16, .f32⟩
  | 9 => ⟨S2x16, .f32⟩
  | 10 => ⟨S2x16, .f32⟩
  | 11 => ⟨S_, .f32⟩
  | 12 => ⟨S2x16, .f32⟩
  | 13 => ⟨S2x16, .f32⟩
  | 14 => ⟨S2x16, .f32⟩
  | 15 => ⟨S_, .f32⟩
  | 16 => ⟨S2x16, .f32⟩
  | 17 => ⟨S2x16, .f32⟩
  | 18 => ⟨S32x128, .f32⟩
  | 19 => ⟨S32x128, .f32⟩
  | 20 => ⟨S32x128, .f32⟩
  | 21 => ⟨S32x128, .f32⟩
  | 22 => ⟨S32x128, .f32⟩
  | 23 => ⟨S16x128, .f32⟩
  | 24 => ⟨S16x128, .f32⟩
  | 25 => ⟨S16x128, .f32⟩
  | 26 => ⟨S_, .i32⟩
  | 27 => ⟨S_, .f32⟩
  | 28 => ⟨S2x128, .f32⟩
  | 29 => ⟨S_, .f32⟩
  | 30 => ⟨S6x128, .f32⟩
  | 31 => ⟨S216x128, .f32⟩
  | 32 => ⟨S32x128, .f32⟩
  | 33 => ⟨S32x128, .f32⟩
  | 34 => ⟨S32x128, .f32⟩
  | 35 => ⟨S32x128, .f32⟩
  | 36 => ⟨S32x128, .f32⟩
  | 37 => ⟨S16x128, .f32⟩
  | 38 => ⟨S16x128, .f32⟩
  | 39 => ⟨S16x128, .f32⟩
  | 40 => ⟨S_, .i32⟩
  | 41 => ⟨S_, .f32⟩
  | 42 => ⟨S2x128, .f32⟩
  | 43 => ⟨S_, .f32⟩
  | 44 => ⟨S6x128, .f32⟩
  | 45 => ⟨S216x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S16x128, .f32⟩
  | 52 => ⟨S16x128, .f32⟩
  | 53 => ⟨S16x128, .f32⟩
  | 54 => ⟨S_, .i32⟩
  | 55 => ⟨S_, .f32⟩
  | 56 => ⟨S2x128, .f32⟩
  | 57 => ⟨S_, .f32⟩
  | 58 => ⟨S6x128, .f32⟩
  | 59 => ⟨S216x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S16x128, .f32⟩
  | 66 => ⟨S16x128, .f32⟩
  | 67 => ⟨S16x128, .f32⟩
  | 68 => ⟨S_, .i32⟩
  | 69 => ⟨S_, .f32⟩
  | 70 => ⟨S2x128, .f32⟩
  | 71 => ⟨S_, .f32⟩
  | 72 => ⟨S6x128, .f32⟩
  | 73 => ⟨S216x128, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst_0 : Ref sig .tc := ⟨.hbm, 42, rfl⟩
abbrev main_v5 : Ref sig .tc := ⟨.hbm, 43, rfl⟩
abbrev main_cst_1 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_cst_3 : Ref sig .tc := ⟨.hbm, 50, rfl⟩
abbrev main_v10 : Ref sig .tc := ⟨.hbm, 51, rfl⟩
abbrev main_v11 : Ref sig .tc := ⟨.hbm, 52, rfl⟩
abbrev main_cst_4 : Ref sig .tc := ⟨.hbm, 53, rfl⟩
abbrev main_v12 : Ref sig .tc := ⟨.hbm, 54, rfl⟩
abbrev main_cst_5 : Ref sig .tc := ⟨.hbm, 55, rfl⟩
abbrev main_v13 : Ref sig .tc := ⟨.hbm, 56, rfl⟩
abbrev main_cst_6 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_7 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_8 : Ref sig .tc := ⟨.hbm, 71, rfl⟩
abbrev main_v26 : Ref sig .tc := ⟨.hbm, 72, rfl⟩
abbrev main_v27 : Ref sig .tc := ⟨.hbm, 73, rfl⟩
abbrev main_call0_call0_cst : Ref sig .tc := ⟨.hbm, 74, rfl⟩
abbrev main_call0_call0_v0 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_cst_9 : Ref sig .tc := ⟨.hbm, 82, rfl⟩
abbrev main_v34 : Ref sig .tc := ⟨.hbm, 83, rfl⟩
abbrev main_v35 : Ref sig .tc := ⟨.hbm, 84, rfl⟩
abbrev main_cst_10 : Ref sig .tc := ⟨.hbm, 85, rfl⟩
abbrev main_v36 : Ref sig .tc := ⟨.hbm, 86, rfl⟩
abbrev main_call1_call0_cst : Ref sig .tc := ⟨.hbm, 87, rfl⟩
abbrev main_call1_call0_v0 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_11 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_12 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_13 : Ref sig .tc := ⟨.hbm, 105, rfl⟩
abbrev main_v51 : Ref sig .tc := ⟨.hbm, 106, rfl⟩
abbrev main_v52 : Ref sig .tc := ⟨.hbm, 107, rfl⟩
abbrev main_cst_14 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_15 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_16 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_17 : Ref sig .tc := ⟨.hbm, 120, rfl⟩
abbrev main_v62 : Ref sig .tc := ⟨.hbm, 121, rfl⟩
abbrev main_v63 : Ref sig .tc := ⟨.hbm, 122, rfl⟩
abbrev main_cst_18 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_19 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_20 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_21 : Ref sig .tc := ⟨.hbm, 135, rfl⟩
abbrev main_v73 : Ref sig .tc := ⟨.hbm, 136, rfl⟩
abbrev main_v74 : Ref sig .tc := ⟨.hbm, 137, rfl⟩
abbrev main_cst_22 : Ref sig .tc := ⟨.hbm, 138, rfl⟩
abbrev main_v75 : Ref sig .tc := ⟨.hbm, 139, rfl⟩
abbrev main_v76 : Ref sig .tc := ⟨.hbm, 140, rfl⟩
abbrev main_cst_23 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_24 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_25 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_26 : Ref sig .tc := ⟨.hbm, 153, rfl⟩
abbrev main_v86 : Ref sig .tc := ⟨.hbm, 154, rfl⟩
abbrev main_v87 : Ref sig .tc := ⟨.hbm, 155, rfl⟩
abbrev main_cst_27 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_28 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_29 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_30 : Ref sig .tc := ⟨.hbm, 168, rfl⟩
abbrev main_v97 : Ref sig .tc := ⟨.hbm, 169, rfl⟩
abbrev main_v98 : Ref sig .tc := ⟨.hbm, 170, rfl⟩
abbrev main_cst_31 : Ref sig .tc := ⟨.hbm, 171, rfl⟩
abbrev main_v99 : Ref sig .tc := ⟨.hbm, 172, rfl⟩
abbrev main_v100 : Ref sig .tc := ⟨.hbm, 173, rfl⟩
abbrev main_cst_32 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_33 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_34 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_cst_35 : Ref sig .tc := ⟨.hbm, 186, rfl⟩
abbrev main_v110 : Ref sig .tc := ⟨.hbm, 187, rfl⟩
abbrev main_v111 : Ref sig .tc := ⟨.hbm, 188, rfl⟩
abbrev main_cst_36 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_37 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_38 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_39 : Ref sig .tc := ⟨.hbm, 201, rfl⟩
abbrev main_v121 : Ref sig .tc := ⟨.hbm, 202, rfl⟩
abbrev main_v122 : Ref sig .tc := ⟨.hbm, 203, rfl⟩
abbrev main_cst_40 : Ref sig .tc := ⟨.hbm, 204, rfl⟩
abbrev main_v123 : Ref sig .tc := ⟨.hbm, 205, rfl⟩
abbrev main_v124 : Ref sig .tc := ⟨.hbm, 206, rfl⟩
abbrev main_cst_41 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_42 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_43 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_cst_44 : Ref sig .tc := ⟨.hbm, 219, rfl⟩
abbrev main_v134 : Ref sig .tc := ⟨.hbm, 220, rfl⟩
abbrev main_v135 : Ref sig .tc := ⟨.hbm, 221, rfl⟩
abbrev main_cst_45 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_cst_46 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_47 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_48 : Ref sig .tc := ⟨.hbm, 234, rfl⟩
abbrev main_v145 : Ref sig .tc := ⟨.hbm, 235, rfl⟩
abbrev main_v146 : Ref sig .tc := ⟨.hbm, 236, rfl⟩
abbrev main_cst_49 : Ref sig .tc := ⟨.hbm, 237, rfl⟩
abbrev main_v147 : Ref sig .tc := ⟨.hbm, 238, rfl⟩
abbrev main_v148 : Ref sig .tc := ⟨.hbm, 239, rfl⟩
abbrev main_cst_50 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_cst_51 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_cst_52 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_53 : Ref sig .tc := ⟨.hbm, 252, rfl⟩
abbrev main_v158 : Ref sig .tc := ⟨.hbm, 253, rfl⟩
abbrev main_v159 : Ref sig .tc := ⟨.hbm, 254, rfl⟩
abbrev main_cst_54 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_cst_55 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_cst_56 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_57 : Ref sig .tc := ⟨.hbm, 267, rfl⟩
abbrev main_v169 : Ref sig .tc := ⟨.hbm, 268, rfl⟩
abbrev main_v170 : Ref sig .tc := ⟨.hbm, 269, rfl⟩
abbrev main_cst_58 : Ref sig .tc := ⟨.hbm, 270, rfl⟩
abbrev main_v171 : Ref sig .tc := ⟨.hbm, 271, rfl⟩
abbrev main_v172 : Ref sig .tc := ⟨.hbm, 272, rfl⟩
abbrev main_cst_59 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_60 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_61 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_cst_62 : Ref sig .tc := ⟨.hbm, 285, rfl⟩
abbrev main_v182 : Ref sig .tc := ⟨.hbm, 286, rfl⟩
abbrev main_v183 : Ref sig .tc := ⟨.hbm, 287, rfl⟩
abbrev main_cst_63 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_cst_64 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_cst_65 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_cst_66 : Ref sig .tc := ⟨.hbm, 300, rfl⟩
abbrev main_v193 : Ref sig .tc := ⟨.hbm, 301, rfl⟩
abbrev main_v194 : Ref sig .tc := ⟨.hbm, 302, rfl⟩
abbrev main_cst_67 : Ref sig .tc := ⟨.hbm, 303, rfl⟩
abbrev main_v195 : Ref sig .tc := ⟨.hbm, 304, rfl⟩
abbrev main_v196 : Ref sig .tc := ⟨.hbm, 305, rfl⟩
abbrev main_cst_68 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_cst_69 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_cst_70 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_cst_71 : Ref sig .tc := ⟨.hbm, 318, rfl⟩
abbrev main_v206 : Ref sig .tc := ⟨.hbm, 319, rfl⟩
abbrev main_v207 : Ref sig .tc := ⟨.hbm, 320, rfl⟩
abbrev main_cst_72 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_cst_73 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_cst_74 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_cst_75 : Ref sig .tc := ⟨.hbm, 333, rfl⟩
abbrev main_v217 : Ref sig .tc := ⟨.hbm, 334, rfl⟩
abbrev main_v218 : Ref sig .tc := ⟨.hbm, 335, rfl⟩
abbrev main_cst_76 : Ref sig .tc := ⟨.hbm, 336, rfl⟩
abbrev main_v219 : Ref sig .tc := ⟨.hbm, 337, rfl⟩
abbrev main_v220 : Ref sig .tc := ⟨.hbm, 338, rfl⟩
abbrev main_cst_77 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_cst_78 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_cst_79 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_cst_80 : Ref sig .tc := ⟨.hbm, 351, rfl⟩
abbrev main_v230 : Ref sig .tc := ⟨.hbm, 352, rfl⟩
abbrev main_v231 : Ref sig .tc := ⟨.hbm, 353, rfl⟩
abbrev main_cst_81 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_cst_82 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_cst_83 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_cst_84 : Ref sig .tc := ⟨.hbm, 366, rfl⟩
abbrev main_v241 : Ref sig .tc := ⟨.hbm, 367, rfl⟩
abbrev main_v242 : Ref sig .tc := ⟨.hbm, 368, rfl⟩
abbrev main_cst_85 : Ref sig .tc := ⟨.hbm, 369, rfl⟩
abbrev main_v243 : Ref sig .tc := ⟨.hbm, 370, rfl⟩
abbrev main_v244 : Ref sig .tc := ⟨.hbm, 371, rfl⟩
abbrev main_cst_86 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_cst_87 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_cst_88 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_cst_89 : Ref sig .tc := ⟨.hbm, 384, rfl⟩
abbrev main_v254 : Ref sig .tc := ⟨.hbm, 385, rfl⟩
abbrev main_v255 : Ref sig .tc := ⟨.hbm, 386, rfl⟩
abbrev main_cst_90 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_cst_91 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_cst_92 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_cst_93 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_c : Ref sig .tc := ⟨.hbm, 410, rfl⟩
abbrev main_call2_v0 : Ref sig .tc := ⟨.hbm, 411, rfl⟩
abbrev main_v275 : Ref sig .tc := ⟨.hbm, 412, rfl⟩
abbrev main_cst_94 : Ref sig .tc := ⟨.hbm, 413, rfl⟩
abbrev main_v276 : Ref sig .tc := ⟨.hbm, 414, rfl⟩
abbrev main_v277 : Ref sig .tc := ⟨.hbm, 415, rfl⟩
abbrev main_v278 : Ref sig .tc := ⟨.hbm, 416, rfl⟩
abbrev main_v279 : Ref sig .tc := ⟨.hbm, 417, rfl⟩
abbrev main_v280 : Ref sig .tc := ⟨.hbm, 418, rfl⟩
abbrev main_v281 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_v285 : Ref sig .tc := ⟨.hbm, 423, rfl⟩
abbrev main_c_95 : Ref sig .tc := ⟨.hbm, 424, rfl⟩
abbrev main_call3_v0 : Ref sig .tc := ⟨.hbm, 425, rfl⟩
abbrev main_v286 : Ref sig .tc := ⟨.hbm, 426, rfl⟩
abbrev main_cst_96 : Ref sig .tc := ⟨.hbm, 427, rfl⟩
abbrev main_v287 : Ref sig .tc := ⟨.hbm, 428, rfl⟩
abbrev main_v288 : Ref sig .tc := ⟨.hbm, 429, rfl⟩
abbrev main_v289 : Ref sig .tc := ⟨.hbm, 430, rfl⟩
abbrev main_v290 : Ref sig .tc := ⟨.hbm, 431, rfl⟩
abbrev main_v291 : Ref sig .tc := ⟨.hbm, 432, rfl⟩
abbrev main_v292 : Ref sig .tc := ⟨.hbm, 433, rfl⟩
abbrev main_v293 : Ref sig .tc := ⟨.hbm, 434, rfl⟩
abbrev main_v294 : Ref sig .tc := ⟨.hbm, 435, rfl⟩
abbrev main_v295 : Ref sig .tc := ⟨.hbm, 436, rfl⟩
abbrev main_v296 : Ref sig .tc := ⟨.hbm, 437, rfl⟩
abbrev main_c_97 : Ref sig .tc := ⟨.hbm, 438, rfl⟩
abbrev main_call4_v0 : Ref sig .tc := ⟨.hbm, 439, rfl⟩
abbrev main_v297 : Ref sig .tc := ⟨.hbm, 440, rfl⟩
abbrev main_cst_98 : Ref sig .tc := ⟨.hbm, 441, rfl⟩
abbrev main_v298 : Ref sig .tc := ⟨.hbm, 442, rfl⟩
abbrev main_v299 : Ref sig .tc := ⟨.hbm, 443, rfl⟩
abbrev main_v300 : Ref sig .tc := ⟨.hbm, 444, rfl⟩
abbrev main_v301 : Ref sig .tc := ⟨.hbm, 445, rfl⟩
abbrev main_v302 : Ref sig .tc := ⟨.hbm, 446, rfl⟩
abbrev main_v303 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_v307 : Ref sig .tc := ⟨.hbm, 451, rfl⟩
abbrev main_c_99 : Ref sig .tc := ⟨.hbm, 452, rfl⟩
abbrev main_call5_v0 : Ref sig .tc := ⟨.hbm, 453, rfl⟩
abbrev main_v308 : Ref sig .tc := ⟨.hbm, 454, rfl⟩
abbrev main_cst_100 : Ref sig .tc := ⟨.hbm, 455, rfl⟩
abbrev main_v309 : Ref sig .tc := ⟨.hbm, 456, rfl⟩
abbrev main_v310 : Ref sig .tc := ⟨.hbm, 457, rfl⟩

abbrev nD : Nat := 1
abbrev τ : Topo := Topo.v7x

variable {F : FTy → Type} [FloatOps F]
-- ==== Kernel28.lean ====
abbrev S1x4096 : Shape := ⟨2, ![1, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x1 : Shape := ⟨2, ![4096, 1]⟩
abbrev S4096x128 : Shape := ⟨2, ![4096, 128]⟩
abbrev S512x1 : Shape := ⟨2, ![512, 1]⟩
abbrev S512x128 : Shape := ⟨2, ![512, 128]⟩

abbrev nBuf : Space → Nat
  | .hbm => 16
  | .vmem => 7
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S4096x1, .i32⟩
  | .hbm, ⟨14, _⟩ => ⟨S4096x128, .f32⟩
  | .hbm, ⟨15, _⟩ => ⟨S4096x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S1x4096 : Shape := ⟨2, ![1, 4096]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S4096, .i32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x128, .f32⟩
  | .hbm, ⟨19, _⟩ => ⟨S4096x32, .f32⟩
  | .hbm, ⟨20, _⟩ => ⟨S4096x32, .f32⟩
  | .hbm, ⟨21, _⟩ => ⟨S4096x128, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel29.lean ====
abbrev S1x4096x1024 : Shape := ⟨3, ![1, 4096, 1024]⟩
abbrev S1x4096x8x128 : Shape := ⟨4, ![1, 4096, 8, 128]⟩
abbrev S1x4096x5632 : Shape := ⟨3, ![1, 4096, 5632]⟩
abbrev S1024 : Shape := ⟨1, ![1024]⟩
abbrev S4096x1024 : Shape := ⟨2, ![4096, 1024]⟩
abbrev S4096x8x128 : Shape := ⟨3, ![4096, 8, 128]⟩
abbrev S4096x5632 : Shape := ⟨2, ![4096, 5632]⟩
abbrev S1x1024 : Shape := ⟨2, ![1, 1024]⟩
abbrev S4096x2048 : Shape := ⟨2, ![4096, 2048]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x4096x8x128, .f32⟩
  | .hbm, ⟨2, _⟩ => ⟨S1x4096x5632, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x5632, .f32⟩
  | .hbm, ⟨9, _⟩ => ⟨S1x1024, .f32⟩
  | .hbm, ⟨10, _⟩ => ⟨S1x1024, .f32⟩
  | .hbm, ⟨11, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S1x4096x1024 : Shape := ⟨3, ![1, 4096, 1024]⟩
abbrev S1x4096x8x128 : Shape := ⟨4, ![1, 4096, 8, 128]⟩
abbrev S1x4096x5632 : Shape := ⟨3, ![1, 4096, 5632]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x8x128 : Shape := ⟨3, ![4096, 8, 128]⟩
abbrev S8x128 : Shape := ⟨2, ![8, 128]⟩
abbrev S4096x8 : Shape := ⟨2, ![4096, 8]⟩
abbrev S4096x8x1 : Shape := ⟨3, ![4096, 8, 1]⟩
abbrev S1x8x128 : Shape := ⟨3, ![1, 8, 128]⟩
abbrev S4096x2048 : Shape := ⟨2, ![4096, 2048]⟩

abbrev nBuf : Space → Nat
  | .hbm => 55
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x8x128, .f32⟩
  | .hbm, ⟨2, _⟩ => ⟨S1x4096x5632, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x1024, .f32⟩
  | .hbm, ⟨24, _⟩ => ⟨S4096x8x128, .f32⟩
  | .hbm, ⟨25, _⟩ => ⟨S8x128, .f32⟩
  | .hbm, ⟨26, _⟩ => ⟨S4096x8x128, .f32⟩
  | .hbm, ⟨27, _⟩ => ⟨S_, .f32⟩
  | .hbm, ⟨28, _⟩ => ⟨S4096x8, .f32⟩
  | .hbm, ⟨29, _⟩ => ⟨S4096x8x1, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x1, .f32⟩
  | .hbm, ⟨37, _⟩ => ⟨S4096x8x128, .f32⟩
  | .hbm, ⟨38, _⟩ => ⟨S4096x8x128, .f32⟩
  | .hbm, ⟨39, _⟩ => ⟨S1x8x128, .f32⟩
  | .hbm, ⟨40, _⟩ => ⟨S4096x8x128, .f32⟩
  | .hbm, ⟨41, _⟩ => ⟨S4096x8x128, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2048, .f32⟩
  | .hbm, ⟨54, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel30.lean ====
abbrev S1x4096x5632 : Shape := ⟨3, ![1, 4096, 5632]⟩
abbrev S4096x32 : Shape := ⟨2, ![4096, 32]⟩
abbrev S4096x128 : Shape := ⟨2, ![4096, 128]⟩
abbrev S4096x5632 : Shape := ⟨2, ![4096, 5632]⟩
abbrev S4096x2048 : Shape := ⟨2, ![4096, 2048]⟩
abbrev S4096x512 : Shape := ⟨2, ![4096, 512]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x4096x5632, .f32⟩
  | .hbm, ⟨1, _⟩ => ⟨S4096x32, .f32⟩
  | .hbm, ⟨2, _⟩ => ⟨S4096x32, .f32⟩
  | .hbm, ⟨3, _⟩ => ⟨S4096x128, .f32⟩
  | .hbm, ⟨4, _⟩ => ⟨S4096x32, .f32⟩
  | .hbm, ⟨5, _⟩ => ⟨S4096x32, .f32⟩
  | .hbm, ⟨6, _⟩ => ⟨S4096x128, .f32⟩
  | .hbm, ⟨7, _⟩ => ⟨S4096x5632, .f32⟩
  | .hbm, ⟨8, _⟩ => ⟨S4096x2048, .bf16⟩
  | .hbm, ⟨9, _⟩ => ⟨S4096x512, .bf16⟩
  | .hbm, ⟨10, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1x4096x5632 : Shape := ⟨3, ![1, 4096, 5632]⟩
abbrev S4096x32 : Shape := ⟨2, ![4096, 32]⟩
abbrev S4096x5632 : Shape := ⟨2, ![4096, 5632]⟩
abbrev S4096x1024 : Shape := ⟨2, ![4096, 1024]⟩
abbrev S4096x256 : Shape := ⟨2, ![4096, 256]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x4x64 : Shape := ⟨3, ![4096, 4, 64]⟩
abbrev S4096x4x32 : Shape := ⟨3, ![4096, 4, 32]⟩
abbrev S_ : Shape := ⟨0, ![]⟩
abbrev S4096x16x128 : Shape := ⟨3, ![4096, 16, 128]⟩
abbrev S4096x2048 : Shape := ⟨2, ![4096, 2048]⟩
abbrev S4096x4x128 : Shape := ⟨3, ![4096, 4, 128]⟩
abbrev S4096x512 : Shape := ⟨2, ![4096, 512]⟩

abbrev nBuf : Space → Nat
  | .hbm => 57
  | .vmem => 0
  | .smem => 0
  | _ => 0

abbrev bufTy : (tb : Table) → Fin (tcTables nBuf tb) → BufTy
  | .hbm, ⟨0, _⟩ => ⟨S1x4096x5632, .f32⟩
  | .hbm, ⟨1, _⟩ => ⟨S4096x32, .f32⟩
  | .hbm, ⟨2, _⟩ => ⟨S4096x32, .f32⟩
  | .hbm, ⟨3, _⟩ => ⟨S4096x5632, .f32⟩
  | .hbm, ⟨4, _⟩ => ⟨S4096x1024, .f32⟩
  | .hbm, ⟨5, _⟩ => ⟨S4096x5632, .f32⟩
  | .hbm, ⟨6, _⟩ => ⟨S4096x256, .f32⟩
  | .hbm, ⟨7, _⟩ => ⟨S4096x5632, .f32⟩
  | .hbm, ⟨8, _⟩ => ⟨S4096x256, .f32⟩
  | .hbm, ⟨9, _⟩ => ⟨S4096x16x64, .f32⟩
  | .hbm, ⟨10, _⟩ => ⟨S4096x1x32, .f32⟩
  | .hbm, ⟨11, _⟩ => ⟨S4096x1x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x64, .f32⟩
  | .hbm, ⟨25, _⟩ => ⟨S4096x4x64, .f32⟩
  | .hbm, ⟨26, _⟩ => ⟨S4096x1x32, .f32⟩
  | .hbm, ⟨27, _⟩ => ⟨S4096x1x32, .f32⟩
  | .hbm, ⟨28, _⟩ => ⟨S4096x4x32, .f32⟩
  | .hbm, ⟨29, _⟩ => ⟨S4096x4x32, .f32⟩
  | .hbm, ⟨30, _⟩ => ⟨S4096x4x32, .f32⟩
  | .hbm, ⟨31, _⟩ => ⟨S4096x4x32, .f32⟩
  | .hbm, ⟨32, _⟩ => ⟨S4096x4x32, .f32⟩
  | .hbm, ⟨33, _⟩ => ⟨S4096x4x32, .f32⟩
  | .hbm, ⟨34, _⟩ => ⟨S4096x4x32, .f32⟩
  | .hbm, ⟨35, _⟩ => ⟨S4096x4x32, .f32⟩
  | .hbm, ⟨36, _⟩ => ⟨S4096x4x32, .f32⟩
  | .hbm, ⟨37, _⟩ => ⟨S4096x4x32, .f32⟩
  | .hbm, ⟨38, _⟩ => ⟨S4096x4x32, .f32⟩
  | .hbm, ⟨39, _⟩ => ⟨S4096x4x32, .f32⟩
  | .hbm, ⟨40, _⟩ => ⟨S4096x4x64, .f32⟩
  | .hbm, ⟨41, _⟩ => ⟨S4096x4x64, .f32⟩
  | .hbm, ⟨42, _⟩ => ⟨S_, .i32⟩
  | .hbm, ⟨43, _⟩ => ⟨S_, .f32⟩
  | .hbm, ⟨44, _⟩ => ⟨S4096x16x128, .f32⟩
  | .hbm, ⟨45, _⟩ => ⟨S4096x2048, .f32⟩
  | .hbm, ⟨46, _⟩ => ⟨S4096x2048, .bf16⟩
  | .hbm, ⟨47, _⟩ => ⟨S_, .i32⟩
  | .hbm, ⟨48, _⟩ => ⟨S_, .f32⟩
  | .hbm, ⟨49, _⟩ => ⟨S4096x4x128, .f32⟩
  | .hbm, ⟨50, _⟩ => ⟨S4096x512, .f32⟩
  | .hbm, ⟨51, _⟩ => ⟨S4096x512, .bf16⟩
  | .hbm, ⟨52, _⟩ => ⟨S_, .i32⟩
  | .hbm, ⟨53, _⟩ => ⟨S_, .f32⟩
  | .hbm, ⟨54, _⟩ => ⟨S4096x4x128, .f32⟩
  | .hbm, ⟨55, _⟩ => ⟨S4096x512, .f32⟩
  | .hbm, ⟨56, _⟩ => ⟨S4096x512, .bf16⟩
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_c : Ref sig .tc := ⟨.hbm, 42, rfl⟩
abbrev main_call0_v0 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c_0 : Ref sig .tc := ⟨.hbm, 47, rfl⟩
abbrev main_call1_v0 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c_1 : Ref sig .tc := ⟨.hbm, 52, rfl⟩
abbrev main_call2_v0 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel31.lean ====
abbrev S1x4096x16x64 : Shape := ⟨4, ![1, 4096, 16, 64]⟩
abbrev S1x4096x4x64 : Shape := ⟨4, ![1, 4096, 4, 64]⟩
abbrev S4096x32 : Shape := ⟨2, ![4096, 32]⟩
abbrev S4096x128 : Shape := ⟨2, ![4096, 128]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S4096x4x64 : Shape := ⟨3, ![4096, 4, 64]⟩
abbrev S4096x4x128 : Shape := ⟨3, ![4096, 4, 128]⟩
abbrev S4096x512 : Shape := ⟨2, ![4096, 512]⟩
abbrev S4096x1536 : Shape := ⟨2, ![4096, 1536]⟩
abbrev S128x2048 : Shape := ⟨2, ![128, 2048]⟩
abbrev S128x512 : Shape := ⟨2, ![128, 512]⟩
abbrev S128x128 : Shape := ⟨2, ![128, 128]⟩
abbrev S128x1536 : Shape := ⟨2, ![128, 1536]⟩

abbrev nBuf : Space → Nat
  | .hbm => 37
  | .vmem => 16
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x4x64, .f32⟩
  | .hbm, ⟨2, _⟩ => ⟨S1x4096x4x64, .f32⟩
  | .hbm, ⟨3, _⟩ => ⟨S1x4096x4x64, .f32⟩
  | .hbm, ⟨4, _⟩ => ⟨S1x4096x4x64, .f32⟩
  | .hbm, ⟨5, _⟩ => ⟨S4096x32, .f32⟩
  | .hbm, ⟨6, _⟩ => ⟨S4096x32, .f32⟩
  | .hbm, ⟨7, _⟩ => ⟨S4096x128, .f32⟩
  | .hbm, ⟨8, _⟩ => ⟨S4096x32, .f32⟩
  | .hbm, ⟨9, _⟩ => ⟨S4096x32, .f32⟩
  | .hbm, ⟨10, _⟩ => ⟨S4096x128, .f32⟩
  | .hbm, ⟨11, _⟩ => ⟨S4096x16x64, .f32⟩
  | .hbm, ⟨12, _⟩ => ⟨S_, .i32⟩
  | .hbm, ⟨13, _⟩ => ⟨S_, .f32⟩
  | .hbm, ⟨14, _⟩ => ⟨S4096x16x128, .f32⟩
  | .hbm, ⟨15, _⟩ => ⟨S4096x2048, .f32⟩
  | .hbm, ⟨16, _⟩ => ⟨S4096x4x64, .f32⟩
  | .hbm, ⟨17, _⟩ => ⟨S_, .i32⟩
  | .hbm, ⟨18, _⟩ => ⟨S_, .f32⟩
  | .hbm, ⟨19, _⟩ => ⟨S4096x4x128, .f32⟩
  | .hbm, ⟨20, _⟩ => ⟨S4096x512, .f32⟩
  | .hbm, ⟨21, _⟩ => ⟨S4096x4x64, .f32⟩
  | .hbm, ⟨22, _⟩ => ⟨S_, .i32⟩
  | .hbm, ⟨23, _⟩ => ⟨S_, .f32⟩
  | .hbm, ⟨24, _⟩ => ⟨S4096x4x128, .f32⟩
  | .hbm, ⟨25, _⟩ => ⟨S4096x512, .f32⟩
  | .hbm, ⟨26, _⟩ => ⟨S4096x4x64, .f32⟩
  | .hbm, ⟨27, _⟩ => ⟨S_, .i32⟩
  | .hbm, ⟨28, _⟩ => ⟨S_, .f32⟩
  | .hbm, ⟨29, _⟩ => ⟨S4096x4x128, .f32⟩
  | .hbm, ⟨30, _⟩ => ⟨S4096x512, .f32⟩
  | .hbm, ⟨31, _⟩ => ⟨S4096x4x64, .f32⟩
  | .hbm, ⟨32, _⟩ => ⟨S_, .i32⟩
  | .hbm, ⟨33, _⟩ => ⟨S_, .f32⟩
  | .hbm, ⟨34, _⟩ => ⟨S4096x4x128, .f32⟩
  | .hbm, ⟨35, _⟩ => ⟨S4096x512, .f32⟩
  | .hbm, ⟨36, _⟩ => ⟨S4096x1536, .bf16⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x1536, .bf16⟩
  | .local _ .vmem, ⟨15, _⟩ => ⟨S128x1536, .bf16⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call3_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_call4_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S1x4096x16x64 : Shape := ⟨4, ![1, 4096, 16, 64]⟩
abbrev S1x4096x4x64 : Shape := ⟨4, ![1, 4096, 4, 64]⟩
abbrev S4096x32 : Shape := ⟨2, ![4096, 32]⟩
abbrev S_ : Shape := ⟨0, ![]⟩
abbrev S4096x1536 : Shape := ⟨2, ![4096, 1536]⟩
abbrev S4096x1024 : Shape := ⟨2, ![4096, 1024]⟩
abbrev S4096x256 : Shape := ⟨2, ![4096, 256]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x4x64 : Shape := ⟨3, ![4096, 4, 64]⟩
abbrev S4096x4x32 : Shape := ⟨3, ![4096, 4, 32]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩

abbrev nBuf : Space → Nat
  | .hbm => 124
  | .vmem => 0
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x4x64, .f32⟩
  | .hbm, ⟨2, _⟩ => ⟨S1x4096x4x64, .f32⟩
  | .hbm, ⟨3, _⟩ => ⟨S1x4096x4x64, .f32⟩
  | .hbm, ⟨4, _⟩ => ⟨S1x4096x4x64, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x1536, .f32⟩
  | .hbm, ⟨9, _⟩ => ⟨S4096x1024, .f32⟩
  | .hbm, ⟨10, _⟩ => ⟨S4096x256, .f32⟩
  | .hbm, ⟨11, _⟩ => ⟨S4096x256, .f32⟩
  | .hbm, ⟨12, _⟩ => ⟨S4096x16x64, .f32⟩
  | .hbm, ⟨13, _⟩ => ⟨S4096x1x32, .f32⟩
  | .hbm, ⟨14, _⟩ => ⟨S4096x1x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x32, .f32⟩
  | .hbm, ⟨26, _⟩ => ⟨S4096x16x32, .f32⟩
  | .hbm, ⟨27, _⟩ => ⟨S4096x16x64, .f32⟩
  | .hbm, ⟨28, _⟩ => ⟨S4096x4x64, .f32⟩
  | .hbm, ⟨29, _⟩ => ⟨S4096x1x32, .f32⟩
  | .hbm, ⟨30, _⟩ => ⟨S4096x1x32, .f32⟩
  | .hbm, ⟨31, _⟩ => ⟨S4096x4x32, .f32⟩
  | .hbm, ⟨32, _⟩ => ⟨S4096x4x32, .f32⟩
  | .hbm, ⟨33, _⟩ => ⟨S4096x4x32, .f32⟩
  | .hbm, ⟨34, _⟩ => ⟨S4096x4x32, .f32⟩
  | .hbm, ⟨35, _⟩ => ⟨S4096x4x32, .f32⟩
  | .hbm, ⟨36, _⟩ => ⟨S4096x4x32, .f32⟩
  | .hbm, ⟨37, _⟩ => ⟨S4096x4x32, .f32⟩
  | .hbm, ⟨38, _⟩ => ⟨S4096x4x32, .f32⟩
  | .hbm, ⟨39, _⟩ => ⟨S4096x4x32, .f32⟩
  | .hbm, ⟨40, _⟩ => ⟨S4096x4x32, .f32⟩
  | .hbm, ⟨41, _⟩ => ⟨S4096x4x32, .f32⟩
  | .hbm, ⟨42, _⟩ => ⟨S4096x4x32, .f32⟩
  | .hbm, ⟨43, _⟩ => ⟨S4096x4x64, .f32⟩
  | .hbm, ⟨44, _⟩ => ⟨S32x128x4x64, .f32⟩
  | .hbm, ⟨45, _⟩ => ⟨S32x128x4x64, .f32⟩
  | .hbm, ⟨46, _⟩ => ⟨S1x128x4x64, .f32⟩
  | .hbm, ⟨47, _⟩ => ⟨S_, .f32⟩
  | .hbm, ⟨48, _⟩ => ⟨S1x128x4x64, .f32⟩
  | .hbm, ⟨49, _⟩ => ⟨S31x128x4x64, .f32⟩
  | .hbm, ⟨50, _⟩ => ⟨S32x128x4x64, .f32⟩
  | .hbm, ⟨51, _⟩ => ⟨S_, .f32⟩
  | .hbm, ⟨52, _⟩ => ⟨S1x128x4x64, .f32⟩
  | .hbm, ⟨53, _⟩ => ⟨S1x128x4x64, .f32⟩
  | .hbm, ⟨54, _⟩ => ⟨S_, .f32⟩
  | .hbm, ⟨55, _⟩ => ⟨S1x128x4x64, .f32⟩
  | .hbm, ⟨56, _⟩ => ⟨S31x128x4x64, .f32⟩
  | .hbm, ⟨57, _⟩ => ⟨S32x128x4x64, .f32⟩
  | .hbm, ⟨58, _⟩ => ⟨S_, .f32⟩
  | .hbm, ⟨59, _⟩ => ⟨S1x128x4x64, .f32⟩
  | .hbm, ⟨60, _⟩ => ⟨S4096x16x64, .f32⟩
  | .hbm, ⟨61, _⟩ => ⟨S32x128x4x64, .f32⟩
  | .hbm, ⟨62, _⟩ => ⟨S32x128x4x64, .f32⟩
  | .hbm, ⟨63, _⟩ => ⟨S32x128x4x64, .f32⟩
  | .hbm, ⟨64, _⟩ => ⟨S32x128x4x64, .f32⟩
  | .hbm, ⟨65, _⟩ => ⟨S1x128x4x64, .f32⟩
  | .hbm, ⟨66, _⟩ => ⟨S31x128x4x64, .f32⟩
  | .hbm, ⟨67, _⟩ => ⟨S_, .f32⟩
  | .hbm, ⟨68, _⟩ => ⟨S32x128x4x64, .f32⟩
  | .hbm, ⟨69, _⟩ => ⟨S32x128x4x64, .f32⟩
  | .hbm, ⟨70, _⟩ => ⟨S1x128x4x64, .f32⟩
  | .hbm, ⟨71, _⟩ => ⟨S31x128x4x64, .f32⟩
  | .hbm, ⟨72, _⟩ => ⟨S_, .f32⟩
  | .hbm, ⟨73, _⟩ => ⟨S32x128x4x64, .f32⟩
  | .hbm, ⟨74, _⟩ => ⟨S32x128x4x64, .f32⟩
  | .hbm, ⟨75, _⟩ => ⟨S4096x256, .f32⟩
  | .hbm, ⟨76, _⟩ => ⟨S4096x4x64, .f32⟩
  | .hbm, ⟨77, _⟩ => ⟨S4096x4x32, .f32⟩
  | .hbm, ⟨78, _⟩ => ⟨S4096x4x32, .f32⟩
  | .hbm, ⟨79, _⟩ => ⟨S4096x4x32, .f32⟩
  | .hbm, ⟨80, _⟩ => ⟨S4096x4x32, .f32⟩
  | .hbm, ⟨81, _⟩ => ⟨S4096x4x32, .f32⟩
  | .hbm, ⟨82, _⟩ => ⟨S4096x4x32, .f32⟩
  | .hbm, ⟨83, _⟩ => ⟨S4096x4x32, .f32⟩
  | .hbm, ⟨84, _⟩ => ⟨S4096x4x32, .f32⟩
  | .hbm, ⟨85, _⟩ => ⟨S4096x4x32, .f32⟩
  | .hbm, ⟨86, _⟩ => ⟨S4096x4x32, .f32⟩
  | .hbm, ⟨87, _⟩ => ⟨S4096x4x32, .f32⟩
  | .hbm, ⟨88, _⟩ => ⟨S4096x4x32, .f32⟩
  | .hbm, ⟨89, _⟩ => ⟨S4096x4x32, .f32⟩
  | .hbm, ⟨90, _⟩ => ⟨S_, .f32⟩
  | .hbm, ⟨91, _⟩ => ⟨S4096x4x64, .f32⟩
  | .hbm, ⟨92, _⟩ => ⟨S_, .f32⟩
  | .hbm, ⟨93, _⟩ => ⟨S4096x4x64, .f32⟩
  | .hbm, ⟨94, _⟩ => ⟨S4096x4x64, .f32⟩
  | .hbm, ⟨95, _⟩ => ⟨S4096x256, .f32⟩
  | .hbm, ⟨96, _⟩ => ⟨S4096x16x32, .f32⟩
  | .hbm, ⟨97, _⟩ => ⟨S4096x16x32, .f32⟩
  | .hbm, ⟨98, _⟩ => ⟨S4096x16x32, .f32⟩
  | .hbm, ⟨99, _⟩ => ⟨S4096x16x32, .f32⟩
  | .hbm, ⟨100, _⟩ => ⟨S4096x16x32, .f32⟩
  | .hbm, ⟨101, _⟩ => ⟨S4096x16x32, .f32⟩
  | .hbm, ⟨102, _⟩ => ⟨S4096x16x32, .f32⟩
  | .hbm, ⟨103, _⟩ => ⟨S4096x16x32, .f32⟩
  | .hbm, ⟨104, _⟩ => ⟨S4096x16x32, .f32⟩
  | .hbm, ⟨105, _⟩ => ⟨S4096x16x32, .f32⟩
  | .hbm, ⟨106, _⟩ => ⟨S4096x16x32, .f32⟩
  | .hbm, ⟨107, _⟩ => ⟨S4096x16x32, .f32⟩
  | .hbm, ⟨108, _⟩ => ⟨S4096x16x32, .f32⟩
  | .hbm, ⟨109, _⟩ => ⟨S_, .f32⟩
  | .hbm, ⟨110, _⟩ => ⟨S4096x16x64, .f32⟩
  | .hbm, ⟨111, _⟩ => ⟨S_, .f32⟩
  | .hbm, ⟨112, _⟩ => ⟨S4096x16x64, .f32⟩
  | .hbm, ⟨113, _⟩ => ⟨S4096x16x64, .f32⟩
  | .hbm, ⟨114, _⟩ => ⟨S4096x1024, .f32⟩
  | .hbm, ⟨115, _⟩ => ⟨S_, .f32⟩
  | .hbm, ⟨116, _⟩ => ⟨S4096x1536, .f32⟩
  | .hbm, ⟨117, _⟩ => ⟨S_, .f32⟩
  | .hbm, ⟨118, _⟩ => ⟨S4096x1536, .f32⟩
  | .hbm, ⟨119, _⟩ => ⟨S4096x1536, .f32⟩
  | .hbm, ⟨120, _⟩ => ⟨S_, .f32⟩
  | .hbm, ⟨121, _⟩ => ⟨S4096x1536, .f32⟩
  | .hbm, ⟨122, _⟩ => ⟨S4096x1536, .f32⟩
  | .hbm, ⟨123, _⟩ => ⟨S4096x1536, .bf16⟩
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_10 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩

abbrev nD : Nat := 1
abbrev τ : Topo := Topo.v7x

variable {F : FTy → Type} [FloatOps F]
-- ==== Proof.Parts.lean ====
/- A sum over four equal parts of its range, one part after another. -/
module

public import Idealize.ShloMosaic.Lib.Pipeline.ValueKit

@[expose] public section

namespace Cert.Parts

/-- A sum over the 5632 places of a wide row is the sum over its four parts of 1408 places. -/
theorem sum_parts (f : Fin 5632 → EReal) : ∑ k, f k
    = (∑ k : Fin 1408, f ⟨0 * 1408 + k.val, by omega⟩) + (∑ k : Fin 1408, f ⟨1 * 1408 + k.val, by omega⟩)
      + (∑ k : Fin 1408, f ⟨2 * 1408 + k.val, by omega⟩) + ∑ k : Fin 1408, f ⟨3 * 1408 + k.val, by omega⟩ := by
  rw [show ∑ k, f k = ∑ k : Fin (1408 + 1408 + 1408 + 1408), f k from rfl,
    Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg f (Fin.ext (by simp [Nat.add_comm]))

end Cert.Parts
-- ==== Proof.Numbers.lean ====
/- Numbers strictly between the infinities: what the operations of the calls give of them. -/
module

public import Idealize.ShloMosaic.Lib.Pipeline.ValueKit

@[expose] public section

noncomputable section

namespace Cert.Numbers

open Idealize.ShloMosaic

/-- A number that compares strictly between the two infinities is a real number. -/
theorem real_between (x : EReal)
    (h : IntOp.andi (Ideal.cmp .ogt x (Ideal.ofBits .f32 0xFF800000#32)) (Ideal.cmp .olt x (Ideal.ofBits .f32 0x7F800000#32)) = 1#1) :
    ∃ r : ℝ, x = (r : EReal) := by
  have hp : Ideal.ofBits .f32 0x7F800000#32 = ⊤ := by simp [Ideal.ofBits, Ideal.ieee]
  have hm : Ideal.ofBits .f32 0xFF800000#32 = ⊥ := by simp [Ideal.ofBits, Ideal.ieee]
  rw [hm, hp] at h
  have hb : x ≠ ⊥ := by
    rintro rfl
    revert h
    simp [Ideal.cmp]
    decide
  have ht : x ≠ ⊤ := by
    rintro rfl
    revert h
    simp [Ideal.cmp]
    decide
  exact ⟨x.toReal, (EReal.coe_toReal ht hb).symm⟩

/-- A sum of real numbers is real. -/
theorem sum_real {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, rfl⟩
  | insert a s ha ih =>
    obtain ⟨r, hr⟩ := ih fun k hk => h k (Finset.mem_insert_of_mem hk)
    obtain ⟨q, hq⟩ := h a (Finset.mem_insert_self a s)
    exact ⟨q + r, by rw [Finset.sum_insert ha, hq, hr, EReal.coe_add]⟩

/-- A product of real numbers is real. -/
theorem mul_real (x y : EReal) (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The logistic function of a real number is real. -/
theorem logistic_real (g : ℝ) : ∃ s : ℝ, Ideal.div 1 (1 + Ideal.exp (-(g : EReal))) = (s : EReal) := by
  refine ⟨1 / (1 + Real.exp (-g)), ?_⟩
  have h : (1 + Real.exp (-g)) ≠ 0 := by positivity
  rw [← EReal.coe_neg, Ideal.exp_coe, ← EReal.coe_one, ← EReal.coe_add, Ideal.div_coe h, ← EReal.coe_mul, one_mul]

end Cert.Numbers

end
-- ==== Proof.WeightGradCols.lean ====
/- The gradient of a weight split by columns over the chips. -/
module

public import proofs.«01_k».proof.Proof.Gen.Kernel3Ideal.Value
public import proofs.«01_k».proof.Proof.Gen.Reference3Ideal.Read
public import proofs.«01_k».proof.Proof.Gen.Kernel26Ideal.Value
public import proofs.«01_k».proof.Proof.Gen.Reference26Ideal.Read
public import Idealize.ShloMosaic.Lib.Pipeline.ValueKit
public import Idealize.ShloMosaic.Lib.Pointwise

@[expose] public section

set_option maxRecDepth 16384

noncomputable section

namespace Cert.Kernel3Ideal.Claims

open Cert.Kernel3Ideal Cert.Kernel3Ideal.Gen Cert.Kernel3Ideal.Value Idealize.ShloMosaic Idealize.ShloMosaic.TcCoe Cert.Reference3Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg2) (ix3 (0 : Fin 1) (i 0) (i 1)) : S4096x5632.Idx → EReal) := by
  entry_read
  funext i
  pointwise

/-- Where the blocks lie at each point of the grid. -/
theorem places : ∀ t : Fin cfg0.N, win0_0.index t = ![0, t.val % 2] ∧ win0_1.index t = ![0, t.val / 2] ∧ win0_2.index t = ![t.val % 2, t.val / 2, 0, 0] :=
  (by decide +kernel : ∀ t : Fin grid0.N, win0_0.index t = ![0, t.val % 2] ∧ win0_1.index t = ![0, t.val / 2] ∧ win0_2.index t = ![t.val % 2, t.val / 2, 0, 0])

/-- A block of operand 0, read from the argument it is cut from. -/
theorem block0 (t : Fin cfg0.N) (k : Fin 4096) (p : Fin 1024) : iblk m c 0 t (ix2 k p)
    = m ((c : Thread nD τ).loc main_arg0) (ix3 (0 : Fin 1) k (⟨t.val % 2 * 1024 + p.val, by omega⟩ : Fin 2048)) := by
  show V m c (Pipeline.arrRef spec0 0) ((win0_0.blk t).view.emb (ix2 k p)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 4096) (p : Fin 1408) : iblk m c 1 t (ix2 k p)
    = m ((c : Thread nD τ).loc main_arg2) (ix3 (0 : Fin 1) k (⟨t.val / 2 * 1408 + p.val, by have : t.val < 8 := t.isLt; omega⟩ : Fin 5632)) := by
  show V m c (Pipeline.arrRef spec0 1) ((win0_1.blk t).view.emb (ix2 k p)) = _
  rw [entry1]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- An entry of the block written at a point is the reference's entry at its place. -/
theorem key (t : Fin cfg0.N) (y : S1x1x1024x1408.Idx) (i : S2x4x1024x1408.Idx)
    (h0 : (i 0).val = t.val % 2) (h1 : (i 1).val = t.val / 2) (h2 : (i 2).val = (y 2).val) (h3 : (i 3).val = (y 3).val) :
    k0_pay1 (iblk m c 0 t) (iblk m c 1 t) y = val_main_v7 (F := Ideal) (m ((c : Thread nD τ).loc main_arg0)) (m ((c : Thread nD τ).loc main_arg2)) i := by
  pointwise [k0_pay1, val_main_v7, val_main_v6, val_main_v5, val_main_v4, val_main_v3, val_main_v2, val_main_v0]
  refine Finset.sum_congr rfl fun k _ => ?_
  rw [mul_comm]
  simp only [h0, h1, h2, h3]
  exact congrArg₂ (· * ·) (block1 m c t k (y 3)) (block0 m c t k (y 2))

/-- The array the call leaves is the reference's. -/
theorem final2 : (dats m 0 c).arrAt 2 cfg0.N
    = val_main_v7 (F := Ideal) (m ((c : Thread nD τ).loc main_arg0)) (m ((c : Thread nD τ).loc main_arg2)) := by
  refine (dats m 0 c).arrAt_eq_of_covers 2 _ (by decide +kernel) fun t _ y => ?_
  rw [after0_2]
  frame_out
  refine key m c t y _ ?_ ?_ ?_ ?_
  all_goals blk_simp [places t]

end Cert.Kernel3Ideal.Claims

namespace Cert.Kernel26Ideal.Claims

open Cert.Kernel26Ideal Cert.Kernel26Ideal.Gen Cert.Kernel26Ideal.Value Idealize.ShloMosaic Idealize.ShloMosaic.TcCoe Cert.Reference26Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x256.Idx → EReal) := by
  entry_read
  funext i
  pointwise

/-- Operand 1 as the call finds it, read from the argument it is made of. -/
theorem entry1 : V m c (Pipeline.arrRef spec0 1)
    = (fun i => m ((c : Thread nD τ).loc main_arg2) (ix3 (0 : Fin 1) (i 0) (i 1)) : S4096x2048.Idx → EReal) := by
  entry_read
  funext i
  pointwise

/-- Where the blocks lie at each point of the grid. -/
theorem places : ∀ t : Fin cfg0.N, win0_0.index t = ![0, t.val % 2] ∧ win0_1.index t = ![0, t.val / 2] ∧ win0_2.index t = ![t.val % 2, t.val / 2, 0, 0] :=
  (by decide +kernel : ∀ t : Fin grid0.N, win0_0.index t = ![0, t.val % 2] ∧ win0_1.index t = ![0, t.val / 2] ∧ win0_2.index t = ![t.val % 2, t.val / 2, 0, 0])

/-- A block of operand 0, read from the argument it is cut from. -/
theorem block0 (t : Fin cfg0.N) (k : Fin 4096) (p : Fin 128) : iblk m c 0 t (ix2 k p)
    = m ((c : Thread nD τ).loc main_arg0) (ix3 (0 : Fin 1) k (⟨t.val % 2 * 128 + p.val, by omega⟩ : Fin 256)) := by
  show V m c (Pipeline.arrRef spec0 0) ((win0_0.blk t).view.emb (ix2 k p)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 4096) (p : Fin 512) : iblk m c 1 t (ix2 k p)
    = m ((c : Thread nD τ).loc main_arg2) (ix3 (0 : Fin 1) k (⟨t.val / 2 * 512 + p.val, by have : t.val < 8 := t.isLt; omega⟩ : Fin 2048)) := by
  show V m c (Pipeline.arrRef spec0 1) ((win0_1.blk t).view.emb (ix2 k p)) = _
  rw [entry1]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- An entry of the block written at a point is the reference's entry at its place. -/
theorem key (t : Fin cfg0.N) (y : S1x1x128x512.Idx) (i : S2x4x128x512.Idx)
    (h0 : (i 0).val = t.val % 2) (h1 : (i 1).val = t.val / 2) (h2 : (i 2).val = (y 2).val) (h3 : (i 3).val = (y 3).val) :
    k0_pay1 (iblk m c 0 t) (iblk m c 1 t) y = val_main_v7 (F := Ideal) (m ((c : Thread nD τ).loc main_arg0)) (m ((c : Thread nD τ).loc main_arg2)) i := by
  pointwise [k0_pay1, val_main_v7, val_main_v6, val_main_v5, val_main_v4, val_main_v3, val_main_v2, val_main_v0]
  refine Finset.sum_congr rfl fun k _ => ?_
  rw [mul_comm]
  simp only [h0, h1, h2, h3]
  exact congrArg₂ (· * ·) (block1 m c t k (y 3)) (block0 m c t k (y 2))

/-- The array the call leaves is the reference's. -/
theorem final2 : (dats m 0 c).arrAt 2 cfg0.N
    = val_main_v7 (F := Ideal) (m ((c : Thread nD τ).loc main_arg0)) (m ((c : Thread nD τ).loc main_arg2)) := by
  refine (dats m 0 c).arrAt_eq_of_covers 2 _ (by decide +kernel) fun t _ y => ?_
  rw [after0_2]
  frame_out
  refine key m c t y _ ?_ ?_ ?_ ?_
  all_goals blk_simp [places t]

end Cert.Kernel26Ideal.Claims
-- ==== Proof.WeightGradRows.lean ====
/- The gradient of a weight split by rows over the chips: each written block is a product of a column strip of the layer's
  input and a column strip of the cotangent, summed over the tokens. -/
module

public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Kernel7Ideal.Claims

open Cert.Kernel7Ideal Cert.Kernel7Ideal.Gen Cert.Kernel7Ideal.Value Idealize.ShloMosaic Idealize.ShloMosaic.TcCoe Cert.Reference7Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x5632.Idx → EReal) := by
  entry_read
  funext i
  pointwise

/-- Operand 1 as the call finds it, read from the argument it is made of. -/
theorem entry1 : V m c (Pipeline.arrRef spec0 1)
    = (fun i => m ((c : Thread nD τ).loc main_arg2) (ix3 (0 : Fin 1) (i 0) (i 1)) : S4096x2048.Idx → EReal) := by
  entry_read
  funext i
  pointwise

/-- Where the blocks lie at each point of the grid. -/
theorem places : ∀ t : Fin cfg0.N, win0_0.index t = ![0, t.val / 4] ∧ win0_1.index t = ![0, t.val % 4] ∧ win0_2.index t = ![t.val % 4 / 2, t.val / 4, 0, t.val % 4 % 2] :=
  (by decide +kernel : ∀ t : Fin grid0.N, win0_0.index t = ![0, t.val / 4] ∧ win0_1.index t = ![0, t.val % 4] ∧ win0_2.index t = ![t.val % 4 / 2, t.val / 4, 0, t.val % 4 % 2])

/-- A block of operand 0, read from the argument it is cut from. -/
theorem block0 (t : Fin cfg0.N) (k : Fin 4096) (p : Fin 1408) : iblk m c 0 t (ix2 k p)
    = m ((c : Thread nD τ).loc main_arg0) (ix3 (0 : Fin 1) k (⟨t.val / 4 * 1408 + p.val, by have : t.val < 16 := t.isLt; omega⟩ : Fin 5632)) := by
  show V m c (Pipeline.arrRef spec0 0) ((win0_0.blk t).view.emb (ix2 k p)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 4096) (p : Fin 512) : iblk m c 1 t (ix2 k p)
    = m ((c : Thread nD τ).loc main_arg2) (ix3 (0 : Fin 1) k (⟨t.val % 4 * 512 + p.val, by omega⟩ : Fin 2048)) := by
  show V m c (Pipeline.arrRef spec0 1) ((win0_1.blk t).view.emb (ix2 k p)) = _
  rw [entry1]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- An entry of the block written at a point is the reference's entry at its place. -/
theorem key (t : Fin cfg0.N) (y : S1x1x1408x512.Idx) (i : S2x4x1408x1024.Idx)
    (h0 : (i 0).val = t.val % 4 / 2) (h1 : (i 1).val = t.val / 4) (h2 : (i 2).val = (y 2).val)
    (h3 : (i 3).val = t.val % 4 % 2 * 512 + (y 3).val) :
    k0_pay1 (iblk m c 0 t) (iblk m c 1 t) y = val_main_v7 (F := Ideal) (m ((c : Thread nD τ).loc main_arg0)) (m ((c : Thread nD τ).loc main_arg2)) i := by
  pointwise [k0_pay1, val_main_v7, val_main_v6, val_main_v5, val_main_v4, val_main_v3, val_main_v2, val_main_v0]
  refine Finset.sum_congr rfl fun k _ => ?_
  rw [mul_comm]
  have e : t.val % 4 / 2 * 1024 + (t.val % 4 % 2 * 512 + (y 3).val) = t.val % 4 * 512 + (y 3).val := by omega
  simp only [h0, h1, h2, h3, e]
  exact congrArg₂ (· * ·) (block1 m c t k (y 3)) (block0 m c t k (y 2))

/-- The array the call leaves is the reference's. -/
theorem final2 : (dats m 0 c).arrAt 2 cfg0.N
    = val_main_v7 (F := Ideal) (m ((c : Thread nD τ).loc main_arg0)) (m ((c : Thread nD τ).loc main_arg2)) := by
  refine (dats m 0 c).arrAt_eq_of_covers 2 _ (by decide +kernel) fun t _ y => ?_
  rw [after0_2]
  frame_out
  refine key m c t y _ ?_ ?_ ?_ ?_
  all_goals blk_simp [places t]

end Cert.Kernel7Ideal.Claims

namespace Cert.Kernel8Ideal.Claims

open Cert.Kernel8Ideal Cert.Kernel8Ideal.Gen Cert.Kernel8Ideal.Value Idealize.ShloMosaic Idealize.ShloMosaic.TcCoe Cert.Reference8Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg2) (ix3 (0 : Fin 1) (i 0) (i 1)) : S4096x2048.Idx → EReal) := by
  entry_read
  funext i
  pointwise

/-- Where the blocks lie at each point of the grid. -/
theorem places : ∀ t : Fin cfg0.N, win0_0.index t = ![0, t.val / 4] ∧ win0_1.index t = ![0, t.val % 4] ∧ win0_2.index t = ![t.val % 4 / 2, t.val / 4, 0, t.val % 4 % 2] :=
  (by decide +kernel : ∀ t : Fin grid0.N, win0_0.index t = ![0, t.val / 4] ∧ win0_1.index t = ![0, t.val % 4] ∧ win0_2.index t = ![t.val % 4 / 2, t.val / 4, 0, t.val % 4 % 2])

/-- A block of operand 0, read from the argument it is cut from. -/
theorem block0 (t : Fin cfg0.N) (k : Fin 4096) (p : Fin 512) : iblk m c 0 t (ix2 k p)
    = m ((c : Thread nD τ).loc main_arg0) (ix3 (0 : Fin 1) k (⟨t.val / 4 * 512 + p.val, by have : t.val < 16 := t.isLt; omega⟩ : Fin 2048)) := by
  show V m c (Pipeline.arrRef spec0 0) ((win0_0.blk t).view.emb (ix2 k p)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 4096) (p : Fin 512) : iblk m c 1 t (ix2 k p)
    = m ((c : Thread nD τ).loc main_arg2) (ix3 (0 : Fin 1) k (⟨t.val % 4 * 512 + p.val, by omega⟩ : Fin 2048)) := by
  show V m c (Pipeline.arrRef spec0 1) ((win0_1.blk t).view.emb (ix2 k p)) = _
  rw [entry1]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- An entry of the block written at a point is the reference's entry at its place. -/
theorem key (t : Fin cfg0.N) (y : S1x1x512x512.Idx) (i : S2x4x512x1024.Idx)
    (h0 : (i 0).val = t.val % 4 / 2) (h1 : (i 1).val = t.val / 4) (h2 : (i 2).val = (y 2).val)
    (h3 : (i 3).val = t.val % 4 % 2 * 512 + (y 3).val) :
    k0_pay1 (iblk m c 0 t) (iblk m c 1 t) y = val_main_v7 (F := Ideal) (m ((c : Thread nD τ).loc main_arg0)) (m ((c : Thread nD τ).loc main_arg2)) i := by
  pointwise [k0_pay1, val_main_v7, val_main_v6, val_main_v5, val_main_v4, val_main_v3, val_main_v2, val_main_v0]
  refine Finset.sum_congr rfl fun k _ => ?_
  rw [mul_comm]
  have e : t.val % 4 / 2 * 1024 + (t.val % 4 % 2 * 512 + (y 3).val) = t.val % 4 * 512 + (y 3).val := by omega
  simp only [h0, h1, h2, h3, e]
  exact congrArg₂ (· * ·) (block1 m c t k (y 3)) (block0 m c t k (y 2))

/-- The array the call leaves is the reference's. -/
theorem final2 : (dats m 0 c).arrAt 2 cfg0.N
    = val_main_v7 (F := Ideal) (m ((c : Thread nD τ).loc main_arg0)) (m ((c : Thread nD τ).loc main_arg2)) := by
  refine (dats m 0 c).arrAt_eq_of_covers 2 _ (by decide +kernel) fun t _ y => ?_
  rw [after0_2]
  frame_out
  refine key m c t y _ ?_ ?_ ?_ ?_
  all_goals blk_simp [places t]

end Cert.Kernel8Ideal.Claims
-- ==== Proof.InputGrad.lean ====
/- The gradient of a layer's input through a weight split by columns over the chips: the sum over the columns is taken in
  four parts, one for each chip; the second call adds an array to it. -/
module

public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Parts
public import Idealize.ShloMosaic.Lib.Pipeline.ValueKit
public import Idealize.ShloMosaic.Lib.Pointwise

@[expose] public section

set_option maxRecDepth 16384

noncomputable section

namespace Cert.Kernel4Ideal.Claims

open Cert.Kernel4Ideal Cert.Kernel4Ideal.Gen Cert.Kernel4Ideal.Value Idealize.ShloMosaic Idealize.ShloMosaic.TcCoe
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg2) (ix3 (0 : Fin 1) (i 0) (i 1)) : S4096x5632.Idx → EReal) := by
  entry_read
  funext i
  pointwise

/-- Operand 1 as the call finds it, read from the argument it is made of. -/
theorem entry1 : V m c (Pipeline.arrRef spec0 1)
    = (fun i => m ((c : Thread nD τ).loc main_arg1) (ix2 (i 1) (⟨(i 0).val * 1408 + (i 2).val, by have : (i 0).val < 4 := (i 0).isLt; have : (i 2).val < 1408 := (i 2).isLt; omega⟩ : Fin 5632)) : S4x2048x1408.Idx → EReal) := by
  entry_read
  funext i
  pointwise

/-- Where the blocks lie at each point of the grid. -/
theorem places : ∀ t : Fin cfg0.N, win0_0.index t = ![t.val % 8, 0] ∧ win0_1.index t = ![0, t.val / 8, 0] ∧ win0_2.index t = ![t.val % 8, t.val / 8] :=
  (by decide +kernel : ∀ t : Fin grid0.N, win0_0.index t = ![t.val % 8, 0] ∧ win0_1.index t = ![0, t.val / 8, 0] ∧ win0_2.index t = ![t.val % 8, t.val / 8])

/-- A block of operand 0, read from the argument it is cut from. -/
theorem block0 (t : Fin cfg0.N) (p : Fin 512) (k : Fin 5632) : iblk m c 0 t (ix2 p k)
    = m ((c : Thread nD τ).loc main_arg2) (ix3 (0 : Fin 1) (⟨t.val % 8 * 512 + p.val, by omega⟩ : Fin 4096) k) := by
  show V m c (Pipeline.arrRef spec0 0) ((win0_0.blk t).view.emb (ix2 p k)) = _
  rw [entry0]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (a : Fin 4) (p : Fin 1024) (k : Fin 1408) : iblk m c 1 t (ix3 a p k)
    = m ((c : Thread nD τ).loc main_arg1) (ix2 (⟨t.val / 8 * 1024 + p.val, by have : t.val < 16 := t.isLt; omega⟩ : Fin 2048) (⟨a.val * 1408 + k.val, by omega⟩ : Fin 5632)) := by
  show V m c (Pipeline.arrRef spec0 1) ((win0_1.blk t).view.emb (ix3 a p k)) = _
  rw [entry1]
  refine congrArg (m ((c : Thread nD τ).loc main_arg1)) (funext fun a => Fin.ext ?_)
  match a with
  | ⟨0, _⟩ => blk_simp [places t]
  | ⟨1, _⟩ => blk_simp [places t]

/-- An entry of the block written at a point is the reference's entry at its place. -/
theorem key (t : Fin cfg0.N) (y : S512x1024.Idx) (i : S4096x2048.Idx)
    (h0 : (i 0).val = t.val % 8 * 512 + (y 0).val) (h1 : (i 1).val = t.val / 8 * 1024 + (y 1).val) :
    k0_pay1 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) y = Cert.Reference4Ideal.Read.val_main_v3 (F := Ideal) (m ((c : Thread nD τ).loc main_arg1)) (m ((c : Thread nD τ).loc main_arg2)) i := by
  pointwise [k0_pay1, Cert.Reference4Ideal.Read.val_main_v3, Cert.Reference4Ideal.Read.val_main_v2, Cert.Reference4Ideal.Read.val_main_v1, Cert.Reference4Ideal.Read.val_main_v0]
  have hy0 : (y 0).val < 512 := (y 0).isLt
  have hy1 : (y 1).val < 1024 := (y 1).isLt
  have ht : t.val < 16 := t.isLt
  have e0 : i 0 = (⟨t.val % 8 * 512 + (y 0).val, by omega⟩ : Fin 4096) := Fin.ext h0
  have e1 : i 1 = (⟨t.val / 8 * 1024 + (y 1).val, by omega⟩ : Fin 2048) := Fin.ext h1
  rw [e0, e1, Cert.Parts.sum_parts]
  refine congrArg₂ (· + ·) (congrArg₂ (· + ·) (congrArg₂ (· + ·) ?_ ?_) ?_) ?_
  · exact Finset.sum_congr rfl fun k _ => congrArg₂ (· * ·) ((congrArg (fun q => iblk m c 0 t (ix2 (y 0) q)) (Fin.ext (Nat.zero_add _).symm)).trans <| block0 m c t (y 0) (⟨0 * 1408 + k.val, by omega⟩ : Fin 5632)) (block1 m c t 0 (y 1) k)
  · exact Finset.sum_congr rfl fun k _ => congrArg₂ (· * ·) (block0 m c t (y 0) (⟨1 * 1408 + k.val, by omega⟩ : Fin 5632)) (block1 m c t 1 (y 1) k)
  · exact Finset.sum_congr rfl fun k _ => congrArg₂ (· * ·) (block0 m c t (y 0) (⟨2 * 1408 + k.val, by omega⟩ : Fin 5632)) (block1 m c t 2 (y 1) k)
  · exact Finset.sum_congr rfl fun k _ => congrArg₂ (· * ·) (block0 m c t (y 0) (⟨3 * 1408 + k.val, by omega⟩ : Fin 5632)) (block1 m c t 3 (y 1) k)

/-- The array the call leaves is the reference's. -/
theorem final2 : (dats m 0 c).arrAt 2 cfg0.N
    = Cert.Reference4Ideal.Read.val_main_v3 (F := Ideal) (m ((c : Thread nD τ).loc main_arg1)) (m ((c : Thread nD τ).loc main_arg2)) := by
  refine (dats m 0 c).arrAt_eq_of_covers 2 _ (by decide +kernel) fun t _ y => ?_
  rw [after0_2]
  frame_out
  refine key m c t y _ ?_ ?_
  all_goals blk_simp [places t]

end Cert.Kernel4Ideal.Claims

namespace Cert.Kernel5Ideal.Claims

open Cert.Kernel5Ideal Cert.Kernel5Ideal.Gen Cert.Kernel5Ideal.Value Idealize.ShloMosaic Idealize.ShloMosaic.TcCoe
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg2) (ix3 (0 : Fin 1) (i 0) (i 1)) : S4096x5632.Idx → EReal) := by
  entry_read
  funext i
  pointwise

/-- Operand 1 as the call finds it, read from the argument it is made of. -/
theorem entry1 : V m c (Pipeline.arrRef spec0 1)
    = (fun i => m ((c : Thread nD τ).loc main_arg1) (ix2 (i 1) (⟨(i 0).val * 1408 + (i 2).val, by have : (i 0).val < 4 := (i 0).isLt; have : (i 2).val < 1408 := (i 2).isLt; omega⟩ : Fin 5632)) : S4x2048x1408.Idx → EReal) := by
  entry_read
  funext i
  pointwise

/-- Operand 2 as the call finds it, read from the argument it is made of. -/
theorem entry2 : V m c (Pipeline.arrRef spec0 2)
    = (fun i => m ((c : Thread nD τ).loc main_arg3) (ix3 (0 : Fin 1) (i 0) (i 1)) : S4096x2048.Idx → EReal) := by
  entry_read
  funext i
  pointwise

/-- Where the blocks lie at each point of the grid. -/
theorem places : ∀ t : Fin cfg0.N, win0_0.index t = ![t.val % 8, 0] ∧ win0_1.index t = ![0, t.val / 8, 0] ∧ win0_2.index t = ![t.val % 8, t.val / 8] ∧ win0_3.index t = ![t.val % 8, t.val / 8] :=
  (by decide +kernel : ∀ t : Fin grid0.N, win0_0.index t = ![t.val % 8, 0] ∧ win0_1.index t = ![0, t.val / 8, 0] ∧ win0_2.index t = ![t.val % 8, t.val / 8] ∧ win0_3.index t = ![t.val % 8, t.val / 8])

/-- A block of operand 0, read from the argument it is cut from. -/
theorem block0 (t : Fin cfg0.N) (p : Fin 512) (k : Fin 5632) : iblk m c 0 t (ix2 p k)
    = m ((c : Thread nD τ).loc main_arg2) (ix3 (0 : Fin 1) (⟨t.val % 8 * 512 + p.val, by omega⟩ : Fin 4096) k) := by
  show V m c (Pipeline.arrRef spec0 0) ((win0_0.blk t).view.emb (ix2 p k)) = _
  rw [entry0]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (a : Fin 4) (p : Fin 1024) (k : Fin 1408) : iblk m c 1 t (ix3 a p k)
    = m ((c : Thread nD τ).loc main_arg1) (ix2 (⟨t.val / 8 * 1024 + p.val, by have : t.val < 16 := t.isLt; omega⟩ : Fin 2048) (⟨a.val * 1408 + k.val, by omega⟩ : Fin 5632)) := by
  show V m c (Pipeline.arrRef spec0 1) ((win0_1.blk t).view.emb (ix3 a p k)) = _
  rw [entry1]
  refine congrArg (m ((c : Thread nD τ).loc main_arg1)) (funext fun a => Fin.ext ?_)
  match a with
  | ⟨0, _⟩ => blk_simp [places t]
  | ⟨1, _⟩ => blk_simp [places t]

/-- A block of operand 2, read from the argument it is cut from. -/
theorem block2 (t : Fin cfg0.N) (p : Fin 512) (q : Fin 1024) : iblk m c 2 t (ix2 p q)
    = m ((c : Thread nD τ).loc main_arg3) (ix3 (0 : Fin 1) (⟨t.val % 8 * 512 + p.val, by omega⟩ : Fin 4096) (⟨t.val / 8 * 1024 + q.val, by have : t.val < 16 := t.isLt; omega⟩ : Fin 2048)) := by
  show V m c (Pipeline.arrRef spec0 2) ((win0_2.blk t).view.emb (ix2 p q)) = _
  rw [entry2]
  refine congrArg (m ((c : Thread nD τ).loc main_arg3)) (funext fun a => Fin.ext ?_)
  match a with
  | ⟨0, _⟩ => blk_simp [places t]
  | ⟨1, _⟩ => blk_simp [places t]
  | ⟨2, _⟩ => blk_simp [places t]

/-- An entry of the block written at a point is the reference's entry at its place. -/
theorem key (t : Fin cfg0.N) (y : S512x1024.Idx) (i : S4096x2048.Idx)
    (h0 : (i 0).val = t.val % 8 * 512 + (y 0).val) (h1 : (i 1).val = t.val / 8 * 1024 + (y 1).val) :
    k0_pay1 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) (iblk m c 2 t) y = Cert.Reference5Ideal.Read.val_main_v5 (F := Ideal) (m ((c : Thread nD τ).loc main_arg1)) (m ((c : Thread nD τ).loc main_arg2)) (m ((c : Thread nD τ).loc main_arg3)) i := by
  pointwise [k0_pay1, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0]
  have hy0 : (y 0).val < 512 := (y 0).isLt
  have hy1 : (y 1).val < 1024 := (y 1).isLt
  have ht : t.val < 16 := t.isLt
  have e0 : i 0 = (⟨t.val % 8 * 512 + (y 0).val, by omega⟩ : Fin 4096) := Fin.ext h0
  have e1 : i 1 = (⟨t.val / 8 * 1024 + (y 1).val, by omega⟩ : Fin 2048) := Fin.ext h1
  rw [e0, e1, Cert.Parts.sum_parts, add_comm]
  refine congrArg₂ (· + ·) ((congrArg (iblk m c 2 t) (ValueIdx.eq_ix2 y)).trans (block2 m c t (y 0) (y 1))) ?_
  refine congrArg₂ (· + ·) (congrArg₂ (· + ·) (congrArg₂ (· + ·) ?_ ?_) ?_) ?_
  · exact Finset.sum_congr rfl fun k _ => congrArg₂ (· * ·) ((congrArg (fun q => iblk m c 0 t (ix2 (y 0) q)) (Fin.ext (Nat.zero_add _).symm)).trans <| block0 m c t (y 0) (⟨0 * 1408 + k.val, by omega⟩ : Fin 5632)) (block1 m c t 0 (y 1) k)
  · exact Finset.sum_congr rfl fun k _ => congrArg₂ (· * ·) (block0 m c t (y 0) (⟨1 * 1408 + k.val, by omega⟩ : Fin 5632)) (block1 m c t 1 (y 1) k)
  · exact Finset.sum_congr rfl fun k _ => congrArg₂ (· * ·) (block0 m c t (y 0) (⟨2 * 1408 + k.val, by omega⟩ : Fin 5632)) (block1 m c t 2 (y 1) k)
  · exact Finset.sum_congr rfl fun k _ => congrArg₂ (· * ·) (block0 m c t (y 0) (⟨3 * 1408 + k.val, by omega⟩ : Fin 5632)) (block1 m c t 3 (y 1) k)

/-- The array the call leaves is the reference's. -/
theorem final3 : (dats m 0 c).arrAt 3 cfg0.N
    = Cert.Reference5Ideal.Read.val_main_v5 (F := Ideal) (m ((c : Thread nD τ).loc main_arg1)) (m ((c : Thread nD τ).loc main_arg2)) (m ((c : Thread nD τ).loc main_arg3)) := by
  refine (dats m 0 c).arrAt_eq_of_covers 3 _ (by decide +kernel) fun t _ y => ?_
  rw [after0_3]
  frame_out
  refine key m c t y _ ?_ ?_
  all_goals blk_simp [places t]

end Cert.Kernel5Ideal.Claims
-- ==== Proof.RowsInputGrad.lean ====
/- The gradient of a layer's input through a weight split by rows over the chips: four strips of columns, one for each chip. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Kernel9Ideal.Claims

open Cert.Kernel9Ideal Cert.Kernel9Ideal.Gen Cert.Kernel9Ideal.Value Idealize.ShloMosaic Idealize.ShloMosaic.TcCoe
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg2) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix2 (⟨(i 0).val * 512 + (i 1).val, by have : (i 0).val < 4 := (i 0).isLt; have : (i 1).val < 512 := (i 1).isLt; omega⟩ : Fin 2048) (i 2)) : S4x512x2048.Idx → EReal) := by
  entry_read
  funext i
  pointwise

/-- Where the blocks lie at each point of the grid. -/
theorem places : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- A block of operand 0, read from the argument it is cut from. -/
theorem block0 (t : Fin cfg0.N) (p : Fin 512) (k : Fin 2048) : iblk m c 0 t (ix2 p k)
    = m ((c : Thread nD τ).loc main_arg2) (ix3 (0 : Fin 1) (⟨t.val * 512 + p.val, by have : t.val < 8 := t.isLt; omega⟩ : Fin 4096) k) := by
  show V m c (Pipeline.arrRef spec0 0) ((win0_0.blk t).view.emb (ix2 p k)) = _
  rw [entry0]
  refine congrArg (m ((c : Thread nD τ).loc main_arg2)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (a : Fin 4) (p : Fin 512) (k : Fin 2048) : iblk m c 1 t (ix3 a p k)
    = m ((c : Thread nD τ).loc main_arg1) (ix2 (⟨a.val * 512 + p.val, by omega⟩ : Fin 2048) k) := by
  show V m c (Pipeline.arrRef spec0 1) ((win0_1.blk t).view.emb (ix3 a p k)) = _
  rw [entry1]
  refine congrArg (m ((c : Thread nD τ).loc main_arg1)) (funext fun a => Fin.ext ?_)
  match a with
  | ⟨0, _⟩ => blk_simp [places t]
  | ⟨1, _⟩ => blk_simp [places t]

/-- One strip of columns: the products of a row of the cotangent with the rows one chip holds. -/
theorem columns (t : Fin cfg0.N) (a : Fin 4) (x : S512x512.Idx) (i : S4096x2048.Idx)
    (h0 : (i 0).val = t.val * 512 + (x 0).val) (h1 : (i 1).val = a.val * 512 + (x 1).val) :
    ∑ k : Fin 2048, @HMul.hMul EReal EReal EReal instHMul (iblk m c 0 t (ix2 (x 0) k)) (iblk m c 1 t (ix3 a (x 1) k))
      = ∑ k : Fin 2048, @HMul.hMul EReal EReal EReal instHMul (m ((c : Thread nD τ).loc main_arg2) (ix3 (0 : Fin 1) (i 0) k)) (m ((c : Thread nD τ).loc main_arg1) (ix2 (i 1) k)) := by
  have hx0 : (x 0).val < 512 := (x 0).isLt
  have hx1 : (x 1).val < 512 := (x 1).isLt
  have ht : t.val < 8 := t.isLt
  have e0 : i 0 = (⟨t.val * 512 + (x 0).val, by omega⟩ : Fin 4096) := Fin.ext h0
  have e1 : i 1 = (⟨a.val * 512 + (x 1).val, by omega⟩ : Fin 2048) := Fin.ext h1
  rw [e0, e1]
  exact Finset.sum_congr rfl fun k _ => congrArg₂ (· * ·) (block0 m c t (x 0) k) (block1 m c t a (x 1) k)

/-- An entry of the block written at a point is the reference's entry at its place. -/
theorem key (t : Fin cfg0.N) (y : S512x2048.Idx) (i : S4096x2048.Idx)
    (i0 : (i 0).val = t.val * 512 + (y 0).val) (i1 : (i 1).val = (y 1).val) :
    View.canon [⟨r0_8, k0_pay5 (iblk m c 0 t) (View.ld (iblk m c 1 t) r0_7)⟩,
      ⟨r0_6, k0_pay4 (iblk m c 0 t) (View.ld (iblk m c 1 t) r0_5)⟩,
      ⟨r0_4, k0_pay3 (iblk m c 0 t) (View.ld (iblk m c 1 t) r0_3)⟩,
      ⟨r0_2, k0_pay2 (iblk m c 0 t) (View.ld (iblk m c 1 t) r0_1)⟩] y = Cert.Reference9Ideal.Read.val_main_v3 (F := Ideal) (m ((c : Thread nD τ).loc main_arg1)) (m ((c : Thread nD τ).loc main_arg2)) i := by
  canon_tiles x h
  all_goals pointwise [k0_pay5, k0_pay4, k0_pay3, k0_pay2, k0_pay1, Cert.Reference9Ideal.Read.val_main_v3, Cert.Reference9Ideal.Read.val_main_v2, Cert.Reference9Ideal.Read.val_main_v1, Cert.Reference9Ideal.Read.val_main_v0]
  · exact columns m c t 3 x i (by omega) (i1.trans h1)
  · exact columns m c t 2 x i (by omega) (i1.trans h1)
  · exact columns m c t 1 x i (by omega) (i1.trans h1)
  · exact columns m c t 0 x i (by omega) (by rw [i1, h1]; simp)

/-- The array the call leaves is the reference's. -/
theorem final2 : (dats m 0 c).arrAt 2 cfg0.N
    = Cert.Reference9Ideal.Read.val_main_v3 (F := Ideal) (m ((c : Thread nD τ).loc main_arg1)) (m ((c : Thread nD τ).loc main_arg2)) := by
  refine (dats m 0 c).arrAt_eq_of_covers 2 _ (by decide +kernel) fun t _ y => ?_
  rw [after0_2]
  frame_out
  rw [cast_eq]
  refine key m c t _ _ ?_ ?_
  all_goals blk_simp [places t]

end Cert.Kernel9Ideal.Claims
-- ==== Proof.FfnDown.lean ====
/- The product with a weight split by rows over the chips, summed in four parts, one for each chip. -/
module

public import proofs.«01_k».proof.Proof.Gen.Kernel11Ideal.Value
public import proofs.«01_k».proof.Proof.Gen.Reference11Ideal.Read
public import proofs.«01_k».proof.Proof.Parts
public import Idealize.ShloMosaic.Lib.Pipeline.ValueKit
public import Idealize.ShloMosaic.Lib.Pointwise

@[expose] public section

set_option maxRecDepth 16384

noncomputable section

namespace Cert.Kernel11Ideal.Claims

open Cert.Kernel11Ideal Cert.Kernel11Ideal.Gen Cert.Kernel11Ideal.Value Idealize.ShloMosaic Idealize.ShloMosaic.TcCoe
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x5632.Idx → EReal) := by
  entry_read
  funext i
  pointwise

/-- Operand 1 as the call finds it, read from the argument it is made of. -/
theorem entry1 : V m c (Pipeline.arrRef spec0 1)
    = (fun i => m ((c : Thread nD τ).loc main_arg1) (ix2 (⟨(i 0).val * 1408 + (i 1).val, by have : (i 0).val < 4 := (i 0).isLt; have : (i 1).val < 1408 := (i 1).isLt; omega⟩ : Fin 5632) (i 2)) : S4x1408x2048.Idx → EReal) := by
  entry_read
  funext i
  pointwise

/-- Where the blocks lie at each point of the grid. -/
theorem places : ∀ t : Fin cfg0.N, win0_0.index t = ![t.val % 8, 0] ∧ win0_1.index t = ![0, 0, t.val / 8] ∧ win0_2.index t = ![t.val % 8, t.val / 8] :=
  (by decide +kernel : ∀ t : Fin grid0.N, win0_0.index t = ![t.val % 8, 0] ∧ win0_1.index t = ![0, 0, t.val / 8] ∧ win0_2.index t = ![t.val % 8, t.val / 8])

/-- A block of operand 0, read from the argument it is cut from. -/
theorem block0 (t : Fin cfg0.N) (p : Fin 512) (k : Fin 5632) : iblk m c 0 t (ix2 p k)
    = m ((c : Thread nD τ).loc main_arg0) (ix3 (0 : Fin 1) (⟨t.val % 8 * 512 + p.val, by omega⟩ : Fin 4096) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (a : Fin 4) (k : Fin 1408) (p : Fin 1024) : iblk m c 1 t (ix3 a k p)
    = m ((c : Thread nD τ).loc main_arg1) (ix2 (⟨a.val * 1408 + k.val, by omega⟩ : Fin 5632) (⟨t.val / 8 * 1024 + p.val, by have : t.val < 16 := t.isLt; omega⟩ : Fin 2048)) := by
  show V m c (Pipeline.arrRef spec0 1) ((win0_1.blk t).view.emb (ix3 a k p)) = _
  rw [entry1]
  refine congrArg (m ((c : Thread nD τ).loc main_arg1)) (funext fun a => Fin.ext ?_)
  match a with
  | ⟨0, _⟩ => blk_simp [places t]
  | ⟨1, _⟩ => blk_simp [places t]

/-- An entry of the block written at a point is the reference's entry at its place. -/
theorem key (t : Fin cfg0.N) (y : S512x1024.Idx) (i : S4096x2048.Idx)
    (h0 : (i 0).val = t.val % 8 * 512 + (y 0).val) (h1 : (i 1).val = t.val / 8 * 1024 + (y 1).val) :
    k0_pay1 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) y = Cert.Reference11Ideal.Read.val_main_v1 (F := Ideal) (m ((c : Thread nD τ).loc main_arg0)) (m ((c : Thread nD τ).loc main_arg1)) i := by
  pointwise [k0_pay1, Cert.Reference11Ideal.Read.val_main_v1, Cert.Reference11Ideal.Read.val_main_v0]
  have hy0 : (y 0).val < 512 := (y 0).isLt
  have hy1 : (y 1).val < 1024 := (y 1).isLt
  have ht : t.val < 16 := t.isLt
  have e0 : i 0 = (⟨t.val % 8 * 512 + (y 0).val, by omega⟩ : Fin 4096) := Fin.ext h0
  have e1 : i 1 = (⟨t.val / 8 * 1024 + (y 1).val, by omega⟩ : Fin 2048) := Fin.ext h1
  rw [e0, e1, Cert.Parts.sum_parts]
  refine congrArg₂ (· + ·) (congrArg₂ (· + ·) (congrArg₂ (· + ·) ?_ ?_) ?_) ?_
  · exact Finset.sum_congr rfl fun k _ => congrArg₂ (· * ·) ((congrArg (fun q => iblk m c 0 t (ix2 (y 0) q)) (Fin.ext (Nat.zero_add _).symm)).trans <| block0 m c t (y 0) (⟨0 * 1408 + k.val, by omega⟩ : Fin 5632)) (block1 m c t 0 k (y 1))
  · exact Finset.sum_congr rfl fun k _ => congrArg₂ (· * ·) (block0 m c t (y 0) (⟨1 * 1408 + k.val, by omega⟩ : Fin 5632)) (block1 m c t 1 k (y 1))
  · exact Finset.sum_congr rfl fun k _ => congrArg₂ (· * ·) (block0 m c t (y 0) (⟨2 * 1408 + k.val, by omega⟩ : Fin 5632)) (block1 m c t 2 k (y 1))
  · exact Finset.sum_congr rfl fun k _ => congrArg₂ (· * ·) (block0 m c t (y 0) (⟨3 * 1408 + k.val, by omega⟩ : Fin 5632)) (block1 m c t 3 k (y 1))

/-- The array the call leaves is the reference's. -/
theorem final2 : (dats m 0 c).arrAt 2 cfg0.N
    = Cert.Reference11Ideal.Read.val_main_v1 (F := Ideal) (m ((c : Thread nD τ).loc main_arg0)) (m ((c : Thread nD τ).loc main_arg1)) := by
  refine (dats m 0 c).arrAt_eq_of_covers 2 _ (by decide +kernel) fun t _ y => ?_
  rw [after0_2]
  frame_out
  refine key m c t y _ ?_ ?_
  all_goals blk_simp [places t]

end Cert.Kernel11Ideal.Claims
-- ==== Proof.GateUp.lean ====
/- The two products of the feed-forward layer and the gated product of them. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.Kernel10Ideal.Claims

open Cert.Kernel10Ideal Cert.Kernel10Ideal.Gen Cert.Kernel10Ideal.Value Idealize.ShloMosaic Idealize.ShloMosaic.TcCoe Cert.Reference10Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix2 (i 1) (⟨(i 0).val * 1408 + (i 2).val, by have : (i 0).val < 4 := (i 0).isLt; have : (i 2).val < 1408 := (i 2).isLt; omega⟩ : Fin 5632)) : S4x2048x1408.Idx → EReal) := by
  entry_read
  funext i
  pointwise

/-- Operand 2 as the call finds it, read from the argument it is made of. -/
theorem entry2 : V m c (Pipeline.arrRef spec0 2)
    = (fun i => m ((c : Thread nD τ).loc main_arg2) (ix2 (i 1) (⟨(i 0).val * 1408 + (i 2).val, by have : (i 0).val < 4 := (i 0).isLt; have : (i 2).val < 1408 := (i 2).isLt; omega⟩ : Fin 5632)) : S4x2048x1408.Idx → EReal) := by
  entry_read
  funext i
  pointwise

/-- Where the blocks lie at each point of the grid. -/
theorem places : ∀ t : Fin cfg0.N, win0_0.index t = ![t.val % 8, 0] ∧ win0_1.index t = ![t.val / 8, 0, 0] ∧ win0_2.index t = ![t.val / 8, 0, 0] ∧ win0_3.index t = ![t.val % 8, t.val / 8] ∧ win0_4.index t = ![t.val % 8, t.val / 8] ∧ win0_5.index t = ![t.val % 8, t.val / 8] :=
  (by decide +kernel : ∀ t : Fin grid0.N, win0_0.index t = ![t.val % 8, 0] ∧ win0_1.index t = ![t.val / 8, 0, 0] ∧ win0_2.index t = ![t.val / 8, 0, 0] ∧ win0_3.index t = ![t.val % 8, t.val / 8] ∧ win0_4.index t = ![t.val % 8, t.val / 8] ∧ win0_5.index t = ![t.val % 8, t.val / 8])

/-- A block of operand 0, read from the argument it is cut from. -/
theorem block0 (t : Fin cfg0.N) (p : Fin 512) (k : Fin 2048) : iblk m c 0 t (ix2 p k)
    = m ((c : Thread nD τ).loc main_arg0) (ix3 (0 : Fin 1) (⟨t.val % 8 * 512 + p.val, by omega⟩ : Fin 4096) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 2048) (p : Fin 1408) : iblk m c 1 t (ix3 (0 : Fin 1) k p)
    = m ((c : Thread nD τ).loc main_arg1) (ix2 k (⟨t.val / 8 * 1408 + p.val, by have : t.val < 32 := t.isLt; omega⟩ : Fin 5632)) := by
  show V m c (Pipeline.arrRef spec0 1) ((win0_1.blk t).view.emb (ix3 (0 : Fin 1) k p)) = _
  rw [entry1]
  refine congrArg (m ((c : Thread nD τ).loc main_arg1)) (funext fun a => Fin.ext ?_)
  match a with
  | ⟨0, _⟩ => blk_simp [places t]
  | ⟨1, _⟩ => (blk_simp [places t]; simp)

/-- A block of operand 2, read from the argument it is cut from. -/
theorem block2 (t : Fin cfg0.N) (k : Fin 2048) (p : Fin 1408) : iblk m c 2 t (ix3 (0 : Fin 1) k p)
    = m ((c : Thread nD τ).loc main_arg2) (ix2 k (⟨t.val / 8 * 1408 + p.val, by have : t.val < 32 := t.isLt; omega⟩ : Fin 5632)) := by
  show V m c (Pipeline.arrRef spec0 2) ((win0_2.blk t).view.emb (ix3 (0 : Fin 1) k p)) = _
  rw [entry2]
  refine congrArg (m ((c : Thread nD τ).loc main_arg2)) (funext fun a => Fin.ext ?_)
  match a with
  | ⟨0, _⟩ => blk_simp [places t]
  | ⟨1, _⟩ => (blk_simp [places t]; simp)

/-- An entry of the block written at a point is the reference's entry at its place. -/
theorem key3 (t : Fin cfg0.N) (y : S512x1408.Idx) (i : S4096x5632.Idx)
    (h0 : (i 0).val = t.val % 8 * 512 + (y 0).val) (h1 : (i 1).val = t.val / 8 * 1408 + (y 1).val) :
    k0_pay2 (iblk m c 0 t) (iblk m c 1 t) y = val_main_v1 (F := Ideal) (m ((c : Thread nD τ).loc main_arg0)) (m ((c : Thread nD τ).loc main_arg1)) i := by
  pointwise [k0_pay2, k0_pay1, val_main_v1, val_main_v0]
  refine Finset.sum_congr rfl fun k _ => ?_
  have hy0 : (y 0).val < 512 := (y 0).isLt
  have hy1 : (y 1).val < 1408 := (y 1).isLt
  have ht : t.val < 32 := t.isLt
  have e0 : i 0 = (⟨t.val % 8 * 512 + (y 0).val, by omega⟩ : Fin 4096) := Fin.ext h0
  have e1 : i 1 = (⟨t.val / 8 * 1408 + (y 1).val, by omega⟩ : Fin 5632) := Fin.ext h1
  rw [e0, e1]
  exact congrArg₂ (· * ·) (block0 m c t (y 0) k) (block1 m c t k (y 1))

/-- An entry of the block written at a point is the reference's entry at its place. -/
theorem key4 (t : Fin cfg0.N) (y : S512x1408.Idx) (i : S4096x5632.Idx)
    (h0 : (i 0).val = t.val % 8 * 512 + (y 0).val) (h1 : (i 1).val = t.val / 8 * 1408 + (y 1).val) :
    k0_pay3 (iblk m c 0 t) (iblk m c 2 t) y = val_main_v3 (F := Ideal) (m ((c : Thread nD τ).loc main_arg0)) (m ((c : Thread nD τ).loc main_arg2)) i := by
  pointwise [k0_pay3, k0_pay1, val_main_v3, val_main_v2]
  refine Finset.sum_congr rfl fun k _ => ?_
  have hy0 : (y 0).val < 512 := (y 0).isLt
  have hy1 : (y 1).val < 1408 := (y 1).isLt
  have ht : t.val < 32 := t.isLt
  have e0 : i 0 = (⟨t.val % 8 * 512 + (y 0).val, by omega⟩ : Fin 4096) := Fin.ext h0
  have e1 : i 1 = (⟨t.val / 8 * 1408 + (y 1).val, by omega⟩ : Fin 5632) := Fin.ext h1
  rw [e0, e1]
  exact congrArg₂ (· * ·) (block0 m c t (y 0) k) (block2 m c t k (y 1))

/-- An entry of the block written at a point is the reference's entry at its place. -/
theorem key5 (t : Fin cfg0.N) (y : S512x1408.Idx) (i : S4096x5632.Idx)
    (h0 : (i 0).val = t.val % 8 * 512 + (y 0).val) (h1 : (i 1).val = t.val / 8 * 1408 + (y 1).val) :
    k0_pay4 (iblk m c 0 t) (iblk m c 1 t) (iblk m c 2 t) y = val_main_v6 (F := Ideal) (m ((c : Thread nD τ).loc main_arg0)) (m ((c : Thread nD τ).loc main_arg1)) (m ((c : Thread nD τ).loc main_arg2)) i := by
  have hg := key3 m c t y i h0 h1
  have hu := key4 m c t y i h0 h1
  pointwise [k0_pay4, val_main_v6, val_main_v5, val_main_v4, val_main_call0_v5, val_main_call0_v4, val_main_call0_v3, val_main_call0_v2, val_main_call0_v1, val_main_call0_v0, val_main_call0_cst, val_main_call0_cst_0]
  rw [hg, hu, zero_sub]

/-- The array the call leaves is the reference's. -/
theorem final3 : (dats m 0 c).arrAt 3 cfg0.N
    = val_main_v1 (F := Ideal) (m ((c : Thread nD τ).loc main_arg0)) (m ((c : Thread nD τ).loc main_arg1)) := by
  refine (dats m 0 c).arrAt_eq_of_covers 3 _ (by decide +kernel) fun t _ y => ?_
  rw [after0_3]
  frame_out
  refine key3 m c t y _ ?_ ?_
  all_goals blk_simp [places t]

/-- The array the call leaves is the reference's. -/
theorem final4 : (dats m 0 c).arrAt 4 cfg0.N
    = val_main_v3 (F := Ideal) (m ((c : Thread nD τ).loc main_arg0)) (m ((c : Thread nD τ).loc main_arg2)) := by
  refine (dats m 0 c).arrAt_eq_of_covers 4 _ (by decide +kernel) fun t _ y => ?_
  rw [after0_4]
  frame_out
  refine key4 m c t y _ ?_ ?_
  all_goals blk_simp [places t]

/-- The array the call leaves is the reference's. -/
theorem final5 : (dats m 0 c).arrAt 5 cfg0.N
    = val_main_v6 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [after0_5]
  frame_out
  refine key5 m c t y _ ?_ ?_
  all_goals blk_simp [places t]

end Cert.Kernel10Ideal.Claims
-- ==== Proof.InProj.lean ====
/- The product of a layer's input with a weight split by columns over the chips. -/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pointwise

@[expose] public section

set_option maxRecDepth 16384

noncomputable section

namespace Cert.Kernel12Ideal.Claims

open Cert.Kernel12Ideal Cert.Kernel12Ideal.Gen Cert.Kernel12Ideal.Value Idealize.ShloMosaic Idealize.ShloMosaic.TcCoe
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix2 (i 1) (⟨(i 0).val * 1408 + (i 2).val, by have : (i 0).val < 4 := (i 0).isLt; have : (i 2).val < 1408 := (i 2).isLt; omega⟩ : Fin 5632)) : S4x2048x1408.Idx → EReal) := by
  entry_read
  funext i
  pointwise

/-- Where the blocks lie at each point of the grid. -/
theorem places : ∀ t : Fin cfg0.N, win0_0.index t = ![t.val % 4, 0] ∧ win0_1.index t = ![t.val / 4, 0, 0] ∧ win0_2.index t = ![t.val % 4, t.val / 4] :=
  (by decide +kernel : ∀ t : Fin grid0.N, win0_0.index t = ![t.val % 4, 0] ∧ win0_1.index t = ![t.val / 4, 0, 0] ∧ win0_2.index t = ![t.val % 4, t.val / 4])

/-- A block of operand 0, read from the argument it is cut from. -/
theorem block0 (t : Fin cfg0.N) (p : Fin 1024) (k : Fin 2048) : iblk m c 0 t (ix2 p k)
    = m ((c : Thread nD τ).loc main_arg0) (ix3 (0 : Fin 1) (⟨t.val % 4 * 1024 + p.val, by omega⟩ : Fin 4096) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (k : Fin 2048) (p : Fin 1408) : iblk m c 1 t (ix3 (0 : Fin 1) k p)
    = m ((c : Thread nD τ).loc main_arg1) (ix2 k (⟨t.val / 4 * 1408 + p.val, by have : t.val < 16 := t.isLt; omega⟩ : Fin 5632)) := by
  show V m c (Pipeline.arrRef spec0 1) ((win0_1.blk t).view.emb (ix3 (0 : Fin 1) k p)) = _
  rw [entry1]
  refine congrArg (m ((c : Thread nD τ).loc main_arg1)) (funext fun a => Fin.ext ?_)
  match a with
  | ⟨0, _⟩ => blk_simp [places t]
  | ⟨1, _⟩ => (blk_simp [places t]; simp)

/-- An entry of the block written at a point is the reference's entry at its place. -/
theorem key (t : Fin cfg0.N) (y : S1024x1408.Idx) (i : S4096x5632.Idx)
    (h0 : (i 0).val = t.val % 4 * 1024 + (y 0).val) (h1 : (i 1).val = t.val / 4 * 1408 + (y 1).val) :
    k0_pay1 (iblk m c 0 t) (iblk m c 1 t) y = Cert.Reference12Ideal.Read.val_main_v1 (F := Ideal) (m ((c : Thread nD τ).loc main_arg0)) (m ((c : Thread nD τ).loc main_arg1)) i := by
  pointwise [k0_pay1, Cert.Reference12Ideal.Read.val_main_v1, Cert.Reference12Ideal.Read.val_main_v0]
  refine Finset.sum_congr rfl fun k _ => ?_
  have hy0 : (y 0).val < 1024 := (y 0).isLt
  have hy1 : (y 1).val < 1408 := (y 1).isLt
  have ht : t.val < 16 := t.isLt
  have e0 : i 0 = (⟨t.val % 4 * 1024 + (y 0).val, by omega⟩ : Fin 4096) := Fin.ext h0
  have e1 : i 1 = (⟨t.val / 4 * 1408 + (y 1).val, by omega⟩ : Fin 5632) := Fin.ext h1
  rw [e0, e1]
  exact congrArg₂ (· * ·) (block0 m c t (y 0) k) (block1 m c t k (y 1))

/-- The array the call leaves is the reference's. -/
theorem final2 : (dats m 0 c).arrAt 2 cfg0.N
    = Cert.Reference12Ideal.Read.val_main_v1 (F := Ideal) (m ((c : Thread nD τ).loc main_arg0)) (m ((c : Thread nD τ).loc main_arg1)) := by
  refine (dats m 0 c).arrAt_eq_of_covers 2 _ (by decide +kernel) fun t _ y => ?_
  rw [after0_2]
  frame_out
  refine key m c t y _ ?_ ?_
  all_goals blk_simp [places t]

end Cert.Kernel12Ideal.Claims
-- ==== Proof.GateGrad.lean ====
/- The gradient of the gated product of the feed-forward layer and of the product after it: the written form of the
  derivative of `silu` against the derivative of the product of a number with its logistic value. -/
module

public import proofs.«01_k».proof.Proof.Gen.Kernel2Ideal.Value
public import proofs.«01_k».proof.Proof.Gen.Reference2Ideal.Read
public import proofs.«01_k».proof.Proof.Numbers
public import Idealize.ShloMosaic.Lib.Pipeline.ValueKit
public import Idealize.ShloMosaic.Lib.Pointwise

@[expose] public section

set_option maxRecDepth 16384

noncomputable section

namespace Cert.Kernel2Ideal.Claims

open Cert.Kernel2Ideal Cert.Kernel2Ideal.Gen Cert.Kernel2Ideal.Value Idealize.ShloMosaic Idealize.ShloMosaic.TcCoe Cert.Reference2Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg3) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg2) (ix2 (⟨(i 0).val * 1408 + (i 1).val, by have : (i 0).val < 4 := (i 0).isLt; have : (i 1).val < 1408 := (i 1).isLt; omega⟩ : Fin 5632) (i 2)) : S4x1408x2048.Idx → EReal) := by
  entry_read
  funext i
  pointwise

/-- Operand 2 as the call finds it, read from the argument it is made of. -/
theorem entry2 : V m c (Pipeline.arrRef spec0 2)
    = (fun i => m ((c : Thread nD τ).loc main_arg0) (ix3 (0 : Fin 1) (i 0) (i 1)) : S4096x5632.Idx → EReal) := by
  entry_read
  funext i
  pointwise

/-- Operand 3 as the call finds it, read from the argument it is made of. -/
theorem entry3 : V m c (Pipeline.arrRef spec0 3)
    = (fun i => m ((c : Thread nD τ).loc main_arg1) (ix3 (0 : Fin 1) (i 0) (i 1)) : S4096x5632.Idx → EReal) := by
  entry_read
  funext i
  pointwise

/-- Where the blocks lie at each point of the grid. -/
theorem places : ∀ t : Fin cfg0.N, win0_0.index t = ![t.val % 8, 0] ∧ win0_1.index t = ![t.val / 8, 0, 0] ∧ win0_2.index t = ![t.val % 8, t.val / 8] ∧ win0_3.index t = ![t.val % 8, t.val / 8] ∧ win0_4.index t = ![t.val % 8, t.val / 8] ∧ win0_5.index t = ![t.val % 8, t.val / 8] :=
  (by decide +kernel : ∀ t : Fin grid0.N, win0_0.index t = ![t.val % 8, 0] ∧ win0_1.index t = ![t.val / 8, 0, 0] ∧ win0_2.index t = ![t.val % 8, t.val / 8] ∧ win0_3.index t = ![t.val % 8, t.val / 8] ∧ win0_4.index t = ![t.val % 8, t.val / 8] ∧ win0_5.index t = ![t.val % 8, t.val / 8])

/-- A block of operand 0, read from the argument it is cut from. -/
theorem block0 (t : Fin cfg0.N) (p : Fin 512) (k : Fin 2048) : iblk m c 0 t (ix2 p k)
    = m ((c : Thread nD τ).loc main_arg3) (ix3 (0 : Fin 1) (⟨t.val % 8 * 512 + p.val, by omega⟩ : Fin 4096) k) := by
  show V m c (Pipeline.arrRef spec0 0) ((win0_0.blk t).view.emb (ix2 p k)) = _
  rw [entry0]
  refine congrArg (m ((c : Thread nD τ).loc main_arg3)) (funext fun a => Fin.ext ?_)
  match a with
  | ⟨0, _⟩ => blk_simp [places t]
  | ⟨1, _⟩ => blk_simp [places t]
  | ⟨2, _⟩ => blk_simp [places t]

/-- A block of operand 1, read from the argument it is cut from. -/
theorem block1 (t : Fin cfg0.N) (p : Fin 1408) (k : Fin 2048) : iblk m c 1 t (ix3 (0 : Fin 1) p k)
    = m ((c : Thread nD τ).loc main_arg2) (ix2 (⟨t.val / 8 * 1408 + p.val, by have : t.val < 32 := t.isLt; omega⟩ : Fin 5632) k) := by
  show V m c (Pipeline.arrRef spec0 1) ((win0_1.blk t).view.emb (ix3 (0 : Fin 1) p k)) = _
  rw [entry1]
  refine congrArg (m ((c : Thread nD τ).loc main_arg2)) (funext fun a => Fin.ext ?_)
  match a with
  | ⟨0, _⟩ => (blk_simp [places t]; simp)
  | ⟨1, _⟩ => blk_simp [places t]

/-- A block of operand 2, read from the argument it is cut from. -/
theorem block2 (t : Fin cfg0.N) (p : Fin 512) (q : Fin 1408) : iblk m c 2 t (ix2 p q)
    = m ((c : Thread nD τ).loc main_arg0) (ix3 (0 : Fin 1) (⟨t.val % 8 * 512 + p.val, by omega⟩ : Fin 4096) (⟨t.val / 8 * 1408 + q.val, by have : t.val < 32 := t.isLt; omega⟩ : Fin 5632)) := by
  show V m c (Pipeline.arrRef spec0 2) ((win0_2.blk t).view.emb (ix2 p q)) = _
  rw [entry2]
  refine congrArg (m ((c : Thread nD τ).loc main_arg0)) (funext fun a => Fin.ext ?_)
  match a with
  | ⟨0, _⟩ => blk_simp [places t]
  | ⟨1, _⟩ => blk_simp [places t]
  | ⟨2, _⟩ => blk_simp [places t]

/-- A block of operand 3, read from the argument it is cut from. -/
theorem block3 (t : Fin cfg0.N) (p : Fin 512) (q : Fin 1408) : iblk m c 3 t (ix2 p q)
    = m ((c : Thread nD τ).loc main_arg1) (ix3 (0 : Fin 1) (⟨t.val % 8 * 512 + p.val, by omega⟩ : Fin 4096) (⟨t.val / 8 * 1408 + q.val, by have : t.val < 32 := t.isLt; omega⟩ : Fin 5632)) := by
  show V m c (Pipeline.arrRef spec0 3) ((win0_3.blk t).view.emb (ix2 p q)) = _
  rw [entry3]
  refine congrArg (m ((c : Thread nD τ).loc main_arg1)) (funext fun a => Fin.ext ?_)
  match a with
  | ⟨0, _⟩ => blk_simp [places t]
  | ⟨1, _⟩ => blk_simp [places t]
  | ⟨2, _⟩ => blk_simp [places t]

/-- An entry of the block of the gate's argument. -/
theorem operand2 (t : Fin cfg0.N) (y : S512x1408.Idx) (i : S4096x5632.Idx) (h0 : (i 0).val = t.val % 8 * 512 + (y 0).val) (h1 : (i 1).val = t.val / 8 * 1408 + (y 1).val) :
    iblk m c 2 t y = m ((c : Thread nD τ).loc main_arg0) (ix3 (0 : Fin 1) (i 0) (i 1)) := by
  have hy0 : (y 0).val < 512 := (y 0).isLt
  have hy1 : (y 1).val < 1408 := (y 1).isLt
  have ht : t.val < 32 := t.isLt
  have e0 : i 0 = (⟨t.val % 8 * 512 + (y 0).val, by omega⟩ : Fin 4096) := Fin.ext h0
  have e1 : i 1 = (⟨t.val / 8 * 1408 + (y 1).val, by omega⟩ : Fin 5632) := Fin.ext h1
  rw [e0, e1]
  exact (congrArg (iblk m c 2 t) (eq_ix2 y)).trans (block2 m c t (y 0) (y 1))

/-- An entry of the block of the other branch. -/
theorem operand3 (t : Fin cfg0.N) (y : S512x1408.Idx) (i : S4096x5632.Idx) (h0 : (i 0).val = t.val % 8 * 512 + (y 0).val) (h1 : (i 1).val = t.val / 8 * 1408 + (y 1).val) :
    iblk m c 3 t y = m ((c : Thread nD τ).loc main_arg1) (ix3 (0 : Fin 1) (i 0) (i 1)) := by
  have hy0 : (y 0).val < 512 := (y 0).isLt
  have hy1 : (y 1).val < 1408 := (y 1).isLt
  have ht : t.val < 32 := t.isLt
  have e0 : i 0 = (⟨t.val % 8 * 512 + (y 0).val, by omega⟩ : Fin 4096) := Fin.ext h0
  have e1 : i 1 = (⟨t.val / 8 * 1408 + (y 1).val, by omega⟩ : Fin 5632) := Fin.ext h1
  rw [e0, e1]
  exact (congrArg (iblk m c 3 t) (eq_ix2 y)).trans (block3 m c t (y 0) (y 1))

/-- An entry of the product of the cotangent with the weight. -/
theorem product (t : Fin cfg0.N) (y : S512x1408.Idx) (i : S4096x5632.Idx) (h0 : (i 0).val = t.val % 8 * 512 + (y 0).val) (h1 : (i 1).val = t.val / 8 * 1408 + (y 1).val) :
    k0_pay1 (iblk m c 0 t) (iblk m c 1 t) y = val_main_v6 (F := Ideal) (m ((c : Thread nD τ).loc main_arg2)) (m ((c : Thread nD τ).loc main_arg3)) i := by
  pointwise [k0_pay1, val_main_v6, val_main_v5]
  refine Finset.sum_congr rfl fun k _ => ?_
  have hy0 : (y 0).val < 512 := (y 0).isLt
  have hy1 : (y 1).val < 1408 := (y 1).isLt
  have ht : t.val < 32 := t.isLt
  have e0 : i 0 = (⟨t.val % 8 * 512 + (y 0).val, by omega⟩ : Fin 4096) := Fin.ext h0
  have e1 : i 1 = (⟨t.val / 8 * 1408 + (y 1).val, by omega⟩ : Fin 5632) := Fin.ext h1
  rw [e0, e1]
  exact congrArg₂ (· * ·) (block0 m c t (y 0) k) (block1 m c t (y 1) k)

/-- An entry of the block written at a point is the reference's entry at its place. -/
theorem key5 (t : Fin cfg0.N) (y : S512x1408.Idx) (i : S4096x5632.Idx) (h0 : (i 0).val = t.val % 8 * 512 + (y 0).val) (h1 : (i 1).val = t.val / 8 * 1408 + (y 1).val) :
    k0_pay4 (iblk m c 0 t) (iblk m c 1 t) (iblk m c 2 t) y = val_main_v11 (F := Ideal) (m ((c : Thread nD τ).loc main_arg0)) (m ((c : Thread nD τ).loc main_arg2)) (m ((c : Thread nD τ).loc main_arg3)) i := by
  have hp := product m c t y i h0 h1
  have hg := operand2 m c t y i h0 h1
  pointwise [k0_pay4, k0_pay3, k0_pay2, val_main_v11, val_main_v7, val_main_v2_0, val_main_v2_2, val_main_call0_v4, val_main_call0_v3, val_main_call0_v2, val_main_call0_v1, val_main_call0_v0, val_main_call0_cst, val_main_call0_cst_0, val_main_v0]
  rw [hp, hg, zero_sub, mul_comm]

/-- An entry of the block written at a point is the reference's entry at its place. -/
theorem key4 (t : Fin cfg0.N) (y : S512x1408.Idx) (i : S4096x5632.Idx) (h0 : (i 0).val = t.val % 8 * 512 + (y 0).val) (h1 : (i 1).val = t.val / 8 * 1408 + (y 1).val)
    (hd : ∃ r : ℝ, val_main_v6 (F := Ideal) (m ((c : Thread nD τ).loc main_arg2)) (m ((c : Thread nD τ).loc main_arg3)) i = (r : EReal))
    (hgr : ∃ r : ℝ, m ((c : Thread nD τ).loc main_arg0) (ix3 (0 : Fin 1) (i 0) (i 1)) = (r : EReal))
    (hur : ∃ r : ℝ, m ((c : Thread nD τ).loc main_arg1) (ix3 (0 : Fin 1) (i 0) (i 1)) = (r : EReal)) :
    k0_pay5 (iblk m c 0 t) (iblk m c 1 t) (iblk m c 2 t) (iblk m c 3 t) y = val_main_v10 (F := Ideal) (m ((c : Thread nD τ).loc main_arg0)) (m ((c : Thread nD τ).loc main_arg1)) (m ((c : Thread nD τ).loc main_arg2)) (m ((c : Thread nD τ).loc main_arg3)) i := by
  have hp := product m c t y i h0 h1
  have hg := operand2 m c t y i h0 h1
  have hu := operand3 m c t y i h0 h1
  pointwise [k0_pay5, k0_pay4, k0_pay3, k0_pay2, val_main_v10, val_main_v9, val_main_v8, val_main_v1, val_main_call1_v0, val_main_call1_v1, val_main_call1_v2, val_main_v2_1, val_main_call0_v7, val_main_call0_v6, val_main_call0_cst_1, val_main_v2_0, val_main_v2_2, val_main_call0_v4, val_main_call0_v3, val_main_call0_v2, val_main_call0_v1, val_main_call0_v0, val_main_call0_cst, val_main_call0_cst_0, val_main_v0]
  obtain ⟨d, hd⟩ := hd
  obtain ⟨g, hgr⟩ := hgr
  obtain ⟨u, hur⟩ := hur
  rw [hp, hg, hu, zero_sub, hd, hgr, hur]
  obtain ⟨s, hs⟩ := Cert.Numbers.logistic_real g
  rw [hs, ← EReal.coe_one]
  simp only [← EReal.coe_mul, ← EReal.coe_add, ← EReal.coe_sub]
  exact congrArg _ (by ring)

/-- The array the call leaves is the reference's. -/
theorem final5 : (dats m 0 c).arrAt 5 cfg0.N
    = val_main_v11 (F := Ideal) (m ((c : Thread nD τ).loc main_arg0)) (m ((c : Thread nD τ).loc main_arg2)) (m ((c : Thread nD τ).loc main_arg3)) := by
  refine (dats m 0 c).arrAt_eq_of_covers 5 _ (by decide +kernel) fun t _ y => ?_
  rw [after0_5]
  frame_out
  refine key5 m c t y _ ?_ ?_
  all_goals blk_simp [places t]

/-- The array the call leaves is the reference's. -/
theorem final4
    (realD : ∀ i : S4096x5632.Idx, ∃ r : ℝ, val_main_v6 (F := Ideal) (m ((c : Thread nD τ).loc main_arg2)) (m ((c : Thread nD τ).loc main_arg3)) i = (r : EReal))
    (realG : ∀ i : S4096x5632.Idx, ∃ r : ℝ, m ((c : Thread nD τ).loc main_arg0) (ix3 (0 : Fin 1) (i 0) (i 1)) = (r : EReal))
    (realU : ∀ i : S4096x5632.Idx, ∃ r : ℝ, m ((c : Thread nD τ).loc main_arg1) (ix3 (0 : Fin 1) (i 0) (i 1)) = (r : EReal)) : (dats m 0 c).arrAt 4 cfg0.N
    = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]
  frame_out
  refine key4 m c t y _ ?_ ?_ (realD _) (realG _) (realU _)
  all_goals blk_simp [places t]

end Cert.Kernel2Ideal.Claims
-- ==== Proof.GateGradReal.lean ====
/- The gradient of the gate's argument, of operands that are real numbers. -/
module

public import proofs.«01_k».proof.Proof.GateGrad
public import proofs.«01_k».proof.Defs
public import proofs.«01_k».proof.Proof.Gen.Pre_finite_ffn

@[expose] public section

set_option maxRecDepth 16384

noncomputable section

namespace Cert.Kernel2Ideal.Claims

open Cert.Kernel2Ideal Cert.Kernel2Ideal.Gen Cert.Kernel2Ideal.Value Idealize.ShloMosaic Idealize.ShloMosaic.TcCoe
open Idealize.SL.Sem

/-- Every number given is a real one, so the product of the cotangent with the weight is too, and the two written forms of
    the gate's derivative agree. -/
theorem gradGate (m : (ℓ : Loc nD τ sig) → Buf (Elt Ideal) ℓ) (h : Pre_Kernel2Ideal_finite_ffn m) (c : Dev nD) :
    (dats m 0 c).arrAt 4 cfg0.N = Cert.Reference2Ideal.Read.val_main_v10 (F := Ideal) (m ((c : Thread nD τ).loc main_arg0))
      (m ((c : Thread nD τ).loc main_arg1)) (m ((c : Thread nD τ).loc main_arg2)) (m ((c : Thread nD τ).loc main_arg3)) := by
  obtain ⟨h0, h1, h2, h3⟩ := h c
  have g0 := fun x => Cert.Numbers.real_between _ (congrFun h0 x)
  have g1 := fun x => Cert.Numbers.real_between _ (congrFun h1 x)
  have g2 := fun x => Cert.Numbers.real_between _ (congrFun h2 x)
  have g3 := fun x => Cert.Numbers.real_between _ (congrFun h3 x)
  refine final4 m c (fun i => ?_) (fun i => g0 _) (fun i => g1 _)
  pointwise [Cert.Reference2Ideal.Read.val_main_v6, Cert.Reference2Ideal.Read.val_main_v5]
  exact Cert.Numbers.sum_real _ _ fun k _ => Cert.Numbers.mul_real _ _ (g3 _) (g2 _)

end Cert.Kernel2Ideal.Claims

end
-- ==== Proof.OptimiserRows.lean ====
/- One step of the optimiser for the weights whose gradients come in two halves of their rows: the first half of the points of the grid reads the first layer's
  gradient, the second half the second's. -/
module

public import proofs.«01_k».proof.Proof.Gen.Kernel16Ideal.Value
public import proofs.«01_k».proof.Proof.Gen.Reference16Ideal.Read
public import proofs.«01_k».proof.Proof.Gen.Kernel19Ideal.Value
public import proofs.«01_k».proof.Proof.Gen.Reference19Ideal.Read
public import Idealize.ShloMosaic.Lib.Pipeline.ValueKit
public import Idealize.ShloMosaic.Lib.Pointwise

@[expose] public section

set_option maxRecDepth 16384

noncomputable section

namespace Cert.Kernel16Ideal.Claims

open Cert.Kernel16Ideal Cert.Kernel16Ideal.Gen Cert.Kernel16Ideal.Value Idealize.ShloMosaic Idealize.ShloMosaic.TcCoe Cert.Reference16Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (i) : S2x2048x1408.Idx → EReal) := by
  entry_read
  funext i
  pointwise

/-- Operand 1 as the call finds it, read from the argument it is made of. -/
theorem entry1 : V m c (Pipeline.arrRef spec0 1)
    = (fun i => m ((c : Thread nD τ).loc main_arg2) (i) : S2x2048x1408.Idx → EReal) := by
  entry_read
  funext i
  pointwise

/-- Operand 2 as the call finds it, read from the argument it is made of. -/
theorem entry2 : V m c (Pipeline.arrRef spec0 2)
    = (fun i => m ((c : Thread nD τ).loc main_arg3) (i) : S2x2048x1408.Idx → EReal) := by
  entry_read
  funext i
  pointwise

/-- Operand 3 as the call finds it, read from the argument it is made of. -/
theorem entry3 : V m c (Pipeline.arrRef spec0 3)
    = (fun i => m ((c : Thread nD τ).loc main_arg1) (ix3 (0 : Fin 2) (⟨(i 0).val * 1024 + (i 1).val, by have : (i 0).val < 2 := (i 0).isLt; have : (i 1).val < 1024 := (i 1).isLt; omega⟩ : Fin 2048) (i 2)) : S2x1024x1408.Idx → EReal) := by
  entry_read
  funext i
  pointwise

/-- Operand 4 as the call finds it, read from the argument it is made of. -/
theorem entry4 : V m c (Pipeline.arrRef spec0 4)
    = (fun i => m ((c : Thread nD τ).loc main_arg1) (ix3 (1 : Fin 2) (⟨(i 0).val * 1024 + (i 1).val, by have : (i 0).val < 2 := (i 0).isLt; have : (i 1).val < 1024 := (i 1).isLt; omega⟩ : Fin 2048) (i 2)) : S2x1024x1408.Idx → EReal) := by
  entry_read
  funext i
  pointwise

/-- Where the blocks of the parameter, of its moments and of the results lie at each point of the grid. -/
theorem places : ∀ t : Fin cfg0.N, win0_0.index t = ![t.val / 8, t.val % 8, 0] ∧ win0_1.index t = ![t.val / 8, t.val % 8, 0] ∧ win0_2.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, win0_0.index t = ![t.val / 8, t.val % 8, 0] ∧ win0_1.index t = ![t.val / 8, t.val % 8, 0] ∧ win0_2.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0])

/-- Where the first layer's gradient is read, while it is. -/
theorem places_first : ∀ t : Fin cfg0.N, t.val < 8 → win0_3.index t = ![t.val % 8 / 4, t.val % 4, 0] :=
  (by decide +kernel : ∀ t : Fin grid0.N, t.val < 8 → win0_3.index t = ![t.val % 8 / 4, t.val % 4, 0])

/-- Where the second layer's gradient is read, while it is. -/
theorem places_second : ∀ t : Fin cfg0.N, ¬ t.val < 8 → win0_4.index t = ![t.val % 8 / 4, t.val % 4, 0] :=
  (by decide +kernel : ∀ t : Fin grid0.N, ¬ t.val < 8 → win0_4.index t = ![t.val % 8 / 4, t.val % 4, 0])

/-- A block of operand 0, read from the argument it is cut from. -/
theorem block0 (t : Fin cfg0.N) (y : S1x256x1408.Idx) (i : S2x2048x1408.Idx)
    (h0 : (i 0).val = t.val / 8) (h1 : (i 1).val = t.val % 8 * 256 + (y 1).val) (h2 : (i 2).val = (y 2).val) : iblk m c 0 t y = m ((c : Thread nD τ).loc main_arg0) i := by
  show V m c (Pipeline.arrRef spec0 0) ((win0_0.blk t).view.emb y) = _
  rw [entry0]
  have hy : (y 0).val < 1 := (y 0).isLt
  refine congrArg (m ((c : Thread nD τ).loc main_arg0)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 1, read from the argument it is cut from. -/
theorem block1 (t : Fin cfg0.N) (y : S1x256x1408.Idx) (i : S2x2048x1408.Idx)
    (h0 : (i 0).val = t.val / 8) (h1 : (i 1).val = t.val % 8 * 256 + (y 1).val) (h2 : (i 2).val = (y 2).val) : iblk m c 1 t y = m ((c : Thread nD τ).loc main_arg2) i := by
  show V m c (Pipeline.arrRef spec0 1) ((win0_1.blk t).view.emb y) = _
  rw [entry1]
  have hy : (y 0).val < 1 := (y 0).isLt
  refine congrArg (m ((c : Thread nD τ).loc main_arg2)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 2, read from the argument it is cut from. -/
theorem block2 (t : Fin cfg0.N) (y : S1x256x1408.Idx) (i : S2x2048x1408.Idx)
    (h0 : (i 0).val = t.val / 8) (h1 : (i 1).val = t.val % 8 * 256 + (y 1).val) (h2 : (i 2).val = (y 2).val) : iblk m c 2 t y = m ((c : Thread nD τ).loc main_arg3) i := by
  show V m c (Pipeline.arrRef spec0 2) ((win0_2.blk t).view.emb y) = _
  rw [entry2]
  have hy : (y 0).val < 1 := (y 0).isLt
  refine congrArg (m ((c : Thread nD τ).loc main_arg3)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of the gradient of the first layer, read from the gradient given. -/
theorem grad_first (t : Fin cfg0.N) (h : t.val < 8) (y : S1x256x1408.Idx) (i : S2x2048x1408.Idx)
    (h0 : (i 0).val = t.val / 8) (h1 : (i 1).val = t.val % 8 * 256 + (y 1).val) (h2 : (i 2).val = (y 2).val) : iblk m c 3 t y = m ((c : Thread nD τ).loc main_arg1) i := by
  show V m c (Pipeline.arrRef spec0 3) ((win0_3.blk t).view.emb y) = _
  rw [entry3]
  have hy : (y 0).val < 1 := (y 0).isLt
  have ht : t.val < 16 := t.isLt
  refine congrArg (m ((c : Thread nD τ).loc main_arg1)) (funext fun a => Fin.ext ?_)
  match a with
  | ⟨0, _⟩ => refine Eq.trans ?_ h0.symm; show 0 = t.val / 8; omega
  | ⟨1, _⟩ => refine Eq.trans ?_ h1.symm; blk_simp [places_first t h]; show t.val % 8 / 4 * 1024 + (t.val % 4 * 256 + (y 1).val) = _; omega
  | ⟨2, _⟩ => refine Eq.trans ?_ h2.symm; blk_simp [places_first t h]; try rfl

/-- A block of the gradient of the second layer, read from the gradient given. -/
theorem grad_second (t : Fin cfg0.N) (h : ¬ t.val < 8) (y : S1x256x1408.Idx) (i : S2x2048x1408.Idx)
    (h0 : (i 0).val = t.val / 8) (h1 : (i 1).val = t.val % 8 * 256 + (y 1).val) (h2 : (i 2).val = (y 2).val) : iblk m c 4 t y = m ((c : Thread nD τ).loc main_arg1) i := by
  show V m c (Pipeline.arrRef spec0 4) ((win0_4.blk t).view.emb y) = _
  rw [entry4]
  have hy : (y 0).val < 1 := (y 0).isLt
  have ht : t.val < 16 := t.isLt
  refine congrArg (m ((c : Thread nD τ).loc main_arg1)) (funext fun a => Fin.ext ?_)
  match a with
  | ⟨0, _⟩ => refine Eq.trans ?_ h0.symm; show 1 = t.val / 8; omega
  | ⟨1, _⟩ => refine Eq.trans ?_ h1.symm; blk_simp [places_second t h]; show t.val % 8 / 4 * 1024 + (t.val % 4 * 256 + (y 1).val) = _; omega
  | ⟨2, _⟩ => refine Eq.trans ?_ h2.symm; blk_simp [places_second t h]; try rfl

/-- An entry of the block written for the first layer is the reference's entry at its place. -/
theorem key_first5 (t : Fin cfg0.N) (h : t.val < 8) (y : S1x256x1408.Idx) (i : S2x2048x1408.Idx)
    (h0 : (i 0).val = t.val / 8) (h1 : (i 1).val = t.val % 8 * 256 + (y 1).val) (h2 : (i 2).val = (y 2).val) :
    k0_pay11 (iblk m c 3 t) y = m ((c : Thread nD τ).loc main_arg1) i := by
  pointwise [k0_pay1, k0_pay2, k0_pay3, k0_pay7, k0_pay8, k0_pay9, k0_pay10, k0_pay11]
  rw [grad_first m c t h _ i h0 h1 h2]

/-- An entry of the block written for the first layer is the reference's entry at its place. -/
theorem key_first6 (t : Fin cfg0.N) (h : t.val < 8) (y : S1x256x1408.Idx) (i : S2x2048x1408.Idx)
    (h0 : (i 0).val = t.val / 8) (h1 : (i 1).val = t.val % 8 * 256 + (y 1).val) (h2 : (i 2).val = (y 2).val) :
    k0_pay1 (k0_pay10 (iblk m c 3 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block0 m c t _ i h0 h1 h2, block1 m c t _ i h0 h1 h2, block2 m c t _ i h0 h1 h2]

/-- An entry of the block written for the first layer is the reference's entry at its place. -/
theorem key_first7 (t : Fin cfg0.N) (h : t.val < 8) (y : S1x256x1408.Idx) (i : S2x2048x1408.Idx)
    (h0 : (i 0).val = t.val / 8) (h1 : (i 1).val = t.val % 8 * 256 + (y 1).val) (h2 : (i 2).val = (y 2).val) :
    k0_pay2 (k0_pay8 (iblk m c 3 t) (iblk m c 1 t)) y = val_main_v4 (F := Ideal) (m ((c : Thread nD τ).loc main_arg1)) (m ((c : Thread nD τ).loc main_arg2)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block1 m c t _ i h0 h1 h2]

/-- An entry of the block written for the first layer is the reference's entry at its place. -/
theorem key_first8 (t : Fin cfg0.N) (h : t.val < 8) (y : S1x256x1408.Idx) (i : S2x2048x1408.Idx)
    (h0 : (i 0).val = t.val / 8) (h1 : (i 1).val = t.val % 8 * 256 + (y 1).val) (h2 : (i 2).val = (y 2).val) :
    k0_pay3 (k0_pay9 (iblk m c 3 t) (iblk m c 2 t)) y = val_main_v10 (F := Ideal) (m ((c : Thread nD τ).loc main_arg1)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block2 m c t _ i h0 h1 h2]

/-- An entry of the block written for the second layer is the reference's entry at its place. -/
theorem key_second5 (t : Fin cfg0.N) (h : ¬ t.val < 8) (y : S1x256x1408.Idx) (i : S2x2048x1408.Idx)
    (h0 : (i 0).val = t.val / 8) (h1 : (i 1).val = t.val % 8 * 256 + (y 1).val) (h2 : (i 2).val = (y 2).val) :
    k0_pay16 (iblk m c 4 t) y = m ((c : Thread nD τ).loc main_arg1) i := by
  pointwise [k0_pay4, k0_pay5, k0_pay6, k0_pay12, k0_pay13, k0_pay14, k0_pay15, k0_pay16]
  rw [grad_second m c t h _ i h0 h1 h2]

/-- An entry of the block written for the second layer is the reference's entry at its place. -/
theorem key_second6 (t : Fin cfg0.N) (h : ¬ t.val < 8) (y : S1x256x1408.Idx) (i : S2x2048x1408.Idx)
    (h0 : (i 0).val = t.val / 8) (h1 : (i 1).val = t.val % 8 * 256 + (y 1).val) (h2 : (i 2).val = (y 2).val) :
    k0_pay4 (k0_pay15 (iblk m c 4 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block0 m c t _ i h0 h1 h2, block1 m c t _ i h0 h1 h2, block2 m c t _ i h0 h1 h2]

/-- An entry of the block written for the second layer is the reference's entry at its place. -/
theorem key_second7 (t : Fin cfg0.N) (h : ¬ t.val < 8) (y : S1x256x1408.Idx) (i : S2x2048x1408.Idx)
    (h0 : (i 0).val = t.val / 8) (h1 : (i 1).val = t.val % 8 * 256 + (y 1).val) (h2 : (i 2).val = (y 2).val) :
    k0_pay5 (k0_pay13 (iblk m c 4 t) (iblk m c 1 t)) y = val_main_v4 (F := Ideal) (m ((c : Thread nD τ).loc main_arg1)) (m ((c : Thread nD τ).loc main_arg2)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block1 m c t _ i h0 h1 h2]

/-- An entry of the block written for the second layer is the reference's entry at its place. -/
theorem key_second8 (t : Fin cfg0.N) (h : ¬ t.val < 8) (y : S1x256x1408.Idx) (i : S2x2048x1408.Idx)
    (h0 : (i 0).val = t.val / 8) (h1 : (i 1).val = t.val % 8 * 256 + (y 1).val) (h2 : (i 2).val = (y 2).val) :
    k0_pay6 (k0_pay14 (iblk m c 4 t) (iblk m c 2 t)) y = val_main_v10 (F := Ideal) (m ((c : Thread nD τ).loc main_arg1)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block2 m c t _ i h0 h1 h2]

/-- The array the call leaves is the reference's. -/
theorem final5 : (dats m 0 c).arrAt 5 cfg0.N
    = m ((c : Thread nD τ).loc main_arg1) := by
  refine (dats m 0 c).arrAt_eq_of_covers 5 _ (by decide +kernel) fun t _ y => ?_
  have ht : t.val < 16 := t.isLt
  rw [after0_5]
  by_cases h : t.val < 8
  · rw [Gen.outsAt0_A m c t h (by omega)]
    frame_out
    refine key_first5 m c t h _ _ ?_ ?_ ?_
    all_goals blk_simp [places t]
  · rw [Gen.outsAt0_B m c t h (by omega)]
    frame_out
    refine key_second5 m c t h _ _ ?_ ?_ ?_
    all_goals blk_simp [places t]

/-- The array the call leaves is the reference's. -/
theorem final6 : (dats m 0 c).arrAt 6 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 16 := t.isLt
  rw [after0_6]
  by_cases h : t.val < 8
  · rw [Gen.outsAt0_A m c t h (by omega)]
    frame_out
    refine key_first6 m c t h _ _ ?_ ?_ ?_
    all_goals blk_simp [places t]
  · rw [Gen.outsAt0_B m c t h (by omega)]
    frame_out
    refine key_second6 m c t h _ _ ?_ ?_ ?_
    all_goals blk_simp [places t]

/-- The array the call leaves is the reference's. -/
theorem final7 : (dats m 0 c).arrAt 7 cfg0.N
    = val_main_v4 (F := Ideal) (m ((c : Thread nD τ).loc main_arg1)) (m ((c : Thread nD τ).loc main_arg2)) := by
  refine (dats m 0 c).arrAt_eq_of_covers 7 _ (by decide +kernel) fun t _ y => ?_
  have ht : t.val < 16 := t.isLt
  rw [after0_7]
  by_cases h : t.val < 8
  · rw [Gen.outsAt0_A m c t h (by omega)]
    frame_out
    refine key_first7 m c t h _ _ ?_ ?_ ?_
    all_goals blk_simp [places t]
  · rw [Gen.outsAt0_B m c t h (by omega)]
    frame_out
    refine key_second7 m c t h _ _ ?_ ?_ ?_
    all_goals blk_simp [places t]

/-- The array the call leaves is the reference's. -/
theorem final8 : (dats m 0 c).arrAt 8 cfg0.N
    = val_main_v10 (F := Ideal) (m ((c : Thread nD τ).loc main_arg1)) (m ((c : Thread nD τ).loc main_arg3)) := by
  refine (dats m 0 c).arrAt_eq_of_covers 8 _ (by decide +kernel) fun t _ y => ?_
  have ht : t.val < 16 := t.isLt
  rw [after0_8]
  by_cases h : t.val < 8
  · rw [Gen.outsAt0_A m c t h (by omega)]
    frame_out
    refine key_first8 m c t h _ _ ?_ ?_ ?_
    all_goals blk_simp [places t]
  · rw [Gen.outsAt0_B m c t h (by omega)]
    frame_out
    refine key_second8 m c t h _ _ ?_ ?_ ?_
    all_goals blk_simp [places t]

end Cert.Kernel16Ideal.Claims

namespace Cert.Kernel19Ideal.Claims

open Cert.Kernel19Ideal Cert.Kernel19Ideal.Gen Cert.Kernel19Ideal.Value Idealize.ShloMosaic Idealize.ShloMosaic.TcCoe Cert.Reference19Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (i) : S2x256x512.Idx → EReal) := by
  entry_read
  funext i
  pointwise

/-- Operand 1 as the call finds it, read from the argument it is made of. -/
theorem entry1 : V m c (Pipeline.arrRef spec0 1)
    = (fun i => m ((c : Thread nD τ).loc main_arg2) (i) : S2x256x512.Idx → EReal) := by
  entry_read
  funext i
  pointwise

/-- Operand 2 as the call finds it, read from the argument it is made of. -/
theorem entry2 : V m c (Pipeline.arrRef spec0 2)
    = (fun i => m ((c : Thread nD τ).loc main_arg3) (i) : S2x256x512.Idx → EReal) := by
  entry_read
  funext i
  pointwise

/-- Operand 3 as the call finds it, read from the argument it is made of. -/
theorem entry3 : V m c (Pipeline.arrRef spec0 3)
    = (fun i => m ((c : Thread nD τ).loc main_arg1) (ix3 (0 : Fin 2) (⟨(i 0).val * 128 + (i 1).val, by have : (i 0).val < 2 := (i 0).isLt; have : (i 1).val < 128 := (i 1).isLt; omega⟩ : Fin 256) (i 2)) : S2x128x512.Idx → EReal) := by
  entry_read
  funext i
  pointwise

/-- Operand 4 as the call finds it, read from the argument it is made of. -/
theorem entry4 : V m c (Pipeline.arrRef spec0 4)
    = (fun i => m ((c : Thread nD τ).loc main_arg1) (ix3 (1 : Fin 2) (⟨(i 0).val * 128 + (i 1).val, by have : (i 0).val < 2 := (i 0).isLt; have : (i 1).val < 128 := (i 1).isLt; omega⟩ : Fin 256) (i 2)) : S2x128x512.Idx → EReal) := by
  entry_read
  funext i
  pointwise

/-- Where the blocks of the parameter, of its moments and of the results lie at each point of the grid. -/
theorem places : ∀ t : Fin cfg0.N, win0_0.index t = ![t.val / 2, t.val % 2, 0] ∧ win0_1.index t = ![t.val / 2, t.val % 2, 0] ∧ win0_2.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, win0_0.index t = ![t.val / 2, t.val % 2, 0] ∧ win0_1.index t = ![t.val / 2, t.val % 2, 0] ∧ win0_2.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0])

/-- Where the first layer's gradient is read, while it is. -/
theorem places_first : ∀ t : Fin cfg0.N, t.val < 2 → win0_3.index t = ![t.val % 2 / 1, t.val % 1, 0] :=
  (by decide +kernel : ∀ t : Fin grid0.N, t.val < 2 → win0_3.index t = ![t.val % 2 / 1, t.val % 1, 0])

/-- Where the second layer's gradient is read, while it is. -/
theorem places_second : ∀ t : Fin cfg0.N, ¬ t.val < 2 → win0_4.index t = ![t.val % 2 / 1, t.val % 1, 0] :=
  (by decide +kernel : ∀ t : Fin grid0.N, ¬ t.val < 2 → win0_4.index t = ![t.val % 2 / 1, t.val % 1, 0])

/-- A block of operand 0, read from the argument it is cut from. -/
theorem block0 (t : Fin cfg0.N) (y : S1x128x512.Idx) (i : S2x256x512.Idx)
    (h0 : (i 0).val = t.val / 2) (h1 : (i 1).val = t.val % 2 * 128 + (y 1).val) (h2 : (i 2).val = (y 2).val) : iblk m c 0 t y = m ((c : Thread nD τ).loc main_arg0) i := by
  show V m c (Pipeline.arrRef spec0 0) ((win0_0.blk t).view.emb y) = _
  rw [entry0]
  have hy : (y 0).val < 1 := (y 0).isLt
  refine congrArg (m ((c : Thread nD τ).loc main_arg0)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 1, read from the argument it is cut from. -/
theorem block1 (t : Fin cfg0.N) (y : S1x128x512.Idx) (i : S2x256x512.Idx)
    (h0 : (i 0).val = t.val / 2) (h1 : (i 1).val = t.val % 2 * 128 + (y 1).val) (h2 : (i 2).val = (y 2).val) : iblk m c 1 t y = m ((c : Thread nD τ).loc main_arg2) i := by
  show V m c (Pipeline.arrRef spec0 1) ((win0_1.blk t).view.emb y) = _
  rw [entry1]
  have hy : (y 0).val < 1 := (y 0).isLt
  refine congrArg (m ((c : Thread nD τ).loc main_arg2)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 2, read from the argument it is cut from. -/
theorem block2 (t : Fin cfg0.N) (y : S1x128x512.Idx) (i : S2x256x512.Idx)
    (h0 : (i 0).val = t.val / 2) (h1 : (i 1).val = t.val % 2 * 128 + (y 1).val) (h2 : (i 2).val = (y 2).val) : iblk m c 2 t y = m ((c : Thread nD τ).loc main_arg3) i := by
  show V m c (Pipeline.arrRef spec0 2) ((win0_2.blk t).view.emb y) = _
  rw [entry2]
  have hy : (y 0).val < 1 := (y 0).isLt
  refine congrArg (m ((c : Thread nD τ).loc main_arg3)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of the gradient of the first layer, read from the gradient given. -/
theorem grad_first (t : Fin cfg0.N) (h : t.val < 2) (y : S1x128x512.Idx) (i : S2x256x512.Idx)
    (h0 : (i 0).val = t.val / 2) (h1 : (i 1).val = t.val % 2 * 128 + (y 1).val) (h2 : (i 2).val = (y 2).val) : iblk m c 3 t y = m ((c : Thread nD τ).loc main_arg1) i := by
  show V m c (Pipeline.arrRef spec0 3) ((win0_3.blk t).view.emb y) = _
  rw [entry3]
  have hy : (y 0).val < 1 := (y 0).isLt
  have ht : t.val < 4 := t.isLt
  refine congrArg (m ((c : Thread nD τ).loc main_arg1)) (funext fun a => Fin.ext ?_)
  match a with
  | ⟨0, _⟩ => refine Eq.trans ?_ h0.symm; show 0 = t.val / 2; omega
  | ⟨1, _⟩ => refine Eq.trans ?_ h1.symm; blk_simp [places_first t h]; show t.val % 2 / 1 * 128 + (t.val % 1 * 128 + (y 1).val) = _; omega
  | ⟨2, _⟩ => refine Eq.trans ?_ h2.symm; blk_simp [places_first t h]; try rfl

/-- A block of the gradient of the second layer, read from the gradient given. -/
theorem grad_second (t : Fin cfg0.N) (h : ¬ t.val < 2) (y : S1x128x512.Idx) (i : S2x256x512.Idx)
    (h0 : (i 0).val = t.val / 2) (h1 : (i 1).val = t.val % 2 * 128 + (y 1).val) (h2 : (i 2).val = (y 2).val) : iblk m c 4 t y = m ((c : Thread nD τ).loc main_arg1) i := by
  show V m c (Pipeline.arrRef spec0 4) ((win0_4.blk t).view.emb y) = _
  rw [entry4]
  have hy : (y 0).val < 1 := (y 0).isLt
  have ht : t.val < 4 := t.isLt
  refine congrArg (m ((c : Thread nD τ).loc main_arg1)) (funext fun a => Fin.ext ?_)
  match a with
  | ⟨0, _⟩ => refine Eq.trans ?_ h0.symm; show 1 = t.val / 2; omega
  | ⟨1, _⟩ => refine Eq.trans ?_ h1.symm; blk_simp [places_second t h]; show t.val % 2 / 1 * 128 + (t.val % 1 * 128 + (y 1).val) = _; omega
  | ⟨2, _⟩ => refine Eq.trans ?_ h2.symm; blk_simp [places_second t h]; try rfl

/-- An entry of the block written for the first layer is the reference's entry at its place. -/
theorem key_first5 (t : Fin cfg0.N) (h : t.val < 2) (y : S1x128x512.Idx) (i : S2x256x512.Idx)
    (h0 : (i 0).val = t.val / 2) (h1 : (i 1).val = t.val % 2 * 128 + (y 1).val) (h2 : (i 2).val = (y 2).val) :
    k0_pay11 (iblk m c 3 t) y = m ((c : Thread nD τ).loc main_arg1) i := by
  pointwise [k0_pay1, k0_pay2, k0_pay3, k0_pay7, k0_pay8, k0_pay9, k0_pay10, k0_pay11]
  rw [grad_first m c t h _ i h0 h1 h2]

/-- An entry of the block written for the first layer is the reference's entry at its place. -/
theorem key_first6 (t : Fin cfg0.N) (h : t.val < 2) (y : S1x128x512.Idx) (i : S2x256x512.Idx)
    (h0 : (i 0).val = t.val / 2) (h1 : (i 1).val = t.val % 2 * 128 + (y 1).val) (h2 : (i 2).val = (y 2).val) :
    k0_pay1 (k0_pay10 (iblk m c 3 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block0 m c t _ i h0 h1 h2, block1 m c t _ i h0 h1 h2, block2 m c t _ i h0 h1 h2]

/-- An entry of the block written for the first layer is the reference's entry at its place. -/
theorem key_first7 (t : Fin cfg0.N) (h : t.val < 2) (y : S1x128x512.Idx) (i : S2x256x512.Idx)
    (h0 : (i 0).val = t.val / 2) (h1 : (i 1).val = t.val % 2 * 128 + (y 1).val) (h2 : (i 2).val = (y 2).val) :
    k0_pay2 (k0_pay8 (iblk m c 3 t) (iblk m c 1 t)) y = val_main_v4 (F := Ideal) (m ((c : Thread nD τ).loc main_arg1)) (m ((c : Thread nD τ).loc main_arg2)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block1 m c t _ i h0 h1 h2]

/-- An entry of the block written for the first layer is the reference's entry at its place. -/
theorem key_first8 (t : Fin cfg0.N) (h : t.val < 2) (y : S1x128x512.Idx) (i : S2x256x512.Idx)
    (h0 : (i 0).val = t.val / 2) (h1 : (i 1).val = t.val % 2 * 128 + (y 1).val) (h2 : (i 2).val = (y 2).val) :
    k0_pay3 (k0_pay9 (iblk m c 3 t) (iblk m c 2 t)) y = val_main_v10 (F := Ideal) (m ((c : Thread nD τ).loc main_arg1)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block2 m c t _ i h0 h1 h2]

/-- An entry of the block written for the second layer is the reference's entry at its place. -/
theorem key_second5 (t : Fin cfg0.N) (h : ¬ t.val < 2) (y : S1x128x512.Idx) (i : S2x256x512.Idx)
    (h0 : (i 0).val = t.val / 2) (h1 : (i 1).val = t.val % 2 * 128 + (y 1).val) (h2 : (i 2).val = (y 2).val) :
    k0_pay16 (iblk m c 4 t) y = m ((c : Thread nD τ).loc main_arg1) i := by
  pointwise [k0_pay4, k0_pay5, k0_pay6, k0_pay12, k0_pay13, k0_pay14, k0_pay15, k0_pay16]
  rw [grad_second m c t h _ i h0 h1 h2]

/-- An entry of the block written for the second layer is the reference's entry at its place. -/
theorem key_second6 (t : Fin cfg0.N) (h : ¬ t.val < 2) (y : S1x128x512.Idx) (i : S2x256x512.Idx)
    (h0 : (i 0).val = t.val / 2) (h1 : (i 1).val = t.val % 2 * 128 + (y 1).val) (h2 : (i 2).val = (y 2).val) :
    k0_pay4 (k0_pay15 (iblk m c 4 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block0 m c t _ i h0 h1 h2, block1 m c t _ i h0 h1 h2, block2 m c t _ i h0 h1 h2]

/-- An entry of the block written for the second layer is the reference's entry at its place. -/
theorem key_second7 (t : Fin cfg0.N) (h : ¬ t.val < 2) (y : S1x128x512.Idx) (i : S2x256x512.Idx)
    (h0 : (i 0).val = t.val / 2) (h1 : (i 1).val = t.val % 2 * 128 + (y 1).val) (h2 : (i 2).val = (y 2).val) :
    k0_pay5 (k0_pay13 (iblk m c 4 t) (iblk m c 1 t)) y = val_main_v4 (F := Ideal) (m ((c : Thread nD τ).loc main_arg1)) (m ((c : Thread nD τ).loc main_arg2)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block1 m c t _ i h0 h1 h2]

/-- An entry of the block written for the second layer is the reference's entry at its place. -/
theorem key_second8 (t : Fin cfg0.N) (h : ¬ t.val < 2) (y : S1x128x512.Idx) (i : S2x256x512.Idx)
    (h0 : (i 0).val = t.val / 2) (h1 : (i 1).val = t.val % 2 * 128 + (y 1).val) (h2 : (i 2).val = (y 2).val) :
    k0_pay6 (k0_pay14 (iblk m c 4 t) (iblk m c 2 t)) y = val_main_v10 (F := Ideal) (m ((c : Thread nD τ).loc main_arg1)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block2 m c t _ i h0 h1 h2]

/-- The array the call leaves is the reference's. -/
theorem final5 : (dats m 0 c).arrAt 5 cfg0.N
    = m ((c : Thread nD τ).loc main_arg1) := by
  refine (dats m 0 c).arrAt_eq_of_covers 5 _ (by decide +kernel) fun t _ y => ?_
  have ht : t.val < 4 := t.isLt
  rw [after0_5]
  by_cases h : t.val < 2
  · rw [Gen.outsAt0_A m c t h (by omega)]
    frame_out
    refine key_first5 m c t h _ _ ?_ ?_ ?_
    all_goals blk_simp [places t]
  · rw [Gen.outsAt0_B m c t h (by omega)]
    frame_out
    refine key_second5 m c t h _ _ ?_ ?_ ?_
    all_goals blk_simp [places t]

/-- The array the call leaves is the reference's. -/
theorem final6 : (dats m 0 c).arrAt 6 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 4 := t.isLt
  rw [after0_6]
  by_cases h : t.val < 2
  · rw [Gen.outsAt0_A m c t h (by omega)]
    frame_out
    refine key_first6 m c t h _ _ ?_ ?_ ?_
    all_goals blk_simp [places t]
  · rw [Gen.outsAt0_B m c t h (by omega)]
    frame_out
    refine key_second6 m c t h _ _ ?_ ?_ ?_
    all_goals blk_simp [places t]

/-- The array the call leaves is the reference's. -/
theorem final7 : (dats m 0 c).arrAt 7 cfg0.N
    = val_main_v4 (F := Ideal) (m ((c : Thread nD τ).loc main_arg1)) (m ((c : Thread nD τ).loc main_arg2)) := by
  refine (dats m 0 c).arrAt_eq_of_covers 7 _ (by decide +kernel) fun t _ y => ?_
  have ht : t.val < 4 := t.isLt
  rw [after0_7]
  by_cases h : t.val < 2
  · rw [Gen.outsAt0_A m c t h (by omega)]
    frame_out
    refine key_first7 m c t h _ _ ?_ ?_ ?_
    all_goals blk_simp [places t]
  · rw [Gen.outsAt0_B m c t h (by omega)]
    frame_out
    refine key_second7 m c t h _ _ ?_ ?_ ?_
    all_goals blk_simp [places t]

/-- The array the call leaves is the reference's. -/
theorem final8 : (dats m 0 c).arrAt 8 cfg0.N
    = val_main_v10 (F := Ideal) (m ((c : Thread nD τ).loc main_arg1)) (m ((c : Thread nD τ).loc main_arg3)) := by
  refine (dats m 0 c).arrAt_eq_of_covers 8 _ (by decide +kernel) fun t _ y => ?_
  have ht : t.val < 4 := t.isLt
  rw [after0_8]
  by_cases h : t.val < 2
  · rw [Gen.outsAt0_A m c t h (by omega)]
    frame_out
    refine key_first8 m c t h _ _ ?_ ?_ ?_
    all_goals blk_simp [places t]
  · rw [Gen.outsAt0_B m c t h (by omega)]
    frame_out
    refine key_second8 m c t h _ _ ?_ ?_ ?_
    all_goals blk_simp [places t]

end Cert.Kernel19Ideal.Claims
-- ==== Proof.OptimiserCols.lean ====
/- One step of the optimiser for the weights whose gradients come in two halves of their columns: the first half of the points of the grid reads the first layer's
  gradient, the second half the second's. -/
module

public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import Idealize.ShloMosaic.Lib.Pipeline.ValueKit
public import Idealize.ShloMosaic.Lib.Pointwise

@[expose] public section

set_option maxRecDepth 16384

noncomputable section

namespace Cert.Kernel17Ideal.Claims

open Cert.Kernel17Ideal Cert.Kernel17Ideal.Gen Cert.Kernel17Ideal.Value Idealize.ShloMosaic Idealize.ShloMosaic.TcCoe Cert.Reference17Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (i) : S2x512x2048.Idx → EReal) := by
  entry_read
  funext i
  pointwise

/-- Operand 1 as the call finds it, read from the argument it is made of. -/
theorem entry1 : V m c (Pipeline.arrRef spec0 1)
    = (fun i => m ((c : Thread nD τ).loc main_arg2) (i) : S2x512x2048.Idx → EReal) := by
  entry_read
  funext i
  pointwise

/-- Operand 2 as the call finds it, read from the argument it is made of. -/
theorem entry2 : V m c (Pipeline.arrRef spec0 2)
    = (fun i => m ((c : Thread nD τ).loc main_arg3) (i) : S2x512x2048.Idx → EReal) := by
  entry_read
  funext i
  pointwise

/-- Operand 3 as the call finds it, read from the argument it is made of. -/
theorem entry3 : V m c (Pipeline.arrRef spec0 3)
    = (fun i => m ((c : Thread nD τ).loc main_arg1) (ix3 (0 : Fin 2) (i 1) (⟨(i 0).val * 1024 + (i 2).val, by have : (i 0).val < 2 := (i 0).isLt; have : (i 2).val < 1024 := (i 2).isLt; omega⟩ : Fin 2048)) : S2x512x1024.Idx → EReal) := by
  entry_read
  funext i
  pointwise

/-- Operand 4 as the call finds it, read from the argument it is made of. -/
theorem entry4 : V m c (Pipeline.arrRef spec0 4)
    = (fun i => m ((c : Thread nD τ).loc main_arg1) (ix3 (1 : Fin 2) (i 1) (⟨(i 0).val * 1024 + (i 2).val, by have : (i 0).val < 2 := (i 0).isLt; have : (i 2).val < 1024 := (i 2).isLt; omega⟩ : Fin 2048)) : S2x512x1024.Idx → EReal) := by
  entry_read
  funext i
  pointwise

/-- Where the blocks of the parameter, of its moments and of the results lie at each point of the grid. -/
theorem places : ∀ t : Fin cfg0.N, win0_0.index t = ![t.val / 4, t.val % 2, t.val % 4 / 2] ∧ win0_1.index t = ![t.val / 4, t.val % 2, t.val % 4 / 2] ∧ win0_2.index t = ![t.val / 4, t.val % 2, t.val % 4 / 2] ∧ win0_5.index t = ![t.val / 4, t.val % 2, t.val % 4 / 2] ∧ win0_6.index t = ![t.val / 4, t.val % 2, t.val % 4 / 2] ∧ win0_7.index t = ![t.val / 4, t.val % 2, t.val % 4 / 2] ∧ win0_8.index t = ![t.val / 4, t.val % 2, t.val % 4 / 2] :=
  (by decide +kernel : ∀ t : Fin grid0.N, win0_0.index t = ![t.val / 4, t.val % 2, t.val % 4 / 2] ∧ win0_1.index t = ![t.val / 4, t.val % 2, t.val % 4 / 2] ∧ win0_2.index t = ![t.val / 4, t.val % 2, t.val % 4 / 2] ∧ win0_5.index t = ![t.val / 4, t.val % 2, t.val % 4 / 2] ∧ win0_6.index t = ![t.val / 4, t.val % 2, t.val % 4 / 2] ∧ win0_7.index t = ![t.val / 4, t.val % 2, t.val % 4 / 2] ∧ win0_8.index t = ![t.val / 4, t.val % 2, t.val % 4 / 2])

/-- Where the first layer's gradient is read, while it is. -/
theorem places_first : ∀ t : Fin cfg0.N, t.val < 4 → win0_3.index t = ![t.val % 4 / 2, t.val % 2, 0] :=
  (by decide +kernel : ∀ t : Fin grid0.N, t.val < 4 → win0_3.index t = ![t.val % 4 / 2, t.val % 2, 0])

/-- Where the second layer's gradient is read, while it is. -/
theorem places_second : ∀ t : Fin cfg0.N, ¬ t.val < 4 → win0_4.index t = ![t.val % 4 / 2, t.val % 2, 0] :=
  (by decide +kernel : ∀ t : Fin grid0.N, ¬ t.val < 4 → win0_4.index t = ![t.val % 4 / 2, t.val % 2, 0])

/-- A block of operand 0, read from the argument it is cut from. -/
theorem block0 (t : Fin cfg0.N) (y : S1x256x1024.Idx) (i : S2x512x2048.Idx)
    (h0 : (i 0).val = t.val / 4) (h1 : (i 1).val = t.val % 2 * 256 + (y 1).val) (h2 : (i 2).val = t.val % 4 / 2 * 1024 + (y 2).val) : iblk m c 0 t y = m ((c : Thread nD τ).loc main_arg0) i := by
  show V m c (Pipeline.arrRef spec0 0) ((win0_0.blk t).view.emb y) = _
  rw [entry0]
  have hy : (y 0).val < 1 := (y 0).isLt
  refine congrArg (m ((c : Thread nD τ).loc main_arg0)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 1, read from the argument it is cut from. -/
theorem block1 (t : Fin cfg0.N) (y : S1x256x1024.Idx) (i : S2x512x2048.Idx)
    (h0 : (i 0).val = t.val / 4) (h1 : (i 1).val = t.val % 2 * 256 + (y 1).val) (h2 : (i 2).val = t.val % 4 / 2 * 1024 + (y 2).val) : iblk m c 1 t y = m ((c : Thread nD τ).loc main_arg2) i := by
  show V m c (Pipeline.arrRef spec0 1) ((win0_1.blk t).view.emb y) = _
  rw [entry1]
  have hy : (y 0).val < 1 := (y 0).isLt
  refine congrArg (m ((c : Thread nD τ).loc main_arg2)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 2, read from the argument it is cut from. -/
theorem block2 (t : Fin cfg0.N) (y : S1x256x1024.Idx) (i : S2x512x2048.Idx)
    (h0 : (i 0).val = t.val / 4) (h1 : (i 1).val = t.val % 2 * 256 + (y 1).val) (h2 : (i 2).val = t.val % 4 / 2 * 1024 + (y 2).val) : iblk m c 2 t y = m ((c : Thread nD τ).loc main_arg3) i := by
  show V m c (Pipeline.arrRef spec0 2) ((win0_2.blk t).view.emb y) = _
  rw [entry2]
  have hy : (y 0).val < 1 := (y 0).isLt
  refine congrArg (m ((c : Thread nD τ).loc main_arg3)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of the gradient of the first layer, read from the gradient given. -/
theorem grad_first (t : Fin cfg0.N) (h : t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) : iblk m c 3 t y = m ((c : Thread nD τ).loc main_arg1) i := by
  show V m c (Pipeline.arrRef spec0 3) ((win0_3.blk t).view.emb y) = _
  rw [entry3]
  have hy : (y 0).val < 1 := (y 0).isLt
  have ht : t.val < 8 := t.isLt
  refine congrArg (m ((c : Thread nD τ).loc main_arg1)) (funext fun a => Fin.ext ?_)
  match a with
  | ⟨0, _⟩ => refine Eq.trans ?_ h0.symm; show 0 = t.val / 4; omega
  | ⟨1, _⟩ => refine Eq.trans ?_ h1.symm; blk_simp [places_first t h]; try rfl
  | ⟨2, _⟩ => refine Eq.trans ?_ h2.symm; blk_simp [places_first t h]; try rfl

/-- A block of the gradient of the second layer, read from the gradient given. -/
theorem grad_second (t : Fin cfg0.N) (h : ¬ t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) : iblk m c 4 t y = m ((c : Thread nD τ).loc main_arg1) i := by
  show V m c (Pipeline.arrRef spec0 4) ((win0_4.blk t).view.emb y) = _
  rw [entry4]
  have hy : (y 0).val < 1 := (y 0).isLt
  have ht : t.val < 8 := t.isLt
  refine congrArg (m ((c : Thread nD τ).loc main_arg1)) (funext fun a => Fin.ext ?_)
  match a with
  | ⟨0, _⟩ => refine Eq.trans ?_ h0.symm; show 1 = t.val / 4; omega
  | ⟨1, _⟩ => refine Eq.trans ?_ h1.symm; blk_simp [places_second t h]; try rfl
  | ⟨2, _⟩ => refine Eq.trans ?_ h2.symm; blk_simp [places_second t h]; try rfl

/-- An entry of the block written for the first layer is the reference's entry at its place. -/
theorem key_first5 (t : Fin cfg0.N) (h : t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay11 (iblk m c 3 t) y = m ((c : Thread nD τ).loc main_arg1) i := by
  pointwise [k0_pay1, k0_pay2, k0_pay3, k0_pay7, k0_pay8, k0_pay9, k0_pay10, k0_pay11]
  rw [grad_first m c t h _ i h0 h1 h2]

/-- An entry of the block written for the first layer is the reference's entry at its place. -/
theorem key_first6 (t : Fin cfg0.N) (h : t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay1 (k0_pay10 (iblk m c 3 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block0 m c t _ i h0 h1 h2, block1 m c t _ i h0 h1 h2, block2 m c t _ i h0 h1 h2]

/-- An entry of the block written for the first layer is the reference's entry at its place. -/
theorem key_first7 (t : Fin cfg0.N) (h : t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay2 (k0_pay8 (iblk m c 3 t) (iblk m c 1 t)) y = val_main_v4 (F := Ideal) (m ((c : Thread nD τ).loc main_arg1)) (m ((c : Thread nD τ).loc main_arg2)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block1 m c t _ i h0 h1 h2]

/-- An entry of the block written for the first layer is the reference's entry at its place. -/
theorem key_first8 (t : Fin cfg0.N) (h : t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay3 (k0_pay9 (iblk m c 3 t) (iblk m c 2 t)) y = val_main_v10 (F := Ideal) (m ((c : Thread nD τ).loc main_arg1)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block2 m c t _ i h0 h1 h2]

/-- An entry of the block written for the second layer is the reference's entry at its place. -/
theorem key_second5 (t : Fin cfg0.N) (h : ¬ t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay16 (iblk m c 4 t) y = m ((c : Thread nD τ).loc main_arg1) i := by
  pointwise [k0_pay4, k0_pay5, k0_pay6, k0_pay12, k0_pay13, k0_pay14, k0_pay15, k0_pay16]
  rw [grad_second m c t h _ i h0 h1 h2]

/-- An entry of the block written for the second layer is the reference's entry at its place. -/
theorem key_second6 (t : Fin cfg0.N) (h : ¬ t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay4 (k0_pay15 (iblk m c 4 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block0 m c t _ i h0 h1 h2, block1 m c t _ i h0 h1 h2, block2 m c t _ i h0 h1 h2]

/-- An entry of the block written for the second layer is the reference's entry at its place. -/
theorem key_second7 (t : Fin cfg0.N) (h : ¬ t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay5 (k0_pay13 (iblk m c 4 t) (iblk m c 1 t)) y = val_main_v4 (F := Ideal) (m ((c : Thread nD τ).loc main_arg1)) (m ((c : Thread nD τ).loc main_arg2)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block1 m c t _ i h0 h1 h2]

/-- An entry of the block written for the second layer is the reference's entry at its place. -/
theorem key_second8 (t : Fin cfg0.N) (h : ¬ t.val < 4) (y : S1x256x1024.Idx) (i : S2x512x2048.Idx)
    (h0 : (i 0).val = t.val / 4) (h1 : (i 1).val = t.val % 2 * 256 + (y 1).val) (h2 : (i 2).val = t.val % 4 / 2 * 1024 + (y 2).val) :
    k0_pay6 (k0_pay14 (iblk m c 4 t) (iblk m c 2 t)) y = val_main_v10 (F := Ideal) (m ((c : Thread nD τ).loc main_arg1)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block2 m c t _ i h0 h1 h2]

/-- The array the call leaves is the reference's. -/
theorem final5 : (dats m 0 c).arrAt 5 cfg0.N
    = m ((c : Thread nD τ).loc main_arg1) := by
  refine (dats m 0 c).arrAt_eq_of_covers 5 _ (by decide +kernel) fun t _ y => ?_
  have ht : t.val < 8 := t.isLt
  rw [after0_5]
  by_cases h : t.val < 4
  · rw [Gen.outsAt0_A m c t h (by omega)]
    frame_out
    refine key_first5 m c t h _ _ ?_ ?_ ?_
    all_goals blk_simp [places t]
  · rw [Gen.outsAt0_B m c t h (by omega)]
    frame_out
    refine key_second5 m c t h _ _ ?_ ?_ ?_
    all_goals blk_simp [places t]

/-- The array the call leaves is the reference's. -/
theorem final6 : (dats m 0 c).arrAt 6 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 8 := t.isLt
  rw [after0_6]
  by_cases h : t.val < 4
  · rw [Gen.outsAt0_A m c t h (by omega)]
    frame_out
    refine key_first6 m c t h _ _ ?_ ?_ ?_
    all_goals blk_simp [places t]
  · rw [Gen.outsAt0_B m c t h (by omega)]
    frame_out
    refine key_second6 m c t h _ _ ?_ ?_ ?_
    all_goals blk_simp [places t]

/-- The array the call leaves is the reference's. -/
theorem final7 : (dats m 0 c).arrAt 7 cfg0.N
    = val_main_v4 (F := Ideal) (m ((c : Thread nD τ).loc main_arg1)) (m ((c : Thread nD τ).loc main_arg2)) := by
  refine (dats m 0 c).arrAt_eq_of_covers 7 _ (by decide +kernel) fun t _ y => ?_
  have ht : t.val < 8 := t.isLt
  rw [after0_7]
  by_cases h : t.val < 4
  · rw [Gen.outsAt0_A m c t h (by omega)]
    frame_out
    refine key_first7 m c t h _ _ ?_ ?_ ?_
    all_goals blk_simp [places t]
  · rw [Gen.outsAt0_B m c t h (by omega)]
    frame_out
    refine key_second7 m c t h _ _ ?_ ?_ ?_
    all_goals blk_simp [places t]

/-- The array the call leaves is the reference's. -/
theorem final8 : (dats m 0 c).arrAt 8 cfg0.N
    = val_main_v10 (F := Ideal) (m ((c : Thread nD τ).loc main_arg1)) (m ((c : Thread nD τ).loc main_arg3)) := by
  refine (dats m 0 c).arrAt_eq_of_covers 8 _ (by decide +kernel) fun t _ y => ?_
  have ht : t.val < 8 := t.isLt
  rw [after0_8]
  by_cases h : t.val < 4
  · rw [Gen.outsAt0_A m c t h (by omega)]
    frame_out
    refine key_first8 m c t h _ _ ?_ ?_ ?_
    all_goals blk_simp [places t]
  · rw [Gen.outsAt0_B m c t h (by omega)]
    frame_out
    refine key_second8 m c t h _ _ ?_ ?_ ?_
    all_goals blk_simp [places t]

end Cert.Kernel17Ideal.Claims

namespace Cert.Kernel18Ideal.Claims

open Cert.Kernel18Ideal Cert.Kernel18Ideal.Gen Cert.Kernel18Ideal.Value Idealize.ShloMosaic Idealize.ShloMosaic.TcCoe Cert.Reference18Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (i) : S2x1408x2048.Idx → EReal) := by
  entry_read
  funext i
  pointwise

/-- Operand 1 as the call finds it, read from the argument it is made of. -/
theorem entry1 : V m c (Pipeline.arrRef spec0 1)
    = (fun i => m ((c : Thread nD τ).loc main_arg2) (i) : S2x1408x2048.Idx → EReal) := by
  entry_read
  funext i
  pointwise

/-- Operand 2 as the call finds it, read from the argument it is made of. -/
theorem entry2 : V m c (Pipeline.arrRef spec0 2)
    = (fun i => m ((c : Thread nD τ).loc main_arg3) (i) : S2x1408x2048.Idx → EReal) := by
  entry_read
  funext i
  pointwise

/-- Operand 3 as the call finds it, read from the argument it is made of. -/
theorem entry3 : V m c (Pipeline.arrRef spec0 3)
    = (fun i => m ((c : Thread nD τ).loc main_arg1) (ix3 (0 : Fin 2) (i 1) (⟨(i 0).val * 1024 + (i 2).val, by have : (i 0).val < 2 := (i 0).isLt; have : (i 2).val < 1024 := (i 2).isLt; omega⟩ : Fin 2048)) : S2x1408x1024.Idx → EReal) := by
  entry_read
  funext i
  pointwise

/-- Operand 4 as the call finds it, read from the argument it is made of. -/
theorem entry4 : V m c (Pipeline.arrRef spec0 4)
    = (fun i => m ((c : Thread nD τ).loc main_arg1) (ix3 (1 : Fin 2) (i 1) (⟨(i 0).val * 1024 + (i 2).val, by have : (i 0).val < 2 := (i 0).isLt; have : (i 2).val < 1024 := (i 2).isLt; omega⟩ : Fin 2048)) : S2x1408x1024.Idx → EReal) := by
  entry_read
  funext i
  pointwise

/-- Where the blocks of the parameter, of its moments and of the results lie at each point of the grid. -/
theorem places : ∀ t : Fin cfg0.N, win0_0.index t = ![t.val / 22, t.val % 11, t.val % 22 / 11] ∧ win0_1.index t = ![t.val / 22, t.val % 11, t.val % 22 / 11] ∧ win0_2.index t = ![t.val / 22, t.val % 11, t.val % 22 / 11] ∧ win0_5.index t = ![t.val / 22, t.val % 11, t.val % 22 / 11] ∧ win0_6.index t = ![t.val / 22, t.val % 11, t.val % 22 / 11] ∧ win0_7.index t = ![t.val / 22, t.val % 11, t.val % 22 / 11] ∧ win0_8.index t = ![t.val / 22, t.val % 11, t.val % 22 / 11] :=
  (by decide +kernel : ∀ t : Fin grid0.N, win0_0.index t = ![t.val / 22, t.val % 11, t.val % 22 / 11] ∧ win0_1.index t = ![t.val / 22, t.val % 11, t.val % 22 / 11] ∧ win0_2.index t = ![t.val / 22, t.val % 11, t.val % 22 / 11] ∧ win0_5.index t = ![t.val / 22, t.val % 11, t.val % 22 / 11] ∧ win0_6.index t = ![t.val / 22, t.val % 11, t.val % 22 / 11] ∧ win0_7.index t = ![t.val / 22, t.val % 11, t.val % 22 / 11] ∧ win0_8.index t = ![t.val / 22, t.val % 11, t.val % 22 / 11])

/-- Where the first layer's gradient is read, while it is. -/
theorem places_first : ∀ t : Fin cfg0.N, t.val < 22 → win0_3.index t = ![t.val % 22 / 11, t.val % 11, 0] :=
  (by decide +kernel : ∀ t : Fin grid0.N, t.val < 22 → win0_3.index t = ![t.val % 22 / 11, t.val % 11, 0])

/-- Where the second layer's gradient is read, while it is. -/
theorem places_second : ∀ t : Fin cfg0.N, ¬ t.val < 22 → win0_4.index t = ![t.val % 22 / 11, t.val % 11, 0] :=
  (by decide +kernel : ∀ t : Fin grid0.N, ¬ t.val < 22 → win0_4.index t = ![t.val % 22 / 11, t.val % 11, 0])

/-- A block of operand 0, read from the argument it is cut from. -/
theorem block0 (t : Fin cfg0.N) (y : S1x128x1024.Idx) (i : S2x1408x2048.Idx)
    (h0 : (i 0).val = t.val / 22) (h1 : (i 1).val = t.val % 11 * 128 + (y 1).val) (h2 : (i 2).val = t.val % 22 / 11 * 1024 + (y 2).val) : iblk m c 0 t y = m ((c : Thread nD τ).loc main_arg0) i := by
  show V m c (Pipeline.arrRef spec0 0) ((win0_0.blk t).view.emb y) = _
  rw [entry0]
  have hy : (y 0).val < 1 := (y 0).isLt
  refine congrArg (m ((c : Thread nD τ).loc main_arg0)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 1, read from the argument it is cut from. -/
theorem block1 (t : Fin cfg0.N) (y : S1x128x1024.Idx) (i : S2x1408x2048.Idx)
    (h0 : (i 0).val = t.val / 22) (h1 : (i 1).val = t.val % 11 * 128 + (y 1).val) (h2 : (i 2).val = t.val % 22 / 11 * 1024 + (y 2).val) : iblk m c 1 t y = m ((c : Thread nD τ).loc main_arg2) i := by
  show V m c (Pipeline.arrRef spec0 1) ((win0_1.blk t).view.emb y) = _
  rw [entry1]
  have hy : (y 0).val < 1 := (y 0).isLt
  refine congrArg (m ((c : Thread nD τ).loc main_arg2)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of operand 2, read from the argument it is cut from. -/
theorem block2 (t : Fin cfg0.N) (y : S1x128x1024.Idx) (i : S2x1408x2048.Idx)
    (h0 : (i 0).val = t.val / 22) (h1 : (i 1).val = t.val % 11 * 128 + (y 1).val) (h2 : (i 2).val = t.val % 22 / 11 * 1024 + (y 2).val) : iblk m c 2 t y = m ((c : Thread nD τ).loc main_arg3) i := by
  show V m c (Pipeline.arrRef spec0 2) ((win0_2.blk t).view.emb y) = _
  rw [entry2]
  have hy : (y 0).val < 1 := (y 0).isLt
  refine congrArg (m ((c : Thread nD τ).loc main_arg3)) (funext fun a => Fin.ext ?_)
  match a with
  | ⟨0, _⟩ => refine Eq.trans ?_ h0.symm; blk_simp [places t]; try rfl
  | ⟨1, _⟩ => refine Eq.trans ?_ h1.symm; blk_simp [places t]; try rfl
  | ⟨2, _⟩ => refine Eq.trans ?_ h2.symm; blk_simp [places t]; try rfl

/-- A block of the gradient of the first layer, read from the gradient given. -/
theorem grad_first (t : Fin cfg0.N) (h : t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) : iblk m c 3 t y = m ((c : Thread nD τ).loc main_arg1) i := by
  show V m c (Pipeline.arrRef spec0 3) ((win0_3.blk t).view.emb y) = _
  rw [entry3]
  have hy : (y 0).val < 1 := (y 0).isLt
  have ht : t.val < 44 := t.isLt
  refine congrArg (m ((c : Thread nD τ).loc main_arg1)) (funext fun a => Fin.ext ?_)
  match a with
  | ⟨0, _⟩ => refine Eq.trans ?_ h0.symm; show 0 = t.val / 22; omega
  | ⟨1, _⟩ => refine Eq.trans ?_ h1.symm; blk_simp [places_first t h]; try rfl
  | ⟨2, _⟩ => refine Eq.trans ?_ h2.symm; blk_simp [places_first t h]; try rfl

/-- A block of the gradient of the second layer, read from the gradient given. -/
theorem grad_second (t : Fin cfg0.N) (h : ¬ t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) : iblk m c 4 t y = m ((c : Thread nD τ).loc main_arg1) i := by
  show V m c (Pipeline.arrRef spec0 4) ((win0_4.blk t).view.emb y) = _
  rw [entry4]
  have hy : (y 0).val < 1 := (y 0).isLt
  have ht : t.val < 44 := t.isLt
  refine congrArg (m ((c : Thread nD τ).loc main_arg1)) (funext fun a => Fin.ext ?_)
  match a with
  | ⟨0, _⟩ => refine Eq.trans ?_ h0.symm; show 1 = t.val / 22; omega
  | ⟨1, _⟩ => refine Eq.trans ?_ h1.symm; blk_simp [places_second t h]; try rfl
  | ⟨2, _⟩ => refine Eq.trans ?_ h2.symm; blk_simp [places_second t h]; try rfl

/-- An entry of the block written for the first layer is the reference's entry at its place. -/
theorem key_first5 (t : Fin cfg0.N) (h : t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay11 (iblk m c 3 t) y = m ((c : Thread nD τ).loc main_arg1) i := by
  pointwise [k0_pay1, k0_pay2, k0_pay3, k0_pay7, k0_pay8, k0_pay9, k0_pay10, k0_pay11]
  rw [grad_first m c t h _ i h0 h1 h2]

/-- An entry of the block written for the first layer is the reference's entry at its place. -/
theorem key_first6 (t : Fin cfg0.N) (h : t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay1 (k0_pay10 (iblk m c 3 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block0 m c t _ i h0 h1 h2, block1 m c t _ i h0 h1 h2, block2 m c t _ i h0 h1 h2]

/-- An entry of the block written for the first layer is the reference's entry at its place. -/
theorem key_first7 (t : Fin cfg0.N) (h : t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay2 (k0_pay8 (iblk m c 3 t) (iblk m c 1 t)) y = val_main_v4 (F := Ideal) (m ((c : Thread nD τ).loc main_arg1)) (m ((c : Thread nD τ).loc main_arg2)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block1 m c t _ i h0 h1 h2]

/-- An entry of the block written for the first layer is the reference's entry at its place. -/
theorem key_first8 (t : Fin cfg0.N) (h : t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay3 (k0_pay9 (iblk m c 3 t) (iblk m c 2 t)) y = val_main_v10 (F := Ideal) (m ((c : Thread nD τ).loc main_arg1)) (m ((c : Thread nD τ).loc main_arg3)) i := by
  pointwise [k0_pay1, k0_pay2, k0_pay3, k0_pay7, k0_pay8, k0_pay9, k0_pay10, k0_pay11, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_first m c t h _ i h0 h1 h2, block2 m c t _ i h0 h1 h2]

/-- An entry of the block written for the second layer is the reference's entry at its place. -/
theorem key_second5 (t : Fin cfg0.N) (h : ¬ t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay16 (iblk m c 4 t) y = m ((c : Thread nD τ).loc main_arg1) i := by
  pointwise [k0_pay4, k0_pay5, k0_pay6, k0_pay12, k0_pay13, k0_pay14, k0_pay15, k0_pay16]
  rw [grad_second m c t h _ i h0 h1 h2]

/-- An entry of the block written for the second layer is the reference's entry at its place. -/
theorem key_second6 (t : Fin cfg0.N) (h : ¬ t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay4 (k0_pay15 (iblk m c 4 t) (iblk m c 0 t) (iblk m c 1 t) (iblk m c 2 t)) y = val_main_v23 (F := Ideal) (m ((c : Thread nD τ).loc main_arg0)) (m ((c : Thread nD τ).loc main_arg1)) (m ((c : Thread nD τ).loc main_arg2)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block0 m c t _ i h0 h1 h2, block1 m c t _ i h0 h1 h2, block2 m c t _ i h0 h1 h2]

/-- An entry of the block written for the second layer is the reference's entry at its place. -/
theorem key_second7 (t : Fin cfg0.N) (h : ¬ t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay5 (k0_pay13 (iblk m c 4 t) (iblk m c 1 t)) y = val_main_v4 (F := Ideal) (m ((c : Thread nD τ).loc main_arg1)) (m ((c : Thread nD τ).loc main_arg2)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block1 m c t _ i h0 h1 h2]

/-- An entry of the block written for the second layer is the reference's entry at its place. -/
theorem key_second8 (t : Fin cfg0.N) (h : ¬ t.val < 22) (y : S1x128x1024.Idx) (i : S2x1408x2048.Idx)
    (h0 : (i 0).val = t.val / 22) (h1 : (i 1).val = t.val % 11 * 128 + (y 1).val) (h2 : (i 2).val = t.val % 22 / 11 * 1024 + (y 2).val) :
    k0_pay6 (k0_pay14 (iblk m c 4 t) (iblk m c 2 t)) y = val_main_v10 (F := Ideal) (m ((c : Thread nD τ).loc main_arg1)) (m ((c : Thread nD τ).loc main_arg3)) i := by
  pointwise [k0_pay4, k0_pay5, k0_pay6, k0_pay12, k0_pay13, k0_pay14, k0_pay15, k0_pay16, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [grad_second m c t h _ i h0 h1 h2, block2 m c t _ i h0 h1 h2]

/-- The array the call leaves is the reference's. -/
theorem final5 : (dats m 0 c).arrAt 5 cfg0.N
    = m ((c : Thread nD τ).loc main_arg1) := by
  refine (dats m 0 c).arrAt_eq_of_covers 5 _ (by decide +kernel) fun t _ y => ?_
  have ht : t.val < 44 := t.isLt
  rw [after0_5]
  by_cases h : t.val < 22
  · rw [Gen.outsAt0_A m c t h (by omega)]
    frame_out
    refine key_first5 m c t h _ _ ?_ ?_ ?_
    all_goals blk_simp [places t]
  · rw [Gen.outsAt0_B m c t h (by omega)]
    frame_out
    refine key_second5 m c t h _ _ ?_ ?_ ?_
    all_goals blk_simp [places t]

/-- The array the call leaves is the reference's. -/
theorem final6 : (dats m 0 c).arrAt 6 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 44 := t.isLt
  rw [after0_6]
  by_cases h : t.val < 22
  · rw [Gen.outsAt0_A m c t h (by omega)]
    frame_out
    refine key_first6 m c t h _ _ ?_ ?_ ?_
    all_goals blk_simp [places t]
  · rw [Gen.outsAt0_B m c t h (by omega)]
    frame_out
    refine key_second6 m c t h _ _ ?_ ?_ ?_
    all_goals blk_simp [places t]

/-- The array the call leaves is the reference's. -/
theorem final7 : (dats m 0 c).arrAt 7 cfg0.N
    = val_main_v4 (F := Ideal) (m ((c : Thread nD τ).loc main_arg1)) (m ((c : Thread nD τ).loc main_arg2)) := by
  refine (dats m 0 c).arrAt_eq_of_covers 7 _ (by decide +kernel) fun t _ y => ?_
  have ht : t.val < 44 := t.isLt
  rw [after0_7]
  by_cases h : t.val < 22
  · rw [Gen.outsAt0_A m c t h (by omega)]
    frame_out
    refine key_first7 m c t h _ _ ?_ ?_ ?_
    all_goals blk_simp [places t]
  · rw [Gen.outsAt0_B m c t h (by omega)]
    frame_out
    refine key_second7 m c t h _ _ ?_ ?_ ?_
    all_goals blk_simp [places t]

/-- The array the call leaves is the reference's. -/
theorem final8 : (dats m 0 c).arrAt 8 cfg0.N
    = val_main_v10 (F := Ideal) (m ((c : Thread nD τ).loc main_arg1)) (m ((c : Thread nD τ).loc main_arg3)) := by
  refine (dats m 0 c).arrAt_eq_of_covers 8 _ (by decide +kernel) fun t _ y => ?_
  have ht : t.val < 44 := t.isLt
  rw [after0_8]
  by_cases h : t.val < 22
  · rw [Gen.outsAt0_A m c t h (by omega)]
    frame_out
    refine key_first8 m c t h _ _ ?_ ?_ ?_
    all_goals blk_simp [places t]
  · rw [Gen.outsAt0_B m c t h (by omega)]
    frame_out
    refine key_second8 m c t h _ _ ?_ ?_ ?_
    all_goals blk_simp [places t]

end Cert.Kernel18Ideal.Claims
-- ==== Proof.GatedSum.lean ====
/- The gradient of the gated sum of the per-layer embedding: the kernel's blocks are the reference's. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.Kernel15Ideal.Claims

open Cert.Kernel15Ideal Cert.Kernel15Ideal.Gen Cert.Kernel15Ideal.Value Idealize.ShloMosaic Idealize.ShloMosaic.TcCoe Cert.Reference15Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg3) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix3 (0 : Fin 1) (i 0) (i 1)) : S4096x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x2048.Idx → EReal) := by
  entry_read
  funext i
  pointwise

/-- Where the blocks lie at each point of the grid. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0])

/-- The row of the array that a row of a block is. -/
def row (t : Fin cfg0.N) (p : Fin 512) : Fin 4096 := ⟨t.val * 512 + p.val, by have : t.val < 8 := t.isLt; omega⟩

/-- A block of operand 0, read from the argument it is cut from. -/
theorem block0 (t : Fin cfg0.N) (p : Fin 512) (k : Fin 2048) : iblk m c 0 t (ix2 p k)
    = m ((c : Thread nD τ).loc main_arg3) (ix3 (0 : Fin 1) (row t p) k) := by
  show V m c (Pipeline.arrRef spec0 0) ((win0_0.blk t).view.emb (ix2 p k)) = _
  rw [entry0]
  refine congrArg (m ((c : Thread nD τ).loc main_arg3)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (p : Fin 512) (k : Fin 2048) : iblk m c 1 t (ix2 p k)
    = m ((c : Thread nD τ).loc main_arg1) (ix3 (0 : Fin 1) (row t p) k) := by
  show V m c (Pipeline.arrRef spec0 1) ((win0_1.blk t).view.emb (ix2 p k)) = _
  rw [entry1]
  refine congrArg (m ((c : Thread nD τ).loc main_arg1)) (funext fun a => Fin.ext ?_)
  match a with
  | ⟨0, _⟩ => blk_simp [places t]
  | ⟨1, _⟩ => blk_simp [places t, row]
  | ⟨2, _⟩ => blk_simp [places t]

/-- A block of operand 2, read from the argument it is cut from. -/
theorem block2 (t : Fin cfg0.N) (p : Fin 512) (k : Fin 2048) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- An entry of the block written at a point is the reference's entry at its place. -/
theorem key3 (t : Fin cfg0.N) (p : Fin 512) (k : Fin 2048) :
    k0_pay3 (iblk m c 1 t) (iblk m c 0 t) (ix2 p k) = val_main_v18 (F := Ideal) (m ((c : Thread nD τ).loc main_arg1)) (m ((c : Thread nD τ).loc main_arg3)) (ix2 (row t p) k) := by
  pointwise [k0_pay3, k0_pay2, k0_pay1, val_main_v18, val_main_v16, val_main_v14, val_main_v8, val_main_v7, val_main_v6, val_main_cst_0, val_main_v5, val_main_v4, val_main_cst, val_main_v3, val_main_v0]
  rw [block0, block1, zero_sub]

/-- An entry of the block written at a point is the reference's entry at its place. -/
theorem key4 (t : Fin cfg0.N) (p : Fin 512) (k : Fin 2048) :
    k0_pay4 (iblk m c 1 t) (iblk m c 0 t) (iblk m c 2 t) (ix2 p k) = val_main_v19 (F := Ideal) (m ((c : Thread nD τ).loc main_arg1)) (m ((c : Thread nD τ).loc main_arg2)) (m ((c : Thread nD τ).loc main_arg3)) (ix2 (row t p) k) := by
  pointwise [k0_pay4, k0_pay2, k0_pay1, val_main_v19, val_main_v17, val_main_v15, val_main_v11, val_main_v1, val_main_v14, val_main_v8, val_main_v10, val_main_v7, val_main_v6, val_main_v9, val_main_cst_0, val_main_v5, val_main_v4, val_main_cst_1, val_main_cst, val_main_v3, val_main_v0]
  rw [block0, block1, block2, zero_sub]
  exact congrArg₂ (@HMul.hMul EReal EReal EReal instHMul) (mul_comm (G := EReal) _ _) rfl

/-- The array the call leaves is the reference's. -/
theorem final3 : (dats m 0 c).arrAt 3 cfg0.N
    = val_main_v18 (F := Ideal) (m ((c : Thread nD τ).loc main_arg1)) (m ((c : Thread nD τ).loc main_arg3)) := by
  refine (dats m 0 c).arrAt_eq_of_covers 3 _ (by decide +kernel) fun t _ y => ?_
  rw [after0_3]
  unfold outsAt0
  frame_out
  obtain ⟨p, k, rfl⟩ : ∃ (p : Fin 512) (k : Fin 2048), y = ix2 p k := ⟨y 0, y 1, eq_ix2 y⟩
  refine (key3 m c t p k).trans (congrArg _ (funext fun a => Fin.ext ?_))
  match a with
  | ⟨0, _⟩ => blk_simp [places t, row]
  | ⟨1, _⟩ => blk_simp [places t]

/-- The array the call leaves is the reference's. -/
theorem final4 : (dats m 0 c).arrAt 4 cfg0.N
    = val_main_v19 (F := Ideal) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]
  unfold outsAt0
  frame_out
  obtain ⟨p, k, rfl⟩ : ∃ (p : Fin 512) (k : Fin 2048), y = ix2 p k := ⟨y 0, y 1, eq_ix2 y⟩
  refine (key4 m c t p k).trans (congrArg _ (funext fun a => Fin.ext ?_))
  match a with
  | ⟨0, _⟩ => blk_simp [places t, row]
  | ⟨1, _⟩ => blk_simp [places t]

end Cert.Kernel15Ideal.Claims

end
-- ==== Proof.NextNorm.lean ====
/- The norms after one layer and before the next: the kernel's blocks are the reference's. -/
module

public import proofs.«01_k».proof.Proof.Gen.Kernel21Ideal.Value
public import proofs.«01_k».proof.Proof.Gen.Reference21Ideal.Read
public import Idealize.ShloMosaic.Lib.Pipeline.ValueKit
public import Idealize.ShloMosaic.Lib.Pointwise

@[expose] public section

set_option maxRecDepth 16384

noncomputable section

namespace Cert.Kernel21Ideal.Claims

open Cert.Kernel21Ideal Cert.Kernel21Ideal.Gen Cert.Kernel21Ideal.Value Idealize.ShloMosaic Idealize.ShloMosaic.TcCoe Cert.Reference21Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix1 (i 1)) : S1x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x2048.Idx → EReal) := by
  entry_read
  funext i
  pointwise

/-- Operand 3 as the call finds it, read from the argument it is made of. -/
theorem entry3 : V m c (Pipeline.arrRef spec0 3)
    = (fun i => m ((c : Thread nD τ).loc main_arg3) (ix1 (i 1)) : S1x2048.Idx → EReal) := by
  entry_read
  funext i
  pointwise

/-- Where the blocks lie at each point of the grid. -/
theorem places : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

/-- The row of the array that a row of a block is. -/
def row (t : Fin cfg0.N) (p : Fin 512) : Fin 4096 := ⟨t.val * 512 + p.val, by have : t.val < 8 := t.isLt; omega⟩

/-- A block of operand 0, read from the argument it is cut from. -/
theorem block0 (t : Fin cfg0.N) (p : Fin 512) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (k : Fin 2048) : iblk m c 1 t (ix2 (0 : Fin 1) k)
    = m ((c : Thread nD τ).loc main_arg1) (ix1 k) := by
  show V m c (Pipeline.arrRef spec0 1) ((win0_1.blk t).view.emb (ix2 (0 : Fin 1) k)) = _
  rw [entry1]
  refine congrArg (m ((c : Thread nD τ).loc main_arg1)) (funext fun a => Fin.ext ?_)
  match a with
  | ⟨0, _⟩ => blk_simp [places t]

/-- A block of operand 2, read from the argument it is cut from. -/
theorem block2 (t : Fin cfg0.N) (p : Fin 512) (k : Fin 2048) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- A block of operand 3, read from the argument it is cut from. -/
theorem block3 (t : Fin cfg0.N) (k : Fin 2048) : iblk m c 3 t (ix2 (0 : Fin 1) k)
    = m ((c : Thread nD τ).loc main_arg3) (ix1 k) := by
  show V m c (Pipeline.arrRef spec0 3) ((win0_3.blk t).view.emb (ix2 (0 : Fin 1) k)) = _
  rw [entry3]
  refine congrArg (m ((c : Thread nD τ).loc main_arg3)) (funext fun a => Fin.ext ?_)
  match a with
  | ⟨0, _⟩ => blk_simp [places t]

/-- An entry of the block written at a point is the reference's entry at its place. -/
theorem key4 (t : Fin cfg0.N) (p : Fin 512) (k : Fin 2048) :
    k0_pay1 (iblk m c 0 t) (iblk m c 2 t) (iblk m c 1 t) (ix2 p k) = val_main_v15 (F := Ideal) (m ((c : Thread nD τ).loc main_arg0)) (m ((c : Thread nD τ).loc main_arg1)) (m ((c : Thread nD τ).loc main_arg2)) (ix2 (row t p) k) := by
  pointwise [k0_pay1, val_main_v15, val_main_v0, val_main_v14, val_main_v11, val_main_v13, val_main_v1, val_main_v10, val_main_v12, val_main_v9, val_main_v8, val_main_v6, val_main_v7, val_main_v4, val_main_v5, val_main_cst_1, val_main_v3, val_main_cst_0, val_main_v2, val_main_cst]
  simp only [block0, block1, block2]

/-- An entry of the block written at a point is the reference's entry at its place. -/
theorem key5 (t : Fin cfg0.N) (p : Fin 512) (k : Fin 2048) :
    k0_pay2 (iblk m c 0 t) (iblk m c 2 t) (iblk m c 1 t) (iblk m c 3 t) (ix2 p k) = val_main_v29 (F := Ideal) (m ((c : Thread nD τ).loc main_arg0)) (m ((c : Thread nD τ).loc main_arg1)) (m ((c : Thread nD τ).loc main_arg2)) (m ((c : Thread nD τ).loc main_arg3)) (ix2 (row t p) k) := by
  pointwise [k0_pay2, k0_pay1, val_main_v29, val_main_v28, val_main_v25, val_main_v27, val_main_v15, val_main_v24, val_main_v26, val_main_v0, val_main_v14, val_main_v23, val_main_v11, val_main_v13, val_main_v22, val_main_v1, val_main_v10, val_main_v12, val_main_v20, val_main_v21, val_main_v9, val_main_v18, val_main_v19, val_main_cst_4, val_main_v8, val_main_v17, val_main_cst_3, val_main_v6, val_main_v7, val_main_v16, val_main_cst_2, val_main_v4, val_main_v5, val_main_cst_1, val_main_v3, val_main_cst_0, val_main_v2, val_main_cst]
  simp only [block0, block1, block2, block3]

/-- The array the call leaves is the reference's. -/
theorem final4 : (dats m 0 c).arrAt 4 cfg0.N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  rw [after0_4]
  frame_out
  obtain ⟨p, k, rfl⟩ : ∃ (p : Fin 512) (k : Fin 2048), y = ix2 p k := ⟨y 0, y 1, eq_ix2 y⟩
  refine (key4 m c t p k).trans (congrArg _ (funext fun a => Fin.ext ?_))
  match a with
  | ⟨0, _⟩ => blk_simp [places t, row]
  | ⟨1, _⟩ => blk_simp [places t]

/-- The array the call leaves is the reference's. -/
theorem final5 : (dats m 0 c).arrAt 5 cfg0.N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [after0_5]
  frame_out
  obtain ⟨p, k, rfl⟩ : ∃ (p : Fin 512) (k : Fin 2048), y = ix2 p k := ⟨y 0, y 1, eq_ix2 y⟩
  refine (key5 m c t p k).trans (congrArg _ (funext fun a => Fin.ext ?_))
  match a with
  | ⟨0, _⟩ => blk_simp [places t, row]
  | ⟨1, _⟩ => blk_simp [places t]

end Cert.Kernel21Ideal.Claims

end
-- ==== Proof.InputNorm.lean ====
/- The norm before a layer: the kernel's blocks are the reference's. -/
module

public import proofs.«01_k».proof.Proof.Gen.Kernel25Ideal.Value
public import proofs.«01_k».proof.Proof.Gen.Reference25Ideal.Read
public import Idealize.ShloMosaic.Lib.Pipeline.ValueKit
public import Idealize.ShloMosaic.Lib.Pointwise

@[expose] public section

set_option maxRecDepth 16384

noncomputable section

namespace Cert.Kernel25Ideal.Claims

open Cert.Kernel25Ideal Cert.Kernel25Ideal.Gen Cert.Kernel25Ideal.Value Idealize.ShloMosaic Idealize.ShloMosaic.TcCoe Cert.Reference25Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix1 (i 1)) : S1x2048.Idx → EReal) := by
  entry_read
  funext i
  pointwise

/-- Where the blocks lie at each point of the grid. -/
theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The row of the array that a row of a block is. -/
def row (t : Fin cfg0.N) (p : Fin 512) : Fin 4096 := ⟨t.val * 512 + p.val, by have : t.val < 8 := t.isLt; omega⟩

/-- A block of operand 0, read from the argument it is cut from. -/
theorem block0 (t : Fin cfg0.N) (p : Fin 512) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (k : Fin 2048) : iblk m c 1 t (ix2 (0 : Fin 1) k)
    = m ((c : Thread nD τ).loc main_arg1) (ix1 k) := by
  show V m c (Pipeline.arrRef spec0 1) ((win0_1.blk t).view.emb (ix2 (0 : Fin 1) k)) = _
  rw [entry1]
  refine congrArg (m ((c : Thread nD τ).loc main_arg1)) (funext fun a => Fin.ext ?_)
  match a with
  | ⟨0, _⟩ => blk_simp [places t]

/-- An entry of the block written at a point is the reference's entry at its place. -/
theorem key2 (t : Fin cfg0.N) (p : Fin 512) (k : Fin 2048) :
    k0_pay1 (iblk m c 0 t) (iblk m c 1 t) (ix2 p k) = val_main_v14 (F := Ideal) (m ((c : Thread nD τ).loc main_arg0)) (m ((c : Thread nD τ).loc main_arg1)) (ix2 (row t p) k) := by
  pointwise [k0_pay1, val_main_v14, val_main_v13, val_main_v10, val_main_v12, val_main_v0, val_main_v9, val_main_v11, val_main_v8, val_main_v7, val_main_v5, val_main_v6, val_main_v3, val_main_v4, val_main_cst_1, val_main_v2, val_main_cst_0, val_main_v1, val_main_cst]
  simp only [block0, block1]

/-- The array the call leaves is the reference's. -/
theorem final2 : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t _ y => ?_
  rw [after0_2]
  frame_out
  obtain ⟨p, k, rfl⟩ : ∃ (p : Fin 512) (k : Fin 2048), y = ix2 p k := ⟨y 0, y 1, eq_ix2 y⟩
  refine (key2 m c t p k).trans (congrArg _ (funext fun a => Fin.ext ?_))
  match a with
  | ⟨0, _⟩ => blk_simp [places t, row]
  | ⟨1, _⟩ => blk_simp [places t]

end Cert.Kernel25Ideal.Claims

end
-- ==== Proof.Quarters.lean ====
/- A sum over 2048 places, one quarter after another. -/
module

public import Idealize.ShloMosaic.Lib.Pipeline.ValueKit

@[expose] public section

namespace Cert.Quarters

/-- A sum over 2048 places is the sum over its four quarters. -/
theorem sum_quarters (f : Fin 2048 → EReal) : ∑ k, f k
    = (∑ k : Fin 512, f ⟨0 * 512 + k.val, by omega⟩) + (∑ k : Fin 512, f ⟨1 * 512 + k.val, by omega⟩)
      + (∑ k : Fin 512, f ⟨2 * 512 + k.val, by omega⟩) + ∑ k : Fin 512, f ⟨3 * 512 + k.val, by omega⟩ := by
  have h := Fin.sum_mul_add_fin (M := EReal) 4 512 f
  rw [← h, Fin.sum_univ_four]
  rfl

end Cert.Quarters
-- ==== Proof.PleGate.lean ====
/- The gate's product and the product of the per-layer embedding, the gated sum and the norm before the next layer: the call's arrays are the reference's. -/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pointwise
public import proofs.«01_k».proof.Proof.Quarters

@[expose] public section

set_option maxRecDepth 16384

noncomputable section

namespace Cert.Kernel24Ideal.Claims

open Cert.Kernel24Ideal Cert.Kernel24Ideal.Gen Cert.Kernel24Ideal.Value Idealize.ShloMosaic Idealize.ShloMosaic.TcCoe Cert.Reference24Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x256.Idx → EReal) := by
  entry_read
  funext i
  pointwise

/-- Operand 4 as the call finds it, read from the argument it is made of. -/
theorem entry4 : V m c (Pipeline.arrRef spec0 4)
    = (fun i => m ((c : Thread nD τ).loc main_arg4) (ix3 (0 : Fin 1) (i 0) (i 1)) : S4096x2048.Idx → EReal) := by
  entry_read
  funext i
  pointwise

/-- Operand 5 as the call finds it, read from the argument it is made of. -/
theorem entry5 : V m c (Pipeline.arrRef spec0 5)
    = (fun i => m ((c : Thread nD τ).loc main_arg5) (ix1 (i 1)) : S1x2048.Idx → EReal) := by
  entry_read
  funext i
  pointwise

/-- Operand 1 as the call finds it, read from the argument it is made of. -/
theorem entry1 : V m c (Pipeline.arrRef spec0 1)
    = (fun i => m ((c : Thread nD τ).loc main_arg1) (ix2 (⟨(i 0).val * 512 + (i 1).val, by have : (i 0).val < 4 := (i 0).isLt; have : (i 1).val < 512 := (i 1).isLt; omega⟩ : Fin 2048) (i 2)) : S4x512x2048.Idx → EReal) := by
  entry_read
  funext i
  pointwise

/-- Operand 3 as the call finds it, read from the argument it is made of. -/
theorem entry3 : V m c (Pipeline.arrRef spec0 3)
    = (fun i => m ((c : Thread nD τ).loc main_arg3) (ix2 (i 1) (⟨(i 0).val * 512 + (i 2).val, by have : (i 0).val < 4 := (i 0).isLt; have : (i 2).val < 512 := (i 2).isLt; omega⟩ : Fin 2048)) : S4x256x512.Idx → EReal) := by
  entry_read
  funext i
  pointwise

/-- Where the blocks lie at each point of the grid. -/
theorem places : ∀ t : Fin cfg0.N, win0_0.index t = ![t.val, 0] ∧ win0_1.index t = ![0, 0, 0] ∧ win0_2.index t = ![t.val, 0] ∧ win0_3.index t = ![0, 0, 0] ∧ win0_4.index t = ![t.val, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![0, 0, 0] ∧ win0_2.index t = ![t.val, 0] ∧ win0_3.index t = ![0, 0, 0] ∧ win0_4.index t = ![t.val, 0] ∧ win0_5.index t = ![0, 0] ∧ win0_6.index t = ![t.val, 0] ∧ win0_7.index t = ![t.val, 0] ∧ win0_8.index t = ![t.val, 0] ∧ win0_9.index t = ![t.val, 0])

/-- The row of the array that a row of a block is. -/
def row (t : Fin cfg0.N) (p : Fin 256) : Fin 4096 := ⟨t.val * 256 + p.val, by have : t.val < 16 := t.isLt; omega⟩

/-- A block of operand 0, read from the argument it is cut from. -/
theorem block0 (t : Fin cfg0.N) (p : Fin 256) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 2, read from the argument it is cut from. -/
theorem block2 (t : Fin cfg0.N) (p : Fin 256) (k : Fin 256) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- A block of operand 4, read from the argument it is cut from. -/
theorem block4 (t : Fin cfg0.N) (p : Fin 256) (k : Fin 2048) : iblk m c 4 t (ix2 p k)
    = m ((c : Thread nD τ).loc main_arg4) (ix3 (0 : Fin 1) (row t p) k) := by
  show V m c (Pipeline.arrRef spec0 4) ((win0_4.blk t).view.emb (ix2 p k)) = _
  rw [entry4]
  refine congrArg (m ((c : Thread nD τ).loc main_arg4)) (funext fun a => Fin.ext ?_)
  match a with
  | ⟨0, _⟩ => blk_simp [places t]
  | ⟨1, _⟩ => blk_simp [places t, row]
  | ⟨2, _⟩ => blk_simp [places t]

/-- A block of operand 5, read from the argument it is cut from. -/
theorem block5 (t : Fin cfg0.N) (k : Fin 2048) : iblk m c 5 t (ix2 (0 : Fin 1) k)
    = m ((c : Thread nD τ).loc main_arg5) (ix1 k) := by
  show V m c (Pipeline.arrRef spec0 5) ((win0_5.blk t).view.emb (ix2 (0 : Fin 1) k)) = _
  rw [entry5]
  refine congrArg (m ((c : Thread nD τ).loc main_arg5)) (funext fun a => Fin.ext ?_)
  match a with
  | ⟨0, _⟩ => blk_simp [places t]

/-- A block of operand 1, read from the argument it is cut from. -/
theorem block1 (t : Fin cfg0.N) (a : Fin 4) (k : Fin 512) (p : Fin 2048) : iblk m c 1 t (ix3 a k p)
    = m ((c : Thread nD τ).loc main_arg1) (ix2 (⟨a.val * 512 + k.val, by omega⟩ : Fin 2048) p) := by
  show V m c (Pipeline.arrRef spec0 1) ((win0_1.blk t).view.emb (ix3 a k p)) = _
  rw [entry1]
  refine congrArg (m ((c : Thread nD τ).loc main_arg1)) (funext fun a => Fin.ext ?_)
  match a with
  | ⟨0, _⟩ => blk_simp [places t]
  | ⟨1, _⟩ => blk_simp [places t]

/-- A block of operand 3, read from the argument it is cut from. -/
theorem block3 (t : Fin cfg0.N) (a : Fin 4) (p : Fin 256) (k : Fin 512) : iblk m c 3 t (ix3 a p k)
    = m ((c : Thread nD τ).loc main_arg3) (ix2 p (⟨a.val * 512 + k.val, by omega⟩ : Fin 2048)) := by
  show V m c (Pipeline.arrRef spec0 3) ((win0_3.blk t).view.emb (ix3 a p k)) = _
  rw [entry3]
  refine congrArg (m ((c : Thread nD τ).loc main_arg3)) (funext fun a => Fin.ext ?_)
  match a with
  | ⟨0, _⟩ => blk_simp [places t]
  | ⟨1, _⟩ => blk_simp [places t]
/-- The same at a column of the whole argument. -/
theorem place3 (t : Fin cfg0.N) (a : Fin 4) (p : Fin 256) (k : ℕ) (hk : k < 512) (j : Fin 2048) (n : ℕ) (ha : a.val = n)
    (h : n * 512 + k = j.val) : iblk m c 3 t (ix3 a p (⟨k, hk⟩ : Fin 512)) = m ((c : Thread nD τ).loc main_arg3) (ix2 p j) :=
  (block3 m c t a p ⟨k, hk⟩).trans (congrArg (fun q => m ((c : Thread nD τ).loc main_arg3) (ix2 p q)) (Fin.ext ((congrArg (fun n => n * 512 + k) ha).trans h)))

/-- The gate's product, before the sigmoid. -/
theorem gate (t : Fin cfg0.N) (p : Fin 256) (k : Fin 2048) :
    k0_pay2 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7) (ix2 p k) = val_main_v1 (F := Ideal) (m ((c : Thread nD τ).loc main_arg0)) (m ((c : Thread nD τ).loc main_arg1)) (ix2 (row t p) k) := by
  pointwise [k0_pay2, val_main_v1, val_main_v0]
  rw [Cert.Quarters.sum_quarters]
  refine congrArg₂ (· + ·) (congrArg₂ (· + ·) (congrArg₂ (· + ·) ?_ ?_) ?_) ?_
  · exact Finset.sum_congr rfl fun j _ => congrArg₂ (· * ·) ((congrArg (fun q => iblk m c 0 t (ix2 p q)) (Fin.ext (Nat.zero_add _).symm)).trans <| block0 m c t p (⟨0 * 512 + j.val, by omega⟩ : Fin 2048)) (block1 m c t 0 j k)
  · exact Finset.sum_congr rfl fun j _ => congrArg₂ (· * ·) (block0 m c t p (⟨1 * 512 + j.val, by omega⟩ : Fin 2048)) (block1 m c t 1 j k)
  · exact Finset.sum_congr rfl fun j _ => congrArg₂ (· * ·) (block0 m c t p (⟨2 * 512 + j.val, by omega⟩ : Fin 2048)) (block1 m c t 2 j k)
  · exact Finset.sum_congr rfl fun j _ => congrArg₂ (· * ·) (block0 m c t p (⟨3 * 512 + j.val, by omega⟩ : Fin 2048)) (block1 m c t 3 j k)

/-- The product of the per-layer embedding. -/
theorem embed (t : Fin cfg0.N) (p : Fin 256) (k : Fin 2048) :
    k0_pay4 (k0_pay3 (iblk m c 2 t)) (View.ld (iblk m c 3 t) r0_10) (View.ld (iblk m c 3 t) r0_11) (View.ld (iblk m c 3 t) r0_12) (View.ld (iblk m c 3 t) r0_13) (ix2 p k) = val_main_v3 (F := Ideal) (m ((c : Thread nD τ).loc main_arg2)) (m ((c : Thread nD τ).loc main_arg3)) (ix2 (row t p) k) := by
  pointwise [k0_pay4, k0_pay3, val_main_v3, val_main_v2]
  have hk := k.isLt
  by_cases h0 : k.val < 512
  · refine (dif_pos h0).trans ?_
    exact Finset.sum_congr rfl fun x _ => congrArg₂ (· * ·) (block2 m c t p x)
      (place3 m c t 0 x _ (by omega) k 0 rfl (by omega))
  refine (dif_neg h0).trans ?_
  by_cases h1 : k.val - 512 < 512
  · refine (dif_pos h1).trans ?_
    exact Finset.sum_congr rfl fun x _ => congrArg₂ (· * ·) (block2 m c t p x)
      (place3 m c t 1 x _ (by omega) k 1 rfl (by omega))
  refine (dif_neg h1).trans ?_
  by_cases h2 : k.val - 512 - 512 < 512
  · refine (dif_pos h2).trans ?_
    exact Finset.sum_congr rfl fun x _ => congrArg₂ (· * ·) (block2 m c t p x)
      (place3 m c t 2 x _ (by omega) k 2 rfl (by omega))
  refine (dif_neg h2).trans ?_
  exact Finset.sum_congr rfl fun x _ => congrArg₂ (· * ·) (block2 m c t p x)
      (place3 m c t 3 x _ (by omega) k 3 rfl (by omega))

/-- The gated sum's entry. -/
theorem gated (t : Fin cfg0.N) (p : Fin 256) (k : Fin 2048) :
    k0_pay5 (k0_pay2 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (k0_pay3 (iblk m c 2 t)) (View.ld (iblk m c 3 t) r0_10) (View.ld (iblk m c 3 t) r0_11) (View.ld (iblk m c 3 t) r0_12) (View.ld (iblk m c 3 t) r0_13) (iblk m c 4 t) (ix2 p k) = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) k) := by
  pointwise [k0_pay5, val_main_v12, val_main_v4, val_main_v11, val_main_v10, val_main_v9, val_main_v8, val_main_cst_0, val_main_v7, val_main_v6, val_main_cst, val_main_v5]
  simp only [gate, embed, block4, zero_sub]

/-- The next norm's entry. -/
theorem next (t : Fin cfg0.N) (p : Fin 256) (k : Fin 2048) :
    k0_pay1 (k0_pay5 (k0_pay2 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (k0_pay3 (iblk m c 2 t)) (View.ld (iblk m c 3 t) r0_10) (View.ld (iblk m c 3 t) r0_11) (View.ld (iblk m c 3 t) r0_12) (View.ld (iblk m c 3 t) r0_13) (iblk m c 4 t)) (k0_pay6 (k0_pay2 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (k0_pay3 (iblk m c 2 t)) (View.ld (iblk m c 3 t) r0_10) (View.ld (iblk m c 3 t) r0_11) (View.ld (iblk m c 3 t) r0_12) (View.ld (iblk m c 3 t) r0_13) (iblk m c 4 t)) (iblk m c 5 t) (ix2 p k) = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  pointwise [k0_pay1, k0_pay6, val_main_v26, val_main_v25, val_main_v22, val_main_v24, val_main_v21, val_main_v23, val_main_v20, val_main_v19, val_main_v17, val_main_v18, val_main_cst_0, val_main_v15, val_main_v16, val_main_cst_3, val_main_cst, val_main_v14, val_main_cst_2, val_main_v13, val_main_cst_1]
  simp only [gated, block5]

/-- The array the call leaves is the reference's. -/
theorem final6 : (dats m 0 c).arrAt 6 cfg0.N
    = val_main_v1 (F := Ideal) (m ((c : Thread nD τ).loc main_arg0)) (m ((c : Thread nD τ).loc main_arg1)) := by
  refine (dats m 0 c).arrAt_eq_of_covers 6 _ (by decide +kernel) fun t _ y => ?_
  rw [after0_6]
  frame_out
  obtain ⟨p, k, rfl⟩ : ∃ (p : Fin 256) (k : Fin 2048), y = ix2 p k := ⟨y 0, y 1, eq_ix2 y⟩
  refine (gate m c t p k).trans (congrArg _ (funext fun a => Fin.ext ?_))
  match a with
  | ⟨0, _⟩ => blk_simp [places t, row]
  | ⟨1, _⟩ => blk_simp [places t]

/-- The array the call leaves is the reference's. -/
theorem final7 : (dats m 0 c).arrAt 7 cfg0.N
    = val_main_v3 (F := Ideal) (m ((c : Thread nD τ).loc main_arg2)) (m ((c : Thread nD τ).loc main_arg3)) := by
  refine (dats m 0 c).arrAt_eq_of_covers 7 _ (by decide +kernel) fun t _ y => ?_
  rw [after0_7]
  unfold_out out0_7
  frame_out
  obtain ⟨p, k, rfl⟩ : ∃ (p : Fin 256) (k : Fin 2048), y = ix2 p k := ⟨y 0, y 1, eq_ix2 y⟩
  refine (embed m c t p k).trans (congrArg _ (funext fun a => Fin.ext ?_))
  match a with
  | ⟨0, _⟩ => blk_simp [places t, row]
  | ⟨1, _⟩ => blk_simp [places t]

/-- The array the call leaves is the reference's. -/
theorem final8 : (dats m 0 c).arrAt 8 cfg0.N
    = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  rw [after0_8]
  unfold_out out0_8
  frame_out
  obtain ⟨p, k, rfl⟩ : ∃ (p : Fin 256) (k : Fin 2048), y = ix2 p k := ⟨y 0, y 1, eq_ix2 y⟩
  refine (gated m c t p k).trans (congrArg _ (funext fun a => Fin.ext ?_))
  match a with
  | ⟨0, _⟩ => blk_simp [places t, row]
  | ⟨1, _⟩ => blk_simp [places t]

/-- The array the call leaves is the reference's. -/
theorem final9 : (dats m 0 c).arrAt 9 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  rw [after0_9]
  unfold_out out0_9
  frame_out
  obtain ⟨p, k, rfl⟩ : ∃ (p : Fin 256) (k : Fin 2048), y = ix2 p k := ⟨y 0, y 1, eq_ix2 y⟩
  refine (next m c t p k).trans (congrArg _ (funext fun a => Fin.ext ?_))
  match a with
  | ⟨0, _⟩ => blk_simp [places t, row]
  | ⟨1, _⟩ => blk_simp [places t]

end Cert.Kernel24Ideal.Claims

end
-- ==== Proof.NormGrad.lean ====
/- The gradient of a root-mean-square norm, over the reals: the form that subtracts the mean of the products, and the form
   that differentiates the mean square, have equal entries. -/
module

public import Idealize.ShloMosaic.PureOps.Ideal.Laws
public import Idealize.ShloMosaic.Lib.Pointwise

@[expose] public section

noncomputable section

namespace Cert.NormGrad

open Idealize.ShloMosaic

/-- A real factor of a sum. -/
theorem sum_mul_coe {n : Nat} (f : Fin n → EReal) {r : ℝ} (hr : 0 ≤ r) : ∑ j, f j * (r : EReal) = (∑ j, f j) * (r : EReal) := by
  have h0 : (0 : EReal) ≤ (r : EReal) := by exact_mod_cast hr
  have step : ∀ s : Finset (Fin n), ∑ j ∈ s, f j * (r : EReal) = (∑ j ∈ s, f j) * (r : EReal) := by
    intro s
    induction s using Finset.induction_on with
    | empty => simp
    | insert a s ha ih =>
      rw [Finset.sum_insert ha, Finset.sum_insert ha, ih, EReal.right_distrib_of_nonneg_of_ne_top h0 (EReal.coe_ne_top r)]
  exact step Finset.univ

/-- The squares' sum is not negative. -/
theorem sum_sq_nonneg {n : Nat} (x : Fin n → EReal) : 0 ≤ ∑ j, x j * x j :=
  Finset.sum_nonneg fun j _ => by
    induction x j with
    | bot => simp
    | top => simp
    | coe a => exact_mod_cast mul_self_nonneg a

/-- Twice a multiple. -/
theorem add_self_mul (z : EReal) (a : ℝ) : z * (a : EReal) + z * (a : EReal) = z * ((2 * a : ℝ) : EReal) := by
  induction z with
  | coe b => rw [← EReal.coe_mul, ← EReal.coe_mul, ← EReal.coe_add]; exact congrArg _ (by ring)
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A quotient by 2048. -/
theorem div_2048 (y : EReal) : Ideal.div y ((2048 : ℝ) : EReal) = y * ((1 / 2048 : ℝ) : EReal) :=
  Ideal.div_coe (by norm_num) y

/-- One entry of the gradient: `u` is the cotangent times the gain, `x` the norm's argument, `s` the mean square with its
    epsilon, `d` what is added. -/
theorem entry {n : Nat} (s : EReal) (hs : 0 < s) (u x : Fin n → EReal) (d : EReal) (k : Fin n) :
    Ideal.rsqrt s * (u k - x k * Ideal.rsqrt s * Ideal.div (∑ j, u j * (x j * Ideal.rsqrt s)) ((2048 : ℝ) : EReal)) + d
    = d + u k * Ideal.rsqrt s
      + x k * Ideal.div ((∑ j, x j * u j) * (((-1 / 2 : ℝ) : EReal) * Ideal.div (Ideal.rsqrt s) s)) ((2048 : ℝ) : EReal)
      + Ideal.div ((∑ j, x j * u j) * (((-1 / 2 : ℝ) : EReal) * Ideal.div (Ideal.rsqrt s) s)) ((2048 : ℝ) : EReal) * x k := by
  induction s with
  | bot => exact absurd hs (by simp)
  | top =>
    have h : Ideal.rsqrt ⊤ = 0 := rfl
    have h' : Ideal.div 0 ⊤ = 0 := by simp [Ideal.div]
    simp [h, h', div_2048]
  | coe a =>
    have ha : 0 < a := by exact_mod_cast hs
    have hr : Ideal.rsqrt ((a : ℝ) : EReal) = (((√a)⁻¹ : ℝ) : EReal) := by
      rw [Ideal.rsqrt_coe, if_neg (not_lt.mpr ha.le), if_neg ha.ne']
    have hp : 0 < (√a)⁻¹ := inv_pos.mpr (Real.sqrt_pos.mpr ha)
    rw [hr]
    generalize hg : (√a)⁻¹ = r at *
    have hra : r * (1 / a) = r * r * r := by
      have : r * r = 1 / a := by rw [← hg, ← mul_inv, Real.mul_self_sqrt ha.le, one_div]
      rw [← this]; ring
    rw [div_2048, div_2048, Ideal.div_coe ha.ne', ← EReal.coe_mul, hra]
    have hsum : ∑ j, u j * (x j * (r : EReal)) = (∑ j, x j * u j) * (r : EReal) := by
      rw [← sum_mul_coe _ hp.le]
      exact Finset.sum_congr rfl fun j _ => by rw [← mul_assoc, mul_comm (u j)]
    rw [hsum]
    generalize (∑ j, x j * u j) = S
    rw [mul_comm (_ * _) (x k), ← EReal.coe_mul]
    have e1 : x k * (S * ((-1 / 2 * (r * r * r) : ℝ) : EReal) * ((1 / 2048 : ℝ) : EReal))
        = x k * S * ((-1 / 4096 * (r * r * r) : ℝ) : EReal) := by
      rw [mul_assoc S, ← EReal.coe_mul, ← mul_assoc]
      exact congrArg (fun y : ℝ => x k * S * (y : EReal)) (by ring)
    have e2 : x k * (r : EReal) * (S * (r : EReal) * ((1 / 2048 : ℝ) : EReal)) = x k * S * ((1 / 2048 * (r * r) : ℝ) : EReal) := by
      rw [mul_assoc S, ← EReal.coe_mul, mul_mul_mul_comm, ← EReal.coe_mul]
      exact congrArg (fun y : ℝ => x k * S * (y : EReal)) (by ring)
    rw [e1, e2, add_assoc (d + _), add_self_mul, sub_eq_add_neg,
      EReal.left_distrib_of_nonneg_of_ne_top (by exact_mod_cast hp.le) (EReal.coe_ne_top r)]
    have e3 : (r : EReal) * -(x k * S * ((1 / 2048 * (r * r) : ℝ) : EReal)) = x k * S * ((2 * (-1 / 4096 * (r * r * r)) : ℝ) : EReal) := by
      rw [← mul_neg, ← EReal.coe_neg, mul_left_comm, ← EReal.coe_mul]
      exact congrArg (fun y : ℝ => x k * S * (y : EReal)) (by ring)
    rw [e3, mul_comm (r : EReal)]
    generalize x k * S * _ = z
    rw [add_comm _ d, add_assoc]

theorem two_thousand : Ideal.ofBits .f32 0x45000000#32 = ((2048 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul]; norm_num

theorem epsilon_pos : 0 < Ideal.ofBits .f32 0x358637BD#32 := by
  have h : ∃ e : ℝ, 0 < e ∧ Ideal.ofBits .f32 0x358637BD#32 = (e : EReal) := by
    simp only [Ideal.ofBits, Ideal.ieee]
    refine ⟨_, ?_, rfl⟩
    norm_num
    rw [if_neg (by decide)]
    positivity
  obtain ⟨e, he, h⟩ := h
  rw [h]
  exact_mod_cast he

/-- The mean square of a row, with its epsilon. -/
def square {n : Nat} (x : Fin n → EReal) : EReal :=
  Ideal.div (∑ j, x j * x j) (Ideal.ofBits .f32 0x45000000#32) + Ideal.ofBits .f32 0x358637BD#32

theorem square_pos {n : Nat} (x : Fin n → EReal) : 0 < square x := by
  unfold square
  rw [two_thousand, div_2048]
  have h : 0 ≤ (∑ j, x j * x j) * ((1 / 2048 : ℝ) : EReal) :=
    mul_nonneg (sum_sq_nonneg x) (by exact_mod_cast (by norm_num : (0 : ℝ) ≤ 1 / 2048))
  calc (0 : EReal) < Ideal.ofBits .f32 0x358637BD#32 := epsilon_pos
    _ = 0 + Ideal.ofBits .f32 0x358637BD#32 := (zero_add _).symm
    _ ≤ _ := add_le_add_left h _

end Cert.NormGrad

end
-- ==== Proof.LossHead.lean ====
/- The loss and its gradients through the last gated sum: the call's arrays are the reference's. -/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pointwise
public import proofs.«01_k».proof.Proof.Quarters
public import proofs.«01_k».proof.Proof.NormGrad

@[expose] public section

set_option maxRecDepth 16384

noncomputable section

namespace Cert.Kernel23Ideal.Claims

open Cert.Kernel23Ideal Cert.Kernel23Ideal.Gen Cert.Kernel23Ideal.Value Idealize.ShloMosaic Idealize.ShloMosaic.TcCoe Cert.Reference23Ideal.Read
open Idealize.SL.Sem Cert.NormGrad
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x256.Idx → EReal) := by
  entry_read
  funext i
  pointwise

/-- Operand 4 as the call finds it, read from the argument it is made of. -/
theorem entry4 : V m c (Pipeline.arrRef spec0 4)
    = (fun i => m ((c : Thread nD τ).loc main_arg4) (ix3 (0 : Fin 1) (i 0) (i 1)) : S4096x2048.Idx → EReal) := by
  entry_read
  funext i
  pointwise

/-- Operand 5 as the call finds it, read from the argument it is made of. -/
theorem entry5 : V m c (Pipeline.arrRef spec0 5)
    = (fun i => m ((c : Thread nD τ).loc main_arg5) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix2 (⟨(i 0).val * 512 + (i 1).val, by have : (i 0).val < 4 := (i 0).isLt; have : (i 1).val < 512 := (i 1).isLt; omega⟩ : Fin 2048) (i 2)) : S4x512x2048.Idx → EReal) := by
  entry_read
  funext i
  pointwise

/-- Operand 3 as the call finds it, read from the argument it is made of. -/
theorem entry3 : V m c (Pipeline.arrRef spec0 3)
    = (fun i => m ((c : Thread nD τ).loc main_arg3) (ix2 (i 1) (⟨(i 0).val * 512 + (i 2).val, by have : (i 0).val < 4 := (i 0).isLt; have : (i 2).val < 512 := (i 2).isLt; omega⟩ : Fin 2048)) : S4x256x512.Idx → EReal) := by
  entry_read
  funext i
  pointwise

/-- Where the blocks lie at each point of the grid. -/
theorem places : ∀ t : Fin cfg0.N, win0_0.index t = ![t.val, 0] ∧ win0_1.index t = ![0, 0, 0] ∧ win0_2.index t = ![t.val, 0] ∧ win0_3.index t = ![0, 0, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, win0_0.index t = ![t.val, 0] ∧ win0_1.index t = ![0, 0, 0] ∧ win0_2.index t = ![t.val, 0] ∧ win0_3.index t = ![0, 0, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0])

/-- The row of the array that a row of a block is. -/
def row (t : Fin cfg0.N) (p : Fin 256) : Fin 4096 := ⟨t.val * 256 + p.val, by have : t.val < 16 := t.isLt; omega⟩

/-- A block of operand 0, read from the argument it is cut from. -/
theorem block0 (t : Fin cfg0.N) (p : Fin 256) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 2, read from the argument it is cut from. -/
theorem block2 (t : Fin cfg0.N) (p : Fin 256) (k : Fin 256) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- A block of operand 4, read from the argument it is cut from. -/
theorem block4 (t : Fin cfg0.N) (p : Fin 256) (k : Fin 2048) : iblk m c 4 t (ix2 p k)
    = m ((c : Thread nD τ).loc main_arg4) (ix3 (0 : Fin 1) (row t p) k) := by
  show V m c (Pipeline.arrRef spec0 4) ((win0_4.blk t).view.emb (ix2 p k)) = _
  rw [entry4]
  refine congrArg (m ((c : Thread nD τ).loc main_arg4)) (funext fun a => Fin.ext ?_)
  match a with
  | ⟨0, _⟩ => blk_simp [places t]
  | ⟨1, _⟩ => blk_simp [places t, row]
  | ⟨2, _⟩ => blk_simp [places t]

/-- A block of operand 5, read from the argument it is cut from. -/
theorem block5 (t : Fin cfg0.N) (p : Fin 256) (k : Fin 2048) : iblk m c 5 t (ix2 p k)
    = m ((c : Thread nD τ).loc main_arg5) (ix3 (0 : Fin 1) (row t p) k) := by
  show V m c (Pipeline.arrRef spec0 5) ((win0_5.blk t).view.emb (ix2 p k)) = _
  rw [entry5]
  refine congrArg (m ((c : Thread nD τ).loc main_arg5)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (a : Fin 4) (k : Fin 512) (p : Fin 2048) : iblk m c 1 t (ix3 a k p)
    = m ((c : Thread nD τ).loc main_arg1) (ix2 (⟨a.val * 512 + k.val, by omega⟩ : Fin 2048) p) := by
  show V m c (Pipeline.arrRef spec0 1) ((win0_1.blk t).view.emb (ix3 a k p)) = _
  rw [entry1]
  refine congrArg (m ((c : Thread nD τ).loc main_arg1)) (funext fun a => Fin.ext ?_)
  match a with
  | ⟨0, _⟩ => blk_simp [places t]
  | ⟨1, _⟩ => blk_simp [places t]

/-- A block of operand 3, read from the argument it is cut from. -/
theorem block3 (t : Fin cfg0.N) (a : Fin 4) (p : Fin 256) (k : Fin 512) : iblk m c 3 t (ix3 a p k)
    = m ((c : Thread nD τ).loc main_arg3) (ix2 p (⟨a.val * 512 + k.val, by omega⟩ : Fin 2048)) := by
  show V m c (Pipeline.arrRef spec0 3) ((win0_3.blk t).view.emb (ix3 a p k)) = _
  rw [entry3]
  refine congrArg (m ((c : Thread nD τ).loc main_arg3)) (funext fun a => Fin.ext ?_)
  match a with
  | ⟨0, _⟩ => blk_simp [places t]
  | ⟨1, _⟩ => blk_simp [places t]
/-- The same at a column of the whole argument. -/
theorem place3 (t : Fin cfg0.N) (a : Fin 4) (p : Fin 256) (k : ℕ) (hk : k < 512) (j : Fin 2048) (n : ℕ) (ha : a.val = n)
    (h : n * 512 + k = j.val) : iblk m c 3 t (ix3 a p (⟨k, hk⟩ : Fin 512)) = m ((c : Thread nD τ).loc main_arg3) (ix2 p j) :=
  (block3 m c t a p ⟨k, hk⟩).trans (congrArg (fun q => m ((c : Thread nD τ).loc main_arg3) (ix2 p q)) (Fin.ext ((congrArg (fun n => n * 512 + k) ha).trans h)))

/-- The gate of a block. -/
def gateAt (t : Fin cfg0.N) : FVec Ideal S256x2048 .f32 :=
  k0_pay4 (View.ld (iblk m c 0 t) (Rect.unit ![0, 0] ![256, 512] inb_S256x2048_S256x512_0_0)) (View.ld (iblk m c 1 t) (Rect.unit ![0, 0, 0] ![1, 512, 2048] inb_S4x512x2048_S1x512x2048_0_0_0)) (View.ld (iblk m c 0 t) (Rect.unit ![0, 512] ![256, 512] inb_S256x2048_S256x512_0_512)) (View.ld (iblk m c 1 t) (Rect.unit ![1, 0, 0] ![1, 512, 2048] inb_S4x512x2048_S1x512x2048_1_0_0)) (View.ld (iblk m c 0 t) (Rect.unit ![0, 1024] ![256, 512] inb_S256x2048_S256x512_0_1024)) (View.ld (iblk m c 1 t) (Rect.unit ![2, 0, 0] ![1, 512, 2048] inb_S4x512x2048_S1x512x2048_2_0_0)) (View.ld (iblk m c 0 t) (Rect.unit ![0, 1536] ![256, 512] inb_S256x2048_S256x512_0_1536)) (View.ld (iblk m c 1 t) (Rect.unit ![3, 0, 0] ![1, 512, 2048] inb_S4x512x2048_S1x512x2048_3_0_0))

/-- The product of the per-layer embedding of a block. -/
def embedAt (t : Fin cfg0.N) : FVec Ideal S256x2048 .f32 := k0_pay5 (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0))

/-- The difference from the target of a block. -/
def errAt (t : Fin cfg0.N) : FVec Ideal S256x2048 .f32 := k0_pay6 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t)

/-- The gate's entry. -/
theorem gate (t : Fin cfg0.N) (p : Fin 256) (k : Fin 2048) :
    gateAt m c t (ix2 p k) = val_main_v10 (F := Ideal) (m ((c : Thread nD τ).loc main_arg0)) (m ((c : Thread nD τ).loc main_arg1)) (ix2 (row t p) k) := by
  unfold gateAt
  pointwise [k0_pay4, val_main_v10, val_main_v9, val_main_v8, val_main_cst_0, val_main_v7, val_main_v6, val_main_cst, val_main_v5, val_main_v1, val_main_v0]
  rw [Cert.Quarters.sum_quarters, zero_sub]
  simp only [block0, block1, Nat.zero_mul, Nat.zero_add, Nat.one_mul, Nat.reduceMul]
  rfl

/-- The product of the per-layer embedding. -/
theorem embed (t : Fin cfg0.N) (p : Fin 256) (k : Fin 2048) :
    embedAt m c t (ix2 p k) = val_main_v3 (F := Ideal) (m ((c : Thread nD τ).loc main_arg2)) (m ((c : Thread nD τ).loc main_arg3)) (ix2 (row t p) k) := by
  unfold embedAt
  pointwise [k0_pay5, val_main_v3, val_main_v2]
  by_cases h0 : k.val < 512
  · refine (dif_pos h0).trans ?_
    exact Finset.sum_congr rfl fun x _ => congrArg₂ (· * ·) (block2 m c t p x)
      (place3 m c t 0 x _ (by omega) k 0 rfl (by omega))
  refine (dif_neg h0).trans ?_
  by_cases h1 : k.val - 512 < 512
  · refine (dif_pos h1).trans ?_
    exact Finset.sum_congr rfl fun x _ => congrArg₂ (· * ·) (block2 m c t p x)
      (place3 m c t 1 x _ (by omega) k 1 rfl (by omega))
  refine (dif_neg h1).trans ?_
  by_cases h2 : k.val - 512 - 512 < 512
  · refine (dif_pos h2).trans ?_
    exact Finset.sum_congr rfl fun x _ => congrArg₂ (· * ·) (block2 m c t p x)
      (place3 m c t 2 x _ (by omega) k 2 rfl (by omega))
  refine (dif_neg h2).trans ?_
  exact Finset.sum_congr rfl fun x _ => congrArg₂ (· * ·) (block2 m c t p x)
    (place3 m c t 3 x _ (by omega) k 3 rfl (by omega))

/-- The difference from the target. -/
theorem err (t : Fin cfg0.N) (p : Fin 256) (k : Fin 2048) :
    errAt m c t (ix2 p k) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  have h := embed m c t p k
  unfold embedAt at h
  unfold errAt
  pointwise [k0_pay6, val_main_v17, val_main_v15, val_main_v16, val_main_v4, val_main_v14]
  rw [h, gate, block4, block5]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem a_2048th : Ideal.ofBits .f32 0x3A000000#32 = ((1 / 2048 : ℝ) : EReal) := by
  simp [Ideal.ofBits, Ideal.ieee, -EReal.coe_mul]; norm_num

theorem a_4096th : Ideal.ofBits .f32 0x39800000#32 = ((1 / 4096 : ℝ) : EReal) := by
  simp [Ideal.ofBits, Ideal.ieee, -EReal.coe_mul]; norm_num

/-- The two spellings of the derivative of half the mean square. -/
theorem slope (e : EReal) : e * Ideal.ofBits .f32 0x3A000000#32
    = Ideal.div (Ideal.ofBits .f32 0x3F000000#32) (Ideal.ofBits .f32 0x45000000#32)
      * (Ideal.ofBits .f32 0x40000000#32 * e) := by
  rw [half, two, a_2048th, two_thousand, div_2048, ← mul_assoc, ← EReal.coe_mul, ← EReal.coe_mul, mul_comm]
  norm_num

/-- The gradient of the loss. -/
theorem grad (t : Fin cfg0.N) (p : Fin 256) (k : Fin 2048) :
    k0_pay7 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t) (ix2 p k) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  have h := err m c t p k
  unfold errAt at h
  pointwise [k0_pay7, val_main_v31, val_main_v30, val_main_v20, val_main_v29, val_main_v19, val_main_v27, val_main_v28, val_main_cst_2, val_main_v26, val_main_cst_9, val_main_cst_7, val_main_cst_8]
  rw [h]
  exact slope _

/-- The gradient of the product of the per-layer embedding. -/
theorem gradEmbed (t : Fin cfg0.N) (p : Fin 256) (k : Fin 2048) :
    k0_pay8 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t) (ix2 p k) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  pointwise [k0_pay8, val_main_v35, val_main_v33]
  rw [grad, gate]

/-- The gradient of the gate's product. -/
theorem gradGate (t : Fin cfg0.N) (p : Fin 256) (k : Fin 2048) :
    k0_pay1 (gateAt m c t) (k0_pay9 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t)) (k0_pay10 (gateAt m c t)) (ix2 p k) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  have h := embed m c t p k
  unfold embedAt at h
  pointwise [k0_pay1, k0_pay9, k0_pay10, val_main_v36, val_main_v34, val_main_v32, val_main_v13, val_main_v12, val_main_v11, val_main_cst_1]
  rw [grad, gate, h]
  exact congrArg₂ (@HMul.hMul EReal EReal EReal instHMul) (mul_comm (G := EReal) _ _) rfl

/-- A row's sum of squares. -/
def squares (r : Fin 4096) : EReal :=
  ∑ k : Fin 2048, (fun e : EReal => e * e) (val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r k))

/-- What a block adds to the loss. -/
theorem lossPart (t : Fin cfg0.N) :
    k0_pay2 (errAt m c t) (ix2 (0 : Fin 1) (0 : Fin 1)) = (∑ p : Fin 256, squares m c (row t p)) * ((1 / 4096 : ℝ) : EReal) := by
  pointwise [k0_pay2]
  simp only [err, a_4096th, Fin.sum_univ_one]
  rfl

theorem lossRef : val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (0 : Fin 1) (0 : Fin 1))
    = (∑ r : Fin 4096, squares m c r) * ((1 / 4096 : ℝ) : EReal) := by
  pointwise [val_main_v37, val_main_v25, val_main_cst_6, val_main_v24, val_main_v23, val_main_cst_5, val_main_v21, val_main_v22, val_main_v18, val_main_cst_3, val_main_cst_4]
  simp only [half, two_thousand, div_2048]
  show ((1 / 2 : ℝ) : EReal) * ∑ r, squares m c r * ((1 / 2048 : ℝ) : EReal) = _
  rw [sum_mul_coe (fun r => squares m c r) (by norm_num : (0 : ℝ) ≤ 1 / 2048)]
  rw [mul_comm, mul_assoc, ← EReal.coe_mul]
  norm_num

/-- The array the call leaves is the reference's. -/
theorem final6 : (dats m 0 c).arrAt 6 cfg0.N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  rw [after0_6]
  have hN : t.val < 16 := t.isLt
  have out : (outsAt0 m c t.val t.isLt).1 = k0_pay7 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t) := by
    by_cases h : t.val % 16 = 0
    · rw [outsAt0_A m c t h (by omega)]
      frame_out
      rfl
    · rw [outsAt0_B m c t h (by omega)]
      frame_out
      rfl
  rw [out]
  obtain ⟨p, k, rfl⟩ : ∃ (p : Fin 256) (k : Fin 2048), y = ix2 p k := ⟨y 0, y 1, eq_ix2 y⟩
  refine (grad m c t p k).trans (congrArg _ (funext fun a => Fin.ext ?_))
  match a with
  | ⟨0, _⟩ => blk_simp [places t, row]
  | ⟨1, _⟩ => blk_simp [places t]

/-- The array the call leaves is the reference's. -/
theorem final7 : (dats m 0 c).arrAt 7 cfg0.N
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  rw [after0_7]
  have hN : t.val < 16 := t.isLt
  have out : (outsAt0 m c t.val t.isLt).2.1 = k0_pay8 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t) := by
    by_cases h : t.val % 16 = 0
    · rw [outsAt0_A m c t h (by omega)]
      frame_out
      rfl
    · rw [outsAt0_B m c t h (by omega)]
      frame_out
      rfl
  rw [out]
  obtain ⟨p, k, rfl⟩ : ∃ (p : Fin 256) (k : Fin 2048), y = ix2 p k := ⟨y 0, y 1, eq_ix2 y⟩
  refine (gradEmbed m c t p k).trans (congrArg _ (funext fun a => Fin.ext ?_))
  match a with
  | ⟨0, _⟩ => blk_simp [places t, row]
  | ⟨1, _⟩ => blk_simp [places t]

/-- The array the call leaves is the reference's. -/
theorem final8 : (dats m 0 c).arrAt 8 cfg0.N
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  rw [after0_8]
  have hN : t.val < 16 := t.isLt
  have out : (outsAt0 m c t.val t.isLt).2.2.1 = k0_pay1 (gateAt m c t) (k0_pay9 (gateAt m c t) (iblk m c 2 t) (View.ld (iblk m c 3 t) (Rect.unit ![0, 0, 0] ![1, 256, 512] inb_S4x256x512_S1x256x512_0_0_0)) (View.ld (iblk m c 3 t) (Rect.unit ![1, 0, 0] ![1, 256, 512] inb_S4x256x512_S1x256x512_1_0_0)) (View.ld (iblk m c 3 t) (Rect.unit ![2, 0, 0] ![1, 256, 512] inb_S4x256x512_S1x256x512_2_0_0)) (View.ld (iblk m c 3 t) (Rect.unit ![3, 0, 0] ![1, 256, 512] inb_S4x256x512_S1x256x512_3_0_0)) (iblk m c 4 t) (iblk m c 5 t)) (k0_pay10 (gateAt m c t)) := by
    by_cases h : t.val % 16 = 0
    · rw [outsAt0_A m c t h (by omega)]
      frame_out
      rfl
    · rw [outsAt0_B m c t h (by omega)]
      frame_out
      rfl
  rw [out]
  obtain ⟨p, k, rfl⟩ : ∃ (p : Fin 256) (k : Fin 2048), y = ix2 p k := ⟨y 0, y 1, eq_ix2 y⟩
  refine (gradGate m c t p k).trans (congrArg _ (funext fun a => Fin.ext ?_))
  match a with
  | ⟨0, _⟩ => blk_simp [places t, row]
  | ⟨1, _⟩ => blk_simp [places t]

/-- The array the call leaves is the reference's. -/
theorem final9 : (dats m 0 c).arrAt 9 cfg0.N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  rw [after0_9]
  have hN : t.val < 16 := t.isLt
  have ht := (flush0_9 t).mp hf
  obtain ⟨p, k, rfl⟩ : ∃ (p : Fin 1) (k : Fin 1), y = ix2 p k := ⟨y 0, y 1, eq_ix2 y⟩
  obtain rfl : p = 0 := Subsingleton.elim _ _
  obtain rfl : k = 0 := Subsingleton.elim _ _
  have hsum := Pipeline.eq_sum_fin_of_reset_step_apply_last (fun n h => (outsAt0 m c n h).2.2.2) 16 (fun _ => (0 : EReal))
    (fun t j => k0_pay2 (errAt m c t) j)
    (fun t h j => by
      have hN : t.val < 16 := t.isLt
      rw [outsAt0_A m c t h (by omega)]
      frame_out
      exact (zero_add _).symm)
    (fun t h j => by
      have hN : t.val < 16 := t.isLt
      rw [outsAt0_B m c t h (by omega)]
      frame_out
      pointwise [k0_pay3]
      rfl) (by decide) t (by show t.val + 1 = 16; omega) (ix2 (0 : Fin 1) (0 : Fin 1))
  refine hsum.trans ?_
  rw [zero_add]
  refine (Finset.sum_congr rfl fun t _ => lossPart m c t).trans ?_
  refine Eq.trans ?_ ((lossRef m c).symm.trans (congrArg _ (funext fun a => Fin.ext ?_)))
  · rw [sum_mul_coe _ (by norm_num : (0 : ℝ) ≤ 1 / 4096)]
    exact congrArg (· * ((1 / 4096 : ℝ) : EReal)) (Fin.sum_mul_add_congr fun t p hl => rfl)
  · match a with
    | ⟨0, _⟩ => blk_simp [places t]
    | ⟨1, _⟩ => blk_simp [places t]

end Cert.Kernel23Ideal.Claims

end
-- ==== Proof.NormBwd.lean ====
/- The gradient of a norm: the call's arrays are the reference's. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import proofs.«01_k».proof.Proof.NormGrad

@[expose] public section

set_option maxRecDepth 16384

noncomputable section

namespace Cert.Kernel6Ideal.Claims

open Cert.Kernel6Ideal Cert.Kernel6Ideal.Gen Cert.Kernel6Ideal.Value Idealize.ShloMosaic Idealize.ShloMosaic.TcCoe Cert.Reference6Ideal.Read
open Idealize.SL.Sem Cert.NormGrad
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix1 (i 1)) : S1x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x2048.Idx → EReal) := by
  entry_read
  funext i
  pointwise

/-- Operand 3 as the call finds it, read from the argument it is made of. -/
theorem entry3 : V m c (Pipeline.arrRef spec0 3)
    = (fun i => m ((c : Thread nD τ).loc main_arg3) (ix3 (0 : Fin 1) (i 0) (i 1)) : S4096x2048.Idx → EReal) := by
  entry_read
  funext i
  pointwise

/-- Where the blocks lie at each point of the grid. -/
theorem places : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![0, 0])

/-- The row of the array that a row of a block is. -/
def row (t : Fin cfg0.N) (p : Fin 512) : Fin 4096 := ⟨t.val * 512 + p.val, by have : t.val < 8 := t.isLt; omega⟩

/-- A block of operand 0, read from the argument it is cut from. -/
theorem block0 (t : Fin cfg0.N) (p : Fin 512) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (k : Fin 2048) : iblk m c 1 t (ix2 (0 : Fin 1) k)
    = m ((c : Thread nD τ).loc main_arg1) (ix1 k) := by
  show V m c (Pipeline.arrRef spec0 1) ((win0_1.blk t).view.emb (ix2 (0 : Fin 1) k)) = _
  rw [entry1]
  refine congrArg (m ((c : Thread nD τ).loc main_arg1)) (funext fun a => Fin.ext ?_)
  match a with
  | ⟨0, _⟩ => blk_simp [places t]

/-- A block of operand 2, read from the argument it is cut from. -/
theorem block2 (t : Fin cfg0.N) (p : Fin 512) (k : Fin 2048) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- A block of operand 3, read from the argument it is cut from. -/
theorem block3 (t : Fin cfg0.N) (p : Fin 512) (k : Fin 2048) : iblk m c 3 t (ix2 p k)
    = m ((c : Thread nD τ).loc main_arg3) (ix3 (0 : Fin 1) (row t p) k) := by
  show V m c (Pipeline.arrRef spec0 3) ((win0_3.blk t).view.emb (ix2 p k)) = _
  rw [entry3]
  refine congrArg (m ((c : Thread nD τ).loc main_arg3)) (funext fun a => Fin.ext ?_)
  match a with
  | ⟨0, _⟩ => blk_simp [places t]
  | ⟨1, _⟩ => blk_simp [places t, row]
  | ⟨2, _⟩ => blk_simp [places t]

/-- A row of the norm's argument. -/
def xs (r : Fin 4096) : Fin 2048 → EReal := fun k => m ((c : Thread nD τ).loc main_arg0) (ix3 (0 : Fin 1) r k)

/-- A row of the cotangent. -/
def cs (r : Fin 4096) : Fin 2048 → EReal := fun k => m ((c : Thread nD τ).loc main_arg2) (ix3 (0 : Fin 1) r k)

/-- The gain. -/
def gs : Fin 2048 → EReal := fun k => m ((c : Thread nD τ).loc main_arg1) (ix1 k)

/-- A row of the cotangent times the gain. -/
def us (r : Fin 4096) : Fin 2048 → EReal := fun k => cs m c r k * gs m c k

/-- What a row adds to the gradient of the gain. -/
def part (r : Fin 4096) (k : Fin 2048) : EReal := cs m c r k * (xs m c r k * Ideal.rsqrt (square (xs m c r)))

/-- An entry of the block written at a point is the reference's entry at its place. -/
theorem key4 (t : Fin cfg0.N) (p : Fin 512) (k : Fin 2048) :
    k0_pay6 (iblk m c 0 t) (iblk m c 2 t) (iblk m c 1 t) (iblk m c 3 t) (ix2 p k) = val_main_v39 (F := Ideal) (m ((c : Thread nD τ).loc main_arg0)) (m ((c : Thread nD τ).loc main_arg1)) (m ((c : Thread nD τ).loc main_arg2)) (m ((c : Thread nD τ).loc main_arg3)) (ix2 (row t p) k) := by
  pointwise [k0_pay6, k0_pay5, k0_pay4, k0_pay3, k0_pay2, val_main_v39, val_main_v37, val_main_v38, val_main_v30, val_main_v36, val_main_v35, val_main_v0, val_main_v2, val_main_v29, val_main_v34, val_main_v23, val_main_v28, val_main_v33, val_main_cst_7, val_main_v1, val_main_v22, val_main_v10, val_main_v31, val_main_v32, val_main_v16, val_main_v9, val_main_v27, val_main_v13, val_main_cst_6, val_main_v7, val_main_v8, val_main_v26, val_main_v12, val_main_v11, val_main_v5, val_main_v6, val_main_cst_1, val_main_v25, val_main_cst_5, val_main_cst_2, val_main_v4, val_main_cst_0, val_main_v3, val_main_cst]
  simp only [block0, block1, block2, block3, Fin.sum_univ_one]
  have h := NormGrad.entry _ (square_pos (xs m c (row t p))) (us m c (row t p)) (xs m c (row t p)) (m ((c : Thread nD τ).loc main_arg3) (ix3 (0 : Fin 1) (row t p) k)) k
  rw [← two_thousand, ← minus_half] at h
  exact h

theorem key5 (t : Fin cfg0.N) (k : Fin 2048) :
    k0_pay7 (iblk m c 0 t) (iblk m c 2 t) (ix2 (0 : Fin 1) k) = ∑ p : Fin 512, part m c (row t p) k := by
  pointwise [k0_pay7, k0_pay5, k0_pay4, k0_pay3, k0_pay2]
  simp only [block0, block2]
  rfl

theorem ref5 (k : Fin 2048) :
    val_main_v40 (F := Ideal) (m ((c : Thread nD τ).loc main_arg0)) (m ((c : Thread nD τ).loc main_arg2)) (ix2 (0 : Fin 1) k) = ∑ r : Fin 4096, part m c r k := by
  pointwise [val_main_v40, val_main_v24, val_main_v21, val_main_cst_4, val_main_v20, val_main_v19, val_main_cst_3, val_main_v15, val_main_v1, val_main_v0, val_main_v14, val_main_v10, val_main_v9, val_main_v7, val_main_v8, val_main_v5, val_main_v6, val_main_cst_1, val_main_v4, val_main_cst_0, val_main_v3, val_main_cst]
  simp only [Fin.sum_univ_one]
  exact Finset.sum_congr rfl fun r _ => mul_comm (G := EReal) _ _

/-- The array the call leaves is the reference's. -/
theorem final4 : (dats m 0 c).arrAt 4 cfg0.N
    = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]
  have hN : t.val < 8 := t.isLt
  have out : (outsAt0 m c t.val t.isLt).1 = k0_pay6 (iblk m c 0 t) (iblk m c 2 t) (iblk m c 1 t) (iblk m c 3 t) := by
    by_cases h : t.val % 8 = 0
    · rw [outsAt0_A m c t h (by omega)]
      frame_out
    · rw [outsAt0_B m c t h (by omega)]
      frame_out
  rw [out]
  obtain ⟨p, k, rfl⟩ : ∃ (p : Fin 512) (k : Fin 2048), y = ix2 p k := ⟨y 0, y 1, eq_ix2 y⟩
  refine (key4 m c t p k).trans (congrArg _ (funext fun a => Fin.ext ?_))
  match a with
  | ⟨0, _⟩ => blk_simp [places t, row]
  | ⟨1, _⟩ => blk_simp [places t]

/-- The array the call leaves is the reference's. -/
theorem final5 : (dats m 0 c).arrAt 5 cfg0.N
    = val_main_v40 (F := Ideal) (m ((c : Thread nD τ).loc main_arg0)) (m ((c : Thread nD τ).loc main_arg2)) := by
  refine (dats m 0 c).arrAt_eq_of_covers 5 _ (by decide +kernel) fun t hf y => ?_
  rw [after0_5]
  have hN : t.val < 8 := t.isLt
  have ht := (flush0_5 t).mp hf
  obtain ⟨p, k, rfl⟩ : ∃ (p : Fin 1) (k : Fin 2048), y = ix2 p k := ⟨y 0, y 1, eq_ix2 y⟩
  obtain rfl : p = 0 := Subsingleton.elim _ _
  have hsum := Pipeline.eq_sum_fin_of_reset_step_apply_last (fun n h => (outsAt0 m c n h).2) 8 (fun _ => (0 : EReal))
    (fun t j => k0_pay7 (iblk m c 0 t) (iblk m c 2 t) j)
    (fun t h j => by
      have hN : t.val < 8 := t.isLt
      rw [outsAt0_A m c t h (by omega)]
      frame_out
      exact (zero_add _).symm)
    (fun t h j => by
      have hN : t.val < 8 := t.isLt
      rw [outsAt0_B m c t h (by omega)]
      frame_out
      pointwise [k0_pay1]) (by decide) t (by show t.val + 1 = 8; omega) (ix2 (0 : Fin 1) k)
  refine hsum.trans ?_
  rw [zero_add]
  refine (Finset.sum_congr rfl fun t _ => key5 m c t k).trans ?_
  refine Eq.trans ?_ ((ref5 m c k).symm.trans (congrArg _ (funext fun a => Fin.ext ?_)))
  · exact Fin.sum_mul_add_congr fun t p hl => rfl
  · match a with
    | ⟨0, _⟩ => blk_simp [places t]
    | ⟨1, _⟩ => blk_simp [places t]

end Cert.Kernel6Ideal.Claims

end
-- ==== Proof.NormBwdPair.lean ====
/- The gradients of two norms, the second's from the first's: the call's arrays are the reference's. -/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import proofs.«01_k».proof.Proof.NormGrad

@[expose] public section

set_option maxRecDepth 16384

noncomputable section

namespace Cert.Kernel13Ideal.Claims

open Cert.Kernel13Ideal Cert.Kernel13Ideal.Gen Cert.Kernel13Ideal.Value Idealize.ShloMosaic Idealize.ShloMosaic.TcCoe Cert.Reference13Ideal.Read
open Idealize.SL.Sem Cert.NormGrad
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 1 as the call finds it, read from the argument it is made of. -/
theorem entry1 : V m c (Pipeline.arrRef spec0 1)
    = (fun i => m ((c : Thread nD τ).loc main_arg1) (ix1 (i 1)) : S1x2048.Idx → EReal) := by
  entry_read
  funext i
  pointwise

/-- Operand 2 as the call finds it, read from the argument it is made of. -/
theorem entry2 : V m c (Pipeline.arrRef spec0 2)
    = (fun i => m ((c : Thread nD τ).loc main_arg2) (ix3 (0 : Fin 1) (i 0) (i 1)) : S4096x2048.Idx → EReal) := by
  entry_read
  funext i
  pointwise

/-- Operand 3 as the call finds it, read from the argument it is made of. -/
theorem entry3 : V m c (Pipeline.arrRef spec0 3)
    = (fun i => m ((c : Thread nD τ).loc main_arg3) (ix3 (0 : Fin 1) (i 0) (i 1)) : S4096x2048.Idx → EReal) := by
  entry_read
  funext i
  pointwise

/-- Operand 4 as the call finds it, read from the argument it is made of. -/
theorem entry4 : V m c (Pipeline.arrRef spec0 4)
    = (fun i => m ((c : Thread nD τ).loc main_arg4) (ix3 (0 : Fin 1) (i 0) (i 1)) : S4096x2048.Idx → EReal) := by
  entry_read
  funext i
  pointwise

/-- Operand 5 as the call finds it, read from the argument it is made of. -/
theorem entry5 : V m c (Pipeline.arrRef spec0 5)
    = (fun i => m ((c : Thread nD τ).loc main_arg5) (ix1 (i 1)) : S1x2048.Idx → EReal) := by
  entry_read
  funext i
  pointwise

/-- Where the blocks lie at each point of the grid. -/
theorem places : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![t.val, 0] ∧ win0_7.index t = ![t.val, 0] ∧ win0_8.index t = ![0, 0] ∧ win0_9.index t = ![0, 0])

/-- The row of the array that a row of a block is. -/
def row (t : Fin cfg0.N) (p : Fin 256) : Fin 4096 := ⟨t.val * 256 + p.val, by have : t.val < 16 := t.isLt; omega⟩

/-- A block of operand 0, read from the argument it is cut from. -/
theorem block0 (t : Fin cfg0.N) (p : Fin 256) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 1, read from the argument it is cut from. -/
theorem block1 (t : Fin cfg0.N) (k : Fin 2048) : iblk m c 1 t (ix2 (0 : Fin 1) k)
    = m ((c : Thread nD τ).loc main_arg1) (ix1 k) := by
  show V m c (Pipeline.arrRef spec0 1) ((win0_1.blk t).view.emb (ix2 (0 : Fin 1) k)) = _
  rw [entry1]
  refine congrArg (m ((c : Thread nD τ).loc main_arg1)) (funext fun a => Fin.ext ?_)
  match a with
  | ⟨0, _⟩ => blk_simp [places t]

/-- A block of operand 2, read from the argument it is cut from. -/
theorem block2 (t : Fin cfg0.N) (p : Fin 256) (k : Fin 2048) : iblk m c 2 t (ix2 p k)
    = m ((c : Thread nD τ).loc main_arg2) (ix3 (0 : Fin 1) (row t p) k) := by
  show V m c (Pipeline.arrRef spec0 2) ((win0_2.blk t).view.emb (ix2 p k)) = _
  rw [entry2]
  refine congrArg (m ((c : Thread nD τ).loc main_arg2)) (funext fun a => Fin.ext ?_)
  match a with
  | ⟨0, _⟩ => blk_simp [places t]
  | ⟨1, _⟩ => blk_simp [places t, row]
  | ⟨2, _⟩ => blk_simp [places t]

/-- A block of operand 3, read from the argument it is cut from. -/
theorem block3 (t : Fin cfg0.N) (p : Fin 256) (k : Fin 2048) : iblk m c 3 t (ix2 p k)
    = m ((c : Thread nD τ).loc main_arg3) (ix3 (0 : Fin 1) (row t p) k) := by
  show V m c (Pipeline.arrRef spec0 3) ((win0_3.blk t).view.emb (ix2 p k)) = _
  rw [entry3]
  refine congrArg (m ((c : Thread nD τ).loc main_arg3)) (funext fun a => Fin.ext ?_)
  match a with
  | ⟨0, _⟩ => blk_simp [places t]
  | ⟨1, _⟩ => blk_simp [places t, row]
  | ⟨2, _⟩ => blk_simp [places t]

/-- A block of operand 4, read from the argument it is cut from. -/
theorem block4 (t : Fin cfg0.N) (p : Fin 256) (k : Fin 2048) : iblk m c 4 t (ix2 p k)
    = m ((c : Thread nD τ).loc main_arg4) (ix3 (0 : Fin 1) (row t p) k) := by
  show V m c (Pipeline.arrRef spec0 4) ((win0_4.blk t).view.emb (ix2 p k)) = _
  rw [entry4]
  refine congrArg (m ((c : Thread nD τ).loc main_arg4)) (funext fun a => Fin.ext ?_)
  match a with
  | ⟨0, _⟩ => blk_simp [places t]
  | ⟨1, _⟩ => blk_simp [places t, row]
  | ⟨2, _⟩ => blk_simp [places t]

/-- A block of operand 5, read from the argument it is cut from. -/
theorem block5 (t : Fin cfg0.N) (k : Fin 2048) : iblk m c 5 t (ix2 (0 : Fin 1) k)
    = m ((c : Thread nD τ).loc main_arg5) (ix1 k) := by
  show V m c (Pipeline.arrRef spec0 5) ((win0_5.blk t).view.emb (ix2 (0 : Fin 1) k)) = _
  rw [entry5]
  refine congrArg (m ((c : Thread nD τ).loc main_arg5)) (funext fun a => Fin.ext ?_)
  match a with
  | ⟨0, _⟩ => blk_simp [places t]

/-- A row of the first norm's argument. -/
def xs (r : Fin 4096) : Fin 2048 → EReal := fun k => m ((c : Thread nD τ).loc main_arg0) (ix3 (0 : Fin 1) r k)

/-- A row of its cotangent. -/
def cs (r : Fin 4096) : Fin 2048 → EReal := fun k => m ((c : Thread nD τ).loc main_arg2) (ix3 (0 : Fin 1) r k)

/-- Its gain. -/
def gs : Fin 2048 → EReal := fun k => m ((c : Thread nD τ).loc main_arg1) (ix1 k)

/-- A row of the second norm's argument. -/
def ys (r : Fin 4096) : Fin 2048 → EReal := fun k => m ((c : Thread nD τ).loc main_arg4) (ix3 (0 : Fin 1) r k)

/-- A row of its cotangent, which is the first gradient. -/
def ds (r : Fin 4096) : Fin 2048 → EReal := fun k => val_main_v39 (F := Ideal) (m ((c : Thread nD τ).loc main_arg0)) (m ((c : Thread nD τ).loc main_arg1)) (m ((c : Thread nD τ).loc main_arg2)) (m ((c : Thread nD τ).loc main_arg3)) (ix2 r k)

/-- Its gain. -/
def hs : Fin 2048 → EReal := fun k => m ((c : Thread nD τ).loc main_arg5) (ix1 k)

/-- What a row adds to the gradient of the first gain. -/
def part (r : Fin 4096) (k : Fin 2048) : EReal := cs m c r k * (xs m c r k * Ideal.rsqrt (square (xs m c r)))

/-- What a row adds to the gradient of the second gain. -/
def part' (r : Fin 4096) (k : Fin 2048) : EReal := ds m c r k * (ys m c r k * Ideal.rsqrt (square (ys m c r)))

/-- An entry of the block written at a point is the reference's entry at its place. -/
theorem key6 (t : Fin cfg0.N) (p : Fin 256) (k : Fin 2048) :
    k0_pay12 (iblk m c 0 t) (iblk m c 1 t) (iblk m c 2 t) (iblk m c 3 t) (ix2 p k) = val_main_v39 (F := Ideal) (m ((c : Thread nD τ).loc main_arg0)) (m ((c : Thread nD τ).loc main_arg1)) (m ((c : Thread nD τ).loc main_arg2)) (m ((c : Thread nD τ).loc main_arg3)) (ix2 (row t p) k) := by
  pointwise [k0_pay12, k0_pay10, k0_pay9, k0_pay8, k0_pay7, val_main_v39, val_main_v37, val_main_v38, val_main_v30, val_main_v36, val_main_v35, val_main_v0, val_main_v2, val_main_v29, val_main_v34, val_main_v23, val_main_v28, val_main_v33, val_main_cst_7, val_main_v1, val_main_v22, val_main_v10, val_main_v31, val_main_v32, val_main_v16, val_main_v9, val_main_v27, val_main_v13, val_main_cst_6, val_main_v7, val_main_v8, val_main_v26, val_main_v12, val_main_v11, val_main_v5, val_main_v6, val_main_cst_1, val_main_v25, val_main_cst_5, val_main_cst_2, val_main_v4, val_main_cst_0, val_main_v3, val_main_cst]
  simp only [block0, block1, block2, block3, Fin.sum_univ_one]
  have h := NormGrad.entry _ (square_pos (xs m c (row t p))) (fun k => cs m c (row t p) k * gs m c k) (xs m c (row t p)) (m ((c : Thread nD τ).loc main_arg3) (ix3 (0 : Fin 1) (row t p) k)) k
  rw [← two_thousand, ← minus_half] at h
  exact h

/-- An entry of the block written at a point is the reference's entry at its place. -/
theorem key7 (t : Fin cfg0.N) (p : Fin 256) (k : Fin 2048) :
    k0_pay4 (k0_pay12 (iblk m c 0 t) (iblk m c 1 t) (iblk m c 2 t) (iblk m c 3 t)) (k0_pay13 (iblk m c 4 t)) (iblk m c 5 t) (ix2 p k) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) k) := by
  pointwise [k0_pay4, k0_pay2, k0_pay1, k0_pay13, val_main_v77, val_main_v76, val_main_v74, val_main_v75, val_main_v67, val_main_v73, val_main_v72, val_main_v40, val_main_v61, val_main_v66, val_main_v71, val_main_v60, val_main_v48, val_main_v70, val_main_cst_16, val_main_v54, val_main_v47, val_main_v68, val_main_v69, val_main_v45, val_main_v46, val_main_v65, val_main_v51, val_main_cst_15, val_main_v43, val_main_v44, val_main_cst_10, val_main_v64, val_main_v50, val_main_v49, val_main_v42, val_main_cst_9, val_main_v63, val_main_cst_14, val_main_cst_11, val_main_v41, val_main_cst_8]
  simp only [block4, block5, key6, Fin.sum_univ_one]
  have h := NormGrad.entry _ (square_pos (ys m c (row t p))) (fun k => ds m c (row t p) k * hs m c k) (ys m c (row t p)) 0 k
  rw [← two_thousand, ← minus_half, add_zero, zero_add] at h
  exact h

theorem key8 (t : Fin cfg0.N) (k : Fin 2048) :
    k0_pay11 (iblk m c 0 t) (iblk m c 2 t) (ix2 (0 : Fin 1) k) = ∑ p : Fin 256, part m c (row t p) k := by
  pointwise [k0_pay11, k0_pay10, k0_pay9, k0_pay8, k0_pay7]
  simp only [block0, block2]
  rfl

theorem key9 (t : Fin cfg0.N) (k : Fin 2048) :
    k0_pay3 (k0_pay12 (iblk m c 0 t) (iblk m c 1 t) (iblk m c 2 t) (iblk m c 3 t)) (k0_pay13 (iblk m c 4 t)) (ix2 (0 : Fin 1) k) = ∑ p : Fin 256, part' m c (row t p) k := by
  pointwise [k0_pay3, k0_pay2, k0_pay1, k0_pay13]
  simp only [block4, key6]
  rfl

theorem ref8 (k : Fin 2048) :
    val_main_v78 (F := Ideal) (m ((c : Thread nD τ).loc main_arg0)) (m ((c : Thread nD τ).loc main_arg2)) (ix2 (0 : Fin 1) k) = ∑ r : Fin 4096, part m c r k := by
  pointwise [val_main_v78, val_main_v24, val_main_v21, val_main_cst_4, val_main_v20, val_main_v19, val_main_cst_3, val_main_v15, val_main_v1, val_main_v0, val_main_v14, val_main_v10, val_main_v9, val_main_v7, val_main_v8, val_main_v5, val_main_v6, val_main_cst_1, val_main_v4, val_main_cst_0, val_main_v3, val_main_cst]
  simp only [Fin.sum_univ_one]
  exact Finset.sum_congr rfl fun r _ => mul_comm (G := EReal) _ _

theorem ref9 (k : Fin 2048) :
    val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (0 : Fin 1) k) = ∑ r : Fin 4096, part' m c r k := by
  pointwise [val_main_v79, val_main_v62, val_main_v59, val_main_cst_13, val_main_v58, val_main_v57, val_main_cst_12, val_main_v53, val_main_v40, val_main_v52, val_main_v48, val_main_v47, val_main_v45, val_main_v46, val_main_v43, val_main_v44, val_main_cst_10, val_main_v42, val_main_cst_9, val_main_v41, val_main_cst_8]
  simp only [Fin.sum_univ_one]
  exact Finset.sum_congr rfl fun r _ => mul_comm (G := EReal) _ _

/-- The array the call leaves is the reference's. -/
theorem final6 : (dats m 0 c).arrAt 6 cfg0.N
    = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]
  have hN : t.val < 16 := t.isLt
  have out : (outsAt0 m c t.val t.isLt).1 = k0_pay12 (iblk m c 0 t) (iblk m c 1 t) (iblk m c 2 t) (iblk m c 3 t) := by
    by_cases h : t.val % 16 = 0
    · rw [outsAt0_A m c t h (by omega)]
      frame_out
    · rw [outsAt0_B m c t h (by omega)]
      frame_out
  rw [out]
  obtain ⟨p, k, rfl⟩ : ∃ (p : Fin 256) (k : Fin 2048), y = ix2 p k := ⟨y 0, y 1, eq_ix2 y⟩
  refine (key6 m c t p k).trans (congrArg _ (funext fun a => Fin.ext ?_))
  match a with
  | ⟨0, _⟩ => blk_simp [places t, row]
  | ⟨1, _⟩ => blk_simp [places t]

/-- The array the call leaves is the reference's. -/
theorem final7 : (dats m 0 c).arrAt 7 cfg0.N
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  rw [after0_7]
  have hN : t.val < 16 := t.isLt
  have out : (outsAt0 m c t.val t.isLt).2.1 = k0_pay4 (k0_pay12 (iblk m c 0 t) (iblk m c 1 t) (iblk m c 2 t) (iblk m c 3 t)) (k0_pay13 (iblk m c 4 t)) (iblk m c 5 t) := by
    by_cases h : t.val % 16 = 0
    · rw [outsAt0_A m c t h (by omega)]
      frame_out
    · rw [outsAt0_B m c t h (by omega)]
      frame_out
  rw [out]
  obtain ⟨p, k, rfl⟩ : ∃ (p : Fin 256) (k : Fin 2048), y = ix2 p k := ⟨y 0, y 1, eq_ix2 y⟩
  refine (key7 m c t p k).trans (congrArg _ (funext fun a => Fin.ext ?_))
  match a with
  | ⟨0, _⟩ => blk_simp [places t, row]
  | ⟨1, _⟩ => blk_simp [places t]

/-- The array the call leaves is the reference's. -/
theorem final8 : (dats m 0 c).arrAt 8 cfg0.N
    = val_main_v78 (F := Ideal) (m ((c : Thread nD τ).loc main_arg0)) (m ((c : Thread nD τ).loc main_arg2)) := by
  refine (dats m 0 c).arrAt_eq_of_covers 8 _ (by decide +kernel) fun t hf y => ?_
  rw [after0_8]
  have hN : t.val < 16 := t.isLt
  have ht := (flush0_8 t).mp hf
  obtain ⟨p, k, rfl⟩ : ∃ (p : Fin 1) (k : Fin 2048), y = ix2 p k := ⟨y 0, y 1, eq_ix2 y⟩
  obtain rfl : p = 0 := Subsingleton.elim _ _
  have hsum := Pipeline.eq_sum_fin_of_reset_step_apply_last (fun n h => (outsAt0 m c n h).2.2.1) 16 (fun _ => (0 : EReal))
    (fun t j => k0_pay11 (iblk m c 0 t) (iblk m c 2 t) j)
    (fun t h j => by
      have hN : t.val < 16 := t.isLt
      rw [outsAt0_A m c t h (by omega)]
      frame_out
      exact (zero_add _).symm)
    (fun t h j => by
      have hN : t.val < 16 := t.isLt
      rw [outsAt0_B m c t h (by omega)]
      frame_out
      pointwise [k0_pay5]) (by decide) t (by show t.val + 1 = 16; omega) (ix2 (0 : Fin 1) k)
  refine hsum.trans ?_
  rw [zero_add]
  refine (Finset.sum_congr rfl fun t _ => key8 m c t k).trans ?_
  refine Eq.trans ?_ ((ref8 m c k).symm.trans (congrArg _ (funext fun a => Fin.ext ?_)))
  · exact Fin.sum_mul_add_congr fun t p hl => rfl
  · match a with
    | ⟨0, _⟩ => blk_simp [places t]
    | ⟨1, _⟩ => blk_simp [places t]

/-- The array the call leaves is the reference's. -/
theorem final9 : (dats m 0 c).arrAt 9 cfg0.N
    = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  rw [after0_9]
  have hN : t.val < 16 := t.isLt
  have ht := (flush0_9 t).mp hf
  obtain ⟨p, k, rfl⟩ : ∃ (p : Fin 1) (k : Fin 2048), y = ix2 p k := ⟨y 0, y 1, eq_ix2 y⟩
  obtain rfl : p = 0 := Subsingleton.elim _ _
  have hsum := Pipeline.eq_sum_fin_of_reset_step_apply_last (fun n h => (outsAt0 m c n h).2.2.2) 16 (fun _ => (0 : EReal))
    (fun t j => k0_pay3 (k0_pay12 (iblk m c 0 t) (iblk m c 1 t) (iblk m c 2 t) (iblk m c 3 t)) (k0_pay13 (iblk m c 4 t)) j)
    (fun t h j => by
      have hN : t.val < 16 := t.isLt
      rw [outsAt0_A m c t h (by omega)]
      frame_out
      exact (zero_add _).symm)
    (fun t h j => by
      have hN : t.val < 16 := t.isLt
      rw [outsAt0_B m c t h (by omega)]
      frame_out
      pointwise [k0_pay6]) (by decide) t (by show t.val + 1 = 16; omega) (ix2 (0 : Fin 1) k)
  refine hsum.trans ?_
  rw [zero_add]
  refine (Finset.sum_congr rfl fun t _ => key9 m c t k).trans ?_
  refine Eq.trans ?_ ((ref9 m c k).symm.trans (congrArg _ (funext fun a => Fin.ext ?_)))
  · exact Fin.sum_mul_add_congr fun t p hl => rfl
  · match a with
    | ⟨0, _⟩ => blk_simp [places t]
    | ⟨1, _⟩ => blk_simp [places t]

end Cert.Kernel13Ideal.Claims

end
-- ==== Proof.OutProj.lean ====
/- The product with the layer's second weight, the norm after it, the sum and the norm before the next layer: the call's arrays are the reference's. -/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pointwise
public import proofs.«01_k».proof.Proof.Quarters

@[expose] public section

set_option maxRecDepth 16384

noncomputable section

namespace Cert.Kernel22Ideal.Claims

open Cert.Kernel22Ideal Cert.Kernel22Ideal.Gen Cert.Kernel22Ideal.Value Idealize.ShloMosaic Idealize.ShloMosaic.TcCoe Cert.Reference22Ideal.Read
open Idealize.SL.Sem
open Idealize.ShloMosaic.Pipeline (Dat)

variable (m : (ℓ : Loc nD τ sig) → Buf (Elt Ideal) ℓ) (c : Dev nD)

/-- Operand 0 as the call finds it, read from the argument it is made of. -/
theorem entry0 : V m c (Pipeline.arrRef spec0 0)
    = (fun i => m ((c : Thread nD τ).loc main_arg0) (ix3 (0 : Fin 1) (i 0) (i 1)) : S4096x2048.Idx → EReal) := by
  entry_read
  funext i
  pointwise

/-- Operand 2 as the call finds it, read from the argument it is made of. -/
theorem entry2 : V m c (Pipeline.arrRef spec0 2)
    = (fun i => m ((c : Thread nD τ).loc main_arg2) (ix1 (i 1)) : S1x2048.Idx → EReal) := by
  entry_read
  funext i
  pointwise

/-- Operand 3 as the call finds it, read from the argument it is made of. -/
theorem entry3 : V m c (Pipeline.arrRef spec0 3)
    = (fun i => m ((c : Thread nD τ).loc main_arg3) (ix3 (0 : Fin 1) (i 0) (i 1)) : S4096x2048.Idx → EReal) := by
  entry_read
  funext i
  pointwise

/-- Operand 4 as the call finds it, read from the argument it is made of. -/
theorem entry4 : V m c (Pipeline.arrRef spec0 4)
    = (fun i => m ((c : Thread nD τ).loc main_arg4) (ix1 (i 1)) : S1x2048.Idx → EReal) := by
  entry_read
  funext i
  pointwise

/-- Operand 1 as the call finds it, read from the argument it is made of. -/
theorem entry1 : V m c (Pipeline.arrRef spec0 1)
    = (fun i => m ((c : Thread nD τ).loc main_arg1) (ix2 (⟨(i 0).val * 512 + (i 1).val, by have : (i 0).val < 4 := (i 0).isLt; have : (i 1).val < 512 := (i 1).isLt; omega⟩ : Fin 2048) (i 2)) : S4x512x2048.Idx → EReal) := by
  entry_read
  funext i
  pointwise

/-- Where the blocks lie at each point of the grid. -/
theorem places : ∀ t : Fin cfg0.N, win0_0.index t = ![t.val, 0] ∧ win0_1.index t = ![0, 0, 0] ∧ win0_2.index t = ![0, 0] ∧ win0_3.index t = ![t.val, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0, 0] ∧ win0_2.index t = ![0, 0] ∧ win0_3.index t = ![t.val, 0] ∧ win0_4.index t = ![0, 0] ∧ win0_5.index t = ![t.val, 0] ∧ win0_6.index t = ![t.val, 0] ∧ win0_7.index t = ![t.val, 0])

/-- The row of the array that a row of a block is. -/
def row (t : Fin cfg0.N) (p : Fin 256) : Fin 4096 := ⟨t.val * 256 + p.val, by have : t.val < 16 := t.isLt; omega⟩

/-- A block of operand 0, read from the argument it is cut from. -/
theorem block0 (t : Fin cfg0.N) (p : Fin 256) (k : Fin 2048) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A block of operand 2, read from the argument it is cut from. -/
theorem block2 (t : Fin cfg0.N) (k : Fin 2048) : iblk m c 2 t (ix2 (0 : Fin 1) k)
    = m ((c : Thread nD τ).loc main_arg2) (ix1 k) := by
  show V m c (Pipeline.arrRef spec0 2) ((win0_2.blk t).view.emb (ix2 (0 : Fin 1) k)) = _
  rw [entry2]
  refine congrArg (m ((c : Thread nD τ).loc main_arg2)) (funext fun a => Fin.ext ?_)
  match a with
  | ⟨0, _⟩ => blk_simp [places t]

/-- A block of operand 3, read from the argument it is cut from. -/
theorem block3 (t : Fin cfg0.N) (p : Fin 256) (k : Fin 2048) : iblk m c 3 t (ix2 p k)
    = m ((c : Thread nD τ).loc main_arg3) (ix3 (0 : Fin 1) (row t p) k) := by
  show V m c (Pipeline.arrRef spec0 3) ((win0_3.blk t).view.emb (ix2 p k)) = _
  rw [entry3]
  refine congrArg (m ((c : Thread nD τ).loc main_arg3)) (funext fun a => Fin.ext ?_)
  match a with
  | ⟨0, _⟩ => blk_simp [places t]
  | ⟨1, _⟩ => blk_simp [places t, row]
  | ⟨2, _⟩ => blk_simp [places t]

/-- A block of operand 4, read from the argument it is cut from. -/
theorem block4 (t : Fin cfg0.N) (k : Fin 2048) : iblk m c 4 t (ix2 (0 : Fin 1) k)
    = m ((c : Thread nD τ).loc main_arg4) (ix1 k) := by
  show V m c (Pipeline.arrRef spec0 4) ((win0_4.blk t).view.emb (ix2 (0 : Fin 1) k)) = _
  rw [entry4]
  refine congrArg (m ((c : Thread nD τ).loc main_arg4)) (funext fun a => Fin.ext ?_)
  match a with
  | ⟨0, _⟩ => blk_simp [places t]

/-- A block of operand 1, read from the argument it is cut from. -/
theorem block1 (t : Fin cfg0.N) (a : Fin 4) (k : Fin 512) (p : Fin 2048) : iblk m c 1 t (ix3 a k p)
    = m ((c : Thread nD τ).loc main_arg1) (ix2 (⟨a.val * 512 + k.val, by omega⟩ : Fin 2048) p) := by
  show V m c (Pipeline.arrRef spec0 1) ((win0_1.blk t).view.emb (ix3 a k p)) = _
  rw [entry1]
  refine congrArg (m ((c : Thread nD τ).loc main_arg1)) (funext fun a => Fin.ext ?_)
  match a with
  | ⟨0, _⟩ => blk_simp [places t]
  | ⟨1, _⟩ => blk_simp [places t]

/-- The product's entry. -/
theorem key5 (t : Fin cfg0.N) (p : Fin 256) (k : Fin 2048) :
    k0_pay3 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7) (ix2 p k) = val_main_v1 (F := Ideal) (m ((c : Thread nD τ).loc main_arg0)) (m ((c : Thread nD τ).loc main_arg1)) (ix2 (row t p) k) := by
  pointwise [k0_pay3, val_main_v1, val_main_v0]
  rw [Cert.Quarters.sum_quarters]
  refine congrArg₂ (· + ·) (congrArg₂ (· + ·) (congrArg₂ (· + ·) ?_ ?_) ?_) ?_
  · exact Finset.sum_congr rfl fun j _ => congrArg₂ (· * ·) ((congrArg (fun q => iblk m c 0 t (ix2 p q)) (Fin.ext (Nat.zero_add _).symm)).trans <| block0 m c t p (⟨0 * 512 + j.val, by omega⟩ : Fin 2048)) (block1 m c t 0 j k)
  · exact Finset.sum_congr rfl fun j _ => congrArg₂ (· * ·) (block0 m c t p (⟨1 * 512 + j.val, by omega⟩ : Fin 2048)) (block1 m c t 1 j k)
  · exact Finset.sum_congr rfl fun j _ => congrArg₂ (· * ·) (block0 m c t p (⟨2 * 512 + j.val, by omega⟩ : Fin 2048)) (block1 m c t 2 j k)
  · exact Finset.sum_congr rfl fun j _ => congrArg₂ (· * ·) (block0 m c t p (⟨3 * 512 + j.val, by omega⟩ : Fin 2048)) (block1 m c t 3 j k)

/-- The sum's entry. -/
theorem key6 (t : Fin cfg0.N) (p : Fin 256) (k : Fin 2048) :
    k0_pay1 (k0_pay3 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (k0_pay4 (iblk m c 3 t)) (k0_pay5 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (iblk m c 2 t) (ix2 p k) = val_main_v16 (F := Ideal) (m ((c : Thread nD τ).loc main_arg0)) (m ((c : Thread nD τ).loc main_arg1)) (m ((c : Thread nD τ).loc main_arg2)) (m ((c : Thread nD τ).loc main_arg3)) (ix2 (row t p) k) := by
  pointwise [k0_pay1, k0_pay4, k0_pay5, val_main_v16, val_main_v2, val_main_v15, val_main_v12, val_main_v14, val_main_v11, val_main_v13, val_main_v10, val_main_v9, val_main_v7, val_main_v8, val_main_v5, val_main_v6, val_main_cst_1, val_main_v4, val_main_cst_0, val_main_v3, val_main_cst]
  simp only [key5, block2, block3]

/-- The next norm's entry. -/
theorem key7 (t : Fin cfg0.N) (p : Fin 256) (k : Fin 2048) :
    k0_pay2 (k0_pay3 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (k0_pay4 (iblk m c 3 t)) (k0_pay5 (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7)) (iblk m c 2 t) (iblk m c 4 t) (ix2 p k) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) k) := by
  pointwise [k0_pay2, k0_pay1, k0_pay4, k0_pay5, val_main_v30, val_main_v29, val_main_v26, val_main_v28, val_main_v16, val_main_v25, val_main_v27, val_main_v2, val_main_v15, val_main_v24, val_main_v12, val_main_v14, val_main_v23, val_main_v11, val_main_v13, val_main_v21, val_main_v22, val_main_v10, val_main_v19, val_main_v20, val_main_cst_4, val_main_v9, val_main_v18, val_main_cst_3, val_main_v7, val_main_v8, val_main_v17, val_main_cst_2, val_main_v5, val_main_v6, val_main_cst_1, val_main_v4, val_main_cst_0, val_main_v3, val_main_cst]
  simp only [key5, block2, block3, block4]

/-- The array the call leaves is the reference's. -/
theorem final5 : (dats m 0 c).arrAt 5 cfg0.N
    = val_main_v1 (F := Ideal) (m ((c : Thread nD τ).loc main_arg0)) (m ((c : Thread nD τ).loc main_arg1)) := by
  refine (dats m 0 c).arrAt_eq_of_covers 5 _ (by decide +kernel) fun t _ y => ?_
  rw [after0_5]
  frame_out
  obtain ⟨p, k, rfl⟩ : ∃ (p : Fin 256) (k : Fin 2048), y = ix2 p k := ⟨y 0, y 1, eq_ix2 y⟩
  refine (key5 m c t p k).trans (congrArg _ (funext fun a => Fin.ext ?_))
  match a with
  | ⟨0, _⟩ => blk_simp [places t, row]
  | ⟨1, _⟩ => blk_simp [places t]

/-- The array the call leaves is the reference's. -/
theorem final6 : (dats m 0 c).arrAt 6 cfg0.N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]
  unfold_out out0_6
  frame_out
  obtain ⟨p, k, rfl⟩ : ∃ (p : Fin 256) (k : Fin 2048), y = ix2 p k := ⟨y 0, y 1, eq_ix2 y⟩
  refine (key6 m c t p k).trans (congrArg _ (funext fun a => Fin.ext ?_))
  match a with
  | ⟨0, _⟩ => blk_simp [places t, row]
  | ⟨1, _⟩ => blk_simp [places t]

/-- The array the call leaves is the reference's. -/
theorem final7 : (dats m 0 c).arrAt 7 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  rw [after0_7]
  unfold_out out0_7
  frame_out
  obtain ⟨p, k, rfl⟩ : ∃ (p : Fin 256) (k : Fin 2048), y = ix2 p k := ⟨y 0, y 1, eq_ix2 y⟩
  refine (key7 m c t p k).trans (congrArg _ (funext fun a => Fin.ext ?_))
  match a with
  | ⟨0, _⟩ => blk_simp [places t, row]
  | ⟨1, _⟩ => blk_simp [places t]

end Cert.Kernel22Ideal.Claims

end
-- ==== Proof.Stacked.lean ====
/- Nine pairs of rows laid one after another, 128 numbers in a row: what stands at a place of the whole. -/
module

public import Idealize.ShloMosaic.Lib.Pipeline.ValueKit
public import Idealize.ShloMosaic.Lib.Pointwise
public import Idealize.ShloMosaic.Lib.KernelVsHost

@[expose] public section

noncomputable section

namespace Cert.Stacked

open Idealize.ShloMosaic

/-- An array of rows of 128 numbers. -/
abbrev Lanes (n : ℕ) : Shape := ⟨2, ![n, 128]⟩

/-- Two rows. -/
abbrev Pair (w : ℕ) : Shape := ⟨2, ![2, w]⟩

/-- The number at a place of two rows read one after the other. -/
def flat (w : ℕ) [NeZero w] (a : (Pair w).Idx → EReal) (n : ℕ) : EReal :=
  a (ix2 (⟨n / w % 2, Nat.mod_lt _ (by decide)⟩ : Fin 2) (⟨n % w, Nat.mod_lt _ (Nat.pos_of_neZero w)⟩ : Fin w))

/-- Two rows cast to rows of 128 numbers, read at a place. -/
theorem flat_cast (w n : ℕ) [NeZero w] (a : (Pair w).Idx → EReal) (h : Shape.ShapeCasts (Pair w) (Lanes n)) (hn : n * 128 = 2 * w)
    (p : Fin n) (c : Fin 128) : shapeCast (Lanes n) a h (ix2 p c) = flat w a (p.val * 128 + c.val) := by
  have hw : 0 < w := Nat.pos_of_neZero w
  have hp : p.val * 128 + c.val < 2 * w := by have := p.isLt; have := c.isLt; omega
  have hd : (p.val * 128 + c.val) / w < 2 := Nat.div_lt_of_lt_mul (by omega)
  refine shapeCast_apply _ _ _ _ ?_
  rw [Shape.rowMajor_val_two, Shape.rowMajor_val_two]
  show (p.val * 128 + c.val) / w % 2 * w + (p.val * 128 + c.val) % w = p.val * 128 + c.val
  rw [Nat.mod_eq_of_lt hd]
  exact Nat.div_add_mod' _ _

/-- Two rows of 16 numbers filled up with zeros to rows of 128, read at a place. -/
theorem flat_pad (a : (Pair 16).Idx → EReal) {u : Shape} (v : u.Idx → EReal) (h : (Pair 16).Pads ![0, 0] ![0, 112] ![0, 0] (Lanes 2))
    (hu : 0 < u.numel) (hv : v (Shape.Idx.first hu) = 0) (p : Fin 2) (c : Fin 128) :
    pad (Lanes 2) ![0, 0] ![0, 112] ![0, 0] a v h hu (ix2 p c) = if c.val < 16 then flat 16 a (p.val * 16 + c.val) else 0 := by
  have hp := p.isLt
  by_cases hc : c.val < 16
  · rw [if_pos hc]
    refine pad_apply_of_inside _ _ _ _ _ _ _ _ _ fun b => ?_
    match b with
    | ⟨0, _⟩ => show p.val = 0 + (p.val * 16 + c.val) / 16 % 2 * (0 + 1); omega
    | ⟨1, _⟩ => show c.val = 0 + (p.val * 16 + c.val) % 16 * (0 + 1); omega
  · rw [if_neg hc]
    refine (pad_apply_of_not_inside _ _ _ _ _ _ _ _ 1 ?_).trans hv
    show ¬ (0 ≤ c.val ∧ (c.val - 0) % (0 + 1) = 0 ∧ (c.val - 0) / (0 + 1) < 16)
    rw [Nat.sub_zero, Nat.div_one]
    exact fun h => hc h.2.2

/-- The nine arrays. -/
structure Parts where
  a0 : (Pair 2048).Idx → EReal
  a1 : (Pair 2048).Idx → EReal
  a2 : (Pair 2048).Idx → EReal
  a3 : (Pair 2048).Idx → EReal
  a4 : (Pair 2048).Idx → EReal
  a5 : (Pair 1024).Idx → EReal
  a6 : (Pair 1024).Idx → EReal
  a7 : (Pair 1024).Idx → EReal
  a8 : (Pair 16).Idx → EReal

/-- The number at a place of the whole; the last array's rows are filled up with zeros. -/
def Parts.entry (P : Parts) (r c : ℕ) : EReal :=
  if r < 32 then flat 2048 P.a0 (r * 128 + c)
  else if r < 64 then flat 2048 P.a1 ((r - 32) * 128 + c)
  else if r < 96 then flat 2048 P.a2 ((r - 64) * 128 + c)
  else if r < 128 then flat 2048 P.a3 ((r - 96) * 128 + c)
  else if r < 160 then flat 2048 P.a4 ((r - 128) * 128 + c)
  else if r < 176 then flat 1024 P.a5 ((r - 160) * 128 + c)
  else if r < 192 then flat 1024 P.a6 ((r - 176) * 128 + c)
  else if r < 208 then flat 1024 P.a7 ((r - 192) * 128 + c)
  else if r < 210 then if c < 16 then flat 16 P.a8 ((r - 208) * 16 + c) else 0
  else 0

/-- An operation of four numbers, taken entry by entry. -/
def map4 (f : EReal → EReal → EReal → EReal → EReal) (P Q R S : Parts) : Parts where
  a0 i := f (P.a0 i) (Q.a0 i) (R.a0 i) (S.a0 i)
  a1 i := f (P.a1 i) (Q.a1 i) (R.a1 i) (S.a1 i)
  a2 i := f (P.a2 i) (Q.a2 i) (R.a2 i) (S.a2 i)
  a3 i := f (P.a3 i) (Q.a3 i) (R.a3 i) (S.a3 i)
  a4 i := f (P.a4 i) (Q.a4 i) (R.a4 i) (S.a4 i)
  a5 i := f (P.a5 i) (Q.a5 i) (R.a5 i) (S.a5 i)
  a6 i := f (P.a6 i) (Q.a6 i) (R.a6 i) (S.a6 i)
  a7 i := f (P.a7 i) (Q.a7 i) (R.a7 i) (S.a7 i)
  a8 i := f (P.a8 i) (Q.a8 i) (R.a8 i) (S.a8 i)

/-- It may be taken after the arrays are laid out, where it gives zero of zeros. -/
theorem map4_entry (f : EReal → EReal → EReal → EReal → EReal) (hf : f 0 0 0 0 = 0) (P Q R S : Parts) (r c : ℕ) :
    (map4 f P Q R S).entry r c = f (P.entry r c) (Q.entry r c) (R.entry r c) (S.entry r c) := by
  unfold Parts.entry
  by_cases c0 : r < 32
  · simp only [if_pos c0]
    rfl
  simp only [if_neg c0]
  by_cases c1 : r < 64
  · simp only [if_pos c1]
    rfl
  simp only [if_neg c1]
  by_cases c2 : r < 96
  · simp only [if_pos c2]
    rfl
  simp only [if_neg c2]
  by_cases c3 : r < 128
  · simp only [if_pos c3]
    rfl
  simp only [if_neg c3]
  by_cases c4 : r < 160
  · simp only [if_pos c4]
    rfl
  simp only [if_neg c4]
  by_cases c5 : r < 176
  · simp only [if_pos c5]
    rfl
  simp only [if_neg c5]
  by_cases c6 : r < 192
  · simp only [if_pos c6]
    rfl
  simp only [if_neg c6]
  by_cases c7 : r < 208
  · simp only [if_pos c7]
    rfl
  simp only [if_neg c7]
  by_cases c8 : r < 210
  · simp only [if_pos c8]
    by_cases c9 : c < 16
    · simp only [if_pos c9]
      rfl
    · simp only [if_neg c9]
      exact hf.symm
  · simp only [if_neg c8]
    exact hf.symm

/-- The arrays to be laid one after another. -/
def pieces (b0 b1 b2 b3 b4 : (Lanes 32).Idx → EReal) (b5 b6 b7 : (Lanes 16).Idx → EReal) (b8 : (Lanes 2).Idx → EReal)
    (b9 : (Lanes 6).Idx → EReal) : List ((s : Shape) × (s.Idx → EReal)) :=
  [⟨Lanes 32, b0⟩, ⟨Lanes 32, b1⟩, ⟨Lanes 32, b2⟩, ⟨Lanes 32, b3⟩, ⟨Lanes 32, b4⟩, ⟨Lanes 16, b5⟩, ⟨Lanes 16, b6⟩, ⟨Lanes 16, b7⟩,
     ⟨Lanes 2, b8⟩, ⟨Lanes 6, b9⟩]

/-- The arrays laid one after another hold at a place what the whole holds there. -/
theorem stacked (P : Parts) (b0 b1 b2 b3 b4 : (Lanes 32).Idx → EReal) (b5 b6 b7 : (Lanes 16).Idx → EReal)
    (b8 : (Lanes 2).Idx → EReal) (b9 : (Lanes 6).Idx → EReal)
    (g0 : ∀ p c, b0 (ix2 p c) = flat 2048 P.a0 (p.val * 128 + c.val)) (g1 : ∀ p c, b1 (ix2 p c) = flat 2048 P.a1 (p.val * 128 + c.val))
    (g2 : ∀ p c, b2 (ix2 p c) = flat 2048 P.a2 (p.val * 128 + c.val)) (g3 : ∀ p c, b3 (ix2 p c) = flat 2048 P.a3 (p.val * 128 + c.val))
    (g4 : ∀ p c, b4 (ix2 p c) = flat 2048 P.a4 (p.val * 128 + c.val)) (g5 : ∀ p c, b5 (ix2 p c) = flat 1024 P.a5 (p.val * 128 + c.val))
    (g6 : ∀ p c, b6 (ix2 p c) = flat 1024 P.a6 (p.val * 128 + c.val)) (g7 : ∀ p c, b7 (ix2 p c) = flat 1024 P.a7 (p.val * 128 + c.val))
    (g8 : ∀ p c, b8 (ix2 p c) = if c.val < 16 then flat 16 P.a8 (p.val * 16 + c.val) else 0) (g9 : ∀ p c, b9 (ix2 p c) = 0)
    (h : Shape.Concatenates [Lanes 32, Lanes 32, Lanes 32, Lanes 32, Lanes 32, Lanes 16, Lanes 16, Lanes 16, Lanes 2, Lanes 6] (Lanes 216) 0)
    (i : (Lanes 216).Idx) :
    concatenate (Lanes 216) 0 [⟨Lanes 32, b0⟩, ⟨Lanes 32, b1⟩, ⟨Lanes 32, b2⟩, ⟨Lanes 32, b3⟩, ⟨Lanes 32, b4⟩, ⟨Lanes 16, b5⟩, ⟨Lanes 16, b6⟩,
      ⟨Lanes 16, b7⟩, ⟨Lanes 2, b8⟩, ⟨Lanes 6, b9⟩] h i = P.entry (i 0).val (i 1).val := by
  have hr : (i 0).val < 216 := (i 0).isLt
  have h' : Shape.Concatenates ((pieces b0 b1 b2 b3 b4 b5 b6 b7 b8 b9).map (·.1)) (Lanes 216) 0 := h
  have one : ∀ (n pre : ℕ) (hn : pre ≤ (i 0).val) (hl : (i 0).val < pre + n) (k : ℕ) (b : (Lanes n).Idx → EReal)
      (hx : k < (pieces b0 b1 b2 b3 b4 b5 b6 b7 b8 b9).length) (hb : (pieces b0 b1 b2 b3 b4 b5 b6 b7 b8 b9)[k] = ⟨Lanes n, b⟩)
      (hs : ((((pieces b0 b1 b2 b3 b4 b5 b6 b7 b8 b9).take k).map (·.1)).map fun s =>
        if h : s.rank = 2 then s.size ((0 : Fin 2).cast h.symm) else 0).sum = pre),
      concatenate (Lanes 216) 0 (pieces b0 b1 b2 b3 b4 b5 b6 b7 b8 b9) h' i = b (ix2 (⟨(i 0).val - pre, by omega⟩ : Fin n) (i 1)) := by
    intro n pre hn hl k b hx hb hs
    refine concatenate_apply_piece (t := Lanes 216) 0 _ h' i k hx (Lanes n) b hb rfl pre hs _ (fun a ha => ?_) ?_
    · match a with
      | ⟨0, _⟩ => exact absurd rfl ha
      | ⟨1, _⟩ => rfl
    · show pre + ((i 0).val - pre) = (i 0).val
      omega
  show concatenate (Lanes 216) 0 (pieces b0 b1 b2 b3 b4 b5 b6 b7 b8 b9) h' i = _
  rw [Parts.entry]
  by_cases c0 : (i 0).val < 32
  · rw [if_pos c0]
    exact (one 32 0 (by omega) (by omega) 0 b0 (by show 0 < 10; decide) rfl rfl).trans (g0 _ _)
  rw [if_neg c0]
  by_cases c1 : (i 0).val < 64
  · rw [if_pos c1]
    exact (one 32 32 (by omega) (by omega) 1 b1 (by show 1 < 10; decide) rfl rfl).trans (g1 _ _)
  rw [if_neg c1]
  by_cases c2 : (i 0).val < 96
  · rw [if_pos c2]
    exact (one 32 64 (by omega) (by omega) 2 b2 (by show 2 < 10; decide) rfl rfl).trans (g2 _ _)
  rw [if_neg c2]
  by_cases c3 : (i 0).val < 128
  · rw [if_pos c3]
    exact (one 32 96 (by omega) (by omega) 3 b3 (by show 3 < 10; decide) rfl rfl).trans (g3 _ _)
  rw [if_neg c3]
  by_cases c4 : (i 0).val < 160
  · rw [if_pos c4]
    exact (one 32 128 (by omega) (by omega) 4 b4 (by show 4 < 10; decide) rfl rfl).trans (g4 _ _)
  rw [if_neg c4]
  by_cases c5 : (i 0).val < 176
  · rw [if_pos c5]
    exact (one 16 160 (by omega) (by omega) 5 b5 (by show 5 < 10; decide) rfl rfl).trans (g5 _ _)
  rw [if_neg c5]
  by_cases c6 : (i 0).val < 192
  · rw [if_pos c6]
    exact (one 16 176 (by omega) (by omega) 6 b6 (by show 6 < 10; decide) rfl rfl).trans (g6 _ _)
  rw [if_neg c6]
  by_cases c7 : (i 0).val < 208
  · rw [if_pos c7]
    exact (one 16 192 (by omega) (by omega) 7 b7 (by show 7 < 10; decide) rfl rfl).trans (g7 _ _)
  rw [if_neg c7]
  by_cases c8 : (i 0).val < 210
  · rw [if_pos c8]
    exact (one 2 208 (by omega) (by omega) 8 b8 (by show 8 < 10; decide) rfl rfl).trans (g8 _ _)
  rw [if_neg c8]
  exact (one 6 210 (by omega) (by omega) 9 b9 (by show 9 < 10; decide) rfl rfl).trans (g9 _ _)

end Cert.Stacked

end
-- ==== Proof.Bounds.lean ====
/- The gradient of the logits of the lower bounds: the lower bound of the first layer is zero, that of the second is the second softmax weight. -/
module

public import proofs.«01_k».proof.Proof.Gen.Reference27Ideal.Read
public import Idealize.ShloMosaic.Lib.Pipeline.ValueKit
public import Idealize.ShloMosaic.Lib.Pointwise
public import Idealize.ShloMosaic.Lib.KernelVsHost

@[expose] public section

set_option maxRecDepth 16384

noncomputable section

namespace Cert.Bounds

open Cert.Reference27Ideal Cert.Reference27Ideal.Read Idealize.ShloMosaic

/-- A position of the window that lies inside the array reads the array there. -/
theorem inside (x : S2x1024.Idx → EReal) (v : EReal) (p : Fin 2 → ℕ) (i : S2x1024.Idx) (hp : ∀ a, p a = (i a).val)
    (D : Decidable (∀ a : Fin 2, (![0, 0] : Fin 2 → ℕ) a ≤ p a ∧ p a - (![0, 0] : Fin 2 → ℕ) a < (![2, 1024] : Fin 2 → ℕ) a)) :
    @dite EReal _ D (fun hin => x (fun a => ⟨p a - (![0, 0] : Fin 2 → ℕ) a, (hin a).2⟩)) (fun _ => v) = x i := by
  have z : ∀ a : Fin 2, (![0, 0] : Fin 2 → ℕ) a = 0 := by decide
  refine (dif_pos fun a => ⟨by rw [z]; exact Nat.zero_le _, by rw [z, hp]; exact (i a).isLt⟩).trans ?_
  refine congrArg x (funext fun a => Fin.ext ?_)
  show p a - (![0, 0] : Fin 2 → ℕ) a = (i a).val
  rw [z, hp, Nat.sub_zero]

/-- A position of the window below the last row reads the initial value. -/
theorem outside (x : S2x1024.Idx → EReal) (v : EReal) (p : Fin 2 → ℕ) (hp : p 0 = 2)
    (D : Decidable (∀ a : Fin 2, (![0, 0] : Fin 2 → ℕ) a ≤ p a ∧ p a - (![0, 0] : Fin 2 → ℕ) a < (![2, 1024] : Fin 2 → ℕ) a)) :
    @dite EReal _ D (fun hin => x (fun a => ⟨p a - (![0, 0] : Fin 2 → ℕ) a, (hin a).2⟩)) (fun _ => v) = v := by
  refine dif_neg fun hin => ?_
  have := (hin 0).2
  rw [hp] at this
  exact absurd this (by decide)

/-- The window's positions. -/
theorem position : ∀ n : Fin 2, ((⟨2, ![2, 1]⟩ : Shape).rowMajor.symm ⟨n.val, n.isLt⟩ 0).val = n.val
    ∧ ((⟨2, ![2, 1]⟩ : Shape).rowMajor.symm ⟨n.val, n.isLt⟩ 1).val = 0 := by
  decide +kernel

variable (x : S2x1024.Idx → EReal) (z : S_.Idx → EReal) (h : S2x1024.ReduceWindows ![2, 1] ![1, 1] ![0, 0] ![1, 0] S2x1024)
  (hu : 0 < S_.numel) (c : Fin 1024)

/-- The sum of the rows from the first on. -/
theorem window_first : Host.reduceWindowAdd (F := Ideal) (φ := .f32) ![2, 1] ![1, 1] ![0, 0] ![1, 0] x z h hu (ix2 (0 : Fin 2) c)
    = z (Shape.Idx.first hu) + x (ix2 (0 : Fin 2) c) + x (ix2 (1 : Fin 2) c) := by
  have e : List.finRange (⟨2, ![2, 1]⟩ : Shape).numel = [⟨0, by decide⟩, ⟨1, by decide⟩] := by decide
  show Host.reduceWindow (· + ·) ![2, 1] ![1, 1] ![0, 0] ![1, 0] x (fun _ : (⟨0, ![]⟩ : Shape).Idx => z (Shape.Idx.first hu)) h hu
    (ix2 (0 : Fin 2) c) = _
  unfold Host.reduceWindow
  dsimp only
  rw [e]
  simp only [List.foldl]
  refine congrArg₂ (· + ·) (congrArg (z (Shape.Idx.first hu) + ·) (inside x _ _ (ix2 (0 : Fin 2) c) (fun a => ?_) _))
    (inside x _ _ (ix2 (1 : Fin 2) c) (fun a => ?_) _)
  · match a with
    | ⟨0, _⟩ => exact congrArg (0 * 1 + ·) (position 0).1
    | ⟨1, _⟩ => exact (congrArg (c.val * 1 + ·) (position 0).2).trans (by show c.val * 1 + 0 = c.val; omega)
  · match a with
    | ⟨0, _⟩ => exact congrArg (0 * 1 + ·) (position 1).1
    | ⟨1, _⟩ => exact (congrArg (c.val * 1 + ·) (position 1).2).trans (by show c.val * 1 + 0 = c.val; omega)

/-- The sum of the rows from the second on. -/
theorem window_second : Host.reduceWindowAdd (F := Ideal) (φ := .f32) ![2, 1] ![1, 1] ![0, 0] ![1, 0] x z h hu (ix2 (1 : Fin 2) c)
    = z (Shape.Idx.first hu) + x (ix2 (1 : Fin 2) c) + z (Shape.Idx.first hu) := by
  have e : List.finRange (⟨2, ![2, 1]⟩ : Shape).numel = [⟨0, by decide⟩, ⟨1, by decide⟩] := by decide
  show Host.reduceWindow (· + ·) ![2, 1] ![1, 1] ![0, 0] ![1, 0] x (fun _ : (⟨0, ![]⟩ : Shape).Idx => z (Shape.Idx.first hu)) h hu
    (ix2 (1 : Fin 2) c) = _
  unfold Host.reduceWindow
  dsimp only
  rw [e]
  simp only [List.foldl]
  refine congrArg₂ (· + ·) (congrArg (z (Shape.Idx.first hu) + ·) (inside x _ _ (ix2 (1 : Fin 2) c) (fun a => ?_) _))
    (outside x _ _ ?_ _)
  · match a with
    | ⟨0, _⟩ => exact congrArg (1 * 1 + ·) (position 0).1
    | ⟨1, _⟩ => exact (congrArg (c.val * 1 + ·) (position 0).2).trans (by show c.val * 1 + 0 = c.val; omega)
  · exact congrArg (1 * 1 + ·) (position 1).1

/-- The greatest of two rows, taken from minus infinity, is the greater of the two. -/
theorem top (x : S2x1024.Idx → EReal) (c : Fin 1024) :
    max (val_main_cst_1 (F := Ideal) ix0) (val_main_v0 (F := Ideal) x (ix1 c)) = max (x (ix2 (0 : Fin 2) c)) (x (ix2 (1 : Fin 2) c)) := by
  have hm : Ideal.ofBits .f32 0xFF800000#32 = ⊥ := by simp [Ideal.ofBits, Ideal.ieee]
  have h : S2x1024.Reduces [0] S1024 := by decide
  have e : val_main_v0 (F := Ideal) x (ix1 c) = max (x (ix2 (0 : Fin 2) c)) (max (x (ix2 (1 : Fin 2) c)) ⊥) := by
    unfold val_main_v0
    rw [Host.reduce_eq_fold_single _ _ _ _ h]
    have two : ∀ f : Fin 2 → EReal, Finset.fold max (⊥ : EReal) f Finset.univ = max (f 0) (max (f 1) ⊥) := fun f => by
      have u : (Finset.univ : Finset (Fin 2)) = {0, 1} := rfl
      rw [u, Finset.fold_insert (by decide), Finset.fold_singleton]
    have l : ∀ k : Fin 2, (x ∘ h.lift (ix1 c)) k = x (ix2 k c) := fun k => congrArg x (funext fun a => Fin.ext (by
      match a with
      | ⟨0, _⟩ => rfl
      | ⟨1, _⟩ => rfl))
    have b : val_main_cst (F := Ideal) (Shape.Idx.first Gen.h_S_) = ⊥ := hm
    rw [b]
    exact (two _).trans (congrArg₂ max (l 0) (congrArg (max · ⊥) (l 1)))
  have b : val_main_cst_1 (F := Ideal) ix0 = ⊥ := hm
  rw [b, e, max_bot_left, max_bot_right]

/-- The padding below the first row. -/
theorem pad_first (g : S2x1024.Idx → EReal) (c : Fin 1024) :
    val_main_v36 (F := Ideal) g (ix2 (0 : Fin 2) c) = val_main_v35 (F := Ideal) g (ix2 (0 : Fin 1) c) := by
  unfold val_main_v36
  refine pad_apply_of_inside _ _ _ _ _ _ _ _ (ix2 (0 : Fin 1) c) fun a => ?_
  match a with
  | ⟨0, _⟩ => rfl
  | ⟨1, _⟩ => show c.val = 0 + c.val * (0 + 1); omega

/-- The second row of it. -/
theorem pad_second (g : S2x1024.Idx → EReal) (c : Fin 1024) : val_main_v36 (F := Ideal) g (ix2 (1 : Fin 2) c) = 0 := by
  unfold val_main_v36
  refine (pad_apply_of_not_inside _ _ _ _ _ _ _ _ 0 ?_).trans ?_
  · show ¬ (0 ≤ 1 ∧ (1 - 0) % (0 + 1) = 0 ∧ (1 - 0) / (0 + 1) < 1)
    decide
  · show Ideal.ofBits .f32 0x00000000#32 = 0
    simp [Ideal.ofBits, Ideal.ieee]

/-- The softmax weight of the first of two numbers. -/
def weight₀ (x y : EReal) : EReal := Ideal.div (Ideal.exp (x - max x y)) (Ideal.exp (x - max x y) + Ideal.exp (y - max x y))

/-- The softmax weight of the second. -/
def weight₁ (x y : EReal) : EReal := Ideal.div (Ideal.exp (y - max x y)) (Ideal.exp (x - max x y) + Ideal.exp (y - max x y))

/-- The exponentials of two real numbers less the greater of them are positive. -/
theorem exps_real (x y : ℝ) : ∃ a b : ℝ, 0 < a ∧ 0 < b ∧ Ideal.exp ((x : EReal) - max (x : EReal) y) = (a : EReal)
    ∧ Ideal.exp ((y : EReal) - max (x : EReal) y) = (b : EReal) := by
  obtain ⟨M, hM⟩ : ∃ M : ℝ, max (x : EReal) y = (M : EReal) := by
    rcases le_total x y with h | h
    · exact ⟨y, max_eq_right (EReal.coe_le_coe_iff.mpr h)⟩
    · exact ⟨x, max_eq_left (EReal.coe_le_coe_iff.mpr h)⟩
  refine ⟨Real.exp (x - M), Real.exp (y - M), Real.exp_pos _, Real.exp_pos _, ?_, ?_⟩
  · rw [hM, ← EReal.coe_sub, Ideal.exp_coe]
  · rw [hM, ← EReal.coe_sub, Ideal.exp_coe]

/-- The constants. -/
theorem zero_words (k : S_.Idx) : val_main_cst_7 (F := Ideal) k = 0 ∧ val_main_cst_9 (F := Ideal) k = 0 ∧ val_main_cst_11 (F := Ideal) k = 0 ∧ val_main_cst_12 (F := Ideal) k = 0
    ∧ val_main_call1_call0_v0 (F := Ideal) k = 0 ∧ val_main_cst_8 (F := Ideal) k = 1 := by
  have z : Ideal.ofBits .f32 0x00000000#32 = 0 := by simp [Ideal.ofBits, Ideal.ieee]
  have o : Ideal.ofBits .f32 0x3F800000#32 = 1 := by
    simp [Ideal.ofBits, Ideal.ieee]
    rw [← EReal.coe_mul, ← EReal.coe_one]
    norm_num
  exact ⟨z, z, z, z, z, o⟩

/-- The gradient of the logits, at the first row. -/
theorem lb_first (x g : S2x1024.Idx → EReal) (c : Fin 1024) (hx : ∀ i, ∃ r : ℝ, x i = (r : EReal)) (hg : ∀ i, ∃ r : ℝ, g i = (r : EReal)) :
    val_main_v50 (F := Ideal) x g (ix2 (0 : Fin 2) c)
      = weight₀ (x (ix2 (0 : Fin 2) c)) (x (ix2 (1 : Fin 2) c))
        * (0 - weight₁ (x (ix2 (0 : Fin 2) c)) (x (ix2 (1 : Fin 2) c)) * g (ix2 (1 : Fin 2) c)) := by
  pointwise [val_main_v50, val_main_v49, val_main_v48, val_main_v47, val_main_v46, val_main_v45, val_main_v44, val_main_v43,
    val_main_v42, val_main_v41, val_main_v40, val_main_v39, val_main_v38, val_main_v27, val_main_v26, val_main_v25, val_main_v22,
    val_main_v21, val_main_v20, val_main_v19, val_main_v18, val_main_v17, val_main_v7, val_main_v6]
  rw [Fin.sum_univ_one, Fin.sum_univ_two, Fin.sum_univ_two, pad_first, pad_second, top, (zero_words _).1, (zero_words _).2.2.1,
    (zero_words _).2.2.2.1, (zero_words _).2.2.2.2.2]
  unfold val_main_v37
  rw [window_first, window_second, (zero_words _).2.2.2.2.1]
  pointwise [val_main_v35, val_main_v34, val_main_v33, val_main_v32]
  rw [Fin.sum_univ_two, (zero_words _).2.1]
  unfold weight₀ weight₁
  obtain ⟨x0, h0⟩ := hx (ix2 (0 : Fin 2) c)
  obtain ⟨x1, h1⟩ := hx (ix2 (1 : Fin 2) c)
  obtain ⟨g0, k0⟩ := hg (ix2 (0 : Fin 2) c)
  obtain ⟨g1, k1⟩ := hg (ix2 (1 : Fin 2) c)
  rw [h0, h1, k0, k1]
  obtain ⟨a, b, ha, hb, ea, eb⟩ := exps_real x0 x1
  rw [ea, eb]
  have hs : a + b ≠ 0 := by positivity
  have hq : (a + b) * (a + b) ≠ 0 := by positivity
  simp only [zero_add, add_zero, zero_sub, ← EReal.coe_add, ← EReal.coe_mul, ← EReal.coe_neg]
  simp only [Ideal.div_coe hs, Ideal.div_coe hq, one_mul, ← EReal.coe_add, ← EReal.coe_mul, ← EReal.coe_neg, ← EReal.coe_sub]
  refine congrArg _ ?_
  field_simp
  ring

/-- The gradient of the logits, at the second row. -/
theorem lb_second (x g : S2x1024.Idx → EReal) (c : Fin 1024) (hx : ∀ i, ∃ r : ℝ, x i = (r : EReal)) (hg : ∀ i, ∃ r : ℝ, g i = (r : EReal)) :
    val_main_v50 (F := Ideal) x g (ix2 (1 : Fin 2) c)
      = weight₁ (x (ix2 (0 : Fin 2) c)) (x (ix2 (1 : Fin 2) c))
        * (g (ix2 (1 : Fin 2) c) - weight₁ (x (ix2 (0 : Fin 2) c)) (x (ix2 (1 : Fin 2) c)) * g (ix2 (1 : Fin 2) c)) := by
  pointwise [val_main_v50, val_main_v49, val_main_v48, val_main_v47, val_main_v46, val_main_v45, val_main_v44, val_main_v43,
    val_main_v42, val_main_v41, val_main_v40, val_main_v39, val_main_v38, val_main_v27, val_main_v26, val_main_v25, val_main_v22,
    val_main_v21, val_main_v20, val_main_v19, val_main_v18, val_main_v17, val_main_v7, val_main_v6]
  rw [Fin.sum_univ_one, Fin.sum_univ_two, Fin.sum_univ_two, pad_first, pad_second, top, (zero_words _).1, (zero_words _).2.2.1,
    (zero_words _).2.2.2.1, (zero_words _).2.2.2.2.2]
  unfold val_main_v37
  rw [window_first, window_second, (zero_words _).2.2.2.2.1]
  pointwise [val_main_v35, val_main_v34, val_main_v33, val_main_v32]
  rw [Fin.sum_univ_two, (zero_words _).2.1]
  unfold weight₁
  obtain ⟨x0, h0⟩ := hx (ix2 (0 : Fin 2) c)
  obtain ⟨x1, h1⟩ := hx (ix2 (1 : Fin 2) c)
  obtain ⟨g0, k0⟩ := hg (ix2 (0 : Fin 2) c)
  obtain ⟨g1, k1⟩ := hg (ix2 (1 : Fin 2) c)
  rw [h0, h1, k0, k1]
  obtain ⟨a, b, ha, hb, ea, eb⟩ := exps_real x0 x1
  rw [ea, eb]
  have hs : a + b ≠ 0 := by positivity
  have hq : (a + b) * (a + b) ≠ 0 := by positivity
  simp only [zero_add, add_zero, zero_sub, ← EReal.coe_add, ← EReal.coe_mul, ← EReal.coe_neg]
  simp only [Ideal.div_coe hs, Ideal.div_coe hq, one_mul, ← EReal.coe_add, ← EReal.coe_mul, ← EReal.coe_neg, ← EReal.coe_sub]
  refine congrArg _ ?_
  field_simp
  ring

end Cert.Bounds

end
-- ==== Proof.SmallRef.lean ====
/- The reference's step of the optimiser for the nine parameters of few numbers, read at a place of its results. -/
module

public import proofs.«01_k».proof.Proof.Stacked
public import proofs.«01_k».proof.Proof.Gen.Reference27Ideal.Read

@[expose] public section

set_option maxRecDepth 16384

noncomputable section

namespace Cert.SmallSpec

open Idealize.ShloMosaic Cert.Stacked Cert.Reference27Ideal Cert.Reference27Ideal.Read

/-- The new first moment. -/
def moment (g x : EReal) : EReal := Ideal.ofBits .f32 0x3F666666#32 * x + Ideal.ofBits .f32 0x3DCCCCCD#32 * g

/-- The new second moment. -/
def square (g u : EReal) : EReal := Ideal.ofBits .f32 0x3F7FBE77#32 * u + Ideal.ofBits .f32 0x3A83126F#32 * (g * g)

/-- The change of a parameter. -/
def change (w g x u : EReal) : EReal :=
  Ideal.ofBits .f32 0xBA83126F#32 * (Ideal.div (Ideal.div (moment g x) (Ideal.ofBits .f32 0x3F26BD02#32))
      (Ideal.sqrt (Ideal.div (square g u) (Ideal.ofBits .f32 0x3C231ACC#32)) + Ideal.ofBits .f32 0x322BCC77#32)
    + Ideal.ofBits .f32 0x3C23D70A#32 * w)

theorem zero_word : Ideal.ofBits .f32 0x00000000#32 = 0 := by simp [Ideal.ofBits, Ideal.ieee]

theorem zero_cast : ((((0#32 : BitVec 32).toInt : ℤ) : ℝ) : EReal) = 0 := by simp

theorem moment_zero : moment 0 0 = 0 := by simp only [moment, mul_zero, add_zero]

theorem square_zero : square 0 0 = 0 := by simp only [square, mul_zero, add_zero]

theorem div_zero_real {r : ℝ} (h : r ≠ 0) : Ideal.div 0 (r : EReal) = 0 := by
  unfold Ideal.div
  rw [if_neg (fun e => h (by exact_mod_cast e)), zero_mul]

/-- A word that stands for a real number other than nought. -/
theorem words : (∃ r : ℝ, r ≠ 0 ∧ Ideal.ofBits .f32 0x3F26BD02#32 = (r : EReal)) ∧ (∃ r : ℝ, r ≠ 0 ∧ Ideal.ofBits .f32 0x3C231ACC#32 = (r : EReal))
    ∧ (∃ r : ℝ, r ≠ 0 ∧ Ideal.ofBits .f32 0x322BCC77#32 = (r : EReal)) := by
  refine ⟨⟨_, ?_, by simp [Ideal.ofBits, Ideal.ieee]; rfl⟩, ⟨_, ?_, by simp [Ideal.ofBits, Ideal.ieee]; rfl⟩, ⟨_, ?_, by simp [Ideal.ofBits, Ideal.ieee]; rfl⟩⟩ <;> norm_num

theorem change_zero : change 0 0 0 0 = 0 := by
  obtain ⟨⟨a, ha, ea⟩, ⟨b, hb, eb⟩, ⟨e, he, ee⟩⟩ := words
  have r : Ideal.sqrt 0 = 0 := by
    show Ideal.sqrt ((0 : ℝ) : EReal) = 0
    rw [Ideal.sqrt_coe, if_neg (lt_irrefl _), Real.sqrt_zero]
    rfl
  unfold change
  rw [moment_zero, square_zero, ea, eb, ee, div_zero_real ha, div_zero_real hb, r, zero_add, div_zero_real he, mul_zero, add_zero, mul_zero]

/-- The gradients, packed. -/
theorem grads_at (x0 x1 x2 x3 x4 : (Pair 2048).Idx → EReal) (x5 x6 x7 : (Pair 1024).Idx → EReal) (x8 : (Pair 16).Idx → EReal) (x9 x10 x11 x12 x13 : (Pair 2048).Idx → EReal) (x14 x15 x16 : (Pair 1024).Idx → EReal) (x17 : (Pair 16).Idx → EReal) (x18 x19 x20 x21 x22 : (Pair 2048).Idx → EReal) (x23 x24 x25 : (Pair 1024).Idx → EReal) (x26 : (Pair 16).Idx → EReal) (x27 x28 x29 x30 x31 : (Pair 2048).Idx → EReal) (x32 x33 x34 : (Pair 1024).Idx → EReal) (x35 : (Pair 16).Idx → EReal) :
    val_main_v277 (F := Ideal) x7 x9 x10 x11 x12 x13 x14 x15 x16 x17 = fun i => (map4 (fun _ g _ _ => g) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩).entry (i 0).val (i 1).val := by
  funext i
  unfold val_main_v277
  refine stacked (map4 (fun _ g _ _ => g) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · exact flat_cast 2048 32 _ _ rfl p q
  · exact flat_cast 2048 32 _ _ rfl p q
  · exact flat_cast 2048 32 _ _ rfl p q
  · exact flat_cast 2048 32 _ _ rfl p q
  · exact flat_cast 2048 32 _ _ rfl p q
  · exact flat_cast 1024 16 _ _ rfl p q
  · exact flat_cast 1024 16 _ _ rfl p q
  · exact flat_cast 1024 16 _ _ rfl p q
  · refine flat_pad _ _ _ _ ?_ p q
    exact zero_cast
  · exact zero_word

/-- The changes of the parameters, packed. -/
theorem changes_at (x0 x1 x2 x3 x4 : (Pair 2048).Idx → EReal) (x5 x6 x7 : (Pair 1024).Idx → EReal) (x8 : (Pair 16).Idx → EReal) (x9 x10 x11 x12 x13 : (Pair 2048).Idx → EReal) (x14 x15 x16 : (Pair 1024).Idx → EReal) (x17 : (Pair 16).Idx → EReal) (x18 x19 x20 x21 x22 : (Pair 2048).Idx → EReal) (x23 x24 x25 : (Pair 1024).Idx → EReal) (x26 : (Pair 16).Idx → EReal) (x27 x28 x29 x30 x31 : (Pair 2048).Idx → EReal) (x32 x33 x34 : (Pair 1024).Idx → EReal) (x35 : (Pair 16).Idx → EReal) :
    val_main_v288 (F := Ideal) x0 x1 x2 x3 x4 x5 x6 x7 x8 x9 x10 x11 x12 x13 x14 x15 x16 x17 x18 x19 x20 x21 x22 x23 x24 x25 x26 x27 x28 x29 x30 x31 x32 x33 x34 x35 = fun i => (map4 change ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩).entry (i 0).val (i 1).val := by
  funext i
  unfold val_main_v288
  refine stacked (map4 change ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · exact flat_cast 2048 32 _ _ rfl p q
  · exact flat_cast 2048 32 _ _ rfl p q
  · exact flat_cast 2048 32 _ _ rfl p q
  · exact flat_cast 2048 32 _ _ rfl p q
  · exact flat_cast 2048 32 _ _ rfl p q
  · exact flat_cast 1024 16 _ _ rfl p q
  · exact flat_cast 1024 16 _ _ rfl p q
  · exact flat_cast 1024 16 _ _ rfl p q
  · refine flat_pad _ _ _ _ ?_ p q
    exact zero_cast
  · exact zero_word

/-- The new first moments, packed. -/
theorem moments_at (x0 x1 x2 x3 x4 : (Pair 2048).Idx → EReal) (x5 x6 x7 : (Pair 1024).Idx → EReal) (x8 : (Pair 16).Idx → EReal) (x9 x10 x11 x12 x13 : (Pair 2048).Idx → EReal) (x14 x15 x16 : (Pair 1024).Idx → EReal) (x17 : (Pair 16).Idx → EReal) (x18 x19 x20 x21 x22 : (Pair 2048).Idx → EReal) (x23 x24 x25 : (Pair 1024).Idx → EReal) (x26 : (Pair 16).Idx → EReal) (x27 x28 x29 x30 x31 : (Pair 2048).Idx → EReal) (x32 x33 x34 : (Pair 1024).Idx → EReal) (x35 : (Pair 16).Idx → EReal) :
    val_main_v299 (F := Ideal) x7 x9 x10 x11 x12 x13 x14 x15 x16 x17 x18 x19 x20 x21 x22 x23 x24 x25 x26 = fun i => (map4 (fun _ g x _ => moment g x) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩).entry (i 0).val (i 1).val := by
  funext i
  unfold val_main_v299
  refine stacked (map4 (fun _ g x _ => moment g x) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · exact flat_cast 2048 32 _ _ rfl p q
  · exact flat_cast 2048 32 _ _ rfl p q
  · exact flat_cast 2048 32 _ _ rfl p q
  · exact flat_cast 2048 32 _ _ rfl p q
  · exact flat_cast 2048 32 _ _ rfl p q
  · exact flat_cast 1024 16 _ _ rfl p q
  · exact flat_cast 1024 16 _ _ rfl p q
  · exact flat_cast 1024 16 _ _ rfl p q
  · refine flat_pad _ _ _ _ ?_ p q
    exact zero_cast
  · exact zero_word

/-- The new second moments, packed. -/
theorem squares_at (x0 x1 x2 x3 x4 : (Pair 2048).Idx → EReal) (x5 x6 x7 : (Pair 1024).Idx → EReal) (x8 : (Pair 16).Idx → EReal) (x9 x10 x11 x12 x13 : (Pair 2048).Idx → EReal) (x14 x15 x16 : (Pair 1024).Idx → EReal) (x17 : (Pair 16).Idx → EReal) (x18 x19 x20 x21 x22 : (Pair 2048).Idx → EReal) (x23 x24 x25 : (Pair 1024).Idx → EReal) (x26 : (Pair 16).Idx → EReal) (x27 x28 x29 x30 x31 : (Pair 2048).Idx → EReal) (x32 x33 x34 : (Pair 1024).Idx → EReal) (x35 : (Pair 16).Idx → EReal) :
    val_main_v310 (F := Ideal) x7 x9 x10 x11 x12 x13 x14 x15 x16 x17 x27 x28 x29 x30 x31 x32 x33 x34 x35 = fun i => (map4 (fun _ g _ u => square g u) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩).entry (i 0).val (i 1).val := by
  funext i
  unfold val_main_v310
  refine stacked (map4 (fun _ g _ u => square g u) ⟨x0, x1, x2, x3, x4, x5, x6, x7, x8⟩ ⟨x9, x10, x11, x12, x13, x14, x15, val_main_v50 (F := Ideal) x7 x16, x17⟩ ⟨x18, x19, x20, x21, x22, x23, x24, x25, x26⟩ ⟨x27, x28, x29, x30, x31, x32, x33, x34, x35⟩) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · exact flat_cast 2048 32 _ _ rfl p q
  · exact flat_cast 2048 32 _ _ rfl p q
  · exact flat_cast 2048 32 _ _ rfl p q
  · exact flat_cast 2048 32 _ _ rfl p q
  · exact flat_cast 2048 32 _ _ rfl p q
  · exact flat_cast 1024 16 _ _ rfl p q
  · exact flat_cast 1024 16 _ _ rfl p q
  · exact flat_cast 1024 16 _ _ rfl p q
  · refine flat_pad _ _ _ _ ?_ p q
    exact zero_cast
  · exact zero_word

end Cert.SmallSpec

end
-- ==== Proof.SmallStep.lean ====
/- One step of the optimiser for the nine parameters of few numbers, laid one after another in rows of 128. -/
module

public import proofs.«01_k».proof.Proof.Stacked
public import proofs.«01_k».proof.Proof.SmallRef
public import proofs.«01_k».proof.Proof.Bounds
public import proofs.«01_k».proof.Proof.Gen.Kernel27Ideal.Value
public import Idealize.ShloMosaic.Lib.StableHlo.RunRead

@[expose] public section

set_option maxRecDepth 16384

noncomputable section

namespace Cert.Kernel27Ideal.Claims

open Cert.Kernel27Ideal Cert.Kernel27Ideal.Gen Cert.Kernel27Ideal.Value Idealize.ShloMosaic Idealize.ShloMosaic.TcCoe
open Idealize.SL.Sem
open Idealize.ShloMosaic.Pipeline (Dat)
open Cert.Stacked Cert.SmallSpec

variable (m : (ℓ : Loc nD τ sig) → Buf (Elt Ideal) ℓ) (c : Dev nD)

/-- The parameters. -/
def params : Parts where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-- The gradients given. -/
def grads : Parts where
  a0 := m ((c : Thread nD τ).loc main_arg9)
  a1 := m ((c : Thread nD τ).loc main_arg10)
  a2 := m ((c : Thread nD τ).loc main_arg11)
  a3 := m ((c : Thread nD τ).loc main_arg12)
  a4 := m ((c : Thread nD τ).loc main_arg13)
  a5 := m ((c : Thread nD τ).loc main_arg14)
  a6 := m ((c : Thread nD τ).loc main_arg15)
  a7 := m ((c : Thread nD τ).loc main_arg16)
  a8 := m ((c : Thread nD τ).loc main_arg17)

/-- The first moments. -/
def firsts : Parts where
  a0 := m ((c : Thread nD τ).loc main_arg18)
  a1 := m ((c : Thread nD τ).loc main_arg19)
  a2 := m ((c : Thread nD τ).loc main_arg20)
  a3 := m ((c : Thread nD τ).loc main_arg21)
  a4 := m ((c : Thread nD τ).loc main_arg22)
  a5 := m ((c : Thread nD τ).loc main_arg23)
  a6 := m ((c : Thread nD τ).loc main_arg24)
  a7 := m ((c : Thread nD τ).loc main_arg25)
  a8 := m ((c : Thread nD τ).loc main_arg26)

/-- The second moments. -/
def seconds : Parts where
  a0 := m ((c : Thread nD τ).loc main_arg27)
  a1 := m ((c : Thread nD τ).loc main_arg28)
  a2 := m ((c : Thread nD τ).loc main_arg29)
  a3 := m ((c : Thread nD τ).loc main_arg30)
  a4 := m ((c : Thread nD τ).loc main_arg31)
  a5 := m ((c : Thread nD τ).loc main_arg32)
  a6 := m ((c : Thread nD τ).loc main_arg33)
  a7 := m ((c : Thread nD τ).loc main_arg34)
  a8 := m ((c : Thread nD τ).loc main_arg35)

/-- The lines of the host before the call. -/
abbrev lines : List (HloOp τ sig (Elt Ideal)) :=
  List.flatten [hostOps0, hostOps0_1, hostOps0_2, hostOps0_3, hostOps0_4, hostOps0_5, hostOps0_6, hostOps0_7, hostOps0_8]

set_option maxHeartbeats 1000000 in
/-- Operand 0 as the call finds it: the parameters. -/
theorem entry0 : V m c (Pipeline.arrRef spec0 0) = (fun i => (params m c).entry (i 0).val (i 1).val : S216x128.Idx → EReal) := by
  show StableHlo.after lines (fun b => m (c, b)) (Proc.devRef .tc main_v10) = _
  after_reads_simp
  funext i
  refine stacked (params m c) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · show StableHlo.upto lines (fun b => m (c, b)) 13 (Proc.devRef .tc main_v0) (ix2 p q) = _
    after_reads_simp
    exact flat_cast 2048 32 _ _ rfl p q
  · show StableHlo.upto lines (fun b => m (c, b)) 13 (Proc.devRef .tc main_v1) (ix2 p q) = _
    after_reads_simp
    exact flat_cast 2048 32 _ _ rfl p q
  · show StableHlo.upto lines (fun b => m (c, b)) 13 (Proc.devRef .tc main_v2) (ix2 p q) = _
    after_reads_simp
    exact flat_cast 2048 32 _ _ rfl p q
  · show StableHlo.upto lines (fun b => m (c, b)) 13 (Proc.devRef .tc main_v3) (ix2 p q) = _
    after_reads_simp
    exact flat_cast 2048 32 _ _ rfl p q
  · show StableHlo.upto lines (fun b => m (c, b)) 13 (Proc.devRef .tc main_v4) (ix2 p q) = _
    after_reads_simp
    exact flat_cast 2048 32 _ _ rfl p q
  · show StableHlo.upto lines (fun b => m (c, b)) 13 (Proc.devRef .tc main_v5) (ix2 p q) = _
    after_reads_simp
    exact flat_cast 1024 16 _ _ rfl p q
  · show StableHlo.upto lines (fun b => m (c, b)) 13 (Proc.devRef .tc main_v6) (ix2 p q) = _
    after_reads_simp
    exact flat_cast 1024 16 _ _ rfl p q
  · show StableHlo.upto lines (fun b => m (c, b)) 13 (Proc.devRef .tc main_v7) (ix2 p q) = _
    after_reads_simp
    exact flat_cast 1024 16 _ _ rfl p q
  · show StableHlo.upto lines (fun b => m (c, b)) 13 (Proc.devRef .tc main_v8) (ix2 p q) = _
    after_reads_simp
    refine flat_pad _ _ pads_S2x16_S2x128_000_01120 _ ?_ p q
    exact zero_cast
  · show StableHlo.upto lines (fun b => m (c, b)) 13 (Proc.devRef .tc main_v9) (ix2 p q) = _
    after_reads_simp
    exact zero_word

set_option maxHeartbeats 1000000 in
/-- Operand 1 as the call finds it: the first moments. -/
theorem entry1 : V m c (Pipeline.arrRef spec0 1) = (fun i => (firsts m c).entry (i 0).val (i 1).val : S216x128.Idx → EReal) := by
  show StableHlo.after lines (fun b => m (c, b)) (Proc.devRef .tc main_v21) = _
  after_reads_simp
  funext i
  refine stacked (firsts m c) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · show StableHlo.upto lines (fun b => m (c, b)) 27 (Proc.devRef .tc main_v11) (ix2 p q) = _
    after_reads_simp
    exact flat_cast 2048 32 _ _ rfl p q
  · show StableHlo.upto lines (fun b => m (c, b)) 27 (Proc.devRef .tc main_v12) (ix2 p q) = _
    after_reads_simp
    exact flat_cast 2048 32 _ _ rfl p q
  · show StableHlo.upto lines (fun b => m (c, b)) 27 (Proc.devRef .tc main_v13) (ix2 p q) = _
    after_reads_simp
    exact flat_cast 2048 32 _ _ rfl p q
  · show StableHlo.upto lines (fun b => m (c, b)) 27 (Proc.devRef .tc main_v14) (ix2 p q) = _
    after_reads_simp
    exact flat_cast 2048 32 _ _ rfl p q
  · show StableHlo.upto lines (fun b => m (c, b)) 27 (Proc.devRef .tc main_v15) (ix2 p q) = _
    after_reads_simp
    exact flat_cast 2048 32 _ _ rfl p q
  · show StableHlo.upto lines (fun b => m (c, b)) 27 (Proc.devRef .tc main_v16) (ix2 p q) = _
    after_reads_simp
    exact flat_cast 1024 16 _ _ rfl p q
  · show StableHlo.upto lines (fun b => m (c, b)) 27 (Proc.devRef .tc main_v17) (ix2 p q) = _
    after_reads_simp
    exact flat_cast 1024 16 _ _ rfl p q
  · show StableHlo.upto lines (fun b => m (c, b)) 27 (Proc.devRef .tc main_v18) (ix2 p q) = _
    after_reads_simp
    exact flat_cast 1024 16 _ _ rfl p q
  · show StableHlo.upto lines (fun b => m (c, b)) 27 (Proc.devRef .tc main_v19) (ix2 p q) = _
    after_reads_simp
    refine flat_pad _ _ pads_S2x16_S2x128_000_01120 _ ?_ p q
    exact zero_cast
  · show StableHlo.upto lines (fun b => m (c, b)) 27 (Proc.devRef .tc main_v20) (ix2 p q) = _
    after_reads_simp
    exact zero_word

set_option maxHeartbeats 1000000 in
/-- Operand 2 as the call finds it: the second moments. -/
theorem entry2 : V m c (Pipeline.arrRef spec0 2) = (fun i => (seconds m c).entry (i 0).val (i 1).val : S216x128.Idx → EReal) := by
  show StableHlo.after lines (fun b => m (c, b)) (Proc.devRef .tc main_v32) = _
  after_reads_simp
  funext i
  refine stacked (seconds m c) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · show StableHlo.upto lines (fun b => m (c, b)) 41 (Proc.devRef .tc main_v22) (ix2 p q) = _
    after_reads_simp
    exact flat_cast 2048 32 _ _ rfl p q
  · show StableHlo.upto lines (fun b => m (c, b)) 41 (Proc.devRef .tc main_v23) (ix2 p q) = _
    after_reads_simp
    exact flat_cast 2048 32 _ _ rfl p q
  · show StableHlo.upto lines (fun b => m (c, b)) 41 (Proc.devRef .tc main_v24) (ix2 p q) = _
    after_reads_simp
    exact flat_cast 2048 32 _ _ rfl p q
  · show StableHlo.upto lines (fun b => m (c, b)) 41 (Proc.devRef .tc main_v25) (ix2 p q) = _
    after_reads_simp
    exact flat_cast 2048 32 _ _ rfl p q
  · show StableHlo.upto lines (fun b => m (c, b)) 41 (Proc.devRef .tc main_v26) (ix2 p q) = _
    after_reads_simp
    exact flat_cast 2048 32 _ _ rfl p q
  · show StableHlo.upto lines (fun b => m (c, b)) 41 (Proc.devRef .tc main_v27) (ix2 p q) = _
    after_reads_simp
    exact flat_cast 1024 16 _ _ rfl p q
  · show StableHlo.upto lines (fun b => m (c, b)) 41 (Proc.devRef .tc main_v28) (ix2 p q) = _
    after_reads_simp
    exact flat_cast 1024 16 _ _ rfl p q
  · show StableHlo.upto lines (fun b => m (c, b)) 41 (Proc.devRef .tc main_v29) (ix2 p q) = _
    after_reads_simp
    exact flat_cast 1024 16 _ _ rfl p q
  · show StableHlo.upto lines (fun b => m (c, b)) 41 (Proc.devRef .tc main_v30) (ix2 p q) = _
    after_reads_simp
    refine flat_pad _ _ pads_S2x16_S2x128_000_01120 _ ?_ p q
    exact zero_cast
  · show StableHlo.upto lines (fun b => m (c, b)) 41 (Proc.devRef .tc main_v31) (ix2 p q) = _
    after_reads_simp
    exact zero_word

set_option maxHeartbeats 1000000 in
/-- Operand 3 as the call finds it: the gradients. -/
theorem entry3 : V m c (Pipeline.arrRef spec0 3) = (fun i => (grads m c).entry (i 0).val (i 1).val : S216x128.Idx → EReal) := by
  show StableHlo.after lines (fun b => m (c, b)) (Proc.devRef .tc main_v43) = _
  after_reads_simp
  funext i
  refine stacked (grads m c) _ _ _ _ _ _ _ _ _ _ (fun p q => ?_) (fun p q => ?_) (fun p q => ?_) (fun p q => ?_) (fun p q => ?_)
    (fun p q => ?_) (fun p q => ?_) (fun p q => ?_) (fun p q => ?_) (fun p q => ?_) _ i
  · show StableHlo.upto lines (fun b => m (c, b)) 55 (Proc.devRef .tc main_v33) (ix2 p q) = _
    after_reads_simp
    exact flat_cast 2048 32 _ _ rfl p q
  · show StableHlo.upto lines (fun b => m (c, b)) 55 (Proc.devRef .tc main_v34) (ix2 p q) = _
    after_reads_simp
    exact flat_cast 2048 32 _ _ rfl p q
  · show StableHlo.upto lines (fun b => m (c, b)) 55 (Proc.devRef .tc main_v35) (ix2 p q) = _
    after_reads_simp
    exact flat_cast 2048 32 _ _ rfl p q
  · show StableHlo.upto lines (fun b => m (c, b)) 55 (Proc.devRef .tc main_v36) (ix2 p q) = _
    after_reads_simp
    exact flat_cast 2048 32 _ _ rfl p q
  · show StableHlo.upto lines (fun b => m (c, b)) 55 (Proc.devRef .tc main_v37) (ix2 p q) = _
    after_reads_simp
    exact flat_cast 2048 32 _ _ rfl p q
  · show StableHlo.upto lines (fun b => m (c, b)) 55 (Proc.devRef .tc main_v38) (ix2 p q) = _
    after_reads_simp
    exact flat_cast 1024 16 _ _ rfl p q
  · show StableHlo.upto lines (fun b => m (c, b)) 55 (Proc.devRef .tc main_v39) (ix2 p q) = _
    after_reads_simp
    exact flat_cast 1024 16 _ _ rfl p q
  · show StableHlo.upto lines (fun b => m (c, b)) 55 (Proc.devRef .tc main_v40) (ix2 p q) = _
    after_reads_simp
    exact flat_cast 1024 16 _ _ rfl p q
  · show StableHlo.upto lines (fun b => m (c, b)) 55 (Proc.devRef .tc main_v41) (ix2 p q) = _
    after_reads_simp
    refine flat_pad _ _ pads_S2x16_S2x128_000_01120 _ ?_ p q
    exact zero_cast
  · show StableHlo.upto lines (fun b => m (c, b)) 55 (Proc.devRef .tc main_v42) (ix2 p q) = _
    after_reads_simp
    exact zero_word

/-- Where the blocks lie at the one point of the grid. -/
theorem places : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])

/-- The block of operand 0 is the whole of it. -/
theorem block0 (t : Fin cfg0.N) : (iblk m c 0 t : S216x128.Idx → EReal) = fun i => (params m c).entry (i 0).val (i 1).val := by
  funext i
  show V m c (Pipeline.arrRef spec0 0) ((win0_0.blk t).view.emb i) = _
  rw [entry0]
  have e0 : (((win0_0.blk t).view.emb i) 0).val = (i 0).val := by blk_simp [places t]
  have e1 : (((win0_0.blk t).view.emb i) 1).val = (i 1).val := by blk_simp [places t]
  exact congrArg₂ (params m c).entry e0 e1

/-- The block of operand 1 is the whole of it. -/
theorem block1 (t : Fin cfg0.N) : (iblk m c 1 t : S216x128.Idx → EReal) = fun i => (firsts m c).entry (i 0).val (i 1).val := by
  funext i
  show V m c (Pipeline.arrRef spec0 1) ((win0_1.blk t).view.emb i) = _
  rw [entry1]
  have e0 : (((win0_1.blk t).view.emb i) 0).val = (i 0).val := by blk_simp [places t]
  have e1 : (((win0_1.blk t).view.emb i) 1).val = (i 1).val := by blk_simp [places t]
  exact congrArg₂ (firsts m c).entry e0 e1

/-- The block of operand 2 is the whole of it. -/
theorem block2 (t : Fin cfg0.N) : (iblk m c 2 t : S216x128.Idx → EReal) = fun i => (seconds m c).entry (i 0).val (i 1).val := by
  funext i
  show V m c (Pipeline.arrRef spec0 2) ((win0_2.blk t).view.emb i) = _
  rw [entry2]
  have e0 : (((win0_2.blk t).view.emb i) 0).val = (i 0).val := by blk_simp [places t]
  have e1 : (((win0_2.blk t).view.emb i) 1).val = (i 1).val := by blk_simp [places t]
  exact congrArg₂ (seconds m c).entry e0 e1

/-- The block of operand 3 is the whole of it. -/
theorem block3 (t : Fin cfg0.N) : (iblk m c 3 t : S216x128.Idx → EReal) = fun i => (grads m c).entry (i 0).val (i 1).val := by
  funext i
  show V m c (Pipeline.arrRef spec0 3) ((win0_3.blk t).view.emb i) = _
  rw [entry3]
  have e0 : (((win0_3.blk t).view.emb i) 0).val = (i 0).val := by blk_simp [places t]
  have e1 : (((win0_3.blk t).view.emb i) 1).val = (i 1).val := by blk_simp [places t]
  exact congrArg₂ (grads m c).entry e0 e1

/-! ## What the kernel leaves of the gradients -/

/-- A store to eight rows, read at a place of theirs. -/
theorem canon_row {off : ℕ} (inb : ∀ a, (![off, 0] : Fin 2 → ℕ) a + (![8, 128] : Fin 2 → ℕ) a ≤ S216x128.size a) (w : S8x128.Idx → EReal)
    (L : List (View.Piece (Elt Ideal) S216x128 .f32)) (p : Fin 216) (q : Fin 128) (h : off ≤ p.val) (h' : p.val - off < 8) :
    View.canon ((⟨Rect.unit (s := S216x128) ![off, 0] ![8, 128] inb, w⟩ : View.Piece (Elt Ideal) S216x128 .f32) :: L) (ix2 p q)
      = w (ix2 (⟨p.val - off, h'⟩ : Fin 8) q) := by
  have e : (ix2 p q : S216x128.Idx) = (Rect.unit (s := S216x128) ![off, 0] ![8, 128] inb).emb (ix2 (⟨p.val - off, h'⟩ : Fin 8) q) := by
    funext a
    refine Fin.ext ?_
    match a with
    | ⟨0, _⟩ => show p.val = off + 1 * (p.val - off); omega
    | ⟨1, _⟩ => show q.val = 0 + 1 * q.val; omega
  rw [e]
  exact View.canon_cons_emb _ _ _ _

/-- Off the eight rows of a store stands what the stores before it left. -/
theorem canon_off {off : ℕ} (inb : ∀ a, (![off, 0] : Fin 2 → ℕ) a + (![8, 128] : Fin 2 → ℕ) a ≤ S216x128.size a) (w : S8x128.Idx → EReal)
    (L : List (View.Piece (Elt Ideal) S216x128 .f32)) (p : Fin 216) (q : Fin 128) (h : p.val < off ∨ off + 8 ≤ p.val) :
    View.canon ((⟨Rect.unit (s := S216x128) ![off, 0] ![8, 128] inb, w⟩ : View.Piece (Elt Ideal) S216x128 .f32) :: L) (ix2 p q)
      = View.canon L (ix2 p q) := by
  refine View.canon_cons_of_not_mem _ _ fun hm => ?_
  have h0 := (Rect.mem_set_unit (inb := inb)).mp hm 0
  have h1 : off ≤ p.val ∧ p.val < off + 8 := h0
  omega

/-- The first row's gradient of the bounds, as the kernel forms it. -/
theorem first_at (x y g : S8x128.Idx → EReal) (i : S8x128.Idx) :
    k0_pay13 (F := Ideal) x y g i = Cert.Bounds.weight₀ (x i) (y i) * (0 - Cert.Bounds.weight₁ (x i) (y i) * g i) := by
  rw [← zero_word]
  pointwise [k0_pay13, k0_pay12, k0_pay11, k0_pay10, k0_pay9, k0_pay8, k0_pay7, k0_pay6, k0_pay5]
  rfl

/-- The second row's. -/
theorem second_at (x y g : S8x128.Idx → EReal) (i : S8x128.Idx) :
    k0_pay14 (F := Ideal) x y g i = Cert.Bounds.weight₁ (x i) (y i) * (g i - Cert.Bounds.weight₁ (x i) (y i) * g i) := by
  pointwise [k0_pay14, k0_pay12, k0_pay11, k0_pay10, k0_pay9, k0_pay8, k0_pay7, k0_pay6, k0_pay5]
  rfl

theorem whole_at (x : S216x128.Idx → EReal) (i : S216x128.Idx) : k0_pay4 (F := Ideal) x i = x i := by
  pointwise [k0_pay4]

/-- Rows 192 to 207 hold the eighth array. -/
theorem eighth (P : Parts) (r k : ℕ) (h : 192 ≤ r) (h' : r < 208) : P.entry r k = flat 1024 P.a7 ((r - 192) * 128 + k) := by
  unfold Parts.entry
  rw [if_neg (by omega), if_neg (by omega), if_neg (by omega), if_neg (by omega), if_neg (by omega), if_neg (by omega), if_neg (by omega),
    if_pos h']

theorem flat_first (a : (Pair 1024).Idx → EReal) (n : ℕ) (h : n < 1024) : flat 1024 a n = a (ix2 (0 : Fin 2) (⟨n, h⟩ : Fin 1024)) := by
  unfold flat
  congr 2
  · exact Fin.ext (by show n / 1024 % 2 = 0; omega)
  · exact Fin.ext (by show n % 1024 = n; omega)

theorem flat_second (a : (Pair 1024).Idx → EReal) (n k : ℕ) (e : k = n + 1024) (h : n < 1024) :
    flat 1024 a k = a (ix2 (1 : Fin 2) (⟨n, h⟩ : Fin 1024)) := by
  subst e
  unfold flat
  congr 2
  · exact Fin.ext (by show (n + 1024) / 1024 % 2 = 1; omega)
  · exact Fin.ext (by show (n + 1024) % 1024 = n; omega)

/-- The gradients, that of the bounds being made of the one given. -/
def corrected (P G : Parts) : Parts := ⟨G.a0, G.a1, G.a2, G.a3, G.a4, G.a5, G.a6, Cert.Reference27Ideal.Read.val_main_v50 (F := Ideal) P.a7 G.a7, G.a8⟩

theorem corrected_off (P G : Parts) (r k : ℕ) (h : r < 192 ∨ 208 ≤ r) : G.entry r k = (corrected P G).entry r k := by
  unfold Parts.entry corrected
  rcases h with h | h
  · by_cases h6 : r < 176
    · simp only [h6, if_true]
    · rw [if_neg (by omega), if_neg (by omega), if_neg (by omega), if_neg (by omega), if_neg (by omega), if_neg (by omega), if_pos h,
        if_neg (by omega), if_neg (by omega), if_neg (by omega), if_neg (by omega), if_neg (by omega), if_neg (by omega), if_pos h]
  · have h7 : ¬ r < 208 := by omega
    simp only [h7, if_false]

/-- The stores to the gradients leave the gradients, that of the bounds corrected. -/
theorem stored (P G : Parts) (hP : ∀ i, ∃ r : ℝ, P.a7 i = (r : EReal)) (hG : ∀ i, ∃ r : ℝ, G.a7 i = (r : EReal)) (p : Fin 216) (q : Fin 128) :
    View.canon [(⟨Rect.unit (s := S216x128) ![200, 0] ![8, 128] inb_S216x128_S8x128_200_0, k0_pay14 (F := Ideal)
          (View.ld (fun i : S216x128.Idx => P.entry (i 0).val (i 1).val) (Rect.unit ![192, 0] ![8, 128] inb_S216x128_S8x128_192_0))
          (View.ld (fun i : S216x128.Idx => P.entry (i 0).val (i 1).val) (Rect.unit ![200, 0] ![8, 128] inb_S216x128_S8x128_200_0))
          (View.ld (fun i : S216x128.Idx => G.entry (i 0).val (i 1).val) (Rect.unit ![200, 0] ![8, 128] inb_S216x128_S8x128_200_0))⟩
          : View.Piece (Elt Ideal) S216x128 .f32),
        ⟨Rect.unit (s := S216x128) ![192, 0] ![8, 128] inb_S216x128_S8x128_192_0, k0_pay13 (F := Ideal)
          (View.ld (fun i : S216x128.Idx => P.entry (i 0).val (i 1).val) (Rect.unit ![192, 0] ![8, 128] inb_S216x128_S8x128_192_0))
          (View.ld (fun i : S216x128.Idx => P.entry (i 0).val (i 1).val) (Rect.unit ![200, 0] ![8, 128] inb_S216x128_S8x128_200_0))
          (View.ld (fun i : S216x128.Idx => G.entry (i 0).val (i 1).val) (Rect.unit ![200, 0] ![8, 128] inb_S216x128_S8x128_200_0))⟩,
        ⟨Rect.unit (s := S216x128) ![0, 0] ![216, 128] inb_S216x128_S216x128_0_0, k0_pay4 (F := Ideal) (fun i : S216x128.Idx => G.entry (i 0).val (i 1).val)⟩]
      (ix2 p q) = (corrected P G).entry p.val q.val := by
  have hp := p.isLt
  have hq := q.isLt
  have ld (Q : Parts) (off : ℕ) (inb) (r : Fin 8) : View.ld (Val := Elt Ideal) (e' := .f32) (fun i : S216x128.Idx => Q.entry (i 0).val (i 1).val) (Rect.unit (s := S216x128) ![off, 0] ![8, 128] inb)
      (ix2 r q) = Q.entry (off + r.val) q.val := by
    show Q.entry (off + 1 * r.val) (0 + 1 * q.val) = _
    rw [Nat.one_mul, Nat.one_mul, Nat.zero_add]
  by_cases h1 : 200 ≤ p.val
  · by_cases h2 : p.val < 208
    · refine (canon_row _ _ _ p q h1 (by omega)).trans ?_
      rw [second_at]
      rw [ld, ld, ld]
      have hn : (p.val - 200) * 128 + q.val < 1024 := by omega
      rw [eighth P _ _ (by show 192 ≤ 192 + (p.val - 200); omega) (by show 192 + (p.val - 200) < 208; omega),
        eighth P _ _ (by show 192 ≤ 200 + (p.val - 200); omega) (by show 200 + (p.val - 200) < 208; omega),
        eighth G _ _ (by show 192 ≤ 200 + (p.val - 200); omega) (by show 200 + (p.val - 200) < 208; omega),
        eighth (corrected P G) _ _ (by omega) h2,
        flat_second _ ((p.val - 200) * 128 + q.val) ((p.val - 192) * 128 + q.val) (by omega) hn]
      rw [show (192 + (p.val - 200) - 192) * 128 + q.val = (p.val - 200) * 128 + q.val by omega, flat_first _ _ hn]
      rw [flat_second P.a7 ((p.val - 200) * 128 + q.val) ((200 + (p.val - 200) - 192) * 128 + q.val) (by omega) hn,
        flat_second G.a7 ((p.val - 200) * 128 + q.val) ((200 + (p.val - 200) - 192) * 128 + q.val) (by omega) hn]
      exact (Cert.Bounds.lb_second P.a7 G.a7 _ hP hG).symm
    · refine (canon_off _ _ _ p q (Or.inr (by omega))).trans ?_
      refine (canon_off _ _ _ p q (Or.inr (by omega))).trans ?_
      refine (congrFun (View.canon_cons_unit_lit _ _ _ (by decide)) _).trans ?_
      rw [whole_at]
      exact corrected_off P G p.val q.val (Or.inr (by omega))
  · refine (canon_off _ _ _ p q (Or.inl (by omega))).trans ?_
    by_cases h2 : 192 ≤ p.val
    · refine (canon_row _ _ _ p q h2 (by omega)).trans ?_
      rw [first_at]
      rw [ld, ld, ld]
      have hn : (p.val - 192) * 128 + q.val < 1024 := by omega
      rw [eighth P _ _ (by show 192 ≤ 192 + (p.val - 192); omega) (by show 192 + (p.val - 192) < 208; omega),
        eighth P _ _ (by show 192 ≤ 200 + (p.val - 192); omega) (by show 200 + (p.val - 192) < 208; omega),
        eighth G _ _ (by show 192 ≤ 200 + (p.val - 192); omega) (by show 200 + (p.val - 192) < 208; omega),
        eighth (corrected P G) _ _ h2 (by omega), flat_first _ _ hn]
      rw [show (192 + (p.val - 192) - 192) * 128 + q.val = (p.val - 192) * 128 + q.val by omega, flat_first _ _ hn]
      rw [flat_second P.a7 ((p.val - 192) * 128 + q.val) ((200 + (p.val - 192) - 192) * 128 + q.val) (by omega) hn,
        flat_second G.a7 ((p.val - 192) * 128 + q.val) ((200 + (p.val - 192) - 192) * 128 + q.val) (by omega) hn]
      exact (Cert.Bounds.lb_first P.a7 G.a7 _ hP hG).symm
    · refine (canon_off _ _ _ p q (Or.inl (by omega))).trans ?_
      refine (congrFun (View.canon_cons_unit_lit _ _ _ (by decide)) _).trans ?_
      rw [whole_at]
      exact corrected_off P G p.val q.val (Or.inl (by omega))

end Cert.Kernel27Ideal.Claims

end
-- ==== Proof.SmallFinal.lean ====
/- One step of the optimiser for the nine parameters of few numbers: the arrays the call leaves are the reference's. -/
module

public import proofs.«01_k».proof.Proof.SmallStep
public import proofs.«01_k».proof.Proof.Numbers
public import proofs.«01_k».proof.Defs
public import proofs.«01_k».proof.Proof.Gen.Pre_finite_bounds
public import Idealize.ShloMosaic.Lib.Pipeline.ReadBack

@[expose] public section

set_option maxRecDepth 16384

noncomputable section

namespace Cert.Kernel27Ideal.Claims

open Cert.Kernel27Ideal Cert.Kernel27Ideal.Gen Cert.Kernel27Ideal.Value Idealize.ShloMosaic Idealize.ShloMosaic.TcCoe
open Idealize.SL.Sem
open Idealize.ShloMosaic.Pipeline (Dat)
open Cert.Stacked Cert.SmallSpec

variable (m : (ℓ : Loc nD τ sig) → Buf (Elt Ideal) ℓ) (c : Dev nD)

theorem moment_at (g x : S216x128.Idx → EReal) (i : S216x128.Idx) : k0_pay1 (F := Ideal) g x i = moment (g i) (x i) := by
  pointwise [k0_pay1]
  rfl

theorem square_at (g u : S216x128.Idx → EReal) (i : S216x128.Idx) : k0_pay2 (F := Ideal) g u i = square (g i) (u i) := by
  pointwise [k0_pay2]
  rfl

theorem change_at (w g x u : S216x128.Idx → EReal) (i : S216x128.Idx) : k0_pay3 (F := Ideal) w g x u i = change (w i) (g i) (x i) (u i) := by
  pointwise [k0_pay3, k0_pay1, k0_pay2]
  rfl

/-- An array cast to its own shape, read at a place. -/
theorem kept (x : S216x128.Idx → EReal) (i : S216x128.Idx) : k0_pay15 (F := Ideal) x i = x i ∧ k0_pay16 (F := Ideal) x i = x i
    ∧ k0_pay17 (F := Ideal) x i = x i ∧ k0_pay18 (F := Ideal) x i = x i := by
  refine ⟨?_, ?_, ?_, ?_⟩
  · pointwise [k0_pay15]
  · pointwise [k0_pay16]
  · pointwise [k0_pay17]
  · pointwise [k0_pay18]

/-- The stores to the gradients' block, the last one first. -/
abbrev stores (P G : Parts) : List (View.Piece (Elt Ideal) S216x128 .f32) :=
  [⟨Rect.unit (s := S216x128) ![200, 0] ![8, 128] inb_S216x128_S8x128_200_0, k0_pay14 (F := Ideal)
      (View.ld (fun i : S216x128.Idx => P.entry (i 0).val (i 1).val) (Rect.unit ![192, 0] ![8, 128] inb_S216x128_S8x128_192_0))
      (View.ld (fun i : S216x128.Idx => P.entry (i 0).val (i 1).val) (Rect.unit ![200, 0] ![8, 128] inb_S216x128_S8x128_200_0))
      (View.ld (fun i : S216x128.Idx => G.entry (i 0).val (i 1).val) (Rect.unit ![200, 0] ![8, 128] inb_S216x128_S8x128_200_0))⟩,
    ⟨Rect.unit (s := S216x128) ![192, 0] ![8, 128] inb_S216x128_S8x128_192_0, k0_pay13 (F := Ideal)
      (View.ld (fun i : S216x128.Idx => P.entry (i 0).val (i 1).val) (Rect.unit ![192, 0] ![8, 128] inb_S216x128_S8x128_192_0))
      (View.ld (fun i : S216x128.Idx => P.entry (i 0).val (i 1).val) (Rect.unit ![200, 0] ![8, 128] inb_S216x128_S8x128_200_0))
      (View.ld (fun i : S216x128.Idx => G.entry (i 0).val (i 1).val) (Rect.unit ![200, 0] ![8, 128] inb_S216x128_S8x128_200_0))⟩,
    ⟨Rect.unit (s := S216x128) ![0, 0] ![216, 128] inb_S216x128_S216x128_0_0, k0_pay4 (F := Ideal) (fun i : S216x128.Idx => G.entry (i 0).val (i 1).val)⟩]

variable (hP : ∀ i, ∃ r : ℝ, (params m c).a7 i = (r : EReal)) (hG : ∀ i, ∃ r : ℝ, (grads m c).a7 i = (r : EReal))

include hP hG in
/-- What is read back of the gradients after the stores. -/
theorem read_back (p : Fin 216) (q : Fin 128) :
    (View.whole cc0_stg4_0).readCov (stores (params m c) (grads m c)) (Rect.unit (s := S216x128) ![0, 0] ![216, 128] inb_S216x128_S216x128_0_0).toLoadRect (ix2 p q)
      = (corrected (params m c) (grads m c)).entry p.val q.val := by
  refine (congrFun (View.readCov_eq_canon_ld _ _ _ fun y => ⟨_, List.mem_cons_of_mem _ (List.mem_cons_of_mem _ List.mem_cons_self), ?_⟩) _).trans ?_
  · refine (Rect.mem_set_unit (inb := inb_S216x128_S216x128_0_0)).mpr fun a => ?_
    match a with
    | ⟨0, _⟩ => exact ⟨Nat.zero_le _, (y 0).isLt⟩
    | ⟨1, _⟩ => exact ⟨Nat.zero_le _, (y 1).isLt⟩
  · refine (congrFun (View.ld_unit_lit _ _ (by decide)) _).trans ?_
    exact stored (params m c) (grads m c) hP hG p q

set_option maxHeartbeats 1000000 in
include hP hG in
/-- The gradients: the array the call leaves is the reference's. -/
theorem final4 : (dats m 0 c).arrAt 4 cfg0.N
    = Cert.Reference27Ideal.Read.val_main_v277 (F := Ideal) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [grads_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))]
  refine (dats m 0 c).arrAt_eq_of_covers 4 _ (by decide +kernel) fun t _ y => ?_
  rw [after0_4]
  rw [outsAt0]
  frame_out
  obtain ⟨p, q, rfl⟩ : ∃ (p : Fin 216) (q : Fin 128), y = ix2 p q := ⟨y 0, y 1, eq_ix2 y⟩
  simp only [read_unread_whole, block0, block1, block2, block3]
  have e0 : (((win0_4.blk t).view.emb (ix2 p q)) 0).val = p.val := by blk_simp [places t]
  have e1 : (((win0_4.blk t).view.emb (ix2 p q)) 1).val = q.val := by blk_simp [places t]
  refine Eq.trans ?_ (congrArg₂ (map4 (fun _ g _ _ => g) (params m c) (corrected (params m c) (grads m c)) (firsts m c) (seconds m c)).entry e0.symm e1.symm)
  rw [map4_entry _ rfl]
  have ex : (win0 4).xinj (grid0.coords t) (ix2 p q) = ix2 p q := rfl
  refine (cast_eq _ _).trans ?_
  rw [ex]
  exact stored (params m c) (grads m c) hP hG p q

set_option maxHeartbeats 1000000 in
include hP hG in
/-- The changes of the parameters. -/
theorem final5 : (dats m 0 c).arrAt 5 cfg0.N
    = Cert.Reference27Ideal.Read.val_main_v288 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  rw [changes_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))]
  refine (dats m 0 c).arrAt_eq_of_covers 5 _ (by decide +kernel) fun t _ y => ?_
  rw [after0_5]
  rw [outsAt0]
  frame_out
  obtain ⟨p, q, rfl⟩ : ∃ (p : Fin 216) (q : Fin 128), y = ix2 p q := ⟨y 0, y 1, eq_ix2 y⟩
  simp only [read_unread_whole, block0, block1, block2, block3]
  have e0 : (((win0_5.blk t).view.emb (ix2 p q)) 0).val = p.val := by blk_simp [places t]
  have e1 : (((win0_5.blk t).view.emb (ix2 p q)) 1).val = q.val := by blk_simp [places t]
  refine Eq.trans ?_ (congrArg₂ (map4 change (params m c) (corrected (params m c) (grads m c)) (firsts m c) (seconds m c)).entry e0.symm e1.symm)
  rw [map4_entry _ change_zero]
  have ex : (win0 5).xinj (grid0.coords t) (ix2 p q) = ix2 p q := rfl
  refine (cast_eq _ _).trans ?_
  rw [ex]
  refine (change_at _ _ _ _ (ix2 p q)).trans ?_
  rw [(kept _ _).1, (kept _ _).2.1, (kept _ _).2.2.1, (kept _ _).2.2.2]
  exact congrArg (fun z => change ((params m c).entry p.val q.val) z ((firsts m c).entry p.val q.val) ((seconds m c).entry p.val q.val)) (read_back m c hP hG p q)

set_option maxHeartbeats 1000000 in
include hP hG in
/-- The new first moments. -/
theorem final6 : (dats m 0 c).arrAt 6 cfg0.N
    = Cert.Reference27Ideal.Read.val_main_v299 (F := Ideal) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [moments_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))]
  refine (dats m 0 c).arrAt_eq_of_covers 6 _ (by decide +kernel) fun t _ y => ?_
  rw [after0_6]
  rw [outsAt0]
  frame_out
  obtain ⟨p, q, rfl⟩ : ∃ (p : Fin 216) (q : Fin 128), y = ix2 p q := ⟨y 0, y 1, eq_ix2 y⟩
  simp only [read_unread_whole, block0, block1, block2, block3]
  have e0 : (((win0_6.blk t).view.emb (ix2 p q)) 0).val = p.val := by blk_simp [places t]
  have e1 : (((win0_6.blk t).view.emb (ix2 p q)) 1).val = q.val := by blk_simp [places t]
  refine Eq.trans ?_ (congrArg₂ (map4 (fun _ g x _ => moment g x) (params m c) (corrected (params m c) (grads m c)) (firsts m c) (seconds m c)).entry e0.symm e1.symm)
  rw [map4_entry _ moment_zero]
  have ex : (win0 6).xinj (grid0.coords t) (ix2 p q) = ix2 p q := rfl
  refine (cast_eq _ _).trans ?_
  rw [ex]
  refine (moment_at _ _ (ix2 p q)).trans ?_
  rw [(kept _ _).2.1, (kept _ _).2.2.1]
  exact congrArg (fun z => moment z ((firsts m c).entry p.val q.val)) (read_back m c hP hG p q)

set_option maxHeartbeats 1000000 in
include hP hG in
/-- The new second moments. -/
theorem final7 : (dats m 0 c).arrAt 7 cfg0.N
    = Cert.Reference27Ideal.Read.val_main_v310 (F := Ideal) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  rw [squares_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))]
  refine (dats m 0 c).arrAt_eq_of_covers 7 _ (by decide +kernel) fun t _ y => ?_
  rw [after0_7]
  rw [outsAt0]
  frame_out
  obtain ⟨p, q, rfl⟩ : ∃ (p : Fin 216) (q : Fin 128), y = ix2 p q := ⟨y 0, y 1, eq_ix2 y⟩
  simp only [read_unread_whole, block0, block1, block2, block3]
  have e0 : (((win0_7.blk t).view.emb (ix2 p q)) 0).val = p.val := by blk_simp [places t]
  have e1 : (((win0_7.blk t).view.emb (ix2 p q)) 1).val = q.val := by blk_simp [places t]
  refine Eq.trans ?_ (congrArg₂ (map4 (fun _ g _ u => square g u) (params m c) (corrected (params m c) (grads m c)) (firsts m c) (seconds m c)).entry e0.symm e1.symm)
  rw [map4_entry _ square_zero]
  have ex : (win0 7).xinj (grid0.coords t) (ix2 p q) = ix2 p q := rfl
  refine (cast_eq _ _).trans ?_
  rw [ex]
  refine (square_at _ _ (ix2 p q)).trans ?_
  rw [(kept _ _).2.1, (kept _ _).2.2.2]
  exact congrArg (fun z => square z ((seconds m c).entry p.val q.val)) (read_back m c hP hG p q)

/-- Under the precondition the numbers the bounds' gradient is made of are real. -/
theorem reals (h : Pre_Kernel27Ideal_finite_bounds m) :
    (∀ i, ∃ r : ℝ, (params m c).a7 i = (r : EReal)) ∧ (∀ i, ∃ r : ℝ, (grads m c).a7 i = (r : EReal)) := by
  obtain ⟨h7, h16⟩ := h c
  exact ⟨fun x => Cert.Numbers.real_between _ (congrFun h7 x), fun x => Cert.Numbers.real_between _ (congrFun h16 x)⟩

end Cert.Kernel27Ideal.Claims

end
-- ==== Proof.RopeTables.lean ====
/- The tables of the rotary embedding: the kernel's blocks are the reference's cosines and signed sines. -/
module

public import proofs.«01_k».proof.Proof.Gen.Kernel28Ideal.Frame
public import proofs.«01_k».proof.Proof.Gen.Reference28Ideal.Read
public import Idealize.ShloMosaic.Lib.Pipeline.ValueKit
public import Idealize.ShloMosaic.Lib.Pointwise
public import Idealize.ShloMosaic.Lib.Pointwise.Sums

@[expose] public section

set_option maxRecDepth 16384

noncomputable section

namespace Cert.Kernel28Ideal.Claims

open Cert.Kernel28Ideal Cert.Kernel28Ideal.Gen Idealize.ShloMosaic Idealize.ShloMosaic.TcCoe Cert.Reference28Ideal.Read
open Idealize.SL.Sem
open Idealize.ShloMosaic.Pipeline (Dat)

variable (m : (ℓ : Loc nD τ sig) → Buf (Elt Ideal) ℓ) (c : Dev nD)

/-- The positions as the call finds them, read from the argument. -/
theorem entry0 : V m c (Pipeline.arrRef spec0 0)
    = (fun i => m ((c : Thread nD τ).loc main_arg0) (ix2 (0 : Fin 1) (i 0)) : S4096x1.Idx → BitVec 32) := by
  entry_read
  funext i
  pointwise

/-- A lane's frequency. -/
def freq (k : Fin 128) : EReal := val_main_v5 (F := Ideal) (ix1 (⟨k.val % 32, Nat.mod_lt _ (by decide)⟩ : Fin 32))

/-- The frequencies as the call finds them. -/
theorem entry1 : V m c (Pipeline.arrRef spec0 1) = (fun i => freq (i 1) : S1x128.Idx → EReal) := by
  entry_read
  funext i
  obtain ⟨a, k, rfl⟩ : ∃ (a : Fin 1) (k : Fin 128), i = ix2 a k := ⟨i 0, i 1, eq_ix2 i⟩
  pointwise [freq, val_main_v5, val_main_v4, val_main_v3, val_main_v2, val_main_v1, val_main_v0, val_main_cst, val_main_cst_0]

/-- Where the blocks lie at each point of the grid. -/
theorem places : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The row of the array that a row of a block is. -/
def row (t : Fin cfg0.N) (p : Fin 512) : Fin 4096 := ⟨t.val * 512 + p.val, by have : t.val < 8 := t.isLt; omega⟩

/-- A block of the positions, read from the argument it is cut from. -/
theorem block0 (t : Fin cfg0.N) (p : Fin 512) : iblk m c 0 t (ix2 p (0 : Fin 1))
    = m ((c : Thread nD τ).loc main_arg0) (ix2 (0 : Fin 1) (row t p)) := by
  show V m c (Pipeline.arrRef spec0 0) ((win0_0.blk t).view.emb (ix2 p (0 : Fin 1))) = _
  rw [entry0]
  refine congrArg (m ((c : Thread nD τ).loc main_arg0)) (funext fun a => Fin.ext ?_)
  match a with
  | ⟨0, _⟩ => blk_simp [places t]
  | ⟨1, _⟩ => blk_simp [places t, row]

/-- The block of the frequencies. -/
theorem block1 (t : Fin cfg0.N) (k : Fin 128) : iblk m c 1 t (ix2 (0 : Fin 1) k) = freq k := by
  show V m c (Pipeline.arrRef spec0 1) ((win0_1.blk t).view.emb (ix2 (0 : Fin 1) k)) = _
  rw [entry1]
  refine congrArg freq (Fin.ext ?_)
  blk_simp [places t]

/-- An angle of the reference: that of the position of a row and of a lane's frequency. -/
theorem angle (r : Fin 4096) (k : Fin 32) :
    val_main_v12 (F := Ideal) (m ((c : Thread nD τ).loc main_arg0)) (ix2 r k)
      = FloatOps.mulf (F := Ideal) (φ := .f32) (FloatOps.sitofp .f32 (m ((c : Thread nD τ).loc main_arg0) (ix2 (0 : Fin 1) r))) (val_main_v5 (F := Ideal) (ix1 k)) := by
  pointwise [val_main_v12, val_main_v11, val_main_v10, val_main_v9, val_main_v8, val_main_v7, val_main_v6]

/-- The angle of a row and a lane in a block. -/
theorem pay1_eq (t : Fin cfg0.N) (p : Fin 512) (k : Fin 128) : k0_pay1 (iblk m c 0 t) (iblk m c 1 t) (ix2 p k)
      = val_main_v12 (F := Ideal) (m ((c : Thread nD τ).loc main_arg0)) (ix2 (row t p) (⟨k.val % 32, Nat.mod_lt _ (by decide)⟩ : Fin 32)) := by
  rw [angle]
  pointwise [k0_pay1]
  simp only [block0, block1, freq]

/-- The bit of a lane as the body computes it. -/
def laneBit (k : Fin 128) : BitVec 1 :=
  have a : BitVec 32 := BitVec.ofNat 32 k.val
  have b : BitVec 32 := Scalar.select (Scalar.cmpi .eq 64#32 0#32) 1#32 64#32
  have r : BitVec 32 := IntOp.remsi .vector a b
  IntOp.cmpi .slt (Scalar.select (IntOp.andi (IntOp.xori (IntOp.cmpi .slt r 0#32) (Scalar.cmpi .slt b 0#32)) (IntOp.cmpi .ne r 0#32)) (IntOp.addi r b) r) 32#32

/-- The body's mask, as a block. -/
def k0_mask : IVec S512x128 1 :=
  have b : BitVec 32 := Scalar.select (Scalar.cmpi .eq 64#32 0#32) 1#32 64#32
  have r : IVec S512x128 32 := remsi (iota .tc S512x128 32 [1] iota_S512x128_d1_w32) (broadcast S512x128 b)
  cmpi .slt (select (andi (xori (cmpi .slt r (broadcast S512x128 0#32)) (broadcastTo S512x128 (broadcast S512x128 (Scalar.cmpi .slt b 0#32)) broadcasts_S512x128_S512x128))
    (cmpi .ne r (broadcast S512x128 0#32))) (addi r (broadcast S512x128 b)) r) (broadcast S512x128 32#32)

/-- Which lanes are the first of two halves. -/
theorem lane_mask (p : Fin 512) (k : Fin 128) : k0_mask (ix2 p k) = if k.val % 64 < 32 then 1#1 else 0#1 := by
  have key : ∀ k : Fin 128, laneBit k = if k.val % 64 < 32 then 1#1 else 0#1 := by decide +kernel
  refine Eq.trans ?_ (key k)
  pointwise [k0_mask, laneBit]

/-- The cosines in a block are the reference's. -/
theorem key2 (t : Fin cfg0.N) (p : Fin 512) (k : Fin 128) : k0_pay2 (iblk m c 0 t) (iblk m c 1 t) (ix2 p k)
    = val_main_v15 (F := Ideal) (m ((c : Thread nD τ).loc main_arg0)) (ix2 (row t p) k) := by
  have hl : k0_pay2 (iblk m c 0 t) (iblk m c 1 t) (ix2 p k) = FloatOps.cos (F := Ideal) (φ := .f32) (k0_pay1 (iblk m c 0 t) (iblk m c 1 t) (ix2 p k)) := rfl
  rw [hl, pay1_eq]
  pointwise [val_main_v15, val_main_v13]
  have hk : k.val < 128 := k.isLt
  split_ifs <;> exact congrArg (fun q : Fin 32 => Ideal.cos (val_main_v12 (F := Ideal) (m ((c : Thread nD τ).loc main_arg0)) (ix2 (row t p) q)))
    (Fin.ext (by dsimp only; omega))

/-- The signed sines in a block are the reference's. -/
theorem key3 (t : Fin cfg0.N) (p : Fin 512) (k : Fin 128) : k0_pay3 (iblk m c 0 t) (iblk m c 1 t) (ix2 p k)
    = val_main_v18 (F := Ideal) (m ((c : Thread nD τ).loc main_arg0)) (ix2 (row t p) k) := by
  have hl : k0_pay3 (iblk m c 0 t) (iblk m c 1 t) (ix2 p k) = Scalar.select (k0_mask (ix2 p k))
      (FloatOps.subf (F := Ideal) (φ := .f32) (Scalar.ofBits .f32 0x00000000#32) (FloatOps.sin (F := Ideal) (φ := .f32) (k0_pay1 (iblk m c 0 t) (iblk m c 1 t) (ix2 p k))))
      (FloatOps.sin (F := Ideal) (φ := .f32) (k0_pay1 (iblk m c 0 t) (iblk m c 1 t) (ix2 p k))) := rfl
  rw [hl, pay1_eq, lane_mask]
  pointwise [val_main_v18, val_main_v17, val_main_v16, val_main_v14]
  have hk : k.val < 128 := k.isLt
  have sines : ∀ q q' : Fin 32, q.val = q'.val → Ideal.sin (val_main_v12 (F := Ideal) (m ((c : Thread nD τ).loc main_arg0)) (ix2 (row t p) q))
      = Ideal.sin (val_main_v12 (F := Ideal) (m ((c : Thread nD τ).loc main_arg0)) (ix2 (row t p) q')) :=
    fun q q' h => by rw [Fin.ext h]
  by_cases h : k.val % 64 < 32
  · rw [if_pos h]
    show (0 : EReal) - _ = _
    rw [sub_eq_add_neg, zero_add]
    split_ifs <;> first | exact congrArg Neg.neg (sines _ _ (by dsimp only; omega)) | omega
  · rw [if_neg h]
    show Ideal.sin _ = _
    split_ifs <;> first | exact sines _ _ (by dsimp only; omega) | omega

/-- The array of the cosines that the call leaves is the reference's. -/
theorem final2 : (dats m 0 c).arrAt 2 cfg0.N
    = val_main_v15 (F := Ideal) (m ((c : Thread nD τ).loc main_arg0)) := by
  refine (dats m 0 c).arrAt_eq_of_covers 2 _ (by decide +kernel) fun t _ y => ?_
  rw [after0_2]
  frame_out
  obtain ⟨p, k, rfl⟩ : ∃ (p : Fin 512) (k : Fin 128), y = ix2 p k := ⟨y 0, y 1, eq_ix2 y⟩
  refine (key2 m c t p k).trans (congrArg _ (funext fun a => Fin.ext ?_))
  match a with
  | ⟨0, _⟩ => blk_simp [places t, row]
  | ⟨1, _⟩ => blk_simp [places t]

/-- The array of the signed sines that the call leaves is the reference's. -/
theorem final3 : (dats m 0 c).arrAt 3 cfg0.N
    = val_main_v18 (F := Ideal) (m ((c : Thread nD τ).loc main_arg0)) := by
  refine (dats m 0 c).arrAt_eq_of_covers 3 _ (by decide +kernel) fun t _ y => ?_
  rw [after0_3]
  frame_out
  obtain ⟨p, k, rfl⟩ : ∃ (p : Fin 512) (k : Fin 128), y = ix2 p k := ⟨y 0, y 1, eq_ix2 y⟩
  refine (key3 m c t p k).trans (congrArg _ (funext fun a => Fin.ext ?_))
  match a with
  | ⟨0, _⟩ => blk_simp [places t, row]
  | ⟨1, _⟩ => blk_simp [places t]

/-- The run leaves the two arrays, and the positions as they were. -/
theorem run (ρ : Dev nD → PrngReg) : θ_run defs (onTc (τ := τ) (main (F := Ideal))) ⟨m, fun _ => 0, ρ⟩ fun r => ∀ c : Dev nD,
      r.2.mem ((c : Thread nD τ).loc main_v11_0) = (dats m 0 c).arrAt 2 cfg0.N
      ∧ r.2.mem ((c : Thread nD τ).loc main_v11_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
      ((h c).2 main_arg0 (Pipeline.mem_restRefs_of main_arg0 (by decide) (by decide))).trans (V_main_arg0 m c)⟩) (run_main m ρ)

end Cert.Kernel28Ideal.Claims

end
-- ==== Proof.MixOut.lean ====
/- The gated norms of the mixer's two halves: the kernel's blocks are the reference's. -/
module

public import proofs.«01_k».proof.Proof.Gen.Kernel29Ideal.Value
public import proofs.«01_k».proof.Proof.Gen.Reference29Ideal.Read
public import Idealize.ShloMosaic.Lib.Pipeline.Value
public import Idealize.ShloMosaic.Lib.Pipeline.ValueKit
public import Idealize.ShloMosaic.Lib.WholeRead
public import Idealize.ShloMosaic.Lib.Pointwise
public import Idealize.ShloMosaic.Lib.Pointwise.Sums

@[expose] public section

set_option maxRecDepth 16384

noncomputable section

namespace Cert.Kernel29Ideal.Claims

open Cert.Kernel29Ideal Cert.Kernel29Ideal.Gen Cert.Kernel29Ideal.Value Idealize.ShloMosaic Idealize.ShloMosaic.TcCoe Cert.Reference29Ideal.Read
open Idealize.SL.Sem
open Idealize.ShloMosaic.Pipeline (Dat)

/-! ## The pieces that the body stores -/

/-- A head's columns of the recurrence's block. -/
def rectO (j : Fin 8) : Rect S512x1024 := Rect.unit ![0, 128 * j.val] S512x128.size
  (by intro a; have := j.isLt; fin_cases a <;> simp <;> omega)

/-- A head's columns of a block of gates, which holds those of four heads. -/
def rectH (j : Fin 8) : Rect S512x512 := Rect.unit ![0, 128 * (j.val % 4)] S512x128.size
  (by intro a; have := j.isLt; fin_cases a <;> simp <;> omega)

/-- A head's part of the gain. -/
def rectG (j : Fin 8) : Rect S1x1024 := Rect.unit ![0, 128 * j.val] S1x128.size
  (by intro a; have := j.isLt; fin_cases a <;> simp <;> omega)

/-- A head's columns of the result's block. -/
def rectR (j : Fin 8) : Rect S512x2048 := Rect.unit ![0, 1024 + 128 * j.val] S512x128.size
  (by intro a; have := j.isLt; fin_cases a <;> simp <;> omega)

/-! The places of the tiles' entries. -/

theorem embO0 (j : Fin 8) (p : Fin 512) (k : Fin 128) : ((rectO j).emb (ix2 p k) 0).val = p.val := by
  show 0 + 1 * p.val = p.val; omega
theorem embO1 (j : Fin 8) (p : Fin 512) (k : Fin 128) : ((rectO j).emb (ix2 p k) 1).val = 128 * j.val + k.val := by
  show 128 * j.val + 1 * k.val = _; omega
theorem embH0 (j : Fin 8) (p : Fin 512) (k : Fin 128) : ((rectH j).emb (ix2 p k) 0).val = p.val := by
  show 0 + 1 * p.val = p.val; omega
theorem embH1 (j : Fin 8) (p : Fin 512) (k : Fin 128) : ((rectH j).emb (ix2 p k) 1).val = 128 * (j.val % 4) + k.val := by
  show 128 * (j.val % 4) + 1 * k.val = _; omega
theorem embG1 (j : Fin 8) (k : Fin 128) : ((rectG j).emb (ix2 (0 : Fin 1) k) 1).val = 128 * j.val + k.val := by
  show 128 * j.val + 1 * k.val = _; omega
theorem embR0 (j : Fin 8) (p : Fin 512) (k : Fin 128) : ((rectR j).emb (ix2 p k) 0).val = p.val := by
  show 0 + 1 * p.val = p.val; omega
theorem embR1 (j : Fin 8) (p : Fin 512) (k : Fin 128) : ((rectR j).emb (ix2 p k) 1).val = 1024 + 128 * j.val + k.val := by
  show 1024 + 128 * j.val + 1 * k.val = _; omega

section Run

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S512x2048 .bf16) (harg7 : arg7.IsWhole)
  (x0 x1 : Vec Ideal S512x1024 .f32) (x2 x3 : Vec Ideal S512x512 .f32) (x4 x5 : Vec Ideal S1x1024 .f32)

/-- The run's stores: the attention's half, then a tile for each head of the recurrence. -/
theorem pieces : (kernelRun0_A c i arg1 harg1 arg2 harg2 arg3 harg3 arg4 harg4 arg5 harg5 arg6 harg6 arg7 harg7 x0 x1 x2 x3 x4 x5).1
    = (List.ofFn fun j : Fin 8 => (⟨rectR j, k0_pay7 (View.readAt (Elt Ideal) arg2.view (rectO j).toLoadRect (harg2.unread x1))
        (bif j.val / 4 == 0 then View.readAt (Elt Ideal) arg3.view (rectH j).toLoadRect (harg3.unread x2)
          else View.readAt (Elt Ideal) arg4.view (rectH j).toLoadRect (harg4.unread x3))
        (View.readAt (Elt Ideal) arg6.view (rectG j).toLoadRect (harg6.unread x5))⟩ : View.Piece (Elt Ideal) S512x2048 .bf16)).reverse
      ++ [(⟨Rect.unit ![0, 0] S512x1024.size inb_S512x2048_S512x1024_0_0,
          k0_pay2 (View.readAt (Elt Ideal) arg1.view (Rect.unit (s := S512x1024) ![0, 0] S512x1024.size inb_S512x1024_S512x1024_0_0).toLoadRect (harg1.unread x0))
            (View.readAt (Elt Ideal) arg5.view (Rect.unit (s := S1x1024) ![0, 0] S1x1024.size inb_S1x1024_S1x1024_0_0).toLoadRect (harg5.unread x4))⟩ : View.Piece (Elt Ideal) S512x2048 .bf16)] := by
  sl_kernel_rfl

/-- The block that the run leaves is one whose entries each store agrees with. -/
theorem out_eq (G : S512x2048.Idx → EReal)
    (hl : ∀ x, k0_pay2 x0 x4 x = G ((Rect.unit (s := S512x2048) ![0, 0] S512x1024.size inb_S512x2048_S512x1024_0_0).emb x))
    (hr : ∀ (j : Fin 8) x, k0_pay7 (View.ld x1 (rectO j)) (bif j.val / 4 == 0 then View.ld x2 (rectH j) else View.ld x3 (rectH j)) (View.ld x5 (rectG j)) x
      = G ((rectR j).emb x)) (y : S512x2048.Idx) :
    out0_A_6 c i arg1 harg1 arg2 harg2 arg3 harg3 arg4 harg4 arg5 harg5 arg6 harg6 arg7 harg7 x0 x1 x2 x3 x4 x5 y = G y := by
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_apply_of_pieces G _ (fun p hp x => ?_) y (cover0_A_6 c i arg1 harg1 arg2 harg2 arg3 harg3 arg4 harg4 arg5 harg5 arg6 harg6 arg7 harg7 x0 x1 x2 x3 x4 x5 y)
  rw [pieces, List.mem_append, List.mem_reverse, List.mem_ofFn, List.mem_singleton] at hp
  rcases hp with ⟨j, rfl⟩ | rfl
  · refine Eq.trans ?_ (hr j x)
    show k0_pay7 _ _ _ x = _
    have e1 : View.readAt (Elt Ideal) arg2.view (rectO j).toLoadRect (harg2.unread x1) = View.ld x1 (rectO j) :=
      funext fun z => harg2.readAt_unread x1 (rectO j).toLoadRect z
    have e2 : View.readAt (Elt Ideal) arg3.view (rectH j).toLoadRect (harg3.unread x2) = View.ld x2 (rectH j) :=
      funext fun z => harg3.readAt_unread x2 (rectH j).toLoadRect z
    have e3 : View.readAt (Elt Ideal) arg4.view (rectH j).toLoadRect (harg4.unread x3) = View.ld x3 (rectH j) :=
      funext fun z => harg4.readAt_unread x3 (rectH j).toLoadRect z
    have e4 : View.readAt (Elt Ideal) arg6.view (rectG j).toLoadRect (harg6.unread x5) = View.ld x5 (rectG j) :=
      funext fun z => harg6.readAt_unread x5 (rectG j).toLoadRect z
    rw [e1, e2, e3, e4]
  · refine Eq.trans ?_ (hl x)
    show k0_pay2 _ _ x = _
    have whole {r q : ℕ} (z : (⟨2, ![r, q]⟩ : Shape).Idx) : z = z := rfl
    have e1 : View.readAt (Elt Ideal) arg1.view (Rect.unit (s := S512x1024) ![0, 0] S512x1024.size inb_S512x1024_S512x1024_0_0).toLoadRect (harg1.unread x0) = x0 :=
      funext fun z => (harg1.readAt_unread x0 _ z).trans (congrArg x0 (funext fun a => Fin.ext (by fin_cases a <;> simp [Rect.toLoadRect, Rect.unit])))
    have e2 : View.readAt (Elt Ideal) arg5.view (Rect.unit (s := S1x1024) ![0, 0] S1x1024.size inb_S1x1024_S1x1024_0_0).toLoadRect (harg5.unread x4) = x4 :=
      funext fun z => (harg5.readAt_unread x4 _ z).trans (congrArg x4 (funext fun a => Fin.ext (by fin_cases a <;> simp [Rect.toLoadRect, Rect.unit])))
    rw [e1, e2]

end Run

/-! ## The blocks -/

variable (m : (ℓ : Loc nD τ sig) → Buf (Elt Ideal) ℓ) (c : Dev nD)

/-- The attention's result as the call finds it. -/
theorem entry0 : V m c (Pipeline.arrRef spec0 0)
    = (fun i => m ((c : Thread nD τ).loc main_arg0) (ix3 (0 : Fin 1) (i 0) (i 1)) : S4096x1024.Idx → EReal) := by
  entry_read
  funext i
  pointwise

/-- The recurrence's result as the call finds it: the heads' columns side by side. -/
theorem entry1 : V m c (Pipeline.arrRef spec0 1)
    = (fun i => m ((c : Thread nD τ).loc main_arg1) (ix4 (0 : Fin 1) (i 0) (⟨(i 1).val / 128, by have : (i 1).val < 1024 := (i 1).isLt; omega⟩ : Fin 8)
        (⟨(i 1).val % 128, Nat.mod_lt _ (by decide)⟩ : Fin 128)) : S4096x1024.Idx → EReal) := by
  entry_read
  funext i
  obtain ⟨r, k, rfl⟩ : ∃ (r : Fin 4096) (k : Fin 1024), i = ix2 r k := ⟨i 0, i 1, eq_ix2 i⟩
  pointwise

/-- The projections as the call finds them. -/
theorem entry2 : V m c (Pipeline.arrRef spec0 2)
    = (fun i => m ((c : Thread nD τ).loc main_arg2) (ix3 (0 : Fin 1) (i 0) (i 1)) : S4096x5632.Idx → EReal) := by
  entry_read
  funext i
  pointwise

/-- The projections as the call finds them, read by the window of the last four heads. -/
theorem entry3 : V m c (Pipeline.arrRef spec0 3)
    = (fun i => m ((c : Thread nD τ).loc main_arg2) (ix3 (0 : Fin 1) (i 0) (i 1)) : S4096x5632.Idx → EReal) := by
  entry_read
  funext i
  pointwise

/-- The attention's gain as the call finds it. -/
theorem entry4 : V m c (Pipeline.arrRef spec0 4)
    = (fun i => m ((c : Thread nD τ).loc main_arg3) (ix1 (i 1)) : S1x1024.Idx → EReal) := by
  entry_read
  funext i
  pointwise

/-- The recurrence's gain as the call finds it. -/
theorem entry5 : V m c (Pipeline.arrRef spec0 5)
    = (fun i => m ((c : Thread nD τ).loc main_arg4) (ix1 (i 1)) : S1x1024.Idx → EReal) := by
  entry_read
  funext i
  pointwise

/-- Where the blocks lie at each point of the grid. -/
theorem places : ∀ t : Fin cfg0.N, win0_0.index t = ![t.val, 0] ∧ win0_1.index t = ![t.val, 0] ∧ win0_2.index t = ![t.val, 9] ∧ win0_3.index t = ![t.val, 10]
      ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 9] ∧ win0_3.index t = ![t.val, 10]
      ∧ win0_4.index t = ![0, 0] ∧ win0_5.index t = ![0, 0] ∧ win0_6.index t = ![t.val, 0])

/-- The row of the array that a row of a block is. -/
def row (t : Fin cfg0.N) (p : Fin 512) : Fin 4096 := ⟨t.val * 512 + p.val, by have : t.val < 8 := t.isLt; omega⟩

/-- A block of the attention's result. -/
theorem block0 (t : Fin cfg0.N) (p : Fin 512) (k : Fin 1024) : iblk m c 0 t (ix2 p k)
    = m ((c : Thread nD τ).loc main_arg0) (ix3 (0 : Fin 1) (row t p) k) := by
  show V m c (Pipeline.arrRef spec0 0) ((win0_0.blk t).view.emb (ix2 p k)) = _
  rw [entry0]
  refine congrArg (m ((c : Thread nD τ).loc main_arg0)) (funext fun a => Fin.ext ?_)
  match a with
  | ⟨0, _⟩ => blk_simp [places t]
  | ⟨1, _⟩ => blk_simp [places t, row]
  | ⟨2, _⟩ => blk_simp [places t]

/-- A head's tile of the recurrence's result. -/
theorem block1 (t : Fin cfg0.N) (j : Fin 8) (p : Fin 512) (k : Fin 128) : View.ld (iblk m c 1 t : Vec Ideal S512x1024 .f32) (rectO j) (ix2 p k)
    = m ((c : Thread nD τ).loc main_arg1) (ix4 (0 : Fin 1) (row t p) j k) := by
  show V m c (Pipeline.arrRef spec0 1) ((win0_1.blk t).view.emb ((rectO j).emb (ix2 p k))) = _
  rw [entry1]
  refine congrArg (m ((c : Thread nD τ).loc main_arg1)) (funext fun a => Fin.ext ?_)
  have hj := j.isLt
  have hk := k.isLt
  match a with
  | ⟨0, _⟩ => blk_simp [places t, rectO]
  | ⟨1, _⟩ => blk_simp [places t, row, rectO]; exact congrArg (t.val * 512 + ·) (embO0 j p k)
  | ⟨2, _⟩ => blk_simp [places t, rectO]; show ((rectO j).emb (ix2 p k) 1).val / 128 = j.val; rw [embO1]; omega
  | ⟨3, _⟩ => blk_simp [places t, rectO]; show ((rectO j).emb (ix2 p k) 1).val % 128 = k.val; rw [embO1]; omega

/-- A head's tile of the gates. -/
theorem block2 (t : Fin cfg0.N) (j : Fin 8) (p : Fin 512) (k : Fin 128) :
    (bif j.val / 4 == 0 then View.ld (iblk m c 2 t : Vec Ideal S512x512 .f32) (rectH j) else View.ld (iblk m c 3 t : Vec Ideal S512x512 .f32) (rectH j)) (ix2 p k)
    = m ((c : Thread nD τ).loc main_arg2) (ix3 (0 : Fin 1) (row t p) (⟨4608 + (128 * j.val + k.val), by omega⟩ : Fin 5632)) := by
  have hj := j.isLt
  have hk := k.isLt
  by_cases h : j.val / 4 = 0
  · rw [show (j.val / 4 == 0) = true by simp [h], cond_true]
    show V m c (Pipeline.arrRef spec0 2) ((win0_2.blk t).view.emb ((rectH j).emb (ix2 p k))) = _
    rw [entry2]
    refine congrArg (m ((c : Thread nD τ).loc main_arg2)) (funext fun a => Fin.ext ?_)
    match a with
    | ⟨0, _⟩ => blk_simp [places t, rectH]
    | ⟨1, _⟩ => blk_simp [places t, row, rectH]; exact congrArg (t.val * 512 + ·) (embH0 j p k)
    | ⟨2, _⟩ => blk_simp [places t, rectH]; show 9 * 512 + ((rectH j).emb (ix2 p k) 1).val = 4608 + (128 * j.val + k.val); rw [embH1]; omega
  · rw [show (j.val / 4 == 0) = false by simpa using h, cond_false]
    show V m c (Pipeline.arrRef spec0 3) ((win0_3.blk t).view.emb ((rectH j).emb (ix2 p k))) = _
    rw [entry3]
    refine congrArg (m ((c : Thread nD τ).loc main_arg2)) (funext fun a => Fin.ext ?_)
    match a with
    | ⟨0, _⟩ => blk_simp [places t, rectH]
    | ⟨1, _⟩ => blk_simp [places t, row, rectH]; exact congrArg (t.val * 512 + ·) (embH0 j p k)
    | ⟨2, _⟩ => blk_simp [places t, rectH]; show 10 * 512 + ((rectH j).emb (ix2 p k) 1).val = 4608 + (128 * j.val + k.val); rw [embH1]; omega

/-- The attention's gain. -/
theorem block4 (t : Fin cfg0.N) (k : Fin 1024) : iblk m c 4 t (ix2 (0 : Fin 1) k)
    = m ((c : Thread nD τ).loc main_arg3) (ix1 k) := by
  show V m c (Pipeline.arrRef spec0 4) ((win0_4.blk t).view.emb (ix2 (0 : Fin 1) k)) = _
  rw [entry4]
  refine congrArg (m ((c : Thread nD τ).loc main_arg3)) (funext fun a => Fin.ext ?_)
  match a with
  | ⟨0, _⟩ => blk_simp [places t]

/-- A head's part of the recurrence's gain. -/
theorem block5 (t : Fin cfg0.N) (j : Fin 8) (k : Fin 128) : View.ld (iblk m c 5 t : Vec Ideal S1x1024 .f32) (rectG j) (ix2 (0 : Fin 1) k)
    = m ((c : Thread nD τ).loc main_arg4) (ix1 (⟨128 * j.val + k.val, by omega⟩ : Fin 1024)) := by
  show V m c (Pipeline.arrRef spec0 5) ((win0_5.blk t).view.emb ((rectG j).emb (ix2 (0 : Fin 1) k))) = _
  rw [entry5]
  refine congrArg (m ((c : Thread nD τ).loc main_arg4)) (funext fun a => Fin.ext ?_)
  match a with
  | ⟨0, _⟩ => blk_simp [places t, rectG]; exact embG1 j k

/-! ## The entries -/

/-- An entry of the attention's half. -/
theorem keyL (t : Fin cfg0.N) (p : Fin 512) (k : Fin 1024) :
    k0_pay2 (iblk m c 0 t) (iblk m c 4 t) (ix2 p k)
      = val_main_v13 (F := Ideal) (m ((c : Thread nD τ).loc main_arg0)) (m ((c : Thread nD τ).loc main_arg3)) (ix2 (row t p) k) := by
  pointwise [k0_pay2, k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  simp only [block0, block4]

/-- An entry of a head's tile, from what the tiles loaded hold. -/
theorem keyTile (r : Fin 4096) (j : Fin 8) (p : Fin 512) (k : Fin 128) (ov hg : Vec Ideal S512x128 .f32) (gain : Vec Ideal S1x128 .f32)
    (h1 : ∀ k : Fin 128, ov (ix2 p k) = m ((c : Thread nD τ).loc main_arg1) (ix4 (0 : Fin 1) r j k))
    (h2 : hg (ix2 p k) = m ((c : Thread nD τ).loc main_arg2) (ix3 (0 : Fin 1) r (⟨4608 + (128 * j.val + k.val), by omega⟩ : Fin 5632)))
    (h5 : gain (ix2 (0 : Fin 1) k) = m ((c : Thread nD τ).loc main_arg4) (ix1 (⟨128 * j.val + k.val, by omega⟩ : Fin 1024))) :
    k0_pay7 ov hg gain (ix2 p k)
      = val_main_v33 (F := Ideal) (m ((c : Thread nD τ).loc main_arg1)) (m ((c : Thread nD τ).loc main_arg2)) (m ((c : Thread nD τ).loc main_arg4)) (ix2 r (⟨128 * j.val + k.val, by omega⟩ : Fin 1024)) := by
  pointwise [k0_pay7, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_2, val_main_cst_3, val_main_cst_4, val_main_call0_v0, val_main_call0_v1, val_main_call0_v2, val_main_call0_v3, val_main_call0_v4, val_main_call0_v5, val_main_call0_cst, val_main_call0_cst_0]
  simp only [h1, h2, h5, Nat.mul_comm j.val 128, sub_eq_add_neg, zero_add]

/-- An entry of a head's tile. -/
theorem keyR (t : Fin cfg0.N) (j : Fin 8) (p : Fin 512) (k : Fin 128) :
    k0_pay7 (View.ld (iblk m c 1 t : Vec Ideal S512x1024 .f32) (rectO j))
        (bif j.val / 4 == 0 then View.ld (iblk m c 2 t : Vec Ideal S512x512 .f32) (rectH j) else View.ld (iblk m c 3 t : Vec Ideal S512x512 .f32) (rectH j))
        (View.ld (iblk m c 5 t : Vec Ideal S1x1024 .f32) (rectG j)) (ix2 p k)
      = val_main_v33 (F := Ideal) (m ((c : Thread nD τ).loc main_arg1)) (m ((c : Thread nD τ).loc main_arg2)) (m ((c : Thread nD τ).loc main_arg4)) (ix2 (row t p) (⟨128 * j.val + k.val, by omega⟩ : Fin 1024)) :=
  keyTile m c (row t p) j p k _ _ _ (block1 m c t j p) (block2 m c t j p k) (block5 m c t j k)

/-- An entry of the block that the run leaves is the reference's entry at its place. -/
theorem key6 (t : Fin cfg0.N) (y : S512x2048.Idx) :
    outsAt0 m c t y = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  refine out_eq c _ _ _ _ _ _ _ _ _ _ _ _ _ _ _ _ _ _ _ _ _ (fun y => val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (fun x => ?_) (fun j x => ?_) y
  · obtain ⟨p, k, rfl⟩ : ∃ (p : Fin 512) (k : Fin 1024), x = ix2 p k := ⟨x 0, x 1, eq_ix2 x⟩
    refine (keyL m c t p k).trans (Eq.trans ?_ (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
      (show ix2 (row t p) (⟨k.val, by omega⟩ : Fin 2048) = _ from funext fun a => Fin.ext ?_)))
    · pointwise [val_main_v35, val_main_v34]
    · match a with
      | ⟨0, _⟩ => show t.val * 512 + p.val = t.val * 512 + (0 + 1 * p.val); omega
      | ⟨1, _⟩ => show k.val = 0 + 1 * k.val; omega
  · obtain ⟨p, k, rfl⟩ : ∃ (p : Fin 512) (k : Fin 128), x = ix2 p k := ⟨x 0, x 1, eq_ix2 x⟩
    refine (keyR m c t j p k).trans (Eq.trans ?_ (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
      (show ix2 (row t p) (⟨1024 + 128 * j.val + k.val, by omega⟩ : Fin 2048) = _ from funext fun a => Fin.ext ?_)))
    · pointwise [val_main_v35, val_main_v34]
      rw [dif_neg (by omega)]
      exact congrArg (val_main_v33 (F := Ideal) (m ((c : Thread nD τ).loc main_arg1)) (m ((c : Thread nD τ).loc main_arg2)) (m ((c : Thread nD τ).loc main_arg4))) (funext fun b => Fin.ext (by
        match b with
        | ⟨0, _⟩ => rfl
        | ⟨1, _⟩ => show 128 * j.val + k.val = 1024 + 128 * j.val + k.val - 1024; omega))
    · match a with
      | ⟨0, _⟩ => exact congrArg (t.val * 512 + ·) (embR0 j p k).symm
      | ⟨1, _⟩ => exact (embR1 j p k).symm

/-- The array the call leaves is the reference's. -/
theorem final6 : (dats m 0 c).arrAt 6 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  rw [after0_6]
  have hk := key6 m c t
  generalize outsAt0 m c t = o at hk ⊢
  obtain ⟨p, k, rfl⟩ : ∃ (p : Fin 512) (k : Fin 2048), y = ix2 p k := ⟨y 0, y 1, eq_ix2 y⟩
  refine (cast_eq _ _).trans ((hk (ix2 p k)).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (funext fun a => Fin.ext ?_)))
  match a with
  | ⟨0, _⟩ => blk_simp [places t, row]
  | ⟨1, _⟩ => blk_simp [places t]

end Cert.Kernel29Ideal.Claims

end
-- ==== Proof.RopeQkv.lean ====
/- The rotary embedding's turn: the kernel's blocks of turned queries and keys and of values are the reference's. -/
module

public import proofs.«01_k».proof.Proof.Gen.Kernel30Ideal.Value
public import proofs.«01_k».proof.Proof.Gen.Reference30Ideal.Read
public import Idealize.ShloMosaic.Lib.Pipeline.Value
public import Idealize.ShloMosaic.Lib.Pipeline.ValueKit
public import Idealize.ShloMosaic.Lib.KernelVsHost
public import Idealize.ShloMosaic.Lib.WholeRead
public import Idealize.ShloMosaic.Lib.Pointwise

@[expose] public section

set_option maxRecDepth 16384

noncomputable section

namespace Cert.Kernel30Ideal.Claims

open Cert.Kernel30Ideal Cert.Kernel30Ideal.Gen Cert.Kernel30Ideal.Value Idealize.ShloMosaic Idealize.ShloMosaic.TcCoe Cert.Reference30Ideal.Read
open Idealize.SL.Sem
open Idealize.ShloMosaic.Pipeline (Dat)

/-! ## The turn -/

/-- A head's 64 numbers, followed by zeros. -/
def padded (X : Fin 64 → EReal) (k : Fin 128) : EReal := if h : k.val < 64 then X ⟨k.val, h⟩ else 0

/-- A head's 64 numbers turned by 32 angles, given by their cosines and sines. -/
def turn (X : Fin 64 → EReal) (co si : Fin 32 → EReal) (d : Fin 64) : EReal :=
  if h : d.val < 32 then X d * co ⟨d.val, h⟩ - X ⟨d.val + 32, by omega⟩ * si ⟨d.val, h⟩
  else X d * co ⟨d.val - 32, by omega⟩ + X ⟨d.val - 32, by omega⟩ * si ⟨d.val - 32, by omega⟩

/-- The bit of a lane as the body computes it, which tells the halves of a head. -/
def laneBit (k : Fin 128) : BitVec 1 :=
  have a : BitVec 32 := BitVec.ofNat 32 k.val
  have b : BitVec 32 := Scalar.select (Scalar.cmpi .eq 64#32 0#32) 1#32 64#32
  have r : BitVec 32 := IntOp.remsi .vector a b
  IntOp.cmpi .slt (Scalar.select (IntOp.andi (IntOp.xori (IntOp.cmpi .slt r 0#32) (Scalar.cmpi .slt b 0#32)) (IntOp.cmpi .ne r 0#32)) (IntOp.addi r b) r) 32#32

/-- The body's mask of the first halves, as a block. -/
def halfMask : IVec S512x128 1 :=
  have b : BitVec 32 := Scalar.select (Scalar.cmpi .eq 64#32 0#32) 1#32 64#32
  have r : IVec S512x128 32 := remsi (iota .tc S512x128 32 [1] iota_S512x128_d1_w32) (broadcast S512x128 b)
  cmpi .slt (select (andi (xori (cmpi .slt r (broadcast S512x128 0#32)) (broadcastTo S512x128 (broadcast S512x128 (Scalar.cmpi .slt b 0#32)) broadcasts_S512x128_S512x128))
    (cmpi .ne r (broadcast S512x128 0#32))) (addi r (broadcast S512x128 b)) r) (broadcast S512x128 32#32)

/-- Which lanes are the first of two halves. -/
theorem half_mask (p : Fin 512) (k : Fin 128) : halfMask (ix2 p k) = if k.val % 64 < 32 then 1#1 else 0#1 := by
  have key : ∀ k : Fin 128, laneBit k = if k.val % 64 < 32 then 1#1 else 0#1 := by decide +kernel
  refine Eq.trans ?_ (key k)
  pointwise [halfMask, laneBit]

/-- Which lanes are the first head's of two. -/
theorem head_mask (p : Fin 512) (k : Fin 128) : k0_pay3 (ix2 p k) = if k.val < 64 then 1#1 else 0#1 := by
  have key : ∀ k : Fin 128, IntOp.cmpi .slt (BitVec.ofNat 32 k.val) 64#32 = if k.val < 64 then 1#1 else 0#1 := by decide +kernel
  refine Eq.trans ?_ (key k)
  pointwise [k0_pay3]

/-- A rotation of the lanes. -/
theorem rolled (n : BitVec 32) (x : Vec Ideal S512x128 .f32) (p : Fin 512) (k : Fin 128) (j : Fin 128) (hj : j.val = (k.val + 128 - n.toNat % 128) % 128) :
    dynamicRotate 1 n none x rotates_S512x128_d1 (ix2 p k) = x (ix2 p j) := by
  refine dynamicRotate_apply _ _ _ _ _ _ fun b => ?_
  match b with
  | ⟨0, _⟩ => rfl
  | ⟨1, _⟩ => exact hj

/-- The literal of the lanes filled up. -/
theorem zero_bits : Scalar.ofBits (F := Ideal) .f32 0x00000000#32 = 0 := Ideal.ofBits_zero_f32

section Tile

variable (p : Fin 512) (co si : Fin 32 → EReal) (X : Fin 2 → Fin 64 → EReal) (C S x : Vec Ideal S512x128 .f32)
  (hC : ∀ k : Fin 128, C (ix2 p k) = co (⟨k.val % 32, Nat.mod_lt _ (by decide)⟩ : Fin 32))
  (hS : ∀ k : Fin 128, S (ix2 p k) = if k.val % 64 < 32 then -(si (⟨k.val % 32, Nat.mod_lt _ (by decide)⟩ : Fin 32)) else si (⟨k.val % 32, Nat.mod_lt _ (by decide)⟩ : Fin 32))
  (hx : ∀ k : Fin 128, x (ix2 p k) = X (⟨k.val / 64, by omega⟩ : Fin 2) (⟨k.val % 64, Nat.mod_lt _ (by decide)⟩ : Fin 64))

include hC hS hx in
/-- A tile of two heads, turned. -/
theorem turned (k : Fin 128) : k0_pay4 C S x (ix2 p k) = turn (X (⟨k.val / 64, by omega⟩ : Fin 2)) co si (⟨k.val % 64, Nat.mod_lt _ (by decide)⟩ : Fin 64) := by
  have hk := k.isLt
  have hl : k0_pay4 C S x (ix2 p k) = x (ix2 p k) * C (ix2 p k)
      + Scalar.select (halfMask (ix2 p k)) (dynamicRotate 1 96#32 none x rotates_S512x128_d1 (ix2 p k)) (dynamicRotate 1 32#32 none x rotates_S512x128_d1 (ix2 p k)) * S (ix2 p k) := by
    unfold k0_pay4 k0_pay1 k0_pay2
    simp only [shapeCast_self]
    rfl
  rw [hl, rolled 96#32 x p k (⟨(k.val + 32) % 128, Nat.mod_lt _ (by decide)⟩ : Fin 128) (by show _ = (k.val + 128 - 96) % 128; dsimp only; omega),
    rolled 32#32 x p k (⟨(k.val + 96) % 128, Nat.mod_lt _ (by decide)⟩ : Fin 128) (by show _ = (k.val + 128 - 32) % 128; dsimp only; omega),
    half_mask, hC, hS]
  unfold turn
  by_cases h : k.val % 64 < 32
  · rw [if_pos h, if_pos h, dif_pos h]
    show x _ * _ + x _ * _ = _
    rw [hx, hx, mul_neg, ← sub_eq_add_neg]
    congr 2
    · exact congrArg co (Fin.ext (by dsimp only; omega))
    · exact congrArg₂ X (Fin.ext (by dsimp only; omega)) (Fin.ext (by dsimp only; omega))
    · exact congrArg si (Fin.ext (by dsimp only; omega))
  · rw [if_neg h, if_neg h, dif_neg h]
    show x _ * _ + x _ * _ = _
    rw [hx, hx]
    congr 2
    · exact congrArg co (Fin.ext (by dsimp only; omega))
    · exact congrArg₂ X (Fin.ext (by dsimp only; omega)) (Fin.ext (by dsimp only; omega))
    · exact congrArg si (Fin.ext (by dsimp only; omega))

include hC hS hx in
/-- The first head of a tile, turned. -/
theorem tile0 (k : Fin 128) : k0_pay7 C S x (ix2 p k) = padded (turn (X 0) co si) k := by
  have hl : k0_pay7 C S x (ix2 p k) = Scalar.select (k0_pay3 (ix2 p k)) (k0_pay4 C S x (ix2 p k)) (Scalar.ofBits (F := Ideal) .f32 0x00000000#32) := rfl
  rw [hl, head_mask, turned p co si X C S x hC hS hx]
  unfold padded
  by_cases h : k.val < 64
  · rw [if_pos h, dif_pos h]
    exact congrArg₂ (fun a b => turn (X a) co si b) (Fin.ext (by show k.val / 64 = 0; omega)) (Fin.ext (by dsimp only; omega))
  · rw [if_neg h, dif_neg h]
    exact zero_bits

include hC hS hx in
/-- The second head of a tile, turned. -/
theorem tile1 (k : Fin 128) : k0_pay8 (k0_pay6 C S x) (ix2 p k) = padded (turn (X 1) co si) k := by
  have hl : k0_pay8 (k0_pay6 C S x) (ix2 p k) = Scalar.select (k0_pay3 (ix2 p k)) (dynamicRotate 1 64#32 none (k0_pay4 C S x) rotates_S512x128_d1 (ix2 p k)) (Scalar.ofBits (F := Ideal) .f32 0x00000000#32) := rfl
  rw [hl, rolled 64#32 _ p k (⟨(k.val + 64) % 128, Nat.mod_lt _ (by decide)⟩ : Fin 128) (by show _ = (k.val + 128 - 64) % 128; dsimp only; omega),
    head_mask, turned p co si X C S x hC hS hx]
  unfold padded
  by_cases h : k.val < 64
  · rw [if_pos h, dif_pos h]
    exact congrArg₂ (fun a b => turn (X a) co si b) (Fin.ext (by show (k.val + 64) % 128 / 64 = 1; omega)) (Fin.ext (by dsimp only; omega))
  · rw [if_neg h, dif_neg h]
    exact zero_bits

include hx in
/-- The first head of a tile of values. -/
theorem tileV0 (k : Fin 128) : k0_pay65 k0_pay3 x (ix2 p k) = padded (X 0) k := by
  have hl : k0_pay65 k0_pay3 x (ix2 p k) = Scalar.select (k0_pay3 (ix2 p k)) (x (ix2 p k)) (Scalar.ofBits (F := Ideal) .f32 0x00000000#32) := by
    pointwise [k0_pay65, k0_pay63, k0_pay64]
  rw [hl, head_mask, hx]
  unfold padded
  by_cases h : k.val < 64
  · rw [if_pos h, dif_pos h]
    exact congrArg₂ X (Fin.ext (by show k.val / 64 = 0; omega)) (Fin.ext (by dsimp only; omega))
  · rw [if_neg h, dif_neg h]
    exact zero_bits

include hx in
/-- The second head of a tile of values. -/
theorem tileV1 (k : Fin 128) : k0_pay66 k0_pay3 x (ix2 p k) = padded (X 1) k := by
  have hl : k0_pay66 k0_pay3 x (ix2 p k) = Scalar.select (k0_pay3 (ix2 p k)) (dynamicRotate 1 64#32 none x rotates_S512x128_d1 (ix2 p k)) (Scalar.ofBits (F := Ideal) .f32 0x00000000#32) := by
    unfold k0_pay66 k0_pay63 k0_pay64
    simp only [shapeCast_self]
    rfl
  rw [hl, rolled 64#32 _ p k (⟨(k.val + 64) % 128, Nat.mod_lt _ (by decide)⟩ : Fin 128) (by show _ = (k.val + 128 - 64) % 128; dsimp only; omega),
    head_mask, hx]
  unfold padded
  by_cases h : k.val < 64
  · rw [if_pos h, dif_pos h]
    exact congrArg₂ X (Fin.ext (by show (k.val + 64) % 128 / 64 = 1; omega)) (Fin.ext (by dsimp only; omega))
  · rw [if_neg h, dif_neg h]
    exact zero_bits

end Tile

/-! ## The reference's entries -/

section Reference

variable (x0 : (⟨S1x4096x5632, .f32⟩ : BufTy).Contents (Elt Ideal)) (x1 x2 : (⟨S4096x32, .f32⟩ : BufTy).Contents (Elt Ideal))

/-- A head's 64 numbers, in the projections from a column on. -/
def head (r : Fin 4096) (o : ℕ) (ho : o + 64 ≤ 5632) (d : Fin 64) : EReal := x0 (ix3 (0 : Fin 1) r (⟨o + d.val, by omega⟩ : Fin 5632))

/-- An entry of the reference's queries before they are filled up. -/
theorem ref_q0 (r : Fin 4096) (h : Fin 16) (d : Fin 64) : val_main_v21 (F := Ideal) x0 x1 x2 (ix3 r h d)
    = turn (head x0 r (0 + 64 * h.val) (by omega)) (fun j => x1 (ix2 r j)) (fun j => x2 (ix2 r j)) d := by
  pointwise [val_main_v21, val_main_v0, val_main_v1, val_main_v6, val_main_v7, val_main_v8, val_main_v9, val_main_v10, val_main_v11, val_main_v12, val_main_v13, val_main_v14, val_main_v15, val_main_v16, val_main_v17, val_main_v18, val_main_v19, val_main_v20]
  unfold turn head
  have hd := d.isLt
  have hh := h.isLt
  have one : ∀ a b : Fin 5632, a.val = b.val → x0 (ix3 (0 : Fin 1) r a) = x0 (ix3 (0 : Fin 1) r b) := fun a b e => by rw [Fin.ext e]
  split_ifs with h1 h2
  · exact congrArg₂ (fun a b => a * x1 (ix2 r (⟨d.val, by omega⟩ : Fin 32)) - b * x2 (ix2 r (⟨d.val, by omega⟩ : Fin 32))) (one _ _ (by dsimp only; omega)) (one _ _ (by dsimp only; omega))
  · exact congrArg₂ (fun a b => a * x1 (ix2 r (⟨d.val - 32, by omega⟩ : Fin 32)) + b * x2 (ix2 r (⟨d.val - 32, by omega⟩ : Fin 32))) (one _ _ (by dsimp only; omega)) (one _ _ (by dsimp only; omega))
  · exact absurd rfl h2

/-- An entry of the reference's queries. -/
theorem ref_q (r : Fin 4096) (h : Fin 16) (k : Fin 128) : val_main_v41 (F := Ideal) x0 x1 x2 (ix2 r (⟨128 * h.val + k.val, by omega⟩ : Fin 2048))
    = padded (turn (head x0 r (0 + 64 * h.val) (by omega)) (fun j => x1 (ix2 r j)) (fun j => x2 (ix2 r j))) k := by
  have hh := h.isLt
  have hk := k.isLt
  rw [val_main_v41_apply, val_main_v40_apply]
  show val_main_v39 (F := Ideal) x0 x1 x2 _ = _
  have e : idx_main_v40 (ix2 r (⟨128 * h.val + k.val, by omega⟩ : Fin 2048)) = ix3 r h k := by
    have hr := r.isLt
    refine funext fun b => Fin.ext ?_
    match b with
    | ⟨0, _⟩ => show (r.val * 2048 + (128 * h.val + k.val)) / 2048 = r.val; omega
    | ⟨1, _⟩ => show (r.val * 2048 + (128 * h.val + k.val)) / 128 % 16 = h.val; omega
    | ⟨2, _⟩ => show (r.val * 2048 + (128 * h.val + k.val)) % 128 = k.val; omega
  rw [e]
  unfold val_main_v39 padded
  by_cases hd : k.val < 64
  · rw [dif_pos hd, ← ref_q0]
    exact pad_apply_of_inside _ _ _ _ _ _ _ _ (ix3 r h (⟨k.val, hd⟩ : Fin 64)) (by
      intro b
      match b with
      | ⟨0, _⟩ => show r.val = 0 + r.val * 1; omega
      | ⟨1, _⟩ => show h.val = 0 + h.val * 1; omega
      | ⟨2, _⟩ => show k.val = 0 + k.val * 1; omega)
  · rw [dif_neg hd]
    refine (pad_apply_of_not_inside _ _ _ _ _ _ _ _ (2 : Fin 3) (by
      rintro ⟨_, _, h3⟩
      have : (k.val - 0) / 1 < 64 := h3
      omega)).trans ?_
    show ((((0#32 : BitVec 32).toInt : ℤ) : ℝ) : EReal) = 0
    simp

/-- An entry of the reference's keys before they are filled up. -/
theorem ref_k0 (r : Fin 4096) (h : Fin 4) (d : Fin 64) : val_main_v37 (F := Ideal) x0 x1 x2 (ix3 r h d)
    = turn (head x0 r (1024 + 64 * h.val) (by omega)) (fun j => x1 (ix2 r j)) (fun j => x2 (ix2 r j)) d := by
  pointwise [val_main_v37, val_main_v2, val_main_v3, val_main_v22, val_main_v23, val_main_v24, val_main_v25, val_main_v26, val_main_v27, val_main_v28, val_main_v29, val_main_v30, val_main_v31, val_main_v32, val_main_v33, val_main_v34, val_main_v35, val_main_v36]
  unfold turn head
  have hd := d.isLt
  have hh := h.isLt
  have one : ∀ a b : Fin 5632, a.val = b.val → x0 (ix3 (0 : Fin 1) r a) = x0 (ix3 (0 : Fin 1) r b) := fun a b e => by rw [Fin.ext e]
  split_ifs with h1 h2
  · exact congrArg₂ (fun a b => a * x1 (ix2 r (⟨d.val, by omega⟩ : Fin 32)) - b * x2 (ix2 r (⟨d.val, by omega⟩ : Fin 32))) (one _ _ (by dsimp only; omega)) (one _ _ (by dsimp only; omega))
  · exact congrArg₂ (fun a b => a * x1 (ix2 r (⟨d.val - 32, by omega⟩ : Fin 32)) + b * x2 (ix2 r (⟨d.val - 32, by omega⟩ : Fin 32))) (one _ _ (by dsimp only; omega)) (one _ _ (by dsimp only; omega))
  · exact absurd rfl h2

/-- An entry of the reference's keys. -/
theorem ref_k (r : Fin 4096) (h : Fin 4) (k : Fin 128) : val_main_v44 (F := Ideal) x0 x1 x2 (ix2 r (⟨128 * h.val + k.val, by omega⟩ : Fin 512))
    = padded (turn (head x0 r (1024 + 64 * h.val) (by omega)) (fun j => x1 (ix2 r j)) (fun j => x2 (ix2 r j))) k := by
  have hh := h.isLt
  have hk := k.isLt
  rw [val_main_v44_apply, val_main_v43_apply]
  show val_main_v42 (F := Ideal) x0 x1 x2 _ = _
  have e : idx_main_v43 (ix2 r (⟨128 * h.val + k.val, by omega⟩ : Fin 512)) = ix3 r h k := by
    have hr := r.isLt
    refine funext fun b => Fin.ext ?_
    match b with
    | ⟨0, _⟩ => show (r.val * 512 + (128 * h.val + k.val)) / 512 = r.val; omega
    | ⟨1, _⟩ => show (r.val * 512 + (128 * h.val + k.val)) / 128 % 4 = h.val; omega
    | ⟨2, _⟩ => show (r.val * 512 + (128 * h.val + k.val)) % 128 = k.val; omega
  rw [e]
  unfold val_main_v42 padded
  by_cases hd : k.val < 64
  · rw [dif_pos hd, ← ref_k0]
    exact pad_apply_of_inside _ _ _ _ _ _ _ _ (ix3 r h (⟨k.val, hd⟩ : Fin 64)) (by
      intro b
      match b with
      | ⟨0, _⟩ => show r.val = 0 + r.val * 1; omega
      | ⟨1, _⟩ => show h.val = 0 + h.val * 1; omega
      | ⟨2, _⟩ => show k.val = 0 + k.val * 1; omega)
  · rw [dif_neg hd]
    refine (pad_apply_of_not_inside _ _ _ _ _ _ _ _ (2 : Fin 3) (by
      rintro ⟨_, _, h3⟩
      have : (k.val - 0) / 1 < 64 := h3
      omega)).trans ?_
    show ((((0#32 : BitVec 32).toInt : ℤ) : ℝ) : EReal) = 0
    simp

/-- An entry of the reference's values before they are filled up. -/
theorem ref_v0 (r : Fin 4096) (h : Fin 4) (d : Fin 64) : val_main_v38 (F := Ideal) x0 (ix3 r h d)
    = head x0 r (1280 + 64 * h.val) (by omega) d := by
  pointwise [val_main_v4, val_main_v5, val_main_v38]
  unfold head
  exact congrArg (fun a => x0 (ix3 (0 : Fin 1) r a)) (Fin.ext (by dsimp only; omega))

/-- An entry of the reference's values. -/
theorem ref_v (r : Fin 4096) (h : Fin 4) (k : Fin 128) : val_main_v47 (F := Ideal) x0 (ix2 r (⟨128 * h.val + k.val, by omega⟩ : Fin 512))
    = padded (head x0 r (1280 + 64 * h.val) (by omega)) k := by
  have hh := h.isLt
  have hk := k.isLt
  rw [val_main_v47_apply, val_main_v46_apply]
  show val_main_v45 (F := Ideal) x0 _ = _
  have e : idx_main_v46 (ix2 r (⟨128 * h.val + k.val, by omega⟩ : Fin 512)) = ix3 r h k := by
    have hr := r.isLt
    refine funext fun b => Fin.ext ?_
    match b with
    | ⟨0, _⟩ => show (r.val * 512 + (128 * h.val + k.val)) / 512 = r.val; omega
    | ⟨1, _⟩ => show (r.val * 512 + (128 * h.val + k.val)) / 128 % 4 = h.val; omega
    | ⟨2, _⟩ => show (r.val * 512 + (128 * h.val + k.val)) % 128 = k.val; omega
  rw [e]
  unfold val_main_v45 padded
  by_cases hd : k.val < 64
  · rw [dif_pos hd, ← ref_v0]
    exact pad_apply_of_inside _ _ _ _ _ _ _ _ (ix3 r h (⟨k.val, hd⟩ : Fin 64)) (by
      intro b
      match b with
      | ⟨0, _⟩ => show r.val = 0 + r.val * 1; omega
      | ⟨1, _⟩ => show h.val = 0 + h.val * 1; omega
      | ⟨2, _⟩ => show k.val = 0 + k.val * 1; omega)
  · rw [dif_neg hd]
    refine (pad_apply_of_not_inside _ _ _ _ _ _ _ _ (2 : Fin 3) (by
      rintro ⟨_, _, h3⟩
      have : (k.val - 0) / 1 < 64 := h3
      omega)).trans ?_
    show ((((0#32 : BitVec 32).toInt : ℤ) : ℝ) : EReal) = 0
    simp

end Reference

/-! ## The pieces that the body stores -/

/-- A tile of two heads of the queries' block. -/
def rectX (j : Fin 8) : Rect S512x1024 := Rect.unit ![0, 128 * j.val] S512x128.size
  (by intro a; have := j.isLt; fin_cases a <;> simp <;> omega)

/-- A tile of the block of the keys and values; of the keys' results; of the values'. -/
def rectY (j : Fin 4) : Rect S512x512 := Rect.unit ![0, 128 * j.val] S512x128.size
  (by intro a; have := j.isLt; fin_cases a <;> simp <;> omega)

/-- A head's lanes of the queries' result. -/
def rectQ (j : Fin 16) : Rect S512x2048 := Rect.unit ![0, 128 * j.val] S512x128.size
  (by intro a; have := j.isLt; fin_cases a <;> simp <;> omega)

/-- The tile that holds a head's queries. -/
def tileQ (h : Fin 16) : Fin 8 := ⟨h.val / 2, by omega⟩
/-- The tile that holds a head's keys. -/
def tileK (h : Fin 4) : Fin 4 := ⟨h.val / 2, by omega⟩
/-- The tile that holds a head's values. -/
def tileV (h : Fin 4) : Fin 4 := ⟨2 + h.val / 2, by omega⟩

/-! The places of the tiles' entries. -/

theorem embX0 (j : Fin 8) (p : Fin 512) (k : Fin 128) : ((rectX j).emb (ix2 p k) 0).val = p.val := by
  show 0 + 1 * p.val = p.val; omega
theorem embX1 (j : Fin 8) (p : Fin 512) (k : Fin 128) : ((rectX j).emb (ix2 p k) 1).val = 128 * j.val + k.val := by
  show 128 * j.val + 1 * k.val = _; omega

theorem embY0 (j : Fin 4) (p : Fin 512) (k : Fin 128) : ((rectY j).emb (ix2 p k) 0).val = p.val := by
  show 0 + 1 * p.val = p.val; omega
theorem embY1 (j : Fin 4) (p : Fin 512) (k : Fin 128) : ((rectY j).emb (ix2 p k) 1).val = 128 * j.val + k.val := by
  show 128 * j.val + 1 * k.val = _; omega

theorem embQ0 (j : Fin 16) (p : Fin 512) (k : Fin 128) : ((rectQ j).emb (ix2 p k) 0).val = p.val := by
  show 0 + 1 * p.val = p.val; omega
theorem embQ1 (j : Fin 16) (p : Fin 512) (k : Fin 128) : ((rectQ j).emb (ix2 p k) 1).val = 128 * j.val + k.val := by
  show 128 * j.val + 1 * k.val = _; omega

section Run

variable (c : Dev nD) (i : grid0.Coords)
  (arg1 : Memref sig .tc .vmem S512x1024 .f32) (harg1 : arg1.IsWhole)
  (arg2 : Memref sig .tc .vmem S512x512 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x2048 .bf16) (harg5 : arg5.IsWhole)
  (arg6 : Memref sig .tc .vmem S512x512 .bf16) (harg6 : arg6.IsWhole)
  (arg7 : Memref sig .tc .vmem S512x512 .bf16) (harg7 : arg7.IsWhole)
  (x0 : Vec Ideal S512x1024 .f32) (x1 : Vec Ideal S512x512 .f32) (x2 x3 : Vec Ideal S512x128 .f32)

/-- The whole of a table's block is loaded. -/
theorem table3 : View.readAt (Elt Ideal) arg3.view (Rect.unit (s := S512x128) ![0, 0] S512x128.size inb_S512x128_S512x128_0_0).toLoadRect (harg3.unread x2) = x2 :=
  funext fun z => (harg3.readAt_unread x2 _ z).trans (congrArg x2 (funext fun a => Fin.ext (by fin_cases a <;> simp [Rect.toLoadRect, Rect.unit])))
theorem table4 : View.readAt (Elt Ideal) arg4.view (Rect.unit (s := S512x128) ![0, 0] S512x128.size inb_S512x128_S512x128_0_0).toLoadRect (harg4.unread x3) = x3 :=
  funext fun z => (harg4.readAt_unread x3 _ z).trans (congrArg x3 (funext fun a => Fin.ext (by fin_cases a <;> simp [Rect.toLoadRect, Rect.unit])))

/-- The run's stores of the queries: a tile for each head. -/
theorem pieces_q : (kernelRun0_A c i arg1 harg1 arg2 harg2 arg3 harg3 arg4 harg4 arg5 harg5 arg6 harg6 arg7 harg7 x0 x1 x2 x3).1
    = (List.ofFn fun j : Fin 16 => (⟨rectQ j, bif j.val % 2 == 0 then k0_pay7 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg1.view (rectX (tileQ j)).toLoadRect (harg1.unread x0)) else k0_pay8 (k0_pay6 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg1.view (rectX (tileQ j)).toLoadRect (harg1.unread x0)))⟩ : View.Piece (Elt Ideal) S512x2048 .bf16)).reverse := by
  sl_kernel_rfl

/-- The queries' block that the run leaves is one whose entries each store agrees with. -/
theorem out_q (G : S512x2048.Idx → EReal)
    (hr : ∀ (j : Fin 16) x, (bif j.val % 2 == 0 then k0_pay7 x2 x3 (View.ld x0 (rectX (tileQ j))) else k0_pay8 (k0_pay6 x2 x3 (View.ld x0 (rectX (tileQ j))))) x = G ((rectQ j).emb x)) (y : S512x2048.Idx) :
    out0_A_4 c i arg1 harg1 arg2 harg2 arg3 harg3 arg4 harg4 arg5 harg5 arg6 harg6 arg7 harg7 x0 x1 x2 x3 y = G y := by
  unfold out0_A_4
  rw [View.read_writes_eq_canon _ _ _ (cover0_A_4 c i arg1 harg1 arg2 harg2 arg3 harg3 arg4 harg4 arg5 harg5 arg6 harg6 arg7 harg7 x0 x1 x2 x3)]
  refine View.canon_apply_of_pieces G _ (fun p hp x => ?_) y (cover0_A_4 c i arg1 harg1 arg2 harg2 arg3 harg3 arg4 harg4 arg5 harg5 arg6 harg6 arg7 harg7 x0 x1 x2 x3 y)
  rw [pieces_q, List.mem_reverse, List.mem_ofFn] at hp
  obtain ⟨j, rfl⟩ := hp
  refine Eq.trans ?_ (hr j x)
  have e1 : View.readAt (Elt Ideal) arg1.view (rectX (tileQ j)).toLoadRect (harg1.unread x0) = View.ld x0 (rectX (tileQ j)) :=
    funext fun z => harg1.readAt_unread x0 (rectX (tileQ j)).toLoadRect z
  show (bif j.val % 2 == 0 then k0_pay7 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg1.view (rectX (tileQ j)).toLoadRect (harg1.unread x0)) else k0_pay8 (k0_pay6 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg1.view (rectX (tileQ j)).toLoadRect (harg1.unread x0)))) x = _
  rw [table3, table4, e1]

/-- The run's stores of the keys: a tile for each head. -/
theorem pieces_k : (kernelRun0_A c i arg1 harg1 arg2 harg2 arg3 harg3 arg4 harg4 arg5 harg5 arg6 harg6 arg7 harg7 x0 x1 x2 x3).2.1
    = (List.ofFn fun j : Fin 4 => (⟨rectY j, bif j.val % 2 == 0 then k0_pay7 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg2.view (rectY (tileK j)).toLoadRect (harg2.unread x1)) else k0_pay8 (k0_pay6 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg2.view (rectY (tileK j)).toLoadRect (harg2.unread x1)))⟩ : View.Piece (Elt Ideal) S512x512 .bf16)).reverse := by
  sl_kernel_rfl

/-- The keys' block that the run leaves is one whose entries each store agrees with. -/
theorem out_k (G : S512x512.Idx → EReal)
    (hr : ∀ (j : Fin 4) x, (bif j.val % 2 == 0 then k0_pay7 x2 x3 (View.ld x1 (rectY (tileK j))) else k0_pay8 (k0_pay6 x2 x3 (View.ld x1 (rectY (tileK j))))) x = G ((rectY j).emb x)) (y : S512x512.Idx) :
    out0_A_5 c i arg1 harg1 arg2 harg2 arg3 harg3 arg4 harg4 arg5 harg5 arg6 harg6 arg7 harg7 x0 x1 x2 x3 y = G y := by
  unfold out0_A_5
  rw [View.read_writes_eq_canon _ _ _ (cover0_A_5 c i arg1 harg1 arg2 harg2 arg3 harg3 arg4 harg4 arg5 harg5 arg6 harg6 arg7 harg7 x0 x1 x2 x3)]
  refine View.canon_apply_of_pieces G _ (fun p hp x => ?_) y (cover0_A_5 c i arg1 harg1 arg2 harg2 arg3 harg3 arg4 harg4 arg5 harg5 arg6 harg6 arg7 harg7 x0 x1 x2 x3 y)
  rw [pieces_k, List.mem_reverse, List.mem_ofFn] at hp
  obtain ⟨j, rfl⟩ := hp
  refine Eq.trans ?_ (hr j x)
  have e1 : View.readAt (Elt Ideal) arg2.view (rectY (tileK j)).toLoadRect (harg2.unread x1) = View.ld x1 (rectY (tileK j)) :=
    funext fun z => harg2.readAt_unread x1 (rectY (tileK j)).toLoadRect z
  show (bif j.val % 2 == 0 then k0_pay7 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg2.view (rectY (tileK j)).toLoadRect (harg2.unread x1)) else k0_pay8 (k0_pay6 (View.readAt (Elt Ideal) arg3.view (Rect.unit (s := S512x128) ![0, 0] S512x128.size inb_S512x128_S512x128_0_0).toLoadRect (harg3.unread x2)) (View.readAt (Elt Ideal) arg4.view (Rect.unit (s := S512x128) ![0, 0] S512x128.size inb_S512x128_S512x128_0_0).toLoadRect (harg4.unread x3)) (View.readAt (Elt Ideal) arg2.view (rectY (tileK j)).toLoadRect (harg2.unread x1)))) x = _
  rw [table3, table4, e1]

/-- The run's stores of the values: a tile for each head. -/
theorem pieces_v : (kernelRun0_A c i arg1 harg1 arg2 harg2 arg3 harg3 arg4 harg4 arg5 harg5 arg6 harg6 arg7 harg7 x0 x1 x2 x3).2.2.1
    = (List.ofFn fun j : Fin 4 => (⟨rectY j, bif j.val % 2 == 0 then k0_pay65 k0_pay3 (View.readAt (Elt Ideal) arg2.view (rectY (tileV j)).toLoadRect (harg2.unread x1)) else k0_pay66 k0_pay3 (View.readAt (Elt Ideal) arg2.view (rectY (tileV j)).toLoadRect (harg2.unread x1))⟩ : View.Piece (Elt Ideal) S512x512 .bf16)).reverse := by
  sl_kernel_rfl

/-- The values' block that the run leaves is one whose entries each store agrees with. -/
theorem out_v (G : S512x512.Idx → EReal)
    (hr : ∀ (j : Fin 4) x, (bif j.val % 2 == 0 then k0_pay65 k0_pay3 (View.ld x1 (rectY (tileV j))) else k0_pay66 k0_pay3 (View.ld x1 (rectY (tileV j)))) x = G ((rectY j).emb x)) (y : S512x512.Idx) :
    out0_A_6 c i arg1 harg1 arg2 harg2 arg3 harg3 arg4 harg4 arg5 harg5 arg6 harg6 arg7 harg7 x0 x1 x2 x3 y = G y := by
  unfold out0_A_6
  rw [View.read_writes_eq_canon _ _ _ (cover0_A_6 c i arg1 harg1 arg2 harg2 arg3 harg3 arg4 harg4 arg5 harg5 arg6 harg6 arg7 harg7 x0 x1 x2 x3)]
  refine View.canon_apply_of_pieces G _ (fun p hp x => ?_) y (cover0_A_6 c i arg1 harg1 arg2 harg2 arg3 harg3 arg4 harg4 arg5 harg5 arg6 harg6 arg7 harg7 x0 x1 x2 x3 y)
  rw [pieces_v, List.mem_reverse, List.mem_ofFn] at hp
  obtain ⟨j, rfl⟩ := hp
  refine Eq.trans ?_ (hr j x)
  have e1 : View.readAt (Elt Ideal) arg2.view (rectY (tileV j)).toLoadRect (harg2.unread x1) = View.ld x1 (rectY (tileV j)) :=
    funext fun z => harg2.readAt_unread x1 (rectY (tileV j)).toLoadRect z
  show (bif j.val % 2 == 0 then k0_pay65 k0_pay3 (View.readAt (Elt Ideal) arg2.view (rectY (tileV j)).toLoadRect (harg2.unread x1)) else k0_pay66 k0_pay3 (View.readAt (Elt Ideal) arg2.view (rectY (tileV j)).toLoadRect (harg2.unread x1))) x = _
  rw [e1]

end Run

/-! ## The blocks -/

variable (m : (ℓ : Loc nD τ sig) → Buf (Elt Ideal) ℓ) (c : Dev nD)

/-- The projections as the call finds them. -/
theorem entry0 : V m c (Pipeline.arrRef spec0 0)
    = (fun i => m ((c : Thread nD τ).loc main_arg0) (ix3 (0 : Fin 1) (i 0) (i 1)) : S4096x5632.Idx → EReal) := by
  entry_read
  funext i
  pointwise

/-- The projections as the call finds them, read by the window of the keys and values. -/
theorem entry1 : V m c (Pipeline.arrRef spec0 1)
    = (fun i => m ((c : Thread nD τ).loc main_arg0) (ix3 (0 : Fin 1) (i 0) (i 1)) : S4096x5632.Idx → EReal) := by
  entry_read
  funext i
  pointwise

/-- The cosines as the call finds them. -/
theorem entry2 : V m c (Pipeline.arrRef spec0 2)
    = (fun i => m ((c : Thread nD τ).loc main_arg1) (ix2 (i 0) (⟨(i 1).val % 32, Nat.mod_lt _ (by decide)⟩ : Fin 32)) : S4096x128.Idx → EReal) := by
  entry_read
  funext i
  obtain ⟨r, k, rfl⟩ : ∃ (r : Fin 4096) (k : Fin 128), i = ix2 r k := ⟨i 0, i 1, eq_ix2 i⟩
  have hk := k.isLt
  have one : ∀ a b : Fin 32, a.val = b.val → m ((c : Thread nD τ).loc main_arg1) (ix2 r a) = m ((c : Thread nD τ).loc main_arg1) (ix2 r b) := fun a b e => by rw [Fin.ext e]
  pointwise
  split_ifs <;> exact one _ _ (by dsimp only; omega)

/-- A lane's number of a table of sines, with the signs of the turn. -/
def signed (a : Fin 32 → EReal) (k : Fin 128) : EReal :=
  if k.val % 64 < 32 then -(a ⟨k.val % 32, Nat.mod_lt _ (by decide)⟩) else a ⟨k.val % 32, Nat.mod_lt _ (by decide)⟩

/-- The host's table of the signed sines. -/
def sines (a : FVec Ideal S4096x32 .f32) : FVec Ideal S4096x128 .f32 :=
  concatenate S4096x128 1 [⟨S4096x32, (Host.negf a)⟩, ⟨S4096x32, a⟩, ⟨S4096x32, (Host.negf a)⟩, ⟨S4096x32, a⟩] concatenates_S4096x32_S4096x32_S4096x32_S4096x32_S4096x128_d1

/-- An entry of it. -/
theorem sines_at (a : FVec Ideal S4096x32 .f32) (r : Fin 4096) (k : Fin 128) : sines a (ix2 r k) = signed (fun q => a (ix2 r q)) k := by
  have hk := k.isLt
  have one : ∀ q q' : Fin 32, q.val = q'.val → a (ix2 r q) = a (ix2 r q') := fun q q' e => by rw [Fin.ext e]
  have neg : ∀ q q' : Fin 32, q.val = q'.val → -(a (ix2 r q) : EReal) = -(a (ix2 r q') : EReal) := fun q q' e => by rw [Fin.ext e]
  unfold signed
  by_cases h : k.val % 64 < 32
  · rw [if_pos h]
    pointwise [sines]
    split_ifs
    all_goals first | omega | (refine neg _ _ ?_; dsimp only; omega)
  · rw [if_neg h]
    pointwise [sines]
    split_ifs
    all_goals first | omega | (refine one _ _ ?_; dsimp only; omega)

/-- The host's table is what the call finds. -/
theorem entry3_sines : V m c (Pipeline.arrRef spec0 3) = sines (m ((c : Thread nD τ).loc main_arg2)) := by
  sl_kernel_rfl

/-- The sines as the call finds them, with the signs of the turn. -/
theorem entry3 : V m c (Pipeline.arrRef spec0 3)
    = (fun i => signed (fun q => m ((c : Thread nD τ).loc main_arg2) (ix2 (i 0) q)) (i 1) : S4096x128.Idx → EReal) := by
  rw [entry3_sines]
  funext i
  obtain ⟨r, k, rfl⟩ : ∃ (r : Fin 4096) (k : Fin 128), i = ix2 r k := ⟨i 0, i 1, eq_ix2 i⟩
  exact sines_at _ r k

/-- Where the blocks lie at each point of the grid. -/
theorem places : ∀ t : Fin cfg0.N, win0_0.index t = ![t.val, 0] ∧ win0_1.index t = ![t.val, 2] ∧ win0_2.index t = ![t.val, 0] ∧ win0_3.index t = ![t.val, 0]
      ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 2] ∧ win0_2.index t = ![t.val, 0] ∧ win0_3.index t = ![t.val, 0]
      ∧ win0_4.index t = ![t.val, 0] ∧ win0_5.index t = ![t.val, 0] ∧ win0_6.index t = ![t.val, 0])

/-- The row of the array that a row of a block is. -/
def row (t : Fin cfg0.N) (p : Fin 512) : Fin 4096 := ⟨t.val * 512 + p.val, by have : t.val < 8 := t.isLt; omega⟩

/-- A tile of the queries. -/
theorem block0 (t : Fin cfg0.N) (j : Fin 8) (p : Fin 512) (k : Fin 128) : View.ld (X0_0 m c t : Vec Ideal S512x1024 .f32) (rectX j) (ix2 p k)
    = m ((c : Thread nD τ).loc main_arg0) (ix3 (0 : Fin 1) (row t p) (⟨128 * j.val + k.val, by omega⟩ : Fin 5632)) := by
  have hj := j.isLt
  have hk := k.isLt
  have h1 : X0_0 m c t ((rectX j).emb (ix2 p k)) = m ((c : Thread nD τ).loc main_arg0) (ix3 (0 : Fin 1) (row t p) (⟨128 * j.val + k.val, by omega⟩ : Fin 5632)) := by
    unfold X0_0 Pipeline.Window.fill
    rw [dif_pos (moved0_0 t _)]
    show V m c (Pipeline.arrRef spec0 0) ((win0_0.blk t).view.emb _) = _
    rw [entry0]
    refine congrArg (m ((c : Thread nD τ).loc main_arg0)) (funext fun a => Fin.ext ?_)
    match a with
    | ⟨0, _⟩ => blk_simp [places t, rectX]
    | ⟨1, _⟩ => blk_simp [places t, row, rectX]; exact congrArg (t.val * 512 + ·) (embX0 j p k)
    | ⟨2, _⟩ => blk_simp [places t, rectX]; exact embX1 j p k
  exact h1

/-- A tile of the keys or values. -/
theorem block1 (t : Fin cfg0.N) (j : Fin 4) (p : Fin 512) (k : Fin 128) : View.ld (iblk m c 1 t : Vec Ideal S512x512 .f32) (rectY j) (ix2 p k)
    = m ((c : Thread nD τ).loc main_arg0) (ix3 (0 : Fin 1) (row t p) (⟨1024 + (128 * j.val + k.val), by omega⟩ : Fin 5632)) := by
  have hj := j.isLt
  have hk := k.isLt
  show V m c (Pipeline.arrRef spec0 1) ((win0_1.blk t).view.emb ((rectY j).emb (ix2 p k))) = _
  rw [entry1]
  refine congrArg (m ((c : Thread nD τ).loc main_arg0)) (funext fun a => Fin.ext ?_)
  match a with
  | ⟨0, _⟩ => blk_simp [places t, rectY]
  | ⟨1, _⟩ => blk_simp [places t, row, rectY]; exact congrArg (t.val * 512 + ·) (embY0 j p k)
  | ⟨2, _⟩ => blk_simp [places t, rectY]; show 2 * 512 + ((rectY j).emb (ix2 p k) 1).val = 1024 + (128 * j.val + k.val); rw [embY1]

/-- A block of the cosines. -/
theorem block2 (t : Fin cfg0.N) (p : Fin 512) (k : Fin 128) : iblk m c 2 t (ix2 p k)
    = m ((c : Thread nD τ).loc main_arg1) (ix2 (row t p) (⟨k.val % 32, Nat.mod_lt _ (by decide)⟩ : Fin 32)) := by
  show V m c (Pipeline.arrRef spec0 2) ((win0_2.blk t).view.emb (ix2 p k)) = _
  rw [entry2]
  refine congrArg (m ((c : Thread nD τ).loc main_arg1)) (funext fun a => Fin.ext ?_)
  match a with
  | ⟨0, _⟩ => blk_simp [places t, row]
  | ⟨1, _⟩ => blk_simp [places t]

/-- A block of the signed sines. -/
theorem block3 (t : Fin cfg0.N) (p : Fin 512) (k : Fin 128) : iblk m c 3 t (ix2 p k)
    = signed (fun q => m ((c : Thread nD τ).loc main_arg2) (ix2 (row t p) q)) k := by
  show V m c (Pipeline.arrRef spec0 3) ((win0_3.blk t).view.emb (ix2 p k)) = _
  rw [entry3]
  refine congrArg (fun z : S4096x128.Idx => signed (fun q => m ((c : Thread nD τ).loc main_arg2) (ix2 (z 0) q)) (z 1))
    (show (win0_3.blk t).view.emb (ix2 p k) = ix2 (row t p) k from funext fun a => Fin.ext ?_)
  match a with
  | ⟨0, _⟩ => blk_simp [places t, row]
  | ⟨1, _⟩ => blk_simp [places t]

/-! ## The entries -/

/-- An entry of a head's tile of the queries. -/
theorem entry_q (t : Fin cfg0.N) (j : Fin 16) (p : Fin 512) (k : Fin 128) :
    (bif j.val % 2 == 0 then k0_pay7 (iblk m c 2 t : Vec Ideal S512x128 .f32) (iblk m c 3 t : Vec Ideal S512x128 .f32) (View.ld (X0_0 m c t : Vec Ideal S512x1024 .f32) (rectX (tileQ j))) else k0_pay8 (k0_pay6 (iblk m c 2 t : Vec Ideal S512x128 .f32) (iblk m c 3 t : Vec Ideal S512x128 .f32) (View.ld (X0_0 m c t : Vec Ideal S512x1024 .f32) (rectX (tileQ j))))) (ix2 p k)
      = val_main_v41 (F := Ideal) (m ((c : Thread nD τ).loc main_arg0)) (m ((c : Thread nD τ).loc main_arg1)) (m ((c : Thread nD τ).loc main_arg2)) (ix2 (row t p) (⟨128 * j.val + k.val, by omega⟩ : Fin 2048)) := by
  have hj := j.isLt
  have hx : ∀ k : Fin 128, View.ld (X0_0 m c t : Vec Ideal S512x1024 .f32) (rectX (tileQ j)) (ix2 p k)
      = (fun b => head (m ((c : Thread nD τ).loc main_arg0)) (row t p) (0 + 64 * (2 * (j.val / 2) + b.val)) (by omega)) (⟨k.val / 64, by omega⟩ : Fin 2) (⟨k.val % 64, Nat.mod_lt _ (by decide)⟩ : Fin 64) := fun k => by
    rw [block0]
    exact congrArg (fun a => (m ((c : Thread nD τ).loc main_arg0)) (ix3 (0 : Fin 1) (row t p) a)) (Fin.ext (by show 128 * (j.val / 2) + k.val = 0 + 64 * (2 * (j.val / 2) + k.val / 64) + k.val % 64; omega))
  rw [ref_q]
  have same : ∀ (a b : ℕ) (ha : a + 64 ≤ 5632) (hb : b + 64 ≤ 5632), a = b → head (m ((c : Thread nD τ).loc main_arg0)) (row t p) a ha = head (m ((c : Thread nD τ).loc main_arg0)) (row t p) b hb := fun a b ha hb e => by subst e; rfl
  rcases Nat.mod_two_eq_zero_or_one j.val with h | h
  · rw [show (j.val % 2 == 0) = true by simp [h], cond_true]
    refine (tile0 p (fun q => (m ((c : Thread nD τ).loc main_arg1)) (ix2 (row t p) q)) (fun q => (m ((c : Thread nD τ).loc main_arg2)) (ix2 (row t p) q)) (fun b => head (m ((c : Thread nD τ).loc main_arg0)) (row t p) (0 + 64 * (2 * (j.val / 2) + b.val)) (by omega)) _ _ _ (block2 m c t p) (block3 m c t p) hx k).trans ?_
    rw [same _ (0 + 64 * j.val) _ (by omega) (by show 0 + 64 * (2 * (j.val / 2) + 0) = _; omega)]
  · rw [show (j.val % 2 == 0) = false by simp [h], cond_false]
    refine (tile1 p (fun q => (m ((c : Thread nD τ).loc main_arg1)) (ix2 (row t p) q)) (fun q => (m ((c : Thread nD τ).loc main_arg2)) (ix2 (row t p) q)) (fun b => head (m ((c : Thread nD τ).loc main_arg0)) (row t p) (0 + 64 * (2 * (j.val / 2) + b.val)) (by omega)) _ _ _ (block2 m c t p) (block3 m c t p) hx k).trans ?_
    rw [same _ (0 + 64 * j.val) _ (by omega) (by show 0 + 64 * (2 * (j.val / 2) + 1) = _; omega)]

/-- An entry of the queries' block that the run leaves is the reference's entry at its place. -/
theorem key4 (t : Fin cfg0.N) (y : S512x2048.Idx) : (outsAt0 m c t).1 y = val_main_v41 (F := Ideal) (m ((c : Thread nD τ).loc main_arg0)) (m ((c : Thread nD τ).loc main_arg1)) (m ((c : Thread nD τ).loc main_arg2)) (ix2 (row t (y 0)) (y 1)) := by
  unfold outsAt0
  dsimp only
  refine out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (iblk m c 1 t) (iblk m c 2 t) (iblk m c 3 t) (fun y => val_main_v41 (F := Ideal) (m ((c : Thread nD τ).loc main_arg0)) (m ((c : Thread nD τ).loc main_arg1)) (m ((c : Thread nD τ).loc main_arg2)) (ix2 (row t (y 0)) (y 1))) (fun j x => ?_) y
  obtain ⟨p, k, rfl⟩ : ∃ (p : Fin 512) (k : Fin 128), x = ix2 p k := ⟨x 0, x 1, eq_ix2 x⟩
  refine (entry_q m c t j p k).trans (congrArg (val_main_v41 (F := Ideal) (m ((c : Thread nD τ).loc main_arg0)) (m ((c : Thread nD τ).loc main_arg1)) (m ((c : Thread nD τ).loc main_arg2)))
    (show ix2 (row t p) (⟨128 * j.val + k.val, by omega⟩ : Fin 2048) = _ from funext fun a => Fin.ext ?_))
  match a with
  | ⟨0, _⟩ => exact congrArg (t.val * 512 + ·) (embQ0 j p k).symm
  | ⟨1, _⟩ => exact (embQ1 j p k).symm

/-- The array of the queries that the call leaves is the reference's. -/
theorem final4 : (dats m 0 c).arrAt 4 cfg0.N = val_main_v41 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  rw [after0_4]
  have hk := key4 m c t
  generalize (outsAt0 m c t).1 = o at hk ⊢
  obtain ⟨p, k, rfl⟩ : ∃ (p : Fin 512) (k : Fin 2048), y = ix2 p k := ⟨y 0, y 1, eq_ix2 y⟩
  refine (cast_eq _ _).trans ((hk (ix2 p k)).trans (congrArg (val_main_v41 (F := Ideal) (m ((c : Thread nD τ).loc main_arg0)) (m ((c : Thread nD τ).loc main_arg1)) (m ((c : Thread nD τ).loc main_arg2))) (funext fun a => Fin.ext ?_)))
  match a with
  | ⟨0, _⟩ => blk_simp [places t, row]
  | ⟨1, _⟩ => blk_simp [places t]

/-- An entry of a head's tile of the keys. -/
theorem entry_k (t : Fin cfg0.N) (j : Fin 4) (p : Fin 512) (k : Fin 128) :
    (bif j.val % 2 == 0 then k0_pay7 (iblk m c 2 t : Vec Ideal S512x128 .f32) (iblk m c 3 t : Vec Ideal S512x128 .f32) (View.ld (iblk m c 1 t : Vec Ideal S512x512 .f32) (rectY (tileK j))) else k0_pay8 (k0_pay6 (iblk m c 2 t : Vec Ideal S512x128 .f32) (iblk m c 3 t : Vec Ideal S512x128 .f32) (View.ld (iblk m c 1 t : Vec Ideal S512x512 .f32) (rectY (tileK j))))) (ix2 p k)
      = val_main_v44 (F := Ideal) (m ((c : Thread nD τ).loc main_arg0)) (m ((c : Thread nD τ).loc main_arg1)) (m ((c : Thread nD τ).loc main_arg2)) (ix2 (row t p) (⟨128 * j.val + k.val, by omega⟩ : Fin 512)) := by
  have hj := j.isLt
  have hx : ∀ k : Fin 128, View.ld (iblk m c 1 t : Vec Ideal S512x512 .f32) (rectY (tileK j)) (ix2 p k)
      = (fun b => head (m ((c : Thread nD τ).loc main_arg0)) (row t p) (1024 + 64 * (2 * (j.val / 2) + b.val)) (by omega)) (⟨k.val / 64, by omega⟩ : Fin 2) (⟨k.val % 64, Nat.mod_lt _ (by decide)⟩ : Fin 64) := fun k => by
    rw [block1]
    exact congrArg (fun a => (m ((c : Thread nD τ).loc main_arg0)) (ix3 (0 : Fin 1) (row t p) a)) (Fin.ext (by show 1024 + (128 * (j.val / 2) + k.val) = 1024 + 64 * (2 * (j.val / 2) + k.val / 64) + k.val % 64; omega))
  rw [ref_k]
  have same : ∀ (a b : ℕ) (ha : a + 64 ≤ 5632) (hb : b + 64 ≤ 5632), a = b → head (m ((c : Thread nD τ).loc main_arg0)) (row t p) a ha = head (m ((c : Thread nD τ).loc main_arg0)) (row t p) b hb := fun a b ha hb e => by subst e; rfl
  rcases Nat.mod_two_eq_zero_or_one j.val with h | h
  · rw [show (j.val % 2 == 0) = true by simp [h], cond_true]
    refine (tile0 p (fun q => (m ((c : Thread nD τ).loc main_arg1)) (ix2 (row t p) q)) (fun q => (m ((c : Thread nD τ).loc main_arg2)) (ix2 (row t p) q)) (fun b => head (m ((c : Thread nD τ).loc main_arg0)) (row t p) (1024 + 64 * (2 * (j.val / 2) + b.val)) (by omega)) _ _ _ (block2 m c t p) (block3 m c t p) hx k).trans ?_
    rw [same _ (1024 + 64 * j.val) _ (by omega) (by show 1024 + 64 * (2 * (j.val / 2) + 0) = _; omega)]
  · rw [show (j.val % 2 == 0) = false by simp [h], cond_false]
    refine (tile1 p (fun q => (m ((c : Thread nD τ).loc main_arg1)) (ix2 (row t p) q)) (fun q => (m ((c : Thread nD τ).loc main_arg2)) (ix2 (row t p) q)) (fun b => head (m ((c : Thread nD τ).loc main_arg0)) (row t p) (1024 + 64 * (2 * (j.val / 2) + b.val)) (by omega)) _ _ _ (block2 m c t p) (block3 m c t p) hx k).trans ?_
    rw [same _ (1024 + 64 * j.val) _ (by omega) (by show 1024 + 64 * (2 * (j.val / 2) + 1) = _; omega)]

/-- An entry of the keys' block that the run leaves is the reference's entry at its place. -/
theorem key5 (t : Fin cfg0.N) (y : S512x512.Idx) : (outsAt0 m c t).2.1 y = val_main_v44 (F := Ideal) (m ((c : Thread nD τ).loc main_arg0)) (m ((c : Thread nD τ).loc main_arg1)) (m ((c : Thread nD τ).loc main_arg2)) (ix2 (row t (y 0)) (y 1)) := by
  unfold outsAt0
  dsimp only
  refine out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (iblk m c 1 t) (iblk m c 2 t) (iblk m c 3 t) (fun y => val_main_v44 (F := Ideal) (m ((c : Thread nD τ).loc main_arg0)) (m ((c : Thread nD τ).loc main_arg1)) (m ((c : Thread nD τ).loc main_arg2)) (ix2 (row t (y 0)) (y 1))) (fun j x => ?_) y
  obtain ⟨p, k, rfl⟩ : ∃ (p : Fin 512) (k : Fin 128), x = ix2 p k := ⟨x 0, x 1, eq_ix2 x⟩
  refine (entry_k m c t j p k).trans (congrArg (val_main_v44 (F := Ideal) (m ((c : Thread nD τ).loc main_arg0)) (m ((c : Thread nD τ).loc main_arg1)) (m ((c : Thread nD τ).loc main_arg2)))
    (show ix2 (row t p) (⟨128 * j.val + k.val, by omega⟩ : Fin 512) = _ from funext fun a => Fin.ext ?_))
  match a with
  | ⟨0, _⟩ => exact congrArg (t.val * 512 + ·) (embY0 j p k).symm
  | ⟨1, _⟩ => exact (embY1 j p k).symm

/-- The array of the keys that the call leaves is the reference's. -/
theorem final5 : (dats m 0 c).arrAt 5 cfg0.N = val_main_v44 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [after0_5]
  have hk := key5 m c t
  generalize (outsAt0 m c t).2.1 = o at hk ⊢
  obtain ⟨p, k, rfl⟩ : ∃ (p : Fin 512) (k : Fin 512), y = ix2 p k := ⟨y 0, y 1, eq_ix2 y⟩
  refine (cast_eq _ _).trans ((hk (ix2 p k)).trans (congrArg (val_main_v44 (F := Ideal) (m ((c : Thread nD τ).loc main_arg0)) (m ((c : Thread nD τ).loc main_arg1)) (m ((c : Thread nD τ).loc main_arg2))) (funext fun a => Fin.ext ?_)))
  match a with
  | ⟨0, _⟩ => blk_simp [places t, row]
  | ⟨1, _⟩ => blk_simp [places t]

/-- An entry of a head's tile of the values. -/
theorem entry_v (t : Fin cfg0.N) (j : Fin 4) (p : Fin 512) (k : Fin 128) :
    (bif j.val % 2 == 0 then k0_pay65 k0_pay3 (View.ld (iblk m c 1 t : Vec Ideal S512x512 .f32) (rectY (tileV j))) else k0_pay66 k0_pay3 (View.ld (iblk m c 1 t : Vec Ideal S512x512 .f32) (rectY (tileV j)))) (ix2 p k)
      = val_main_v47 (F := Ideal) (m ((c : Thread nD τ).loc main_arg0)) (ix2 (row t p) (⟨128 * j.val + k.val, by omega⟩ : Fin 512)) := by
  have hj := j.isLt
  have hx : ∀ k : Fin 128, View.ld (iblk m c 1 t : Vec Ideal S512x512 .f32) (rectY (tileV j)) (ix2 p k)
      = (fun b => head (m ((c : Thread nD τ).loc main_arg0)) (row t p) (1280 + 64 * (2 * (j.val / 2) + b.val)) (by omega)) (⟨k.val / 64, by omega⟩ : Fin 2) (⟨k.val % 64, Nat.mod_lt _ (by decide)⟩ : Fin 64) := fun k => by
    rw [block1]
    exact congrArg (fun a => (m ((c : Thread nD τ).loc main_arg0)) (ix3 (0 : Fin 1) (row t p) a)) (Fin.ext (by show 1024 + (128 * (2 + j.val / 2) + k.val) = 1280 + 64 * (2 * (j.val / 2) + k.val / 64) + k.val % 64; omega))
  rw [ref_v]
  have same : ∀ (a b : ℕ) (ha : a + 64 ≤ 5632) (hb : b + 64 ≤ 5632), a = b → head (m ((c : Thread nD τ).loc main_arg0)) (row t p) a ha = head (m ((c : Thread nD τ).loc main_arg0)) (row t p) b hb := fun a b ha hb e => by subst e; rfl
  rcases Nat.mod_two_eq_zero_or_one j.val with h | h
  · rw [show (j.val % 2 == 0) = true by simp [h], cond_true]
    refine (tileV0 p (fun b => head (m ((c : Thread nD τ).loc main_arg0)) (row t p) (1280 + 64 * (2 * (j.val / 2) + b.val)) (by omega)) _ hx k).trans ?_
    rw [same _ (1280 + 64 * j.val) _ (by omega) (by show 1280 + 64 * (2 * (j.val / 2) + 0) = _; omega)]
  · rw [show (j.val % 2 == 0) = false by simp [h], cond_false]
    refine (tileV1 p (fun b => head (m ((c : Thread nD τ).loc main_arg0)) (row t p) (1280 + 64 * (2 * (j.val / 2) + b.val)) (by omega)) _ hx k).trans ?_
    rw [same _ (1280 + 64 * j.val) _ (by omega) (by show 1280 + 64 * (2 * (j.val / 2) + 1) = _; omega)]

/-- An entry of the values' block that the run leaves is the reference's entry at its place. -/
theorem key6 (t : Fin cfg0.N) (y : S512x512.Idx) : (outsAt0 m c t).2.2 y = val_main_v47 (F := Ideal) (m ((c : Thread nD τ).loc main_arg0)) (ix2 (row t (y 0)) (y 1)) := by
  unfold outsAt0
  dsimp only
  refine out_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (iblk m c 1 t) (iblk m c 2 t) (iblk m c 3 t) (fun y => val_main_v47 (F := Ideal) (m ((c : Thread nD τ).loc main_arg0)) (ix2 (row t (y 0)) (y 1))) (fun j x => ?_) y
  obtain ⟨p, k, rfl⟩ : ∃ (p : Fin 512) (k : Fin 128), x = ix2 p k := ⟨x 0, x 1, eq_ix2 x⟩
  refine (entry_v m c t j p k).trans (congrArg (val_main_v47 (F := Ideal) (m ((c : Thread nD τ).loc main_arg0)))
    (show ix2 (row t p) (⟨128 * j.val + k.val, by omega⟩ : Fin 512) = _ from funext fun a => Fin.ext ?_))
  match a with
  | ⟨0, _⟩ => exact congrArg (t.val * 512 + ·) (embY0 j p k).symm
  | ⟨1, _⟩ => exact (embY1 j p k).symm

/-- The array of the values that the call leaves is the reference's. -/
theorem final6 : (dats m 0 c).arrAt 6 cfg0.N = val_main_v47 (F := Ideal) (m ((c : Thread nD τ).loc main_arg0)) := by
  refine (dats m 0 c).arrAt_eq_of_covers 6 _ (by decide +kernel) fun t _ y => ?_
  rw [after0_6]
  have hk := key6 m c t
  generalize (outsAt0 m c t).2.2 = o at hk ⊢
  obtain ⟨p, k, rfl⟩ : ∃ (p : Fin 512) (k : Fin 512), y = ix2 p k := ⟨y 0, y 1, eq_ix2 y⟩
  refine (cast_eq _ _).trans ((hk (ix2 p k)).trans (congrArg (val_main_v47 (F := Ideal) (m ((c : Thread nD τ).loc main_arg0))) (funext fun a => Fin.ext ?_)))
  match a with
  | ⟨0, _⟩ => blk_simp [places t, row]
  | ⟨1, _⟩ => blk_simp [places t]

end Cert.Kernel30Ideal.Claims

end
-- ==== Proof.RopeBwdRef.lean ====
/- The gradient of the rotary embedding's turn, as the reference computes it: its entries, head by head. -/
module

public import proofs.«01_k».proof.Proof.Gen.Reference31Ideal.Read
public import Idealize.ShloMosaic.Lib.Pipeline.ValueKit
public import Idealize.ShloMosaic.Lib.KernelVsHost
public import Idealize.ShloMosaic.Lib.Pointwise

@[expose] public section

set_option maxRecDepth 16384

noncomputable section

namespace Cert.Kernel31Ideal.Claims

open Cert.Reference31Ideal Idealize.ShloMosaic Idealize.ShloMosaic.TcCoe Cert.Reference31Ideal.Read
open Idealize.SL.Sem

/-- A head's 64 numbers turned back by 32 angles, given by their cosines and sines. -/
def unturn (X : Fin 64 → EReal) (co si : Fin 32 → EReal) (d : Fin 64) : EReal :=
  if h : d.val < 32 then X d * co ⟨d.val, h⟩ + X ⟨d.val + 32, by omega⟩ * si ⟨d.val, h⟩
  else X d * co ⟨d.val - 32, by omega⟩ - X ⟨d.val - 32, by omega⟩ * si ⟨d.val - 32, by omega⟩

/-- A head's gradient at a row: the block's own, and what the next block of queries adds to it. -/
def summed (a b : (⟨S1x4096x4x64, .f32⟩ : BufTy).Contents (Elt Ideal)) (r : Fin 4096) (h : Fin 4) (d : Fin 64) : EReal :=
  a (ix4 (0 : Fin 1) r h d) + (if hr : r.val < 3968 then b (ix4 (0 : Fin 1) (⟨r.val + 128, by omega⟩ : Fin 4096) h d) else 0)

section Reference

variable (x0 : (⟨S1x4096x16x64, .f32⟩ : BufTy).Contents (Elt Ideal)) (x1 x2 x3 x4 : (⟨S1x4096x4x64, .f32⟩ : BufTy).Contents (Elt Ideal))
  (x5 x6 : (⟨S4096x32, .f32⟩ : BufTy).Contents (Elt Ideal))

/-- The literal of the places filled up. -/
theorem ref_zero : (Scalar.ofBits (F := Ideal) .f32 0x00000000#32 : EReal) = 0 := Ideal.ofBits_zero_f32

/-- The place of a row's entry in the blocks. -/
def inBlocks (r : Fin 4096) (h : Fin 4) (d : Fin 64) : S32x128x4x64.Idx :=
  ix4 (⟨r.val / 128, by omega⟩ : Fin 32) (⟨r.val % 128, Nat.mod_lt _ (by decide)⟩ : Fin 128) h d

/-- The sum of a block's own gradient and the next block's. -/
theorem ref_sum (r : Fin 4096) (h : Fin 4) (d : Fin 64) : val_main_v60 (F := Ideal) x1 x2 (inBlocks r h d) = summed x1 x2 r h d := by
  have hr := r.isLt
  have hh := h.isLt
  have hd := d.isLt
  rw [val_main_v60_apply]
  unfold summed
  refine congrArg₂ (fun a b : EReal => a + b) ?_ ?_
  · rw [val_main_v49_apply]
    refine congrArg x1 (funext fun a => Fin.ext ?_)
    match a with
    | ⟨0, _⟩ => rfl
    | ⟨1, _⟩ => show (((r.val / 128 * 128 + r.val % 128) * 4 + h.val) * 64 + d.val) / 256 % 4096 = r.val; omega
    | ⟨2, _⟩ => show (((r.val / 128 * 128 + r.val % 128) * 4 + h.val) * 64 + d.val) / 64 % 4 = h.val; omega
    | ⟨3, _⟩ => show (((r.val / 128 * 128 + r.val % 128) * 4 + h.val) * 64 + d.val) % 64 = d.val; omega
  · unfold val_main_v59
    by_cases hb : r.val < 3968
    · rw [dif_pos hb]
      refine (pad_apply_of_inside _ _ _ _ _ _ _ _ (ix4 (⟨r.val / 128, by omega⟩ : Fin 31) (⟨r.val % 128, Nat.mod_lt _ (by decide)⟩ : Fin 128) h d) (by
        intro b
        match b with
        | ⟨0, _⟩ => show r.val / 128 = 0 + r.val / 128 * 1; omega
        | ⟨1, _⟩ => show r.val % 128 = 0 + r.val % 128 * 1; omega
        | ⟨2, _⟩ => show h.val = 0 + h.val * 1; omega
        | ⟨3, _⟩ => show d.val = 0 + d.val * 1; omega)).trans ?_
      rw [val_main_v58_apply, val_main_v50_apply]
      refine congrArg x2 (funext fun a => Fin.ext ?_)
      match a with
      | ⟨0, _⟩ => rfl
      | ⟨1, _⟩ => show ((((1 + r.val / 128) * 128 + r.val % 128) * 4 + h.val) * 64 + d.val) / 256 % 4096 = r.val + 128; omega
      | ⟨2, _⟩ => show ((((1 + r.val / 128) * 128 + r.val % 128) * 4 + h.val) * 64 + d.val) / 64 % 4 = h.val; omega
      | ⟨3, _⟩ => show ((((1 + r.val / 128) * 128 + r.val % 128) * 4 + h.val) * 64 + d.val) % 64 = d.val; omega
    · rw [dif_neg hb]
      refine (pad_apply_of_not_inside _ _ _ _ _ _ _ _ (0 : Fin 4) (by
        rintro ⟨_, _, h3⟩
        have : (r.val / 128 - 0) / 1 < 31 := h3
        omega)).trans ?_
      exact ref_zero

/-- The values' sum is computed as the keys'. -/
theorem sum_values : val_main_v56 (F := Ideal) x3 x4 = val_main_v60 (F := Ideal) x3 x4 := rfl

/-- The keys' gradient, by rows. -/
theorem ref_k0 (r : Fin 4096) (h : Fin 4) (d : Fin 64) : val_main_v62 (F := Ideal) x1 x2 (ix3 r h d) = summed x1 x2 r h d := by
  have hr := r.isLt
  have hh := h.isLt
  have hd := d.isLt
  rw [val_main_v62_apply, ← ref_sum]
  refine congrArg (val_main_v60 (F := Ideal) x1 x2) (funext fun a => Fin.ext ?_)
  match a with
  | ⟨0, _⟩ => show ((r.val * 4 + h.val) * 64 + d.val) / 32768 = r.val / 128; omega
  | ⟨1, _⟩ => show ((r.val * 4 + h.val) * 64 + d.val) / 256 % 128 = r.val % 128; omega
  | ⟨2, _⟩ => show ((r.val * 4 + h.val) * 64 + d.val) / 64 % 4 = h.val; omega
  | ⟨3, _⟩ => show ((r.val * 4 + h.val) * 64 + d.val) % 64 = d.val; omega

/-- The values' gradient, by rows. -/
theorem ref_v1 (r : Fin 4096) (h : Fin 4) (d : Fin 64) : val_main_v61 (F := Ideal) x3 x4 (ix2 r (⟨64 * h.val + d.val, by omega⟩ : Fin 256)) = summed x3 x4 r h d := by
  have hr := r.isLt
  have hh := h.isLt
  have hd := d.isLt
  rw [val_main_v61_apply, sum_values, ← ref_sum]
  refine congrArg (val_main_v60 (F := Ideal) x3 x4) (funext fun a => Fin.ext ?_)
  match a with
  | ⟨0, _⟩ => show (r.val * 256 + (64 * h.val + d.val)) / 32768 = r.val / 128; omega
  | ⟨1, _⟩ => show (r.val * 256 + (64 * h.val + d.val)) / 256 % 128 = r.val % 128; omega
  | ⟨2, _⟩ => show (r.val * 256 + (64 * h.val + d.val)) / 64 % 4 = h.val; omega
  | ⟨3, _⟩ => show (r.val * 256 + (64 * h.val + d.val)) % 64 = d.val; omega

/-- The queries' gradient, by rows. -/
theorem ref_q0 (r : Fin 4096) (h : Fin 16) (d : Fin 64) : val_main_v48 (F := Ideal) x0 (ix3 r h d) = x0 (ix4 (0 : Fin 1) r h d) := by
  have hr := r.isLt
  have hh := h.isLt
  have hd := d.isLt
  rw [val_main_v48_apply]
  refine congrArg x0 (funext fun a => Fin.ext ?_)
  match a with
  | ⟨0, _⟩ => rfl
  | ⟨1, _⟩ => show ((r.val * 16 + h.val) * 64 + d.val) / 1024 % 4096 = r.val; omega
  | ⟨2, _⟩ => show ((r.val * 16 + h.val) * 64 + d.val) / 64 % 16 = h.val; omega
  | ⟨3, _⟩ => show ((r.val * 16 + h.val) * 64 + d.val) % 64 = d.val; omega

/-- Turning back at the two halves of a head. -/
theorem unturn_low (X : Fin 64 → EReal) (co si : Fin 32 → EReal) (e : Fin 32) :
    unturn X co si (⟨e.val, by omega⟩ : Fin 64) = X (⟨32 + e.val, by omega⟩ : Fin 64) * si e + X (⟨e.val, by omega⟩ : Fin 64) * co e := by
  have he := e.isLt
  unfold unturn
  rw [dif_pos he, add_comm]
  exact congrArg (fun z : Fin 64 => X z * si e + X (⟨e.val, by omega⟩ : Fin 64) * co e) (Fin.ext (Nat.add_comm _ _))
theorem unturn_high (X : Fin 64 → EReal) (co si : Fin 32 → EReal) (e : Fin 32) :
    unturn X co si (⟨32 + e.val, by omega⟩ : Fin 64) = X (⟨32 + e.val, by omega⟩ : Fin 64) * co e + -(X (⟨e.val, by omega⟩ : Fin 64)) * si e := by
  unfold unturn
  rw [dif_neg (by simp), EReal.neg_mul, ← sub_eq_add_neg]
  have e32 : ∀ h : 32 + e.val - 32 < 32, (⟨32 + e.val - 32, h⟩ : Fin 32) = e := fun h => Fin.ext (by dsimp only; omega)
  have e64 : ∀ h : 32 + e.val - 32 < 64, (⟨32 + e.val - 32, h⟩ : Fin 64) = ⟨e.val, by omega⟩ := fun h => Fin.ext (by dsimp only; omega)
  simp only [e32, e64]

/-- The second halves of the queries' gradient. -/
theorem high_q (r : Fin 4096) (h : Fin 16) (e : Fin 32) : val_main_v89 (F := Ideal) x0 x5 x6 (ix3 r h e) = unturn (fun d => val_main_v48 (F := Ideal) x0 (ix3 r h d)) (fun j => x5 (ix2 r j)) (fun j => x6 (ix2 r j)) (⟨32 + e.val, by omega⟩ : Fin 64) := by
  rw [unturn_high]
  generalize hg : val_main_v48 (F := Ideal) x0 = G
  pointwise [val_main_v80, val_main_v81, val_main_v84, val_main_v85, val_main_v86, val_main_v87, val_main_v88, val_main_v89, val_main_v5, val_main_v6]
  rw [hg]

/-- The first halves. -/
theorem low_q (r : Fin 4096) (h : Fin 16) (e : Fin 32) : val_main_v92 (F := Ideal) x0 x5 x6 (ix3 r h e) = unturn (fun d => val_main_v48 (F := Ideal) x0 (ix3 r h d)) (fun j => x5 (ix2 r j)) (fun j => x6 (ix2 r j)) (⟨e.val, by omega⟩ : Fin 64) := by
  rw [unturn_low]
  generalize hg : val_main_v48 (F := Ideal) x0 = G
  pointwise [val_main_v80, val_main_v81, val_main_v82, val_main_v83, val_main_v90, val_main_v91, val_main_v92, val_main_v5, val_main_v6]
  rw [hg]

/-- The queries' gradient, turned back. -/
theorem ref_q1 (r : Fin 4096) (h : Fin 16) (d : Fin 64) : val_main_v95 (F := Ideal) x0 x5 x6 (ix3 r h d) = unturn (fun d => val_main_v48 (F := Ideal) x0 (ix3 r h d)) (fun j => x5 (ix2 r j)) (fun j => x6 (ix2 r j)) d := by
  rw [val_main_v95_apply]
  have hd := d.isLt
  unfold val_main_v93 val_main_v94
  by_cases hl : d.val < 32
  · refine (congrArg₂ (fun a b : EReal => a + b) ((pad_apply_of_not_inside _ _ _ _ _ _ _ _ (2 : Fin 3) (by
        rintro ⟨h1, _, _⟩
        have : 32 ≤ d.val := h1
        omega)).trans ref_zero)
      ((pad_apply_of_inside _ _ _ _ _ _ _ _ (ix3 r h (⟨d.val, hl⟩ : Fin 32)) (by
        intro b
        match b with
        | ⟨0, _⟩ => show r.val = 0 + r.val * 1; omega
        | ⟨1, _⟩ => show h.val = 0 + h.val * 1; omega
        | ⟨2, _⟩ => show d.val = 0 + d.val * 1; omega)).trans (low_q x0 x5 x6 r h ⟨d.val, hl⟩))).trans ?_
    exact zero_add _
  · refine (congrArg₂ (fun a b : EReal => a + b) ((pad_apply_of_inside _ _ _ _ _ _ _ _ (ix3 r h (⟨d.val - 32, by omega⟩ : Fin 32)) (by
        intro b
        match b with
        | ⟨0, _⟩ => show r.val = 0 + r.val * 1; omega
        | ⟨1, _⟩ => show h.val = 0 + h.val * 1; omega
        | ⟨2, _⟩ => show d.val = 32 + (d.val - 32) * 1; omega)).trans (high_q x0 x5 x6 r h ⟨d.val - 32, by omega⟩))
      ((pad_apply_of_not_inside _ _ _ _ _ _ _ _ (2 : Fin 3) (by
        rintro ⟨_, _, h3⟩
        have : (d.val - 0) / 1 < 32 := h3
        omega)).trans ref_zero)).trans ?_
    refine (add_zero _).trans (congrArg (unturn (fun d => val_main_v48 (F := Ideal) x0 (ix3 r h d)) (fun j => x5 (ix2 r j)) (fun j => x6 (ix2 r j))) (Fin.ext ?_))
    show 32 + (d.val - 32) = d.val
    omega

/-- The same, by rows and columns. -/
theorem ref_q2 (r : Fin 4096) (h : Fin 16) (d : Fin 64) : val_main_v96 (F := Ideal) x0 x5 x6 (ix2 r (⟨64 * h.val + d.val, by omega⟩ : Fin 1024))
    = unturn (fun d => x0 (ix4 (0 : Fin 1) r h d)) (fun j => x5 (ix2 r j)) (fun j => x6 (ix2 r j)) d := by
  have hr := r.isLt
  have hh := h.isLt
  have hd := d.isLt
  have hX : (fun d => val_main_v48 (F := Ideal) x0 (ix3 r h d)) = (fun d => x0 (ix4 (0 : Fin 1) r h d)) := funext fun d => ref_q0 x0 r h d
  rw [val_main_v96_apply, ← hX, ← ref_q1 x0 x5 x6]
  refine congrArg (val_main_v95 (F := Ideal) x0 x5 x6) (funext fun a => Fin.ext ?_)
  match a with
  | ⟨0, _⟩ => show (r.val * 1024 + (64 * h.val + d.val)) / 1024 = r.val; omega
  | ⟨1, _⟩ => show (r.val * 1024 + (64 * h.val + d.val)) / 64 % 16 = h.val; omega
  | ⟨2, _⟩ => show (r.val * 1024 + (64 * h.val + d.val)) % 64 = d.val; omega

/-- The second halves of the keys' gradient. -/
theorem high_k (r : Fin 4096) (h : Fin 4) (e : Fin 32) : val_main_v72 (F := Ideal) x1 x2 x5 x6 (ix3 r h e) = unturn (fun d => val_main_v62 (F := Ideal) x1 x2 (ix3 r h d)) (fun j => x5 (ix2 r j)) (fun j => x6 (ix2 r j)) (⟨32 + e.val, by omega⟩ : Fin 64) := by
  rw [unturn_high]
  generalize hg : val_main_v62 (F := Ideal) x1 x2 = G
  pointwise [val_main_v63, val_main_v64, val_main_v67, val_main_v68, val_main_v69, val_main_v70, val_main_v71, val_main_v72, val_main_v21, val_main_v22]
  rw [hg]

/-- The first halves. -/
theorem low_k (r : Fin 4096) (h : Fin 4) (e : Fin 32) : val_main_v75 (F := Ideal) x1 x2 x5 x6 (ix3 r h e) = unturn (fun d => val_main_v62 (F := Ideal) x1 x2 (ix3 r h d)) (fun j => x5 (ix2 r j)) (fun j => x6 (ix2 r j)) (⟨e.val, by omega⟩ : Fin 64) := by
  rw [unturn_low]
  generalize hg : val_main_v62 (F := Ideal) x1 x2 = G
  pointwise [val_main_v63, val_main_v64, val_main_v65, val_main_v66, val_main_v73, val_main_v74, val_main_v75, val_main_v21, val_main_v22]
  rw [hg]

/-- The keys' gradient, turned back. -/
theorem ref_k1 (r : Fin 4096) (h : Fin 4) (d : Fin 64) : val_main_v78 (F := Ideal) x1 x2 x5 x6 (ix3 r h d) = unturn (fun d => val_main_v62 (F := Ideal) x1 x2 (ix3 r h d)) (fun j => x5 (ix2 r j)) (fun j => x6 (ix2 r j)) d := by
  rw [val_main_v78_apply]
  have hd := d.isLt
  unfold val_main_v76 val_main_v77
  by_cases hl : d.val < 32
  · refine (congrArg₂ (fun a b : EReal => a + b) ((pad_apply_of_not_inside _ _ _ _ _ _ _ _ (2 : Fin 3) (by
        rintro ⟨h1, _, _⟩
        have : 32 ≤ d.val := h1
        omega)).trans ref_zero)
      ((pad_apply_of_inside _ _ _ _ _ _ _ _ (ix3 r h (⟨d.val, hl⟩ : Fin 32)) (by
        intro b
        match b with
        | ⟨0, _⟩ => show r.val = 0 + r.val * 1; omega
        | ⟨1, _⟩ => show h.val = 0 + h.val * 1; omega
        | ⟨2, _⟩ => show d.val = 0 + d.val * 1; omega)).trans (low_k x1 x2 x5 x6 r h ⟨d.val, hl⟩))).trans ?_
    exact zero_add _
  · refine (congrArg₂ (fun a b : EReal => a + b) ((pad_apply_of_inside _ _ _ _ _ _ _ _ (ix3 r h (⟨d.val - 32, by omega⟩ : Fin 32)) (by
        intro b
        match b with
        | ⟨0, _⟩ => show r.val = 0 + r.val * 1; omega
        | ⟨1, _⟩ => show h.val = 0 + h.val * 1; omega
        | ⟨2, _⟩ => show d.val = 32 + (d.val - 32) * 1; omega)).trans (high_k x1 x2 x5 x6 r h ⟨d.val - 32, by omega⟩))
      ((pad_apply_of_not_inside _ _ _ _ _ _ _ _ (2 : Fin 3) (by
        rintro ⟨_, _, h3⟩
        have : (d.val - 0) / 1 < 32 := h3
        omega)).trans ref_zero)).trans ?_
    refine (add_zero _).trans (congrArg (unturn (fun d => val_main_v62 (F := Ideal) x1 x2 (ix3 r h d)) (fun j => x5 (ix2 r j)) (fun j => x6 (ix2 r j))) (Fin.ext ?_))
    show 32 + (d.val - 32) = d.val
    omega

/-- The same, by rows and columns. -/
theorem ref_k2 (r : Fin 4096) (h : Fin 4) (d : Fin 64) : val_main_v79 (F := Ideal) x1 x2 x5 x6 (ix2 r (⟨64 * h.val + d.val, by omega⟩ : Fin 256))
    = unturn (summed x1 x2 r h) (fun j => x5 (ix2 r j)) (fun j => x6 (ix2 r j)) d := by
  have hr := r.isLt
  have hh := h.isLt
  have hd := d.isLt
  have hX : (fun d => val_main_v62 (F := Ideal) x1 x2 (ix3 r h d)) = (summed x1 x2 r h) := funext fun d => ref_k0 x1 x2 r h d
  rw [val_main_v79_apply, ← hX, ← ref_k1 x1 x2 x5 x6]
  refine congrArg (val_main_v78 (F := Ideal) x1 x2 x5 x6) (funext fun a => Fin.ext ?_)
  match a with
  | ⟨0, _⟩ => show (r.val * 256 + (64 * h.val + d.val)) / 256 = r.val; omega
  | ⟨1, _⟩ => show (r.val * 256 + (64 * h.val + d.val)) / 64 % 4 = h.val; omega
  | ⟨2, _⟩ => show (r.val * 256 + (64 * h.val + d.val)) % 64 = d.val; omega

/-- An entry of the gradient is the sum of the three parts, each filled up with zeros. -/
theorem ref_parts (i : S4096x1536.Idx) : val_main_v102 (F := Ideal) x0 x1 x2 x3 x4 x5 x6 i
    = (val_main_v97 (F := Ideal) x3 x4 i + val_main_v98 (F := Ideal) x1 x2 x5 x6 i : EReal) + val_main_v100 (F := Ideal) x0 x5 x6 i := rfl

/-- The queries' part at its own columns. -/
theorem in_q (r : Fin 4096) (c : Fin 1024) (hc : 0 + c.val < 1536) : val_main_v100 (F := Ideal) x0 x5 x6 (ix2 r (⟨0 + c.val, hc⟩ : Fin 1536)) = val_main_v96 (F := Ideal) x0 x5 x6 (ix2 r c) := by
  unfold val_main_v100
  exact pad_apply_of_inside _ _ _ _ _ _ _ _ (ix2 r c) (by
    intro b
    match b with
    | ⟨0, _⟩ => show r.val = 0 + r.val * 1; omega
    | ⟨1, _⟩ => show 0 + c.val = 0 + c.val * 1; omega)

/-- The queries' part elsewhere. -/
theorem out_q (r : Fin 4096) (c : Fin 1536) (hc : ¬ (0 ≤ c.val ∧ c.val < 1024)) : val_main_v100 (F := Ideal) x0 x5 x6 (ix2 r c) = (0 : EReal) := by
  unfold val_main_v100
  exact (pad_apply_of_not_inside _ _ _ _ _ _ _ _ (1 : Fin 2) (by
    rintro ⟨h1, _, h3⟩
    have h1' : 0 ≤ c.val := h1
    have h3' : (c.val - 0) / 1 < 1024 := h3
    exact hc ⟨h1', by omega⟩)).trans ref_zero

/-- The keys' part at its own columns. -/
theorem in_k (r : Fin 4096) (c : Fin 256) (hc : 1024 + c.val < 1536) : val_main_v98 (F := Ideal) x1 x2 x5 x6 (ix2 r (⟨1024 + c.val, hc⟩ : Fin 1536)) = val_main_v79 (F := Ideal) x1 x2 x5 x6 (ix2 r c) := by
  unfold val_main_v98
  exact pad_apply_of_inside _ _ _ _ _ _ _ _ (ix2 r c) (by
    intro b
    match b with
    | ⟨0, _⟩ => show r.val = 0 + r.val * 1; omega
    | ⟨1, _⟩ => show 1024 + c.val = 1024 + c.val * 1; omega)

/-- The keys' part elsewhere. -/
theorem out_k (r : Fin 4096) (c : Fin 1536) (hc : ¬ (1024 ≤ c.val ∧ c.val < 1280)) : val_main_v98 (F := Ideal) x1 x2 x5 x6 (ix2 r c) = (0 : EReal) := by
  unfold val_main_v98
  exact (pad_apply_of_not_inside _ _ _ _ _ _ _ _ (1 : Fin 2) (by
    rintro ⟨h1, _, h3⟩
    have h1' : 1024 ≤ c.val := h1
    have h3' : (c.val - 1024) / 1 < 256 := h3
    exact hc ⟨h1', by omega⟩)).trans ref_zero

/-- The values' part at its own columns. -/
theorem in_v (r : Fin 4096) (c : Fin 256) (hc : 1280 + c.val < 1536) : val_main_v97 (F := Ideal) x3 x4 (ix2 r (⟨1280 + c.val, hc⟩ : Fin 1536)) = val_main_v61 (F := Ideal) x3 x4 (ix2 r c) := by
  unfold val_main_v97
  exact pad_apply_of_inside _ _ _ _ _ _ _ _ (ix2 r c) (by
    intro b
    match b with
    | ⟨0, _⟩ => show r.val = 0 + r.val * 1; omega
    | ⟨1, _⟩ => show 1280 + c.val = 1280 + c.val * 1; omega)

/-- The values' part elsewhere. -/
theorem out_v (r : Fin 4096) (c : Fin 1536) (hc : ¬ (1280 ≤ c.val ∧ c.val < 1536)) : val_main_v97 (F := Ideal) x3 x4 (ix2 r c) = (0 : EReal) := by
  unfold val_main_v97
  exact (pad_apply_of_not_inside _ _ _ _ _ _ _ _ (1 : Fin 2) (by
    rintro ⟨h1, _, h3⟩
    have h1' : 1280 ≤ c.val := h1
    have h3' : (c.val - 1280) / 1 < 256 := h3
    exact hc ⟨h1', by omega⟩)).trans ref_zero

/-- An entry of the queries' columns of the gradient. -/
theorem ref_q (r : Fin 4096) (h : Fin 16) (d : Fin 64) : val_main_v102 (F := Ideal) x0 x1 x2 x3 x4 x5 x6 (ix2 r (⟨0 + (64 * h.val + d.val), by omega⟩ : Fin 1536))
    = unturn (fun d => x0 (ix4 (0 : Fin 1) r h d)) (fun j => x5 (ix2 r j)) (fun j => x6 (ix2 r j)) d := by
  have hh := h.isLt
  have hd := d.isLt
  rw [ref_parts, out_v x3 x4 r _ (by dsimp only; omega), out_k x1 x2 x5 x6 r _ (by dsimp only; omega), in_q x0 x5 x6 r (⟨64 * h.val + d.val, by omega⟩ : Fin 1024) (by dsimp only; omega), add_zero, zero_add]
  exact ref_q2 x0 x5 x6 r h d

/-- An entry of the keys' columns of the gradient. -/
theorem ref_k (r : Fin 4096) (h : Fin 4) (d : Fin 64) : val_main_v102 (F := Ideal) x0 x1 x2 x3 x4 x5 x6 (ix2 r (⟨1024 + (64 * h.val + d.val), by omega⟩ : Fin 1536))
    = unturn (summed x1 x2 r h) (fun j => x5 (ix2 r j)) (fun j => x6 (ix2 r j)) d := by
  have hh := h.isLt
  have hd := d.isLt
  rw [ref_parts, out_v x3 x4 r _ (by dsimp only; omega), in_k x1 x2 x5 x6 r (⟨64 * h.val + d.val, by omega⟩ : Fin 256) (by dsimp only; omega), out_q x0 x5 x6 r _ (by dsimp only; omega), add_zero, zero_add]
  exact ref_k2 x1 x2 x5 x6 r h d

/-- An entry of the values' columns of the gradient. -/
theorem ref_v (r : Fin 4096) (h : Fin 4) (d : Fin 64) : val_main_v102 (F := Ideal) x0 x1 x2 x3 x4 x5 x6 (ix2 r (⟨1280 + (64 * h.val + d.val), by omega⟩ : Fin 1536))
    = summed x3 x4 r h d := by
  have hh := h.isLt
  have hd := d.isLt
  rw [ref_parts, in_v x3 x4 r (⟨64 * h.val + d.val, by omega⟩ : Fin 256) (by dsimp only; omega), out_k x1 x2 x5 x6 r _ (by dsimp only; omega), out_q x0 x5 x6 r _ (by dsimp only; omega), add_zero, add_zero]
  exact ref_v1 x3 x4 r h d

end Reference

end Cert.Kernel31Ideal.Claims

end
-- ==== Proof.RopeBwd.lean ====
/- The gradient of the rotary embedding's turn: the kernel's block is the reference's. -/
module

public import proofs.«01_k».proof.Proof.RopeBwdRef
public import proofs.«01_k».proof.Proof.RopeQkv
public import proofs.«01_k».proof.Proof.Gen.Kernel31Ideal.Value
public import Idealize.ShloMosaic.Lib.Pipeline.Value
public import Idealize.ShloMosaic.Lib.Pipeline.ValueKit
public import Idealize.ShloMosaic.Lib.KernelVsHost
public import Idealize.ShloMosaic.Lib.WholeRead
public import Idealize.ShloMosaic.Lib.Pointwise

@[expose] public section

set_option maxRecDepth 16384

noncomputable section

namespace Cert.Kernel31Ideal.Claims

open Cert.Kernel31Ideal Cert.Kernel31Ideal.Gen Cert.Kernel31Ideal.Value Idealize.ShloMosaic Idealize.ShloMosaic.TcCoe
open Idealize.SL.Sem
open Idealize.ShloMosaic.Pipeline (Dat)
open Cert.Kernel30Ideal.Claims (padded laneBit signed sines sines_at)

/-! ## The tiles -/

/-- The body's mask of the first halves, as a block. -/
def halves : IVec S128x128 1 :=
  have b : BitVec 32 := Scalar.select (Scalar.cmpi .eq 64#32 0#32) 1#32 64#32
  have r : IVec S128x128 32 := remsi (iota .tc S128x128 32 [1] iota_S128x128_d1_w32) (broadcast S128x128 b)
  cmpi .slt (select (andi (xori (cmpi .slt r (broadcast S128x128 0#32)) (broadcastTo S128x128 (broadcast S128x128 (Scalar.cmpi .slt b 0#32)) broadcasts_S128x128_S128x128))
    (cmpi .ne r (broadcast S128x128 0#32))) (addi r (broadcast S128x128 b)) r) (broadcast S128x128 32#32)

/-- Which lanes are the first of two halves. -/
theorem halves_at (p : Fin 128) (k : Fin 128) : halves (ix2 p k) = if k.val % 64 < 32 then 1#1 else 0#1 := by
  have key : ∀ k : Fin 128, laneBit k = if k.val % 64 < 32 then 1#1 else 0#1 := by decide +kernel
  refine Eq.trans ?_ (key k)
  pointwise [halves, laneBit]

/-- A rotation of the lanes. -/
theorem rolled (n : BitVec 32) (x : Vec Ideal S128x128 .f32) (p : Fin 128) (k : Fin 128) (j : Fin 128) (hj : j.val = (k.val + 128 - n.toNat % 128) % 128) :
    dynamicRotate 1 n none x rotates_S128x128_d1 (ix2 p k) = x (ix2 p j) := by
  refine dynamicRotate_apply _ _ _ _ _ _ fun b => ?_
  match b with
  | ⟨0, _⟩ => rfl
  | ⟨1, _⟩ => exact hj

/-- Two heads' padded lanes, joined into one tile. -/
def joined (a b : Vec Ideal S128x128 .f32) : FVec Ideal S128x128 .f32 := addf a (dynamicRotate 1 64#32 none b rotates_S128x128_d1)

/-- A block and its share of the next one. -/
def grown (s : Ideal .f32) (a b : Vec Ideal S128x128 .f32) : FVec Ideal S128x128 .f32 := addf a (mulf (broadcast S128x128 s) b)

/-- A tile turned back. -/
def back (C S x : Vec Ideal S128x128 .f32) : FVec Ideal S128x128 .f32 :=
  subf (mulf x C) (mulf (select halves (dynamicRotate 1 96#32 none x rotates_S128x128_d1) (dynamicRotate 1 32#32 none x rotates_S128x128_d1)) S)

/-- A tile of the queries' part, of the keys', of the values'. -/
theorem tile_q (C S a b : Vec Ideal S128x128 .f32) : k0_pay4 C S a b = back C S (joined a b) := by
  unfold k0_pay4 k0_pay1 k0_pay2 back joined
  simp only [shapeCast_self]
  rfl
theorem tile_k (C S a b a' b' : Vec Ideal S128x128 .f32) (s : Ideal .f32) :
    k0_pay25 (k0_pay1 C) (k0_pay2 S) s (k0_pay24 a) b a' b' = back C S (joined (grown s a a') (grown s b b')) := by
  unfold k0_pay25 k0_pay1 k0_pay2 k0_pay24 back joined grown
  simp only [shapeCast_self]
  rfl
theorem tile_v (a b a' b' : Vec Ideal S128x128 .f32) (s : Ideal .f32) :
    k0_pay26 s a b a' b' = joined (grown s a a') (grown s b b') := by
  unfold k0_pay26 joined grown
  simp only [shapeCast_self]
  rfl

section Tile

variable (p : Fin 128) (co si : Fin 32 → EReal) (X : Fin 2 → Fin 64 → EReal) (C S : Vec Ideal S128x128 .f32)
  (hC : ∀ k : Fin 128, C (ix2 p k) = co (⟨k.val % 32, Nat.mod_lt _ (by decide)⟩ : Fin 32))
  (hS : ∀ k : Fin 128, S (ix2 p k) = signed si k)

/-- Two heads joined. -/
theorem joined_at (a b : Vec Ideal S128x128 .f32) (ha : ∀ k, a (ix2 p k) = padded (X 0) k) (hb : ∀ k, b (ix2 p k) = padded (X 1) k) (k : Fin 128) :
    joined a b (ix2 p k) = X (⟨k.val / 64, by omega⟩ : Fin 2) (⟨k.val % 64, Nat.mod_lt _ (by decide)⟩ : Fin 64) := by
  have hk := k.isLt
  have hl : joined a b (ix2 p k) = (a (ix2 p k) + dynamicRotate 1 64#32 none b rotates_S128x128_d1 (ix2 p k) : EReal) := rfl
  rw [hl, rolled 64#32 _ p k (⟨(k.val + 64) % 128, Nat.mod_lt _ (by decide)⟩ : Fin 128) (by show _ = (k.val + 128 - 64) % 128; dsimp only; omega), ha, hb]
  unfold padded
  by_cases h : k.val < 64
  · rw [dif_pos h, dif_neg (by dsimp only; omega), add_zero]
    exact congrArg₂ X (Fin.ext (by show 0 = k.val / 64; omega)) (Fin.ext (by dsimp only; omega))
  · rw [dif_neg h, dif_pos (by dsimp only; omega), zero_add]
    exact congrArg₂ X (Fin.ext (by show 1 = k.val / 64; omega)) (Fin.ext (by dsimp only; omega))

/-- A head and its share of the next block. -/
theorem grown_at (s : Ideal .f32) (a b : Vec Ideal S128x128 .f32) (Y Z : Fin 64 → EReal) (ha : ∀ k, a (ix2 p k) = padded Y k) (hb : ∀ k, b (ix2 p k) = padded Z k) (k : Fin 128) :
    grown s a b (ix2 p k) = padded (fun d => (Y d + (s : EReal) * Z d : EReal)) k := by
  have hl : grown s a b (ix2 p k) = (a (ix2 p k) + (s : EReal) * b (ix2 p k) : EReal) := rfl
  rw [hl, ha, hb]
  unfold padded
  by_cases h : k.val < 64
  · rw [dif_pos h, dif_pos h, dif_pos h]
  · rw [dif_neg h, dif_neg h, dif_neg h, mul_zero, add_zero]

include hC hS in
/-- A tile of two heads, turned back. -/
theorem back_at (x : Vec Ideal S128x128 .f32)
    (hx : ∀ k : Fin 128, x (ix2 p k) = X (⟨k.val / 64, by omega⟩ : Fin 2) (⟨k.val % 64, Nat.mod_lt _ (by decide)⟩ : Fin 64)) (k : Fin 128) :
    back C S x (ix2 p k) = unturn (X (⟨k.val / 64, by omega⟩ : Fin 2)) co si (⟨k.val % 64, Nat.mod_lt _ (by decide)⟩ : Fin 64) := by
  have hk := k.isLt
  have hl : back C S x (ix2 p k) = (x (ix2 p k) * C (ix2 p k)
      - Scalar.select (halves (ix2 p k)) (dynamicRotate 1 96#32 none x rotates_S128x128_d1 (ix2 p k)) (dynamicRotate 1 32#32 none x rotates_S128x128_d1 (ix2 p k)) * S (ix2 p k) : EReal) := rfl
  rw [hl, rolled 96#32 x p k (⟨(k.val + 32) % 128, Nat.mod_lt _ (by decide)⟩ : Fin 128) (by show _ = (k.val + 128 - 96) % 128; dsimp only; omega),
    rolled 32#32 x p k (⟨(k.val + 96) % 128, Nat.mod_lt _ (by decide)⟩ : Fin 128) (by show _ = (k.val + 128 - 32) % 128; dsimp only; omega),
    halves_at, hC, hS]
  unfold unturn signed
  by_cases h : k.val % 64 < 32
  · rw [if_pos h, if_pos h, dif_pos h]
    show (x _ * _ - x _ * _ : EReal) = _
    rw [hx, hx, mul_neg, sub_eq_add_neg, neg_neg]
    congr 2
    · exact congrArg co (Fin.ext (by dsimp only; omega))
    · exact congrArg₂ X (Fin.ext (by dsimp only; omega)) (Fin.ext (by dsimp only; omega))
    · exact congrArg si (Fin.ext (by dsimp only; omega))
  · rw [if_neg h, if_neg h, dif_neg h]
    show (x _ * _ - x _ * _ : EReal) = _
    rw [hx, hx]
    congr 2
    · exact congrArg co (Fin.ext (by dsimp only; omega))
    · exact congrArg₂ X (Fin.ext (by dsimp only; omega)) (Fin.ext (by dsimp only; omega))
    · exact congrArg si (Fin.ext (by dsimp only; omega))

end Tile

/-! ## The pieces that the body stores -/

/-- A head's lanes of a block of the queries' gradient. -/
def rectX (j : Fin 16) : Rect S128x2048 := Rect.unit ![0, 128 * j.val] S128x128.size
  (by intro a; have := j.isLt; fin_cases a <;> simp <;> omega)
/-- A head's lanes of a block of the keys' or values'. -/
def rectY (j : Fin 4) : Rect S128x512 := Rect.unit ![0, 128 * j.val] S128x128.size
  (by intro a; have := j.isLt; fin_cases a <;> simp <;> omega)
/-- A tile of the result. -/
def rectO (j : Fin 12) : Rect S128x1536 := Rect.unit ![0, 128 * j.val] S128x128.size
  (by intro a; have := j.isLt; fin_cases a <;> simp <;> omega)

/-! The places of the tiles' entries. -/

theorem embX0 (j : Fin 16) (p : Fin 128) (k : Fin 128) : ((rectX j).emb (ix2 p k) 0).val = p.val := by
  show 0 + 1 * p.val = p.val; omega
theorem embX1 (j : Fin 16) (p : Fin 128) (k : Fin 128) : ((rectX j).emb (ix2 p k) 1).val = 128 * j.val + k.val := by
  show 128 * j.val + 1 * k.val = _; omega

theorem embY0 (j : Fin 4) (p : Fin 128) (k : Fin 128) : ((rectY j).emb (ix2 p k) 0).val = p.val := by
  show 0 + 1 * p.val = p.val; omega
theorem embY1 (j : Fin 4) (p : Fin 128) (k : Fin 128) : ((rectY j).emb (ix2 p k) 1).val = 128 * j.val + k.val := by
  show 128 * j.val + 1 * k.val = _; omega

theorem embO0 (j : Fin 12) (p : Fin 128) (k : Fin 128) : ((rectO j).emb (ix2 p k) 0).val = p.val := by
  show 0 + 1 * p.val = p.val; omega
theorem embO1 (j : Fin 12) (p : Fin 128) (k : Fin 128) : ((rectO j).emb (ix2 p k) 1).val = 128 * j.val + k.val := by
  show 128 * j.val + 1 * k.val = _; omega

section Run

variable (i : grid0.Coords) (x0 : Vec Ideal S128x2048 .f32) (x1 x2 x3 x4 : Vec Ideal S128x512 .f32) (x5 x6 : Vec Ideal S128x128 .f32)

/-- The number of a tile of the queries; of the keys; of the values. -/
def outQ (j : Fin 8) : Fin 12 := ⟨j.val, by omega⟩
def outK (j : Fin 2) : Fin 12 := ⟨8 + j.val, by omega⟩
def outV (j : Fin 2) : Fin 12 := ⟨10 + j.val, by omega⟩

/-- A store of two heads' queries; keys; values. -/
def pieceQ (j : Fin 8) : View.Piece (Elt Ideal) S128x1536 .bf16 := ⟨rectO (outQ j), k0_pay4 (View.ld x5 r0_0) (View.ld x6 r0_0) (View.ld x0 (rectX (⟨2 * j.val, by omega⟩ : Fin 16))) (View.ld x0 (rectX (⟨2 * j.val + 1, by omega⟩ : Fin 16)))⟩
def pieceK (j : Fin 2) : View.Piece (Elt Ideal) S128x1536 .bf16 := ⟨rectO (outK j), k0_pay25 (k0_pay1 (View.ld x5 r0_0)) (k0_pay2 (View.ld x6 r0_0)) (k0_pay3 (F := Ideal) i) (k0_pay24 (View.ld x1 (rectY (⟨2 * j.val, by omega⟩ : Fin 4)))) (View.ld x1 (rectY (⟨2 * j.val + 1, by omega⟩ : Fin 4))) (View.ld x2 (rectY (⟨2 * j.val, by omega⟩ : Fin 4))) (View.ld x2 (rectY (⟨2 * j.val + 1, by omega⟩ : Fin 4)))⟩
def pieceV (j : Fin 2) : View.Piece (Elt Ideal) S128x1536 .bf16 := ⟨rectO (outV j), k0_pay26 (k0_pay3 (F := Ideal) i) (View.ld x3 (rectY (⟨2 * j.val, by omega⟩ : Fin 4))) (View.ld x3 (rectY (⟨2 * j.val + 1, by omega⟩ : Fin 4))) (View.ld x4 (rectY (⟨2 * j.val, by omega⟩ : Fin 4))) (View.ld x4 (rectY (⟨2 * j.val + 1, by omega⟩ : Fin 4)))⟩

/-- The body's stores, the last first. -/
def pieces : List (View.Piece (Elt Ideal) S128x1536 .bf16) :=
  [pieceV i x3 x4 1, pieceK i x1 x2 x5 x6 1, pieceV i x3 x4 0, pieceK i x1 x2 x5 x6 0,
    pieceQ x0 x5 x6 7, pieceQ x0 x5 x6 6, pieceQ x0 x5 x6 5, pieceQ x0 x5 x6 4, pieceQ x0 x5 x6 3, pieceQ x0 x5 x6 2, pieceQ x0 x5 x6 1, pieceQ x0 x5 x6 0]

/-- What the body leaves is what these stores leave. -/
theorem out_pieces : out0_7 i x0 x1 x2 x3 x4 x5 x6 = View.canon (pieces i x0 x1 x2 x3 x4 x5 x6) := by
  sl_kernel_rfl

/-- The stores cover the block. -/
theorem covered (y : S128x1536.Idx) : ∃ pc ∈ pieces i x0 x1 x2 x3 x4 x5 x6, y ∈ pc.1.set :=
  View.cover_of_tiled (pieces i x0 x1 x2 x3 x4 x5 x6) S128x128.size (by rfl) y

/-- The whole of a table's block is loaded. -/
theorem whole (x : Vec Ideal S128x128 .f32) : View.ld x r0_0 = x :=
  funext fun z => congrArg x (funext fun a => Fin.ext (by fin_cases a <;> simp [Rect.unit]))

/-- The block that the body leaves is one whose entries each store agrees with. -/
theorem out_at (G : S128x1536.Idx → EReal)
    (hq : ∀ (j : Fin 8) x, (k0_pay4 x5 x6 (View.ld x0 (rectX (⟨2 * j.val, by omega⟩ : Fin 16))) (View.ld x0 (rectX (⟨2 * j.val + 1, by omega⟩ : Fin 16)))) x = G ((rectO (outQ j)).emb x))
    (hk : ∀ (j : Fin 2) x, (k0_pay25 (k0_pay1 x5) (k0_pay2 x6) (k0_pay3 (F := Ideal) i) (k0_pay24 (View.ld x1 (rectY (⟨2 * j.val, by omega⟩ : Fin 4)))) (View.ld x1 (rectY (⟨2 * j.val + 1, by omega⟩ : Fin 4))) (View.ld x2 (rectY (⟨2 * j.val, by omega⟩ : Fin 4))) (View.ld x2 (rectY (⟨2 * j.val + 1, by omega⟩ : Fin 4)))) x = G ((rectO (outK j)).emb x))
    (hv : ∀ (j : Fin 2) x, (k0_pay26 (k0_pay3 (F := Ideal) i) (View.ld x3 (rectY (⟨2 * j.val, by omega⟩ : Fin 4))) (View.ld x3 (rectY (⟨2 * j.val + 1, by omega⟩ : Fin 4))) (View.ld x4 (rectY (⟨2 * j.val, by omega⟩ : Fin 4))) (View.ld x4 (rectY (⟨2 * j.val + 1, by omega⟩ : Fin 4)))) x = G ((rectO (outV j)).emb x)) (y : S128x1536.Idx) :
    out0_7 i x0 x1 x2 x3 x4 x5 x6 y = G y := by
  rw [out_pieces]
  have cq : ∀ (j : Fin 8) x, (pieceQ x0 x5 x6 j).2 x = G ((pieceQ x0 x5 x6 j).1.emb x) := fun j x => by
    unfold pieceQ; rw [whole, whole]; exact hq j x
  have ck : ∀ (j : Fin 2) x, (pieceK i x1 x2 x5 x6 j).2 x = G ((pieceK i x1 x2 x5 x6 j).1.emb x) := fun j x => by
    unfold pieceK; rw [whole, whole]; exact hk j x
  have cv : ∀ (j : Fin 2) x, (pieceV i x3 x4 j).2 x = G ((pieceV i x3 x4 j).1.emb x) := fun j x => hv j x
  refine View.canon_apply_of_pieces G _ (fun p hp x => ?_) y (covered i x0 x1 x2 x3 x4 x5 x6 y)
  unfold pieces at hp
  simp only [List.mem_cons, List.not_mem_nil, or_false] at hp
  rcases hp with rfl | rfl | rfl | rfl | rfl | rfl | rfl | rfl | rfl | rfl | rfl | rfl
  · exact cv 1 x
  · exact ck 1 x
  · exact cv 0 x
  · exact ck 0 x
  · exact cq 7 x
  · exact cq 6 x
  · exact cq 5 x
  · exact cq 4 x
  · exact cq 3 x
  · exact cq 2 x
  · exact cq 1 x
  · exact cq 0 x

end Run

/-! ## The arrays as the call finds them -/

/-- The host's layout of 16 heads, each filled up to 128 lanes. -/
def laid16 (a : FVec Ideal S1x4096x16x64 .f32) : FVec Ideal S4096x2048 .f32 :=
  shapeCast S4096x2048 (pad S4096x16x128 ![0, 0, 0] ![0, 0, 64] ![0, 0, 0] (shapeCast S4096x16x64 a shapeCasts_S1x4096x16x64_S4096x16x64)
    (sitofp (F := Ideal) .f32 (constantI S_ 32 0#32)) pads_S4096x16x64_S4096x16x128_000_000_0640 h_S_) shapeCasts_S4096x16x128_S4096x2048

/-- An entry of it. -/
theorem laid16_at (a : FVec Ideal S1x4096x16x64 .f32) (r : Fin 4096) (h : Fin 16) (k : Fin 128) :
    laid16 a (ix2 r (⟨128 * h.val + k.val, by omega⟩ : Fin 2048)) = padded (fun d => a (ix4 (0 : Fin 1) r h d)) k := by
  have hr := r.isLt
  have hh := h.isLt
  have hk := k.isLt
  unfold laid16 padded
  rw [shapeCast_apply _ shapeCasts_S4096x16x128_S4096x2048 _ (ix3 r h k)
    (by rewrite [Shape.rowMajor_val_three, Shape.rowMajor_val_two]; show (r.val * 16 + h.val) * 128 + k.val = r.val * 2048 + (128 * h.val + k.val); omega)]
  by_cases hd : k.val < 64
  · rw [dif_pos hd]
    refine (pad_apply_of_inside _ _ _ _ _ _ _ _ (ix3 r h (⟨k.val, hd⟩ : Fin 64)) (by
      intro b
      match b with
      | ⟨0, _⟩ => show r.val = 0 + r.val * 1; omega
      | ⟨1, _⟩ => show h.val = 0 + h.val * 1; omega
      | ⟨2, _⟩ => show k.val = 0 + k.val * 1; omega)).trans ?_
    exact shapeCast_apply a shapeCasts_S1x4096x16x64_S4096x16x64 _ (ix4 (0 : Fin 1) r h (⟨k.val, hd⟩ : Fin 64))
      (by rewrite [Shape.rowMajor_val_four, Shape.rowMajor_val_three]; show ((0 * 4096 + r.val) * 16 + h.val) * 64 + k.val = (r.val * 16 + h.val) * 64 + k.val; omega)
  · rw [dif_neg hd]
    refine (pad_apply_of_not_inside _ _ _ _ _ _ _ _ (2 : Fin 3) (by
      rintro ⟨_, _, h3⟩
      have : (k.val - 0) / 1 < 64 := h3
      omega)).trans ?_
    show ((((0#32 : BitVec 32).toInt : ℤ) : ℝ) : EReal) = 0
    simp

/-- The host's layout of 4 heads, each filled up to 128 lanes. -/
def laid4 (a : FVec Ideal S1x4096x4x64 .f32) : FVec Ideal S4096x512 .f32 :=
  shapeCast S4096x512 (pad S4096x4x128 ![0, 0, 0] ![0, 0, 64] ![0, 0, 0] (shapeCast S4096x4x64 a shapeCasts_S1x4096x4x64_S4096x4x64)
    (sitofp (F := Ideal) .f32 (constantI S_ 32 0#32)) pads_S4096x4x64_S4096x4x128_000_000_0640 h_S_) shapeCasts_S4096x4x128_S4096x512

/-- An entry of it. -/
theorem laid4_at (a : FVec Ideal S1x4096x4x64 .f32) (r : Fin 4096) (h : Fin 4) (k : Fin 128) :
    laid4 a (ix2 r (⟨128 * h.val + k.val, by omega⟩ : Fin 512)) = padded (fun d => a (ix4 (0 : Fin 1) r h d)) k := by
  have hr := r.isLt
  have hh := h.isLt
  have hk := k.isLt
  unfold laid4 padded
  rw [shapeCast_apply _ shapeCasts_S4096x4x128_S4096x512 _ (ix3 r h k)
    (by rewrite [Shape.rowMajor_val_three, Shape.rowMajor_val_two]; show (r.val * 4 + h.val) * 128 + k.val = r.val * 512 + (128 * h.val + k.val); omega)]
  by_cases hd : k.val < 64
  · rw [dif_pos hd]
    refine (pad_apply_of_inside _ _ _ _ _ _ _ _ (ix3 r h (⟨k.val, hd⟩ : Fin 64)) (by
      intro b
      match b with
      | ⟨0, _⟩ => show r.val = 0 + r.val * 1; omega
      | ⟨1, _⟩ => show h.val = 0 + h.val * 1; omega
      | ⟨2, _⟩ => show k.val = 0 + k.val * 1; omega)).trans ?_
    exact shapeCast_apply a shapeCasts_S1x4096x4x64_S4096x4x64 _ (ix4 (0 : Fin 1) r h (⟨k.val, hd⟩ : Fin 64))
      (by rewrite [Shape.rowMajor_val_four, Shape.rowMajor_val_three]; show ((0 * 4096 + r.val) * 4 + h.val) * 64 + k.val = (r.val * 4 + h.val) * 64 + k.val; omega)
  · rw [dif_neg hd]
    refine (pad_apply_of_not_inside _ _ _ _ _ _ _ _ (2 : Fin 3) (by
      rintro ⟨_, _, h3⟩
      have : (k.val - 0) / 1 < 64 := h3
      omega)).trans ?_
    show ((((0#32 : BitVec 32).toInt : ℤ) : ℝ) : EReal) = 0
    simp

section Blocks

variable (m : (ℓ : Loc nD τ sig) → Buf (Elt Ideal) ℓ) (c : Dev nD)

/-! The arguments, and the gradient of the reference. -/

abbrev arr0 : FVec Ideal S1x4096x16x64 .f32 := m ((c : Thread nD τ).loc main_arg0)
abbrev arr1 : FVec Ideal S1x4096x4x64 .f32 := m ((c : Thread nD τ).loc main_arg1)
abbrev arr2 : FVec Ideal S1x4096x4x64 .f32 := m ((c : Thread nD τ).loc main_arg2)
abbrev arr3 : FVec Ideal S1x4096x4x64 .f32 := m ((c : Thread nD τ).loc main_arg3)
abbrev arr4 : FVec Ideal S1x4096x4x64 .f32 := m ((c : Thread nD τ).loc main_arg4)
abbrev arr5 : FVec Ideal S4096x32 .f32 := m ((c : Thread nD τ).loc main_arg5)
abbrev arr6 : FVec Ideal S4096x32 .f32 := m ((c : Thread nD τ).loc main_arg6)
abbrev want : FVec Ideal S4096x1536 .bf16 := Cert.Reference31Ideal.Read.val_main_v102 (F := Ideal) (arr0 m c) (arr1 m c) (arr2 m c) (arr3 m c) (arr4 m c) (arr5 m c) (arr6 m c)

/-! The host's arrays are what the call finds. -/

theorem entry0 : V m c (Pipeline.arrRef spec0 0) = laid16 (arr0 m c) := by sl_kernel_rfl
theorem entry1 : V m c (Pipeline.arrRef spec0 1) = laid4 (arr1 m c) := by sl_kernel_rfl
theorem entry2 : V m c (Pipeline.arrRef spec0 2) = laid4 (arr2 m c) := by sl_kernel_rfl
theorem entry3 : V m c (Pipeline.arrRef spec0 3) = laid4 (arr3 m c) := by sl_kernel_rfl
theorem entry4 : V m c (Pipeline.arrRef spec0 4) = laid4 (arr4 m c) := by sl_kernel_rfl
theorem entry6 : V m c (Pipeline.arrRef spec0 6) = sines (arr6 m c) := by sl_kernel_rfl

/-- The host's table of the cosines. -/
def cosines (a : FVec Ideal S4096x32 .f32) : FVec Ideal S4096x128 .f32 :=
  concatenate S4096x128 1 [⟨S4096x32, a⟩, ⟨S4096x32, a⟩, ⟨S4096x32, a⟩, ⟨S4096x32, a⟩] concatenates_S4096x32_S4096x32_S4096x32_S4096x32_S4096x128_d1

/-- An entry of it. -/
theorem cosines_at (a : FVec Ideal S4096x32 .f32) (r : Fin 4096) (k : Fin 128) : cosines a (ix2 r k) = a (ix2 r (⟨k.val % 32, Nat.mod_lt _ (by decide)⟩ : Fin 32)) := by
  have hk := k.isLt
  have one : ∀ q q' : Fin 32, q.val = q'.val → a (ix2 r q) = a (ix2 r q') := fun q q' e => by rw [Fin.ext e]
  pointwise [cosines]
  split_ifs <;> exact one _ _ (by dsimp only; omega)

theorem entry5 : V m c (Pipeline.arrRef spec0 5) = cosines (arr5 m c) := by sl_kernel_rfl

/-- Where the blocks lie at each point of the grid. -/
theorem places : ∀ t : Fin cfg0.N, win0_0.index t = ![t.val, 0] ∧ win0_1.index t = ![t.val, 0] ∧ win0_2.index t = ![min (t.val + 1) 31, 0] ∧ win0_3.index t = ![t.val, 0]
      ∧ win0_4.index t = ![min (t.val + 1) 31, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![min (t.val + 1) 31, 0] ∧ win0_3.index t = ![t.val, 0]
      ∧ win0_4.index t = ![min (t.val + 1) 31, 0] ∧ win0_5.index t = ![t.val, 0] ∧ win0_6.index t = ![t.val, 0] ∧ win0_7.index t = ![t.val, 0])

/-- The row of the array that a row of a block is; that a row of the next block is. -/
def row (t : Fin cfg0.N) (p : Fin 128) : Fin 4096 := ⟨t.val * 128 + p.val, by have : t.val < 32 := t.isLt; omega⟩
def next (t : Fin cfg0.N) (p : Fin 128) : Fin 4096 := ⟨min (t.val + 1) 31 * 128 + p.val, by omega⟩

/-- The bit of the last block as the body computes it. -/
theorem last_bit : ∀ t : Fin cfg0.N, (Scalar.extui (Scalar.cmpi .slt (BitVec.ofNat 32 (grid0.coords t 0).val) 31#32) : BitVec 32) = if t.val < 31 then 1#32 else 0#32 :=
  (by decide +kernel : ∀ t : Fin grid0.N, (Scalar.extui (Scalar.cmpi .slt (BitVec.ofNat 32 (grid0.coords t 0).val) 31#32) : BitVec 32) = if t.val < 31 then 1#32 else 0#32)

/-- The factor of a tile's share of the next block. -/
abbrev factor (t : Fin cfg0.N) : EReal := k0_pay3 (F := Ideal) (grid0.coords t)

/-- The share of the next block: all of it, and nothing after the last. -/
theorem share_at (t : Fin cfg0.N) : factor t = (if t.val < 31 then 1 else 0 : EReal) := by
  have h : factor t = Scalar.sitofp (F := Ideal) .f32 (Scalar.extui (Scalar.cmpi .slt (BitVec.ofNat 32 (grid0.coords t 0).val) 31#32) : BitVec 32) := rfl
  rw [h, last_bit]
  by_cases ht : t.val < 31
  · rw [if_pos ht, if_pos ht]
    show ((((1#32 : BitVec 32).toInt : ℤ) : ℝ) : EReal) = 1
    simp
  · rw [if_neg ht, if_neg ht]
    show ((((0#32 : BitVec 32).toInt : ℤ) : ℝ) : EReal) = 0
    simp

/-- A head's lanes of window 0's block. -/
theorem block0 (t : Fin cfg0.N) (j : Fin 16) (p : Fin 128) (k : Fin 128) : View.ld (iblk m c 0 t : Vec Ideal S128x2048 .f32) (rectX j) (ix2 p k)
    = padded (fun d => arr0 m c (ix4 (0 : Fin 1) (row t p) j d)) k := by
  have hj := j.isLt
  have hk := k.isLt
  show V m c (Pipeline.arrRef spec0 0) ((win0_0.blk t).view.emb ((rectX j).emb (ix2 p k))) = _
  rw [entry0, ← laid16_at]
  refine congrArg (laid16 (arr0 m c)) (funext fun a => Fin.ext ?_)
  match a with
  | ⟨0, _⟩ => blk_simp [places t, row, rectX]; exact congrArg (t.val * 128 + ·) (embX0 j p k)
  | ⟨1, _⟩ => blk_simp [places t, rectX]; exact embX1 j p k

abbrev in1 (t : Fin cfg0.N) : Vec Ideal S128x512 .f32 := iblk m c 1 t
abbrev in2 (t : Fin cfg0.N) : Vec Ideal S128x512 .f32 := iblk m c 2 t
abbrev in3 (t : Fin cfg0.N) : Vec Ideal S128x512 .f32 := iblk m c 3 t
abbrev in4 (t : Fin cfg0.N) : Vec Ideal S128x512 .f32 := iblk m c 4 t

/-- A head's lanes of window 1's block. -/
theorem block1 (t : Fin cfg0.N) (j : Fin 4) (p : Fin 128) (k : Fin 128) : View.ld (in1 m c t) (rectY j) (ix2 p k)
    = padded (fun d => arr1 m c (ix4 (0 : Fin 1) (row t p) j d)) k := by
  have hj := j.isLt
  have hk := k.isLt
  show V m c (Pipeline.arrRef spec0 1) ((win0_1.blk t).view.emb ((rectY j).emb (ix2 p k))) = _
  rw [entry1, ← laid4_at]
  refine congrArg (laid4 (arr1 m c)) (funext fun a => Fin.ext ?_)
  match a with
  | ⟨0, _⟩ => blk_simp [places t, row, rectY]; exact congrArg (t.val * 128 + ·) (embY0 j p k)
  | ⟨1, _⟩ => blk_simp [places t, rectY]; exact embY1 j p k

/-- A head's lanes of window 2's block. -/
theorem block2 (t : Fin cfg0.N) (j : Fin 4) (p : Fin 128) (k : Fin 128) : View.ld (in2 m c t) (rectY j) (ix2 p k)
    = padded (fun d => arr2 m c (ix4 (0 : Fin 1) (next t p) j d)) k := by
  have hj := j.isLt
  have hk := k.isLt
  show V m c (Pipeline.arrRef spec0 2) ((win0_2.blk t).view.emb ((rectY j).emb (ix2 p k))) = _
  rw [entry2, ← laid4_at]
  refine congrArg (laid4 (arr2 m c)) (funext fun a => Fin.ext ?_)
  match a with
  | ⟨0, _⟩ => blk_simp [places t, next, rectY]; exact congrArg (min (t.val + 1) 31 * 128 + ·) (embY0 j p k)
  | ⟨1, _⟩ => blk_simp [places t, rectY]; exact embY1 j p k

/-- A head's lanes of window 3's block. -/
theorem block3 (t : Fin cfg0.N) (j : Fin 4) (p : Fin 128) (k : Fin 128) : View.ld (in3 m c t) (rectY j) (ix2 p k)
    = padded (fun d => arr3 m c (ix4 (0 : Fin 1) (row t p) j d)) k := by
  have hj := j.isLt
  have hk := k.isLt
  show V m c (Pipeline.arrRef spec0 3) ((win0_3.blk t).view.emb ((rectY j).emb (ix2 p k))) = _
  rw [entry3, ← laid4_at]
  refine congrArg (laid4 (arr3 m c)) (funext fun a => Fin.ext ?_)
  match a with
  | ⟨0, _⟩ => blk_simp [places t, row, rectY]; exact congrArg (t.val * 128 + ·) (embY0 j p k)
  | ⟨1, _⟩ => blk_simp [places t, rectY]; exact embY1 j p k

/-- A head's lanes of window 4's block. -/
theorem block4 (t : Fin cfg0.N) (j : Fin 4) (p : Fin 128) (k : Fin 128) : View.ld (in4 m c t) (rectY j) (ix2 p k)
    = padded (fun d => arr4 m c (ix4 (0 : Fin 1) (next t p) j d)) k := by
  have hj := j.isLt
  have hk := k.isLt
  show V m c (Pipeline.arrRef spec0 4) ((win0_4.blk t).view.emb ((rectY j).emb (ix2 p k))) = _
  rw [entry4, ← laid4_at]
  refine congrArg (laid4 (arr4 m c)) (funext fun a => Fin.ext ?_)
  match a with
  | ⟨0, _⟩ => blk_simp [places t, next, rectY]; exact congrArg (min (t.val + 1) 31 * 128 + ·) (embY0 j p k)
  | ⟨1, _⟩ => blk_simp [places t, rectY]; exact embY1 j p k

/-- A block of the cosines. -/
theorem block5 (t : Fin cfg0.N) (p : Fin 128) (k : Fin 128) : (iblk m c 5 t : Vec Ideal S128x128 .f32) (ix2 p k) = arr5 m c (ix2 (row t p) (⟨k.val % 32, Nat.mod_lt _ (by decide)⟩ : Fin 32)) := by
  show V m c (Pipeline.arrRef spec0 5) ((win0_5.blk t).view.emb (ix2 p k)) = _
  rw [entry5]
  refine Eq.trans (congrArg (cosines (arr5 m c)) (show (win0_5.blk t).view.emb (ix2 p k) = ix2 (row t p) k from funext fun a => Fin.ext ?_)) (cosines_at _ _ _)
  match a with
  | ⟨0, _⟩ => blk_simp [places t, row]
  | ⟨1, _⟩ => blk_simp [places t]

/-- A block of the sines. -/
theorem block6 (t : Fin cfg0.N) (p : Fin 128) (k : Fin 128) : (iblk m c 6 t : Vec Ideal S128x128 .f32) (ix2 p k) = signed (fun q => arr6 m c (ix2 (row t p) q)) k := by
  show V m c (Pipeline.arrRef spec0 6) ((win0_6.blk t).view.emb (ix2 p k)) = _
  rw [entry6]
  refine Eq.trans (congrArg (sines (arr6 m c)) (show (win0_6.blk t).view.emb (ix2 p k) = ix2 (row t p) k from funext fun a => Fin.ext ?_)) (sines_at _ _ _)
  match a with
  | ⟨0, _⟩ => blk_simp [places t, row]
  | ⟨1, _⟩ => blk_simp [places t]

/-- A head's gradient: its own block's and its share of the next one's. -/
theorem share_sum (a b : (⟨S1x4096x4x64, .f32⟩ : BufTy).Contents (Elt Ideal)) (t : Fin cfg0.N) (p : Fin 128) (h : Fin 4) :
    (fun d => (a (ix4 (0 : Fin 1) (row t p) h d) + factor t * b (ix4 (0 : Fin 1) (next t p) h d) : EReal)) = summed a b (row t p) h := by
  have hp := p.isLt
  funext d
  rw [share_at]
  unfold summed
  by_cases ht : t.val < 31
  · rw [if_pos ht, one_mul, dif_pos (by show t.val * 128 + p.val < 3968; omega)]
    refine congrArg (fun z : Fin 4096 => (a (ix4 (0 : Fin 1) (row t p) h d) + b (ix4 (0 : Fin 1) z h d) : EReal)) (Fin.ext ?_)
    show min (t.val + 1) 31 * 128 + p.val = t.val * 128 + p.val + 128
    omega
  · rw [if_neg ht, zero_mul, dif_neg (by show ¬ t.val * 128 + p.val < 3968; omega)]

/-! ## The entries -/

/-- An entry of a tile of the queries. -/
theorem entry_q (t : Fin cfg0.N) (j : Fin 8) (p : Fin 128) (k : Fin 128) :
    (k0_pay4 (iblk m c 5 t : Vec Ideal S128x128 .f32) (iblk m c 6 t : Vec Ideal S128x128 .f32) (View.ld (iblk m c 0 t : Vec Ideal S128x2048 .f32) (rectX (⟨2 * j.val, by omega⟩ : Fin 16))) (View.ld (iblk m c 0 t : Vec Ideal S128x2048 .f32) (rectX (⟨2 * j.val + 1, by omega⟩ : Fin 16)))) (ix2 p k) = want m c (ix2 (row t p) (⟨128 * (outQ j).val + k.val, by omega⟩ : Fin 1536)) := by
  have hj := j.isLt
  have hk := k.isLt
  have e : (⟨128 * (outQ j).val + k.val, by omega⟩ : Fin 1536) = ⟨0 + (64 * (⟨2 * j.val + k.val / 64, by omega⟩ : Fin 16).val + (⟨k.val % 64, Nat.mod_lt _ (by decide)⟩ : Fin 64).val), by dsimp only; omega⟩ :=
    Fin.ext (by show 128 * (j.val) + k.val = 0 + (64 * (2 * j.val + k.val / 64) + k.val % 64); omega)
  rw [e]
  refine Eq.trans ?_ (ref_q (arr0 m c) (arr1 m c) (arr2 m c) (arr3 m c) (arr4 m c) (arr5 m c) (arr6 m c) (row t p) _ _).symm
  refine (congrFun (tile_q _ _ _ _ ) (ix2 p k)).trans ?_
  exact back_at p (fun q => arr5 m c (ix2 (row t p) q)) (fun q => arr6 m c (ix2 (row t p) q)) (fun b d => arr0 m c (ix4 (0 : Fin 1) (row t p) (⟨2 * j.val + b.val, by omega⟩ : Fin 16) d)) _ _ (block5 m c t p) (block6 m c t p) _ (joined_at p (fun b d => arr0 m c (ix4 (0 : Fin 1) (row t p) (⟨2 * j.val + b.val, by omega⟩ : Fin 16) d)) _ _ (block0 m c t (⟨2 * j.val, by omega⟩ : Fin 16) p) (block0 m c t (⟨2 * j.val + 1, by omega⟩ : Fin 16) p)) k

/-- An entry of a tile of the keys. -/
theorem entry_k (t : Fin cfg0.N) (j : Fin 2) (p : Fin 128) (k : Fin 128) :
    (k0_pay25 (k0_pay1 (iblk m c 5 t : Vec Ideal S128x128 .f32)) (k0_pay2 (iblk m c 6 t : Vec Ideal S128x128 .f32)) (factor t) (k0_pay24 (View.ld (in1 m c t) (rectY (⟨2 * j.val, by omega⟩ : Fin 4)))) (View.ld (in1 m c t) (rectY (⟨2 * j.val + 1, by omega⟩ : Fin 4))) (View.ld (in2 m c t) (rectY (⟨2 * j.val, by omega⟩ : Fin 4))) (View.ld (in2 m c t) (rectY (⟨2 * j.val + 1, by omega⟩ : Fin 4)))) (ix2 p k) = want m c (ix2 (row t p) (⟨128 * (outK j).val + k.val, by omega⟩ : Fin 1536)) := by
  have hj := j.isLt
  have hk := k.isLt
  have e : (⟨128 * (outK j).val + k.val, by omega⟩ : Fin 1536) = ⟨1024 + (64 * (⟨2 * j.val + k.val / 64, by omega⟩ : Fin 4).val + (⟨k.val % 64, Nat.mod_lt _ (by decide)⟩ : Fin 64).val), by dsimp only; omega⟩ :=
    Fin.ext (by show 128 * (8 + j.val) + k.val = 1024 + (64 * (2 * j.val + k.val / 64) + k.val % 64); omega)
  have own : ∀ k, grown (factor t) (View.ld (in1 m c t) (rectY (⟨2 * j.val, by omega⟩ : Fin 4))) (View.ld (in2 m c t) (rectY (⟨2 * j.val, by omega⟩ : Fin 4))) (ix2 p k) = padded (summed (arr1 m c) (arr2 m c) (row t p) (⟨2 * j.val, by omega⟩ : Fin 4)) k := fun k =>
    (grown_at p (factor t) (View.ld (in1 m c t) (rectY (⟨2 * j.val, by omega⟩ : Fin 4))) (View.ld (in2 m c t) (rectY (⟨2 * j.val, by omega⟩ : Fin 4))) (fun d => arr1 m c (ix4 (0 : Fin 1) (row t p) (⟨2 * j.val, by omega⟩ : Fin 4) d)) (fun d => arr2 m c (ix4 (0 : Fin 1) (next t p) (⟨2 * j.val, by omega⟩ : Fin 4) d)) (block1 m c t (⟨2 * j.val, by omega⟩ : Fin 4) p) (block2 m c t (⟨2 * j.val, by omega⟩ : Fin 4) p) k).trans
      (congrArg (fun Z => padded Z k) (share_sum (arr1 m c) (arr2 m c) t p (⟨2 * j.val, by omega⟩ : Fin 4)))
  have other : ∀ k, grown (factor t) (View.ld (in1 m c t) (rectY (⟨2 * j.val + 1, by omega⟩ : Fin 4))) (View.ld (in2 m c t) (rectY (⟨2 * j.val + 1, by omega⟩ : Fin 4))) (ix2 p k) = padded (summed (arr1 m c) (arr2 m c) (row t p) (⟨2 * j.val + 1, by omega⟩ : Fin 4)) k := fun k =>
    (grown_at p (factor t) (View.ld (in1 m c t) (rectY (⟨2 * j.val + 1, by omega⟩ : Fin 4))) (View.ld (in2 m c t) (rectY (⟨2 * j.val + 1, by omega⟩ : Fin 4))) (fun d => arr1 m c (ix4 (0 : Fin 1) (row t p) (⟨2 * j.val + 1, by omega⟩ : Fin 4) d)) (fun d => arr2 m c (ix4 (0 : Fin 1) (next t p) (⟨2 * j.val + 1, by omega⟩ : Fin 4) d)) (block1 m c t (⟨2 * j.val + 1, by omega⟩ : Fin 4) p) (block2 m c t (⟨2 * j.val + 1, by omega⟩ : Fin 4) p) k).trans
      (congrArg (fun Z => padded Z k) (share_sum (arr1 m c) (arr2 m c) t p (⟨2 * j.val + 1, by omega⟩ : Fin 4)))
  rw [e]
  refine Eq.trans ?_ (ref_k (arr0 m c) (arr1 m c) (arr2 m c) (arr3 m c) (arr4 m c) (arr5 m c) (arr6 m c) (row t p) _ _).symm
  refine (congrFun (tile_k _ _ _ _ _ _ _ ) (ix2 p k)).trans ?_
  exact back_at p (fun q => arr5 m c (ix2 (row t p) q)) (fun q => arr6 m c (ix2 (row t p) q)) (fun b => summed (arr1 m c) (arr2 m c) (row t p) (⟨2 * j.val + b.val, by omega⟩ : Fin 4)) _ _ (block5 m c t p) (block6 m c t p) _ (joined_at p (fun b => summed (arr1 m c) (arr2 m c) (row t p) (⟨2 * j.val + b.val, by omega⟩ : Fin 4)) _ _ own other) k

/-- An entry of a tile of the values. -/
theorem entry_v (t : Fin cfg0.N) (j : Fin 2) (p : Fin 128) (k : Fin 128) :
    (k0_pay26 (factor t) (View.ld (in3 m c t) (rectY (⟨2 * j.val, by omega⟩ : Fin 4))) (View.ld (in3 m c t) (rectY (⟨2 * j.val + 1, by omega⟩ : Fin 4))) (View.ld (in4 m c t) (rectY (⟨2 * j.val, by omega⟩ : Fin 4))) (View.ld (in4 m c t) (rectY (⟨2 * j.val + 1, by omega⟩ : Fin 4)))) (ix2 p k) = want m c (ix2 (row t p) (⟨128 * (outV j).val + k.val, by omega⟩ : Fin 1536)) := by
  have hj := j.isLt
  have hk := k.isLt
  have e : (⟨128 * (outV j).val + k.val, by omega⟩ : Fin 1536) = ⟨1280 + (64 * (⟨2 * j.val + k.val / 64, by omega⟩ : Fin 4).val + (⟨k.val % 64, Nat.mod_lt _ (by decide)⟩ : Fin 64).val), by dsimp only; omega⟩ :=
    Fin.ext (by show 128 * (10 + j.val) + k.val = 1280 + (64 * (2 * j.val + k.val / 64) + k.val % 64); omega)
  have own : ∀ k, grown (factor t) (View.ld (in3 m c t) (rectY (⟨2 * j.val, by omega⟩ : Fin 4))) (View.ld (in4 m c t) (rectY (⟨2 * j.val, by omega⟩ : Fin 4))) (ix2 p k) = padded (summed (arr3 m c) (arr4 m c) (row t p) (⟨2 * j.val, by omega⟩ : Fin 4)) k := fun k =>
    (grown_at p (factor t) (View.ld (in3 m c t) (rectY (⟨2 * j.val, by omega⟩ : Fin 4))) (View.ld (in4 m c t) (rectY (⟨2 * j.val, by omega⟩ : Fin 4))) (fun d => arr3 m c (ix4 (0 : Fin 1) (row t p) (⟨2 * j.val, by omega⟩ : Fin 4) d)) (fun d => arr4 m c (ix4 (0 : Fin 1) (next t p) (⟨2 * j.val, by omega⟩ : Fin 4) d)) (block3 m c t (⟨2 * j.val, by omega⟩ : Fin 4) p) (block4 m c t (⟨2 * j.val, by omega⟩ : Fin 4) p) k).trans
      (congrArg (fun Z => padded Z k) (share_sum (arr3 m c) (arr4 m c) t p (⟨2 * j.val, by omega⟩ : Fin 4)))
  have other : ∀ k, grown (factor t) (View.ld (in3 m c t) (rectY (⟨2 * j.val + 1, by omega⟩ : Fin 4))) (View.ld (in4 m c t) (rectY (⟨2 * j.val + 1, by omega⟩ : Fin 4))) (ix2 p k) = padded (summed (arr3 m c) (arr4 m c) (row t p) (⟨2 * j.val + 1, by omega⟩ : Fin 4)) k := fun k =>
    (grown_at p (factor t) (View.ld (in3 m c t) (rectY (⟨2 * j.val + 1, by omega⟩ : Fin 4))) (View.ld (in4 m c t) (rectY (⟨2 * j.val + 1, by omega⟩ : Fin 4))) (fun d => arr3 m c (ix4 (0 : Fin 1) (row t p) (⟨2 * j.val + 1, by omega⟩ : Fin 4) d)) (fun d => arr4 m c (ix4 (0 : Fin 1) (next t p) (⟨2 * j.val + 1, by omega⟩ : Fin 4) d)) (block3 m c t (⟨2 * j.val + 1, by omega⟩ : Fin 4) p) (block4 m c t (⟨2 * j.val + 1, by omega⟩ : Fin 4) p) k).trans
      (congrArg (fun Z => padded Z k) (share_sum (arr3 m c) (arr4 m c) t p (⟨2 * j.val + 1, by omega⟩ : Fin 4)))
  rw [e]
  refine Eq.trans ?_ (ref_v (arr0 m c) (arr1 m c) (arr2 m c) (arr3 m c) (arr4 m c) (arr5 m c) (arr6 m c) (row t p) _ _).symm
  refine (congrFun (tile_v _ _ _ _ _ ) (ix2 p k)).trans ?_
  exact joined_at p (fun b => summed (arr3 m c) (arr4 m c) (row t p) (⟨2 * j.val + b.val, by omega⟩ : Fin 4)) _ _ own other k

/-- An entry of the block that the body leaves is the reference's entry at its place. -/
theorem key7 (t : Fin cfg0.N) (y : S128x1536.Idx) :
    out0_7 (grid0.coords t) (iblk m c 0 t) (iblk m c 1 t) (iblk m c 2 t) (iblk m c 3 t) (iblk m c 4 t) (iblk m c 5 t) (iblk m c 6 t) y = want m c (ix2 (row t (y 0)) (y 1)) := by
  have place : ∀ (j : Fin 12) (p k : Fin 128), want m c (ix2 (row t p) (⟨128 * j.val + k.val, by omega⟩ : Fin 1536))
      = (fun y : S128x1536.Idx => want m c (ix2 (row t (y 0)) (y 1))) ((rectO j).emb (ix2 p k)) := fun j p k => by
    refine congrArg (want m c) (show ix2 (row t p) (⟨128 * j.val + k.val, by omega⟩ : Fin 1536) = ix2 (row t ((rectO j).emb (ix2 p k) 0)) ((rectO j).emb (ix2 p k) 1) from funext fun a => Fin.ext ?_)
    match a with
    | ⟨0, _⟩ => exact congrArg (t.val * 128 + ·) (embO0 j p k).symm
    | ⟨1, _⟩ => exact (embO1 j p k).symm
  have split : ∀ x : S128x128.Idx, ∃ (p k : Fin 128), x = ix2 p k := fun x => ⟨x 0, x 1, eq_ix2 x⟩
  refine out_at (grid0.coords t) (iblk m c 0 t) (iblk m c 1 t) (iblk m c 2 t) (iblk m c 3 t) (iblk m c 4 t) (iblk m c 5 t) (iblk m c 6 t)
    (fun y => want m c (ix2 (row t (y 0)) (y 1))) (fun j x => ?_) (fun j x => ?_) (fun j x => ?_) y
  · obtain ⟨p, k, rfl⟩ := split x
    exact (entry_q m c t j p k).trans (place (outQ j) p k)
  · obtain ⟨p, k, rfl⟩ := split x
    exact (entry_k m c t j p k).trans (place (outK j) p k)
  · obtain ⟨p, k, rfl⟩ := split x
    exact (entry_v m c t j p k).trans (place (outV j) p k)

/-- The gradient that the call leaves is the reference's. -/
theorem final7 : (dats m 0 c).arrAt 7 cfg0.N = want m c := by
  refine (dats m 0 c).arrAt_eq_of_covers 7 _ (by decide +kernel) fun t _ y => ?_
  rw [after0_7]
  have hk := key7 m c t
  generalize out0_7 (grid0.coords t) (iblk m c 0 t) (iblk m c 1 t) (iblk m c 2 t) (iblk m c 3 t) (iblk m c 4 t) (iblk m c 5 t) (iblk m c 6 t) = o at hk ⊢
  obtain ⟨p, k, rfl⟩ : ∃ (p : Fin 128) (k : Fin 1536), y = ix2 p k := ⟨y 0, y 1, eq_ix2 y⟩
  refine (cast_eq _ _).trans ((hk (ix2 p k)).trans (congrArg (want m c) (funext fun a => Fin.ext ?_)))
  match a with
  | ⟨0, _⟩ => blk_simp [places t, row]
  | ⟨1, _⟩ => blk_simp [places t]

end Blocks

end Cert.Kernel31Ideal.Claims

end
-- ==== Proof.Forms.lean ====
/- The vocabulary of the kernel's body: one definition per intermediate value of a head, as a function of the vectors
   it is computed from. Every head of the body is an instance. -/
module

public import proofs.«01_k».proof.Proof.Gen.KernelIdeal.Skeleton

@[expose] public section

noncomputable section

namespace Cert.Attn

open Cert.KernelIdeal Cert.KernelIdeal.Gen Idealize.ShloMosaic Idealize.SL.Sem

variable {F : FTy → Type} [FloatOps F] [Named F]

/-- The keys (or the values) that a block of queries sees: the previous block's rows, then its own. -/
def joined (a b : Vec F S128x128 .bf16) : FVec F S256x128 .bf16 :=
  concatenate S256x128 0 [⟨S128x128, shapeCast S128x128 a shapeCasts_S128x128_S128x128⟩,
    ⟨S128x128, shapeCast S128x128 b shapeCasts_S128x128_S128x128⟩] concatenates_S128x128_S128x128_S256x128_d0

/-- A head's queries. -/
def queries (a : Vec F S128x128 .bf16) : FVec F S128x128 .bf16 := shapeCast S128x128 a shapeCasts_S128x128_S128x128

/-- Lanes below 64 of a chunk of the incoming gradient. -/
def low (x : FVec F S128x128 .f32) : FVec F S128x128 .bf16 :=
  truncf .bf16 (select k0_pay3 x (broadcast S128x128 (Scalar.ofBits .f32 0x00000000#32))) bitsLt_bf16_f32

/-- The incoming gradient of an even head. -/
def evenHead (a : Vec F S128x128 .f32) : FVec F S128x128 .bf16 :=
  low (shapeCast S128x128 a shapeCasts_S128x128_S128x128)

/-- The incoming gradient of an odd head: the chunk's upper lanes brought down. -/
def oddHead (a : Vec F S128x128 .f32) : FVec F S128x128 .bf16 :=
  low (dynamicRotate 1 64#32 none (shapeCast S128x128 a shapeCasts_S128x128_S128x128) rotates_S128x128_d1)

/-- The masked scores. -/
def scores (valid : IVec S128x256 1) (k : FVec F S256x128 .bf16) (q : FVec F S128x128 .bf16) : FVec F S128x256 .f32 :=
  select valid
    (mulf (matmul dot_S128x128_S256x128_S128x256_1_1_0_0_n_n none q k (constant S128x256 .f32 0x00000000#32))
      (broadcast S128x256 (Scalar.ofBits .f32 0x3E000000#32)))
    (broadcast S128x256 (Named.named κ "mask" 0xF149F2CA#32))

/-- The gradient of the probabilities. -/
def probGrad (v : FVec F S256x128 .bf16) (o : FVec F S128x128 .bf16) : FVec F S128x256 .f32 :=
  matmul dot_S128x128_S256x128_S128x256_1_1_0_0_n_n none o v (constant S128x256 .f32 0x00000000#32)

/-- A row's maximum, the sink among its scores. -/
def top (s : FVec F S128x256 .f32) (k : Elt F .f32) : FVec F S128x1 .f32 :=
  maximumf (shapeCast S128x1 (multiReduction .maximumf [1] S128 s 0xFF800000#32 reduces_S128x256_S128 (.inl rfl) rfl)
    shapeCasts_S128_S128x1) (broadcast S128x1 k)

/-- The exponentials. -/
def expo (s : FVec F S128x256 .f32) (k : Elt F .f32) : FVec F S128x256 .f32 :=
  exp (subf s (broadcastTo S128x256 (top s k) broadcasts_S128x1_S128x256))

/-- The sink's exponential. -/
def expoSink (s : FVec F S128x256 .f32) (k : Elt F .f32) : FVec F S128x1 .f32 :=
  exp (subf (broadcast S128x1 k) (top s k))

/-- A sum along a row. -/
def rowSum (x : FVec F S128x256 .f32) : FVec F S128x1 .f32 :=
  shapeCast S128x1 (multiReduction .add [1] S128 x 0x00000000#32 reduces_S128x256_S128 (.inl rfl) rfl) shapeCasts_S128_S128x1

/-- The softmax's denominator. -/
def denom (s : FVec F S128x256 .f32) (k : Elt F .f32) : FVec F S128x1 .f32 :=
  addf (rowSum (expo s k)) (expoSink s k)

/-- The probabilities. -/
def probs (s : FVec F S128x256 .f32) (k : Elt F .f32) : FVec F S128x256 .f32 :=
  divf (expo s k) (broadcastTo S128x256 (denom s k) broadcasts_S128x1_S128x256)

/-- The sink's probability. -/
def probSink (s : FVec F S128x256 .f32) (k : Elt F .f32) : FVec F S128x1 .f32 := divf (expoSink s k) (denom s k)

/-- A row's sum of probability times gradient. -/
def delta (s dp : FVec F S128x256 .f32) (k : Elt F .f32) : FVec F S128x1 .f32 := rowSum (mulf (probs s k) dp)

/-- The gradient of the scores before their scale. -/
def scoreGrad (s dp : FVec F S128x256 .f32) (k : Elt F .f32) : FVec F S128x256 .bf16 :=
  truncf .bf16 (mulf (mulf (probs s k) (subf dp (broadcastTo S128x256 (delta s dp k) broadcasts_S128x1_S128x256)))
    (broadcast S128x256 (Scalar.ofBits .f32 0x3E000000#32))) bitsLt_bf16_f32

/-- The probabilities as the product with the gradient takes them. -/
def probsNarrow (s : FVec F S128x256 .f32) (k : Elt F .f32) : FVec F S128x256 .bf16 :=
  truncf .bf16 (probs s k) bitsLt_bf16_f32

/-- A head's gradient of the queries. -/
def queryGrad (ds : FVec F S128x256 .bf16) (k : FVec F S256x128 .bf16) : FVec F S128x128 .f32 :=
  matmul dot_S128x256_S256x128_S128x128_1_0_0_1_n_n none ds k (constant S128x128 .f32 0x00000000#32)

/-- What one head adds to the gradient of the keys or of the values. -/
def outer (ds : FVec F S128x256 .bf16) (q : FVec F S128x128 .bf16) : FVec F S256x128 .f32 :=
  matmul dot_S128x256_S128x128_S256x128_0_0_1_1_n_n none ds q (constant S256x128 .f32 0x00000000#32)

/-- The four heads of a group summed. -/
def four (a b c d : FVec F S256x128 .f32) : FVec F S256x128 .f32 :=
  addf (addf (addf (addf (broadcast S256x128 (Scalar.ofBits .f32 0x00000000#32)) a) b) c) d

/-- The rows of the previous block. -/
def upper (x : FVec F S256x128 .f32) : FVec F S128x128 .f32 :=
  extractStridedSlice S128x128 ![0, 0] x slices_S256x128_o0_0_S128x128

/-- The rows of the block itself. -/
def lower (x : FVec F S256x128 .f32) : FVec F S128x128 .f32 :=
  extractStridedSlice S128x128 ![128, 0] x slices_S256x128_o128_0_S128x128

/-- The sinks' gradient with one head added at its lane. -/
def sinkStep (h : BitVec 32) (acc : FVec F S1x128 .f32) (s dp : FVec F S128x256 .f32) (k : Elt F .f32) : FVec F S1x128 .f32 :=
  addf acc (select (cmpi .eq (iota .tc S1x128 32 [1] iota_S1x128_d1_w32) (broadcast S1x128 h))
    (broadcastTo S1x128 (shapeCast S1x1 (subf (broadcast S1x1 (Scalar.ofBits .f32 0x00000000#32))
      (shapeCast S1x1 (multiReduction .add [0] S1 (mulf (probSink s k) (delta s dp k)) 0x00000000#32 reduces_S128x1_S1 (.inl rfl) rfl)
        shapeCasts_S1_S1x1)) shapeCasts_S1x1_S1x1) broadcasts_S1x1_S1x128)
    (broadcast S1x128 (Scalar.ofBits .f32 0x00000000#32)))

end Cert.Attn

end
-- ==== Proof.Pieces.lean ====
/- The pieces that the body's run leaves, in the vocabulary of Forms: each result's stores, head by head or group by group,
   as functions of the tiles loaded. -/
module

public import proofs.«01_k».proof.Proof.Forms
public import proofs.«01_k».proof.Proof.Gen.KernelIdeal.Frame
public import Idealize.ShloMosaic.Lib.Pipeline.Value
public import Idealize.ShloMosaic.Lib.WholeRead

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

/-! ## Where the tiles lie -/

/-- A head's columns of the queries' block (and of their gradient's). -/
def rectQ (h : Fin 16) : Rect S128x2048 := Rect.unit ![0, 128 * h.val] S128x128.size
  (by intro a; have := h.isLt; fin_cases a <;> simp <;> omega)

/-- A group's columns of a block of keys or values. -/
def rectK (g : Fin 4) : Rect S128x512 := Rect.unit ![0, 128 * g.val] S128x128.size
  (by intro a; have := g.isLt; fin_cases a <;> simp <;> omega)

/-- Two heads' columns of the incoming gradient's block. -/
def rectG (j : Fin 8) : Rect S128x1024 := Rect.unit ![0, 128 * j.val] S128x128.size
  (by intro a; have := j.isLt; fin_cases a <;> simp <;> omega)

/-- A head's sink. -/
def rectS (h : Fin 16) : Rect S16 := Rect.unit ![h.val] S1.size
  (by intro a; have := h.isLt; fin_cases a; simp)

/-- The tiles that the body loads. -/
@[ext] structure Tiles (F : FTy → Type) where
  q : Fin 16 → Vec F S128x128 .bf16
  kc : Fin 4 → Vec F S128x128 .bf16
  kp : Fin 4 → Vec F S128x128 .bf16
  vc : Fin 4 → Vec F S128x128 .bf16
  vp : Fin 4 → Vec F S128x128 .bf16
  sk : Fin 16 → Elt F .f32
  g : Fin 8 → Vec F S128x128 .f32

namespace Tiles

variable (w : IVec S128x256 1) (l : Tiles F)

/-- A group's keys. -/
def keys (g : Fin 4) : FVec F S256x128 .bf16 := joined (l.kp g) (l.kc g)
/-- A group's values. -/
def vals (g : Fin 4) : FVec F S256x128 .bf16 := joined (l.vp g) (l.vc g)
/-- A head's group. -/
def group (h : Fin 16) : Fin 4 := ⟨h.val / 4, by omega⟩
/-- The group's `j`-th head. -/
def head (g j : Fin 4) : Fin 16 := ⟨4 * g.val + j.val, by omega⟩
/-- A head's incoming gradient. -/
def dout (h : Fin 16) : FVec F S128x128 .bf16 :=
  bif h.val % 2 == 0 then evenHead (l.g ⟨h.val / 2, by omega⟩) else oddHead (l.g ⟨h.val / 2, by omega⟩)
/-- A head's scores. -/
def score (h : Fin 16) : FVec F S128x256 .f32 := scores w (l.keys (group h)) (queries (l.q h))
/-- A head's gradient of the probabilities. -/
def dprob (h : Fin 16) : FVec F S128x256 .f32 := probGrad (l.vals (group h)) (l.dout h)
/-- A head's gradient of the scores. -/
def dscore (h : Fin 16) : FVec F S128x256 .bf16 := scoreGrad (l.score w h) (l.dprob h) (l.sk h)
/-- A head's probabilities. -/
def prob (h : Fin 16) : FVec F S128x256 .bf16 := probsNarrow (l.score w h) (l.sk h)
/-- A head's gradient of the queries. -/
def dq (h : Fin 16) : FVec F S128x128 .f32 := queryGrad (l.dscore w h) (l.keys (group h))
/-- A group's gradient of the keys. -/
def dk (g : Fin 4) : FVec F S256x128 .f32 :=
  four (outer (l.dscore w (head g 0)) (queries (l.q (head g 0)))) (outer (l.dscore w (head g 1)) (queries (l.q (head g 1))))
    (outer (l.dscore w (head g 2)) (queries (l.q (head g 2)))) (outer (l.dscore w (head g 3)) (queries (l.q (head g 3))))
/-- A group's gradient of the values. -/
def dv (g : Fin 4) : FVec F S256x128 .f32 :=
  four (outer (l.prob w (head g 0)) (l.dout (head g 0))) (outer (l.prob w (head g 1)) (l.dout (head g 1)))
    (outer (l.prob w (head g 2)) (l.dout (head g 2))) (outer (l.prob w (head g 3)) (l.dout (head g 3)))
/-- The sinks' gradient after the first `n` heads. -/
def dsink : ℕ → FVec F S1x128 .f32
  | 0 => k0_pay4
  | n + 1 => sinkStep (BitVec.ofNat 32 n) (dsink n) (l.score w (Fin.ofNat 16 n)) (l.dprob (Fin.ofNat 16 n)) (l.sk (Fin.ofNat 16 n))

end Tiles

/-- The tiles of given blocks. -/
def tiles (x0 : Vec F S128x2048 .bf16) (x1 x2 x3 x4 : Vec F S128x512 .bf16) (x5 : Vec F S16 .f32) (x6 : Vec F S128x1024 .f32) :
    Tiles F where
  q h := View.ld x0 (rectQ h)
  kc g := View.ld x1 (rectK g)
  kp g := View.ld x2 (rectK g)
  vc g := View.ld x3 (rectK g)
  vp g := View.ld x4 (rectK g)
  sk h := View.ld x5 (rectS h) (Shape.Idx.first (show 0 < S1.numel by decide))
  g j := View.ld x6 (rectG j)

section Run

variable (c : Dev nD) (i : grid0.Coords)
  (arg1 : Memref sig .tc .vmem S128x2048 .bf16) (harg1 : arg1.IsWhole)
  (arg2 : Memref sig .tc .vmem S128x512 .bf16) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .smem S16 .f32) (harg6 : arg6.IsWhole)
  (arg7 : Memref sig .tc .vmem S128x1024 .f32) (harg7 : arg7.IsWhole)
  (arg8 : Memref sig .tc .vmem S128x2048 .f32) (harg8 : arg8.IsWhole)
  (arg9 : Memref sig .tc .vmem S128x512 .f32) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S128x512 .f32) (harg12 : arg12.IsWhole)
  (arg13 : Memref sig .tc .vmem S1x128 .f32) (harg13 : arg13.IsWhole)
  (x0 : Vec F S128x2048 .bf16) (x1 x2 x3 x4 : Vec F S128x512 .bf16) (x5 : Vec F S16 .f32) (x6 : Vec F S128x1024 .f32) (xo : Vec F S1x128 .f32)

/-- The tiles as the body loads them. -/
def loaded : Tiles F where
  q h := View.readAt (Elt F) arg1.view (rectQ h).toLoadRect (harg1.unread x0)
  kc g := View.readAt (Elt F) arg2.view (rectK g).toLoadRect (harg2.unread x1)
  kp g := View.readAt (Elt F) arg3.view (rectK g).toLoadRect (harg3.unread x2)
  vc g := View.readAt (Elt F) arg4.view (rectK g).toLoadRect (harg4.unread x3)
  vp g := View.readAt (Elt F) arg5.view (rectK g).toLoadRect (harg5.unread x4)
  sk h := View.readAt (Elt F) arg6.view (rectS h).toLoadRect (harg6.unread x5) (Shape.Idx.first (show 0 < S1.numel by decide))
  g j := View.readAt (Elt F) arg7.view (rectG j).toLoadRect (harg7.unread x6)

theorem loaded_eq : loaded arg1 harg1 arg2 harg2 arg3 harg3 arg4 harg4 arg5 harg5 arg6 harg6 arg7 harg7 x0 x1 x2 x3 x4 x5 x6
    = tiles x0 x1 x2 x3 x4 x5 x6 := by
  refine Tiles.ext (funext fun h => funext fun x => ?_) (funext fun h => funext fun x => ?_) (funext fun h => funext fun x => ?_)
    (funext fun h => funext fun x => ?_) (funext fun h => funext fun x => ?_) (funext fun h => ?_) (funext fun h => funext fun x => ?_)
  · exact harg1.readAt_unread x0 (rectQ h).toLoadRect x
  · exact harg2.readAt_unread x1 (rectK h).toLoadRect x
  · exact harg3.readAt_unread x2 (rectK h).toLoadRect x
  · exact harg4.readAt_unread x3 (rectK h).toLoadRect x
  · exact harg5.readAt_unread x4 (rectK h).toLoadRect x
  · exact harg6.readAt_unread x5 (rectS h).toLoadRect _
  · exact harg7.readAt_unread x6 (rectG h).toLoadRect x

theorem pieces_dq_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1
      = (List.ofFn fun h : Fin 16 => (⟨rectQ h, ((loaded arg1 harg1 arg2 harg2 arg3 harg3 arg4 harg4 arg5 harg5 arg6 harg6 arg7 harg7 x0 x1 x2 x3 x4 x5 x6).dq (k0_pay2 i) h)⟩ : View.Piece (Elt F) S128x2048 .f32)).reverse := by sl_kernel_rfl

theorem pieces_dkc_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1
      = (List.ofFn fun h : Fin 4 => (⟨rectK h, (lower ((loaded arg1 harg1 arg2 harg2 arg3 harg3 arg4 harg4 arg5 harg5 arg6 harg6 arg7 harg7 x0 x1 x2 x3 x4 x5 x6).dk (k0_pay2 i) h))⟩ : View.Piece (Elt F) S128x512 .f32)).reverse := by sl_kernel_rfl

theorem pieces_dkp_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1
      = (List.ofFn fun h : Fin 4 => (⟨rectK h, (upper ((loaded arg1 harg1 arg2 harg2 arg3 harg3 arg4 harg4 arg5 harg5 arg6 harg6 arg7 harg7 x0 x1 x2 x3 x4 x5 x6).dk (k0_pay2 i) h))⟩ : View.Piece (Elt F) S128x512 .f32)).reverse := by sl_kernel_rfl

theorem pieces_dvc_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1
      = (List.ofFn fun h : Fin 4 => (⟨rectK h, (lower ((loaded arg1 harg1 arg2 harg2 arg3 harg3 arg4 harg4 arg5 harg5 arg6 harg6 arg7 harg7 x0 x1 x2 x3 x4 x5 x6).dv (k0_pay2 i) h))⟩ : View.Piece (Elt F) S128x512 .f32)).reverse := by sl_kernel_rfl

theorem pieces_dvp_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1
      = (List.ofFn fun h : Fin 4 => (⟨rectK h, (upper ((loaded arg1 harg1 arg2 harg2 arg3 harg3 arg4 harg4 arg5 harg5 arg6 harg6 arg7 harg7 x0 x1 x2 x3 x4 x5 x6).dv (k0_pay2 i) h))⟩ : View.Piece (Elt F) S128x512 .f32)).reverse := by sl_kernel_rfl

theorem pieces_dsink_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.2.1
      = [(⟨Rect.unit ![0, 0] ![1, 128] inb_S1x128_S1x128_0_0, (loaded arg1 harg1 arg2 harg2 arg3 harg3 arg4 harg4 arg5 harg5 arg6 harg6 arg7 harg7 x0 x1 x2 x3 x4 x5 x6).dsink (k0_pay2 i) 16⟩ : View.Piece (Elt F) S1x128 .f32)] := by sl_kernel_rfl

theorem pieces_dq_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).1
      = (List.ofFn fun h : Fin 16 => (⟨rectQ h, ((loaded arg1 harg1 arg2 harg2 arg3 harg3 arg4 harg4 arg5 harg5 arg6 harg6 arg7 harg7 x0 x1 x2 x3 x4 x5 x6).dq (k0_pay2 i) h)⟩ : View.Piece (Elt F) S128x2048 .f32)).reverse := by sl_kernel_rfl

theorem pieces_dkc_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).2.1
      = (List.ofFn fun h : Fin 4 => (⟨rectK h, (lower ((loaded arg1 harg1 arg2 harg2 arg3 harg3 arg4 harg4 arg5 harg5 arg6 harg6 arg7 harg7 x0 x1 x2 x3 x4 x5 x6).dk (k0_pay2 i) h))⟩ : View.Piece (Elt F) S128x512 .f32)).reverse := by sl_kernel_rfl

theorem pieces_dkp_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).2.2.1
      = (List.ofFn fun h : Fin 4 => (⟨rectK h, (upper ((loaded arg1 harg1 arg2 harg2 arg3 harg3 arg4 harg4 arg5 harg5 arg6 harg6 arg7 harg7 x0 x1 x2 x3 x4 x5 x6).dk (k0_pay2 i) h))⟩ : View.Piece (Elt F) S128x512 .f32)).reverse := by sl_kernel_rfl

theorem pieces_dvc_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).2.2.2.1
      = (List.ofFn fun h : Fin 4 => (⟨rectK h, (lower ((loaded arg1 harg1 arg2 harg2 arg3 harg3 arg4 harg4 arg5 harg5 arg6 harg6 arg7 harg7 x0 x1 x2 x3 x4 x5 x6).dv (k0_pay2 i) h))⟩ : View.Piece (Elt F) S128x512 .f32)).reverse := by sl_kernel_rfl

theorem pieces_dvp_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).2.2.2.2.1
      = (List.ofFn fun h : Fin 4 => (⟨rectK h, (upper ((loaded arg1 harg1 arg2 harg2 arg3 harg3 arg4 harg4 arg5 harg5 arg6 harg6 arg7 harg7 x0 x1 x2 x3 x4 x5 x6).dv (k0_pay2 i) h))⟩ : View.Piece (Elt F) S128x512 .f32)).reverse := by sl_kernel_rfl

theorem pieces_dsink_B (hc0 : ¬cond0_0 i) (hc1 : cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo).2.2.2.2.2.1
      = [(⟨Rect.unit ![0, 0] ![1, 128] inb_S1x128_S1x128_0_0, k0_pay1 ((loaded arg1 harg1 arg2 harg2 arg3 harg3 arg4 harg4 arg5 harg5 arg6 harg6 arg7 harg7 x0 x1 x2 x3 x4 x5 x6).dsink (k0_pay2 i) 16) (View.readAt (Elt F) arg13.view (Rect.unit (s := S1x128) ![0, 0] ![1, 128] inb_S1x128_S1x128_0_0).toLoadRect (harg13.unread xo))⟩ : View.Piece (Elt F) S1x128 .f32)] := by sl_kernel_rfl

end Run

end Cert.Attn

end
-- ==== Proof.Blocks.lean ====
/- What the body leaves in each result's block: the heads' (or the groups') tiles side by side, as functions of the
   blocks it was given. -/
module

public import proofs.«01_k».proof.Proof.Pieces
public import Idealize.ShloMosaic.Lib.ValueIdxCoords

@[expose] public section

set_option maxRecDepth 16384

noncomputable section

namespace Cert.Attn

open Cert.KernelIdeal Cert.KernelIdeal.Gen Idealize.ShloMosaic Idealize.ShloMosaic.TcCoe Idealize.ShloMosaic.ValueIdx Idealize.SL.Sem

variable {F : FTy → Type} [FloatOps F] [Named F]

/-- Sixteen heads' tiles side by side. -/
def sideQ (f : Fin 16 → FVec F S128x128 .f32) : Vec F S128x2048 .f32 := fun y =>
  f ⟨(y 1).val / 128, by have : (y 1).val < 2048 := (y 1).isLt; omega⟩
    (ix2 (⟨(y 0).val, (y 0).isLt⟩ : Fin 128) (⟨(y 1).val % 128, by omega⟩ : Fin 128))

/-- Four groups' tiles side by side. -/
def sideK (f : Fin 4 → FVec F S128x128 .f32) : Vec F S128x512 .f32 := fun y =>
  f ⟨(y 1).val / 128, by have : (y 1).val < 512 := (y 1).isLt; omega⟩
    (ix2 (⟨(y 0).val, (y 0).isLt⟩ : Fin 128) (⟨(y 1).val % 128, by omega⟩ : Fin 128))

theorem sideQ_emb (f : Fin 16 → FVec F S128x128 .f32) (h : Fin 16) (x : S128x128.Idx) : f h x = sideQ f ((rectQ h).emb x) := by
  have h0 : (((rectQ h).emb x) 0).val = (x 0).val := by
    show 0 + 1 * (x 0).val = _; omega
  have h1 : (((rectQ h).emb x) 1).val = 128 * h.val + (x 1).val := by
    show 128 * h.val + 1 * (x 1).val = _; omega
  have hx : (x 1).val < 128 := (x 1).isLt
  unfold sideQ
  have e1 : (⟨(((rectQ h).emb x) 1).val / 128, by have : (((rectQ h).emb x) 1).val < 2048 := (((rectQ h).emb x) 1).isLt; omega⟩ : Fin 16) = h :=
    Fin.ext (by show (((rectQ h).emb x) 1).val / 128 = h.val; rw [h1]; omega)
  rw [e1]
  refine congrArg (f h) (funext fun a => Fin.ext ?_)
  match a with
  | ⟨0, _⟩ => exact h0.symm
  | ⟨1, _⟩ => show (x 1).val = (((rectQ h).emb x) 1).val % 128; rw [h1]; omega

theorem sideK_emb (f : Fin 4 → FVec F S128x128 .f32) (h : Fin 4) (x : S128x128.Idx) : f h x = sideK f ((rectK h).emb x) := by
  have h0 : (((rectK h).emb x) 0).val = (x 0).val := by
    show 0 + 1 * (x 0).val = _; omega
  have h1 : (((rectK h).emb x) 1).val = 128 * h.val + (x 1).val := by
    show 128 * h.val + 1 * (x 1).val = _; omega
  have hx : (x 1).val < 128 := (x 1).isLt
  unfold sideK
  have e1 : (⟨(((rectK h).emb x) 1).val / 128, by have : (((rectK h).emb x) 1).val < 512 := (((rectK h).emb x) 1).isLt; omega⟩ : Fin 4) = h :=
    Fin.ext (by show (((rectK h).emb x) 1).val / 128 = h.val; rw [h1]; omega)
  rw [e1]
  refine congrArg (f h) (funext fun a => Fin.ext ?_)
  match a with
  | ⟨0, _⟩ => exact h0.symm
  | ⟨1, _⟩ => show (x 1).val = (((rectK h).emb x) 1).val % 128; rw [h1]; omega

/-- Stores of the heads' tiles that cover the block leave them side by side. -/
theorem canon_sideQ [∀ e, Nonempty (Elt F e)] (f : Fin 16 → FVec F S128x128 .f32) (L : List (View.Piece (Elt F) S128x2048 .f32))
    (hL : L = (List.ofFn fun h : Fin 16 => (⟨rectQ h, f h⟩ : View.Piece (Elt F) S128x2048 .f32)).reverse)
    (hc : ∀ y, ∃ p ∈ L, y ∈ p.1.set) : View.canon L = sideQ f := by
  funext y
  refine View.canon_apply_of_pieces (sideQ f) L (fun p hp x => ?_) y (hc y)
  rw [hL, List.mem_reverse, List.mem_ofFn] at hp
  obtain ⟨h, rfl⟩ := hp
  exact sideQ_emb f h x

/-- Stores of the groups' tiles that cover the block leave them side by side. -/
theorem canon_sideK [∀ e, Nonempty (Elt F e)] (f : Fin 4 → FVec F S128x128 .f32) (L : List (View.Piece (Elt F) S128x512 .f32))
    (hL : L = (List.ofFn fun h : Fin 4 => (⟨rectK h, f h⟩ : View.Piece (Elt F) S128x512 .f32)).reverse)
    (hc : ∀ y, ∃ p ∈ L, y ∈ p.1.set) : View.canon L = sideK f := by
  funext y
  refine View.canon_apply_of_pieces (sideK f) L (fun p hp x => ?_) y (hc y)
  rw [hL, List.mem_reverse, List.mem_ofFn] at hp
  obtain ⟨h, rfl⟩ := hp
  exact sideK_emb f h x

theorem zero_offsets : (![0, 0] : Fin 2 → ℕ) = fun _ => 0 := by
  funext a; fin_cases a <;> rfl

section Run

variable (c : Dev nD) (i : grid0.Coords)
  (arg1 : Memref sig .tc .vmem S128x2048 .bf16) (harg1 : arg1.IsWhole)
  (arg2 : Memref sig .tc .vmem S128x512 .bf16) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .smem S16 .f32) (harg6 : arg6.IsWhole)
  (arg7 : Memref sig .tc .vmem S128x1024 .f32) (harg7 : arg7.IsWhole)
  (arg8 : Memref sig .tc .vmem S128x2048 .f32) (harg8 : arg8.IsWhole)
  (arg9 : Memref sig .tc .vmem S128x512 .f32) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S128x512 .f32) (harg12 : arg12.IsWhole)
  (arg13 : Memref sig .tc .vmem S1x128 .f32) (harg13 : arg13.IsWhole)
  (x0 : Vec F S128x2048 .bf16) (x1 x2 x3 x4 : Vec F S128x512 .bf16) (x5 : Vec F S16 .f32) (x6 : Vec F S128x1024 .f32) (xo : Vec F S1x128 .f32)

theorem out_dq_A (hc0 : cond0_0 i) (hc1 : ¬cond0_1 i) :
    out0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = sideQ ((tiles x0 x1 x2 x3 x4 x5 x6).dq (k0_pay2 i)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  refine canon_sideQ _ _ ?_ (cover0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
  rw [pieces_dq_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]

theorem out_dkc_A (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = sideK (fun g => lower ((tiles x0 x1 x2 x3 x4 x5 x6).dk (k0_pay2 i) g)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  refine canon_sideK _ _ ?_ (cover0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
  rw [pieces_dkc_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]

theorem out_dkp_A (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = sideK (fun g => upper ((tiles x0 x1 x2 x3 x4 x5 x6).dk (k0_pay2 i) g)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  refine canon_sideK _ _ ?_ (cover0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
  rw [pieces_dkp_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]

theorem out_dvc_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = sideK (fun g => lower ((tiles x0 x1 x2 x3 x4 x5 x6).dv (k0_pay2 i) g)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  refine canon_sideK _ _ ?_ (cover0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
  rw [pieces_dvc_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]

theorem out_dvp_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = sideK (fun g => upper ((tiles x0 x1 x2 x3 x4 x5 x6).dv (k0_pay2 i) g)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  refine canon_sideK _ _ ?_ (cover0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
  rw [pieces_dvp_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]

theorem out_dsink_A (hc0 : cond0_0 i) (hc1 : ¬cond0_1 i) :
    out0_A_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = (tiles x0 x1 x2 x3 x4 x5 x6).dsink (k0_pay2 i) 16 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6), pieces_dsink_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 hc0 hc1, loaded_eq]
  exact View.canon_unit_zero (S := S1x128) zero_offsets inb_S1x128_S1x128_0_0 _

theorem out_dq_B (hc0 : ¬cond0_0 i) (hc1 : cond0_1 i) :
    out0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = sideQ ((tiles x0 x1 x2 x3 x4 x5 x6).dq (k0_pay2 i)) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)]
  refine canon_sideQ _ _ ?_ (cover0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)
  rw [pieces_dq_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]

theorem out_dkc_B (hc0 : ¬cond0_0 i) (hc1 : cond0_1 i) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = sideK (fun g => lower ((tiles x0 x1 x2 x3 x4 x5 x6).dk (k0_pay2 i) g)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)]
  refine canon_sideK _ _ ?_ (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)
  rw [pieces_dkc_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]

theorem out_dkp_B (hc0 : ¬cond0_0 i) (hc1 : cond0_1 i) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = sideK (fun g => upper ((tiles x0 x1 x2 x3 x4 x5 x6).dk (k0_pay2 i) g)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)]
  refine canon_sideK _ _ ?_ (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)
  rw [pieces_dkp_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]

theorem out_dvc_B (hc0 : ¬cond0_0 i) (hc1 : cond0_1 i) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = sideK (fun g => lower ((tiles x0 x1 x2 x3 x4 x5 x6).dv (k0_pay2 i) g)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)]
  refine canon_sideK _ _ ?_ (cover0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)
  rw [pieces_dvc_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]

theorem out_dvp_B (hc0 : ¬cond0_0 i) (hc1 : cond0_1 i) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = sideK (fun g => upper ((tiles x0 x1 x2 x3 x4 x5 x6).dv (k0_pay2 i) g)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)]
  refine canon_sideK _ _ ?_ (cover0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo)
  rw [pieces_dvp_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]

theorem out_dsink_B (hc0 : ¬cond0_0 i) (hc1 : cond0_1 i) :
    out0_B_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo = k0_pay1 ((tiles x0 x1 x2 x3 x4 x5 x6).dsink (k0_pay2 i) 16) xo := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo), pieces_dsink_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xo hc0 hc1, loaded_eq]
  refine (View.canon_unit_zero (S := S1x128) zero_offsets inb_S1x128_S1x128_0_0 _).trans ?_
  refine congrArg (k0_pay1 _) ?_
  refine (funext fun x => harg13.readAt_unread xo _ x : View.readAt (Elt F) arg13.view _ (harg13.unread xo) = View.ld xo _).trans ?_
  exact View.ld_unit_zero zero_offsets inb_S1x128_S1x128_0_0 xo

end Run

end Cert.Attn

end
-- ==== Proof.Arrays.lean ====
/- What the kernel's run leaves in its six result arrays, block by block, as functions of the blocks of its operands. -/
module

public import proofs.«01_k».proof.Proof.Blocks
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable {F : FTy → Type} [FloatOps F] [Named F]
variable (m : (ℓ : Loc nD τ sig) → Buf (Elt F) ℓ) (c : Dev nD)

/-- The tiles of a point's blocks. -/
def tilesAt (t : Fin cfg0.N) : Tiles F :=
  tiles (iblk m c 0 t) (iblk m c 1 t) (iblk m c 2 t) (iblk m c 3 t) (iblk m c 4 t) (iblk m c 5 t) (iblk m c 6 t)

/-- A point's mask. -/
def maskAt (t : Fin cfg0.N) : IVec S128x256 1 := k0_pay2 (grid0.coords t)

theorem point_count : cfg0.N = 32 := N_0

theorem outs_dq (t : Fin cfg0.N) : (outsAt0 m c t.val t.isLt).1 = sideQ ((tilesAt m c t).dq (maskAt t)) := by
  by_cases h : 1 ≤ t.val
  · have h0 : ¬t.val % 32 = 0 := by have := t.isLt; have := point_count; omega
    rw [outsAt0_B m c t h0 h]; dsimp only; exact out_dq_B ..
  · have h0 : t.val % 32 = 0 := by omega
    rw [outsAt0_A m c t h0 h]; dsimp only; exact out_dq_A ..

theorem outs_dkc (t : Fin cfg0.N) :
    (outsAt0 m c t.val t.isLt).2.1 = sideK (fun g => lower ((tilesAt m c t).dk (maskAt t) g)) := by
  by_cases h : 1 ≤ t.val
  · have h0 : ¬t.val % 32 = 0 := by have := t.isLt; have := point_count; omega
    rw [outsAt0_B m c t h0 h]; dsimp only; exact out_dkc_B ..
  · have h0 : t.val % 32 = 0 := by omega
    rw [outsAt0_A m c t h0 h]; dsimp only; exact out_dkc_A ..

theorem outs_dkp (t : Fin cfg0.N) :
    (outsAt0 m c t.val t.isLt).2.2.1 = sideK (fun g => upper ((tilesAt m c t).dk (maskAt t) g)) := by
  by_cases h : 1 ≤ t.val
  · have h0 : ¬t.val % 32 = 0 := by have := t.isLt; have := point_count; omega
    rw [outsAt0_B m c t h0 h]; dsimp only; exact out_dkp_B ..
  · have h0 : t.val % 32 = 0 := by omega
    rw [outsAt0_A m c t h0 h]; dsimp only; exact out_dkp_A ..

theorem outs_dvc (t : Fin cfg0.N) :
    (outsAt0 m c t.val t.isLt).2.2.2.1 = sideK (fun g => lower ((tilesAt m c t).dv (maskAt t) g)) := by
  by_cases h : 1 ≤ t.val
  · have h0 : ¬t.val % 32 = 0 := by have := t.isLt; have := point_count; omega
    rw [outsAt0_B m c t h0 h]; dsimp only; exact out_dvc_B ..
  · have h0 : t.val % 32 = 0 := by omega
    rw [outsAt0_A m c t h0 h]; dsimp only; exact out_dvc_A ..

theorem outs_dvp (t : Fin cfg0.N) :
    (outsAt0 m c t.val t.isLt).2.2.2.2.1 = sideK (fun g => upper ((tilesAt m c t).dv (maskAt t) g)) := by
  by_cases h : 1 ≤ t.val
  · have h0 : ¬t.val % 32 = 0 := by have := t.isLt; have := point_count; omega
    rw [outsAt0_B m c t h0 h]; dsimp only; exact out_dvp_B ..
  · have h0 : t.val % 32 = 0 := by omega
    rw [outsAt0_A m c t h0 h]; dsimp only; exact out_dvp_A ..

/-- The sinks' gradient after the points up to `n`. -/
def sinkAcc : (n : ℕ) → n < cfg0.N → FVec F S1x128 .f32
  | 0, h => (tilesAt m c ⟨0, h⟩).dsink (maskAt ⟨0, h⟩) 16
  | n + 1, h => k0_pay1 ((tilesAt m c ⟨n + 1, h⟩).dsink (maskAt ⟨n + 1, h⟩) 16) (sinkAcc n (by omega))

theorem outs_dsink : ∀ (n : ℕ) (h : n < cfg0.N), (outsAt0 m c n h).2.2.2.2.2 = sinkAcc m c n h
  | 0, h => by
    refine (congrArg (fun x => x.2.2.2.2.2) (outsAt0_A m c ⟨0, h⟩ rfl (Nat.not_succ_le_zero 0))).trans ?_
    dsimp only
    exact out_dsink_A ..
  | n + 1, h => by
    have h0 : ¬(n + 1) % 32 = 0 := by have := point_count; omega
    have h1 : 1 ≤ n + 1 := by omega
    refine (congrArg (fun x => x.2.2.2.2.2) (outsAt0_B m c ⟨n + 1, h⟩ h0 h1)).trans ?_
    dsimp only
    refine (out_dsink_B ..).trans ?_
    exact congrArg (k0_pay1 _) (outs_dsink n (by omega))

/-! ## The arrays -/

/-- The point whose block holds a row. -/
def pointOf (r : Fin 4096) : Fin cfg0.N := ⟨r.val / 128, by rw [point_count]; omega⟩

/-- An array of sixteen heads' columns from its blocks. -/
def arrayQ (f : Fin cfg0.N → Fin 16 → FVec F S128x128 .f32) : S4096x2048.Idx → Elt F .f32 := fun y =>
  sideQ (f (pointOf ⟨(y 0).val, (y 0).isLt⟩))
    (ValueIdx.ix2 (⟨(y 0).val % 128, by omega⟩ : Fin 128) (⟨(y 1).val, (y 1).isLt⟩ : Fin 2048))

/-- An array of four groups' columns from its blocks. -/
def arrayK (f : Fin cfg0.N → Fin 4 → FVec F S128x128 .f32) : S4096x512.Idx → Elt F .f32 := fun y =>
  sideK (f (pointOf ⟨(y 0).val, (y 0).isLt⟩))
    (ValueIdx.ix2 (⟨(y 0).val % 128, by omega⟩ : Fin 128) (⟨(y 1).val, (y 1).isLt⟩ : Fin 512))

theorem sideQ_array (f : Fin cfg0.N → Fin 16 → FVec F S128x128 .f32) (t : Fin cfg0.N) (y : S128x2048.Idx) (i : S4096x2048.Idx)
    (h0 : (i 0).val = t.val * 128 + (y 0).val) (h1 : (i 1).val = (y 1).val) : sideQ (f t) y = arrayQ f i := by
  have hy : (y 0).val < 128 := (y 0).isLt
  unfold arrayQ
  have e : pointOf ⟨(i 0).val, (i 0).isLt⟩ = t := Fin.ext (by show (i 0).val / 128 = t.val; rw [h0]; omega)
  rw [e]
  refine congrArg (sideQ (f t)) (funext fun a => Fin.ext ?_)
  match a with
  | ⟨0, _⟩ => show (y 0).val = (i 0).val % 128; rw [h0]; omega
  | ⟨1, _⟩ => exact h1.symm

theorem sideK_array (f : Fin cfg0.N → Fin 4 → FVec F S128x128 .f32) (t : Fin cfg0.N) (y : S128x512.Idx) (i : S4096x512.Idx)
    (h0 : (i 0).val = t.val * 128 + (y 0).val) (h1 : (i 1).val = (y 1).val) : sideK (f t) y = arrayK f i := by
  have hy : (y 0).val < 128 := (y 0).isLt
  unfold arrayK
  have e : pointOf ⟨(i 0).val, (i 0).isLt⟩ = t := Fin.ext (by show (i 0).val / 128 = t.val; rw [h0]; omega)
  rw [e]
  refine congrArg (sideK (f t)) (funext fun a => Fin.ext ?_)
  match a with
  | ⟨0, _⟩ => show (y 0).val = (i 0).val % 128; rw [h0]; omega
  | ⟨1, _⟩ => exact h1.symm

theorem places : ∀ t : Fin cfg0.N, win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, win0_7.index t = ![t.val, 0] ∧ win0_8.index t = ![t.val, 0]
    ∧ win0_9.index t = ![t.val, 0] ∧ win0_10.index t = ![t.val, 0] ∧ win0_11.index t = ![t.val, 0])

theorem final_dq : (dats m 0 c).arrAt 7 cfg0.N = arrayQ (fun t => (tilesAt m c t).dq (maskAt t)) := by
  refine (dats m 0 c).arrAt_eq_of_covers 7 _ (by decide +kernel) fun t _ y => ?_
  rw [after0_7, outs_dq]
  refine sideQ_array (fun t => (tilesAt m c t).dq (maskAt t)) t _ _ ?_ ?_
  all_goals blk_simp [places t]

theorem final_dkc : (dats m 0 c).arrAt 8 cfg0.N = arrayK (fun t g => lower ((tilesAt m c t).dk (maskAt t) g)) := by
  refine (dats m 0 c).arrAt_eq_of_covers 8 _ (by decide +kernel) fun t _ y => ?_
  rw [after0_8, outs_dkc]
  refine sideK_array (fun t g => lower ((tilesAt m c t).dk (maskAt t) g)) t _ _ ?_ ?_
  all_goals blk_simp [places t]

theorem final_dkp : (dats m 0 c).arrAt 9 cfg0.N = arrayK (fun t g => upper ((tilesAt m c t).dk (maskAt t) g)) := by
  refine (dats m 0 c).arrAt_eq_of_covers 9 _ (by decide +kernel) fun t _ y => ?_
  rw [after0_9, outs_dkp]
  refine sideK_array (fun t g => upper ((tilesAt m c t).dk (maskAt t) g)) t _ _ ?_ ?_
  all_goals blk_simp [places t]

theorem final_dvc : (dats m 0 c).arrAt 10 cfg0.N = arrayK (fun t g => lower ((tilesAt m c t).dv (maskAt t) g)) := by
  refine (dats m 0 c).arrAt_eq_of_covers 10 _ (by decide +kernel) fun t _ y => ?_
  rw [after0_10, outs_dvc]
  refine sideK_array (fun t g => lower ((tilesAt m c t).dv (maskAt t) g)) t _ _ ?_ ?_
  all_goals blk_simp [places t]

theorem final_dvp : (dats m 0 c).arrAt 11 cfg0.N = arrayK (fun t g => upper ((tilesAt m c t).dv (maskAt t) g)) := by
  refine (dats m 0 c).arrAt_eq_of_covers 11 _ (by decide +kernel) fun t _ y => ?_
  rw [after0_11, outs_dvp]
  refine sideK_array (fun t g => upper ((tilesAt m c t).dv (maskAt t) g)) t _ _ ?_ ?_
  all_goals blk_simp [places t]

theorem final_dsink : (dats m 0 c).arrAt 12 cfg0.N = sinkAcc m c 31 (by rw [point_count]; omega) := by
  refine (dats m 0 c).arrAt_eq_of_after_last 12 ⟨31, by rw [point_count]; omega⟩ (by decide +kernel) _ fun j => ?_
  rw [after0_12, outs_dsink]
  blk_simp
  rfl

end Cert.Attn

end
-- ==== Proof.Spec.lean ====
/- One row of the attention over the reals: its softmax with a sink, and what the derivative makes of it. -/
module

public import Idealize.ShloMosaic.PureOps.Ideal
public import Idealize.ShloMosaic.PureOps.Ideal.Laws

@[expose] public section

noncomputable section

namespace Cert.Attn

open Idealize.ShloMosaic
open scoped BigOperators

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row: which keys it sees, its scores, its sink, and the gradient of its probabilities. -/
structure Row where
  ok : Fin 256 → Bool
  S : Fin 256 → ℝ
  σ : ℝ
  dp : Fin 256 → ℝ

namespace Row

variable (R : Row)

/-- The masked scores. -/
def sc (j : Fin 256) : EReal := if R.ok j then (R.S j : EReal) else ⊥

/-- The row's maximum, the sink among its scores. -/
def top : EReal := max (Finset.univ.sup R.sc) (R.σ : EReal)

/-- The same as a real number. -/
def M : ℝ := R.top.toReal

theorem sc_lt (j : Fin 256) : R.sc j < ⊤ := by
  unfold sc; split
  · exact EReal.coe_lt_top _
  · exact bot_lt_top

theorem sup_lt : Finset.univ.sup R.sc < ⊤ := (Finset.sup_lt_iff bot_lt_top).2 fun j _ => R.sc_lt j

theorem top_eq : R.top = (R.M : EReal) := by
  refine (EReal.coe_toReal ?_ ?_).symm
  · exact (max_lt R.sup_lt (EReal.coe_lt_top _)).ne
  · exact ne_of_gt (lt_of_lt_of_le (EReal.bot_lt_coe R.σ) (le_max_right _ _))

/-- The exponentials. -/
def E (j : Fin 256) : ℝ := if R.ok j then Real.exp (R.S j - R.M) else 0
/-- The sink's exponential. -/
def ES : ℝ := Real.exp (R.σ - R.M)
/-- The denominator. -/
def D : ℝ := ∑ j, R.E j + R.ES
/-- The probabilities. -/
def P (j : Fin 256) : ℝ := R.E j / R.D
/-- The sink's probability. -/
def PS : ℝ := R.ES / R.D
/-- The probabilities' mean of the gradient. -/
def Δ : ℝ := ∑ j, R.P j * R.dp j
/-- The gradient of the scaled scores. -/
def G (j : Fin 256) : ℝ := R.P j * (R.dp j - R.Δ)
/-- The gradient of the products. -/
def DS (j : Fin 256) : ℝ := R.G j * (1 / 8)

theorem E_nonneg (j : Fin 256) : 0 ≤ R.E j := by
  unfold E; split
  · exact (Real.exp_pos _).le
  · exact le_rfl

theorem D_pos : 0 < R.D := add_pos_of_nonneg_of_pos (Finset.sum_nonneg fun j _ => R.E_nonneg j) (Real.exp_pos _)

theorem D_ne : R.D ≠ 0 := R.D_pos.ne'

theorem exp_sc (j : Fin 256) : Ideal.exp (R.sc j - (R.M : EReal)) = (R.E j : EReal) := by
  unfold sc E; split
  · rw [← EReal.coe_sub, Ideal.exp_coe]
  · rw [EReal.bot_sub, Ideal.exp_bot, EReal.coe_zero]

theorem exp_sink : Ideal.exp ((R.σ : EReal) - (R.M : EReal)) = (R.ES : EReal) := by
  rw [← EReal.coe_sub, Ideal.exp_coe]; rfl

/-- The quotient of two reals, the divisor not zero. -/
theorem div_real (x y : ℝ) (h : y ≠ 0) : Ideal.div (x : EReal) (y : EReal) = ((x / y : ℝ) : EReal) := by
  rw [Ideal.div_coe h, ← EReal.coe_mul, mul_one_div]

/-- Where the row does not look, nothing is left. -/
theorem E_masked {j : Fin 256} (h : R.ok j = false) : R.E j = 0 := by unfold E; rw [h]; rfl
theorem P_masked {j : Fin 256} (h : R.ok j = false) : R.P j = 0 := by unfold P; rw [R.E_masked h, zero_div]
theorem G_masked {j : Fin 256} (h : R.ok j = false) : R.G j = 0 := by unfold G; rw [R.P_masked h, zero_mul]
theorem DS_masked {j : Fin 256} (h : R.ok j = false) : R.DS j = 0 := by unfold DS; rw [R.G_masked h, zero_mul]

/-- Two rows that agree wherever they look. -/
structure Same (R T : Row) : Prop where
  ok : ∀ j, R.ok j = T.ok j
  S : ∀ j, R.ok j = true → R.S j = T.S j
  σ : R.σ = T.σ
  dp : ∀ j, R.ok j = true → R.dp j = T.dp j

namespace Same

variable {R} {T : Row} (h : Same R T)
include h

theorem sc (j : Fin 256) : R.sc j = T.sc j := by
  unfold Row.sc; rw [← h.ok j]; split
  · next hj => rw [h.S j hj]
  · rfl
theorem M : R.M = T.M := by
  unfold Row.M Row.top; rw [funext h.sc, h.σ]
theorem E (j : Fin 256) : R.E j = T.E j := by
  unfold Row.E; rw [← h.ok j, h.M]; split
  · next hj => rw [h.S j hj]
  · rfl
theorem ES : R.ES = T.ES := by unfold Row.ES; rw [h.M, h.σ]
theorem D : R.D = T.D := by unfold Row.D; rw [h.ES, funext h.E]
theorem P (j : Fin 256) : R.P j = T.P j := by unfold Row.P; rw [h.E, h.D]
theorem PS : R.PS = T.PS := by unfold Row.PS; rw [h.ES, h.D]
theorem Δ : R.Δ = T.Δ := by
  unfold Row.Δ
  refine Finset.sum_congr rfl fun j _ => ?_
  cases hj : R.ok j
  · rw [R.P_masked hj, T.P_masked (h.ok j ▸ hj), zero_mul, zero_mul]
  · rw [h.P, h.dp j hj]
theorem DS (j : Fin 256) : R.DS j = T.DS j := by
  cases hj : R.ok j
  · rw [R.DS_masked hj, T.DS_masked (h.ok j ▸ hj)]
  · unfold Row.DS Row.G; rw [h.P, h.dp j hj, h.Δ]

end Same

/-! ## The derivative as the chain rule writes it -/

/-- The gradient that reaches the denominator. -/
def U : ℝ := -∑ j, R.dp j * (1 / (R.D * R.D)) * R.E j

theorem U_eq : R.U = -(R.Δ / R.D) := by
  have hD := R.D_ne
  unfold U Δ P
  rw [Finset.sum_div]
  refine congrArg Neg.neg (Finset.sum_congr rfl fun j _ => ?_)
  field_simp

/-- The gradient of a score by the two ways that its exponential is used. -/
theorem chain (j : Fin 256) : (R.dp j / R.D + R.U) * R.E j = R.G j := by
  have hD := R.D_ne
  rw [R.U_eq]; unfold G P
  field_simp
  ring

/-- The gradient of the sink's exponential. -/
theorem chain_sink : R.U * R.ES = -(R.PS * R.Δ) := by
  have hD := R.D_ne
  rw [R.U_eq]; unfold PS
  field_simp

/-- The gradient that reaches the maximum vanishes. -/
theorem chain_top : -(R.U * R.ES) + ∑ j, -((R.dp j / R.D + R.U) * R.E j) = 0 := by
  have hD := R.D_ne
  have h1 : ∑ j, -((R.dp j / R.D + R.U) * R.E j) = -(R.Δ + R.U * (R.D - R.ES)) := by
    rw [Finset.sum_neg_distrib]
    refine congrArg Neg.neg ?_
    rw [show R.D - R.ES = ∑ j, R.E j by unfold D; ring]
    unfold Δ P
    rw [Finset.mul_sum, ← Finset.sum_add_distrib]
    refine Finset.sum_congr rfl fun j _ => ?_
    ring
  rw [h1, R.U_eq]
  field_simp
  ring

end Row

end Cert.Attn

end
-- ==== Proof.AtIndex.lean ====
/- The vocabulary of Forms over the reals, read at an index: a row of the scores is a `Row` of Spec. -/
module

public import proofs.«01_k».proof.Proof.Forms
public import proofs.«01_k».proof.Proof.Spec
public import Idealize.ShloMosaic.Lib.Pipeline.Value
public import Idealize.ShloMosaic.Lib.MatmulPlain
public import Idealize.ShloMosaic.Lib.ValueIdxCoords
public import Idealize.ShloMosaic.Lib.IdealHost
public import Idealize.ShloMosaic.Lib.KernelVsHost
public import Idealize.ShloMosaic.Lib.TwoAxisContraction

@[expose] public section

set_option maxRecDepth 16384

noncomputable section

namespace Cert.Attn

open Cert.KernelIdeal Cert.KernelIdeal.Gen Idealize.ShloMosaic Idealize.ShloMosaic.ValueIdx Idealize.SL.Sem
open scoped BigOperators

/-! ## Literals -/

theorem eighth : Ideal.ofBits .f32 0x3E000000#32 = (((1 : ℝ) / 8 : ℝ) : EReal) := by
  simp [Ideal.ofBits, Ideal.ieee, -EReal.coe_mul]; norm_num

theorem minusInf : Ideal.ofBits .f32 0xFF800000#32 = ⊥ := by simp [Ideal.ofBits, Ideal.ieee]

/-! ## Layout -/

theorem joined_prev (a b : Vec Ideal S128x128 .bf16) (j : Fin 256) (d : Fin 128) (h : j.val < 128) :
    joined (F := Ideal) a b (ix2 j d) = a (ix2 (⟨j.val, h⟩ : Fin 128) d) := by
  unfold joined
  refine (concatenate_pair_apply_left (t := S256x128) (s₁ := S128x128) (s₂ := S128x128) (0 : Fin 2) _ _ _ _ rfl
    (ix2 (⟨j.val, h⟩ : Fin 128) d) (by
      intro b
      match b with
      | ⟨0, _⟩ => rfl
      | ⟨1, _⟩ => rfl)).trans ?_
  rw [shapeCast_self]

theorem joined_cur (a b : Vec Ideal S128x128 .bf16) (j : Fin 256) (d : Fin 128) (h : 128 ≤ j.val) :
    joined (F := Ideal) a b (ix2 j d) = b (ix2 (⟨j.val - 128, by omega⟩ : Fin 128) d) := by
  unfold joined
  refine (concatenate_pair_apply_right (t := S256x128) (s₁ := S128x128) (s₂ := S128x128) (0 : Fin 2) _ _ _ _ rfl rfl
    (ix2 (⟨j.val - 128, by omega⟩ : Fin 128) d) (by
      intro b hb
      match b with
      | ⟨0, _⟩ => exact absurd rfl hb
      | ⟨1, _⟩ => rfl) (by show j.val - 128 + 128 = j.val; omega)).trans ?_
  rw [shapeCast_self]

theorem queries_eq (a : Vec Ideal S128x128 .bf16) : queries (F := Ideal) a = a := shapeCast_self _ _

theorem lane_mask (r d : Fin 128) : k0_pay3 (ix2 r d) = if d.val < 64 then 1#1 else 0#1 := by
  have key : ∀ d : Fin 128, IntOp.cmpi .slt (BitVec.ofNat 32 d.val) 64#32 = if d.val < 64 then 1#1 else 0#1 := by
    decide +kernel
  refine Eq.trans ?_ (key d)
  show IntOp.cmpi .slt (iota .tc S128x128 32 [1] iota_S128x128_d1_w32 (ix2 r d)) 64#32 = _
  rw [iota_single_apply]

theorem low_apply (x : FVec Ideal S128x128 .f32) (r d : Fin 128) :
    low x (ix2 r d) = if d.val < 64 then x (ix2 r d) else 0 := by
  show Scalar.select (k0_pay3 (ix2 r d)) (x (ix2 r d)) (Ideal.ofBits .f32 0x00000000#32) = _
  rw [lane_mask, Ideal.ofBits_zero_f32]
  by_cases h : d.val < 64
  · rw [if_pos h, if_pos h]; rfl
  · rw [if_neg h, if_neg h]; rfl

theorem evenHead_apply (a : Vec Ideal S128x128 .f32) (r d : Fin 128) :
    evenHead (F := Ideal) a (ix2 r d) = if d.val < 64 then a (ix2 r d) else 0 := by
  unfold evenHead
  rw [low_apply, shapeCast_self]

theorem oddHead_apply (a : Vec Ideal S128x128 .f32) (r d : Fin 128) :
    oddHead (F := Ideal) a (ix2 r d) = if h : d.val < 64 then a (ix2 r (⟨d.val + 64, by omega⟩ : Fin 128)) else 0 := by
  unfold oddHead
  rw [low_apply]
  by_cases h : d.val < 64
  · rw [if_pos h, dif_pos h, shapeCast_self]
    refine dynamicRotate_apply (1 : Fin 2) 64#32 a _ (ix2 r d) (ix2 r (⟨d.val + 64, by omega⟩ : Fin 128)) (by
      intro b
      match b with
      | ⟨0, _⟩ => rfl
      | ⟨1, _⟩ => rw [if_pos (by rfl)]; show d.val + 64 = (d.val + 128 - (64#32).toNat % 128) % 128; rw [show (64#32).toNat % 128 = 64 by decide]; omega)
  · rw [if_neg h, dif_neg h]

/-! ## Products -/

theorem product_nt (q : FVec Ideal S128x128 .bf16) (k : FVec Ideal S256x128 .bf16) (r : Fin 128) (j : Fin 256) :
    matmul dot_S128x128_S256x128_S128x256_1_1_0_0_n_n none q k (constant S128x256 .f32 0x00000000#32) (ix2 r j)
      = ∑ d : Fin 128, q (ix2 r d) * k (ix2 j d) := by
  refine (Ideal.matmul_transposedRhs_apply (M := 128) (K := 128) (N := 256) none q k _ r j).trans ?_
  show Ideal.ofBits .f32 0x00000000#32 + _ = _
  rw [Ideal.ofBits_zero_f32, zero_add]

theorem product_nn (s : FVec Ideal S128x256 .bf16) (k : FVec Ideal S256x128 .bf16) (r : Fin 128) (d : Fin 128) :
    queryGrad s k (ix2 r d) = ∑ j : Fin 256, s (ix2 r j) * k (ix2 j d) := by
  refine (Ideal.matmul_plain_apply (M := 128) (K := 256) (N := 128) none s k _ r d).trans ?_
  show Ideal.ofBits .f32 0x00000000#32 + _ = _
  rw [Ideal.ofBits_zero_f32, zero_add]

theorem product_tn (s : FVec Ideal S128x256 .bf16) (q : FVec Ideal S128x128 .bf16) (j : Fin 256) (d : Fin 128) :
    outer s q (ix2 j d) = ∑ r : Fin 128, s (ix2 r j) * q (ix2 r d) := by
  unfold outer
  refine (Ideal.matmul_constant_zero_apply dot_S128x256_S128x128_S256x128_0_0_1_1_n_n none s q (ix2 j d)).trans ?_
  rw [← Equiv.sum_comp (contrEquiv1 dot_S128x256_S128x128_S256x128_0_0_1_1_n_n 128 rfl rfl).symm]
  refine Finset.sum_congr rfl fun r _ => ?_
  have hk := contrEquiv1_symm_val dot_S128x256_S128x128_S256x128_0_0_1_1_n_n 128 rfl rfl r
  refine congrArg₂ (· * ·) (congrArg s ?_) (congrArg q ?_)
  · funext a; apply Fin.ext
    match a with
    | ⟨0, _⟩ => exact hk
    | ⟨1, _⟩ => rfl
  · funext a; apply Fin.ext
    match a with
    | ⟨0, _⟩ => exact hk
    | ⟨1, _⟩ => rfl

theorem four_apply (a b c d : FVec Ideal S256x128 .f32) (i : S256x128.Idx) :
    four a b c d i = a i + b i + c i + d i := by
  show Ideal.ofBits .f32 0x00000000#32 + a i + b i + c i + d i = _
  rw [Ideal.ofBits_zero_f32, zero_add]

theorem upper_apply (x : FVec Ideal S256x128 .f32) (r d : Fin 128) :
    upper x (ix2 r d) = x (ix2 (⟨r.val, by omega⟩ : Fin 256) d) :=
  extractStridedSlice_apply _ _ _ (ix2 r d) (ix2 (⟨r.val, by omega⟩ : Fin 256) d) (by
    intro b
    match b with
    | ⟨0, _⟩ => show r.val = 0 + r.val; omega
    | ⟨1, _⟩ => show d.val = 0 + d.val; omega)

theorem lower_apply (x : FVec Ideal S256x128 .f32) (r d : Fin 128) :
    lower x (ix2 r d) = x (ix2 (⟨128 + r.val, by omega⟩ : Fin 256) d) :=
  extractStridedSlice_apply _ _ _ (ix2 r d) (ix2 (⟨128 + r.val, by omega⟩ : Fin 256) d) (by
    intro b
    match b with
    | ⟨0, _⟩ => rfl
    | ⟨1, _⟩ => show d.val = 0 + d.val; omega)

/-! ## A row -/

theorem lift_row (h : S128x256.Reduces [1] S128) (r : Fin 128) (j : Fin 256) : h.lift (ix1 r) j = ix2 r j := by
  funext c; apply Fin.ext
  fin_cases c <;> rfl

theorem column (x : FVec Ideal S128 .f32) (r : Fin 128) : shapeCast S128x1 x shapeCasts_S128_S128x1 (ix2 r (0 : Fin 1)) = x (ix1 r) :=
  shapeCast_apply _ _ _ _ (by
    rw [Shape.rowMajor_val_two, Shape.rowMajor_val_one]; show r.val = r.val * 1 + 0; omega)

theorem spread (x : FVec Ideal S128x1 .f32) (r : Fin 128) (j : Fin 256) :
    broadcastTo S128x256 x broadcasts_S128x1_S128x256 (ix2 r j) = x (ix2 r (0 : Fin 1)) :=
  broadcastTo_apply _ _ _ _ (by
    intro b
    match b with
    | ⟨0, _⟩ => rfl
    | ⟨1, _⟩ => rfl)

theorem rowSum_apply (x : FVec Ideal S128x256 .f32) (r : Fin 128) :
    rowSum x (ix2 r (0 : Fin 1)) = ∑ j : Fin 256, x (ix2 r j) := by
  unfold rowSum
  rw [column]
  refine (Ideal.multiReduction_add_single _ _ _ _ _ _).trans ?_
  exact Finset.sum_congr rfl fun j _ => congrArg x (lift_row _ r j)

section Rows

variable (s dp : FVec Ideal S128x256 .f32) (k : EReal) (r : Fin 128) (R : Row)
  (hs : ∀ j, s (ix2 r j) = R.sc j) (hk : k = (R.σ : EReal))

include hs hk

theorem top_row : top (F := Ideal) s k (ix2 r (0 : Fin 1)) = (R.M : EReal) := by
  show max (shapeCast S128x1 _ shapeCasts_S128_S128x1 (ix2 r (0 : Fin 1))) k = _
  rw [column, hk, ← R.top_eq]
  refine congrArg (max · (R.σ : EReal)) ?_
  refine (Ideal.multiReduction_maximumf_single _ _ _ _ _ _).trans ?_
  show (Finset.univ : Finset (Fin 256)).fold max (Ideal.ofBits .f32 0xFF800000#32) _ = _
  rw [minusInf]
  refine Finset.fold_congr fun j _ => ?_
  exact (congrArg s (lift_row _ r j)).trans (hs j)

theorem expo_row (j : Fin 256) : expo (F := Ideal) s k (ix2 r j) = (R.E j : EReal) := by
  show Ideal.exp (s (ix2 r j) - broadcastTo S128x256 _ broadcasts_S128x1_S128x256 (ix2 r j)) = _
  rw [spread, top_row s k r R hs hk, hs, R.exp_sc]

theorem expoSink_row : expoSink (F := Ideal) s k (ix2 r (0 : Fin 1)) = (R.ES : EReal) := by
  show Ideal.exp (k - top (F := Ideal) s k (ix2 r (0 : Fin 1))) = _
  rw [top_row s k r R hs hk, hk, R.exp_sink]

theorem denom_row : denom (F := Ideal) s k (ix2 r (0 : Fin 1)) = (R.D : EReal) := by
  show rowSum _ (ix2 r (0 : Fin 1)) + expoSink (F := Ideal) s k (ix2 r (0 : Fin 1)) = _
  rw [rowSum_apply, expoSink_row s k r R hs hk]
  unfold Row.D
  rw [EReal.coe_add, coe_sum]
  exact congrArg (· + (R.ES : EReal)) (Finset.sum_congr rfl fun j _ => expo_row s k r R hs hk j)

theorem probs_row (j : Fin 256) : probs (F := Ideal) s k (ix2 r j) = (R.P j : EReal) := by
  show Ideal.div (expo (F := Ideal) s k (ix2 r j)) (broadcastTo S128x256 _ broadcasts_S128x1_S128x256 (ix2 r j)) = _
  rw [spread, denom_row s k r R hs hk, expo_row s k r R hs hk, Row.div_real _ _ R.D_ne]; rfl

theorem probSink_row : probSink (F := Ideal) s k (ix2 r (0 : Fin 1)) = (R.PS : EReal) := by
  show Ideal.div (expoSink (F := Ideal) s k (ix2 r (0 : Fin 1))) (denom (F := Ideal) s k (ix2 r (0 : Fin 1))) = _
  rw [denom_row s k r R hs hk, expoSink_row s k r R hs hk, Row.div_real _ _ R.D_ne]; rfl

variable (hd : ∀ j, dp (ix2 r j) = (R.dp j : EReal))
include hd

theorem delta_row : delta (F := Ideal) s dp k (ix2 r (0 : Fin 1)) = (R.Δ : EReal) := by
  unfold delta Row.Δ
  rw [rowSum_apply, coe_sum]
  refine Finset.sum_congr rfl fun j _ => ?_
  show probs (F := Ideal) s k (ix2 r j) * dp (ix2 r j) = _
  rw [probs_row s k r R hs hk, hd, EReal.coe_mul]

theorem scoreGrad_row (j : Fin 256) : scoreGrad (F := Ideal) s dp k (ix2 r j) = (R.DS j : EReal) := by
  show probs (F := Ideal) s k (ix2 r j) * (dp (ix2 r j) - broadcastTo S128x256 _ broadcasts_S128x1_S128x256 (ix2 r j))
    * Ideal.ofBits .f32 0x3E000000#32 = _
  rw [spread, delta_row s dp k r R hs hk hd, probs_row s k r R hs hk, hd, eighth, ← EReal.coe_sub, ← EReal.coe_mul, ← EReal.coe_mul]
  rfl

end Rows

/-- The masked scores of a row. -/
theorem scores_row (w : IVec S128x256 1) (k : FVec Ideal S256x128 .bf16) (q : FVec Ideal S128x128 .bf16) (r : Fin 128) (R : Row)
    (hw : ∀ j, w (ix2 r j) = if R.ok j then 1#1 else 0#1)
    (hS : ∀ j, (∑ d : Fin 128, q (ix2 r d) * k (ix2 j d)) * (((1 : ℝ) / 8 : ℝ) : EReal) = (R.S j : EReal)) (j : Fin 256) :
    scores w k q (ix2 r j) = R.sc j := by
  show Scalar.select (w (ix2 r j)) (matmul dot_S128x128_S256x128_S128x256_1_1_0_0_n_n none q k (constant S128x256 .f32 0x00000000#32) (ix2 r j)
    * Ideal.ofBits .f32 0x3E000000#32) (⊥ : EReal) = _
  rw [product_nt, eighth, hS, hw]
  unfold Row.sc
  cases R.ok j <;> rfl

theorem lift_col (h : S128x1.Reduces [0] S1) (r : Fin 128) : h.lift (ix1 (0 : Fin 1)) r = ix2 r (0 : Fin 1) := by
  funext c; apply Fin.ext
  fin_cases c <;> rfl

/-- One head's part of the sinks' gradient. -/
theorem sinkStep_apply (h : BitVec 32) (acc : FVec Ideal S1x128 .f32) (s dp : FVec Ideal S128x256 .f32) (k : EReal)
    (R : Fin 128 → Row) (hs : ∀ r j, s (ix2 r j) = (R r).sc j) (hk : ∀ r, k = ((R r).σ : EReal))
    (hd : ∀ r j, dp (ix2 r j) = ((R r).dp j : EReal)) (d : Fin 128) :
    sinkStep (F := Ideal) h acc s dp k (ix2 (0 : Fin 1) d)
      = acc (ix2 (0 : Fin 1) d) + (if BitVec.ofNat 32 d.val = h then ((-∑ r, (R r).PS * (R r).Δ : ℝ) : EReal) else 0) := by
  unfold sinkStep
  show acc (ix2 (0 : Fin 1) d) + Scalar.select (IntOp.cmpi .eq (iota .tc S1x128 32 [1] iota_S1x128_d1_w32 (ix2 (0 : Fin 1) d)) h)
    (broadcastTo S1x128 _ broadcasts_S1x1_S1x128 (ix2 (0 : Fin 1) d)) (Ideal.ofBits .f32 0x00000000#32) = _
  refine congrArg (acc (ix2 (0 : Fin 1) d) + ·) ?_
  rw [iota_single_apply, show ((ix2 (0 : Fin 1) d : S1x128.Idx) 1).val = d.val from rfl, broadcastTo_apply _ broadcasts_S1x1_S1x128 (ix2 (0 : Fin 1) d) (ix2 (0 : Fin 1) (0 : Fin 1)) (by
    intro b
    match b with
    | ⟨0, _⟩ => rfl
    | ⟨1, _⟩ => rfl), shapeCast_self, Ideal.ofBits_zero_f32]
  have hval : ∀ x : FVec Ideal S1x1 .f32, x (ix2 (0 : Fin 1) (0 : Fin 1)) = ((∑ r, (R r).PS * (R r).Δ : ℝ) : EReal) →
      subf (broadcast S1x1 (Scalar.ofBits .f32 0x00000000#32)) x (ix2 (0 : Fin 1) (0 : Fin 1)) = ((-∑ r, (R r).PS * (R r).Δ : ℝ) : EReal) := by
    intro x hx
    show Ideal.ofBits .f32 0x00000000#32 - x _ = _
    rw [hx, Ideal.ofBits_zero_f32, zero_sub, EReal.coe_neg]
  rw [hval _ (by
    refine (shapeCast_apply _ shapeCasts_S1_S1x1 _ (ix1 (0 : Fin 1)) (by
      rw [Shape.rowMajor_val_two, Shape.rowMajor_val_one]; rfl)).trans ?_
    refine (Ideal.multiReduction_add_single _ _ _ _ _ _).trans ?_
    rw [coe_sum]
    refine Finset.sum_congr rfl fun r _ => ?_
    refine (congrArg (mulf (probSink (F := Ideal) s k) (delta (F := Ideal) s dp k)) (lift_col _ r)).trans ?_
    show probSink (F := Ideal) s k (ix2 r (0 : Fin 1)) * delta (F := Ideal) s dp k (ix2 r (0 : Fin 1)) = _
    rw [probSink_row s k r (R r) (hs r) (hk r), delta_row s dp k r (R r) (hs r) (hk r) (hd r), EReal.coe_mul])]
  by_cases hh : BitVec.ofNat 32 d.val = h
  · rw [if_pos hh, hh]
    show Scalar.select (BitVec.ofBool (h == h)) _ _ = _
    rw [beq_self_eq_true]; rfl
  · rw [if_neg hh]
    show Scalar.select (BitVec.ofBool (BitVec.ofNat 32 d.val == h)) _ _ = _
    rw [beq_eq_false_iff_ne.2 hh]; rfl

end Cert.Attn

end
-- ==== Proof.Model.lean ====
/- The gradient of the sliding-window attention over the reals: its blocks, its rows, and its six results. -/
module

public import proofs.«01_k».proof.Proof.Spec

@[expose] public section

noncomputable section

namespace Cert.Attn

open scoped BigOperators

/-- The operands as reals: queries, keys, values, sinks, and the gradient of the attention's result. -/
structure Inputs where
  q : Fin 4096 → Fin 16 → Fin 64 → ℝ
  k : Fin 4096 → Fin 4 → Fin 64 → ℝ
  v : Fin 4096 → Fin 4 → Fin 64 → ℝ
  σ : Fin 16 → ℝ
  g : Fin 4096 → Fin 16 → Fin 64 → ℝ

/-- The place in the sequence of a block's row. -/
def place (t : Fin 32) (r : Fin 128) : Fin 4096 := ⟨128 * t.val + r.val, by omega⟩

/-- The block before a block (the first block is before itself). -/
def before (t : Fin 32) : Fin 32 := ⟨t.val - 1, by omega⟩

/-- A head's group. -/
def groupOf (h : Fin 16) : Fin 4 := ⟨h.val / 4, by omega⟩

/-- The group's `i`-th head. -/
def headOf (g i : Fin 4) : Fin 16 := ⟨4 * g.val + i.val, by omega⟩

/-- The keys that a block sees: the block before it (no such block: zeros), then itself. -/
def around (a : Fin 4096 → Fin 4 → Fin 64 → ℝ) (t : Fin 32) (g : Fin 4) (j : Fin 256) (d : Fin 64) : ℝ :=
  if h : j.val < 128 then if 0 < t.val then a (place (before t) ⟨j.val, h⟩) g d else 0
  else a (place t ⟨j.val - 128, by omega⟩) g d

/-- The same with the first block before itself. -/
def around' (a : Fin 4096 → Fin 4 → Fin 64 → ℝ) (t : Fin 32) (g : Fin 4) (j : Fin 256) (d : Fin 64) : ℝ :=
  if h : j.val < 128 then a (place (before t) ⟨j.val, h⟩) g d else a (place t ⟨j.val - 128, by omega⟩) g d

/-- Which of the 256 keys a row of a block sees. -/
def sees (t : Fin 32) (r : Fin 128) (j : Fin 256) : Bool :=
  decide (r.val < j.val) && decide (j.val ≤ r.val + 128) && (decide (0 < t.val) || decide (128 ≤ j.val))

theorem around_eq (a : Fin 4096 → Fin 4 → Fin 64 → ℝ) (t : Fin 32) (r : Fin 128) (g : Fin 4) (j : Fin 256)
    (h : sees t r j = true) (d : Fin 64) : around' a t g j d = around a t g j d := by
  unfold sees at h
  simp only [Bool.and_eq_true, Bool.or_eq_true, decide_eq_true_eq] at h
  unfold around around'
  by_cases hj : j.val < 128
  · rw [dif_pos hj, dif_pos hj, if_pos (by omega)]
  · rw [dif_neg hj, dif_neg hj]

namespace Inputs

variable (X : Inputs)

/-- A head's row over given keys and values. -/
def rowOf (kk vv : Fin 32 → Fin 4 → Fin 256 → Fin 64 → ℝ) (t : Fin 32) (h : Fin 16) (r : Fin 128) : Row where
  ok := sees t r
  S j := (∑ d, X.q (place t r) h d * kk t (groupOf h) j d) * (1 / 8)
  σ := X.σ h
  dp j := ∑ d, X.g (place t r) h d * vv t (groupOf h) j d

/-- A head's row. -/
def row (t : Fin 32) (h : Fin 16) (r : Fin 128) : Row := X.rowOf (around X.k) (around X.v) t h r

/-- The same with the first block before itself. -/
def row' (t : Fin 32) (h : Fin 16) (r : Fin 128) : Row := X.rowOf (around' X.k) (around' X.v) t h r

theorem same (t : Fin 32) (h : Fin 16) (r : Fin 128) : (X.row' t h r).Same (X.row t h r) where
  ok _ := rfl
  S j hj := congrArg (· * ((1 : ℝ) / 8)) (Finset.sum_congr rfl fun d _ => by rw [around_eq X.k t r _ j hj d])
  σ := rfl
  dp j hj := by
    show (∑ d, X.g (place t r) h d * around' X.v t (groupOf h) j d) = ∑ d, X.g (place t r) h d * around X.v t (groupOf h) j d
    exact Finset.sum_congr rfl fun d _ => by rw [around_eq X.v t r _ j hj d]

/-- The gradient of the queries. -/
def dq (t : Fin 32) (h : Fin 16) (r : Fin 128) (d : Fin 64) : ℝ :=
  ∑ j, (X.row t h r).DS j * around X.k t (groupOf h) j d

/-- The gradient of the keys that a block sees. -/
def dk (t : Fin 32) (g : Fin 4) (j : Fin 256) (d : Fin 64) : ℝ :=
  ∑ i : Fin 4, ∑ r, (X.row t (headOf g i) r).DS j * X.q (place t r) (headOf g i) d

/-- The gradient of the values that a block sees. -/
def dv (t : Fin 32) (g : Fin 4) (j : Fin 256) (d : Fin 64) : ℝ :=
  ∑ i : Fin 4, ∑ r, (X.row t (headOf g i) r).P j * X.g (place t r) (headOf g i) d

/-- A block's part of a sink's gradient. -/
def ds (t : Fin 32) (h : Fin 16) : ℝ := -∑ r, (X.row t h r).PS * (X.row t h r).Δ

theorem dq' (t : Fin 32) (h : Fin 16) (r : Fin 128) (d : Fin 64) :
    ∑ j, (X.row' t h r).DS j * around' X.k t (groupOf h) j d = X.dq t h r d := by
  unfold dq
  refine Finset.sum_congr rfl fun j _ => ?_
  rw [← (X.same t h r).DS j]
  cases hj : sees t r j
  · rw [(X.row' t h r).DS_masked hj, zero_mul, zero_mul]
  · rw [around_eq X.k t r _ j hj d]

end Inputs

/-! ## Lanes -/

/-- Sixty-four lanes, then sixty-four of zeros. -/
def lane (f : Fin 64 → ℝ) (d : Fin 128) : EReal := if h : d.val < 64 then (f ⟨d.val, h⟩ : EReal) else 0

theorem sum_lanes (f g : Fin 64 → ℝ) : ∑ d, lane f d * lane g d = ((∑ d, f d * g d : ℝ) : EReal) := by
  rw [coe_sum]
  refine (Fin.sum_univ_add (a := 64) (b := 64) fun d => lane f d * lane g d).trans ?_
  have h0 : ∀ d : Fin 64, lane f (Fin.natAdd 64 d) * lane g (Fin.natAdd 64 d) = 0 := fun d => by
    have : ¬(Fin.natAdd 64 d).val < 64 := by simp
    unfold lane
    rw [dif_neg this, zero_mul]
  have h1 : ∀ d : Fin 64, lane f (Fin.castAdd 64 d) * lane g (Fin.castAdd 64 d) = ((f d * g d : ℝ) : EReal) := fun d => by
    have : (Fin.castAdd 64 d).val < 64 := d.isLt
    unfold lane
    rw [dif_pos this, dif_pos this, EReal.coe_mul]; rfl
  rw [Finset.sum_congr rfl fun d _ => h1 d, Finset.sum_congr rfl fun d _ => h0 d, Finset.sum_const_zero, add_zero]

theorem sum_lane {ι : Type*} [Fintype ι] (a : ι → ℝ) (f : ι → Fin 64 → ℝ) (d : Fin 128) :
    ∑ j, (a j : EReal) * lane (f j) d = lane (fun d => ∑ j, a j * f j d) d := by
  unfold lane
  by_cases h : d.val < 64
  · simp only [dif_pos h]
    rw [coe_sum]
    exact Finset.sum_congr rfl fun j _ => (EReal.coe_mul _ _).symm
  · simp only [dif_neg h, mul_zero, Finset.sum_const_zero]

theorem lane_add (f g : Fin 64 → ℝ) (d : Fin 128) : lane f d + lane g d = lane (fun d => f d + g d) d := by
  unfold lane
  by_cases h : d.val < 64
  · simp only [dif_pos h, EReal.coe_add]
  · simp only [dif_neg h, add_zero]

end Cert.Attn

end
-- ==== Proof.Entry.lean ====
/- The kernel's operands at an index, in the arrays that the program is given. -/
module

public import proofs.«01_k».proof.Proof.Arrays
public import proofs.«01_k».proof.Proof.AtIndex
public import proofs.«01_k».proof.Proof.Model
public import Idealize.ShloMosaic.Lib.Claim
public import Idealize.ShloMosaic.Lib.KernelVsHost

@[expose] public section

set_option maxRecDepth 16384

noncomputable section

namespace Cert.Attn

open Cert.KernelIdeal Cert.KernelIdeal.Gen Idealize.ShloMosaic Idealize.ShloMosaic.TcCoe
open Idealize.ShloMosaic.ValueIdx Idealize.SL.Sem

variable (m : (ℓ : Loc nD τ sig) → Buf (Elt Ideal) ℓ) (c : Dev nD)

/-- The arguments are the reals of `X`. -/
structure Given (X : Inputs) (a0 : FVec Ideal S1x4096x16x64 .f32) (a1 a2 : FVec Ideal S1x4096x4x64 .f32) (a3 : FVec Ideal S16 .f32)
    (a4 : FVec Ideal S1x4096x1024 .f32) : Prop where
  q : ∀ s h d, a0 (ValueIdx.ix4 (0 : Fin 1) s h d) = (X.q s h d : EReal)
  k : ∀ s g d, a1 (ValueIdx.ix4 (0 : Fin 1) s g d) = (X.k s g d : EReal)
  v : ∀ s g d, a2 (ValueIdx.ix4 (0 : Fin 1) s g d) = (X.v s g d : EReal)
  σ : ∀ h, a3 (ValueIdx.ix1 h) = (X.σ h : EReal)
  g : ∀ s (h : Fin 16) (d : Fin 64), a4 (ValueIdx.ix3 (0 : Fin 1) s (⟨64 * h.val + d.val, by omega⟩ : Fin 1024)) = (X.g s h d : EReal)

/-! ## The padded operands -/

/-- The padding's zero. -/
def fill : FVec Ideal S_ .f32 := sitofp .f32 (constantI S_ 32 0#32)

theorem fill_eq (i : S_.Idx) : fill i = 0 := by
  show ((((0#32 : BitVec 32).toInt : ℤ) : ℝ) : EReal) = 0
  simp

/-- The queries with each head's lanes filled up. -/
def filledQ (a : FVec Ideal S1x4096x16x64 .f32) : FVec Ideal S4096x2048 .f32 :=
  shapeCast S4096x2048 (pad S4096x16x128 ![0, 0, 0] ![0, 0, 64] ![0, 0, 0]
    (shapeCast S4096x16x64 a shapeCasts_S1x4096x16x64_S4096x16x64) fill pads_S4096x16x64_S4096x16x128_000_000_0640 h_S_)
    shapeCasts_S4096x16x128_S4096x2048

/-- The same narrowed. -/
def wideQ (a : FVec Ideal S1x4096x16x64 .f32) : FVec Ideal S4096x2048 .bf16 := truncf .bf16 (filledQ a) bitsLt_bf16_f32

/-- Keys or values with each group's lanes filled up. -/
def filledK (a : FVec Ideal S1x4096x4x64 .f32) : FVec Ideal S4096x512 .f32 :=
  shapeCast S4096x512 (pad S4096x4x128 ![0, 0, 0] ![0, 0, 64] ![0, 0, 0]
    (shapeCast S4096x4x64 a shapeCasts_S1x4096x4x64_S4096x4x64) fill pads_S4096x4x64_S4096x4x128_000_000_0640 h_S_)
    shapeCasts_S4096x4x128_S4096x512

/-- The same narrowed. -/
def wideK (a : FVec Ideal S1x4096x4x64 .f32) : FVec Ideal S4096x512 .bf16 := truncf .bf16 (filledK a) bitsLt_bf16_f32

theorem entry_q : V m c main_v3 = wideQ (m ((c : Thread nD τ).loc main_arg0)) := by
  show StableHlo.after _ _ _ = _
  simp only [hostOps0, hostOps0_1, hostOps0_2, hostOps0_3, hostOps0_4, hostOps0_5, hostOps0_6, List.flatten_cons, List.flatten_nil,
    List.cons_append, List.nil_append, List.append_nil]
  entry_read
  rfl

theorem entry_k : V m c main_v7 = wideK (m ((c : Thread nD τ).loc main_arg1)) := by
  show StableHlo.after _ _ _ = _
  simp only [hostOps0, hostOps0_1, hostOps0_2, hostOps0_3, hostOps0_4, hostOps0_5, hostOps0_6, List.flatten_cons, List.flatten_nil,
    List.cons_append, List.nil_append, List.append_nil]
  entry_read
  rfl

theorem entry_v : V m c main_v11 = wideK (m ((c : Thread nD τ).loc main_arg2)) := by
  show StableHlo.after _ _ _ = _
  simp only [hostOps0, hostOps0_1, hostOps0_2, hostOps0_3, hostOps0_4, hostOps0_5, hostOps0_6, List.flatten_cons, List.flatten_nil,
    List.cons_append, List.nil_append, List.append_nil]
  entry_read
  rfl

theorem entry_g : V m c main_v12 = shapeCast S4096x1024 (m ((c : Thread nD τ).loc main_arg4)) shapeCasts_S1x4096x1024_S4096x1024 := by
  show StableHlo.after _ _ _ = _
  simp only [hostOps0, hostOps0_1, hostOps0_2, hostOps0_3, hostOps0_4, hostOps0_5, hostOps0_6, List.flatten_cons, List.flatten_nil,
    List.cons_append, List.nil_append, List.append_nil]
  entry_read
  rfl

theorem wideQ_apply (a : FVec Ideal S1x4096x16x64 .f32) (s : Fin 4096) (h : Fin 16) (d : Fin 128) :
    wideQ a (ValueIdx.ix2 s (⟨128 * h.val + d.val, by omega⟩ : Fin 2048))
      = if hd : d.val < 64 then a (ValueIdx.ix4 (0 : Fin 1) s h (⟨d.val, hd⟩ : Fin 64)) else 0 := by
  refine (show wideQ a _ = filledQ a _ from rfl).trans ?_
  unfold filledQ
  refine (shapeCast_apply _ _ _ (ValueIdx.ix3 s h d) (by
    rw [Shape.rowMajor_val_two, Shape.rowMajor_val_three]
    show (s.val * 16 + h.val) * 128 + d.val = s.val * 2048 + (128 * h.val + d.val); omega)).trans ?_
  by_cases hd : d.val < 64
  · rw [dif_pos hd]
    refine (pad_apply_of_inside _ _ _ _ _ _ _ _ (ValueIdx.ix3 s h (⟨d.val, hd⟩ : Fin 64)) (by
      intro b
      match b with
      | ⟨0, _⟩ => show s.val = 0 + s.val * 1; omega
      | ⟨1, _⟩ => show h.val = 0 + h.val * 1; omega
      | ⟨2, _⟩ => show d.val = 0 + d.val * 1; omega)).trans ?_
    exact shapeCast_apply _ _ _ _ (by
      rw [Shape.rowMajor_val_three, Shape.rowMajor_val_four]
      show ((0 * 4096 + s.val) * 16 + h.val) * 64 + d.val = (s.val * 16 + h.val) * 64 + d.val; omega)
  · rw [dif_neg hd]
    refine (pad_apply_of_not_inside _ _ _ _ _ _ _ _ (2 : Fin 3) (by
      rintro ⟨_, _, h3⟩
      have : (d.val - 0) / 1 < 64 := h3
      omega)).trans (fill_eq _)

theorem wideK_apply (a : FVec Ideal S1x4096x4x64 .f32) (s : Fin 4096) (h : Fin 4) (d : Fin 128) :
    wideK a (ValueIdx.ix2 s (⟨128 * h.val + d.val, by omega⟩ : Fin 512))
      = if hd : d.val < 64 then a (ValueIdx.ix4 (0 : Fin 1) s h (⟨d.val, hd⟩ : Fin 64)) else 0 := by
  refine (show wideK a _ = filledK a _ from rfl).trans ?_
  unfold filledK
  refine (shapeCast_apply _ _ _ (ValueIdx.ix3 s h d) (by
    rw [Shape.rowMajor_val_two, Shape.rowMajor_val_three]
    show (s.val * 4 + h.val) * 128 + d.val = s.val * 512 + (128 * h.val + d.val); omega)).trans ?_
  by_cases hd : d.val < 64
  · rw [dif_pos hd]
    refine (pad_apply_of_inside _ _ _ _ _ _ _ _ (ValueIdx.ix3 s h (⟨d.val, hd⟩ : Fin 64)) (by
      intro b
      match b with
      | ⟨0, _⟩ => show s.val = 0 + s.val * 1; omega
      | ⟨1, _⟩ => show h.val = 0 + h.val * 1; omega
      | ⟨2, _⟩ => show d.val = 0 + d.val * 1; omega)).trans ?_
    exact shapeCast_apply _ _ _ _ (by
      rw [Shape.rowMajor_val_three, Shape.rowMajor_val_four]
      show ((0 * 4096 + s.val) * 4 + h.val) * 64 + d.val = (s.val * 4 + h.val) * 64 + d.val; omega)
  · rw [dif_neg hd]
    refine (pad_apply_of_not_inside _ _ _ _ _ _ _ _ (2 : Fin 3) (by
      rintro ⟨_, _, h3⟩
      have : (d.val - 0) / 1 < 64 := h3
      omega)).trans (fill_eq _)

end Cert.Attn

end
-- ==== Proof.Mask.lean ====
/- The attention's mask, as both programs compute it from the places' numbers. -/
module

public import Idealize.ShloMosaic.PureOps.Ideal

@[expose] public section

set_option maxRecDepth 16384

namespace Cert.Attn

open Idealize.ShloMosaic

theorem band : ∀ (r : Fin 128) (j : Fin 256),
    IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32)
      = if (decide (r.val < j.val) && decide (j.val ≤ r.val + 128)) = true then 1#1 else 0#1 := by
  decide +kernel

theorem late : ∀ t : Fin 32, IntOp.cmpi .sgt (BitVec.ofNat 32 t.val) 0#32 = if decide (0 < t.val) = true then 1#1 else 0#1 := by
  decide +kernel

theorem current : ∀ j : Fin 256, IntOp.cmpi .sge (BitVec.ofNat 32 j.val) 128#32 = if decide (128 ≤ j.val) = true then 1#1 else 0#1 := by
  decide +kernel

end Cert.Attn

end
-- ==== Proof.Loads.lean ====
/- The tiles that the kernel loads at a point, and its mask, in the reals of the arguments. -/
module

public import proofs.«01_k».proof.Proof.Entry
public import proofs.«01_k».proof.Proof.Mask

@[expose] public section

set_option maxRecDepth 16384

noncomputable section

namespace Cert.Attn

open Cert.KernelIdeal Cert.KernelIdeal.Gen Idealize.ShloMosaic Idealize.ShloMosaic.TcCoe
open Idealize.ShloMosaic.ValueIdx Idealize.SL.Sem

variable (m : (ℓ : Loc nD τ sig) → Buf (Elt Ideal) ℓ) (c : Dev nD) (X : Inputs)

/-- A point's number as a block's. -/
def blockOf (t : Fin cfg0.N) : Fin 32 := ⟨t.val, by have := t.isLt; have := point_count; omega⟩

theorem inputs_at : ∀ t : Fin cfg0.N, win0_0.index t = ![t.val, 0] ∧ win0_1.index t = ![t.val, 0] ∧ win0_2.index t = ![t.val - 1, 0]
    ∧ win0_3.index t = ![t.val, 0] ∧ win0_4.index t = ![t.val - 1, 0] ∧ win0_6.index t = ![t.val, 0] ∧ win0_5.index t = ![0] :=
  (by decide +kernel : ∀ t : Fin grid0.N, win0_0.index t = ![t.val, 0] ∧ win0_1.index t = ![t.val, 0]
    ∧ win0_2.index t = ![t.val - 1, 0] ∧ win0_3.index t = ![t.val, 0] ∧ win0_4.index t = ![t.val - 1, 0]
    ∧ win0_6.index t = ![t.val, 0] ∧ win0_5.index t = ![0])

theorem coord_at : ∀ t : Fin cfg0.N, (grid0.coords t 0).val = t.val :=
  (by decide +kernel : ∀ t : Fin grid0.N, (grid0.coords t 0).val = t.val)

theorem mask_at (t : Fin cfg0.N) (r : Fin 128) (j : Fin 256) :
    maskAt t (ValueIdx.ix2 r j) = if sees (blockOf t) r j = true then 1#1 else 0#1 := by
  have h : maskAt t (ValueIdx.ix2 r j) = IntOp.andi
      (IntOp.andi (IntOp.cmpi .sge (IntOp.subi (IntOp.addi (BitVec.ofNat 32 r.val) 128#32) (BitVec.ofNat 32 j.val)) 0#32)
        (IntOp.cmpi .slt (IntOp.subi (IntOp.addi (BitVec.ofNat 32 r.val) 128#32) (BitVec.ofNat 32 j.val)) 128#32))
      (IntOp.ori (IntOp.cmpi .sgt (BitVec.ofNat 32 (blockOf t).val) 0#32) (IntOp.cmpi .sge (BitVec.ofNat 32 j.val) 128#32)) := by
    have e0 : iota .tc S128x256 32 [0] iota_S128x256_d0_w32 (ValueIdx.ix2 r j) = BitVec.ofNat 32 r.val := by rw [iota_single_apply]
    have e1 : iota .tc S128x256 32 [1] iota_S128x256_d1_w32 (ValueIdx.ix2 r j) = BitVec.ofNat 32 j.val := by rw [iota_single_apply]
    have e2 : (blockOf t).val = (grid0.coords t 0).val := (coord_at t).symm
    rw [← e0, ← e1, e2]
    rfl
  rw [h, band, late, current]
  unfold sees
  rcases Bool.eq_false_or_eq_true (decide (r.val < j.val) && decide (j.val ≤ r.val + 128)) with h1 | h1 <;>
  rcases Bool.eq_false_or_eq_true (decide (0 < (blockOf t).val)) with h2 | h2 <;>
  rcases Bool.eq_false_or_eq_true (decide (128 ≤ j.val)) with h3 | h3 <;>
  rw [h1, h2, h3] <;> decide

section Reads

variable {X} (hX : Given X (m ((c : Thread nD τ).loc main_arg0)) (m ((c : Thread nD τ).loc main_arg1))
  (m ((c : Thread nD τ).loc main_arg2)) (m ((c : Thread nD τ).loc main_arg3)) (m ((c : Thread nD τ).loc main_arg4)))
include hX

theorem load_q (t : Fin cfg0.N) (h : Fin 16) (r d : Fin 128) :
    (tilesAt m c t).q h (ValueIdx.ix2 r d) = lane (X.q (place (blockOf t) r) h) d := by
  show V m c main_v3 ((win0_0.blk t).view.emb ((rectQ h).emb (ValueIdx.ix2 r d))) = _
  have e : (win0_0.blk t).view.emb ((rectQ h).emb (ValueIdx.ix2 r d))
      = ValueIdx.ix2 (place (blockOf t) r) (⟨128 * h.val + d.val, by omega⟩ : Fin 2048) := by
    funext a
    apply Fin.ext
    match a with
    | ⟨0, _⟩ => blk_simp [inputs_at t]; show t.val * 128 + (0 + 1 * r.val) = 128 * t.val + r.val; omega
    | ⟨1, _⟩ => blk_simp [inputs_at t]; show 128 * h.val + 1 * d.val = 128 * h.val + d.val; omega
  rw [e, entry_q, wideQ_apply]
  unfold lane
  split
  · exact hX.q ..
  · rfl

theorem load_kc (t : Fin cfg0.N) (g : Fin 4) (r d : Fin 128) :
    (tilesAt m c t).kc g (ValueIdx.ix2 r d) = lane (X.k (place (blockOf t) r) g) d := by
  show V m c main_v7 ((win0_1.blk t).view.emb ((rectK g).emb (ValueIdx.ix2 r d))) = _
  have e : (win0_1.blk t).view.emb ((rectK g).emb (ValueIdx.ix2 r d))
      = ValueIdx.ix2 (place (blockOf t) r) (⟨128 * g.val + d.val, by omega⟩ : Fin 512) := by
    funext a
    apply Fin.ext
    match a with
    | ⟨0, _⟩ => blk_simp [inputs_at t]; show t.val * 128 + (0 + 1 * r.val) = 128 * t.val + r.val; omega
    | ⟨1, _⟩ => blk_simp [inputs_at t]; show 128 * g.val + 1 * d.val = 128 * g.val + d.val; omega
  rw [e, entry_k, wideK_apply]
  unfold lane
  split
  · exact hX.k ..
  · rfl

theorem load_kp (t : Fin cfg0.N) (g : Fin 4) (r d : Fin 128) :
    (tilesAt m c t).kp g (ValueIdx.ix2 r d) = lane (X.k (place (before (blockOf t)) r) g) d := by
  show V m c main_v7 ((win0_2.blk t).view.emb ((rectK g).emb (ValueIdx.ix2 r d))) = _
  have e : (win0_2.blk t).view.emb ((rectK g).emb (ValueIdx.ix2 r d))
      = ValueIdx.ix2 (place (before (blockOf t)) r) (⟨128 * g.val + d.val, by omega⟩ : Fin 512) := by
    funext a
    apply Fin.ext
    match a with
    | ⟨0, _⟩ => blk_simp [inputs_at t]; show (t.val - 1) * 128 + (0 + 1 * r.val) = 128 * (t.val - 1) + r.val; omega
    | ⟨1, _⟩ => blk_simp [inputs_at t]; show 128 * g.val + 1 * d.val = 128 * g.val + d.val; omega
  rw [e, entry_k, wideK_apply]
  unfold lane
  split
  · exact hX.k ..
  · rfl

theorem load_vc (t : Fin cfg0.N) (g : Fin 4) (r d : Fin 128) :
    (tilesAt m c t).vc g (ValueIdx.ix2 r d) = lane (X.v (place (blockOf t) r) g) d := by
  show V m c main_v11 ((win0_3.blk t).view.emb ((rectK g).emb (ValueIdx.ix2 r d))) = _
  have e : (win0_3.blk t).view.emb ((rectK g).emb (ValueIdx.ix2 r d))
      = ValueIdx.ix2 (place (blockOf t) r) (⟨128 * g.val + d.val, by omega⟩ : Fin 512) := by
    funext a
    apply Fin.ext
    match a with
    | ⟨0, _⟩ => blk_simp [inputs_at t]; show t.val * 128 + (0 + 1 * r.val) = 128 * t.val + r.val; omega
    | ⟨1, _⟩ => blk_simp [inputs_at t]; show 128 * g.val + 1 * d.val = 128 * g.val + d.val; omega
  rw [e, entry_v, wideK_apply]
  unfold lane
  split
  · exact hX.v ..
  · rfl

theorem load_vp (t : Fin cfg0.N) (g : Fin 4) (r d : Fin 128) :
    (tilesAt m c t).vp g (ValueIdx.ix2 r d) = lane (X.v (place (before (blockOf t)) r) g) d := by
  show V m c main_v11 ((win0_4.blk t).view.emb ((rectK g).emb (ValueIdx.ix2 r d))) = _
  have e : (win0_4.blk t).view.emb ((rectK g).emb (ValueIdx.ix2 r d))
      = ValueIdx.ix2 (place (before (blockOf t)) r) (⟨128 * g.val + d.val, by omega⟩ : Fin 512) := by
    funext a
    apply Fin.ext
    match a with
    | ⟨0, _⟩ => blk_simp [inputs_at t]; show (t.val - 1) * 128 + (0 + 1 * r.val) = 128 * (t.val - 1) + r.val; omega
    | ⟨1, _⟩ => blk_simp [inputs_at t]; show 128 * g.val + 1 * d.val = 128 * g.val + d.val; omega
  rw [e, entry_v, wideK_apply]
  unfold lane
  split
  · exact hX.v ..
  · rfl

theorem load_sk (t : Fin cfg0.N) (h : Fin 16) : (tilesAt m c t).sk h = (X.σ h : EReal) := by
  show V m c main_arg3 ((win0_5.blk t).view.emb ((rectS h).emb (Shape.Idx.first (show 0 < S1.numel by decide)))) = _
  have e : (win0_5.blk t).view.emb ((rectS h).emb (Shape.Idx.first (show 0 < S1.numel by decide))) = ValueIdx.ix1 h := by
    funext a
    apply Fin.ext
    match a with
    | ⟨0, _⟩ => blk_simp [inputs_at t]; show h.val + 1 * 0 = h.val; omega
  rw [e, V_main_arg3]
  exact hX.σ h

theorem load_g (t : Fin cfg0.N) (j : Fin 8) (r e : Fin 128) (h : Fin 16) (d : Fin 64) (hd : 128 * j.val + e.val = 64 * h.val + d.val) :
    (tilesAt m c t).g j (ValueIdx.ix2 r e) = (X.g (place (blockOf t) r) h d : EReal) := by
  show V m c main_v12 ((win0_6.blk t).view.emb ((rectG j).emb (ValueIdx.ix2 r e))) = _
  have e : (win0_6.blk t).view.emb ((rectG j).emb (ValueIdx.ix2 r e))
      = ValueIdx.ix2 (place (blockOf t) r) (⟨64 * h.val + d.val, by omega⟩ : Fin 1024) := by
    funext a
    apply Fin.ext
    match a with
    | ⟨0, _⟩ => blk_simp [inputs_at t]; show t.val * 128 + (0 + 1 * r.val) = 128 * t.val + r.val; omega
    | ⟨1, _⟩ => blk_simp [inputs_at t]; show 128 * j.val + 1 * e.val = 64 * h.val + d.val; omega
  rw [e, entry_g]
  refine (shapeCast_apply _ _ _ (ValueIdx.ix3 (0 : Fin 1) (place (blockOf t) r) (⟨64 * h.val + d.val, by omega⟩ : Fin 1024)) (by
    rw [Shape.rowMajor_val_two, Shape.rowMajor_val_three]
    show (0 * 4096 + (place (blockOf t) r).val) * 1024 + (64 * h.val + d.val) = (place (blockOf t) r).val * 1024 + (64 * h.val + d.val)
    omega)).trans ?_
  exact hX.g ..

/-! ## What the heads work on -/

theorem keys_at (t : Fin cfg0.N) (g : Fin 4) (j : Fin 256) (d : Fin 128) :
    (tilesAt m c t).keys g (ValueIdx.ix2 j d) = lane (around' X.k (blockOf t) g j) d := by
  unfold Tiles.keys around'
  by_cases h : j.val < 128
  · rw [joined_prev _ _ j d h, load_kp m c hX]; simp only [dif_pos h]
  · rw [joined_cur _ _ j d (by omega), load_kc m c hX]; simp only [dif_neg h]

theorem vals_at (t : Fin cfg0.N) (g : Fin 4) (j : Fin 256) (d : Fin 128) :
    (tilesAt m c t).vals g (ValueIdx.ix2 j d) = lane (around' X.v (blockOf t) g j) d := by
  unfold Tiles.vals around'
  by_cases h : j.val < 128
  · rw [joined_prev _ _ j d h, load_vp m c hX]; simp only [dif_pos h]
  · rw [joined_cur _ _ j d (by omega), load_vc m c hX]; simp only [dif_neg h]

theorem dout_at (t : Fin cfg0.N) (h : Fin 16) (r d : Fin 128) :
    (tilesAt m c t).dout h (ValueIdx.ix2 r d) = lane (X.g (place (blockOf t) r) h) d := by
  unfold Tiles.dout lane
  by_cases hd : d.val < 64
  · rw [dif_pos hd]
    by_cases hh : h.val % 2 = 0
    · rw [show (h.val % 2 == 0) = true by simpa using hh, cond_true, evenHead_apply, if_pos hd]
      exact load_g m c hX t _ r _ h ⟨d.val, hd⟩ (by show 128 * (h.val / 2) + d.val = 64 * h.val + d.val; omega)
    · rw [show (h.val % 2 == 0) = false by simpa using hh, cond_false, oddHead_apply, dif_pos hd]
      exact load_g m c hX t _ r _ h ⟨d.val, hd⟩ (by show 128 * (h.val / 2) + (d.val + 64) = 64 * h.val + d.val; omega)
  · rw [dif_neg hd]
    by_cases hh : h.val % 2 = 0
    · rw [show (h.val % 2 == 0) = true by simpa using hh, cond_true, evenHead_apply, if_neg hd]
    · rw [show (h.val % 2 == 0) = false by simpa using hh, cond_false, oddHead_apply, dif_neg hd]

/-! ## The heads' rows -/

theorem score_at (t : Fin cfg0.N) (h : Fin 16) (r : Fin 128) (j : Fin 256) :
    (tilesAt m c t).score (maskAt t) h (ValueIdx.ix2 r j) = (X.row' (blockOf t) h r).sc j := by
  unfold Tiles.score
  refine scores_row _ _ _ r _ (fun j => mask_at t r j) (fun j => ?_) j
  rw [queries_eq]
  have e : ∀ d : Fin 128, (tilesAt m c t).q h (ValueIdx.ix2 r d) * (tilesAt m c t).keys (Tiles.group h) (ValueIdx.ix2 j d)
      = lane (X.q (place (blockOf t) r) h) d * lane (around' X.k (blockOf t) (groupOf h) j) d := fun d => by
    rw [load_q m c hX, keys_at m c hX]; rfl
  rw [Finset.sum_congr rfl fun d _ => e d, sum_lanes, ← EReal.coe_mul]
  rfl

theorem dprob_at (t : Fin cfg0.N) (h : Fin 16) (r : Fin 128) (j : Fin 256) :
    (tilesAt m c t).dprob h (ValueIdx.ix2 r j) = ((X.row' (blockOf t) h r).dp j : EReal) := by
  refine (product_nt _ _ r j).trans ?_
  have e : ∀ d : Fin 128, (tilesAt m c t).dout h (ValueIdx.ix2 r d) * (tilesAt m c t).vals (Tiles.group h) (ValueIdx.ix2 j d)
      = lane (X.g (place (blockOf t) r) h) d * lane (around' X.v (blockOf t) (groupOf h) j) d := fun d => by
    rw [dout_at m c hX, vals_at m c hX]; rfl
  rw [Finset.sum_congr rfl fun d _ => e d, sum_lanes]
  rfl

theorem dscore_at (t : Fin cfg0.N) (h : Fin 16) (r : Fin 128) (j : Fin 256) :
    (tilesAt m c t).dscore (maskAt t) h (ValueIdx.ix2 r j) = ((X.row (blockOf t) h r).DS j : EReal) := by
  rw [← (X.same (blockOf t) h r).DS j]
  exact scoreGrad_row _ _ _ r (X.row' (blockOf t) h r) (score_at m c hX t h r) (load_sk m c hX t h) (dprob_at m c hX t h r) j

theorem prob_at (t : Fin cfg0.N) (h : Fin 16) (r : Fin 128) (j : Fin 256) :
    (tilesAt m c t).prob (maskAt t) h (ValueIdx.ix2 r j) = ((X.row (blockOf t) h r).P j : EReal) := by
  rw [← (X.same (blockOf t) h r).P j]
  exact probs_row _ _ r (X.row' (blockOf t) h r) (score_at m c hX t h r) (load_sk m c hX t h) j

/-! ## The results' tiles -/

theorem dq_at (t : Fin cfg0.N) (h : Fin 16) (r d : Fin 128) :
    (tilesAt m c t).dq (maskAt t) h (ValueIdx.ix2 r d) = lane (X.dq (blockOf t) h r) d := by
  unfold Tiles.dq
  rw [product_nn]
  have e : ∀ j : Fin 256, (tilesAt m c t).dscore (maskAt t) h (ValueIdx.ix2 r j) * (tilesAt m c t).keys (Tiles.group h) (ValueIdx.ix2 j d)
      = ((X.row' (blockOf t) h r).DS j : EReal) * lane (around' X.k (blockOf t) (groupOf h) j) d := fun j => by
    rw [dscore_at m c hX, keys_at m c hX, (X.same (blockOf t) h r).DS j]; rfl
  rw [Finset.sum_congr rfl fun j _ => e j, sum_lane]
  exact congrArg (lane · d) (funext fun d => X.dq' (blockOf t) h r d)

theorem dk_at (t : Fin cfg0.N) (g : Fin 4) (j : Fin 256) (d : Fin 128) :
    (tilesAt m c t).dk (maskAt t) g (ValueIdx.ix2 j d) = lane (X.dk (blockOf t) g j) d := by
  unfold Tiles.dk
  have e : ∀ i : Fin 4, outer ((tilesAt m c t).dscore (maskAt t) (Tiles.head g i)) (queries ((tilesAt m c t).q (Tiles.head g i))) (ValueIdx.ix2 j d)
      = lane (fun d => ∑ r, (X.row (blockOf t) (headOf g i) r).DS j * X.q (place (blockOf t) r) (headOf g i) d) d := fun i => by
    rw [product_tn, queries_eq, ← sum_lane]
    refine Finset.sum_congr rfl fun r _ => ?_
    rw [dscore_at m c hX, load_q m c hX]; rfl
  rw [four_apply, e 0, e 1, e 2, e 3, lane_add, lane_add, lane_add]
  refine congrArg (lane · d) (funext fun d => ?_)
  unfold Inputs.dk
  rw [Fin.sum_univ_four]

theorem dv_at (t : Fin cfg0.N) (g : Fin 4) (j : Fin 256) (d : Fin 128) :
    (tilesAt m c t).dv (maskAt t) g (ValueIdx.ix2 j d) = lane (X.dv (blockOf t) g j) d := by
  unfold Tiles.dv
  have e : ∀ i : Fin 4, outer ((tilesAt m c t).prob (maskAt t) (Tiles.head g i)) ((tilesAt m c t).dout (Tiles.head g i)) (ValueIdx.ix2 j d)
      = lane (fun d => ∑ r, (X.row (blockOf t) (headOf g i) r).P j * X.g (place (blockOf t) r) (headOf g i) d) d := fun i => by
    rw [product_tn, ← sum_lane]
    refine Finset.sum_congr rfl fun r _ => ?_
    rw [prob_at m c hX, dout_at m c hX]; rfl
  rw [four_apply, e 0, e 1, e 2, e 3, lane_add, lane_add, lane_add]
  refine congrArg (lane · d) (funext fun d => ?_)
  unfold Inputs.dv
  rw [Fin.sum_univ_four]

/-- The sinks' gradient of a block after the first `n` heads. -/
theorem dsink_at (t : Fin cfg0.N) (d : Fin 128) : ∀ n : ℕ, n ≤ 16 →
    (tilesAt m c t).dsink (maskAt t) n (ValueIdx.ix2 (0 : Fin 1) d)
      = if h : d.val < n then (if h' : d.val < 16 then (X.ds (blockOf t) ⟨d.val, h'⟩ : EReal) else 0) else 0
  | 0, _ => by
    rw [dif_neg (Nat.not_lt_zero _)]
    exact Ideal.ofBits_zero_f32
  | n + 1, hn => by
    unfold Tiles.dsink
    have hn' : n < 16 := by omega
    have hf : (Fin.ofNat 16 n : Fin 16) = ⟨n, hn'⟩ := Fin.ext (Nat.mod_eq_of_lt hn')
    rw [hf, sinkStep_apply _ _ _ _ _ (fun r => X.row' (blockOf t) ⟨n, hn'⟩ r) (fun r j => score_at m c hX t _ r j)
      (fun r => load_sk m c hX t _) (fun r j => dprob_at m c hX t _ r j), dsink_at t d n (by omega)]
    have hds : (-∑ r, (X.row' (blockOf t) ⟨n, hn'⟩ r).PS * (X.row' (blockOf t) ⟨n, hn'⟩ r).Δ : ℝ) = X.ds (blockOf t) ⟨n, hn'⟩ := by
      unfold Inputs.ds
      refine congrArg Neg.neg (Finset.sum_congr rfl fun r _ => ?_)
      rw [(X.same (blockOf t) ⟨n, hn'⟩ r).PS, (X.same (blockOf t) ⟨n, hn'⟩ r).Δ]
    rw [hds]
    by_cases h1 : d.val = n
    · have : BitVec.ofNat 32 d.val = BitVec.ofNat 32 n := by rw [h1]
      rw [if_pos this, dif_neg (by omega), dif_pos (by omega), dif_pos (by omega), zero_add]
      simp only [h1]
    · have : ¬BitVec.ofNat 32 d.val = BitVec.ofNat 32 n := fun hb => h1 (by
        have := congrArg BitVec.toNat hb
        simp only [BitVec.toNat_ofNat] at this
        omega)
      rw [if_neg this, add_zero]
      by_cases h2 : d.val < n
      · rw [dif_pos h2, dif_pos (by omega : d.val < n + 1)]
      · rw [dif_neg h2, dif_neg (by omega)]

end Reads

end Cert.Attn

end
-- ==== Proof.Results.lean ====
/- The kernel's six result arrays in the reals of its arguments. -/
module

public import proofs.«01_k».proof.Proof.Loads

@[expose] public section

set_option maxRecDepth 16384

noncomputable section

namespace Cert.Attn

open Cert.KernelIdeal Cert.KernelIdeal.Gen Idealize.ShloMosaic Idealize.ShloMosaic.TcCoe
open Idealize.ShloMosaic.ValueIdx Idealize.SL.Sem
open scoped BigOperators

/-! ## The results -/

/-- The block, and the row of it, that a place in the sequence belongs to. -/
def blockAt (s : Fin 4096) : Fin 32 := ⟨s.val / 128, by omega⟩
def rowAt (s : Fin 4096) : Fin 128 := ⟨s.val % 128, by omega⟩

namespace Inputs

variable (X : Inputs)

/-- The gradient of the queries, a head's lanes filled up. -/
def resDq : FVec Ideal S4096x2048 .f32 := fun y =>
  lane (X.dq (blockAt (y 0)) ⟨(y 1).val / 128, by have : (y 1).val < 2048 := (y 1).isLt; omega⟩ (rowAt (y 0)))
    ⟨(y 1).val % 128, by omega⟩

/-- A gradient of keys or values at a block's place `off + r`, a group's lanes filled up. -/
def resKv (f : Fin 32 → Fin 4 → Fin 256 → Fin 64 → ℝ) (off : ℕ) (ho : off ≤ 128) : FVec Ideal S4096x512 .f32 := fun y =>
  lane (f (blockAt (y 0)) ⟨(y 1).val / 128, by have : (y 1).val < 512 := (y 1).isLt; omega⟩
      ⟨off + (rowAt (y 0)).val, by have := (rowAt (y 0)).isLt; omega⟩)
    ⟨(y 1).val % 128, by omega⟩

/-- The gradient of the sinks, the lanes filled up. -/
def resDs : FVec Ideal S1x128 .f32 := fun y =>
  if h : (y 1).val < 16 then ((∑ t, X.ds t ⟨(y 1).val, h⟩ : ℝ) : EReal) else 0

end Inputs

variable (m : (ℓ : Loc nD τ sig) → Buf (Elt Ideal) ℓ) (c : Dev nD) {X : Inputs}
variable (hX : Given X (m ((c : Thread nD τ).loc main_arg0)) (m ((c : Thread nD τ).loc main_arg1))
  (m ((c : Thread nD τ).loc main_arg2)) (m ((c : Thread nD τ).loc main_arg3)) (m ((c : Thread nD τ).loc main_arg4)))
include hX

theorem kernel_dq : (dats m 0 c).arrAt 7 cfg0.N = X.resDq := by
  rw [final_dq]
  funext y
  exact dq_at m c hX (pointOf (y 0)) _ _ _

theorem kernel_dkc : (dats m 0 c).arrAt 8 cfg0.N = Inputs.resKv X.dk 128 (le_refl _) := by
  rw [final_dkc]
  funext y
  exact (lower_apply _ _ _).trans (dk_at m c hX (pointOf (y 0)) _ _ _)

theorem kernel_dkp : (dats m 0 c).arrAt 9 cfg0.N = Inputs.resKv X.dk 0 (Nat.zero_le _) := by
  rw [final_dkp]
  funext y
  refine (upper_apply _ _ _).trans ((dk_at m c hX (pointOf (y 0)) _ _ _).trans ?_)
  refine congrArg (fun j => lane (X.dk (blockAt (y 0)) _ j) _) (Fin.ext ?_)
  show (rowAt (y 0)).val = 0 + (rowAt (y 0)).val
  omega

theorem kernel_dvc : (dats m 0 c).arrAt 10 cfg0.N = Inputs.resKv X.dv 128 (le_refl _) := by
  rw [final_dvc]
  funext y
  exact (lower_apply _ _ _).trans (dv_at m c hX (pointOf (y 0)) _ _ _)

theorem kernel_dvp : (dats m 0 c).arrAt 11 cfg0.N = Inputs.resKv X.dv 0 (Nat.zero_le _) := by
  rw [final_dvp]
  funext y
  refine (upper_apply _ _ _).trans ((dv_at m c hX (pointOf (y 0)) _ _ _).trans ?_)
  refine congrArg (fun j => lane (X.dv (blockAt (y 0)) _ j) _) (Fin.ext ?_)
  show (rowAt (y 0)).val = 0 + (rowAt (y 0)).val
  omega

theorem sinkAcc_at (d : Fin 128) : ∀ (n : ℕ) (hn : n < cfg0.N),
    sinkAcc m c n hn (ValueIdx.ix2 (0 : Fin 1) d)
      = if h : d.val < 16 then ((∑ t ∈ Finset.range (n + 1), X.ds (Fin.ofNat 32 t) ⟨d.val, h⟩ : ℝ) : EReal) else 0
  | 0, hn => by
    refine (dsink_at m c hX _ d 16 (le_refl _)).trans ?_
    by_cases h : d.val < 16
    · rw [dif_pos h, dif_pos h, dif_pos h, Finset.sum_range_one]; rfl
    · rw [dif_neg h, dif_neg h]
  | n + 1, hn => by
    show shapeCast S1x128 (sinkAcc m c n (by omega)) _ (ValueIdx.ix2 (0 : Fin 1) d) + (tilesAt m c ⟨n + 1, hn⟩).dsink _ 16 (ValueIdx.ix2 (0 : Fin 1) d) = _
    rw [shapeCast_self, sinkAcc_at d n (by omega), dsink_at m c hX _ d 16 (le_refl _)]
    by_cases h : d.val < 16
    · rw [dif_pos h, dif_pos h, dif_pos h, dif_pos h, Finset.sum_range_succ _ (n + 1), EReal.coe_add]
      refine congrArg (fun t => _ + ((X.ds t ⟨d.val, h⟩ : ℝ) : EReal)) (Fin.ext ?_)
      have := point_count
      show n + 1 = (n + 1) % 32
      omega
    · rw [dif_neg h, dif_neg h, dif_neg h, add_zero]

theorem kernel_dsink : (dats m 0 c).arrAt 12 cfg0.N = X.resDs := by
  rw [final_dsink]
  funext y
  have hy : y = ValueIdx.ix2 (0 : Fin 1) (y 1) := by
    funext a
    apply Fin.ext
    match a with
    | ⟨0, _⟩ => have : (y 0).val < 1 := (y 0).isLt; show (y 0).val = 0; omega
    | ⟨1, _⟩ => rfl
  rw [hy]
  refine (sinkAcc_at m c hX (y 1) 31 _).trans ?_
  unfold Inputs.resDs
  by_cases h : (y 1).val < 16
  · rw [dif_pos h, dif_pos (by exact h), Finset.sum_range]
    refine congrArg (fun x : ℝ => (x : EReal)) (Finset.sum_congr rfl fun t _ => ?_)
    exact congrArg (fun t => X.ds t _) (Fin.ext (Nat.mod_eq_of_lt t.isLt))
  · rw [dif_neg h, dif_neg (by exact h)]

end Cert.Attn

end
-- ==== Proof.HostLayout.lean ====
/- The reference's operands at an index: its blocks of queries, keys, values and incoming gradients, and its mask. -/
module

public import proofs.«01_k».proof.Proof.Results
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic Idealize.SL.Sem
open scoped BigOperators

/-- An array read at two indices with the same coordinates. -/
theorem read_at {s : Shape} {α : Type} (f : s.Idx → α) {x y : s.Idx} (h : ∀ a, (x a).val = (y a).val) : f x = f y :=
  congrArg f (funext fun a => Fin.ext (h a))

theorem zero_at (i : S_.Idx) : (constant (F := Ideal) S_ .f32 0x00000000#32) i = (0 : EReal) := Ideal.ofBits_zero_f32

section Blocks

variable (x : FVec Ideal S1x4096x4x64 .f32) (a : Fin 4096 → Fin 4 → Fin 64 → ℝ)
  (ha : ∀ s g d, x (ValueIdx.ix4 (0 : Fin 1) s g d) = (a s g d : EReal))
include ha

/-- Keys (or values) without the batch axis. -/
theorem v0_at (s : Fin 4096) (g : Fin 4) (d : Fin 64) : val_main_v0 (F := Ideal) x (ValueIdx.ix3 s g d) = (a s g d : EReal) := by
  rw [val_main_v0_apply, ← ha]
  refine read_at x fun b => ?_
  match b with
  | ⟨0, _⟩ => rfl
  | ⟨1, _⟩ => show ((s.val * 4 + g.val) * 64 + d.val) / 256 % 4096 = s.val; omega
  | ⟨2, _⟩ => show ((s.val * 4 + g.val) * 64 + d.val) / 64 % 4 = g.val; omega
  | ⟨3, _⟩ => show ((s.val * 4 + g.val) * 64 + d.val) % 64 = d.val; omega

/-- Keys (or values) in blocks. -/
theorem v1_at (t : Fin 32) (r : Fin 128) (g : Fin 4) (d : Fin 64) :
    val_main_v1 (F := Ideal) x (ValueIdx.ix4 t r g d) = (a (place t r) g d : EReal) := by
  rw [val_main_v1_apply, ← v0_at x a ha]
  refine read_at _ fun b => ?_
  match b with
  | ⟨0, _⟩ => show (((t.val * 128 + r.val) * 4 + g.val) * 64 + d.val) / 256 = 128 * t.val + r.val; omega
  | ⟨1, _⟩ => show (((t.val * 128 + r.val) * 4 + g.val) * 64 + d.val) / 64 % 4 = g.val; omega
  | ⟨2, _⟩ => show (((t.val * 128 + r.val) * 4 + g.val) * 64 + d.val) % 64 = d.val; omega

/-- The block before, zeros before the first. -/
theorem v8_at (t : Fin 32) (r : Fin 128) (g : Fin 4) (d : Fin 64) :
    val_main_v8 (F := Ideal) x (ValueIdx.ix4 t r g d) = ((if 0 < t.val then a (place (before t) r) g d else 0 : ℝ) : EReal) := by
  unfold val_main_v8
  by_cases ht : 0 < t.val
  · rw [if_pos ht]
    refine (concatenate_pair_apply_right (t := S32x128x4x64) (s₁ := S1x128x4x64) (s₂ := S31x128x4x64) (0 : Fin 4) _ _ _ _ rfl rfl
      (ValueIdx.ix4 (⟨t.val - 1, by omega⟩ : Fin 31) r g d) (by
        intro b hb
        match b with
        | ⟨0, _⟩ => exact absurd rfl hb
        | ⟨1, _⟩ => rfl
        | ⟨2, _⟩ => rfl
        | ⟨3, _⟩ => rfl) (by show t.val - 1 + 1 = t.val; omega)).trans ?_
    rw [val_main_v7_apply, ← v1_at x a ha (before t) r g d]
    exact read_at _ fun b => by fin_cases b <;> rfl
  · rw [if_neg ht]
    refine (concatenate_pair_apply_left (t := S32x128x4x64) (s₁ := S1x128x4x64) (s₂ := S31x128x4x64) (0 : Fin 4) _ _ _ _ rfl
      (ValueIdx.ix4 (0 : Fin 1) r g d) (by
        intro b
        match b with
        | ⟨0, _⟩ => show 0 = t.val; omega
        | ⟨1, _⟩ => rfl
        | ⟨2, _⟩ => rfl
        | ⟨3, _⟩ => rfl)).trans ?_
    rw [val_main_v6_apply]
    exact zero_at _

/-- The keys (or values) that a block sees. -/
theorem v14_at (t : Fin 32) (j : Fin 256) (g : Fin 4) (d : Fin 64) :
    val_main_v14 (F := Ideal) x (ValueIdx.ix4 t j g d) = (around a t g j d : EReal) := by
  unfold val_main_v14 around
  by_cases hj : j.val < 128
  · rw [dif_pos hj, ← v8_at x a ha t ⟨j.val, hj⟩ g d]
    refine (concatenate_pair_apply_left (t := S32x256x4x64) (s₁ := S32x128x4x64) (s₂ := S32x128x4x64) (1 : Fin 4) _ _ _ _ rfl
      (ValueIdx.ix4 t (⟨j.val, hj⟩ : Fin 128) g d) (by
        intro b
        match b with
        | ⟨0, _⟩ => rfl
        | ⟨1, _⟩ => rfl
        | ⟨2, _⟩ => rfl
        | ⟨3, _⟩ => rfl))
  · rw [dif_neg hj, ← v1_at x a ha t ⟨j.val - 128, by omega⟩ g d]
    refine (concatenate_pair_apply_right (t := S32x256x4x64) (s₁ := S32x128x4x64) (s₂ := S32x128x4x64) (1 : Fin 4) _ _ _ _ rfl rfl
      (ValueIdx.ix4 t (⟨j.val - 128, by omega⟩ : Fin 128) g d) (by
        intro b hb
        match b with
        | ⟨0, _⟩ => rfl
        | ⟨1, _⟩ => exact absurd rfl hb
        | ⟨2, _⟩ => rfl
        | ⟨3, _⟩ => rfl) (by show j.val - 128 + 128 = j.val; omega))

/-- The same for the values: the same text. -/
theorem v15_at (t : Fin 32) (j : Fin 256) (g : Fin 4) (d : Fin 64) :
    val_main_v15 (F := Ideal) x (ValueIdx.ix4 t j g d) = (around a t g j d : EReal) := v14_at x a ha t j g d

end Blocks

variable {X : Inputs} (x0 : FVec Ideal S1x4096x16x64 .f32) (x1 x2 : FVec Ideal S1x4096x4x64 .f32) (x3 : FVec Ideal S16 .f32)
  (x4 : FVec Ideal S1x4096x1024 .f32) (hX : Given X x0 x1 x2 x3 x4)

section
include hX

theorem v4_at (s : Fin 4096) (h : Fin 16) (d : Fin 64) : val_main_v4 (F := Ideal) x0 (ValueIdx.ix3 s h d) = (X.q s h d : EReal) := by
  rw [val_main_v4_apply, ← hX.q]
  refine read_at x0 fun b => ?_
  match b with
  | ⟨0, _⟩ => rfl
  | ⟨1, _⟩ => show ((s.val * 16 + h.val) * 64 + d.val) / 1024 % 4096 = s.val; omega
  | ⟨2, _⟩ => show ((s.val * 16 + h.val) * 64 + d.val) / 64 % 16 = h.val; omega
  | ⟨3, _⟩ => show ((s.val * 16 + h.val) * 64 + d.val) % 64 = d.val; omega

theorem v13_at (t : Fin 32) (r : Fin 128) (g i : Fin 4) (d : Fin 64) :
    val_main_v13 (F := Ideal) x0 (ValueIdx.ix5 t r g i d) = (X.q (place t r) (headOf g i) d : EReal) := by
  rw [val_main_v13_apply, ← v4_at x0 x1 x2 x3 x4 hX]
  refine read_at _ fun b => ?_
  match b with
  | ⟨0, _⟩ => show ((((t.val * 128 + r.val) * 4 + g.val) * 4 + i.val) * 64 + d.val) / 1024 = 128 * t.val + r.val; omega
  | ⟨1, _⟩ => show ((((t.val * 128 + r.val) * 4 + g.val) * 4 + i.val) * 64 + d.val) / 64 % 16 = 4 * g.val + i.val; omega
  | ⟨2, _⟩ => show ((((t.val * 128 + r.val) * 4 + g.val) * 4 + i.val) * 64 + d.val) % 64 = d.val; omega

theorem v96_at (s : Fin 4096) (e : Fin 1024) : val_main_v96 (F := Ideal) x4 (ValueIdx.ix2 s e)
    = (X.g s ⟨e.val / 64, by omega⟩ ⟨e.val % 64, Nat.mod_lt _ (by norm_num)⟩ : EReal) := by
  rw [val_main_v96_apply, ← hX.g]
  refine read_at x4 fun b => ?_
  match b with
  | ⟨0, _⟩ => rfl
  | ⟨1, _⟩ => show (s.val * 1024 + e.val) / 1024 % 4096 = s.val; omega
  | ⟨2, _⟩ => show (s.val * 1024 + e.val) % 1024 = 64 * (e.val / 64) + e.val % 64; omega

theorem v97_at (t : Fin 32) (r : Fin 128) (g i : Fin 4) (d : Fin 64) :
    val_main_v97 (F := Ideal) x4 (ValueIdx.ix5 t r g i d) = (X.g (place t r) (headOf g i) d : EReal) := by
  have e : val_main_v97 (F := Ideal) x4 (ValueIdx.ix5 t r g i d)
      = val_main_v96 (F := Ideal) x4 (ValueIdx.ix2 (place t r) ⟨64 * (4 * g.val + i.val) + d.val, by omega⟩) := by
    rw [val_main_v97_apply]
    refine read_at _ fun b => ?_
    match b with
    | ⟨0, _⟩ => show ((((t.val * 128 + r.val) * 4 + g.val) * 4 + i.val) * 64 + d.val) / 1024 = 128 * t.val + r.val; omega
    | ⟨1, _⟩ => show ((((t.val * 128 + r.val) * 4 + g.val) * 4 + i.val) * 64 + d.val) % 1024 = 64 * (4 * g.val + i.val) + d.val; omega
  rw [e, v96_at x0 x1 x2 x3 x4 hX]
  congr 2
  · apply Fin.ext
    show (64 * (4 * g.val + i.val) + d.val) / 64 = 4 * g.val + i.val
    omega
  · apply Fin.ext
    show (64 * (4 * g.val + i.val) + d.val) % 64 = d.val
    omega

theorem v51_at (g i : Fin 4) : val_main_v51 (F := Ideal) x3 (ValueIdx.ix5 (0 : Fin 1) g i (0 : Fin 1) (0 : Fin 1)) = (X.σ (headOf g i) : EReal) := by
  rw [val_main_v51_apply, val_main_v50_apply, ← hX.σ]
  refine read_at x3 fun b => ?_
  match b with
  | ⟨0, _⟩ => show g.val * 4 + i.val = 4 * g.val + i.val; omega

end

/-- The reference's mask. -/
theorem v49_1_at (t : Fin 32) (g i : Fin 4) (r : Fin 128) (j : Fin 256) :
    val_main_v49_1 (F := Ideal) (ValueIdx.ix5 t g i r j) = if sees t r j = true then 1#1 else 0#1 := by
  have h : val_main_v49_1 (F := Ideal) (ValueIdx.ix5 t g i r j) = IntOp.andi
      (IntOp.andi (IntOp.cmpi .sge (IntOp.subi (IntOp.addi (BitVec.ofNat 32 r.val) 128#32) (BitVec.ofNat 32 j.val)) 0#32)
        (IntOp.cmpi .slt (IntOp.subi (IntOp.addi (BitVec.ofNat 32 r.val) 128#32) (BitVec.ofNat 32 j.val)) 128#32))
      (IntOp.ori (IntOp.cmpi .sgt (BitVec.ofNat 32 t.val) 0#32) (IntOp.cmpi .sge (BitVec.ofNat 32 j.val) 128#32)) := by
    simp only [val_main_v49_1_apply, val_main_v48_apply, val_main_v47_apply, val_main_v46_apply, val_main_v45_apply, val_main_v44_apply,
      val_main_v43_apply, val_main_v42_apply, val_main_v41_apply, val_main_v40_apply, val_main_v39_apply, val_main_v38_apply,
      val_main_v37_apply, val_main_v36_apply, val_main_v35_apply, val_main_v34_apply, val_main_v33_apply, val_main_v32_apply,
      val_main_v31_apply, val_main_v30_apply, val_main_v29_apply, val_main_v28_apply, val_main_v27_apply, val_main_v26_apply,
      val_main_v25_apply, val_main_v24_apply, val_main_v23_apply, val_main_v22_apply, val_main_v21_apply, val_main_v20_apply]
    rfl
  rw [h, band, late, current]
  unfold sees
  rcases Bool.eq_false_or_eq_true (decide (r.val < j.val) && decide (j.val ≤ r.val + 128)) with h1 | h1 <;>
  rcases Bool.eq_false_or_eq_true (decide (0 < t.val)) with h2 | h2 <;>
  rcases Bool.eq_false_or_eq_true (decide (128 ≤ j.val)) with h3 | h3 <;>
  rw [h1, h2, h3] <;> decide

end Cert.Attn

end
-- ==== Proof.HostRows.lean ====
/- The reference's softmax and its derivative at an index: one row of `Row` each. -/
module

public import proofs.«01_k».proof.Proof.HostLayout

@[expose] public section

set_option maxRecDepth 16384

noncomputable section

namespace Cert.Attn

open Cert.ReferenceIdeal Cert.ReferenceIdeal.Gen Cert.ReferenceIdeal.Read Idealize.ShloMosaic Idealize.SL.Sem
open scoped BigOperators

theorem groupOf_headOf (g i : Fin 4) : groupOf (headOf g i) = g := Fin.ext (by show (4 * g.val + i.val) / 4 = g.val; omega)

theorem one_bits : Ideal.ofBits .f32 0x3F800000#32 = ((1 : ℝ) : EReal) := by
  rw [EReal.coe_one]
  simp [Ideal.ofBits, Ideal.ieee, -EReal.coe_mul]; norm_num

theorem equal_bit (x : EReal) : FloatOps.cmpf (F := Ideal) (φ := .f32) .oeq x x = 1#1 := by
  show Ideal.cmp .oeq x x = 1#1
  simp [Ideal.cmp]

theorem unequal_bit (x y : EReal) (h : x ≠ y) : FloatOps.cmpf (F := Ideal) (φ := .f32) .oeq x y = 0#1 := by
  show Ideal.cmp .oeq x y = 0#1
  simp [Ideal.cmp, h]

/-- The index of a row in an array with a unit axis after it. -/
theorem column_idx (t : Fin 32) (g i : Fin 4) (r : Fin 128) :
    idx_main_v53 (ValueIdx.ix5 t g i r (0 : Fin 1)) = ValueIdx.ix4 t g i r := by
  funext b
  apply Fin.ext
  match b with
  | ⟨0, _⟩ => show ((((t.val * 4 + g.val) * 4 + i.val) * 128 + r.val) * 1 + 0) / 2048 = t.val; omega
  | ⟨1, _⟩ => show ((((t.val * 4 + g.val) * 4 + i.val) * 128 + r.val) * 1 + 0) / 512 % 4 = g.val; omega
  | ⟨2, _⟩ => show ((((t.val * 4 + g.val) * 4 + i.val) * 128 + r.val) * 1 + 0) / 128 % 4 = i.val; omega
  | ⟨3, _⟩ => show ((((t.val * 4 + g.val) * 4 + i.val) * 128 + r.val) * 1 + 0) % 128 = r.val; omega

variable {X : Inputs} (x0 : FVec Ideal S1x4096x16x64 .f32) (x1 x2 : FVec Ideal S1x4096x4x64 .f32) (x3 : FVec Ideal S16 .f32)
  (x4 : FVec Ideal S1x4096x1024 .f32) (hX : Given X x0 x1 x2 x3 x4) (t : Fin 32) (g i : Fin 4) (r : Fin 128)

section
include hX

theorem v19_at (j : Fin 256) : val_main_v19 (F := Ideal) x0 x1 (ValueIdx.ix5 t g i r j) = ((X.row t (headOf g i) r).S j : EReal) := by
  rw [val_main_v19_apply, val_main_v18_apply, val_main_v17_apply, val_main_v16_apply]
  have e : ∀ k : Fin 64, val_main_v14 (F := Ideal) x1 (lidx_main_v16 (idx_main_v17 (ValueIdx.ix5 t g i r j)) k)
      * val_main_v13 (F := Ideal) x0 (ridx_main_v16 (idx_main_v17 (ValueIdx.ix5 t g i r j)) k)
      = ((X.q (place t r) (headOf g i) k * around X.k t (groupOf (headOf g i)) j k : ℝ) : EReal) := fun k => by
    rw [groupOf_headOf, mul_comm, EReal.coe_mul, ← v14_at x1 X.k hX.k t j g k, ← v13_at x0 x1 x2 x3 x4 hX t r g i k]
    congr 1 <;> exact read_at _ fun b => by fin_cases b <;> rfl
  rw [Finset.sum_congr rfl fun k _ => e k, ← coe_sum]
  show ((_ : ℝ) : EReal) * Ideal.ofBits .f32 0x3E000000#32 = _
  rw [eighth, ← EReal.coe_mul]
  rfl

/-- The masked scores. -/
theorem v49_at (j : Fin 256) : val_main_v49_0 (F := Ideal) x0 x1 (ValueIdx.ix5 t g i r j) = (X.row t (headOf g i) r).sc j := by
  rw [val_main_v49_0_apply, v49_1_at, v19_at x0 x1 x2 x3 x4 hX, val_main_call0_v2_apply]
  show Scalar.select _ _ (Ideal.ofBits .f32 0xFF800000#32) = _
  rw [minusInf]
  show _ = if sees t r j = true then _ else _
  cases sees t r j <;> rfl

/-- The largest of them. -/
theorem v52_at : val_main_v52 (F := Ideal) x0 x1 (ValueIdx.ix4 t g i r) = Finset.univ.sup (X.row t (headOf g i) r).sc := by
  unfold val_main_v52
  rw [Host.reduce_eq_fold_single _ _ _ _ (by decide)]
  show (Finset.univ : Finset (Fin 256)).fold max (Ideal.ofBits .f32 0xFF800000#32) _ = _
  rw [minusInf]
  refine Finset.fold_congr fun j _ => ?_
  rw [← v49_at x0 x1 x2 x3 x4 hX]
  exact read_at _ fun b => by fin_cases b <;> rfl

theorem v58_at : val_main_v58 (F := Ideal) x0 x1 (ValueIdx.ix5 t g i r (0 : Fin 1)) = Finset.univ.sup (X.row t (headOf g i) r).sc := by
  rw [val_main_v58_apply, ← v52_at x0 x1 x2 x3 x4 hX]
  exact read_at _ fun b => by fin_cases b <;> rfl

theorem v54_at (j : Fin 256) : val_main_v54 (F := Ideal) x0 x1 (ValueIdx.ix5 t g i r j) = Finset.univ.sup (X.row t (headOf g i) r).sc := by
  rw [val_main_v54_apply, val_main_v53_apply, ← v52_at x0 x1 x2 x3 x4 hX]
  exact congrArg _ (column_idx t g i r)

theorem v59_at : val_main_v59 (F := Ideal) x3 (ValueIdx.ix5 t g i r (0 : Fin 1)) = (X.σ (headOf g i) : EReal) := by
  rw [val_main_v59_apply, ← v51_at x0 x1 x2 x3 x4 hX]
  exact read_at _ fun b => by fin_cases b <;> rfl

theorem v60_at : val_main_v60 (F := Ideal) x0 x1 x3 (ValueIdx.ix5 t g i r (0 : Fin 1)) = ((X.row t (headOf g i) r).M : EReal) := by
  rw [val_main_v60_apply, v58_at x0 x1 x2 x3 x4 hX, v59_at x0 x1 x2 x3 x4 hX, ← Row.top_eq]
  rfl

theorem v81_at (j : Fin 256) : val_main_v81 (F := Ideal) x0 x1 x3 (ValueIdx.ix5 t g i r j) = ((X.row t (headOf g i) r).E j : EReal) := by
  have e : val_main_v79 (F := Ideal) x0 x1 x3 (ValueIdx.ix5 t g i r j) = ((X.row t (headOf g i) r).M : EReal) := by
    rw [val_main_v79_apply, ← v60_at x0 x1 x2 x3 x4 hX]
    exact read_at _ fun b => by fin_cases b <;> rfl
  rw [val_main_v81_apply, val_main_v80_apply, v49_at x0 x1 x2 x3 x4 hX, e, ← Row.exp_sc]
  rfl

theorem v82_at : val_main_v82 (F := Ideal) x0 x1 x3 (ValueIdx.ix4 t g i r) = ((∑ j, (X.row t (headOf g i) r).E j : ℝ) : EReal) := by
  rw [val_main_v82_apply, show val_main_cst_15 (F := Ideal) _ = (0 : EReal) from zero_at _, zero_add, coe_sum]
  refine Finset.sum_congr rfl fun j _ => ?_
  rw [← v81_at x0 x1 x2 x3 x4 hX]
  exact read_at _ fun b => by fin_cases b <;> rfl

theorem v86_at : val_main_v86 (F := Ideal) x0 x1 x3 (ValueIdx.ix5 t g i r (0 : Fin 1)) = ((X.row t (headOf g i) r).ES : EReal) := by
  rw [val_main_v86_apply, val_main_v85_apply, v60_at x0 x1 x2 x3 x4 hX, ← Row.exp_sink,
    show val_main_v84 (F := Ideal) x3 = val_main_v59 (F := Ideal) x3 from rfl, v59_at x0 x1 x2 x3 x4 hX]
  rfl

theorem v87_at : val_main_v87 (F := Ideal) x0 x1 x3 (ValueIdx.ix5 t g i r (0 : Fin 1)) = ((X.row t (headOf g i) r).D : EReal) := by
  have e : val_main_v83 (F := Ideal) x0 x1 x3 (ValueIdx.ix5 t g i r (0 : Fin 1)) = ((∑ j, (X.row t (headOf g i) r).E j : ℝ) : EReal) := by
    rw [val_main_v83_apply, ← v82_at x0 x1 x2 x3 x4 hX]
    exact read_at _ fun b => by fin_cases b <;> rfl
  rw [val_main_v87_apply, e, v86_at x0 x1 x2 x3 x4 hX]
  exact (EReal.coe_add _ _).symm

/-- The denominator, for every key. -/
theorem v88_at (j : Fin 256) : val_main_v88 (F := Ideal) x0 x1 x3 (ValueIdx.ix5 t g i r j) = ((X.row t (headOf g i) r).D : EReal) := by
  rw [val_main_v88_apply, ← v87_at x0 x1 x2 x3 x4 hX]
  exact read_at _ fun b => by fin_cases b <;> rfl

theorem v89_at (j : Fin 256) : val_main_v89 (F := Ideal) x0 x1 x3 (ValueIdx.ix5 t g i r j) = ((X.row t (headOf g i) r).P j : EReal) := by
  rw [val_main_v89_apply, v81_at x0 x1 x2 x3 x4 hX, v88_at x0 x1 x2 x3 x4 hX]
  exact Row.div_real _ _ (Row.D_ne _)

theorem v99_at (j : Fin 256) : val_main_v99 (F := Ideal) x2 x4 (ValueIdx.ix5 t g i r j) = ((X.row t (headOf g i) r).dp j : EReal) := by
  rw [val_main_v99_apply]
  have e : ∀ k : Fin 64, val_main_v98 (F := Ideal) x4 (lidx_main_v99 (ValueIdx.ix5 t g i r j) k)
      * val_main_v15 (F := Ideal) x2 (ridx_main_v99 (ValueIdx.ix5 t g i r j) k)
      = ((X.g (place t r) (headOf g i) k * around X.v t (groupOf (headOf g i)) j k : ℝ) : EReal) := fun k => by
    rw [groupOf_headOf, EReal.coe_mul, ← v15_at x2 X.v hX.v t j g k, ← v97_at x0 x1 x2 x3 x4 hX t r g i k, val_main_v98_apply]
    congr 1 <;> exact read_at _ fun b => by fin_cases b <;> rfl
  rw [Finset.sum_congr rfl fun k _ => e k, ← coe_sum]
  rfl

theorem v102_at (j : Fin 256) : val_main_v102 (F := Ideal) x0 x1 x3 (ValueIdx.ix5 t g i r j)
    = ((1 / ((X.row t (headOf g i) r).D * (X.row t (headOf g i) r).D) : ℝ) : EReal) := by
  have e : val_main_v92 (F := Ideal) x0 x1 x3 (ValueIdx.ix5 t g i r (0 : Fin 1))
      = ((1 / ((X.row t (headOf g i) r).D * (X.row t (headOf g i) r).D) : ℝ) : EReal) := by
    rw [val_main_v92_apply, val_main_v90_apply, v87_at x0 x1 x2 x3 x4 hX, val_main_v91_apply]
    show Ideal.div (Ideal.ofBits .f32 0x3F800000#32) (((_ : ℝ) : EReal) * ((_ : ℝ) : EReal)) = _
    rw [one_bits, ← EReal.coe_mul]
    exact Row.div_real _ _ (mul_ne_zero (Row.D_ne _) (Row.D_ne _))
  rw [val_main_v102_apply, ← e]
  exact read_at _ fun b => by fin_cases b <;> rfl

theorem v104_at (j : Fin 256) : val_main_v104 (F := Ideal) x0 x1 x2 x3 x4 (ValueIdx.ix5 t g i r j)
    = (((X.row t (headOf g i) r).dp j * (1 / ((X.row t (headOf g i) r).D * (X.row t (headOf g i) r).D)) * (X.row t (headOf g i) r).E j : ℝ) : EReal) := by
  rw [val_main_v104_apply, val_main_v103_apply, v99_at x0 x1 x2 x3 x4 hX, v102_at x0 x1 x2 x3 x4 hX, v81_at x0 x1 x2 x3 x4 hX,
    EReal.coe_mul, EReal.coe_mul]
  rfl

theorem v105_at : val_main_v105 (F := Ideal) x0 x1 x2 x3 x4 (ValueIdx.ix4 t g i r)
    = ((∑ j, (X.row t (headOf g i) r).dp j * (1 / ((X.row t (headOf g i) r).D * (X.row t (headOf g i) r).D)) * (X.row t (headOf g i) r).E j : ℝ) : EReal) := by
  rw [val_main_v105_apply, show val_main_cst_17 (F := Ideal) _ = (0 : EReal) from zero_at _, zero_add, coe_sum]
  refine Finset.sum_congr rfl fun j _ => ?_
  rw [← v104_at x0 x1 x2 x3 x4 hX]
  exact read_at _ fun b => by fin_cases b <;> rfl

theorem v107_at : val_main_v107 (F := Ideal) x0 x1 x2 x3 x4 (ValueIdx.ix5 t g i r (0 : Fin 1)) = ((X.row t (headOf g i) r).U : EReal) := by
  rw [val_main_v107_apply, val_main_v106_apply]
  unfold Row.U
  rw [EReal.coe_neg, ← v105_at x0 x1 x2 x3 x4 hX]
  exact congrArg (fun y => -val_main_v105 (F := Ideal) x0 x1 x2 x3 x4 y) (column_idx t g i r)

theorem v109_at (j : Fin 256) : val_main_v109 (F := Ideal) x0 x1 x2 x3 x4 (ValueIdx.ix5 t g i r j)
    = (((X.row t (headOf g i) r).dp j / (X.row t (headOf g i) r).D : ℝ) : EReal) := by
  rw [val_main_v109_apply, v99_at x0 x1 x2 x3 x4 hX, show val_main_v108 (F := Ideal) x0 x1 x3 = val_main_v88 (F := Ideal) x0 x1 x3 from rfl,
    v88_at x0 x1 x2 x3 x4 hX]
  exact Row.div_real _ _ (Row.D_ne _)

theorem v110_at : val_main_v110 (F := Ideal) x0 x1 x2 x3 x4 (ValueIdx.ix5 t g i r (0 : Fin 1))
    = (((X.row t (headOf g i) r).U * (X.row t (headOf g i) r).ES : ℝ) : EReal) := by
  rw [val_main_v110_apply, v107_at x0 x1 x2 x3 x4 hX, v86_at x0 x1 x2 x3 x4 hX, EReal.coe_mul]
  rfl

theorem v114_at : val_main_v114 (F := Ideal) x0 x1 x2 x3 x4 (ValueIdx.ix4 t g i r) = ((X.row t (headOf g i) r).U : EReal) := by
  rw [val_main_v114_apply, show val_main_cst_19 (F := Ideal) _ = (0 : EReal) from zero_at _, zero_add, Finset.univ_unique, Finset.sum_singleton,
    ← v107_at x0 x1 x2 x3 x4 hX]
  exact read_at _ fun b => by fin_cases b <;> rfl

theorem v117_sum (j : Fin 256) : val_main_v117 (F := Ideal) x0 x1 x2 x3 x4 (ValueIdx.ix5 t g i r j)
    = ((((X.row t (headOf g i) r).dp j / (X.row t (headOf g i) r).D + (X.row t (headOf g i) r).U) * (X.row t (headOf g i) r).E j : ℝ) : EReal) := by
  have e : val_main_v115 (F := Ideal) x0 x1 x2 x3 x4 (ValueIdx.ix5 t g i r j) = ((X.row t (headOf g i) r).U : EReal) := by
    rw [val_main_v115_apply, ← v114_at x0 x1 x2 x3 x4 hX]
    exact read_at _ fun b => by fin_cases b <;> rfl
  rw [val_main_v117_apply, val_main_v116_apply, v109_at x0 x1 x2 x3 x4 hX, e, v81_at x0 x1 x2 x3 x4 hX, EReal.coe_mul, EReal.coe_add]
  rfl

/-- What reaches the row's maximum: nothing. -/
theorem v121_at : val_main_v121 (F := Ideal) x0 x1 x2 x3 x4 (ValueIdx.ix5 t g i r (0 : Fin 1)) = (0 : EReal) := by
  have e1 : val_main_v119 (F := Ideal) x0 x1 x2 x3 x4 (ValueIdx.ix4 t g i r)
      = ((∑ j, -(((X.row t (headOf g i) r).dp j / (X.row t (headOf g i) r).D + (X.row t (headOf g i) r).U) * (X.row t (headOf g i) r).E j) : ℝ) : EReal) := by
    rw [val_main_v119_apply, show val_main_cst_20 (F := Ideal) _ = (0 : EReal) from zero_at _, zero_add, coe_sum]
    refine Finset.sum_congr rfl fun j _ => ?_
    rw [EReal.coe_neg, ← v117_sum x0 x1 x2 x3 x4 hX, val_main_v118_apply]
    refine congrArg (fun y : EReal => -y) ?_
    exact read_at _ fun b => by fin_cases b <;> rfl
  have e2 : val_main_v120 (F := Ideal) x0 x1 x2 x3 x4 (ValueIdx.ix5 t g i r (0 : Fin 1))
      = ((∑ j, -(((X.row t (headOf g i) r).dp j / (X.row t (headOf g i) r).D + (X.row t (headOf g i) r).U) * (X.row t (headOf g i) r).E j) : ℝ) : EReal) := by
    rw [val_main_v120_apply, ← e1]
    exact congrArg _ (column_idx t g i r)
  rw [val_main_v121_apply, e2, val_main_v113_apply, v110_at x0 x1 x2 x3 x4 hX]
  show -((_ : ℝ) : EReal) + ((_ : ℝ) : EReal) = 0
  rw [← EReal.coe_neg, ← EReal.coe_add, Row.chain_top, EReal.coe_zero]

theorem v122_at : val_main_v122 (F := Ideal) x0 x1 x2 x3 x4 (ValueIdx.ix5 t g i r (0 : Fin 1)) = (0 : EReal) := by
  rw [val_main_v122_apply, v121_at x0 x1 x2 x3 x4 hX]
  exact zero_mul _

/-- How many keys attain the maximum: at least one, and finitely many. -/
theorem v57_at : ∃ n : ℝ, n ≠ 0 ∧ val_main_v57 (F := Ideal) x0 x1 (ValueIdx.ix4 t g i r) = (n : EReal) := by
  have e : ∀ j : Fin 256, val_main_v56 (F := Ideal) x0 x1 (ValueIdx.ix5 t g i r j)
      = ((if (X.row t (headOf g i) r).sc j = Finset.univ.sup (X.row t (headOf g i) r).sc then 1 else 0 : ℝ) : EReal) := fun j => by
    rw [val_main_v56_apply, val_main_v55_apply, v49_at x0 x1 x2 x3 x4 hX, v54_at x0 x1 x2 x3 x4 hX]
    by_cases h : (X.row t (headOf g i) r).sc j = Finset.univ.sup (X.row t (headOf g i) r).sc
    · rw [if_pos h, h, equal_bit]
      show (((1#1 : BitVec 1).toNat : ℝ) : EReal) = _
      simp
    · rw [if_neg h, unequal_bit _ _ h]
      show (((0#1 : BitVec 1).toNat : ℝ) : EReal) = _
      simp
  refine ⟨∑ j, (if (X.row t (headOf g i) r).sc j = Finset.univ.sup (X.row t (headOf g i) r).sc then 1 else 0 : ℝ), ?_, ?_⟩
  · obtain ⟨j, -, hj⟩ := Finset.exists_mem_eq_sup Finset.univ ⟨(0 : Fin 256), Finset.mem_univ _⟩ (X.row t (headOf g i) r).sc
    refine ne_of_gt (lt_of_lt_of_le zero_lt_one ?_)
    refine le_trans ?_ (Finset.single_le_sum (f := fun j => (if (X.row t (headOf g i) r).sc j = Finset.univ.sup (X.row t (headOf g i) r).sc then 1 else 0 : ℝ))
      (fun j _ => by split <;> norm_num) (Finset.mem_univ j))
    rw [if_pos hj.symm]
  · rw [val_main_v57_apply, show val_main_cst_8 (F := Ideal) _ = (0 : EReal) from zero_at _, zero_add, coe_sum]
    refine Finset.sum_congr rfl fun j _ => ?_
    rw [← e]
    exact read_at _ fun b => by fin_cases b <;> rfl

theorem v131_at (j : Fin 256) : val_main_v131 (F := Ideal) x0 x1 x2 x3 x4 (ValueIdx.ix5 t g i r j) = ((X.row t (headOf g i) r).G j : EReal) := by
  obtain ⟨n, hn, e57⟩ := v57_at x0 x1 x2 x3 x4 hX t g i r
  have e126 : val_main_v126 (F := Ideal) x0 x1 x2 x3 x4 (ValueIdx.ix5 t g i r (0 : Fin 1)) = (0 : EReal) := by
    rw [val_main_v126_apply, v121_at x0 x1 x2 x3 x4 hX]
    exact zero_mul _
  have e127 : val_main_v127 (F := Ideal) x0 x1 x2 x3 x4 (ValueIdx.ix4 t g i r) = (0 : EReal) := by
    rw [val_main_v127_apply, show val_main_cst_22 (F := Ideal) _ = (0 : EReal) from zero_at _, zero_add, Finset.univ_unique, Finset.sum_singleton, ← e126]
    exact read_at _ fun b => by fin_cases b <;> rfl
  have e129 : val_main_v129 (F := Ideal) x0 x1 x2 x3 x4 (ValueIdx.ix5 t g i r j) = (0 : EReal) := by
    rw [val_main_v129_apply]
    refine (read_at _ (y := ValueIdx.ix4 t g i r) fun b => by fin_cases b <;> rfl).trans ?_
    rw [val_main_v128_apply, e127, e57]
    show Ideal.div ((0 : EReal)) (n : EReal) = 0
    rw [Ideal.div_coe hn, zero_mul]
  rw [val_main_v131_apply, val_main_v130_apply, e129, v117_sum x0 x1 x2 x3 x4 hX, Row.chain]
  show _ + (0 : EReal) * _ = _
  rw [zero_mul, add_zero]

theorem v136_at (j : Fin 256) : val_main_v136 (F := Ideal) x0 x1 x2 x3 x4 (ValueIdx.ix5 t g i r j) = ((X.row t (headOf g i) r).DS j : EReal) := by
  have e : val_main_v134 (F := Ideal) x0 x1 x2 x3 x4 (ValueIdx.ix5 t g i r j) = ((X.row t (headOf g i) r).G j : EReal) := by
    rw [val_main_v134_apply, v49_1_at, v131_at x0 x1 x2 x3 x4 hX, val_main_call1_v0_apply]
    cases h : sees t r j
    · rw [Row.G_masked _ (j := j) h]
      show Ideal.ofBits .f32 0x00000000#32 = _
      rw [Ideal.ofBits_zero_f32, EReal.coe_zero]
    · rfl
  rw [val_main_v136_apply, e, val_main_v135_apply]
  show ((_ : ℝ) : EReal) * Ideal.ofBits .f32 0x3E000000#32 = _
  rw [eighth, ← EReal.coe_mul]
  rfl

end

end Cert.Attn

end
-- ==== Proof.HostResults.lean ====
/- The reference's six results. -/
module

public import proofs.«01_k».proof.Proof.HostRows
public import Idealize.ShloMosaic.Lib.TwoAxisContraction

@[expose] public section

set_option maxRecDepth 16384

noncomputable section

namespace Cert.Attn

open Cert.ReferenceIdeal Cert.ReferenceIdeal.Gen Cert.ReferenceIdeal.Read Idealize.ShloMosaic Idealize.SL.Sem
open scoped BigOperators

/-! ## Products over two axes -/

abbrev valuesDims := dot_S32x4x64x4x128_S32x4x4x128x256_S32x4x64x256_34_23_2_4_01_01
abbrev keysDims := dot_S32x4x256x128x4_S32x128x4x4x64_S32x4x256x64_34_13_2_4_01_02

theorem valuesProduct_at (a : FVec Ideal S32x4x64x4x128 .f32) (b : FVec Ideal S32x4x4x128x256 .f32) (t : Fin 32) (g : Fin 4) (d : Fin 64) (j : Fin 256) :
    Host.dotGeneral valuesDims none a b (ValueIdx.ix4 t g d j)
      = ∑ i : Fin 4, ∑ r : Fin 128, a (ValueIdx.ix5 t g d i r) * b (ValueIdx.ix5 t g i r j) := by
  simp only [Host.dotGeneral]
  rw [Ideal.dotGeneral_apply, ValueIdx.sum_contr2 valuesDims 4 128 rfl rfl rfl]
  refine Finset.sum_congr rfl fun i _ => Finset.sum_congr rfl fun r _ => ?_
  have h0 := ValueIdx.contrEquiv2_symm_val0 valuesDims 4 128 rfl rfl rfl (i, r)
  have h1 := ValueIdx.contrEquiv2_symm_val1 valuesDims 4 128 rfl rfl rfl (i, r)
  generalize (ValueIdx.contrEquiv2 valuesDims 4 128 rfl rfl rfl).symm (i, r) = q at h0 h1
  have e : a (valuesDims.lhsIdx (ValueIdx.ix4 t g d j) q) = a (ValueIdx.ix5 t g d i r) := read_at a fun c => by
    match c with
    | ⟨0, _⟩ => rfl
    | ⟨1, _⟩ => rfl
    | ⟨2, _⟩ => rfl
    | ⟨3, _⟩ => exact h0
    | ⟨4, _⟩ => exact h1
  have e' : b (valuesDims.rhsIdx (ValueIdx.ix4 t g d j) q) = b (ValueIdx.ix5 t g i r j) := read_at b fun c => by
    match c with
    | ⟨0, _⟩ => rfl
    | ⟨1, _⟩ => rfl
    | ⟨2, _⟩ => exact h0
    | ⟨3, _⟩ => exact h1
    | ⟨4, _⟩ => rfl
  rw [e, e']

theorem keysProduct_at (a : FVec Ideal S32x4x256x128x4 .f32) (b : FVec Ideal S32x128x4x4x64 .f32) (t : Fin 32) (g : Fin 4) (j : Fin 256) (d : Fin 64) :
    Host.dotGeneral keysDims none a b (ValueIdx.ix4 t g j d)
      = ∑ r : Fin 128, ∑ i : Fin 4, a (ValueIdx.ix5 t g j r i) * b (ValueIdx.ix5 t r g i d) := by
  simp only [Host.dotGeneral]
  rw [Ideal.dotGeneral_apply, ValueIdx.sum_contr2 keysDims 128 4 rfl rfl rfl]
  refine Finset.sum_congr rfl fun r _ => Finset.sum_congr rfl fun i _ => ?_
  have h0 := ValueIdx.contrEquiv2_symm_val0 keysDims 128 4 rfl rfl rfl (r, i)
  have h1 := ValueIdx.contrEquiv2_symm_val1 keysDims 128 4 rfl rfl rfl (r, i)
  generalize (ValueIdx.contrEquiv2 keysDims 128 4 rfl rfl rfl).symm (r, i) = q at h0 h1
  have e : a (keysDims.lhsIdx (ValueIdx.ix4 t g j d) q) = a (ValueIdx.ix5 t g j r i) := read_at a fun c => by
    match c with
    | ⟨0, _⟩ => rfl
    | ⟨1, _⟩ => rfl
    | ⟨2, _⟩ => rfl
    | ⟨3, _⟩ => exact h0
    | ⟨4, _⟩ => exact h1
  have e' : b (keysDims.rhsIdx (ValueIdx.ix4 t g j d) q) = b (ValueIdx.ix5 t r g i d) := read_at b fun c => by
    match c with
    | ⟨0, _⟩ => rfl
    | ⟨1, _⟩ => exact h0
    | ⟨2, _⟩ => rfl
    | ⟨3, _⟩ => exact h1
    | ⟨4, _⟩ => rfl
  rw [e, e']

/-! ## Sums over the blocks and their rows -/

/-- A sum over the first axis and the fourth. -/
theorem blocksSum_at (a : FVec Ideal S32x4x4x128x1 .f32) (z : FVec Ideal S_ .f32) (g i : Fin 4) :
    Host.reduceAdd a z reducesTo_S32x4x4x128x1_S4x4x1_d0_3 h_S_ (ValueIdx.ix3 g i (0 : Fin 1))
      = z (Shape.Idx.first h_S_) + ∑ p : Fin 32 × Fin 128, a (ValueIdx.ix5 p.1 g i p.2 (0 : Fin 1)) := by
  simp only [Host.reduceAdd, Ideal.hostReduceAdd_def]
  refine congrArg (_ + ·) (Finset.sum_filter_eq_sum_of_fiber _ (fun p : Fin 32 × Fin 128 => ValueIdx.ix5 p.1 g i p.2 (0 : Fin 1)) ?_ ?_ _)
  · intro p p' e
    exact Prod.ext (congrFun e 0) (congrFun e 3)
  · intro y
    constructor
    · intro e
      refine ⟨(y 0, y 3), ?_⟩
      have e0 : (y 1).val = g.val := congrArg Fin.val (congrFun e 0)
      have e1 : (y 2).val = i.val := congrArg Fin.val (congrFun e 1)
      funext b
      apply Fin.ext
      match b with
      | ⟨0, _⟩ => rfl
      | ⟨1, _⟩ => exact e0.symm
      | ⟨2, _⟩ => exact e1.symm
      | ⟨3, _⟩ => rfl
      | ⟨4, _⟩ => show 0 = (y 4).val; have : (y 4).val < 1 := (y 4).isLt; omega
    · rintro ⟨p, rfl⟩
      funext b
      apply Fin.ext
      match b with
      | ⟨0, _⟩ => rfl
      | ⟨1, _⟩ => rfl
      | ⟨2, _⟩ => rfl

/-- A sum over unit axes. -/
theorem unitSum_at (a : FVec Ideal S1x4x4x1x1 .f32) (z : FVec Ideal S_ .f32) (g i : Fin 4) :
    Host.reduceAdd a z reducesTo_S1x4x4x1x1_S4x4_d0_3_4 h_S_ (ValueIdx.ix2 g i)
      = z (Shape.Idx.first h_S_) + a (ValueIdx.ix5 (0 : Fin 1) g i (0 : Fin 1) (0 : Fin 1)) := by
  simp only [Host.reduceAdd, Ideal.hostReduceAdd_def]
  refine congrArg (_ + ·) ((Finset.sum_filter_eq_sum_of_fiber _ (fun _ : Fin 1 => ValueIdx.ix5 (0 : Fin 1) g i (0 : Fin 1) (0 : Fin 1)) ?_ ?_ _).trans ?_)
  · intro p p' e
    exact Subsingleton.elim _ _
  · intro y
    constructor
    · intro e
      refine ⟨0, ?_⟩
      have e0 : (y 1).val = g.val := congrArg Fin.val (congrFun e 0)
      have e1 : (y 2).val = i.val := congrArg Fin.val (congrFun e 1)
      funext b
      apply Fin.ext
      match b with
      | ⟨0, _⟩ => show 0 = (y 0).val; have : (y 0).val < 1 := (y 0).isLt; omega
      | ⟨1, _⟩ => exact e0.symm
      | ⟨2, _⟩ => exact e1.symm
      | ⟨3, _⟩ => show 0 = (y 3).val; have : (y 3).val < 1 := (y 3).isLt; omega
      | ⟨4, _⟩ => show 0 = (y 4).val; have : (y 4).val < 1 := (y 4).isLt; omega
    · rintro ⟨p, rfl⟩
      funext b
      apply Fin.ext
      match b with
      | ⟨0, _⟩ => rfl
      | ⟨1, _⟩ => rfl
  · rw [Finset.univ_unique, Finset.sum_singleton]

/-! ## Lanes filled up -/

/-- The padding's zero. -/
theorem hostFill (i : S_.Idx) : val_main_call2_v0 (F := Ideal) i = 0 := by
  show ((((0#32 : BitVec 32).toInt : ℤ) : ℝ) : EReal) = 0
  simp

theorem heads_at (a : FVec Ideal S4096x16x64 .f32) (f : Fin 4096 → Fin 16 → Fin 64 → ℝ)
    (ha : ∀ s h d, a (ValueIdx.ix3 s h d) = (f s h d : EReal)) (s : Fin 4096) (h : Fin 16) (d : Fin 128) :
    pad S4096x16x128 ![0, 0, 0] ![0, 0, 64] ![0, 0, 0] a (val_main_call2_v0 (F := Ideal)) pads_S4096x16x64_S4096x16x128_000_000_0640 h_S_
      (ValueIdx.ix3 s h d) = lane (f s h) d := by
  unfold lane
  by_cases hd : d.val < 64
  · rw [dif_pos hd, ← ha]
    exact pad_apply_of_inside _ _ _ _ _ _ _ _ (ValueIdx.ix3 s h (⟨d.val, hd⟩ : Fin 64)) (by
      intro b
      match b with
      | ⟨0, _⟩ => show s.val = 0 + s.val * 1; omega
      | ⟨1, _⟩ => show h.val = 0 + h.val * 1; omega
      | ⟨2, _⟩ => show d.val = 0 + d.val * 1; omega)
  · rw [dif_neg hd]
    refine (pad_apply_of_not_inside _ _ _ _ _ _ _ _ (2 : Fin 3) (by
      rintro ⟨_, _, h3⟩
      have : (d.val - 0) / 1 < 64 := h3
      omega)).trans (hostFill _)

/-- A gradient of a block's keys or values, in the layout of the results. -/
def groups (b : FVec Ideal S32x128x4x64 .f32) : FVec Ideal S4096x512 .f32 :=
  shapeCast S4096x512 (pad S4096x4x128 ![0, 0, 0] ![0, 0, 64] ![0, 0, 0]
    (shapeCast S4096x4x64 b shapeCasts_S32x128x4x64_S4096x4x64) (val_main_call2_v0 (F := Ideal)) pads_S4096x4x64_S4096x4x128_000_000_0640 h_S_)
    shapeCasts_S4096x4x128_S4096x512

theorem groups_at (b : FVec Ideal S32x128x4x64 .f32) (f : Fin 32 → Fin 4 → Fin 256 → Fin 64 → ℝ) (off : ℕ) (ho : off ≤ 128)
    (hb : ∀ t (r : Fin 128) g d, b (ValueIdx.ix4 t r g d) = (f t g ⟨off + r.val, by omega⟩ d : EReal)) : groups b = Inputs.resKv f off ho := by
  suffices hs : ∀ (s : Fin 4096) (e : Fin 512), groups b (ValueIdx.ix2 s e)
      = lane (f (blockAt s) ⟨e.val / 128, by omega⟩ ⟨off + (rowAt s).val, by have := (rowAt s).isLt; omega⟩) ⟨e.val % 128, by omega⟩ by
    funext y
    refine (read_at (groups b) (y := ValueIdx.ix2 (y 0) (y 1)) fun c => ?_).trans (hs (y 0) (y 1))
    match c with
    | ⟨0, _⟩ => rfl
    | ⟨1, _⟩ => rfl
  intro s e
  unfold groups
  refine (shapeCast_apply _ _ _ (ValueIdx.ix3 s (⟨e.val / 128, by omega⟩ : Fin 4) (⟨e.val % 128, by omega⟩ : Fin 128)) (by
    rw [Shape.rowMajor_val_two, Shape.rowMajor_val_three]
    show (s.val * 4 + e.val / 128) * 128 + e.val % 128 = s.val * 512 + e.val; omega)).trans ?_
  unfold lane
  by_cases hd : e.val % 128 < 64
  · rw [dif_pos hd, ← hb]
    refine (pad_apply_of_inside _ _ _ _ _ _ _ _ (ValueIdx.ix3 s (⟨e.val / 128, by omega⟩ : Fin 4) (⟨e.val % 128, hd⟩ : Fin 64)) (by
      intro b
      match b with
      | ⟨0, _⟩ => show s.val = 0 + s.val * 1; omega
      | ⟨1, _⟩ => show e.val / 128 = 0 + e.val / 128 * 1; omega
      | ⟨2, _⟩ => show e.val % 128 = 0 + e.val % 128 * 1; omega)).trans ?_
    exact shapeCast_apply _ _ _ _ (by
      rw [Shape.rowMajor_val_three, Shape.rowMajor_val_four]
      show ((s.val / 128 * 128 + s.val % 128) * 4 + e.val / 128) * 64 + e.val % 128
        = (s.val * 4 + e.val / 128) * 64 + e.val % 128
      omega)
  · rw [dif_neg hd]
    refine (pad_apply_of_not_inside _ _ _ _ _ _ _ _ (2 : Fin 3) (by
      rintro ⟨_, _, h3⟩
      have : (e.val % 128 - 0) / 1 < 64 := h3
      omega)).trans (hostFill _)

/-! ## The results -/

variable {X : Inputs} (x0 : FVec Ideal S1x4096x16x64 .f32) (x1 x2 : FVec Ideal S1x4096x4x64 .f32) (x3 : FVec Ideal S16 .f32)
  (x4 : FVec Ideal S1x4096x1024 .f32) (hX : Given X x0 x1 x2 x3 x4)
include hX

theorem v101_at (t : Fin 32) (j : Fin 256) (g : Fin 4) (d : Fin 64) :
    val_main_v101 (F := Ideal) x0 x1 x3 x4 (ValueIdx.ix4 t j g d) = (X.dv t g j d : EReal) := by
  rw [val_main_v101_apply]
  refine (read_at _ (y := ValueIdx.ix4 t g d j) fun b => by fin_cases b <;> rfl).trans ?_
  unfold val_main_v100
  rw [valuesProduct_at]
  unfold Inputs.dv
  rw [coe_sum]
  refine Finset.sum_congr rfl fun i _ => ?_
  rw [coe_sum]
  refine Finset.sum_congr rfl fun r _ => ?_
  rw [v89_at x0 x1 x2 x3 x4 hX, mul_comm, EReal.coe_mul, ← v97_at x0 x1 x2 x3 x4 hX t r g i d, val_main_v98_apply]
  exact congrArg (_ * ·) (read_at _ fun b => by fin_cases b <;> rfl)

theorem v141_at (t : Fin 32) (j : Fin 256) (g : Fin 4) (d : Fin 64) :
    val_main_v141 (F := Ideal) x0 x1 x2 x3 x4 (ValueIdx.ix4 t j g d) = (X.dk t g j d : EReal) := by
  rw [val_main_v141_apply]
  refine (read_at _ (y := ValueIdx.ix4 t g j d) fun b => by fin_cases b <;> rfl).trans ?_
  unfold val_main_v140
  rw [keysProduct_at, Finset.sum_comm]
  unfold Inputs.dk
  rw [coe_sum]
  refine Finset.sum_congr rfl fun i _ => ?_
  rw [coe_sum]
  refine Finset.sum_congr rfl fun r _ => ?_
  rw [v13_at x0 x1 x2 x3 x4 hX, EReal.coe_mul, ← v136_at x0 x1 x2 x3 x4 hX t g i r j, val_main_v137_apply]
  exact congrArg (· * _) (read_at _ fun b => by fin_cases b <;> rfl)

theorem v138_at (t : Fin 32) (g : Fin 4) (r : Fin 128) (i : Fin 4) (d : Fin 64) :
    val_main_v138 (F := Ideal) x0 x1 x2 x3 x4 (ValueIdx.ix5 t g r i d) = (X.dq t (headOf g i) r d : EReal) := by
  rw [val_main_v138_apply]
  have e : ∀ j : Fin 256, val_main_v137 (F := Ideal) x0 x1 x2 x3 x4 (lidx_main_v138 (ValueIdx.ix5 t g r i d) j)
      * val_main_v14 (F := Ideal) x1 (ridx_main_v138 (ValueIdx.ix5 t g r i d) j)
      = (((X.row t (headOf g i) r).DS j * around X.k t (groupOf (headOf g i)) j d : ℝ) : EReal) := fun j => by
    have e1 : val_main_v137 (F := Ideal) x0 x1 x2 x3 x4 (lidx_main_v138 (ValueIdx.ix5 t g r i d) j)
        = ((X.row t (headOf g i) r).DS j : EReal) := by
      rw [val_main_v137_apply, ← v136_at x0 x1 x2 x3 x4 hX t g i r j]
      exact read_at (val_main_v136 (F := Ideal) x0 x1 x2 x3 x4) fun b => by fin_cases b <;> rfl
    have e2 : val_main_v14 (F := Ideal) x1 (ridx_main_v138 (ValueIdx.ix5 t g r i d) j) = (around X.k t g j d : EReal) := by
      rw [← v14_at x1 X.k hX.k t j g d]
      exact read_at (val_main_v14 (F := Ideal) x1) fun b => by fin_cases b <;> rfl
    rw [e1, e2, groupOf_headOf, EReal.coe_mul]
  rw [Finset.sum_congr rfl fun j _ => e j, ← coe_sum]
  rfl

theorem v146_at (s : Fin 4096) (h : Fin 16) (d : Fin 64) :
    val_main_v146 (F := Ideal) x0 x1 x2 x3 x4 (ValueIdx.ix3 s h d) = (X.dq (blockAt s) h (rowAt s) d : EReal) := by
  have hh : headOf (groupOf h) ⟨h.val % 4, by omega⟩ = h := Fin.ext (by show 4 * (h.val / 4) + h.val % 4 = h.val; omega)
  rw [val_main_v146_apply, val_main_v139_apply]
  refine Eq.trans ?_ ((v138_at x0 x1 x2 x3 x4 hX (blockAt s) (groupOf h) (rowAt s) ⟨h.val % 4, by omega⟩ d).trans (by rw [hh]))
  refine read_at _ fun b => ?_
  match b with
  | ⟨0, _⟩ => show ((s.val * 16 + h.val) * 64 + d.val) / 131072 = s.val / 128; omega
  | ⟨1, _⟩ => show ((s.val * 16 + h.val) * 64 + d.val) / 256 % 4 = h.val / 4; omega
  | ⟨2, _⟩ => show ((s.val * 16 + h.val) * 64 + d.val) / 1024 % 128 = s.val % 128; omega
  | ⟨3, _⟩ => show ((s.val * 16 + h.val) * 64 + d.val) / 64 % 4 = h.val % 4; omega
  | ⟨4, _⟩ => show ((s.val * 16 + h.val) * 64 + d.val) % 64 = d.val; omega

theorem host_dq : val_main_v148 (F := Ideal) x0 x1 x2 x3 x4 = X.resDq := by
  funext y
  have h1 : (y 1).val < 2048 := (y 1).isLt
  have h0 : (y 0).val < 4096 := (y 0).isLt
  rw [val_main_v148_apply]
  refine Eq.trans ?_ (heads_at (val_main_v146 (F := Ideal) x0 x1 x2 x3 x4) (fun s h d => X.dq (blockAt s) h (rowAt s) d)
    (v146_at x0 x1 x2 x3 x4 hX) (y 0) ⟨(y 1).val / 128, by omega⟩ ⟨(y 1).val % 128, by omega⟩)
  refine read_at (val_main_v147 (F := Ideal) x0 x1 x2 x3 x4) fun b => ?_
  match b with
  | ⟨0, _⟩ => show ((y 0).val * 2048 + (y 1).val) / 2048 = (y 0).val; omega
  | ⟨1, _⟩ => show ((y 0).val * 2048 + (y 1).val) / 128 % 16 = (y 1).val / 128; omega
  | ⟨2, _⟩ => show ((y 0).val * 2048 + (y 1).val) % 128 = (y 1).val % 128; omega

theorem host_dkc : val_main_v151 (F := Ideal) x0 x1 x2 x3 x4 = Inputs.resKv X.dk 128 (le_refl _) :=
  groups_at (val_main_v145 (F := Ideal) x0 x1 x2 x3 x4) _ _ _ fun t r g d => by
    rw [val_main_v145_apply, ← v141_at x0 x1 x2 x3 x4 hX]
    exact read_at _ fun b => by fin_cases b <;> rfl

theorem host_dkp : val_main_v154 (F := Ideal) x0 x1 x2 x3 x4 = Inputs.resKv X.dk 0 (Nat.zero_le _) :=
  groups_at (val_main_v144 (F := Ideal) x0 x1 x2 x3 x4) _ _ _ fun t r g d => by
    rw [val_main_v144_apply, ← v141_at x0 x1 x2 x3 x4 hX]
    refine read_at _ fun b => ?_
    match b with
    | ⟨0, _⟩ => rfl
    | ⟨1, _⟩ => show r.val = 0 + r.val; omega
    | ⟨2, _⟩ => rfl
    | ⟨3, _⟩ => rfl

theorem host_dvc : val_main_v157 (F := Ideal) x0 x1 x3 x4 = Inputs.resKv X.dv 128 (le_refl _) :=
  groups_at (val_main_v143 (F := Ideal) x0 x1 x3 x4) _ _ _ fun t r g d => by
    rw [val_main_v143_apply, ← v101_at x0 x1 x2 x3 x4 hX]
    exact read_at _ fun b => by fin_cases b <;> rfl

theorem host_dvp : val_main_v160 (F := Ideal) x0 x1 x3 x4 = Inputs.resKv X.dv 0 (Nat.zero_le _) :=
  groups_at (val_main_v142 (F := Ideal) x0 x1 x3 x4) _ _ _ fun t r g d => by
    rw [val_main_v142_apply, ← v101_at x0 x1 x2 x3 x4 hX]
    refine read_at _ fun b => ?_
    match b with
    | ⟨0, _⟩ => rfl
    | ⟨1, _⟩ => show r.val = 0 + r.val; omega
    | ⟨2, _⟩ => rfl
    | ⟨3, _⟩ => rfl

theorem v133_at (h : Fin 16) : val_main_v133 (F := Ideal) x0 x1 x2 x3 x4 (ValueIdx.ix1 h) = ((∑ t, X.ds t h : ℝ) : EReal) := by
  have hh : headOf (groupOf h) ⟨h.val % 4, by omega⟩ = h := Fin.ext (by show 4 * (h.val / 4) + h.val % 4 = h.val; omega)
  have e : ∀ g i : Fin 4, val_main_v132 (F := Ideal) x0 x1 x2 x3 x4 (ValueIdx.ix2 g i) = ((∑ t, X.ds t (headOf g i) : ℝ) : EReal) := fun g i => by
    have hi : idx_main_v112 (ValueIdx.ix5 (0 : Fin 1) g i (0 : Fin 1) (0 : Fin 1)) = ValueIdx.ix3 g i (0 : Fin 1) := by
      funext b
      apply Fin.ext
      match b with
      | ⟨0, _⟩ => show ((((0 * 4 + g.val) * 4 + i.val) * 1 + 0) * 1 + 0) / 4 = g.val; omega
      | ⟨1, _⟩ => show ((((0 * 4 + g.val) * 4 + i.val) * 1 + 0) * 1 + 0) / 1 % 4 = i.val; omega
      | ⟨2, _⟩ => rfl
    have e112 : val_main_v112 (F := Ideal) x0 x1 x2 x3 x4 (ValueIdx.ix5 (0 : Fin 1) g i (0 : Fin 1) (0 : Fin 1))
        = ((∑ t, X.ds t (headOf g i) : ℝ) : EReal) := by
      rw [val_main_v112_apply, hi]
      unfold val_main_v111
      rw [blocksSum_at, show val_main_cst_18 (F := Ideal) _ = (0 : EReal) from zero_at _, zero_add, Fintype.sum_prod_type, coe_sum]
      refine Finset.sum_congr rfl fun t _ => ?_
      unfold Inputs.ds
      rw [← Finset.sum_neg_distrib, coe_sum]
      refine Finset.sum_congr rfl fun r _ => ?_
      rw [v110_at x0 x1 x2 x3 x4 hX, Row.chain_sink]
    have e124 : val_main_v124 (F := Ideal) x0 x1 x2 x3 x4 (ValueIdx.ix5 (0 : Fin 1) g i (0 : Fin 1) (0 : Fin 1)) = (0 : EReal) := by
      rw [val_main_v124_apply]
      refine (congrArg _ hi).trans ?_
      unfold val_main_v123
      rw [blocksSum_at, show val_main_cst_21 (F := Ideal) _ = (0 : EReal) from zero_at _, zero_add]
      exact Finset.sum_eq_zero fun p _ => v122_at x0 x1 x2 x3 x4 hX p.1 g i p.2
    unfold val_main_v132
    rw [unitSum_at, show val_main_cst_23 (F := Ideal) _ = (0 : EReal) from zero_at _, zero_add, val_main_v125_apply, e112, e124]
    exact add_zero _
  rw [val_main_v133_apply]
  refine Eq.trans ?_ ((e (groupOf h) ⟨h.val % 4, by omega⟩).trans (by rw [hh]))
  exact read_at _ fun b => by fin_cases b <;> rfl

theorem host_dsink : val_main_v162 (F := Ideal) x0 x1 x2 x3 x4 = X.resDs := by
  funext y
  unfold val_main_v162 Inputs.resDs
  by_cases hd : (y 1).val < 16
  · rw [dif_pos hd, ← v133_at x0 x1 x2 x3 x4 hX]
    refine (pad_apply_of_inside _ _ _ _ _ _ _ _ (ValueIdx.ix2 (0 : Fin 1) (⟨(y 1).val, hd⟩ : Fin 16)) (by
      intro b
      match b with
      | ⟨0, _⟩ => show (y 0).val = 0 + 0 * 1; have : (y 0).val < 1 := (y 0).isLt; omega
      | ⟨1, _⟩ => show (y 1).val = 0 + (y 1).val * 1; omega)).trans ?_
    rw [val_main_v161_apply]
    exact read_at _ fun b => by fin_cases b <;> rfl
  · rw [dif_neg hd]
    refine (pad_apply_of_not_inside _ _ _ _ _ _ _ _ (1 : Fin 2) (by
      rintro ⟨_, _, h3⟩
      have : ((y 1).val - 0) / 1 < 16 := h3
      omega)).trans (hostFill _)

end Cert.Attn

end
-- ==== Proof.Finite.lean ====
/- The precondition gives reals. -/
module

public import proofs.«01_k».proof.Proof.HostResults
public import proofs.«01_k».proof.Defs
public import proofs.«01_k».proof.Proof.Gen.Pre_finite

@[expose] public section

set_option maxRecDepth 16384

noncomputable section

namespace Cert.Attn

open Idealize.ShloMosaic Idealize.SL.Sem

/-- A number strictly between the infinities is real. -/
theorem real_of (x : EReal) (h : IntOp.andi (Ideal.cmp .ogt x (Ideal.ofBits .f32 0xFF800000#32)) (Ideal.cmp .olt x (Ideal.ofBits .f32 0x7F800000#32)) = 1#1) :
    x = (x.toReal : EReal) := by
  have hp : Ideal.ofBits .f32 0x7F800000#32 = ⊤ := by simp [Ideal.ofBits, Ideal.ieee]
  rw [minusInf, hp] at h
  have hb : x ≠ ⊥ := by
    rintro rfl
    revert h
    simp [Ideal.cmp]
    decide
  have ht : x ≠ ⊤ := by
    rintro rfl
    revert h
    simp [Ideal.cmp]
    decide
  exact (EReal.coe_toReal ht hb).symm

/-- The operands as reals. -/
def inputsOf (a0 : FVec Ideal KernelIdeal.S1x4096x16x64 .f32) (a1 a2 : FVec Ideal KernelIdeal.S1x4096x4x64 .f32)
    (a3 : FVec Ideal KernelIdeal.S16 .f32) (a4 : FVec Ideal KernelIdeal.S1x4096x1024 .f32) : Inputs where
  q s h d := EReal.toReal (a0 (ValueIdx.ix4 (0 : Fin 1) s h d))
  k s g d := EReal.toReal (a1 (ValueIdx.ix4 (0 : Fin 1) s g d))
  v s g d := EReal.toReal (a2 (ValueIdx.ix4 (0 : Fin 1) s g d))
  σ h := EReal.toReal (a3 (ValueIdx.ix1 h))
  g s h d := EReal.toReal (a4 (ValueIdx.ix3 (0 : Fin 1) s (⟨64 * h.val + d.val, by omega⟩ : Fin 1024)))

theorem given (m : (ℓ : Loc KernelIdeal.nD KernelIdeal.τ KernelIdeal.sig) → Buf (Elt Ideal) ℓ) (h : Pre_KernelIdeal_finite m) (c : Dev KernelIdeal.nD) :
    Given (inputsOf (m ((c.tc : Thread KernelIdeal.nD KernelIdeal.τ).loc KernelIdeal.main_arg0)) (m ((c.tc : Thread KernelIdeal.nD KernelIdeal.τ).loc KernelIdeal.main_arg1))
        (m ((c.tc : Thread KernelIdeal.nD KernelIdeal.τ).loc KernelIdeal.main_arg2)) (m ((c.tc : Thread KernelIdeal.nD KernelIdeal.τ).loc KernelIdeal.main_arg3))
        (m ((c.tc : Thread KernelIdeal.nD KernelIdeal.τ).loc KernelIdeal.main_arg4)))
      (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) := by
  obtain ⟨h0, h1, h2, h3, h4⟩ := h c
  exact {
    q := fun s hh d => real_of _ (congrFun h0 _)
    k := fun s g d => real_of _ (congrFun h1 _)
    v := fun s g d => real_of _ (congrFun h2 _)
    σ := fun hh => real_of _ (congrFun h3 _)
    g := fun s hh d => real_of _ (congrFun h4 _) }

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Pre_finite_ffn
public import proofs.«01_k».proof.Proof.Gen.Pre_finite_bounds
public import proofs.«01_k».proof.Proof.Parts
public import proofs.«01_k».proof.Proof.Numbers
public import proofs.«01_k».proof.Proof.WeightGradCols
public import proofs.«01_k».proof.Proof.WeightGradRows
public import proofs.«01_k».proof.Proof.InputGrad
public import proofs.«01_k».proof.Proof.RowsInputGrad
public import proofs.«01_k».proof.Proof.FfnDown
public import proofs.«01_k».proof.Proof.GateUp
public import proofs.«01_k».proof.Proof.InProj
public import proofs.«01_k».proof.Proof.GateGrad
public import proofs.«01_k».proof.Proof.GateGradReal
public import proofs.«01_k».proof.Proof.OptimiserRows
public import proofs.«01_k».proof.Proof.OptimiserCols
public import proofs.«01_k».proof.Proof.GatedSum
public import proofs.«01_k».proof.Proof.NextNorm
public import proofs.«01_k».proof.Proof.InputNorm
public import proofs.«01_k».proof.Proof.PleGate
public import proofs.«01_k».proof.Proof.LossHead
public import proofs.«01_k».proof.Proof.NormGrad
public import proofs.«01_k».proof.Proof.NormBwd
public import proofs.«01_k».proof.Proof.NormBwdPair
public import proofs.«01_k».proof.Proof.Quarters
public import proofs.«01_k».proof.Proof.OutProj
public import proofs.«01_k».proof.Proof.Stacked
public import proofs.«01_k».proof.Proof.Bounds
public import proofs.«01_k».proof.Proof.SmallRef
public import proofs.«01_k».proof.Proof.SmallStep
public import proofs.«01_k».proof.Proof.SmallFinal
public import proofs.«01_k».proof.Proof.RopeTables
public import proofs.«01_k».proof.Proof.MixOut
public import proofs.«01_k».proof.Proof.RopeQkv
public import proofs.«01_k».proof.Proof.RopeBwd
public import proofs.«01_k».proof.Proof.HostResults
public import proofs.«01_k».proof.Proof.Finite
public import proofs.«01_k».proof.Proof.Results
public import Idealize.ShloMosaic.Adequacy
public import Idealize.ShloMosaic.Lib.Quiescent
public import Idealize.ShloMosaic.Init

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The sixteen masks are one constant, named once. -/
theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m g m' g' hpre hargs
  have hX := fun c => Cert.Attn.given m hpre c
  refine ⟨_, _, _, _, _, _,
    (θ_run Cert.KernelIdeal.defs _ _).mono (fun r h c =>
      ⟨(h c).1.trans (Cert.Attn.kernel_dq m c (hX c)), (h c).2.1.trans (Cert.Attn.kernel_dkc m c (hX c)),
        (h c).2.2.1.trans (Cert.Attn.kernel_dkp m c (hX c)), (h c).2.2.2.1.trans (Cert.Attn.kernel_dvc m c (hX c)),
        (h c).2.2.2.2.1.trans (Cert.Attn.kernel_dvp m c (hX c)), (h c).2.2.2.2.2.1.trans (Cert.Attn.kernel_dsink m c (hX c)),
        (h c).2.2.2.2.2.2⟩)
      (Cert.KernelIdeal.Value.run_blocks m g),
    (θ_run Cert.ReferenceIdeal.defs _ _).mono (fun r h c => ?_) (Cert.ReferenceIdeal.Value.run (F := Ideal) m' g')⟩
  have hX' := hX c
  obtain ⟨e0, e1, e2, e3, e4⟩ := hargs c
  rw [← e0, ← e1, ← e2, ← e3, ← e4] at hX'
  obtain ⟨r0, r1, r2, r3, r4, r5, kept⟩ := h c
  rw [← e0, ← e1, ← e2, ← e3, ← e4]
  exact ⟨r0.trans ((Cert.ReferenceIdeal.Read.val_main_v148_eq _).trans (Cert.Attn.host_dq _ _ _ _ _ hX')),
    r1.trans ((Cert.ReferenceIdeal.Read.val_main_v151_eq _).trans (Cert.Attn.host_dkc _ _ _ _ _ hX')),
    r2.trans ((Cert.ReferenceIdeal.Read.val_main_v154_eq _).trans (Cert.Attn.host_dkp _ _ _ _ _ hX')),
    r3.trans ((Cert.ReferenceIdeal.Read.val_main_v157_eq _).trans (Cert.Attn.host_dvc _ _ _ _ _ hX')),
    r4.trans ((Cert.ReferenceIdeal.Read.val_main_v160_eq _).trans (Cert.Attn.host_dvp _ _ _ _ _ hX')),
    r5.trans ((Cert.ReferenceIdeal.Read.val_main_v162_eq _).trans (Cert.Attn.host_dsink _ _ _ _ _ hX')), kept⟩

/-! The call numbered 2: the gradient of the gated product and of the product after it. -/

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem frame_pi2_finite : Cert.quiescent_Kernel2Ideal_pre_finite_ffn := fun m ρ _ => frame_pi2 m ρ trivial

theorem frame_ri2_finite : Cert.quiescent_Reference2Ideal_pre_finite_ffn := fun m ρ _ => frame_ri2 m ρ trivial

theorem algebraic2 : Cert.algebraic_Kernel2Ideal_Reference2Ideal_pre_finite_ffn := by
  intro m g m' g' hpre hargs
  refine ⟨_, _,
    (θ_run Cert.Kernel2Ideal.defs _ _).mono (fun r h c => ⟨(h c).1.trans (Cert.Kernel2Ideal.Claims.gradGate m hpre c),
        (h c).2.1.trans (Cert.Kernel2Ideal.Claims.final5 m c), (h c).2.2⟩)
      (Cert.Kernel2Ideal.Value.run_blocks m g),
    (θ_run Cert.Reference2Ideal.defs _ _).mono (fun r h c => ?_) (Cert.Reference2Ideal.Value.run (F := Ideal) m' g')⟩
  obtain ⟨e0, e1, e2, e3⟩ := hargs c
  obtain ⟨r0, r1, kept⟩ := h c
  rw [← e0, ← e1, ← e2, ← e3]
  exact ⟨r0.trans (Cert.Reference2Ideal.Read.val_main_v10_eq _ _ _ _),
    r1.trans (Cert.Reference2Ideal.Read.val_main_v11_eq _ _ _), kept⟩

/-! The call numbered 3: the gradients of the weights split by columns. -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic3 : Cert.algebraic_Kernel3Ideal_Reference3Ideal := by
  intro m g m' g' _ hargs
  refine ⟨_,
    (θ_run Cert.Kernel3Ideal.defs _ _).mono (fun r h c => ⟨((h c).1).trans (Cert.Kernel3Ideal.Claims.final2 m c), (h c).2⟩)
      (Cert.Kernel3Ideal.Value.run_blocks m g),
    (θ_run Cert.Reference3Ideal.defs _ _).mono (fun r h c => ?_) (Cert.Reference3Ideal.Value.run (F := Ideal) m' g')⟩
  obtain ⟨e0, e1, e2⟩ := hargs c
  obtain ⟨r0, kept⟩ := h c
  rw [← e0, ← e2]
  exact ⟨r0.trans (Cert.Reference3Ideal.Read.val_main_v7_eq _ _), kept⟩

/-! The call numbered 4: the gradient of the feed-forward layer's input through the gate's weight. -/

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic4 : Cert.algebraic_Kernel4Ideal_Reference4Ideal := by
  intro m g m' g' _ hargs
  refine ⟨_,
    (θ_run Cert.Kernel4Ideal.defs _ _).mono (fun r h c => ⟨((h c).1).trans (Cert.Kernel4Ideal.Claims.final2 m c), (h c).2⟩)
      (Cert.Kernel4Ideal.Value.run_blocks m g),
    (θ_run Cert.Reference4Ideal.defs _ _).mono (fun r h c => ?_) (Cert.Reference4Ideal.Value.run (F := Ideal) m' g')⟩
  obtain ⟨e0, e1, e2⟩ := hargs c
  obtain ⟨r0, kept⟩ := h c
  rw [← e1, ← e2]
  exact ⟨r0.trans (Cert.Reference4Ideal.Read.val_main_v3_eq _ _), kept⟩

/-! The call numbered 5: the gradient of the feed-forward layer's input through the other branch's weight, added to the gate's. -/

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic5 : Cert.algebraic_Kernel5Ideal_Reference5Ideal := by
  intro m g m' g' _ hargs
  refine ⟨_,
    (θ_run Cert.Kernel5Ideal.defs _ _).mono (fun r h c => ⟨((h c).1).trans (Cert.Kernel5Ideal.Claims.final3 m c), (h c).2⟩)
      (Cert.Kernel5Ideal.Value.run_blocks m g),
    (θ_run Cert.Reference5Ideal.defs _ _).mono (fun r h c => ?_) (Cert.Reference5Ideal.Value.run (F := Ideal) m' g')⟩
  obtain ⟨e0, e1, e2, e3⟩ := hargs c
  obtain ⟨r0, kept⟩ := h c
  rw [← e1, ← e2, ← e3]
  exact ⟨r0.trans (Cert.Reference5Ideal.Read.val_main_v5_eq _ _ _), kept⟩

/-! The call numbered 7: the gradient of the feed-forward layer's second weight. -/

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem algebraic7 : Cert.algebraic_Kernel7Ideal_Reference7Ideal := by
  intro m g m' g' _ hargs
  refine ⟨_,
    (θ_run Cert.Kernel7Ideal.defs _ _).mono (fun r h c => ⟨((h c).1).trans (Cert.Kernel7Ideal.Claims.final2 m c), (h c).2⟩)
      (Cert.Kernel7Ideal.Value.run_blocks m g),
    (θ_run Cert.Reference7Ideal.defs _ _).mono (fun r h c => ?_) (Cert.Reference7Ideal.Value.run (F := Ideal) m' g')⟩
  obtain ⟨e0, e1, e2⟩ := hargs c
  obtain ⟨r0, kept⟩ := h c
  rw [← e0, ← e2]
  exact ⟨r0.trans (Cert.Reference7Ideal.Read.val_main_v7_eq _ _), kept⟩

/-! The call numbered 8: the gradients of the square weights split by rows. -/

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem algebraic8 : Cert.algebraic_Kernel8Ideal_Reference8Ideal := by
  intro m g m' g' _ hargs
  refine ⟨_,
    (θ_run Cert.Kernel8Ideal.defs _ _).mono (fun r h c => ⟨((h c).1).trans (Cert.Kernel8Ideal.Claims.final2 m c), (h c).2⟩)
      (Cert.Kernel8Ideal.Value.run_blocks m g),
    (θ_run Cert.Reference8Ideal.defs _ _).mono (fun r h c => ?_) (Cert.Reference8Ideal.Value.run (F := Ideal) m' g')⟩
  obtain ⟨e0, e1, e2⟩ := hargs c
  obtain ⟨r0, kept⟩ := h c
  rw [← e0, ← e2]
  exact ⟨r0.trans (Cert.Reference8Ideal.Read.val_main_v7_eq _ _), kept⟩

/-! The call numbered 9: the gradients of the inputs of the square weights split by rows. -/

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem algebraic9 : Cert.algebraic_Kernel9Ideal_Reference9Ideal := by
  intro m g m' g' _ hargs
  refine ⟨_,
    (θ_run Cert.Kernel9Ideal.defs _ _).mono (fun r h c => ⟨((h c).1).trans (Cert.Kernel9Ideal.Claims.final2 m c), (h c).2⟩)
      (Cert.Kernel9Ideal.Value.run_blocks m g),
    (θ_run Cert.Reference9Ideal.defs _ _).mono (fun r h c => ?_) (Cert.Reference9Ideal.Value.run (F := Ideal) m' g')⟩
  obtain ⟨e0, e1, e2⟩ := hargs c
  obtain ⟨r0, kept⟩ := h c
  rw [← e1, ← e2]
  exact ⟨r0.trans (Cert.Reference9Ideal.Read.val_main_v3_eq _ _), kept⟩

/-! The call numbered 10: the two products of the feed-forward layer and the gated product. -/

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

theorem algebraic10 : Cert.algebraic_Kernel10Ideal_Reference10Ideal := by
  intro m g m' g' _ hargs
  refine ⟨_, _, _,
    (θ_run Cert.Kernel10Ideal.defs _ _).mono (fun r h c => ⟨((h c).1).trans (Cert.Kernel10Ideal.Claims.final3 m c), ((h c).2.1).trans (Cert.Kernel10Ideal.Claims.final4 m c), ((h c).2.2.1).trans (Cert.Kernel10Ideal.Claims.final5 m c), (h c).2.2.2⟩)
      (Cert.Kernel10Ideal.Value.run_blocks m g),
    (θ_run Cert.Reference10Ideal.defs _ _).mono (fun r h c => ?_) (Cert.Reference10Ideal.Value.run (F := Ideal) m' g')⟩
  obtain ⟨e0, e1, e2⟩ := hargs c
  obtain ⟨r0, r1, r2, kept⟩ := h c
  rw [← e0, ← e1, ← e2]
  exact ⟨r0.trans (Cert.Reference10Ideal.Read.val_main_v1_eq _ _), r1.trans (Cert.Reference10Ideal.Read.val_main_v3_eq _ _), r2.trans (Cert.Reference10Ideal.Read.val_main_v6_eq _ _ _), kept⟩

/-! The call numbered 11: the feed-forward layer's second product. -/

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem algebraic11 : Cert.algebraic_Kernel11Ideal_Reference11Ideal := by
  intro m g m' g' _ hargs
  refine ⟨_,
    (θ_run Cert.Kernel11Ideal.defs _ _).mono (fun r h c => ⟨((h c).1).trans (Cert.Kernel11Ideal.Claims.final2 m c), (h c).2⟩)
      (Cert.Kernel11Ideal.Value.run_blocks m g),
    (θ_run Cert.Reference11Ideal.defs _ _).mono (fun r h c => ?_) (Cert.Reference11Ideal.Value.run (F := Ideal) m' g')⟩
  obtain ⟨e0, e1⟩ := hargs c
  obtain ⟨r0, kept⟩ := h c
  rw [← e0, ← e1]
  exact ⟨r0.trans (Cert.Reference11Ideal.Read.val_main_v1_eq _ _), kept⟩

/-! The call numbered 12: the product with the attention's and the recurrence's weights. -/

theorem frame_p12 : Cert.quiescent_Kernel12 := fun m ρ _ => Cert.Kernel12.Gen.frame m ρ

theorem frame_pi12 : Cert.quiescent_Kernel12Ideal := fun m ρ _ => Cert.Kernel12Ideal.Gen.frame m ρ

theorem frame_ri12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem algebraic12 : Cert.algebraic_Kernel12Ideal_Reference12Ideal := by
  intro m g m' g' _ hargs
  refine ⟨_,
    (θ_run Cert.Kernel12Ideal.defs _ _).mono (fun r h c => ⟨((h c).1).trans (Cert.Kernel12Ideal.Claims.final2 m c), (h c).2⟩)
      (Cert.Kernel12Ideal.Value.run_blocks m g),
    (θ_run Cert.Reference12Ideal.defs _ _).mono (fun r h c => ?_) (Cert.Reference12Ideal.Value.run (F := Ideal) m' g')⟩
  obtain ⟨e0, e1⟩ := hargs c
  obtain ⟨r0, kept⟩ := h c
  rw [← e0, ← e1]
  exact ⟨r0.trans (Cert.Reference12Ideal.Read.val_main_v1_eq _ _), kept⟩

/-! The call numbered 6: the gradient of the norm before a layer. -/

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

theorem algebraic6 : Cert.algebraic_Kernel6Ideal_Reference6Ideal := by
  intro m g m' g' _ hargs
  refine ⟨_, _,
    (θ_run Cert.Kernel6Ideal.defs _ _).mono (fun r h c => ⟨((h c).1).trans (Cert.Kernel6Ideal.Claims.final4 m c), ((h c).2.1).trans (Cert.Kernel6Ideal.Claims.final5 m c), (h c).2.2⟩)
      (Cert.Kernel6Ideal.Value.run_blocks m g),
    (θ_run Cert.Reference6Ideal.defs _ _).mono (fun r h c => ?_) (Cert.Reference6Ideal.Value.run (F := Ideal) m' g')⟩
  obtain ⟨e0, e1, e2, e3⟩ := hargs c
  obtain ⟨r0, r1, kept⟩ := h c
  rw [← e0, ← e1, ← e2, ← e3]
  exact ⟨r0.trans (Cert.Reference6Ideal.Read.val_main_v39_eq _ _), r1.trans (Cert.Reference6Ideal.Read.val_main_v40_eq _ _), kept⟩

/-! The call numbered 13: the gradients of the norm before a layer and of the norm after the layer before it. -/

theorem frame_p13 : Cert.quiescent_Kernel13 := fun m ρ _ => Cert.Kernel13.Gen.frame m ρ

theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2.2.2.2,
      Idealize.ShloMosaic.sem_eq_zero_of_no_sems (by decide) r.2⟩)
    (Cert.Reference13Ideal.Value.run (F := Ideal) m ρ)

theorem algebraic13 : Cert.algebraic_Kernel13Ideal_Reference13Ideal := by
  intro m g m' g' _ hargs
  refine ⟨_, _, _, _,
    (θ_run Cert.Kernel13Ideal.defs _ _).mono (fun r h c => ⟨((h c).1).trans (Cert.Kernel13Ideal.Claims.final6 m c), ((h c).2.1).trans (Cert.Kernel13Ideal.Claims.final7 m c), ((h c).2.2.1).trans (Cert.Kernel13Ideal.Claims.final8 m c), ((h c).2.2.2.1).trans (Cert.Kernel13Ideal.Claims.final9 m c), (h c).2.2.2.2⟩)
      (Cert.Kernel13Ideal.Value.run_blocks m g),
    (θ_run Cert.Reference13Ideal.defs _ _).mono (fun r h c => ?_) (Cert.Reference13Ideal.Value.run (F := Ideal) m' g')⟩
  obtain ⟨e0, e1, e2, e3, e4, e5⟩ := hargs c
  obtain ⟨r0, r1, r2, r3, kept⟩ := h c
  rw [← e0, ← e1, ← e2, ← e3, ← e4, ← e5]
  exact ⟨r0.trans (Cert.Reference13Ideal.Read.val_main_v39_eq _ _), r1.trans (Cert.Reference13Ideal.Read.val_main_v77_eq _ _), r2.trans (Cert.Reference13Ideal.Read.val_main_v78_eq _ _), r3.trans (Cert.Reference13Ideal.Read.val_main_v79_eq _ _), kept⟩

/-! The call numbered 15: the gradient of the gated sum of the per-layer embedding. -/

theorem frame_p15 : Cert.quiescent_Kernel15 := fun m ρ _ => Cert.Kernel15.Gen.frame m ρ

theorem frame_pi15 : Cert.quiescent_Kernel15Ideal := fun m ρ _ => Cert.Kernel15Ideal.Gen.frame m ρ

theorem frame_ri15 : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

theorem algebraic15 : Cert.algebraic_Kernel15Ideal_Reference15Ideal := by
  intro m g m' g' _ hargs
  refine ⟨_, _,
    (θ_run Cert.Kernel15Ideal.defs _ _).mono (fun r h c => ⟨((h c).1).trans (Cert.Kernel15Ideal.Claims.final3 m c), ((h c).2.1).trans (Cert.Kernel15Ideal.Claims.final4 m c), (h c).2.2⟩)
      (Cert.Kernel15Ideal.Value.run_blocks m g),
    (θ_run Cert.Reference15Ideal.defs _ _).mono (fun r h c => ?_) (Cert.Reference15Ideal.Value.run (F := Ideal) m' g')⟩
  obtain ⟨e0, e1, e2, e3⟩ := hargs c
  obtain ⟨r0, r1, kept⟩ := h c
  rw [← e1, ← e2, ← e3]
  exact ⟨r0.trans (Cert.Reference15Ideal.Read.val_main_v18_eq _ _), r1.trans (Cert.Reference15Ideal.Read.val_main_v19_eq _ _ _), kept⟩

/-! The call numbered 16: the optimiser's step on weights of two layers of 2048 x 1408. -/

theorem frame_p16 : Cert.quiescent_Kernel16 := fun m ρ _ => Cert.Kernel16.Gen.frame m ρ

theorem frame_pi16 : Cert.quiescent_Kernel16Ideal := fun m ρ _ => Cert.Kernel16Ideal.Gen.frame m ρ

theorem frame_ri16 : Cert.quiescent_Reference16Ideal := fun m ρ _ =>
  (θ_run Cert.Reference16Ideal.defs _ _).mono (fun r h => ⟨fun c => (h c).2.2.2.2,
      Idealize.ShloMosaic.sem_eq_zero_of_no_sems (by decide) r.2⟩)
    (Cert.Reference16Ideal.Value.run (F := Ideal) m ρ)

theorem algebraic16 : Cert.algebraic_Kernel16Ideal_Reference16Ideal := by
  intro m g m' g' _ hargs
  refine ⟨_, _, _, _,
    (θ_run Cert.Kernel16Ideal.defs _ _).mono (fun r h c => ⟨((h c).1).trans (Cert.Kernel16Ideal.Claims.final5 m c), ((h c).2.1).trans (Cert.Kernel16Ideal.Claims.final6 m c), ((h c).2.2.1).trans (Cert.Kernel16Ideal.Claims.final7 m c), ((h c).2.2.2.1).trans (Cert.Kernel16Ideal.Claims.final8 m c), (h c).2.2.2.2⟩)
      (Cert.Kernel16Ideal.Value.run_blocks m g),
    (θ_run Cert.Reference16Ideal.defs _ _).mono (fun r h c => ?_) (Cert.Reference16Ideal.Value.run (F := Ideal) m' g')⟩
  obtain ⟨e0, e1, e2, e3⟩ := hargs c
  obtain ⟨r0, r1, r2, r3, kept⟩ := h c
  rw [← e0, ← e1, ← e2, ← e3]
  exact ⟨r0, r1.trans (Cert.Reference16Ideal.Read.val_main_v23_eq _ _ _ _), r2.trans (Cert.Reference16Ideal.Read.val_main_v4_eq _ _), r3.trans (Cert.Reference16Ideal.Read.val_main_v10_eq _ _), kept⟩

/-! The call numbered 17: the optimiser's step on weights of two layers of 512 x 2048. -/

theorem frame_p17 : Cert.quiescent_Kernel17 := fun m ρ _ => Cert.Kernel17.Gen.frame m ρ

theorem frame_pi17 : Cert.quiescent_Kernel17Ideal := fun m ρ _ => Cert.Kernel17Ideal.Gen.frame m ρ

theorem frame_ri17 : Cert.quiescent_Reference17Ideal := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run (F := Ideal) m ρ)

theorem algebraic17 : Cert.algebraic_Kernel17Ideal_Reference17Ideal := by
  intro m g m' g' _ hargs
  refine ⟨_, _, _, _,
    (θ_run Cert.Kernel17Ideal.defs _ _).mono (fun r h c => ⟨((h c).1).trans (Cert.Kernel17Ideal.Claims.final5 m c), ((h c).2.1).trans (Cert.Kernel17Ideal.Claims.final6 m c), ((h c).2.2.1).trans (Cert.Kernel17Ideal.Claims.final7 m c), ((h c).2.2.2.1).trans (Cert.Kernel17Ideal.Claims.final8 m c), (h c).2.2.2.2⟩)
      (Cert.Kernel17Ideal.Value.run_blocks m g),
    (θ_run Cert.Reference17Ideal.defs _ _).mono (fun r h c => ?_) (Cert.Reference17Ideal.Value.run (F := Ideal) m' g')⟩
  obtain ⟨e0, e1, e2, e3⟩ := hargs c
  obtain ⟨r0, r1, r2, r3, kept⟩ := h c
  rw [← e0, ← e1, ← e2, ← e3]
  exact ⟨r0, r1.trans (Cert.Reference17Ideal.Read.val_main_v23_eq _ _ _ _), r2.trans (Cert.Reference17Ideal.Read.val_main_v4_eq _ _), r3.trans (Cert.Reference17Ideal.Read.val_main_v10_eq _ _), kept⟩

/-! The call numbered 18: the optimiser's step on weights of two layers of 1408 x 2048. -/

theorem frame_p18 : Cert.quiescent_Kernel18 := fun m ρ _ => Cert.Kernel18.Gen.frame m ρ

theorem frame_pi18 : Cert.quiescent_Kernel18Ideal := fun m ρ _ => Cert.Kernel18Ideal.Gen.frame m ρ

theorem frame_ri18 : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem algebraic18 : Cert.algebraic_Kernel18Ideal_Reference18Ideal := by
  intro m g m' g' _ hargs
  refine ⟨_, _, _, _,
    (θ_run Cert.Kernel18Ideal.defs _ _).mono (fun r h c => ⟨((h c).1).trans (Cert.Kernel18Ideal.Claims.final5 m c), ((h c).2.1).trans (Cert.Kernel18Ideal.Claims.final6 m c), ((h c).2.2.1).trans (Cert.Kernel18Ideal.Claims.final7 m c), ((h c).2.2.2.1).trans (Cert.Kernel18Ideal.Claims.final8 m c), (h c).2.2.2.2⟩)
      (Cert.Kernel18Ideal.Value.run_blocks m g),
    (θ_run Cert.Reference18Ideal.defs _ _).mono (fun r h c => ?_) (Cert.Reference18Ideal.Value.run (F := Ideal) m' g')⟩
  obtain ⟨e0, e1, e2, e3⟩ := hargs c
  obtain ⟨r0, r1, r2, r3, kept⟩ := h c
  rw [← e0, ← e1, ← e2, ← e3]
  exact ⟨r0, r1.trans (Cert.Reference18Ideal.Read.val_main_v23_eq _ _ _ _), r2.trans (Cert.Reference18Ideal.Read.val_main_v4_eq _ _), r3.trans (Cert.Reference18Ideal.Read.val_main_v10_eq _ _), kept⟩

/-! The call numbered 19: the optimiser's step on weights of two layers of 256 x 512. -/

theorem frame_p19 : Cert.quiescent_Kernel19 := fun m ρ _ => Cert.Kernel19.Gen.frame m ρ

theorem frame_pi19 : Cert.quiescent_Kernel19Ideal := fun m ρ _ => Cert.Kernel19Ideal.Gen.frame m ρ

theorem frame_ri19 : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run (F := Ideal) m ρ)

theorem algebraic19 : Cert.algebraic_Kernel19Ideal_Reference19Ideal := by
  intro m g m' g' _ hargs
  refine ⟨_, _, _, _,
    (θ_run Cert.Kernel19Ideal.defs _ _).mono (fun r h c => ⟨((h c).1).trans (Cert.Kernel19Ideal.Claims.final5 m c), ((h c).2.1).trans (Cert.Kernel19Ideal.Claims.final6 m c), ((h c).2.2.1).trans (Cert.Kernel19Ideal.Claims.final7 m c), ((h c).2.2.2.1).trans (Cert.Kernel19Ideal.Claims.final8 m c), (h c).2.2.2.2⟩)
      (Cert.Kernel19Ideal.Value.run_blocks m g),
    (θ_run Cert.Reference19Ideal.defs _ _).mono (fun r h c => ?_) (Cert.Reference19Ideal.Value.run (F := Ideal) m' g')⟩
  obtain ⟨e0, e1, e2, e3⟩ := hargs c
  obtain ⟨r0, r1, r2, r3, kept⟩ := h c
  rw [← e0, ← e1, ← e2, ← e3]
  exact ⟨r0, r1.trans (Cert.Reference19Ideal.Read.val_main_v23_eq _ _ _ _), r2.trans (Cert.Reference19Ideal.Read.val_main_v4_eq _ _), r3.trans (Cert.Reference19Ideal.Read.val_main_v10_eq _ _), kept⟩

/-! The call numbered 21: the norm after a layer, the sum and the norm before the next layer. -/

theorem frame_p21 : Cert.quiescent_Kernel21 := fun m ρ _ => Cert.Kernel21.Gen.frame m ρ

theorem frame_pi21 : Cert.quiescent_Kernel21Ideal := fun m ρ _ => Cert.Kernel21Ideal.Gen.frame m ρ

theorem frame_ri21 : Cert.quiescent_Reference21Ideal := fun m ρ _ =>
  (θ_run Cert.Reference21Ideal.defs _ _).mono (fun r h => ⟨fun c => (h c).2.2,
      Idealize.ShloMosaic.sem_eq_zero_of_no_sems (by decide) r.2⟩)
    (Cert.Reference21Ideal.Value.run (F := Ideal) m ρ)

theorem algebraic21 : Cert.algebraic_Kernel21Ideal_Reference21Ideal := by
  intro m g m' g' _ hargs
  refine ⟨_, _,
    (θ_run Cert.Kernel21Ideal.defs _ _).mono (fun r h c => ⟨((h c).1).trans (Cert.Kernel21Ideal.Claims.final4 m c), ((h c).2.1).trans (Cert.Kernel21Ideal.Claims.final5 m c), (h c).2.2⟩)
      (Cert.Kernel21Ideal.Value.run_blocks m g),
    (θ_run Cert.Reference21Ideal.defs _ _).mono (fun r h c => ?_) (Cert.Reference21Ideal.Value.run (F := Ideal) m' g')⟩
  obtain ⟨e0, e1, e2, e3⟩ := hargs c
  obtain ⟨r0, r1, kept⟩ := h c
  rw [← e0, ← e1, ← e2, ← e3]
  exact ⟨r0.trans (Cert.Reference21Ideal.Read.val_main_v15_eq _ _ _), r1.trans (Cert.Reference21Ideal.Read.val_main_v29_eq _ _ _ _), kept⟩

/-! The call numbered 22: the product with the layer's second weight, the norm after it, the sum and the norm before the next layer. -/

theorem frame_p22 : Cert.quiescent_Kernel22 := fun m ρ _ => Cert.Kernel22.Gen.frame m ρ

theorem frame_pi22 : Cert.quiescent_Kernel22Ideal := fun m ρ _ => Cert.Kernel22Ideal.Gen.frame m ρ

theorem frame_ri22 : Cert.quiescent_Reference22Ideal := fun m ρ _ =>
  (θ_run Cert.Reference22Ideal.defs _ _).mono (fun r h => ⟨fun c => (h c).2.2.2,
      Idealize.ShloMosaic.sem_eq_zero_of_no_sems (by decide) r.2⟩)
    (Cert.Reference22Ideal.Value.run (F := Ideal) m ρ)

theorem algebraic22 : Cert.algebraic_Kernel22Ideal_Reference22Ideal := by
  intro m g m' g' _ hargs
  refine ⟨_, _, _,
    (θ_run Cert.Kernel22Ideal.defs _ _).mono (fun r h c => ⟨((h c).1).trans (Cert.Kernel22Ideal.Claims.final5 m c), ((h c).2.1).trans (Cert.Kernel22Ideal.Claims.final6 m c), ((h c).2.2.1).trans (Cert.Kernel22Ideal.Claims.final7 m c), (h c).2.2.2⟩)
      (Cert.Kernel22Ideal.Value.run_blocks m g),
    (θ_run Cert.Reference22Ideal.defs _ _).mono (fun r h c => ?_) (Cert.Reference22Ideal.Value.run (F := Ideal) m' g')⟩
  obtain ⟨e0, e1, e2, e3, e4⟩ := hargs c
  obtain ⟨r0, r1, r2, kept⟩ := h c
  rw [← e0, ← e1, ← e2, ← e3, ← e4]
  exact ⟨r0.trans (Cert.Reference22Ideal.Read.val_main_v1_eq _ _), r1.trans (Cert.Reference22Ideal.Read.val_main_v16_eq _ _ _ _), r2.trans (Cert.Reference22Ideal.Read.val_main_v30_eq _ _), kept⟩

/-! The call numbered 23: the loss and its gradients through the last gated sum. -/

theorem frame_p23 : Cert.quiescent_Kernel23 := fun m ρ _ => Cert.Kernel23.Gen.frame m ρ

theorem frame_pi23 : Cert.quiescent_Kernel23Ideal := fun m ρ _ => Cert.Kernel23Ideal.Gen.frame m ρ

theorem frame_ri23 : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run (F := Ideal) m ρ)

theorem algebraic23 : Cert.algebraic_Kernel23Ideal_Reference23Ideal := by
  intro m g m' g' _ hargs
  refine ⟨_, _, _, _,
    (θ_run Cert.Kernel23Ideal.defs _ _).mono (fun r h c => ⟨((h c).1).trans (Cert.Kernel23Ideal.Claims.final6 m c), ((h c).2.1).trans (Cert.Kernel23Ideal.Claims.final7 m c), ((h c).2.2.1).trans (Cert.Kernel23Ideal.Claims.final8 m c), ((h c).2.2.2.1).trans (Cert.Kernel23Ideal.Claims.final9 m c), (h c).2.2.2.2⟩)
      (Cert.Kernel23Ideal.Value.run_blocks m g),
    (θ_run Cert.Reference23Ideal.defs _ _).mono (fun r h c => ?_) (Cert.Reference23Ideal.Value.run (F := Ideal) m' g')⟩
  obtain ⟨e0, e1, e2, e3, e4, e5⟩ := hargs c
  obtain ⟨r0, r1, r2, r3, kept⟩ := h c
  rw [← e0, ← e1, ← e2, ← e3, ← e4, ← e5]
  exact ⟨r0.trans (Cert.Reference23Ideal.Read.val_main_v31_eq _ _ _ _ _ _), r1.trans (Cert.Reference23Ideal.Read.val_main_v35_eq _ _ _ _ _ _), r2.trans (Cert.Reference23Ideal.Read.val_main_v36_eq _ _ _ _ _ _), r3.trans (Cert.Reference23Ideal.Read.val_main_v37_eq _ _ _ _ _ _), kept⟩

/-! The call numbered 24: the gate's product, the per-layer embedding's product, their gated sum and the norm before the next layer. -/

theorem frame_p24 : Cert.quiescent_Kernel24 := fun m ρ _ => Cert.Kernel24.Gen.frame m ρ

theorem frame_pi24 : Cert.quiescent_Kernel24Ideal := fun m ρ _ => Cert.Kernel24Ideal.Gen.frame m ρ

theorem frame_ri24 : Cert.quiescent_Reference24Ideal := fun m ρ _ =>
  (θ_run Cert.Reference24Ideal.defs _ _).mono (fun r h => ⟨fun c => (h c).2.2.2.2,
      Idealize.ShloMosaic.sem_eq_zero_of_no_sems (by decide) r.2⟩)
    (Cert.Reference24Ideal.Value.run (F := Ideal) m ρ)

theorem algebraic24 : Cert.algebraic_Kernel24Ideal_Reference24Ideal := by
  intro m g m' g' _ hargs
  refine ⟨_, _, _, _,
    (θ_run Cert.Kernel24Ideal.defs _ _).mono (fun r h c => ⟨((h c).1).trans (Cert.Kernel24Ideal.Claims.final6 m c), ((h c).2.1).trans (Cert.Kernel24Ideal.Claims.final7 m c), ((h c).2.2.1).trans (Cert.Kernel24Ideal.Claims.final8 m c), ((h c).2.2.2.1).trans (Cert.Kernel24Ideal.Claims.final9 m c), (h c).2.2.2.2⟩)
      (Cert.Kernel24Ideal.Value.run_blocks m g),
    (θ_run Cert.Reference24Ideal.defs _ _).mono (fun r h c => ?_) (Cert.Reference24Ideal.Value.run (F := Ideal) m' g')⟩
  obtain ⟨e0, e1, e2, e3, e4, e5⟩ := hargs c
  obtain ⟨r0, r1, r2, r3, kept⟩ := h c
  rw [← e0, ← e1, ← e2, ← e3, ← e4, ← e5]
  exact ⟨r0.trans (Cert.Reference24Ideal.Read.val_main_v1_eq _ _), r1.trans (Cert.Reference24Ideal.Read.val_main_v3_eq _ _), r2.trans (Cert.Reference24Ideal.Read.val_main_v12_eq _ _ _ _ _), r3.trans (Cert.Reference24Ideal.Read.val_main_v26_eq _ _ _ _ _ _), kept⟩

/-! The call numbered 25: the norm before a layer. -/

theorem frame_p25 : Cert.quiescent_Kernel25 := fun m ρ _ => Cert.Kernel25.Gen.frame m ρ

theorem frame_pi25 : Cert.quiescent_Kernel25Ideal := fun m ρ _ => Cert.Kernel25Ideal.Gen.frame m ρ

theorem frame_ri25 : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)

theorem algebraic25 : Cert.algebraic_Kernel25Ideal_Reference25Ideal := by
  intro m g m' g' _ hargs
  refine ⟨_,
    (θ_run Cert.Kernel25Ideal.defs _ _).mono (fun r h c => ⟨((h c).1).trans (Cert.Kernel25Ideal.Claims.final2 m c), (h c).2⟩)
      (Cert.Kernel25Ideal.Value.run_blocks m g),
    (θ_run Cert.Reference25Ideal.defs _ _).mono (fun r h c => ?_) (Cert.Reference25Ideal.Value.run (F := Ideal) m' g')⟩
  obtain ⟨e0, e1⟩ := hargs c
  obtain ⟨r0, kept⟩ := h c
  rw [← e0, ← e1]
  exact ⟨r0.trans (Cert.Reference25Ideal.Read.val_main_v14_eq _ _), kept⟩

/-! The call numbered 26: the gradient of the per-layer embedding's weight. -/

theorem frame_p26 : Cert.quiescent_Kernel26 := fun m ρ _ => Cert.Kernel26.Gen.frame m ρ

theorem frame_pi26 : Cert.quiescent_Kernel26Ideal := fun m ρ _ => Cert.Kernel26Ideal.Gen.frame m ρ

theorem frame_ri26 : Cert.quiescent_Reference26Ideal := fun m ρ _ =>
  (θ_run Cert.Reference26Ideal.defs _ _).mono (fun r h => ⟨fun c => (h c).2,
      Idealize.ShloMosaic.sem_eq_zero_of_no_sems (by decide) r.2⟩)
    (Cert.Reference26Ideal.Value.run (F := Ideal) m ρ)

theorem algebraic26 : Cert.algebraic_Kernel26Ideal_Reference26Ideal := by
  intro m g m' g' _ hargs
  refine ⟨_,
    (θ_run Cert.Kernel26Ideal.defs _ _).mono (fun r h c => ⟨((h c).1).trans (Cert.Kernel26Ideal.Claims.final2 m c), (h c).2⟩)
      (Cert.Kernel26Ideal.Value.run_blocks m g),
    (θ_run Cert.Reference26Ideal.defs _ _).mono (fun r h c => ?_) (Cert.Reference26Ideal.Value.run (F := Ideal) m' g')⟩
  obtain ⟨e0, e1, e2⟩ := hargs c
  obtain ⟨r0, kept⟩ := h c
  rw [← e0, ← e2]
  exact ⟨r0.trans (Cert.Reference26Ideal.Read.val_main_v7_eq _ _), kept⟩

/-! The call numbered 27: the optimiser's step on the parameters of few numbers. -/

theorem frame_p27 : Cert.quiescent_Kernel27 := fun m ρ _ => Cert.Kernel27.Gen.frame m ρ

theorem frame_pi27 : Cert.quiescent_Kernel27Ideal := fun m ρ _ => Cert.Kernel27Ideal.Gen.frame m ρ

theorem frame_ri27 : Cert.quiescent_Reference27Ideal := fun m ρ _ =>
  (θ_run Cert.Reference27Ideal.defs _ _).mono (fun r h => ⟨fun c => (h c).2.2.2.2,
      Idealize.ShloMosaic.sem_eq_zero_of_no_sems (by decide) r.2⟩)
    (Cert.Reference27Ideal.Value.run (F := Ideal) m ρ)

theorem frame_pi27_finite : Cert.quiescent_Kernel27Ideal_pre_finite_bounds := fun m ρ _ => frame_pi27 m ρ trivial

theorem frame_ri27_finite : Cert.quiescent_Reference27Ideal_pre_finite_bounds := fun m ρ _ => frame_ri27 m ρ trivial

set_option maxHeartbeats 4000000 in
/-- One step of the optimiser for the parameters of few numbers, the gradient of the bounds' logits with it. -/
theorem algebraic27 : Cert.algebraic_Kernel27Ideal_Reference27Ideal_pre_finite_bounds := by
  intro m g m' g' hpre hargs
  refine ⟨_, _, _, _,
    (θ_run Cert.Kernel27Ideal.defs _ _).mono (fun r h c => ⟨
        (h c).1.trans (Cert.Kernel27Ideal.Claims.final4 m c (Cert.Kernel27Ideal.Claims.reals m c hpre).1 (Cert.Kernel27Ideal.Claims.reals m c hpre).2),
        (h c).2.1.trans (Cert.Kernel27Ideal.Claims.final5 m c (Cert.Kernel27Ideal.Claims.reals m c hpre).1 (Cert.Kernel27Ideal.Claims.reals m c hpre).2),
        (h c).2.2.1.trans (Cert.Kernel27Ideal.Claims.final6 m c (Cert.Kernel27Ideal.Claims.reals m c hpre).1 (Cert.Kernel27Ideal.Claims.reals m c hpre).2),
        (h c).2.2.2.1.trans (Cert.Kernel27Ideal.Claims.final7 m c (Cert.Kernel27Ideal.Claims.reals m c hpre).1 (Cert.Kernel27Ideal.Claims.reals m c hpre).2),
        (h c).2.2.2.2⟩)
      (Cert.Kernel27Ideal.Value.run_blocks m g),
    (θ_run Cert.Reference27Ideal.defs _ _).mono (fun r h c => ?_) (Cert.Reference27Ideal.Value.run (F := Ideal) m' g')⟩
  obtain ⟨e0, e1, e2, e3, e4, e5, e6, e7, e8, e9, e10, e11, e12, e13, e14, e15, e16, e17, e18, e19, e20, e21, e22, e23,
    e24, e25, e26, e27, e28, e29, e30, e31, e32, e33, e34, e35⟩ := hargs c
  obtain ⟨r0, r1, r2, r3, kept⟩ := h c
  rw [← e0, ← e1, ← e2, ← e3, ← e4, ← e5, ← e6, ← e7, ← e8, ← e9, ← e10, ← e11, ← e12, ← e13, ← e14, ← e15, ← e16,
    ← e17, ← e18, ← e19, ← e20, ← e21, ← e22, ← e23, ← e24, ← e25, ← e26, ← e27, ← e28, ← e29, ← e30, ← e31,
    ← e32, ← e33, ← e34, ← e35]
  exact ⟨r0.trans (Cert.Reference27Ideal.Read.val_main_v277_eq _), r1.trans (Cert.Reference27Ideal.Read.val_main_v288_eq _),
    r2.trans (Cert.Reference27Ideal.Read.val_main_v299_eq _), r3.trans (Cert.Reference27Ideal.Read.val_main_v310_eq _), kept⟩

/-! The call numbered 28: the tables of the rotary embedding. -/

theorem frame_p28 : Cert.quiescent_Kernel28 := fun m ρ _ => Cert.Kernel28.Gen.frame m ρ

theorem frame_pi28 : Cert.quiescent_Kernel28Ideal := fun m ρ _ => Cert.Kernel28Ideal.Gen.frame m ρ

theorem frame_ri28 : Cert.quiescent_Reference28Ideal := fun m ρ _ =>
  (θ_run Cert.Reference28Ideal.defs _ _).mono (fun r h => ⟨fun c => (h c).2.2,
      Idealize.ShloMosaic.sem_eq_zero_of_no_sems (by decide) r.2⟩)
    (Cert.Reference28Ideal.Value.run (F := Ideal) m ρ)

theorem algebraic28 : Cert.algebraic_Kernel28Ideal_Reference28Ideal := by
  intro m g m' g' _ hargs
  refine ⟨_, _,
    (θ_run Cert.Kernel28Ideal.defs _ _).mono (fun r h c => ⟨((h c).1).trans (Cert.Kernel28Ideal.Claims.final2 m c), ((h c).2.1).trans (Cert.Kernel28Ideal.Claims.final3 m c), (h c).2.2⟩)
      (Cert.Kernel28Ideal.Claims.run m g),
    (θ_run Cert.Reference28Ideal.defs _ _).mono (fun r h c => ?_) (Cert.Reference28Ideal.Value.run (F := Ideal) m' g')⟩
  have e0 := hargs c
  obtain ⟨r0, r1, kept⟩ := h c
  rw [← e0]
  exact ⟨r0.trans (Cert.Reference28Ideal.Read.val_main_v15_eq _), r1.trans (Cert.Reference28Ideal.Read.val_main_v18_eq _), kept⟩

/-! The call numbered 29: the gated norms of the mixer's two halves. -/

theorem frame_p29 : Cert.quiescent_Kernel29 := fun m ρ _ => Cert.Kernel29.Gen.frame m ρ

theorem frame_pi29 : Cert.quiescent_Kernel29Ideal := fun m ρ _ => Cert.Kernel29Ideal.Gen.frame m ρ

theorem frame_ri29 : Cert.quiescent_Reference29Ideal := fun m ρ _ =>
  (θ_run Cert.Reference29Ideal.defs _ _).mono (fun r h => ⟨fun c => (h c).2,
      Idealize.ShloMosaic.sem_eq_zero_of_no_sems (by decide) r.2⟩)
    (Cert.Reference29Ideal.Value.run (F := Ideal) m ρ)

theorem algebraic29 : Cert.algebraic_Kernel29Ideal_Reference29Ideal := by
  intro m g m' g' _ hargs
  refine ⟨_,
    (θ_run Cert.Kernel29Ideal.defs _ _).mono (fun r h c => ⟨((h c).1).trans (Cert.Kernel29Ideal.Claims.final6 m c), (h c).2⟩)
      (Cert.Kernel29Ideal.Value.run_blocks m g),
    (θ_run Cert.Reference29Ideal.defs _ _).mono (fun r h c => ?_) (Cert.Reference29Ideal.Value.run (F := Ideal) m' g')⟩
  obtain ⟨e0, e1, e2, e3, e4⟩ := hargs c
  obtain ⟨r0, kept⟩ := h c
  rw [← e0, ← e1, ← e2, ← e3, ← e4]
  exact ⟨r0.trans (Cert.Reference29Ideal.Read.val_main_v35_eq _ _ _ _ _), kept⟩

/-! The call numbered 30: the rotary embedding of the queries and keys. -/

theorem frame_p30 : Cert.quiescent_Kernel30 := fun m ρ _ => Cert.Kernel30.Gen.frame m ρ

theorem frame_pi30 : Cert.quiescent_Kernel30Ideal := fun m ρ _ => Cert.Kernel30Ideal.Gen.frame m ρ

theorem frame_ri30 : Cert.quiescent_Reference30Ideal := fun m ρ _ =>
  (θ_run Cert.Reference30Ideal.defs _ _).mono (fun r h => ⟨fun c => (h c).2.2.2,
      Idealize.ShloMosaic.sem_eq_zero_of_no_sems (by decide) r.2⟩)
    (Cert.Reference30Ideal.Value.run (F := Ideal) m ρ)

theorem algebraic30 : Cert.algebraic_Kernel30Ideal_Reference30Ideal := by
  intro m g m' g' _ hargs
  refine ⟨_, _, _,
    (θ_run Cert.Kernel30Ideal.defs _ _).mono (fun r h c => ⟨((h c).1).trans (Cert.Kernel30Ideal.Claims.final4 m c), ((h c).2.1).trans (Cert.Kernel30Ideal.Claims.final5 m c), ((h c).2.2.1).trans (Cert.Kernel30Ideal.Claims.final6 m c), (h c).2.2.2⟩)
      (Cert.Kernel30Ideal.Value.run_blocks m g),
    (θ_run Cert.Reference30Ideal.defs _ _).mono (fun r h c => ?_) (Cert.Reference30Ideal.Value.run (F := Ideal) m' g')⟩
  obtain ⟨e0, e1, e2⟩ := hargs c
  obtain ⟨r0, r1, r2, kept⟩ := h c
  rw [← e0, ← e1, ← e2]
  exact ⟨r0.trans (Cert.Reference30Ideal.Read.val_main_v41_eq _ _ _), r1.trans (Cert.Reference30Ideal.Read.val_main_v44_eq _ _ _), r2.trans (Cert.Reference30Ideal.Read.val_main_v47_eq _), kept⟩

/-! The call numbered 31: the gradient of the rotary embedding. -/

theorem frame_p31 : Cert.quiescent_Kernel31 := fun m ρ _ => Cert.Kernel31.Gen.frame m ρ

theorem frame_pi31 : Cert.quiescent_Kernel31Ideal := fun m ρ _ => Cert.Kernel31Ideal.Gen.frame m ρ

theorem frame_ri31 : Cert.quiescent_Reference31Ideal := fun m ρ _ =>
  (θ_run Cert.Reference31Ideal.defs _ _).mono (fun r h => ⟨fun c => (h c).2,
      Idealize.ShloMosaic.sem_eq_zero_of_no_sems (by decide) r.2⟩)
    (Cert.Reference31Ideal.Value.run (F := Ideal) m ρ)

theorem algebraic31 : Cert.algebraic_Kernel31Ideal_Reference31Ideal := by
  intro m g m' g' _ hargs
  refine ⟨_,
    (θ_run Cert.Kernel31Ideal.defs _ _).mono (fun r h c => ⟨((h c).1).trans (Cert.Kernel31Ideal.Claims.final7 m c), (h c).2⟩)
      (Cert.Kernel31Ideal.Value.run_blocks m g),
    (θ_run Cert.Reference31Ideal.defs _ _).mono (fun r h c => ?_) (Cert.Reference31Ideal.Value.run (F := Ideal) m' g')⟩
  obtain ⟨e0, e1, e2, e3, e4, e5, e6⟩ := hargs c
  obtain ⟨r0, kept⟩ := h c
  open Cert.Kernel31Ideal.Claims in unfold want arr0 arr1 arr2 arr3 arr4 arr5 arr6
  rw [← e0, ← e1, ← e2, ← e3, ← e4, ← e5, ← e6]
  exact ⟨r0.trans (Cert.Reference31Ideal.Read.val_main_v102_eq _ _), kept⟩

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel6.Gen.facts, Cert.Kernel6Ideal.Gen.facts, Cert.Reference6Ideal.Gen.facts,
  Cert.Kernel13.Gen.facts, Cert.Kernel13Ideal.Gen.facts, Cert.Reference13Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts,
  Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts,
  Cert.Kernel27.Gen.facts, Cert.Kernel27Ideal.Gen.facts, Cert.Reference27Ideal.Gen.facts, Cert.Kernel28.Gen.facts,
  Cert.Kernel28Ideal.Gen.facts, Cert.Reference28Ideal.Gen.facts, Cert.Kernel29.Gen.facts, Cert.Kernel29Ideal.Gen.facts,
  Cert.Reference29Ideal.Gen.facts, Cert.Kernel30.Gen.facts, Cert.Kernel30Ideal.Gen.facts, Cert.Reference30Ideal.Gen.facts,
  Cert.Kernel31.Gen.facts, Cert.Kernel31Ideal.Gen.facts, Cert.Reference31Ideal.Gen.facts, Cert.Pre_finite.Gen.facts,
  Cert.Pre_finite_ffn.Gen.facts, Cert.Pre_finite_bounds.Gen.facts, frame_p, frame_pi, frame_pi_finite, frame_ri,
  frame_ri_finite, frame_p2, frame_pi2, frame_pi2_finite, frame_ri2, frame_ri2_finite, frame_p3, frame_pi3, frame_ri3,
  frame_p4, frame_pi4, frame_ri4, frame_p5, frame_pi5, frame_ri5, frame_p7, frame_pi7, frame_ri7, frame_p8, frame_pi8,
  frame_ri8, frame_p9, frame_pi9, frame_ri9, frame_p10, frame_pi10, frame_ri10, frame_p11, frame_pi11, frame_ri11, frame_p12,
  frame_pi12, frame_ri12, frame_p6, frame_pi6, frame_ri6, frame_p13, frame_pi13, frame_ri13, frame_p15, frame_pi15,
  frame_ri15, frame_p16, frame_pi16, frame_ri16, frame_p17, frame_pi17, frame_ri17, frame_p18, frame_pi18, frame_ri18,
  frame_p19, frame_pi19, frame_ri19, frame_p21, frame_pi21, frame_ri21, frame_p22, frame_pi22, frame_ri22, frame_p23,
  frame_pi23, frame_ri23, frame_p24, frame_pi24, frame_ri24, frame_p25, frame_pi25, frame_ri25, frame_p26, frame_pi26,
  frame_ri26, frame_p27, frame_pi27, frame_pi27_finite, frame_ri27, frame_ri27_finite, frame_p28, frame_pi28, frame_ri28,
  frame_p29, frame_pi29, frame_ri29, frame_p30, frame_pi30, frame_ri30, frame_p31, frame_pi31, frame_ri31, preserves,
  algebraic, trivial, algebraic2, trivial, algebraic3, trivial, algebraic4, trivial, algebraic5, trivial, algebraic7, trivial,
  algebraic8, trivial, algebraic9, trivial, algebraic10, trivial, algebraic11, trivial, algebraic12, trivial, algebraic6,
  trivial, algebraic13, trivial, algebraic15, trivial, algebraic16, trivial, algebraic17, trivial, algebraic18, trivial,
  algebraic19, trivial, algebraic21, trivial, algebraic22, trivial, algebraic23, trivial, algebraic24, trivial, algebraic25,
  trivial, algebraic26, trivial, algebraic27, trivial, algebraic28, trivial, algebraic29, trivial, algebraic30, trivial,
  algebraic31⟩

end Cert.Proof

end
